-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S384x1x3840 : Shape := ⟨3, ![384, 1, 3840]⟩
abbrev S3840x100352 : Shape := ⟨2, ![3840, 100352]⟩
abbrev S100352 : Shape := ⟨1, ![100352]⟩
abbrev S_ : Shape := ⟨0, ![]⟩

class Facts : Prop where
  bcast_S_S384x1x3840 : S_.BroadcastsInDim S384x1x3840 (![] : Fin 0 → Fin S384x1x3840.rank)
  reducesTo_S384x1x3840_S_d0_1_2 : S384x1x3840.ReducesTo [0, 1, 2] S_
  h_S_ : 0 < S_.numel

variable [Facts]

def fn {F : FTy → Type} [FloatOps F] (main_arg0 : FVec F S384x1x3840 .bf16) (main_arg1 : FVec F S3840x100352 .fp8e4m3) (main_arg2 : FVec F S100352 .f32) (main_arg3 : FVec F S100352 .f32) : IVec S_ 1 :=
  let main_v0 : FVec F S384x1x3840 .bf16 := Host.absf main_arg0
  let main_cst : FVec F S_ .bf16 := constant S_ .bf16 0x7F7F#16
  let main_v1 : FVec F S384x1x3840 .bf16 := broadcastInDim S384x1x3840 ![] bcast_S_S384x1x3840 main_cst
  let main_v2 : IVec S384x1x3840 1 := cmpf .ole main_v0 main_v1
  let main_c : IVec S_ 1 := constantI S_ 1 1#1
  let main_v3 : IVec S_ 1 := (fun x v => Host.reduce IntOp.andi x v reducesTo_S384x1x3840_S_d0_1_2 h_S_) main_v2 main_c
  main_v3
-- ==== Kernel.lean ====
abbrev S384x1x3840 : Shape := ⟨3, ![384, 1, 3840]⟩
abbrev S3840x100352 : Shape := ⟨2, ![3840, 100352]⟩
abbrev S100352 : Shape := ⟨1, ![100352]⟩
abbrev S384x3840 : Shape := ⟨2, ![384, 3840]⟩
abbrev S1x100352 : Shape := ⟨2, ![1, 100352]⟩
abbrev S384x128 : Shape := ⟨2, ![384, 128]⟩
abbrev S384x1 : Shape := ⟨2, ![384, 1]⟩
abbrev S3x3840x2048 : Shape := ⟨3, ![3, 3840, 2048]⟩
abbrev S384x2048 : Shape := ⟨2, ![384, 2048]⟩
abbrev S8x384x128 : Shape := ⟨3, ![8, 384, 128]⟩
abbrev S3 : Shape := ⟨1, ![3]⟩
abbrev S1 : Shape := ⟨1, ![1]⟩
abbrev S_ : Shape := ⟨0, ![]⟩
abbrev S1x3840x2048 : Shape := ⟨3, ![1, 3840, 2048]⟩
abbrev S3840x2048 : Shape := ⟨2, ![3840, 2048]⟩
abbrev S32x3840 : Shape := ⟨2, ![32, 3840]⟩
abbrev S32 : Shape := ⟨1, ![32]⟩
abbrev S32x1 : Shape := ⟨2, ![32, 1]⟩
abbrev S32x128 : Shape := ⟨2, ![32, 128]⟩
abbrev S1x3840x512 : Shape := ⟨3, ![1, 3840, 512]⟩
abbrev S3840x512 : Shape := ⟨2, ![3840, 512]⟩
abbrev S384x512 : Shape := ⟨2, ![384, 512]⟩
abbrev S8x128 : Shape := ⟨2, ![8, 128]⟩
abbrev S1x128 : Shape := ⟨2, ![1, 128]⟩
abbrev S1x8x128 : Shape := ⟨3, ![1, 8, 128]⟩
abbrev S8x1 : Shape := ⟨2, ![8, 1]⟩
abbrev S8 : Shape := ⟨1, ![8]⟩
abbrev S1x1x1 : Shape := ⟨3, ![1, 1, 1]⟩
abbrev S384x8 : Shape := ⟨2, ![384, 8]⟩
abbrev S384x1x8 : Shape := ⟨3, ![384, 1, 8]⟩
abbrev S384x1x1 : Shape := ⟨3, ![384, 1, 1]⟩

abbrev nBuf : Space → Nat
  | .hbm => 15
  | .vmem => 14
  | .smem => 0
  | _ => 0

abbrev bufTy : (tb : Table) → Fin (tcTables nBuf tb) → BufTy
  | .hbm, ⟨0, _⟩ => ⟨S384x1x3840, .bf16⟩
  | .hbm, ⟨1, _⟩ => ⟨S3840x100352, .fp8e4m3⟩
  | .hbm, ⟨2, _⟩ => ⟨S100352, .f32⟩
  | .hbm, ⟨3, _⟩ => ⟨S100352, .f32⟩
  | .hbm, ⟨4, _⟩ => ⟨S384x3840, .bf16⟩
  | .hbm, ⟨5, _⟩ => ⟨S1x100352, .f32⟩
  | .hbm, ⟨6, _⟩ => ⟨S1x100352, .f32⟩
  | .hbm, ⟨7, _⟩ => ⟨S384x128, .f32⟩
  | .hbm, ⟨8, _⟩ => ⟨S384x128, .i32⟩
  | .hbm, ⟨9, _⟩ => ⟨S384x3840, .fp8e4m3⟩
  | .hbm, ⟨10, _⟩ => ⟨S384x1, .f32⟩
  | .hbm, ⟨11, _⟩ => ⟨S384x8, .f32⟩
  | .hbm, ⟨12, _⟩ => ⟨S384x1x8, .f32⟩
  | .hbm, ⟨13, _⟩ => ⟨S384x1x3840, .fp8e4m3⟩
  | .hbm, ⟨14, _⟩ => ⟨S384x1x1, .f32⟩
  | .local _ .vmem, ⟨0, _⟩ => ⟨S384x3840, .bf16⟩
  | .local _ .vmem, ⟨1, _⟩ => ⟨S1x100352, .f32⟩
  | .local _ .vmem, ⟨2, _⟩ => ⟨S1x100352, .f32⟩
  | .local _ .vmem, ⟨3, _⟩ => ⟨S384x128, .f32⟩
  | .local _ .vmem, ⟨4, _⟩ => ⟨S384x128, .i32⟩
  | .local _ .vmem, ⟨5, _⟩ => ⟨S384x3840, .fp8e4m3⟩
  | .local _ .vmem, ⟨6, _⟩ => ⟨S384x1, .f32⟩
  | .local _ .vmem, ⟨7, _⟩ => ⟨S3x3840x2048, .fp8e4m3⟩
  | .local _ .vmem, ⟨8, _⟩ => ⟨S384x2048, .f32⟩
  | .local _ .vmem, ⟨9, _⟩ => ⟨S384x2048, .f32⟩
  | .local _ .vmem, ⟨10, _⟩ => ⟨S384x128, .f32⟩
  | .local _ .vmem, ⟨11, _⟩ => ⟨S8x384x128, .f32⟩
  | .local _ .vmem, ⟨12, _⟩ => ⟨S8x384x128, .f32⟩
  | .local _ .vmem, ⟨13, _⟩ => ⟨S384x128, .f32⟩
  | _, _ => ⟨S384x1x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 : BitVec 32 :=
  let c0_i32_0 : BitVec 32 := 0#32
  let c2048_i32 : BitVec 32 := 2048#32
  let v1 : BitVec 32 := Scalar.muli c0_i32_0 c2048_i32
  v1
def k0_off1 (c0_i32 : BitVec 32) : Fin 1 → Nat :=
  let c3_i32 : BitVec 32 := 3#32
  let v0 : BitVec 32 := Scalar.remsi c0_i32 c3_i32
  ![v0.toNat]
def k0_off2 (c0_i32 : BitVec 32) : Fin 3 → Nat :=
  let c3_i32 : BitVec 32 := 3#32
  let v0 : BitVec 32 := Scalar.remsi c0_i32 c3_i32
  let c0_i32_1 : BitVec 32 := 0#32
  let c0_i32_2 : BitVec 32 := 0#32
  ![v0.toNat, 0, 0]
def k0_off3 (c0_i32_0 : BitVec 32) : Fin 2 → Nat :=
  let c0_i32_3 : BitVec 32 := 0#32
  let c2048_i32 : BitVec 32 := 2048#32
  let v1 : BitVec 32 := Scalar.muli c0_i32_0 c2048_i32
  let v2 : BitVec 32 := v1
  ![0, v2.toNat]
def k0_mult2 : BitVec 32 :=
  let c1_i32_5 : BitVec 32 := 1#32
  let c2048_i32_6 : BitVec 32 := 2048#32
  let v9 : BitVec 32 := Scalar.muli c1_i32_5 c2048_i32_6
  v9
@[reducible] def k0_t1_loop : Scf.Loop 32 :=
  let c0_i32_10 : BitVec 32 := 0#32
  let c12_i32 : BitVec 32 := 12#32
  let v16 : BitVec 32 := Scalar.addi c0_i32_10 c12_i32
  let c1_i32_11 : BitVec 32 := 1#32
  ⟨c0_i32_10, v16, c1_i32_11⟩
def k0_mult3 (k0_t1 : Fin k0_t1_loop.trips) : BitVec 32 :=
  let c0_i32_10 : BitVec 32 := 0#32
  let c1_i32_11 : BitVec 32 := 1#32
  let arg16 : BitVec 32 := Scf.iv c0_i32_10 c1_i32_11 k0_t1
  let c32_i32 : BitVec 32 := 32#32
  let v55 : BitVec 32 := Scalar.muli arg16 c32_i32
  v55
def k0_off4 (k0_t1 : Fin k0_t1_loop.trips) : Fin 2 → Nat :=
  let c0_i32_10 : BitVec 32 := 0#32
  let c1_i32_11 : BitVec 32 := 1#32
  let arg16 : BitVec 32 := Scf.iv c0_i32_10 c1_i32_11 k0_t1
  let c32_i32 : BitVec 32 := 32#32
  let v55 : BitVec 32 := Scalar.muli arg16 c32_i32
  let v56 : BitVec 32 := v55
  let v57 : Index := Scalar.indexCast v56
  let c0_52 : Index := 0#32
  ![v57.toNat, 0]
@[reducible] def k0_t2_loop : Scf.Loop 32 :=
  let c1_i32_56 : BitVec 32 := 1#32
  let c255_i32 : BitVec 32 := 255#32
  let v67 : BitVec 32 := Scalar.addi c1_i32_56 c255_i32
  let c1_i32_57 : BitVec 32 := 1#32
  ⟨c1_i32_56, v67, c1_i32_57⟩
def k0_off5 (k0_t1 : Fin k0_t1_loop.trips) : Fin 2 → Nat :=
  let c0_i32_10 : BitVec 32 := 0#32
  let c1_i32_11 : BitVec 32 := 1#32
  let arg16 : BitVec 32 := Scf.iv c0_i32_10 c1_i32_11 k0_t1
  let c32_i32 : BitVec 32 := 32#32
  let v55 : BitVec 32 := Scalar.muli arg16 c32_i32
  let v56 : BitVec 32 := v55
  let v97 : Index := Scalar.indexCast v56
  let c0_67 : Index := 0#32
  ![v97.toNat, 0]
def k0_off6 (k0_t1 : Fin k0_t1_loop.trips) : Fin 2 → Nat :=
  let c0_i32_10 : BitVec 32 := 0#32
  let c1_i32_11 : BitVec 32 := 1#32
  let arg16 : BitVec 32 := Scf.iv c0_i32_10 c1_i32_11 k0_t1
  let c32_i32 : BitVec 32 := 32#32
  let v55 : BitVec 32 := Scalar.muli arg16 c32_i32
  let v56 : BitVec 32 := v55
  let v101 : Index := Scalar.indexCast v56
  let c0_68 : Index := 0#32
  ![v101.toNat, 0]
def k0_mult4 : BitVec 32 :=
  let c0_i32_24 : BitVec 32 := 0#32
  let c2048_i32_25 : BitVec 32 := 2048#32
  let v30 : BitVec 32 := Scalar.muli c0_i32_24 c2048_i32_25
  v30
def k0_cond1 : BitVec 1 :=
  let c0_i32_29 : BitVec 32 := 0#32
  let c3_i32_30 : BitVec 32 := 3#32
  let v37 : BitVec 32 := Scalar.addi c0_i32_29 c3_i32_30
  let c1_i32_31 : BitVec 32 := 1#32
  let v38 : BitVec 32 := Scalar.subi v37 c1_i32_31
  let c49_i32 : BitVec 32 := 49#32
  let v39 : BitVec 1 := Scalar.cmpi .slt v38 c49_i32
  let v40 : BitVec 32 := Scalar.extui v39
  let c0_i32_33 : BitVec 32 := 0#32
  let v41 : BitVec 1 := Scalar.cmpi .ne v40 c0_i32_33
  v41

def k0_mult5 : BitVec 32 :=
  let c0_i32_32 : BitVec 32 := 0#32
  let c3_i32_52 : BitVec 32 := 3#32
  let v55 : BitVec 32 := Scalar.addi c0_i32_32 c3_i32_52
  let c1_i32_53 : BitVec 32 := 1#32
  let v56 : BitVec 32 := Scalar.subi v55 c1_i32_53
  let c2048_i32_55 : BitVec 32 := 2048#32
  let v58 : BitVec 32 := Scalar.muli v56 c2048_i32_55
  v58
def k0_off7 : Fin 1 → Nat :=
  let c0_i32_32 : BitVec 32 := 0#32
  let c3_i32_52 : BitVec 32 := 3#32
  let v55 : BitVec 32 := Scalar.addi c0_i32_32 c3_i32_52
  let c1_i32_53 : BitVec 32 := 1#32
  let v56 : BitVec 32 := Scalar.subi v55 c1_i32_53
  let c3_i32_54 : BitVec 32 := 3#32
  let v57 : BitVec 32 := Scalar.remsi v56 c3_i32_54
  ![v57.toNat]
def k0_off8 : Fin 3 → Nat :=
  let c0_i32_32 : BitVec 32 := 0#32
  let c3_i32_52 : BitVec 32 := 3#32
  let v55 : BitVec 32 := Scalar.addi c0_i32_32 c3_i32_52
  let c1_i32_53 : BitVec 32 := 1#32
  let v56 : BitVec 32 := Scalar.subi v55 c1_i32_53
  let c3_i32_54 : BitVec 32 := 3#32
  let v57 : BitVec 32 := Scalar.remsi v56 c3_i32_54
  let c0_i32_56 : BitVec 32 := 0#32
  let c0_i32_57 : BitVec 32 := 0#32
  ![v57.toNat, 0, 0]
def k0_off9 : Fin 2 → Nat :=
  let c0_i32_58 : BitVec 32 := 0#32
  let c0_i32_32 : BitVec 32 := 0#32
  let c3_i32_52 : BitVec 32 := 3#32
  let v55 : BitVec 32 := Scalar.addi c0_i32_32 c3_i32_52
  let c1_i32_53 : BitVec 32 := 1#32
  let v56 : BitVec 32 := Scalar.subi v55 c1_i32_53
  let c2048_i32_55 : BitVec 32 := 2048#32
  let v58 : BitVec 32 := Scalar.muli v56 c2048_i32_55
  let v59 : BitVec 32 := v58
  ![0, v59.toNat]
@[reducible] def k0_t3_loop : Scf.Loop 32 :=
  let c0_i32_35 : BitVec 32 := 0#32
  let c4_i32 : BitVec 32 := 4#32
  let v42 : BitVec 32 := Scalar.addi c0_i32_35 c4_i32
  let c1_i32_36 : BitVec 32 := 1#32
  ⟨c0_i32_35, v42, c1_i32_36⟩
def k0_mult6 (k0_t3 : Fin k0_t3_loop.trips) : BitVec 32 :=
  let c0_i32_35 : BitVec 32 := 0#32
  let c1_i32_36 : BitVec 32 := 1#32
  let arg16 : BitVec 32 := Scf.iv c0_i32_35 c1_i32_36 k0_t3
  let c512_i32 : BitVec 32 := 512#32
  let v55 : BitVec 32 := Scalar.muli arg16 c512_i32
  v55
def k0_off10 (k0_t3 : Fin k0_t3_loop.trips) : Fin 3 → Nat :=
  let c0_i32_34 : BitVec 32 := 0#32
  let c3_i32_54 : BitVec 32 := 3#32
  let v59 : BitVec 32 := Scalar.remsi c0_i32_34 c3_i32_54
  let v60 : Index := Scalar.indexCast v59
  let c0_55 : Index := 0#32
  let c0_i32_35 : BitVec 32 := 0#32
  let c1_i32_36 : BitVec 32 := 1#32
  let arg16 : BitVec 32 := Scf.iv c0_i32_35 c1_i32_36 k0_t3
  let c512_i32 : BitVec 32 := 512#32
  let v55 : BitVec 32 := Scalar.muli arg16 c512_i32
  let v56 : BitVec 32 := v55
  let v61 : Index := Scalar.indexCast v56
  ![v60.toNat, 0, v61.toNat]
def k0_off11 (k0_t3 : Fin k0_t3_loop.trips) : Fin 2 → Nat :=
  let c0_57 : Index := 0#32
  let c0_i32_35 : BitVec 32 := 0#32
  let c1_i32_36 : BitVec 32 := 1#32
  let arg16 : BitVec 32 := Scf.iv c0_i32_35 c1_i32_36 k0_t3
  let c512_i32 : BitVec 32 := 512#32
  let v55 : BitVec 32 := Scalar.muli arg16 c512_i32
  let v56 : BitVec 32 := v55
  let v65 : Index := Scalar.indexCast v56
  ![0, v65.toNat]
@[reducible] def k0_t4_loop : Scf.Loop 32 :=
  let c0_i32_38 : BitVec 32 := 0#32
  let c24_i32 : BitVec 32 := 24#32
  let v43 : BitVec 32 := Scalar.addi c0_i32_38 c24_i32
  let c1_i32_39 : BitVec 32 := 1#32
  ⟨c0_i32_38, v43, c1_i32_39⟩
def k0_mult7 (k0_t4 : Fin k0_t4_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c2048_i32_54 : BitVec 32 := 2048#32
  let v58 : BitVec 32 := Scalar.muli v56 c2048_i32_54
  v58
def k0_off12 (k0_t4 : Fin k0_t4_loop.trips) (c1_i32_52 : BitVec 32) : Fin 1 → Nat :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let v56 : BitVec 32 := Scalar.addi v55 c1_i32_52
  let c3_i32_53 : BitVec 32 := 3#32
  let v57 : BitVec 32 := Scalar.remsi v56 c3_i32_53
  ![v57.toNat]
def k0_off13 (k0_t4 : Fin k0_t4_loop.trips) (c1_i32_52 : BitVec 32) : Fin 3 → Nat :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let v56 : BitVec 32 := Scalar.addi v55 c1_i32_52
  let c3_i32_53 : BitVec 32 := 3#32
  let v57 : BitVec 32 := Scalar.remsi v56 c3_i32_53
  let c0_i32_55 : BitVec 32 := 0#32
  let c0_i32_56 : BitVec 32 := 0#32
  ![v57.toNat, 0, 0]
def k0_off14 (k0_t4 : Fin k0_t4_loop.trips) (c1_i32_52 : BitVec 32) : Fin 2 → Nat :=
  let c0_i32_57 : BitVec 32 := 0#32
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let v56 : BitVec 32 := Scalar.addi v55 c1_i32_52
  let c2048_i32_54 : BitVec 32 := 2048#32
  let v58 : BitVec 32 := Scalar.muli v56 c2048_i32_54
  let v59 : BitVec 32 := v58
  ![0, v59.toNat]
def k0_cond2 (k0_t4 : Fin k0_t4_loop.trips) : BitVec 1 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c3_i32_58 : BitVec 32 := 3#32
  let v65 : BitVec 32 := Scalar.addi v56 c3_i32_58
  let c1_i32_59 : BitVec 32 := 1#32
  let v66 : BitVec 32 := Scalar.subi v65 c1_i32_59
  let c49_i32_60 : BitVec 32 := 49#32
  let v67 : BitVec 1 := Scalar.cmpi .slt v66 c49_i32_60
  let v68 : BitVec 32 := Scalar.extui v67
  let c0_i32_61 : BitVec 32 := 0#32
  let v69 : BitVec 1 := Scalar.cmpi .ne v68 c0_i32_61
  v69

def k0_mult8 (k0_t4 : Fin k0_t4_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c3_i32_81 : BitVec 32 := 3#32
  let v87 : BitVec 32 := Scalar.addi v56 c3_i32_81
  let c1_i32_82 : BitVec 32 := 1#32
  let v88 : BitVec 32 := Scalar.subi v87 c1_i32_82
  let c2048_i32_84 : BitVec 32 := 2048#32
  let v90 : BitVec 32 := Scalar.muli v88 c2048_i32_84
  v90
def k0_off15 (k0_t4 : Fin k0_t4_loop.trips) : Fin 1 → Nat :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c3_i32_81 : BitVec 32 := 3#32
  let v87 : BitVec 32 := Scalar.addi v56 c3_i32_81
  let c1_i32_82 : BitVec 32 := 1#32
  let v88 : BitVec 32 := Scalar.subi v87 c1_i32_82
  let c3_i32_83 : BitVec 32 := 3#32
  let v89 : BitVec 32 := Scalar.remsi v88 c3_i32_83
  ![v89.toNat]
def k0_off16 (k0_t4 : Fin k0_t4_loop.trips) : Fin 3 → Nat :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c3_i32_81 : BitVec 32 := 3#32
  let v87 : BitVec 32 := Scalar.addi v56 c3_i32_81
  let c1_i32_82 : BitVec 32 := 1#32
  let v88 : BitVec 32 := Scalar.subi v87 c1_i32_82
  let c3_i32_83 : BitVec 32 := 3#32
  let v89 : BitVec 32 := Scalar.remsi v88 c3_i32_83
  let c0_i32_85 : BitVec 32 := 0#32
  let c0_i32_86 : BitVec 32 := 0#32
  ![v89.toNat, 0, 0]
def k0_off17 (k0_t4 : Fin k0_t4_loop.trips) : Fin 2 → Nat :=
  let c0_i32_87 : BitVec 32 := 0#32
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c3_i32_81 : BitVec 32 := 3#32
  let v87 : BitVec 32 := Scalar.addi v56 c3_i32_81
  let c1_i32_82 : BitVec 32 := 1#32
  let v88 : BitVec 32 := Scalar.subi v87 c1_i32_82
  let c2048_i32_84 : BitVec 32 := 2048#32
  let v90 : BitVec 32 := Scalar.muli v88 c2048_i32_84
  let v91 : BitVec 32 := v90
  ![0, v91.toNat]
@[reducible] def k0_t5_loop : Scf.Loop 32 :=
  let c0_i32_62 : BitVec 32 := 0#32
  let c4_i32_63 : BitVec 32 := 4#32
  let v70 : BitVec 32 := Scalar.addi c0_i32_62 c4_i32_63
  let c1_i32_64 : BitVec 32 := 1#32
  ⟨c0_i32_62, v70, c1_i32_64⟩
def k0_mult9 (k0_t5 : Fin k0_t5_loop.trips) : BitVec 32 :=
  let c0_i32_62 : BitVec 32 := 0#32
  let c1_i32_64 : BitVec 32 := 1#32
  let arg17 : BitVec 32 := Scf.iv c0_i32_62 c1_i32_64 k0_t5
  let c512_i32 : BitVec 32 := 512#32
  let v87 : BitVec 32 := Scalar.muli arg17 c512_i32
  v87
def k0_off18 (k0_t4 : Fin k0_t4_loop.trips) (k0_t5 : Fin k0_t5_loop.trips) : Fin 3 → Nat :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c3_i32_83 : BitVec 32 := 3#32
  let v91 : BitVec 32 := Scalar.remsi v56 c3_i32_83
  let v92 : Index := Scalar.indexCast v91
  let c0_84 : Index := 0#32
  let c0_i32_62 : BitVec 32 := 0#32
  let c1_i32_64 : BitVec 32 := 1#32
  let arg17 : BitVec 32 := Scf.iv c0_i32_62 c1_i32_64 k0_t5
  let c512_i32 : BitVec 32 := 512#32
  let v87 : BitVec 32 := Scalar.muli arg17 c512_i32
  let v88 : BitVec 32 := v87
  let v93 : Index := Scalar.indexCast v88
  ![v92.toNat, 0, v93.toNat]
def k0_off19 (k0_t5 : Fin k0_t5_loop.trips) : Fin 2 → Nat :=
  let c0_86 : Index := 0#32
  let c0_i32_62 : BitVec 32 := 0#32
  let c1_i32_64 : BitVec 32 := 1#32
  let arg17 : BitVec 32 := Scf.iv c0_i32_62 c1_i32_64 k0_t5
  let c512_i32 : BitVec 32 := 512#32
  let v87 : BitVec 32 := Scalar.muli arg17 c512_i32
  let v88 : BitVec 32 := v87
  let v97 : Index := Scalar.indexCast v88
  ![0, v97.toNat]
@[reducible] def k0_t6_loop : Scf.Loop 32 :=
  let c0_i32_88 : BitVec 32 := 0#32
  let c12_i32_89 : BitVec 32 := 12#32
  let v104 : BitVec 32 := Scalar.addi c0_i32_88 c12_i32_89
  let c1_i32_90 : BitVec 32 := 1#32
  ⟨c0_i32_88, v104, c1_i32_90⟩
def k0_mult10 (k0_t5 : Fin k0_t5_loop.trips) (k0_t6 : Fin k0_t6_loop.trips) : BitVec 32 :=
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  v107
def k0_off20 (k0_t5 : Fin k0_t5_loop.trips) (k0_t6 : Fin k0_t6_loop.trips) : Fin 2 → Nat :=
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v109 : Index := Scalar.indexCast v108
  let c0_93 : Index := 0#32
  ![v109.toNat, 0]
def k0_mult11 : BitVec 32 :=
  let c0_i32_94 : BitVec 32 := 0#32
  c0_i32_94
def k0_off21 (k0_t5 : Fin k0_t5_loop.trips) (k0_t6 : Fin k0_t6_loop.trips) : Fin 2 → Nat :=
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v112 : Index := Scalar.indexCast v108
  let c0_i32_94 : BitVec 32 := 0#32
  let v111 : BitVec 32 := c0_i32_94
  let v113 : Index := Scalar.indexCast v111
  ![v112.toNat, 0]
def k0_mult12 (k0_t4 : Fin k0_t4_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_95 : BitVec 32 := 2048#32
  let v116 : BitVec 32 := Scalar.muli v101 c2048_i32_95
  let c0_i32_96 : BitVec 32 := 0#32
  let v117 : BitVec 32 := Scalar.addi v116 c0_i32_96
  v117
def k0_off22 (k0_t4 : Fin k0_t4_loop.trips) (c0_i32_96 : BitVec 32) : Fin 2 → Nat :=
  let c0_97 : Index := 0#32
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_95 : BitVec 32 := 2048#32
  let v116 : BitVec 32 := Scalar.muli v101 c2048_i32_95
  let v117 : BitVec 32 := Scalar.addi v116 c0_i32_96
  let v118 : BitVec 32 := v117
  let v119 : Index := Scalar.indexCast v118
  ![0, v119.toNat]
def k0_mult13 (k0_t4 : Fin k0_t4_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_98 : BitVec 32 := 2048#32
  let v124 : BitVec 32 := Scalar.muli v101 c2048_i32_98
  let c0_i32_99 : BitVec 32 := 0#32
  let v125 : BitVec 32 := Scalar.addi v124 c0_i32_99
  v125
def k0_mult14 : BitVec 32 :=
  let c128_i32 : BitVec 32 := 128#32
  c128_i32
def k0_off23 (k0_t5 : Fin k0_t5_loop.trips) (k0_t6 : Fin k0_t6_loop.trips) : Fin 2 → Nat :=
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v134 : Index := Scalar.indexCast v108
  let c128_i32 : BitVec 32 := 128#32
  let v133 : BitVec 32 := c128_i32
  let v135 : Index := Scalar.indexCast v133
  ![v134.toNat, 128]
def k0_mult15 (k0_t4 : Fin k0_t4_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_102 : BitVec 32 := 2048#32
  let v138 : BitVec 32 := Scalar.muli v101 c2048_i32_102
  let c128_i32_103 : BitVec 32 := 128#32
  let v139 : BitVec 32 := Scalar.addi v138 c128_i32_103
  v139
def k0_mult16 (k0_t4 : Fin k0_t4_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_105 : BitVec 32 := 2048#32
  let v146 : BitVec 32 := Scalar.muli v101 c2048_i32_105
  let c128_i32_106 : BitVec 32 := 128#32
  let v147 : BitVec 32 := Scalar.addi v146 c128_i32_106
  v147
@[reducible] def k0_t7_loop : Scf.Loop 32 :=
  let c2_i32_111 : BitVec 32 := 2#32
  let c14_i32 : BitVec 32 := 14#32
  let v162 : BitVec 32 := Scalar.addi c2_i32_111 c14_i32
  let c1_i32_112 : BitVec 32 := 1#32
  ⟨c2_i32_111, v162, c1_i32_112⟩
def k0_mult17 (k0_t7 : Fin k0_t7_loop.trips) : BitVec 32 :=
  let c2_i32_111 : BitVec 32 := 2#32
  let c1_i32_112 : BitVec 32 := 1#32
  let arg19 : BitVec 32 := Scf.iv c2_i32_111 c1_i32_112 k0_t7
  let c128_i32_145 : BitVec 32 := 128#32
  let v266 : BitVec 32 := Scalar.muli arg19 c128_i32_145
  v266
def k0_off24 (k0_t5 : Fin k0_t5_loop.trips) (k0_t6 : Fin k0_t6_loop.trips) (k0_t7 : Fin k0_t7_loop.trips) : Fin 2 → Nat :=
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v268 : Index := Scalar.indexCast v108
  let c2_i32_111 : BitVec 32 := 2#32
  let c1_i32_112 : BitVec 32 := 1#32
  let arg19 : BitVec 32 := Scf.iv c2_i32_111 c1_i32_112 k0_t7
  let c128_i32_145 : BitVec 32 := 128#32
  let v266 : BitVec 32 := Scalar.muli arg19 c128_i32_145
  let v267 : BitVec 32 := v266
  let v269 : Index := Scalar.indexCast v267
  ![v268.toNat, v269.toNat]
def k0_mult18 (k0_t4 : Fin k0_t4_loop.trips) (k0_t7 : Fin k0_t7_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_146 : BitVec 32 := 2048#32
  let v272 : BitVec 32 := Scalar.muli v101 c2048_i32_146
  let c2_i32_111 : BitVec 32 := 2#32
  let c1_i32_112 : BitVec 32 := 1#32
  let arg19 : BitVec 32 := Scf.iv c2_i32_111 c1_i32_112 k0_t7
  let c128_i32_147 : BitVec 32 := 128#32
  let v273 : BitVec 32 := Scalar.muli arg19 c128_i32_147
  let v274 : BitVec 32 := Scalar.addi v272 v273
  v274
def k0_off25 (k0_t4 : Fin k0_t4_loop.trips) (k0_t7 : Fin k0_t7_loop.trips) : Fin 2 → Nat :=
  let c0_148 : Index := 0#32
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_146 : BitVec 32 := 2048#32
  let v272 : BitVec 32 := Scalar.muli v101 c2048_i32_146
  let c2_i32_111 : BitVec 32 := 2#32
  let c1_i32_112 : BitVec 32 := 1#32
  let arg19 : BitVec 32 := Scf.iv c2_i32_111 c1_i32_112 k0_t7
  let c128_i32_147 : BitVec 32 := 128#32
  let v273 : BitVec 32 := Scalar.muli arg19 c128_i32_147
  let v274 : BitVec 32 := Scalar.addi v272 v273
  let v275 : BitVec 32 := v274
  let v276 : Index := Scalar.indexCast v275
  ![0, v276.toNat]
def k0_mult19 (k0_t4 : Fin k0_t4_loop.trips) (k0_t7 : Fin k0_t7_loop.trips) : BitVec 32 :=
  let c2_i32 : BitVec 32 := 2#32
  let c0_i32_38 : BitVec 32 := 0#32
  let c1_i32_39 : BitVec 32 := 1#32
  let arg16 : BitVec 32 := Scf.iv c0_i32_38 c1_i32_39 k0_t4
  let v55 : BitVec 32 := Scalar.muli c2_i32 arg16
  let c1_i32_52 : BitVec 32 := 1#32
  let v56 : BitVec 32 := Scalar.addi v55 c1_i32_52
  let c1_i32_87 : BitVec 32 := 1#32
  let v101 : BitVec 32 := Scalar.subi v56 c1_i32_87
  let c2048_i32_149 : BitVec 32 := 2048#32
  let v281 : BitVec 32 := Scalar.muli v101 c2048_i32_149
  let c2_i32_111 : BitVec 32 := 2#32
  let c1_i32_112 : BitVec 32 := 1#32
  let arg19 : BitVec 32 := Scf.iv c2_i32_111 c1_i32_112 k0_t7
  let c128_i32_150 : BitVec 32 := 128#32
  let v282 : BitVec 32 := Scalar.muli arg19 c128_i32_150
  let v283 : BitVec 32 := Scalar.addi v281 v282
  v283
def k0_off26 (k0_t5 : Fin k0_t5_loop.trips) (k0_t6 : Fin k0_t6_loop.trips) : Fin 3 → Nat :=
  let c0_114 : Index := 0#32
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v164 : Index := Scalar.indexCast v108
  let c0_115 : Index := 0#32
  ![0, v164.toNat, 0]
def k0_off27 (k0_t5 : Fin k0_t5_loop.trips) (k0_t6 : Fin k0_t6_loop.trips) : Fin 3 → Nat :=
  let c1 : Index := 1#32
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v167 : Index := Scalar.indexCast v108
  let c0_116 : Index := 0#32
  ![1, v167.toNat, 0]
def k0_off28 (k0_t5 : Fin k0_t5_loop.trips) (k0_t6 : Fin k0_t6_loop.trips) : Fin 3 → Nat :=
  let c2 : Index := 2#32
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v170 : Index := Scalar.indexCast v108
  let c0_117 : Index := 0#32
  ![2, v170.toNat, 0]
def k0_off29 (k0_t5 : Fin k0_t5_loop.trips) (k0_t6 : Fin k0_t6_loop.trips) : Fin 3 → Nat :=
  let c3 : Index := 3#32
  let c0_i32_62 : BitVec 32 := 0#32
  let c1_i32_64 : BitVec 32 := 1#32
  let arg17 : BitVec 32 := Scf.iv c0_i32_62 c1_i32_64 k0_t5
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t6
  let v106 : BitVec 32 := Scalar.addi v105 arg18
  let c8_i32 : BitVec 32 := 8#32
  let v107 : BitVec 32 := Scalar.muli v106 c8_i32
  let v108 : BitVec 32 := v107
  let v173 : Index := Scalar.indexCast v108
  let c0_118 : Index := 0#32
  ![3, v173.toNat, 0]
def k0_mult20 (k0_t4 : Fin k0_t4_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c2048_i32_69 : BitVec 32 := 2048#32
  let v74 : BitVec 32 := Scalar.muli v72 c2048_i32_69
  v74
def k0_cond3 (k0_t4 : Fin k0_t4_loop.trips) : BitVec 1 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c3_i32_73 : BitVec 32 := 3#32
  let v81 : BitVec 32 := Scalar.addi v72 c3_i32_73
  let c1_i32_74 : BitVec 32 := 1#32
  let v82 : BitVec 32 := Scalar.subi v81 c1_i32_74
  let c49_i32_75 : BitVec 32 := 49#32
  let v83 : BitVec 1 := Scalar.cmpi .slt v82 c49_i32_75
  let v84 : BitVec 32 := Scalar.extui v83
  let c0_i32_76 : BitVec 32 := 0#32
  let v85 : BitVec 1 := Scalar.cmpi .ne v84 c0_i32_76
  v85

def k0_mult21 (k0_t4 : Fin k0_t4_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c3_i32_81 : BitVec 32 := 3#32
  let v87 : BitVec 32 := Scalar.addi v72 c3_i32_81
  let c1_i32_82 : BitVec 32 := 1#32
  let v88 : BitVec 32 := Scalar.subi v87 c1_i32_82
  let c2048_i32_84 : BitVec 32 := 2048#32
  let v90 : BitVec 32 := Scalar.muli v88 c2048_i32_84
  v90
def k0_off30 (k0_t4 : Fin k0_t4_loop.trips) : Fin 1 → Nat :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c3_i32_81 : BitVec 32 := 3#32
  let v87 : BitVec 32 := Scalar.addi v72 c3_i32_81
  let c1_i32_82 : BitVec 32 := 1#32
  let v88 : BitVec 32 := Scalar.subi v87 c1_i32_82
  let c3_i32_83 : BitVec 32 := 3#32
  let v89 : BitVec 32 := Scalar.remsi v88 c3_i32_83
  ![v89.toNat]
def k0_off31 (k0_t4 : Fin k0_t4_loop.trips) : Fin 3 → Nat :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c3_i32_81 : BitVec 32 := 3#32
  let v87 : BitVec 32 := Scalar.addi v72 c3_i32_81
  let c1_i32_82 : BitVec 32 := 1#32
  let v88 : BitVec 32 := Scalar.subi v87 c1_i32_82
  let c3_i32_83 : BitVec 32 := 3#32
  let v89 : BitVec 32 := Scalar.remsi v88 c3_i32_83
  let c0_i32_85 : BitVec 32 := 0#32
  let c0_i32_86 : BitVec 32 := 0#32
  ![v89.toNat, 0, 0]
def k0_off32 (k0_t4 : Fin k0_t4_loop.trips) : Fin 2 → Nat :=
  let c0_i32_87 : BitVec 32 := 0#32
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c3_i32_81 : BitVec 32 := 3#32
  let v87 : BitVec 32 := Scalar.addi v72 c3_i32_81
  let c1_i32_82 : BitVec 32 := 1#32
  let v88 : BitVec 32 := Scalar.subi v87 c1_i32_82
  let c2048_i32_84 : BitVec 32 := 2048#32
  let v90 : BitVec 32 := Scalar.muli v88 c2048_i32_84
  let v91 : BitVec 32 := v90
  ![0, v91.toNat]
@[reducible] def k0_t8_loop : Scf.Loop 32 :=
  let c0_i32_77 : BitVec 32 := 0#32
  let c4_i32_78 : BitVec 32 := 4#32
  let v86 : BitVec 32 := Scalar.addi c0_i32_77 c4_i32_78
  let c1_i32_79 : BitVec 32 := 1#32
  ⟨c0_i32_77, v86, c1_i32_79⟩
def k0_mult22 (k0_t8 : Fin k0_t8_loop.trips) : BitVec 32 :=
  let c0_i32_77 : BitVec 32 := 0#32
  let c1_i32_79 : BitVec 32 := 1#32
  let arg17 : BitVec 32 := Scf.iv c0_i32_77 c1_i32_79 k0_t8
  let c512_i32 : BitVec 32 := 512#32
  let v87 : BitVec 32 := Scalar.muli arg17 c512_i32
  v87
def k0_off33 (k0_t4 : Fin k0_t4_loop.trips) (k0_t8 : Fin k0_t8_loop.trips) : Fin 3 → Nat :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c3_i32_83 : BitVec 32 := 3#32
  let v91 : BitVec 32 := Scalar.remsi v72 c3_i32_83
  let v92 : Index := Scalar.indexCast v91
  let c0_84 : Index := 0#32
  let c0_i32_77 : BitVec 32 := 0#32
  let c1_i32_79 : BitVec 32 := 1#32
  let arg17 : BitVec 32 := Scf.iv c0_i32_77 c1_i32_79 k0_t8
  let c512_i32 : BitVec 32 := 512#32
  let v87 : BitVec 32 := Scalar.muli arg17 c512_i32
  let v88 : BitVec 32 := v87
  let v93 : Index := Scalar.indexCast v88
  ![v92.toNat, 0, v93.toNat]
def k0_off34 (k0_t8 : Fin k0_t8_loop.trips) : Fin 2 → Nat :=
  let c0_86 : Index := 0#32
  let c0_i32_77 : BitVec 32 := 0#32
  let c1_i32_79 : BitVec 32 := 1#32
  let arg17 : BitVec 32 := Scf.iv c0_i32_77 c1_i32_79 k0_t8
  let c512_i32 : BitVec 32 := 512#32
  let v87 : BitVec 32 := Scalar.muli arg17 c512_i32
  let v88 : BitVec 32 := v87
  let v97 : Index := Scalar.indexCast v88
  ![0, v97.toNat]
@[reducible] def k0_t9_loop : Scf.Loop 32 :=
  let c0_i32_88 : BitVec 32 := 0#32
  let c12_i32_89 : BitVec 32 := 12#32
  let v104 : BitVec 32 := Scalar.addi c0_i32_88 c12_i32_89
  let c1_i32_90 : BitVec 32 := 1#32
  ⟨c0_i32_88, v104, c1_i32_90⟩
def k0_mult23 (k0_t8 : Fin k0_t8_loop.trips) (k0_t9 : Fin k0_t9_loop.trips) : BitVec 32 :=
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  v107
def k0_off35 (k0_t8 : Fin k0_t8_loop.trips) (k0_t9 : Fin k0_t9_loop.trips) : Fin 2 → Nat :=
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v109 : Index := Scalar.indexCast v108
  let c0_93 : Index := 0#32
  ![v109.toNat, 0]
def k0_mult24 : BitVec 32 :=
  let c0_i32_94 : BitVec 32 := 0#32
  c0_i32_94
def k0_off36 (k0_t8 : Fin k0_t8_loop.trips) (k0_t9 : Fin k0_t9_loop.trips) : Fin 2 → Nat :=
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v112 : Index := Scalar.indexCast v108
  let c0_i32_94 : BitVec 32 := 0#32
  let v111 : BitVec 32 := c0_i32_94
  let v113 : Index := Scalar.indexCast v111
  ![v112.toNat, 0]
def k0_mult25 (k0_t4 : Fin k0_t4_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_95 : BitVec 32 := 2048#32
  let v116 : BitVec 32 := Scalar.muli v101 c2048_i32_95
  let c0_i32_96 : BitVec 32 := 0#32
  let v117 : BitVec 32 := Scalar.addi v116 c0_i32_96
  v117
def k0_off37 (k0_t4 : Fin k0_t4_loop.trips) (c0_i32_96 : BitVec 32) : Fin 2 → Nat :=
  let c0_97 : Index := 0#32
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_95 : BitVec 32 := 2048#32
  let v116 : BitVec 32 := Scalar.muli v101 c2048_i32_95
  let v117 : BitVec 32 := Scalar.addi v116 c0_i32_96
  let v118 : BitVec 32 := v117
  let v119 : Index := Scalar.indexCast v118
  ![0, v119.toNat]
def k0_mult26 (k0_t4 : Fin k0_t4_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_98 : BitVec 32 := 2048#32
  let v124 : BitVec 32 := Scalar.muli v101 c2048_i32_98
  let c0_i32_99 : BitVec 32 := 0#32
  let v125 : BitVec 32 := Scalar.addi v124 c0_i32_99
  v125
def k0_mult27 : BitVec 32 :=
  let c128_i32 : BitVec 32 := 128#32
  c128_i32
def k0_off38 (k0_t8 : Fin k0_t8_loop.trips) (k0_t9 : Fin k0_t9_loop.trips) : Fin 2 → Nat :=
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v134 : Index := Scalar.indexCast v108
  let c128_i32 : BitVec 32 := 128#32
  let v133 : BitVec 32 := c128_i32
  let v135 : Index := Scalar.indexCast v133
  ![v134.toNat, 128]
def k0_mult28 (k0_t4 : Fin k0_t4_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_102 : BitVec 32 := 2048#32
  let v138 : BitVec 32 := Scalar.muli v101 c2048_i32_102
  let c128_i32_103 : BitVec 32 := 128#32
  let v139 : BitVec 32 := Scalar.addi v138 c128_i32_103
  v139
def k0_mult29 (k0_t4 : Fin k0_t4_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_105 : BitVec 32 := 2048#32
  let v146 : BitVec 32 := Scalar.muli v101 c2048_i32_105
  let c128_i32_106 : BitVec 32 := 128#32
  let v147 : BitVec 32 := Scalar.addi v146 c128_i32_106
  v147
@[reducible] def k0_t10_loop : Scf.Loop 32 :=
  let c2_i32_111 : BitVec 32 := 2#32
  let c14_i32 : BitVec 32 := 14#32
  let v162 : BitVec 32 := Scalar.addi c2_i32_111 c14_i32
  let c1_i32_112 : BitVec 32 := 1#32
  ⟨c2_i32_111, v162, c1_i32_112⟩
def k0_mult30 (k0_t10 : Fin k0_t10_loop.trips) : BitVec 32 :=
  let c2_i32_111 : BitVec 32 := 2#32
  let c1_i32_112 : BitVec 32 := 1#32
  let arg19 : BitVec 32 := Scf.iv c2_i32_111 c1_i32_112 k0_t10
  let c128_i32_145 : BitVec 32 := 128#32
  let v266 : BitVec 32 := Scalar.muli arg19 c128_i32_145
  v266
def k0_off39 (k0_t8 : Fin k0_t8_loop.trips) (k0_t9 : Fin k0_t9_loop.trips) (k0_t10 : Fin k0_t10_loop.trips) : Fin 2 → Nat :=
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v268 : Index := Scalar.indexCast v108
  let c2_i32_111 : BitVec 32 := 2#32
  let c1_i32_112 : BitVec 32 := 1#32
  let arg19 : BitVec 32 := Scf.iv c2_i32_111 c1_i32_112 k0_t10
  let c128_i32_145 : BitVec 32 := 128#32
  let v266 : BitVec 32 := Scalar.muli arg19 c128_i32_145
  let v267 : BitVec 32 := v266
  let v269 : Index := Scalar.indexCast v267
  ![v268.toNat, v269.toNat]
def k0_mult31 (k0_t4 : Fin k0_t4_loop.trips) (k0_t10 : Fin k0_t10_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_146 : BitVec 32 := 2048#32
  let v272 : BitVec 32 := Scalar.muli v101 c2048_i32_146
  let c2_i32_111 : BitVec 32 := 2#32
  let c1_i32_112 : BitVec 32 := 1#32
  let arg19 : BitVec 32 := Scf.iv c2_i32_111 c1_i32_112 k0_t10
  let c128_i32_147 : BitVec 32 := 128#32
  let v273 : BitVec 32 := Scalar.muli arg19 c128_i32_147
  let v274 : BitVec 32 := Scalar.addi v272 v273
  v274
def k0_off40 (k0_t4 : Fin k0_t4_loop.trips) (k0_t10 : Fin k0_t10_loop.trips) : Fin 2 → Nat :=
  let c0_148 : Index := 0#32
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_146 : BitVec 32 := 2048#32
  let v272 : BitVec 32 := Scalar.muli v101 c2048_i32_146
  let c2_i32_111 : BitVec 32 := 2#32
  let c1_i32_112 : BitVec 32 := 1#32
  let arg19 : BitVec 32 := Scf.iv c2_i32_111 c1_i32_112 k0_t10
  let c128_i32_147 : BitVec 32 := 128#32
  let v273 : BitVec 32 := Scalar.muli arg19 c128_i32_147
  let v274 : BitVec 32 := Scalar.addi v272 v273
  let v275 : BitVec 32 := v274
  let v276 : Index := Scalar.indexCast v275
  ![0, v276.toNat]
def k0_mult32 (k0_t4 : Fin k0_t4_loop.trips) (k0_t10 : Fin k0_t10_loop.trips) : BitVec 32 :=
  let c2_i32_66 : BitVec 32 := 2#32
  let c0_i32_38 : BitVec 32 := 0#32
  let c1_i32_39 : BitVec 32 := 1#32
  let arg16 : BitVec 32 := Scf.iv c0_i32_38 c1_i32_39 k0_t4
  let v71 : BitVec 32 := Scalar.muli c2_i32_66 arg16
  let c2_i32_67 : BitVec 32 := 2#32
  let v72 : BitVec 32 := Scalar.addi v71 c2_i32_67
  let c1_i32_87 : BitVec 32 := 1#32
  let v101 : BitVec 32 := Scalar.subi v72 c1_i32_87
  let c2048_i32_149 : BitVec 32 := 2048#32
  let v281 : BitVec 32 := Scalar.muli v101 c2048_i32_149
  let c2_i32_111 : BitVec 32 := 2#32
  let c1_i32_112 : BitVec 32 := 1#32
  let arg19 : BitVec 32 := Scf.iv c2_i32_111 c1_i32_112 k0_t10
  let c128_i32_150 : BitVec 32 := 128#32
  let v282 : BitVec 32 := Scalar.muli arg19 c128_i32_150
  let v283 : BitVec 32 := Scalar.addi v281 v282
  v283
def k0_off41 (k0_t8 : Fin k0_t8_loop.trips) (k0_t9 : Fin k0_t9_loop.trips) : Fin 3 → Nat :=
  let c0_114 : Index := 0#32
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v164 : Index := Scalar.indexCast v108
  let c0_115 : Index := 0#32
  ![0, v164.toNat, 0]
def k0_off42 (k0_t8 : Fin k0_t8_loop.trips) (k0_t9 : Fin k0_t9_loop.trips) : Fin 3 → Nat :=
  let c1 : Index := 1#32
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v167 : Index := Scalar.indexCast v108
  let c0_116 : Index := 0#32
  ![1, v167.toNat, 0]
def k0_off43 (k0_t8 : Fin k0_t8_loop.trips) (k0_t9 : Fin k0_t9_loop.trips) : Fin 3 → Nat :=
  let c2 : Index := 2#32
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v170 : Index := Scalar.indexCast v108
  let c0_117 : Index := 0#32
  ![2, v170.toNat, 0]
def k0_off44 (k0_t8 : Fin k0_t8_loop.trips) (k0_t9 : Fin k0_t9_loop.trips) : Fin 3 → Nat :=
  let c3 : Index := 3#32
  let c0_i32_77 : BitVec 32 := 0#32
  let c1_i32_79 : BitVec 32 := 1#32
  let arg17 : BitVec 32 := Scf.iv c0_i32_77 c1_i32_79 k0_t8
  let c12_i32_92 : BitVec 32 := 12#32
  let v105 : BitVec 32 := Scalar.muli arg17 c12_i32_92
  let c0_i32_88 : BitVec 32 := 0#32
  let c1_i32_90 : BitVec 32 := 1#32
  let arg18 : BitVec 32 := Scf.iv c0_i32_88 c1_i32_90 k0_t9
  let v106 : BitVec 32 := Scalar.addi v105 arg18
  let c8_i32 : BitVec 32 := 8#32
  let v107 : BitVec 32 := Scalar.muli v106 c8_i32
  let v108 : BitVec 32 := v107
  let v173 : Index := Scalar.indexCast v108
  let c0_118 : Index := 0#32
  ![3, v173.toNat, 0]
@[reducible] def k0_t11_loop : Scf.Loop 32 :=
  let c0_i32_41 : BitVec 32 := 0#32
  let c4_i32_42 : BitVec 32 := 4#32
  let v44 : BitVec 32 := Scalar.addi c0_i32_41 c4_i32_42
  let c1_i32_43 : BitVec 32 := 1#32
  ⟨c0_i32_41, v44, c1_i32_43⟩
@[reducible] def k0_t12_loop : Scf.Loop 32 :=
  let c0_i32_54 : BitVec 32 := 0#32
  let c12_i32_55 : BitVec 32 := 12#32
  let v57 : BitVec 32 := Scalar.addi c0_i32_54 c12_i32_55
  let c1_i32_56 : BitVec 32 := 1#32
  ⟨c0_i32_54, v57, c1_i32_56⟩
def k0_mult33 (k0_t11 : Fin k0_t11_loop.trips) (k0_t12 : Fin k0_t12_loop.trips) : BitVec 32 :=
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  v60
def k0_off45 (k0_t11 : Fin k0_t11_loop.trips) (k0_t12 : Fin k0_t12_loop.trips) : Fin 2 → Nat :=
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v62 : Index := Scalar.indexCast v61
  let c0_59 : Index := 0#32
  ![v62.toNat, 0]
def k0_mult34 : BitVec 32 :=
  let c0_i32_60 : BitVec 32 := 0#32
  c0_i32_60
def k0_off46 (k0_t11 : Fin k0_t11_loop.trips) (k0_t12 : Fin k0_t12_loop.trips) : Fin 2 → Nat :=
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v65 : Index := Scalar.indexCast v61
  let c0_i32_60 : BitVec 32 := 0#32
  let v64 : BitVec 32 := c0_i32_60
  let v66 : Index := Scalar.indexCast v64
  ![v65.toNat, 0]
def k0_mult35 : BitVec 32 :=
  let c48_i32_53 : BitVec 32 := 48#32
  let c2048_i32_61 : BitVec 32 := 2048#32
  let v69 : BitVec 32 := Scalar.muli c48_i32_53 c2048_i32_61
  let c0_i32_62 : BitVec 32 := 0#32
  let v70 : BitVec 32 := Scalar.addi v69 c0_i32_62
  v70
def k0_off47 (c0_i32_62 : BitVec 32) : Fin 2 → Nat :=
  let c0_63 : Index := 0#32
  let c48_i32_53 : BitVec 32 := 48#32
  let c2048_i32_61 : BitVec 32 := 2048#32
  let v69 : BitVec 32 := Scalar.muli c48_i32_53 c2048_i32_61
  let v70 : BitVec 32 := Scalar.addi v69 c0_i32_62
  let v71 : BitVec 32 := v70
  let v72 : Index := Scalar.indexCast v71
  ![0, v72.toNat]
def k0_mult36 : BitVec 32 :=
  let c48_i32_53 : BitVec 32 := 48#32
  let c2048_i32_64 : BitVec 32 := 2048#32
  let v77 : BitVec 32 := Scalar.muli c48_i32_53 c2048_i32_64
  let c0_i32_65 : BitVec 32 := 0#32
  let v78 : BitVec 32 := Scalar.addi v77 c0_i32_65
  v78
def k0_mult37 : BitVec 32 :=
  let c128_i32 : BitVec 32 := 128#32
  c128_i32
def k0_off48 (k0_t11 : Fin k0_t11_loop.trips) (k0_t12 : Fin k0_t12_loop.trips) : Fin 2 → Nat :=
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v87 : Index := Scalar.indexCast v61
  let c128_i32 : BitVec 32 := 128#32
  let v86 : BitVec 32 := c128_i32
  let v88 : Index := Scalar.indexCast v86
  ![v87.toNat, 128]
def k0_mult38 : BitVec 32 :=
  let c48_i32_53 : BitVec 32 := 48#32
  let c2048_i32_68 : BitVec 32 := 2048#32
  let v91 : BitVec 32 := Scalar.muli c48_i32_53 c2048_i32_68
  let c128_i32_69 : BitVec 32 := 128#32
  let v92 : BitVec 32 := Scalar.addi v91 c128_i32_69
  v92
def k0_mult39 : BitVec 32 :=
  let c48_i32_53 : BitVec 32 := 48#32
  let c2048_i32_71 : BitVec 32 := 2048#32
  let v99 : BitVec 32 := Scalar.muli c48_i32_53 c2048_i32_71
  let c128_i32_72 : BitVec 32 := 128#32
  let v100 : BitVec 32 := Scalar.addi v99 c128_i32_72
  v100
@[reducible] def k0_t13_loop : Scf.Loop 32 :=
  let c2_i32 : BitVec 32 := 2#32
  let c14_i32 : BitVec 32 := 14#32
  let v115 : BitVec 32 := Scalar.addi c2_i32 c14_i32
  let c1_i32_77 : BitVec 32 := 1#32
  ⟨c2_i32, v115, c1_i32_77⟩
def k0_mult40 (k0_t13 : Fin k0_t13_loop.trips) : BitVec 32 :=
  let c2_i32 : BitVec 32 := 2#32
  let c1_i32_77 : BitVec 32 := 1#32
  let arg18 : BitVec 32 := Scf.iv c2_i32 c1_i32_77 k0_t13
  let c128_i32_110 : BitVec 32 := 128#32
  let v219 : BitVec 32 := Scalar.muli arg18 c128_i32_110
  v219
def k0_off49 (k0_t11 : Fin k0_t11_loop.trips) (k0_t12 : Fin k0_t12_loop.trips) (k0_t13 : Fin k0_t13_loop.trips) : Fin 2 → Nat :=
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v221 : Index := Scalar.indexCast v61
  let c2_i32 : BitVec 32 := 2#32
  let c1_i32_77 : BitVec 32 := 1#32
  let arg18 : BitVec 32 := Scf.iv c2_i32 c1_i32_77 k0_t13
  let c128_i32_110 : BitVec 32 := 128#32
  let v219 : BitVec 32 := Scalar.muli arg18 c128_i32_110
  let v220 : BitVec 32 := v219
  let v222 : Index := Scalar.indexCast v220
  ![v221.toNat, v222.toNat]
def k0_mult41 (k0_t13 : Fin k0_t13_loop.trips) : BitVec 32 :=
  let c48_i32_53 : BitVec 32 := 48#32
  let c2048_i32_111 : BitVec 32 := 2048#32
  let v225 : BitVec 32 := Scalar.muli c48_i32_53 c2048_i32_111
  let c2_i32 : BitVec 32 := 2#32
  let c1_i32_77 : BitVec 32 := 1#32
  let arg18 : BitVec 32 := Scf.iv c2_i32 c1_i32_77 k0_t13
  let c128_i32_112 : BitVec 32 := 128#32
  let v226 : BitVec 32 := Scalar.muli arg18 c128_i32_112
  let v227 : BitVec 32 := Scalar.addi v225 v226
  v227
def k0_off50 (k0_t13 : Fin k0_t13_loop.trips) : Fin 2 → Nat :=
  let c0_113 : Index := 0#32
  let c48_i32_53 : BitVec 32 := 48#32
  let c2048_i32_111 : BitVec 32 := 2048#32
  let v225 : BitVec 32 := Scalar.muli c48_i32_53 c2048_i32_111
  let c2_i32 : BitVec 32 := 2#32
  let c1_i32_77 : BitVec 32 := 1#32
  let arg18 : BitVec 32 := Scf.iv c2_i32 c1_i32_77 k0_t13
  let c128_i32_112 : BitVec 32 := 128#32
  let v226 : BitVec 32 := Scalar.muli arg18 c128_i32_112
  let v227 : BitVec 32 := Scalar.addi v225 v226
  let v228 : BitVec 32 := v227
  let v229 : Index := Scalar.indexCast v228
  ![0, v229.toNat]
def k0_mult42 (k0_t13 : Fin k0_t13_loop.trips) : BitVec 32 :=
  let c48_i32_53 : BitVec 32 := 48#32
  let c2048_i32_114 : BitVec 32 := 2048#32
  let v234 : BitVec 32 := Scalar.muli c48_i32_53 c2048_i32_114
  let c2_i32 : BitVec 32 := 2#32
  let c1_i32_77 : BitVec 32 := 1#32
  let arg18 : BitVec 32 := Scf.iv c2_i32 c1_i32_77 k0_t13
  let c128_i32_115 : BitVec 32 := 128#32
  let v235 : BitVec 32 := Scalar.muli arg18 c128_i32_115
  let v236 : BitVec 32 := Scalar.addi v234 v235
  v236
def k0_off51 (k0_t11 : Fin k0_t11_loop.trips) (k0_t12 : Fin k0_t12_loop.trips) : Fin 3 → Nat :=
  let c0_79 : Index := 0#32
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v117 : Index := Scalar.indexCast v61
  let c0_80 : Index := 0#32
  ![0, v117.toNat, 0]
def k0_off52 (k0_t11 : Fin k0_t11_loop.trips) (k0_t12 : Fin k0_t12_loop.trips) : Fin 3 → Nat :=
  let c1 : Index := 1#32
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v120 : Index := Scalar.indexCast v61
  let c0_81 : Index := 0#32
  ![1, v120.toNat, 0]
def k0_off53 (k0_t11 : Fin k0_t11_loop.trips) (k0_t12 : Fin k0_t12_loop.trips) : Fin 3 → Nat :=
  let c2 : Index := 2#32
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v123 : Index := Scalar.indexCast v61
  let c0_82 : Index := 0#32
  ![2, v123.toNat, 0]
def k0_off54 (k0_t11 : Fin k0_t11_loop.trips) (k0_t12 : Fin k0_t12_loop.trips) : Fin 3 → Nat :=
  let c3 : Index := 3#32
  let c0_i32_41 : BitVec 32 := 0#32
  let c1_i32_43 : BitVec 32 := 1#32
  let arg16 : BitVec 32 := Scf.iv c0_i32_41 c1_i32_43 k0_t11
  let c12_i32_58 : BitVec 32 := 12#32
  let v58 : BitVec 32 := Scalar.muli arg16 c12_i32_58
  let c0_i32_54 : BitVec 32 := 0#32
  let c1_i32_56 : BitVec 32 := 1#32
  let arg17 : BitVec 32 := Scf.iv c0_i32_54 c1_i32_56 k0_t12
  let v59 : BitVec 32 := Scalar.addi v58 arg17
  let c8_i32 : BitVec 32 := 8#32
  let v60 : BitVec 32 := Scalar.muli v59 c8_i32
  let v61 : BitVec 32 := v60
  let v126 : Index := Scalar.indexCast v61
  let c0_83 : Index := 0#32
  ![3, v126.toNat, 0]
@[reducible] def k0_t14_loop : Scf.Loop 32 :=
  let c0_i32_46 : BitVec 32 := 0#32
  let c48_i32 : BitVec 32 := 48#32
  let v46 : BitVec 32 := Scalar.addi c0_i32_46 c48_i32
  let c1_i32_47 : BitVec 32 := 1#32
  ⟨c0_i32_46, v46, c1_i32_47⟩
def k0_mult43 (k0_t14 : Fin k0_t14_loop.trips) : BitVec 32 :=
  let c0_i32_46 : BitVec 32 := 0#32
  let c1_i32_47 : BitVec 32 := 1#32
  let arg16 : BitVec 32 := Scf.iv c0_i32_46 c1_i32_47 k0_t14
  let c8_i32 : BitVec 32 := 8#32
  let v55 : BitVec 32 := Scalar.muli arg16 c8_i32
  v55
def k0_off55 (k0_t14 : Fin k0_t14_loop.trips) : Fin 3 → Nat :=
  let c0_52 : Index := 0#32
  let c0_i32_46 : BitVec 32 := 0#32
  let c1_i32_47 : BitVec 32 := 1#32
  let arg16 : BitVec 32 := Scf.iv c0_i32_46 c1_i32_47 k0_t14
  let c8_i32 : BitVec 32 := 8#32
  let v55 : BitVec 32 := Scalar.muli arg16 c8_i32
  let v56 : BitVec 32 := v55
  let v59 : Index := Scalar.indexCast v56
  let c0_53 : Index := 0#32
  ![0, v59.toNat, 0]
def k0_off56 (k0_t14 : Fin k0_t14_loop.trips) : Fin 3 → Nat :=
  let c1 : Index := 1#32
  let c0_i32_46 : BitVec 32 := 0#32
  let c1_i32_47 : BitVec 32 := 1#32
  let arg16 : BitVec 32 := Scf.iv c0_i32_46 c1_i32_47 k0_t14
  let c8_i32 : BitVec 32 := 8#32
  let v55 : BitVec 32 := Scalar.muli arg16 c8_i32
  let v56 : BitVec 32 := v55
  let v62 : Index := Scalar.indexCast v56
  let c0_54 : Index := 0#32
  ![1, v62.toNat, 0]
def k0_off57 (k0_t14 : Fin k0_t14_loop.trips) : Fin 3 → Nat :=
  let c2 : Index := 2#32
  let c0_i32_46 : BitVec 32 := 0#32
  let c1_i32_47 : BitVec 32 := 1#32
  let arg16 : BitVec 32 := Scf.iv c0_i32_46 c1_i32_47 k0_t14
  let c8_i32 : BitVec 32 := 8#32
  let v55 : BitVec 32 := Scalar.muli arg16 c8_i32
  let v56 : BitVec 32 := v55
  let v65 : Index := Scalar.indexCast v56
  let c0_55 : Index := 0#32
  ![2, v65.toNat, 0]
def k0_off58 (k0_t14 : Fin k0_t14_loop.trips) : Fin 3 → Nat :=
  let c3 : Index := 3#32
  let c0_i32_46 : BitVec 32 := 0#32
  let c1_i32_47 : BitVec 32 := 1#32
  let arg16 : BitVec 32 := Scf.iv c0_i32_46 c1_i32_47 k0_t14
  let c8_i32 : BitVec 32 := 8#32
  let v55 : BitVec 32 := Scalar.muli arg16 c8_i32
  let v56 : BitVec 32 := v55
  let v68 : Index := Scalar.indexCast v56
  let c0_56 : Index := 0#32
  ![3, v68.toNat, 0]
@[reducible] def k0_t15_loop : Scf.Loop 32 :=
  let c0_i32_72 : BitVec 32 := 0#32
  let c8_i32_73 : BitVec 32 := 8#32
  let v98 : BitVec 32 := Scalar.addi c0_i32_72 c8_i32_73
  let c1_i32_74 : BitVec 32 := 1#32
  ⟨c0_i32_72, v98, c1_i32_74⟩
def k0_off59 (k0_t14 : Fin k0_t14_loop.trips) : Fin 2 → Nat :=
  let c0_i32_46 : BitVec 32 := 0#32
  let c1_i32_47 : BitVec 32 := 1#32
  let arg16 : BitVec 32 := Scf.iv c0_i32_46 c1_i32_47 k0_t14
  let c8_i32 : BitVec 32 := 8#32
  let v55 : BitVec 32 := Scalar.muli arg16 c8_i32
  let v56 : BitVec 32 := v55
  let v100 : Index := Scalar.indexCast v56
  let c0_76 : Index := 0#32
  ![v100.toNat, 0]
@[reducible] def k0_t16_loop : Scf.Loop 32 :=
  let c0_i32_60 : BitVec 32 := 0#32
  let c49_i32_61 : BitVec 32 := 49#32
  let v63 : BitVec 32 := Scalar.addi c0_i32_60 c49_i32_61
  let c1_i32_62 : BitVec 32 := 1#32
  ⟨c0_i32_60, v63, c1_i32_62⟩
def k0_mult44 (k0_t16 : Fin k0_t16_loop.trips) : BitVec 32 :=
  let c0_i32_60 : BitVec 32 := 0#32
  let c1_i32_62 : BitVec 32 := 1#32
  let arg16 : BitVec 32 := Scf.iv c0_i32_60 c1_i32_62 k0_t16
  let c2048_i32_69 : BitVec 32 := 2048#32
  let v66 : BitVec 32 := Scalar.muli arg16 c2048_i32_69
  v66
def k0_off60 (k0_t16 : Fin k0_t16_loop.trips) : Fin 1 → Nat :=
  let c0_i32_60 : BitVec 32 := 0#32
  let c1_i32_62 : BitVec 32 := 1#32
  let arg16 : BitVec 32 := Scf.iv c0_i32_60 c1_i32_62 k0_t16
  let c3_i32_68 : BitVec 32 := 3#32
  let v65 : BitVec 32 := Scalar.remsi arg16 c3_i32_68
  ![v65.toNat]
def k0_off61 (k0_t16 : Fin k0_t16_loop.trips) : Fin 3 → Nat :=
  let c0_i32_60 : BitVec 32 := 0#32
  let c1_i32_62 : BitVec 32 := 1#32
  let arg16 : BitVec 32 := Scf.iv c0_i32_60 c1_i32_62 k0_t16
  let c3_i32_68 : BitVec 32 := 3#32
  let v65 : BitVec 32 := Scalar.remsi arg16 c3_i32_68
  let c0_i32_70 : BitVec 32 := 0#32
  let c0_i32_71 : BitVec 32 := 0#32
  ![v65.toNat, 0, 0]
def k0_off62 (k0_t16 : Fin k0_t16_loop.trips) : Fin 2 → Nat :=
  let c0_i32_72 : BitVec 32 := 0#32
  let c0_i32_60 : BitVec 32 := 0#32
  let c1_i32_62 : BitVec 32 := 1#32
  let arg16 : BitVec 32 := Scf.iv c0_i32_60 c1_i32_62 k0_t16
  let c2048_i32_69 : BitVec 32 := 2048#32
  let v66 : BitVec 32 := Scalar.muli arg16 c2048_i32_69
  let v67 : BitVec 32 := v66
  ![0, v67.toNat]
@[reducible] def k0_t17_loop : Scf.Loop 32 :=
  let c0_i32_76 : BitVec 32 := 0#32
  let c4_i32_77 : BitVec 32 := 4#32
  let v78 : BitVec 32 := Scalar.addi c0_i32_76 c4_i32_77
  let c1_i32_78 : BitVec 32 := 1#32
  ⟨c0_i32_76, v78, c1_i32_78⟩
def k0_mult45 (k0_t17 : Fin k0_t17_loop.trips) : BitVec 32 :=
  let c0_i32_76 : BitVec 32 := 0#32
  let c1_i32_78 : BitVec 32 := 1#32
  let arg17 : BitVec 32 := Scf.iv c0_i32_76 c1_i32_78 k0_t17
  let c512_i32 : BitVec 32 := 512#32
  let v80 : BitVec 32 := Scalar.muli arg17 c512_i32
  v80
def k0_off63 (k0_t16 : Fin k0_t16_loop.trips) (k0_t17 : Fin k0_t17_loop.trips) : Fin 3 → Nat :=
  let c0_i32_60 : BitVec 32 := 0#32
  let c1_i32_62 : BitVec 32 := 1#32
  let arg16 : BitVec 32 := Scf.iv c0_i32_60 c1_i32_62 k0_t16
  let c3_i32_86 : BitVec 32 := 3#32
  let v84 : BitVec 32 := Scalar.remsi arg16 c3_i32_86
  let v85 : Index := Scalar.indexCast v84
  let c0_87 : Index := 0#32
  let c0_i32_76 : BitVec 32 := 0#32
  let c1_i32_78 : BitVec 32 := 1#32
  let arg17 : BitVec 32 := Scf.iv c0_i32_76 c1_i32_78 k0_t17
  let c512_i32 : BitVec 32 := 512#32
  let v80 : BitVec 32 := Scalar.muli arg17 c512_i32
  let v81 : BitVec 32 := v80
  let v86 : Index := Scalar.indexCast v81
  ![v85.toNat, 0, v86.toNat]
def k0_off64 (k0_t17 : Fin k0_t17_loop.trips) : Fin 2 → Nat :=
  let c0_89 : Index := 0#32
  let c0_i32_76 : BitVec 32 := 0#32
  let c1_i32_78 : BitVec 32 := 1#32
  let arg17 : BitVec 32 := Scf.iv c0_i32_76 c1_i32_78 k0_t17
  let c512_i32 : BitVec 32 := 512#32
  let v80 : BitVec 32 := Scalar.muli arg17 c512_i32
  let v81 : BitVec 32 := v80
  let v90 : Index := Scalar.indexCast v81
  ![0, v90.toNat]
@[reducible] def k0_t18_loop : Scf.Loop 32 :=
  let c0_i32_80 : BitVec 32 := 0#32
  let c48_i32_81 : BitVec 32 := 48#32
  let v79 : BitVec 32 := Scalar.addi c0_i32_80 c48_i32_81
  let c1_i32_82 : BitVec 32 := 1#32
  ⟨c0_i32_80, v79, c1_i32_82⟩
def k0_mult46 (k0_t18 : Fin k0_t18_loop.trips) : BitVec 32 :=
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  v80
def k0_off65 (k0_t18 : Fin k0_t18_loop.trips) : Fin 3 → Nat :=
  let c0_84 : Index := 0#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v82 : Index := Scalar.indexCast v81
  let c0_85 : Index := 0#32
  ![0, v82.toNat, 0]
def k0_off66 (k0_t18 : Fin k0_t18_loop.trips) : Fin 3 → Nat :=
  let c1 : Index := 1#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v85 : Index := Scalar.indexCast v81
  let c0_86 : Index := 0#32
  ![1, v85.toNat, 0]
def k0_off67 (k0_t18 : Fin k0_t18_loop.trips) : Fin 3 → Nat :=
  let c2 : Index := 2#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v88 : Index := Scalar.indexCast v81
  let c0_87 : Index := 0#32
  ![2, v88.toNat, 0]
def k0_off68 (k0_t18 : Fin k0_t18_loop.trips) : Fin 3 → Nat :=
  let c3 : Index := 3#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v91 : Index := Scalar.indexCast v81
  let c0_88 : Index := 0#32
  ![3, v91.toNat, 0]
def k0_off69 (k0_t18 : Fin k0_t18_loop.trips) : Fin 3 → Nat :=
  let c4 : Index := 4#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v94 : Index := Scalar.indexCast v81
  let c0_89 : Index := 0#32
  ![4, v94.toNat, 0]
def k0_off70 (k0_t18 : Fin k0_t18_loop.trips) : Fin 3 → Nat :=
  let c5 : Index := 5#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v97 : Index := Scalar.indexCast v81
  let c0_90 : Index := 0#32
  ![5, v97.toNat, 0]
def k0_off71 (k0_t18 : Fin k0_t18_loop.trips) : Fin 3 → Nat :=
  let c6 : Index := 6#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v100 : Index := Scalar.indexCast v81
  let c0_91 : Index := 0#32
  ![6, v100.toNat, 0]
def k0_off72 (k0_t18 : Fin k0_t18_loop.trips) : Fin 3 → Nat :=
  let c7 : Index := 7#32
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v103 : Index := Scalar.indexCast v81
  let c0_92 : Index := 0#32
  ![7, v103.toNat, 0]
def k0_off73 (k0_t18 : Fin k0_t18_loop.trips) : Fin 2 → Nat :=
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v130 : Index := Scalar.indexCast v81
  let c0_109 : Index := 0#32
  ![v130.toNat, 0]
@[reducible] def k0_t19_loop : Scf.Loop 32 :=
  let c0_i32_110 : BitVec 32 := 0#32
  let c16_i32 : BitVec 32 := 16#32
  let v132 : BitVec 32 := Scalar.addi c0_i32_110 c16_i32
  let c1_i32_111 : BitVec 32 := 1#32
  ⟨c0_i32_110, v132, c1_i32_111⟩
def k0_mult47 (k0_t19 : Fin k0_t19_loop.trips) : BitVec 32 :=
  let c0_i32_110 : BitVec 32 := 0#32
  let c1_i32_111 : BitVec 32 := 1#32
  let arg18 : BitVec 32 := Scf.iv c0_i32_110 c1_i32_111 k0_t19
  let c128_i32 : BitVec 32 := 128#32
  let v198 : BitVec 32 := Scalar.muli arg18 c128_i32
  v198
def k0_mult48 (k0_t16 : Fin k0_t16_loop.trips) (k0_t19 : Fin k0_t19_loop.trips) : BitVec 32 :=
  let c0_i32_60 : BitVec 32 := 0#32
  let c1_i32_62 : BitVec 32 := 1#32
  let arg16 : BitVec 32 := Scf.iv c0_i32_60 c1_i32_62 k0_t16
  let c2048_i32_145 : BitVec 32 := 2048#32
  let v200 : BitVec 32 := Scalar.muli arg16 c2048_i32_145
  let c0_i32_110 : BitVec 32 := 0#32
  let c1_i32_111 : BitVec 32 := 1#32
  let arg18 : BitVec 32 := Scf.iv c0_i32_110 c1_i32_111 k0_t19
  let c128_i32_146 : BitVec 32 := 128#32
  let v201 : BitVec 32 := Scalar.muli arg18 c128_i32_146
  let v202 : BitVec 32 := Scalar.addi v200 v201
  v202
def k0_off74 (k0_t18 : Fin k0_t18_loop.trips) (k0_t19 : Fin k0_t19_loop.trips) : Fin 2 → Nat :=
  let c0_i32_80 : BitVec 32 := 0#32
  let c1_i32_82 : BitVec 32 := 1#32
  let arg17 : BitVec 32 := Scf.iv c0_i32_80 c1_i32_82 k0_t18
  let c8_i32 : BitVec 32 := 8#32
  let v80 : BitVec 32 := Scalar.muli arg17 c8_i32
  let v81 : BitVec 32 := v80
  let v204 : Index := Scalar.indexCast v81
  let c0_i32_110 : BitVec 32 := 0#32
  let c1_i32_111 : BitVec 32 := 1#32
  let arg18 : BitVec 32 := Scf.iv c0_i32_110 c1_i32_111 k0_t19
  let c128_i32 : BitVec 32 := 128#32
  let v198 : BitVec 32 := Scalar.muli arg18 c128_i32
  let v199 : BitVec 32 := v198
  let v205 : Index := Scalar.indexCast v199
  ![v204.toNat, v205.toNat]
def k0_off75 (k0_t16 : Fin k0_t16_loop.trips) (k0_t19 : Fin k0_t19_loop.trips) : Fin 2 → Nat :=
  let c0_147 : Index := 0#32
  let c0_i32_60 : BitVec 32 := 0#32
  let c1_i32_62 : BitVec 32 := 1#32
  let arg16 : BitVec 32 := Scf.iv c0_i32_60 c1_i32_62 k0_t16
  let c2048_i32_145 : BitVec 32 := 2048#32
  let v200 : BitVec 32 := Scalar.muli arg16 c2048_i32_145
  let c0_i32_110 : BitVec 32 := 0#32
  let c1_i32_111 : BitVec 32 := 1#32
  let arg18 : BitVec 32 := Scf.iv c0_i32_110 c1_i32_111 k0_t19
  let c128_i32_146 : BitVec 32 := 128#32
  let v201 : BitVec 32 := Scalar.muli arg18 c128_i32_146
  let v202 : BitVec 32 := Scalar.addi v200 v201
  let v203 : BitVec 32 := v202
  let v208 : Index := Scalar.indexCast v203
  ![0, v208.toNat]
@[reducible] def k0_t20_loop : Scf.Loop 32 :=
  let c0_i32_64 : BitVec 32 := 0#32
  let c48_i32_65 : BitVec 32 := 48#32
  let v64 : BitVec 32 := Scalar.addi c0_i32_64 c48_i32_65
  let c1_i32_66 : BitVec 32 := 1#32
  ⟨c0_i32_64, v64, c1_i32_66⟩
def k0_mult49 (k0_t20 : Fin k0_t20_loop.trips) : BitVec 32 :=
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  v65
def k0_off76 (k0_t20 : Fin k0_t20_loop.trips) : Fin 3 → Nat :=
  let c0_68 : Index := 0#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v69 : Index := Scalar.indexCast v66
  let c0_69 : Index := 0#32
  ![0, v69.toNat, 0]
def k0_off77 (k0_t20 : Fin k0_t20_loop.trips) : Fin 3 → Nat :=
  let c1 : Index := 1#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v72 : Index := Scalar.indexCast v66
  let c0_70 : Index := 0#32
  ![1, v72.toNat, 0]
def k0_off78 (k0_t20 : Fin k0_t20_loop.trips) : Fin 3 → Nat :=
  let c2 : Index := 2#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v75 : Index := Scalar.indexCast v66
  let c0_71 : Index := 0#32
  ![2, v75.toNat, 0]
def k0_off79 (k0_t20 : Fin k0_t20_loop.trips) : Fin 3 → Nat :=
  let c3 : Index := 3#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v78 : Index := Scalar.indexCast v66
  let c0_72 : Index := 0#32
  ![3, v78.toNat, 0]
def k0_off80 (k0_t20 : Fin k0_t20_loop.trips) : Fin 3 → Nat :=
  let c4 : Index := 4#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v81 : Index := Scalar.indexCast v66
  let c0_73 : Index := 0#32
  ![4, v81.toNat, 0]
def k0_off81 (k0_t20 : Fin k0_t20_loop.trips) : Fin 3 → Nat :=
  let c5 : Index := 5#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v84 : Index := Scalar.indexCast v66
  let c0_74 : Index := 0#32
  ![5, v84.toNat, 0]
def k0_off82 (k0_t20 : Fin k0_t20_loop.trips) : Fin 3 → Nat :=
  let c6 : Index := 6#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v87 : Index := Scalar.indexCast v66
  let c0_75 : Index := 0#32
  ![6, v87.toNat, 0]
def k0_off83 (k0_t20 : Fin k0_t20_loop.trips) : Fin 3 → Nat :=
  let c7 : Index := 7#32
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v90 : Index := Scalar.indexCast v66
  let c0_76 : Index := 0#32
  ![7, v90.toNat, 0]
@[reducible] def k0_t21_loop : Scf.Loop 32 :=
  let c0_i32_103 : BitVec 32 := 0#32
  let c8_i32_104 : BitVec 32 := 8#32
  let v143 : BitVec 32 := Scalar.addi c0_i32_103 c8_i32_104
  let c1_i32_105 : BitVec 32 := 1#32
  ⟨c0_i32_103, v143, c1_i32_105⟩
def k0_off84 (k0_t20 : Fin k0_t20_loop.trips) : Fin 2 → Nat :=
  let c0_i32_64 : BitVec 32 := 0#32
  let c1_i32_66 : BitVec 32 := 1#32
  let arg16 : BitVec 32 := Scf.iv c0_i32_64 c1_i32_66 k0_t20
  let c8_i32 : BitVec 32 := 8#32
  let v65 : BitVec 32 := Scalar.muli arg16 c8_i32
  let v66 : BitVec 32 := v65
  let v145 : Index := Scalar.indexCast v66
  let c0_107 : Index := 0#32
  ![v145.toNat, 0]
abbrev stage0_0 : Fin 1 → Memref sig .tc .vmem S384x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x100352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x100352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x3840 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S384x1x3840 : Shape := ⟨3, ![384, 1, 3840]⟩
abbrev S3840x100352 : Shape := ⟨2, ![3840, 100352]⟩
abbrev S100352 : Shape := ⟨1, ![100352]⟩
abbrev S384x3840 : Shape := ⟨2, ![384, 3840]⟩
abbrev S384x1 : Shape := ⟨2, ![384, 1]⟩
abbrev S384x100352 : Shape := ⟨2, ![384, 100352]⟩
abbrev S384 : Shape := ⟨1, ![384]⟩
abbrev S1x100352 : Shape := ⟨2, ![1, 100352]⟩
abbrev S384x8 : Shape := ⟨2, ![384, 8]⟩
abbrev S384x1x8 : Shape := ⟨3, ![384, 1, 8]⟩
abbrev S384x1x1 : Shape := ⟨3, ![384, 1, 1]⟩

abbrev nBuf : Space → Nat
  | .hbm => 21
  | .vmem => 5
  | .smem => 0
  | _ => 0

abbrev bufTy : (tb : Table) → Fin (tcTables nBuf tb) → BufTy
  | .hbm, ⟨0, _⟩ => ⟨S384x1x3840, .bf16⟩
  | .hbm, ⟨1, _⟩ => ⟨S3840x100352, .fp8e4m3⟩
  | .hbm, ⟨2, _⟩ => ⟨S100352, .f32⟩
  | .hbm, ⟨3, _⟩ => ⟨S100352, .f32⟩
  | .hbm, ⟨4, _⟩ => ⟨S384x3840, .bf16⟩
  | .hbm, ⟨5, _⟩ => ⟨S384x3840, .fp8e4m3⟩
  | .hbm, ⟨6, _⟩ => ⟨S384x1, .f32⟩
  | .hbm, ⟨7, _⟩ => ⟨S384x100352, .f32⟩
  | .hbm, ⟨8, _⟩ => ⟨S384x100352, .f32⟩
  | .hbm, ⟨9, _⟩ => ⟨S384x100352, .f32⟩
  | .hbm, ⟨10, _⟩ => ⟨S1x100352, .f32⟩
  | .hbm, ⟨11, _⟩ => ⟨S384x100352, .f32⟩
  | .hbm, ⟨12, _⟩ => ⟨S384x100352, .f32⟩
  | .hbm, ⟨13, _⟩ => ⟨S1x100352, .f32⟩
  | .hbm, ⟨14, _⟩ => ⟨S384x100352, .f32⟩
  | .hbm, ⟨15, _⟩ => ⟨S384x100352, .f32⟩
  | .hbm, ⟨16, _⟩ => ⟨S384x8, .f32⟩
  | .hbm, ⟨17, _⟩ => ⟨S384x8, .i32⟩
  | .hbm, ⟨18, _⟩ => ⟨S384x1x8, .f32⟩
  | .hbm, ⟨19, _⟩ => ⟨S384x1x3840, .fp8e4m3⟩
  | .hbm, ⟨20, _⟩ => ⟨S384x1x1, .f32⟩
  | .local _ .vmem, ⟨0, _⟩ => ⟨S384x3840, .bf16⟩
  | .local _ .vmem, ⟨1, _⟩ => ⟨S3840x100352, .fp8e4m3⟩
  | .local _ .vmem, ⟨2, _⟩ => ⟨S384x3840, .fp8e4m3⟩
  | .local _ .vmem, ⟨3, _⟩ => ⟨S384x1, .f32⟩
  | .local _ .vmem, ⟨4, _⟩ => ⟨S384x100352, .f32⟩
  | _, _ => ⟨S384x1x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_values : Ref sig .tc := ⟨.hbm, 16, rfl⟩
abbrev main_indices : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S384x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x100352 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x100352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Base.lean ====
/-
  The kernel's resources by name: its staged blocks and scratch buffers, the 49 column tiles of the weights, the
  three slots of the weight ring and their DMA cells, and the equations that turn the offsets the kernel computes
  into those names. Then the two ways a loop leaves a buffer: filled block by block (`fillTo`), or rewritten step
  by step.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none

/-! ## The buffers -/

/-- The staged blocks: the activations, the column scales, the bias, and the four results. -/
def aX : Memref sig .tc .vmem S384x3840 .bf16 := Memref.whole cc0_stg0_0
def aS : Memref sig .tc .vmem S1x100352 .f32 := Memref.whole cc0_stg1_0
def aN : Memref sig .tc .vmem S1x100352 .f32 := Memref.whole cc0_stg2_0
def aTV : Memref sig .tc .vmem S384x128 .f32 := Memref.whole cc0_stg3_0
def aTI : Memref sig .tc .vmem S384x128 .i32 := Memref.whole cc0_stg4_0
def aQ : Memref sig .tc .vmem S384x3840 .fp8e4m3 := Memref.whole cc0_stg5_0
def aE : Memref sig .tc .vmem S384x1 .f32 := Memref.whole cc0_stg6_0
/-- The scratch buffers: two accumulators, the broadcast token scales, the lists' values and indices, the overflow. -/
def aA : Memref sig .tc .vmem S384x2048 .f32 := Memref.whole cc0_scratch1
def aB : Memref sig .tc .vmem S384x2048 .f32 := Memref.whole cc0_scratch2
def aD : Memref sig .tc .vmem S384x128 .f32 := Memref.whole cc0_scratch3
def aL : Memref sig .tc .vmem S8x384x128 .f32 := Memref.whole cc0_scratch4
def aI : Memref sig .tc .vmem S8x384x128 .f32 := Memref.whole cc0_scratch5
def aC : Memref sig .tc .vmem S384x128 .f32 := Memref.whole cc0_scratch6
/-- The weights, in place, and the ring of three tile slots. -/
abbrev aW : Memref sig .tc .hbm S3840x100352 .fp8e4m3 := Memref.whole main_arg1
abbrev aR : Memref sig .tc .vmem S3x3840x2048 .fp8e4m3 := Memref.whole cc0_scratch0

theorem haX : aX.IsWhole := Memref.isWhole_whole _
theorem haS : aS.IsWhole := Memref.isWhole_whole _
theorem haN : aN.IsWhole := Memref.isWhole_whole _
theorem haTV : aTV.IsWhole := Memref.isWhole_whole _
theorem haTI : aTI.IsWhole := Memref.isWhole_whole _
theorem haQ : aQ.IsWhole := Memref.isWhole_whole _
theorem haE : aE.IsWhole := Memref.isWhole_whole _
theorem haA : aA.IsWhole := Memref.isWhole_whole _
theorem haB : aB.IsWhole := Memref.isWhole_whole _
theorem haD : aD.IsWhole := Memref.isWhole_whole _
theorem haL : aL.IsWhole := Memref.isWhole_whole _
theorem haI : aI.IsWhole := Memref.isWhole_whole _
theorem haC : aC.IsWhole := Memref.isWhole_whole _
theorem haW : aW.IsWhole := Memref.isWhole_whole _
theorem haR : aR.IsWhole := Memref.isWhole_whole _

/-- The contents of a memref's buffer. -/
abbrev Ct {κ : Kind} {sp : Space} {s : Shape} {e : EltTy} (m : Memref sig κ sp s e) : Type := BufTy.Contents (Elt F) m.view.ty

/-- A core's memref held whole, at contents `f`. -/
abbrev own (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-! ## Tiles, slots and cells -/

/-- Tile number `n`. -/
def tl (n : ℕ) : Fin 49 := ⟨n % 49, Nat.mod_lt _ (by decide)⟩
theorem tl_val {n : ℕ} (h : n < 49) : (tl n).val = n := Nat.mod_eq_of_lt h

abbrev tileOff (t : Fin 49) : Fin 2 → Nat := ![0, 2048 * t.val]
theorem tileOff_inb (t : Fin 49) : ∀ a, tileOff t a + S3840x2048.size a ≤ S3840x100352.size a := by
  have := t.isLt; intro a; fin_cases a
  · show 0 + 3840 ≤ 3840; omega
  · show 2048 * t.val + 2048 ≤ 100352; omega
abbrev slotOff (n : ℕ) : Fin 3 → Nat := ![n % 3, 0, 0]
theorem slotOff_inb (n : ℕ) : ∀ a, slotOff n a + S1x3840x2048.size a ≤ S3x3840x2048.size a := by
  intro a; fin_cases a
  · show n % 3 + 1 ≤ 3; omega
  · show 0 + 3840 ≤ 3840; omega
  · show 0 + 2048 ≤ 2048; omega
abbrev semOff (n : ℕ) : Fin 1 → Nat := ![n % 3]
theorem semOff_inb (n : ℕ) : ∀ a, semOff n a + S1.size a ≤ S3.size a := by
  intro a; fin_cases a; show n % 3 + 1 ≤ 3; omega

/-- Tile `t` of the weights: columns `2048 t` to `2048 t + 2047`. -/
def tile (t : Fin 49) : Memref sig .tc .hbm S3840x2048 .fp8e4m3 :=
  aW.slice (Rect.unit (s := S3840x100352) (tileOff t) S3840x2048.size (tileOff_inb t)) (fun _ => rfl)
/-- Slot `n mod 3` of the ring. -/
def rslot (n : ℕ) : Memref sig .tc .vmem S3840x2048 .fp8e4m3 :=
  (aR.slice (Rect.unit (s := S3x3840x2048) (slotOff n) S1x3840x2048.size (slotOff_inb n)) (fun _ => rfl)).squeeze S3840x2048 squeezes_S1x3840x2048_S3840x2048
/-- Its DMA cell. -/
def csm (n : ℕ) : DmaSems sig S_ := (cc0_scratch7.slice (Rect.unit (s := S3) (semOff n) S1.size (semOff_inb n))).squeeze S_ squeezes_S1_S_

instance (n : ℕ) : ClosedOff (slotOff n) := ⟨slotOff n, rfl⟩
instance (t : Fin 49) : ClosedOff (tileOff t) := ⟨tileOff t, rfl⟩

theorem csm_congr {off : Fin 1 → Nat} {n : ℕ} (e : off = semOff n) (hh) :
    (cc0_scratch7.slice (Rect.unit (s := S3) off S1.size hh)).squeeze S_ squeezes_S1_S_ = csm n :=
  congrArg (fun A : DmaSems sig S1 => A.squeeze S_ squeezes_S1_S_) (SemArray.slice_unit_congr _ e _ _)
theorem rslot_congr {off : Fin 3 → Nat} {n : ℕ} (e : off = slotOff n) (hh hs) :
    (aR.slice (Rect.unit (s := S3x3840x2048) off S1x3840x2048.size hh) hs).squeeze S3840x2048 squeezes_S1x3840x2048_S3840x2048 = rslot n :=
  congrArg (fun M : Memref sig .tc .vmem S1x3840x2048 .fp8e4m3 => M.squeeze S3840x2048 squeezes_S1x3840x2048_S3840x2048) (Memref.slice_unit_congr _ e _ _ _ _)
theorem tile_congr {off : Fin 2 → Nat} {t : Fin 49} (e : off = tileOff t) (hh hs) :
    aW.slice (Rect.unit (s := S3840x100352) off S3840x2048.size hh) hs = tile t :=
  Memref.slice_unit_congr _ e _ _ hs (fun _ => rfl)

theorem csm_add (n : ℕ) : csm (n + 3) = csm n := csm_congr (by simp [semOff]) _
theorem rslot_add (n : ℕ) : rslot (n + 3) = rslot n := rslot_congr (by simp [slotOff]) _ _

/-- Word 1 and word 2 as the trips' closed forms name them. -/
theorem off12_1 (k : Fin k0_t4_loop.trips) : k0_off12 k 1#32 = semOff (2 * k.val + 1) := k0_off12_eq k 0
theorem off12_2 (k : Fin k0_t4_loop.trips) : k0_off12 k 2#32 = semOff (2 * k.val + 2) := k0_off12_eq k 1
theorem off13_1 (k : Fin k0_t4_loop.trips) : k0_off13 k 1#32 = slotOff (2 * k.val + 1) := k0_off13_eq k 0
theorem off13_2 (k : Fin k0_t4_loop.trips) : k0_off13 k 2#32 = slotOff (2 * k.val + 2) := k0_off13_eq k 1
theorem trips4 : k0_t4_loop.trips = 24 := by decide
theorem trips16 : k0_t16_loop.trips = 49 := by decide
theorem off14_1 (k : Fin k0_t4_loop.trips) : k0_off14 k 1#32 = tileOff (tl (2 * k.val + 1)) := by
  have h := Nat.lt_of_lt_of_eq k.isLt trips4
  rw [show k0_off14 k 1#32 = _ from k0_off14_eq k 0, tileOff, tl_val (by omega), show 4096 * k.val + 2048 * (0 : Fin 2).val + 2048 = 2048 * (2 * k.val + 1) by simp; omega]
theorem off14_2 (k : Fin k0_t4_loop.trips) : k0_off14 k 2#32 = tileOff (tl (2 * k.val + 2)) := by
  have h := Nat.lt_of_lt_of_eq k.isLt trips4
  rw [show k0_off14 k 2#32 = _ from k0_off14_eq k 1, tileOff, tl_val (by omega), show 4096 * k.val + 2048 * (1 : Fin 2).val + 2048 = 2048 * (2 * k.val + 2) by simp; omega]
theorem off15 (k : Fin k0_t4_loop.trips) : k0_off15 k = semOff (2 * k.val) := by
  rw [k0_off15_eq]; simp [semOff]
theorem off16 (k : Fin k0_t4_loop.trips) : k0_off16 k = slotOff (2 * k.val) := by
  rw [k0_off16_eq]; simp [slotOff]
theorem off17 (k : Fin k0_t4_loop.trips) (hk : k.val < 23) : k0_off17 k = tileOff (tl (2 * k.val + 3)) := by
  rw [k0_off17_eq, tileOff, tl_val (by omega), show 4096 * k.val + 6144 = 2048 * (2 * k.val + 3) by omega]
theorem off30 (k : Fin k0_t4_loop.trips) : k0_off30 k = semOff (2 * k.val + 1) := by
  rw [k0_off30_eq, semOff, show (2 * k.val + 4) % 3 = (2 * k.val + 1) % 3 by omega]
theorem off31 (k : Fin k0_t4_loop.trips) : k0_off31 k = slotOff (2 * k.val + 1) := by
  rw [k0_off31_eq, slotOff, show (2 * k.val + 4) % 3 = (2 * k.val + 1) % 3 by omega]
theorem off32 (k : Fin k0_t4_loop.trips) (hk : k.val < 23) : k0_off32 k = tileOff (tl (2 * k.val + 4)) := by
  rw [k0_off32_eq, tileOff, tl_val (by omega), show 4096 * k.val + 8192 = 2048 * (2 * k.val + 4) by omega]
theorem off62 (k : Fin k0_t16_loop.trips) : k0_off62 k = tileOff (tl k.val) := by
  have h := Nat.lt_of_lt_of_eq k.isLt trips16
  rw [k0_off62_eq, tileOff, tl_val (by omega)]

/-- Before the pair loop: tiles 0, 1 and 2 into slots 0, 1 and 2. -/
@[sl_canon] theorem sem0 (hh) : (cc0_scratch7.slice (Rect.unit (s := S3) (k0_off1 0#32) S1.size hh)).squeeze S_ squeezes_S1_S_ = csm 0 := csm_congr (by decide) _
@[sl_canon] theorem sem1 (hh) : (cc0_scratch7.slice (Rect.unit (s := S3) (k0_off1 1#32) S1.size hh)).squeeze S_ squeezes_S1_S_ = csm 1 := csm_congr (by decide) _
@[sl_canon] theorem sem2 (hh) : (cc0_scratch7.slice (Rect.unit (s := S3) k0_off7 S1.size hh)).squeeze S_ squeezes_S1_S_ = csm 2 := csm_congr (by decide) _
@[sl_canon] theorem slot0 (hh hs) : (aR.slice (Rect.unit (s := S3x3840x2048) (k0_off2 0#32) S1x3840x2048.size hh) hs).squeeze S3840x2048 squeezes_S1x3840x2048_S3840x2048 = rslot 0 := rslot_congr (by decide) _ _
@[sl_canon] theorem slot1 (hh hs) : (aR.slice (Rect.unit (s := S3x3840x2048) (k0_off2 1#32) S1x3840x2048.size hh) hs).squeeze S3840x2048 squeezes_S1x3840x2048_S3840x2048 = rslot 1 := rslot_congr (by decide) _ _
@[sl_canon] theorem slot2 (hh hs) : (aR.slice (Rect.unit (s := S3x3840x2048) k0_off8 S1x3840x2048.size hh) hs).squeeze S3840x2048 squeezes_S1x3840x2048_S3840x2048 = rslot 2 := rslot_congr (by decide) _ _
@[sl_canon] theorem tile0 (hh hs) : aW.slice (Rect.unit (s := S3840x100352) (k0_off3 0#32) S3840x2048.size hh) hs = tile 0 := tile_congr (by decide) _ _
@[sl_canon] theorem tile1 (hh hs) : aW.slice (Rect.unit (s := S3840x100352) (k0_off3 1#32) S3840x2048.size hh) hs = tile 1 := tile_congr (by decide) _ _
@[sl_canon] theorem tile2 (hh hs) : aW.slice (Rect.unit (s := S3840x100352) k0_off9 S3840x2048.size hh) hs = tile 2 := tile_congr (by decide) _ _

/-- Trip `k` of the pair loop: tiles `2k + 1` and `2k + 2` waited for, tiles `2k + 3` and `2k + 4` issued. -/
@[sl_canon] theorem semW1 (k : Fin k0_t4_loop.trips) (hh) : (cc0_scratch7.slice (Rect.unit (s := S3) (k0_off12 k 1#32) S1.size hh)).squeeze S_ squeezes_S1_S_ = csm (2 * k.val + 1) := csm_congr (off12_1 k) _
@[sl_canon] theorem semW2 (k : Fin k0_t4_loop.trips) (hh) : (cc0_scratch7.slice (Rect.unit (s := S3) (k0_off12 k 2#32) S1.size hh)).squeeze S_ squeezes_S1_S_ = csm (2 * k.val + 2) := csm_congr (off12_2 k) _
@[sl_canon] theorem slotW1 (k : Fin k0_t4_loop.trips) (hh hs) : (aR.slice (Rect.unit (s := S3x3840x2048) (k0_off13 k 1#32) S1x3840x2048.size hh) hs).squeeze S3840x2048 squeezes_S1x3840x2048_S3840x2048 = rslot (2 * k.val + 1) := rslot_congr (off13_1 k) _ _
@[sl_canon] theorem slotW2 (k : Fin k0_t4_loop.trips) (hh hs) : (aR.slice (Rect.unit (s := S3x3840x2048) (k0_off13 k 2#32) S1x3840x2048.size hh) hs).squeeze S3840x2048 squeezes_S1x3840x2048_S3840x2048 = rslot (2 * k.val + 2) := rslot_congr (off13_2 k) _ _
@[sl_canon] theorem tileW1 (k : Fin k0_t4_loop.trips) (hh hs) : aW.slice (Rect.unit (s := S3840x100352) (k0_off14 k 1#32) S3840x2048.size hh) hs = tile (tl (2 * k.val + 1)) := tile_congr (off14_1 k) _ _
@[sl_canon] theorem tileW2 (k : Fin k0_t4_loop.trips) (hh hs) : aW.slice (Rect.unit (s := S3840x100352) (k0_off14 k 2#32) S3840x2048.size hh) hs = tile (tl (2 * k.val + 2)) := tile_congr (off14_2 k) _ _
@[sl_canon] theorem semI1 (k : Fin k0_t4_loop.trips) (hh) : (cc0_scratch7.slice (Rect.unit (s := S3) (k0_off15 k) S1.size hh)).squeeze S_ squeezes_S1_S_ = csm (2 * k.val) := csm_congr (off15 k) _
@[sl_canon] theorem semI2 (k : Fin k0_t4_loop.trips) (hh) : (cc0_scratch7.slice (Rect.unit (s := S3) (k0_off30 k) S1.size hh)).squeeze S_ squeezes_S1_S_ = csm (2 * k.val + 1) := csm_congr (off30 k) _
@[sl_canon] theorem slotI1 (k : Fin k0_t4_loop.trips) (hh hs) : (aR.slice (Rect.unit (s := S3x3840x2048) (k0_off16 k) S1x3840x2048.size hh) hs).squeeze S3840x2048 squeezes_S1x3840x2048_S3840x2048 = rslot (2 * k.val) := rslot_congr (off16 k) _ _
@[sl_canon] theorem slotI2 (k : Fin k0_t4_loop.trips) (hh hs) : (aR.slice (Rect.unit (s := S3x3840x2048) (k0_off31 k) S1x3840x2048.size hh) hs).squeeze S3840x2048 squeezes_S1x3840x2048_S3840x2048 = rslot (2 * k.val + 1) := rslot_congr (off31 k) _ _
@[sl_canon] theorem tileI1 (k : Fin k0_t4_loop.trips) (hk : k.val < 23) (hh hs) : aW.slice (Rect.unit (s := S3840x100352) (k0_off17 k) S3840x2048.size hh) hs = tile (tl (2 * k.val + 3)) := tile_congr (off17 k hk) _ _
@[sl_canon] theorem tileI2 (k : Fin k0_t4_loop.trips) (hk : k.val < 23) (hh hs) : aW.slice (Rect.unit (s := S3840x100352) (k0_off32 k) S3840x2048.size hh) hs = tile (tl (2 * k.val + 4)) := tile_congr (off32 k hk) _ _

/-- Trip `k` of the second pass: tile `k` through slot `k mod 3`. -/
@[sl_canon] theorem semS (k : Fin k0_t16_loop.trips) (hh) : (cc0_scratch7.slice (Rect.unit (s := S3) (k0_off60 k) S1.size hh)).squeeze S_ squeezes_S1_S_ = csm k.val := csm_congr (k0_off60_eq k) _
@[sl_canon] theorem slotS (k : Fin k0_t16_loop.trips) (hh hs) : (aR.slice (Rect.unit (s := S3x3840x2048) (k0_off61 k) S1x3840x2048.size hh) hs).squeeze S3840x2048 squeezes_S1x3840x2048_S3840x2048 = rslot k.val := rslot_congr (k0_off61_eq k) _ _
@[sl_canon] theorem tileS (k : Fin k0_t16_loop.trips) (hh hs) : aW.slice (Rect.unit (s := S3840x100352) (k0_off62 k) S3840x2048.size hh) hs = tile (tl k.val) := tile_congr (off62 k) _ _

/-- The conditions under which a further tile is issued: all trips but the last. -/
theorem cond1_true : k0_cond1 = 1#1 := by decide
theorem cond2_iff : ∀ k : Fin k0_t4_loop.trips, k0_cond2 k = 1#1 ↔ k.val < 23 := by decide +kernel
theorem cond3_iff : ∀ k : Fin k0_t4_loop.trips, k0_cond3 k = 1#1 ↔ k.val < 23 := by decide +kernel

/-! ## The pieces -/

section Pieces
variable (c : Dev nD) (XW : Buf (Elt F) (aW.view.loc (c : Thread nD τ)))

abbrev cellP (n : ℕ) : sProp 𝕄 := semVal ((c : Thread nD τ), SemLoc.dma (csm n).sem) 0
abbrev slotP (n : ℕ) (f : Buf (Elt F) ((rslot n).view.loc (c : Thread nD τ))) : sProp 𝕄 :=
  (rslot n).view.loc (c : Thread nD τ) ↦[(rslot n).view.set]{fullShare} f
/-- Tile `t` at home: held on its elements at the weights' contents. -/
abbrev homeP (t : Fin 49) : sProp 𝕄 := (tile t).view.loc (c : Thread nD τ) ↦[(tile t).view.set]{fullShare} XW
/-- Tile `t` as a slot's payload. -/
abbrev payload (t : Fin 49) : S3840x2048.Idx → Elt F .fp8e4m3 := ReadAs.same.apply ((tile t).view.read (Elt F) XW)
/-- What tile `t`'s transfer leaves in slot `n` over contents `f`. -/
abbrev landed (n : ℕ) (t : Fin 49) (f : Buf (Elt F) ((rslot n).view.loc (c : Thread nD τ))) : Buf (Elt F) ((rslot n).view.loc (c : Thread nD τ)) :=
  (rslot n).view.writes (Elt F) f [⟨Rect.whole S3840x2048, payload c XW t⟩]
/-- Slot `n` in flight with tile `t`, issued over `f`. -/
abbrev flightP (n : ℕ) (t : Fin 49) (f : Buf (Elt F) ((rslot n).view.loc (c : Thread nD τ))) : sProp 𝕄 :=
  Transfers.Flight countersEmb (c : Thread nD τ) (SemLoc.dma (csm n).sem) () 245760 iprop(slotP c n (landed c XW n t f) ∗ homeP c XW t)

end Pieces

/-! ## A buffer filled block by block -/

section Fill
variable {κ : Kind} {sp : Space} {s : Shape} {e : EltTy}

/-- The pieces of the trips before trip `k`, the last first. -/
def pieces (p : ℕ → View.Piece (Elt F) s e) : ℕ → List (View.Piece (Elt F) s e)
  | 0 => []
  | k + 1 => p k :: pieces p k

/-- A buffer's contents before trip `k` of `T`, trip `j` storing the piece `p j`: over `f` while the trips go on, over
    nothing in particular once all have stored. -/
def fillTo (m : Memref sig κ sp s e) (T : ℕ) (p : ℕ → View.Piece (Elt F) s e) (f : m.view.ty.Contents (Elt F)) : ℕ → m.view.ty.Contents (Elt F)
  | 0 => f
  | k + 1 => m.view.writes (Elt F) (if k + 1 = T then m.view.junk else f) (pieces p (k + 1))

/-- All trips done, the buffer does not depend on what it held. -/
theorem fillTo_all (m : Memref sig κ sp s e) (T : ℕ) (p : ℕ → View.Piece (Elt F) s e) (f : m.view.ty.Contents (Elt F)) (hT : 0 < T) :
    fillTo m T p f T = m.view.writes (Elt F) m.view.junk (pieces p T) := by
  obtain ⟨k, rfl⟩ : ∃ k, T = k + 1 := ⟨T - 1, by omega⟩
  simp [fillTo]

theorem mem_pieces (p : ℕ → View.Piece (Elt F) s e) {T j : ℕ} (h : j < T) : p j ∈ pieces p T := by
  induction T with
  | zero => omega
  | succ k ih =>
    rcases Nat.lt_succ_iff_lt_or_eq.mp h with h | rfl
    · exact List.mem_cons_of_mem _ (ih h)
    · exact List.mem_cons_self

/-- Writes that cover a whole buffer leave the same whatever it held. -/
theorem writes_cover {m : Memref sig κ sp s e} (hw : m.IsWhole) (f g : m.view.ty.Contents (Elt F)) (L : List (View.Piece (Elt F) s e))
    (hc : ∀ y, ∃ q ∈ L, y ∈ q.1.set) : m.view.writes (Elt F) f L = m.view.writes (Elt F) g L := by
  obtain ⟨b, rfl, rfl, rfl, h⟩ := hw; cases h
  exact View.read_writes_of_cover (View.whole b) f (View.whole b) g L hc

/-- One trip's store takes the contents before trip `k` to those before trip `k + 1`. -/
theorem fillTo_succ {m : Memref sig κ sp s e} (hw : m.IsWhole) {T : ℕ} {p : ℕ → View.Piece (Elt F) s e} (f : m.view.ty.Contents (Elt F))
    (hc : ∀ y, ∃ q ∈ pieces p T, y ∈ q.1.set) {k : ℕ} (hk : k < T) :
    m.view.writes (Elt F) (fillTo m T p f k) [p k] = fillTo m T p f (k + 1) := by
  have e : fillTo m T p f k = m.view.writes (Elt F) f (pieces p k) := by
    cases k with
    | zero => rfl
    | succ j => simp [fillTo, show j + 1 ≠ T by omega]
  rw [e, ← View.writes_append]
  show m.view.writes (Elt F) f (pieces p (k + 1)) = _
  by_cases h : k + 1 = T
  · simp only [fillTo, if_pos h]; subst h; exact writes_cover hw _ _ _ hc
  · simp only [fillTo, if_neg h]

end Fill

/-- A block of 512 columns of slot `n` lies in the slot. -/
theorem slot_cols (n b : ℕ) (hb : b < 4) {off : Fin 3 → Nat} (e : off = ![n % 3, 0, 512 * b]) (inb) :
    (aR.access (Rect.unit (s := S3x3840x2048) off S1x3840x512.size inb)).set ⊆ (rslot n).view.set := by
  subst e
  refine Finset.Subset.trans (?_ : _ ⊆ (aR.view.slice (Rect.unit (s := S3x3840x2048) (slotOff n) S1x3840x2048.size (slotOff_inb n))).set)
    (Finset.subset_of_eq (View.set_reshape _ _).symm)
  refine Finset.Subset.trans (Finset.subset_of_eq (View.set_slice _ _)) (Finset.Subset.trans ?_ (Finset.subset_of_eq (View.set_slice _ _).symm))
  refine Finset.map_subset_map.2 fun y hy => ?_
  rw [Rect.mem_set_unit] at hy ⊢
  intro a
  have := hy a
  fin_cases a
  · simpa [slotOff] using this
  · simpa [slotOff] using this
  · have h2 := hy 2
    simp [slotOff] at h2 ⊢
    omega

end Cert.KernelIdeal.Hand

end
-- ==== Proof.KernelIdeal.Fold.lean ====
/-
  The fast fold of one tile's columns into the lists: per group of eight rows the best, second and third of the
  tile's sixteen slabs in every lane, the first two entered in the lists, the third kept as the overflow. The
  kernel has the loop three times: over the accumulator of an even tile, of an odd tile, and of the last one.
-/
module

public import proofs.«01_k».proof.Proof.KernelIdeal.Base

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lists' values, the lists' indices and the overflow. -/
abbrev LIC (F : FTy → Type) : Type := Ct (F := F) aL × Ct (F := F) aI × Ct (F := F) aC
/-- Five vectors: the running best value, its slab, the second value, its slab, the third value. -/
abbrev V5 (F : FTy → Type) : Type := FVec F S8x128 .f32 × FVec F S8x128 .f32 × FVec F S8x128 .f32 × FVec F S8x128 .f32 × FVec F S8x128 .f32

/-! ## Loop `7`: the third best of a group's sixteen slabs -/

section T7
variable (c : Dev nD) (k4 : Fin k0_t4_loop.trips) (k5 : Fin k0_t5_loop.trips) (w1 : BitVec 32) (k6 : Fin k0_t6_loop.trips) (w2 : BitVec 32) (u1 : Vec F S8x128 .f32) (u2 u3 u4 : FVec F S8x128 .f32) (w3 w4 : BitVec 32) (XS : Ct (F := F) aS) (XN : Ct (F := F) aN) (XA : Ct (F := F) aA)

set_option backward.proofsInPublic true in
/-- One slab folded in: what the trip yields from `a`. -/
def trip7 (k : Fin k0_t7_loop.trips) (a : V5 F) :
    { r : V5 F // own c aS XS ∗ own c aN XN ∗ own c aA XA
      ⊢ wp frame (wpE (defs₀ (F := F)) 𝒱₀ (c : Thread nD τ) none) Set.univ (k0_t7_body (F := F) aX haX aW haW aS haS aN haN aTV haTV aTI haTI aQ haQ aE haE aR haR aA haA aB haB aD haD aL haL aI haI aC haC cc0_scratch7 k4 k5 w1 k6 w2 u1 u2 u3 u4 w3 w4 k a)
        (fun y => iprop(⌜y = r⌝ ∗ own c aS XS ∗ own c aN XN ∗ own c aA XA)) } := by
  have hk : k.val < 14 := Nat.lt_of_lt_of_le k.isLt k0_t7_abs.2.1
  refine ⟨?_, ?run⟩
  case run =>
    unfold k0_t7_body
    iintro ⟨H1, H2, H3⟩
    sl_exec
    sl_step
    sl_close

/-- The running vectors before slab trip `k`. -/
def st7 (i : V5 F) : ℕ → V5 F
  | 0 => i
  | k + 1 => if h : k < k0_t7_loop.trips then (trip7 c k4 k5 w1 k6 w2 u1 u2 u3 u4 w3 w4 XS XN XA ⟨k, h⟩ (st7 i k)).1 else st7 i k

set_option warn.classDefReducibility false in
/-- The loop's invariant: the rows read, and the running vectors. -/
@[sl_loop] def loopInv7 (i : V5 F) :
    LoopInvTy_k0_t7 (F := F) Unit ℕ (Pipeline.UD sig nD τ) ℕ 𝒱₀ c none Set.univ aX haX aW haW aS haS aN haN aTV haTV aTI haTI aQ haQ aE haE aR haR aA haA aB haB aD haD aL haL aI haI aC haC cc0_scratch7 k4 k5 w1 k6 w2 u1 u2 u3 u4 w3 w4 i where
  inv k a := iprop(own c aS XS ∗ own c aN XN ∗ own c aA XA ∗ ⌜a = st7 c k4 k5 w1 k6 w2 u1 u2 u3 u4 w3 w4 XS XN XA i k⌝)
  step k a := by
    iintro ⟨H1, H2, H3, %ea⟩
    subst ea
    have e : st7 c k4 k5 w1 k6 w2 u1 u2 u3 u4 w3 w4 XS XN XA i (k.val + 1) = (trip7 c k4 k5 w1 k6 w2 u1 u2 u3 u4 w3 w4 XS XN XA k (st7 c k4 k5 w1 k6 w2 u1 u2 u3 u4 w3 w4 XS XN XA i k.val)).1 := by
      rw [st7, dif_pos k.isLt]
    rw [e]
    iapply (wp_wand_r frame (wpE (defs₀ (F := F)) 𝒱₀ (c : Thread nD τ) none) Set.univ)
    isplitl [H1 H2 H3]
    · iapply (trip7 c k4 k5 w1 k6 w2 u1 u2 u3 u4 w3 w4 XS XN XA k (st7 c k4 k5 w1 k6 w2 u1 u2 u3 u4 w3 w4 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T7

/-! ## Loop `6`: the first accumulator's columns folded into the lists, group of rows by group -/

section T6
variable (c : Dev nD) (d0 d1 : BitVec 32) (k4 : Fin k0_t4_loop.trips) (k5 : Fin k0_t5_loop.trips) (w0 w1 : BitVec 32) (XS : Ct (F := F) aS) (XN : Ct (F := F) aN) (XA : Ct (F := F) aA) (XD : Ct (F := F) aD)

set_option backward.proofsInPublic true in
/-- One group of eight rows: its best and second best entered in the lists, its third best against the overflow. -/
def trip6 (k : Fin k0_t6_loop.trips) (x : LIC F) :
    { r : LIC F // own c aS XS ∗ own c aN XN ∗ own c aA XA ∗ own c aD XD ∗ own c aL x.1 ∗ own c aI x.2.1 ∗ own c aC x.2.2
      ⊢ wp frame (wpE (defs₀ (F := F)) 𝒱₀ (c : Thread nD τ) none) Set.univ (k0_t6_body (F := F) aX haX aW haW aS haS aN haN aTV haTV aTI haTI aQ haQ aE haE aR haR aA haA aB haB aD haD aL haL aI haI aC haC cc0_scratch7 d0 d1 k4 k5 w0 w1 k ())
        (fun _ => iprop(own c aS XS ∗ own c aN XN ∗ own c aA XA ∗ own c aD XD ∗ own c aL r.1 ∗ own c aI r.2.1 ∗ own c aC r.2.2)) } := by
  refine ⟨⟨?_, ?_, ?_⟩, ?run⟩
  case run =>
    sl_unfold [k0_t6_body]
    iintro ⟨H1, H2, H3, H4, H5, H6, H7⟩
    sl_exec
    sl_step
    sl_close

/-- The lists and the overflow before group `k`. -/
def st6 (x : LIC F) : ℕ → LIC F
  | 0 => x
  | k + 1 => if h : k < k0_t6_loop.trips then (trip6 c d0 d1 k4 k5 w0 w1 XS XN XA XD ⟨k, h⟩ (st6 x k)).1 else st6 x k

set_option warn.classDefReducibility false in
/-- The loop's invariant. -/
@[sl_loop] def loopInv6 (x : Ct (F := F) aL) (y : Ct (F := F) aI) (z : Ct (F := F) aC) :
    LoopInvTy_k0_t6 (F := F) Unit ℕ (Pipeline.UD sig nD τ) ℕ 𝒱₀ c none Set.univ aX haX aW haW aS haS aN haN aTV haTV aTI haTI aQ haQ aE haE aR haR aA haA aB haB aD haD aL haL aI haI aC haC cc0_scratch7 d0 d1 k4 k5 w0 w1 where
  inv k _ := iprop(own c aS XS ∗ own c aN XN ∗ own c aA XA ∗ own c aD XD ∗ own c aL (st6 c d0 d1 k4 k5 w0 w1 XS XN XA XD (x, y, z) k).1
    ∗ own c aI (st6 c d0 d1 k4 k5 w0 w1 XS XN XA XD (x, y, z) k).2.1 ∗ own c aC (st6 c d0 d1 k4 k5 w0 w1 XS XN XA XD (x, y, z) k).2.2)
  step k _ := by
    have e : st6 c d0 d1 k4 k5 w0 w1 XS XN XA XD (x, y, z) (k.val + 1) = (trip6 c d0 d1 k4 k5 w0 w1 XS XN XA XD k (st6 c d0 d1 k4 k5 w0 w1 XS XN XA XD (x, y, z) k.val)).1 := by
      rw [st6, dif_pos k.isLt]
    rw [e]
    exact (trip6 c d0 d1 k4 k5 w0 w1 XS XN XA XD k (st6 c d0 d1 k4 k5 w0 w1 XS XN XA XD (x, y, z) k.val)).2

end T6

/-! ## Loop `10`: the third best of a group's sixteen slabs -/

section T10
variable (c : Dev nD) (k4 : Fin k0_t4_loop.trips) (k8 : Fin k0_t8_loop.trips) (w1 : BitVec 32) (k9 : Fin k0_t9_loop.trips) (w2 : BitVec 32) (u1 : Vec F S8x128 .f32) (u2 u3 u4 : FVec F S8x128 .f32) (w3 w4 : BitVec 32) (XS : Ct (F := F) aS) (XN : Ct (F := F) aN) (XA : Ct (F := F) aB)

set_option backward.proofsInPublic true in
/-- One slab folded in: what the trip yields from `a`. -/
def trip10 (k : Fin k0_t10_loop.trips) (a : V5 F) :
    { r : V5 F // own c aS XS ∗ own c aN XN ∗ own c aB XA
      ⊢ wp frame (wpE (defs₀ (F := F)) 𝒱₀ (c : Thread nD τ) none) Set.univ (k0_t10_body (F := F) aX haX aW haW aS haS aN haN aTV haTV aTI haTI aQ haQ aE haE aR haR aA haA aB haB aD haD aL haL aI haI aC haC cc0_scratch7 k4 k8 w1 k9 w2 u1 u2 u3 u4 w3 w4 k a)
        (fun y => iprop(⌜y = r⌝ ∗ own c aS XS ∗ own c aN XN ∗ own c aB XA)) } := by
  have hk : k.val < 14 := Nat.lt_of_lt_of_le k.isLt k0_t10_abs.2.1
  refine ⟨?_, ?run⟩
  case run =>
    unfold k0_t10_body
    iintro ⟨H1, H2, H3⟩
    sl_exec
    sl_step
    sl_close

/-- The running vectors before slab trip `k`. -/
def st10 (i : V5 F) : ℕ → V5 F
  | 0 => i
  | k + 1 => if h : k < k0_t10_loop.trips then (trip10 c k4 k8 w1 k9 w2 u1 u2 u3 u4 w3 w4 XS XN XA ⟨k, h⟩ (st10 i k)).1 else st10 i k

set_option warn.classDefReducibility false in
/-- The loop's invariant: the rows read, and the running vectors. -/
@[sl_loop] def loopInv10 (i : V5 F) :
    LoopInvTy_k0_t10 (F := F) Unit ℕ (Pipeline.UD sig nD τ) ℕ 𝒱₀ c none Set.univ aX haX aW haW aS haS aN haN aTV haTV aTI haTI aQ haQ aE haE aR haR aA haA aB haB aD haD aL haL aI haI aC haC cc0_scratch7 k4 k8 w1 k9 w2 u1 u2 u3 u4 w3 w4 i where
  inv k a := iprop(own c aS XS ∗ own c aN XN ∗ own c aB XA ∗ ⌜a = st10 c k4 k8 w1 k9 w2 u1 u2 u3 u4 w3 w4 XS XN XA i k⌝)
  step k a := by
    iintro ⟨H1, H2, H3, %ea⟩
    subst ea
    have e : st10 c k4 k8 w1 k9 w2 u1 u2 u3 u4 w3 w4 XS XN XA i (k.val + 1) = (trip10 c k4 k8 w1 k9 w2 u1 u2 u3 u4 w3 w4 XS XN XA k (st10 c k4 k8 w1 k9 w2 u1 u2 u3 u4 w3 w4 XS XN XA i k.val)).1 := by
      rw [st10, dif_pos k.isLt]
    rw [e]
    iapply (wp_wand_r frame (wpE (defs₀ (F := F)) 𝒱₀ (c : Thread nD τ) none) Set.univ)
    isplitl [H1 H2 H3]
    · iapply (trip10 c k4 k8 w1 k9 w2 u1 u2 u3 u4 w3 w4 XS XN XA k (st10 c k4 k8 w1 k9 w2 u1 u2 u3 u4 w3 w4 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T10

/-! ## Loop `9`: the second accumulator's columns folded in -/

section T9
variable (c : Dev nD) (g : FVec F S384x128 .f32) (k4 : Fin k0_t4_loop.trips) (w5 : BitVec 32) (k8 : Fin k0_t8_loop.trips) (w0 w1 : BitVec 32) (XS : Ct (F := F) aS) (XN : Ct (F := F) aN) (XA : Ct (F := F) aB) (XD : Ct (F := F) aD)

set_option backward.proofsInPublic true in
/-- One group of eight rows: its best and second best entered in the lists, its third best against the overflow. -/
def trip9 (k : Fin k0_t9_loop.trips) (x : LIC F) :
    { r : LIC F // own c aS XS ∗ own c aN XN ∗ own c aB XA ∗ own c aD XD ∗ own c aL x.1 ∗ own c aI x.2.1 ∗ own c aC x.2.2
      ⊢ wp frame (wpE (defs₀ (F := F)) 𝒱₀ (c : Thread nD τ) none) Set.univ (k0_t9_body (F := F) aX haX aW haW aS haS aN haN aTV haTV aTI haTI aQ haQ aE haE aR haR aA haA aB haB aD haD aL haL aI haI aC haC cc0_scratch7 g k4 w5 k8 w0 w1 k ())
        (fun _ => iprop(own c aS XS ∗ own c aN XN ∗ own c aB XA ∗ own c aD XD ∗ own c aL r.1 ∗ own c aI r.2.1 ∗ own c aC r.2.2)) } := by
  refine ⟨⟨?_, ?_, ?_⟩, ?run⟩
  case run =>
    sl_unfold [k0_t9_body]
    iintro ⟨H1, H2, H3, H4, H5, H6, H7⟩
    sl_exec
    sl_step
    sl_close

/-- The lists and the overflow before group `k`. -/
def st9 (x : LIC F) : ℕ → LIC F
  | 0 => x
  | k + 1 => if h : k < k0_t9_loop.trips then (trip9 c g k4 w5 k8 w0 w1 XS XN XA XD ⟨k, h⟩ (st9 x k)).1 else st9 x k

set_option warn.classDefReducibility false in
/-- The loop's invariant. -/
@[sl_loop] def loopInv9 (x : Ct (F := F) aL) (y : Ct (F := F) aI) (z : Ct (F := F) aC) :
    LoopInvTy_k0_t9 (F := F) Unit ℕ (Pipeline.UD sig nD τ) ℕ 𝒱₀ c none Set.univ aX haX aW haW aS haS aN haN aTV haTV aTI haTI aQ haQ aE haE aR haR aA haA aB haB aD haD aL haL aI haI aC haC cc0_scratch7 g k4 w5 k8 w0 w1 where
  inv k _ := iprop(own c aS XS ∗ own c aN XN ∗ own c aB XA ∗ own c aD XD ∗ own c aL (st9 c g k4 w5 k8 w0 w1 XS XN XA XD (x, y, z) k).1
    ∗ own c aI (st9 c g k4 w5 k8 w0 w1 XS XN XA XD (x, y, z) k).2.1 ∗ own c aC (st9 c g k4 w5 k8 w0 w1 XS XN XA XD (x, y, z) k).2.2)
  step k _ := by
    have e : st9 c g k4 w5 k8 w0 w1 XS XN XA XD (x, y, z) (k.val + 1) = (trip9 c g k4 w5 k8 w0 w1 XS XN XA XD k (st9 c g k4 w5 k8 w0 w1 XS XN XA XD (x, y, z) k.val)).1 := by
      rw [st9, dif_pos k.isLt]
    rw [e]
    exact (trip9 c g k4 w5 k8 w0 w1 XS XN XA XD k (st9 c g k4 w5 k8 w0 w1 XS XN XA XD (x, y, z) k.val)).2

end T9

/-! ## Loop `13`: the third best of a group's sixteen slabs -/

section T13
variable (c : Dev nD) (k11 : Fin k0_t11_loop.trips) (w1 : BitVec 32) (k12 : Fin k0_t12_loop.trips) (w2 : BitVec 32) (u1 : Vec F S8x128 .f32) (u2 u3 u4 : FVec F S8x128 .f32) (w3 w4 : BitVec 32) (XS : Ct (F := F) aS) (XN : Ct (F := F) aN) (XA : Ct (F := F) aA)

set_option backward.proofsInPublic true in
/-- One slab folded in: what the trip yields from `a`. -/
def trip13 (k : Fin k0_t13_loop.trips) (a : V5 F) :
    { r : V5 F // own c aS XS ∗ own c aN XN ∗ own c aA XA
      ⊢ wp frame (wpE (defs₀ (F := F)) 𝒱₀ (c : Thread nD τ) none) Set.univ (k0_t13_body (F := F) aX haX aW haW aS haS aN haN aTV haTV aTI haTI aQ haQ aE haE aR haR aA haA aB haB aD haD aL haL aI haI aC haC cc0_scratch7 k11 w1 k12 w2 u1 u2 u3 u4 w3 w4 k a)
        (fun y => iprop(⌜y = r⌝ ∗ own c aS XS ∗ own c aN XN ∗ own c aA XA)) } := by
  have hk : k.val < 14 := Nat.lt_of_lt_of_le k.isLt k0_t13_abs.2.1
  refine ⟨?_, ?run⟩
  case run =>
    unfold k0_t13_body
    iintro ⟨H1, H2, H3⟩
    sl_exec
    sl_step
    sl_close

/-- The running vectors before slab trip `k`. -/
def st13 (i : V5 F) : ℕ → V5 F
  | 0 => i
  | k + 1 => if h : k < k0_t13_loop.trips then (trip13 c k11 w1 k12 w2 u1 u2 u3 u4 w3 w4 XS XN XA ⟨k, h⟩ (st13 i k)).1 else st13 i k

set_option warn.classDefReducibility false in
/-- The loop's invariant: the rows read, and the running vectors. -/
@[sl_loop] def loopInv13 (i : V5 F) :
    LoopInvTy_k0_t13 (F := F) Unit ℕ (Pipeline.UD sig nD τ) ℕ 𝒱₀ c none Set.univ aX haX aW haW aS haS aN haN aTV haTV aTI haTI aQ haQ aE haE aR haR aA haA aB haB aD haD aL haL aI haI aC haC cc0_scratch7 k11 w1 k12 w2 u1 u2 u3 u4 w3 w4 i where
  inv k a := iprop(own c aS XS ∗ own c aN XN ∗ own c aA XA ∗ ⌜a = st13 c k11 w1 k12 w2 u1 u2 u3 u4 w3 w4 XS XN XA i k⌝)
  step k a := by
    iintro ⟨H1, H2, H3, %ea⟩
    subst ea
    have e : st13 c k11 w1 k12 w2 u1 u2 u3 u4 w3 w4 XS XN XA i (k.val + 1) = (trip13 c k11 w1 k12 w2 u1 u2 u3 u4 w3 w4 XS XN XA k (st13 c k11 w1 k12 w2 u1 u2 u3 u4 w3 w4 XS XN XA i k.val)).1 := by
      rw [st13, dif_pos k.isLt]
    rw [e]
    iapply (wp_wand_r frame (wpE (defs₀ (F := F)) 𝒱₀ (c : Thread nD τ) none) Set.univ)
    isplitl [H1 H2 H3]
    · iapply (trip13 c k11 w1 k12 w2 u1 u2 u3 u4 w3 w4 XS XN XA k (st13 c k11 w1 k12 w2 u1 u2 u3 u4 w3 w4 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T13

/-! ## Loop `12`: the last tile's columns folded in -/

section T12
variable (c : Dev nD) (g : FVec F S384x128 .f32) (k11 : Fin k0_t11_loop.trips) (w0 : BitVec 32) (XS : Ct (F := F) aS) (XN : Ct (F := F) aN) (XA : Ct (F := F) aA) (XD : Ct (F := F) aD)

set_option backward.proofsInPublic true in
/-- One group of eight rows: its best and second best entered in the lists, its third best against the overflow. -/
def trip12 (k : Fin k0_t12_loop.trips) (x : LIC F) :
    { r : LIC F // own c aS XS ∗ own c aN XN ∗ own c aA XA ∗ own c aD XD ∗ own c aL x.1 ∗ own c aI x.2.1 ∗ own c aC x.2.2
      ⊢ wp frame (wpE (defs₀ (F := F)) 𝒱₀ (c : Thread nD τ) none) Set.univ (k0_t12_body (F := F) aX haX aW haW aS haS aN haN aTV haTV aTI haTI aQ haQ aE haE aR haR aA haA aB haB aD haD aL haL aI haI aC haC cc0_scratch7 g k11 w0 k ())
        (fun _ => iprop(own c aS XS ∗ own c aN XN ∗ own c aA XA ∗ own c aD XD ∗ own c aL r.1 ∗ own c aI r.2.1 ∗ own c aC r.2.2)) } := by
  refine ⟨⟨?_, ?_, ?_⟩, ?run⟩
  case run =>
    sl_unfold [k0_t12_body]
    iintro ⟨H1, H2, H3, H4, H5, H6, H7⟩
    sl_exec
    sl_step
    sl_close

/-- The lists and the overflow before group `k`. -/
def st12 (x : LIC F) : ℕ → LIC F
  | 0 => x
  | k + 1 => if h : k < k0_t12_loop.trips then (trip12 c g k11 w0 XS XN XA XD ⟨k, h⟩ (st12 x k)).1 else st12 x k

set_option warn.classDefReducibility false in
/-- The loop's invariant. -/
@[sl_loop] def loopInv12 (x : Ct (F := F) aL) (y : Ct (F := F) aI) (z : Ct (F := F) aC) :
    LoopInvTy_k0_t12 (F := F) Unit ℕ (Pipeline.UD sig nD τ) ℕ 𝒱₀ c none Set.univ aX haX aW haW aS haS aN haN aTV haTV aTI haTI aQ haQ aE haE aR haR aA haA aB haB aD haD aL haL aI haI aC haC cc0_scratch7 g k11 w0 where
  inv k _ := iprop(own c aS XS ∗ own c aN XN ∗ own c aA XA ∗ own c aD XD ∗ own c aL (st12 c g k11 w0 XS XN XA XD (x, y, z) k).1
    ∗ own c aI (st12 c g k11 w0 XS XN XA XD (x, y, z) k).2.1 ∗ own c aC (st12 c g k11 w0 XS XN XA XD (x, y, z) k).2.2)
  step k _ := by
    have e : st12 c g k11 w0 XS XN XA XD (x, y, z) (k.val + 1) = (trip12 c g k11 w0 XS XN XA XD k (st12 c g k11 w0 XS XN XA XD (x, y, z) k.val)).1 := by
      rw [st12, dif_pos k.isLt]
    rw [e]
    exact (trip12 c g k11 w0 XS XN XA XD k (st12 c g k11 w0 XS XN XA XD (x, y, z) k.val)).2

end T12

/-! ## Loop `11`: the last tile's four runs of groups -/

section T11
variable (c : Dev nD) (g : FVec F S384x128 .f32) (XS : Ct (F := F) aS) (XN : Ct (F := F) aN) (XA : Ct (F := F) aA) (XD : Ct (F := F) aD)

set_option backward.proofsInPublic true in
/-- One run of twelve groups. -/
def trip11 (k : Fin k0_t11_loop.trips) (x : LIC F) :
    { r : LIC F // own c aS XS ∗ own c aN XN ∗ own c aA XA ∗ own c aD XD ∗ own c aL x.1 ∗ own c aI x.2.1 ∗ own c aC x.2.2
      ⊢ wp frame (wpE (defs₀ (F := F)) 𝒱₀ (c : Thread nD τ) none) Set.univ (k0_t11_body (F := F) aX haX aW haW aS haS aN haN aTV haTV aTI haTI aQ haQ aE haE aR haR aA haA aB haB aD haD aL haL aI haI aC haC cc0_scratch7 g k ())
        (fun _ => iprop(own c aS XS ∗ own c aN XN ∗ own c aA XA ∗ own c aD XD ∗ own c aL r.1 ∗ own c aI r.2.1 ∗ own c aC r.2.2)) } := by
  refine ⟨⟨?_, ?_, ?_⟩, ?run⟩
  case run =>
    sl_unfold [k0_t11_body]
    iintro ⟨H1, H2, H3, H4, H5, H6, H7⟩
    sl_exec
    sl_step
    sl_close

/-- The lists and the overflow before run `k`. -/
def st11 (x : LIC F) : ℕ → LIC F
  | 0 => x
  | k + 1 => if h : k < k0_t11_loop.trips then (trip11 c g XS XN XA XD ⟨k, h⟩ (st11 x k)).1 else st11 x k

set_option warn.classDefReducibility false in
/-- The loop's invariant. -/
def loopInv11 (x : Ct (F := F) aL) (y : Ct (F := F) aI) (z : Ct (F := F) aC) :
    LoopInvTy_k0_t11 (F := F) Unit ℕ (Pipeline.UD sig nD τ) ℕ 𝒱₀ c none Set.univ aX haX aW haW aS haS aN haN aTV haTV aTI haTI aQ haQ aE haE aR haR aA haA aB haB aD haD aL haL aI haI aC haC cc0_scratch7 g where
  inv k _ := iprop(own c aS XS ∗ own c aN XN ∗ own c aA XA ∗ own c aD XD ∗ own c aL (st11 c g XS XN XA XD (x, y, z) k).1
    ∗ own c aI (st11 c g XS XN XA XD (x, y, z) k).2.1 ∗ own c aC (st11 c g XS XN XA XD (x, y, z) k).2.2)
  step k _ := by
    have e : st11 c g XS XN XA XD (x, y, z) (k.val + 1) = (trip11 c g XS XN XA XD k (st11 c g XS XN XA XD (x, y, z) k.val)).1 := by
      rw [st11, dif_pos k.isLt]
    rw [e]
    exact (trip11 c g XS XN XA XD k (st11 c g XS XN XA XD (x, y, z) k.val)).2

end T11

end Cert.KernelIdeal.Hand

end
-- ==== Proof.KernelIdeal.Fill.lean ====
/-
  The loops that fill a buffer block by block: the quantiser (twelve blocks of 32 rows) and a tile's product with the
  codes (four blocks of 512 columns), the latter interleaved with the fast fold of the tile before it.
-/
module

public import proofs.«01_k».proof.Proof.KernelIdeal.Fold

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The piece past the last trip. -/
def noPiece (s : Shape) (e : EltTy) : View.Piece (Elt F) s e := ⟨Rect.whole _, fun _ => (inferInstance : ∀ e, Nonempty (Elt F e)) e |>.some⟩

/-- Blocks that reach every index cover the shape. -/
theorem cover_of_off {s : Shape} {e : EltTy} {T : ℕ} (p : ℕ → View.Piece (Elt F) s e) (off : Fin T → Fin s.rank → Nat) (size : Fin s.rank → Nat)
    (h : ∀ k : Fin T, ∃ inb w, p k.val = ⟨Rect.unit (off k) size inb, w⟩)
    (hc : ∀ y : s.Idx, ∃ k : Fin T, ∀ a, off k a ≤ (y a).val ∧ (y a).val < off k a + size a) :
    ∀ y, ∃ q ∈ pieces p T, y ∈ q.1.set := by
  intro y
  obtain ⟨k, hk⟩ := hc y
  obtain ⟨inb, w, e⟩ := h k
  refine ⟨p k.val, mem_pieces p k.isLt, ?_⟩
  rw [e]; exact (Rect.mem_set_unit (inb := inb)).2 hk

/-- Four blocks of 512 columns reach every index; -/
theorem cols_cover (y : S384x2048.Idx) : ∃ k : Fin 4, ∀ a, (![0, 512 * k.val] : Fin 2 → Nat) a ≤ (y a).val ∧ (y a).val < (![0, 512 * k.val] : Fin 2 → Nat) a + S384x512.size a := by
  have h0 := (y 0).isLt; have h1 := (y 1).isLt
  change (y 0).val < 384 at h0; change (y 1).val < 2048 at h1
  refine ⟨⟨(y 1).val / 512, by omega⟩, fun a => ?_⟩
  fin_cases a
  · show 0 ≤ (y 0).val ∧ (y 0).val < 0 + 384; omega
  · show 512 * ((y 1).val / 512) ≤ (y 1).val ∧ (y 1).val < 512 * ((y 1).val / 512) + 512; omega
/-- and `T` blocks of `n` whole rows do. -/
theorem rows_cover {n m T : ℕ} (hn : 0 < n) (hT : 384 = n * T) (y : Shape.Idx ⟨2, ![384, m]⟩) :
    ∃ k : Fin T, ∀ a, (![n * k.val, 0] : Fin 2 → Nat) a ≤ (y a).val ∧ (y a).val < (![n * k.val, 0] : Fin 2 → Nat) a + (![n, m] : Fin 2 → Nat) a := by
  have h0 : (y 0).val < 384 := (y 0).isLt
  have h1 : (y 1).val < m := (y 1).isLt
  refine ⟨⟨(y 0).val / n, Nat.div_lt_of_lt_mul (by omega)⟩, fun a => ?_⟩
  have := Nat.div_add_mod (y 0).val n
  have := Nat.mod_lt (y 0).val hn
  fin_cases a
  · show n * ((y 0).val / n) ≤ (y 0).val ∧ (y 0).val < n * ((y 0).val / n) + n; omega
  · show 0 ≤ (y 1).val ∧ (y 1).val < 0 + m; omega

/-! ## Loop `1`: the quantiser -/

section T1
variable (c : Dev nD) (XX : Ct (F := F) aX)

abbrev R1q (k : Fin k0_t1_loop.trips) : Rect S384x3840 := Rect.unit (s := S384x3840) (k0_off4 k) S32x3840.size (k0_off4_inb k)
abbrev R1e (k : Fin k0_t1_loop.trips) : Rect S384x1 := Rect.unit (s := S384x1) (k0_off5 k) S32x1.size (k0_off5_inb k)
abbrev R1d (k : Fin k0_t1_loop.trips) : Rect S384x128 := Rect.unit (s := S384x128) (k0_off6 k) S32x128.size (k0_off6_inb k)

set_option backward.proofsInPublic true in
/-- One block of 32 rows: its codes, its scales, its scales over the lanes. -/
def trip1 (k : Fin k0_t1_loop.trips) :
    { w : ((R1q k).shape.Idx → Elt F .fp8e4m3) × ((R1e k).shape.Idx → Elt F .f32) × ((R1d k).shape.Idx → Elt F .f32) //
        ∀ (f : Ct (F := F) aQ) (g : Ct (F := F) aE) (h : Ct (F := F) aD), own c aX XX ∗ own c aQ f ∗ own c aE g ∗ own c aD h
      ⊢ wp frame (wpE (defs₀ (F := F)) 𝒱₀ (c : Thread nD τ) none) Set.univ (k0_t1_body (F := F) aX haX aW haW aS haS aN haN aTV haTV aTI haTI aQ haQ aE haE aR haR aA haA aB haB aD haD aL haL aI haI aC haC cc0_scratch7 k ())
        (fun _ => iprop(own c aX XX ∗ own c aQ (aQ.view.writes (Elt F) f [⟨R1q k, w.1⟩]) ∗ own c aE (aE.view.writes (Elt F) g [⟨R1e k, w.2.1⟩])
          ∗ own c aD (aD.view.writes (Elt F) h [⟨R1d k, w.2.2⟩]))) } := by
  refine ⟨⟨?_, ?_, ?_⟩, fun f g h => ?run⟩
  case run =>
    sl_unfold [k0_t1_body]
    iintro ⟨H1, H2, H3, H4⟩
    sl_exec
    sl_step
    sl_close

theorem trips1 : k0_t1_loop.trips = 12 := by decide

def p1q (k : ℕ) : View.Piece (Elt F) S384x3840 .fp8e4m3 :=
  if h : k < k0_t1_loop.trips then ⟨R1q ⟨k, h⟩, (trip1 c XX ⟨k, h⟩).1.1⟩ else noPiece _ _
theorem p1q_eq (k : Fin k0_t1_loop.trips) : p1q c XX k.val = ⟨R1q k, (trip1 c XX k).1.1⟩ := dif_pos k.isLt
theorem cover1q : ∀ y, ∃ q ∈ pieces (p1q c XX) k0_t1_loop.trips, y ∈ q.1.set := by
  refine cover_of_off _ (fun k => k0_off4 k) S32x3840.size (fun k => ⟨_, _, p1q_eq c XX k⟩) fun y => ?_
  obtain ⟨k, hk⟩ := rows_cover (n := 32) (T := 12) (by decide) (by decide) y
  refine ⟨⟨k.val, by rw [trips1]; exact k.isLt⟩, fun a => ?_⟩
  rw [k0_off4_eq]; exact hk a

def p1e (k : ℕ) : View.Piece (Elt F) S384x1 .f32 :=
  if h : k < k0_t1_loop.trips then ⟨R1e ⟨k, h⟩, (trip1 c XX ⟨k, h⟩).1.2.1⟩ else noPiece _ _
theorem p1e_eq (k : Fin k0_t1_loop.trips) : p1e c XX k.val = ⟨R1e k, (trip1 c XX k).1.2.1⟩ := dif_pos k.isLt
theorem cover1e : ∀ y, ∃ q ∈ pieces (p1e c XX) k0_t1_loop.trips, y ∈ q.1.set := by
  refine cover_of_off _ (fun k => k0_off5 k) S32x1.size (fun k => ⟨_, _, p1e_eq c XX k⟩) fun y => ?_
  obtain ⟨k, hk⟩ := rows_cover (n := 32) (T := 12) (by decide) (by decide) y
  refine ⟨⟨k.val, by rw [trips1]; exact k.isLt⟩, fun a => ?_⟩
  rw [k0_off5_eq]; exact hk a

def p1d (k : ℕ) : View.Piece (Elt F) S384x128 .f32 :=
  if h : k < k0_t1_loop.trips then ⟨R1d ⟨k, h⟩, (trip1 c XX ⟨k, h⟩).1.2.2⟩ else noPiece _ _
theorem p1d_eq (k : Fin k0_t1_loop.trips) : p1d c XX k.val = ⟨R1d k, (trip1 c XX k).1.2.2⟩ := dif_pos k.isLt
theorem cover1d : ∀ y, ∃ q ∈ pieces (p1d c XX) k0_t1_loop.trips, y ∈ q.1.set := by
  refine cover_of_off _ (fun k => k0_off6 k) S32x128.size (fun k => ⟨_, _, p1d_eq c XX k⟩) fun y => ?_
  obtain ⟨k, hk⟩ := rows_cover (n := 32) (T := 12) (by decide) (by decide) y
  refine ⟨⟨k.val, by rw [trips1]; exact k.isLt⟩, fun a => ?_⟩
  rw [k0_off6_eq]; exact hk a

set_option warn.classDefReducibility false in
/-- The loop's invariant. -/
@[sl_loop] def loopInv1 (f : Ct (F := F) aQ) (g : Ct (F := F) aE) (h : Ct (F := F) aD) :
    LoopInvTy_k0_t1 (F := F) Unit ℕ (Pipeline.UD sig nD τ) ℕ 𝒱₀ c none Set.univ aX haX aW haW aS haS aN haN aTV haTV aTI haTI aQ haQ aE haE aR haR aA haA aB haB aD haD aL haL aI haI aC haC cc0_scratch7 where
  inv k _ := iprop(own c aX XX ∗ own c aQ (fillTo aQ k0_t1_loop.trips (p1q c XX) f k) ∗ own c aE (fillTo aE k0_t1_loop.trips (p1e c XX) g k)
    ∗ own c aD (fillTo aD k0_t1_loop.trips (p1d c XX) h k))
  step k _ := by
    rw [← fillTo_succ haQ f (cover1q c XX) k.isLt, p1q_eq, ← fillTo_succ haE g (cover1e c XX) k.isLt, p1e_eq,
      ← fillTo_succ haD h (cover1d c XX) k.isLt, p1d_eq]
    exact (trip1 c XX k).2 _ _ _

end T1

/-! ## Loop `3`: the first tile's product -/

section T3
variable (c : Dev nD) (g : FVec F S384x128 .f32) (XQ : Ct (F := F) aQ) (XR : Buf (Elt F) ((rslot 0).view.loc (c : Thread nD τ)))

abbrev R3 (k : Fin k0_t3_loop.trips) : Rect S384x2048 := Rect.unit (s := S384x2048) (k0_off11 k) S384x512.size (k0_off11_inb k)

theorem trips3 : k0_t3_loop.trips = 4 := by decide

set_option backward.proofsInPublic true in
/-- One block of 512 columns. -/
def trip3 (k : Fin k0_t3_loop.trips) :
    { w : (R3 k).shape.Idx → Elt F .f32 // ∀ f : Ct (F := F) aA, own c aQ XQ ∗ slotP c 0 XR ∗ own c aA f
      ⊢ wp frame (wpE (defs₀ (F := F)) 𝒱₀ (c : Thread nD τ) none) Set.univ (k0_t3_body (F := F) aX haX aW haW aS haS aN haN aTV haTV aTI haTI aQ haQ aE haE aR haR aA haA aB haB aD haD aL haL aI haI aC haC cc0_scratch7 g k ())
        (fun _ => iprop(own c aQ XQ ∗ slotP c 0 XR ∗ own c aA (aA.view.writes (Elt F) f [⟨R3 k, w⟩]))) } := by
  refine ⟨?_, fun f => ?run⟩
  case run =>
    have hS := slot_cols (0) k.val (trips3 ▸ k.isLt) (k0_off10_eq  k) (k0_off10_inb  k)
    sl_unfold [k0_t3_body]
    iintro ⟨H1, H2, H3⟩
    sl_exec
    sl_step
    sl_close

/-- Trip `k`'s block. -/
def p3 (k : ℕ) : View.Piece (Elt F) S384x2048 .f32 :=
  if h : k < k0_t3_loop.trips then ⟨R3 ⟨k, h⟩, (trip3 c g XQ XR ⟨k, h⟩).1⟩ else noPiece _ _
theorem p3_eq (k : Fin k0_t3_loop.trips) : p3 c g XQ XR k.val = ⟨R3 k, (trip3 c g XQ XR k).1⟩ := dif_pos k.isLt
theorem cover3 : ∀ y, ∃ q ∈ pieces (p3 c g XQ XR) k0_t3_loop.trips, y ∈ q.1.set := by
  refine cover_of_off _ (fun k => k0_off11 k) S384x512.size (fun k => ⟨_, _, p3_eq c g XQ XR k⟩) fun y => ?_
  obtain ⟨k, hk⟩ := cols_cover y
  refine ⟨⟨k.val, by rw [trips3]; exact k.isLt⟩, fun a => ?_⟩
  rw [k0_off11_eq]; exact hk a

set_option warn.classDefReducibility false in
/-- The loop's invariant. -/
@[sl_loop] def loopInv3 (f : Ct (F := F) aA) :
    LoopInvTy_k0_t3 (F := F) Unit ℕ (Pipeline.UD sig nD τ) ℕ 𝒱₀ c none Set.univ aX haX aW haW aS haS aN haN aTV haTV aTI haTI aQ haQ aE haE aR haR aA haA aB haB aD haD aL haL aI haI aC haC cc0_scratch7 g where
  inv k _ := iprop(own c aQ XQ ∗ slotP c 0 XR ∗ own c aA (fillTo aA k0_t3_loop.trips (p3 c g XQ XR) f k))
  step k _ := by
    rw [← fillTo_succ haA f (cover3 c g XQ XR) k.isLt, p3_eq]
    exact (trip3 c g XQ XR k).2 _

end T3

/-! ## Loop `17`: a tile's product in the second pass -/

section T17
variable (c : Dev nD) (k16 : Fin k0_t16_loop.trips) (XQ : Ct (F := F) aQ) (XR : Buf (Elt F) ((rslot k16.val).view.loc (c : Thread nD τ)))

abbrev R17 (k : Fin k0_t17_loop.trips) : Rect S384x2048 := Rect.unit (s := S384x2048) (k0_off64 k) S384x512.size (k0_off64_inb k)

theorem trips17 : k0_t17_loop.trips = 4 := by decide

set_option backward.proofsInPublic true in
/-- One block of 512 columns. -/
def trip17 (k : Fin k0_t17_loop.trips) :
    { w : (R17 k).shape.Idx → Elt F .f32 // ∀ f : Ct (F := F) aA, own c aQ XQ ∗ slotP c k16.val XR ∗ own c aA f
      ⊢ wp frame (wpE (defs₀ (F := F)) 𝒱₀ (c : Thread nD τ) none) Set.univ (k0_t17_body (F := F) aX haX aW haW aS haS aN haN aTV haTV aTI haTI aQ haQ aE haE aR haR aA haA aB haB aD haD aL haL aI haI aC haC cc0_scratch7 k16 k ())
        (fun _ => iprop(own c aQ XQ ∗ slotP c k16.val XR ∗ own c aA (aA.view.writes (Elt F) f [⟨R17 k, w⟩]))) } := by
  refine ⟨?_, fun f => ?run⟩
  case run =>
    have hS := slot_cols (k16.val) k.val (trips17 ▸ k.isLt) (k0_off63_eq k16 k) (k0_off63_inb k16 k)
    sl_unfold [k0_t17_body]
    iintro ⟨H1, H2, H3⟩
    sl_exec
    sl_step
    sl_close

/-- Trip `k`'s block. -/
def p17 (k : ℕ) : View.Piece (Elt F) S384x2048 .f32 :=
  if h : k < k0_t17_loop.trips then ⟨R17 ⟨k, h⟩, (trip17 c k16 XQ XR ⟨k, h⟩).1⟩ else noPiece _ _
theorem p17_eq (k : Fin k0_t17_loop.trips) : p17 c k16 XQ XR k.val = ⟨R17 k, (trip17 c k16 XQ XR k).1⟩ := dif_pos k.isLt
theorem cover17 : ∀ y, ∃ q ∈ pieces (p17 c k16 XQ XR) k0_t17_loop.trips, y ∈ q.1.set := by
  refine cover_of_off _ (fun k => k0_off64 k) S384x512.size (fun k => ⟨_, _, p17_eq c k16 XQ XR k⟩) fun y => ?_
  obtain ⟨k, hk⟩ := cols_cover y
  refine ⟨⟨k.val, by rw [trips17]; exact k.isLt⟩, fun a => ?_⟩
  rw [k0_off64_eq]; exact hk a

set_option warn.classDefReducibility false in
/-- The loop's invariant. -/
@[sl_loop] def loopInv17 (f : Ct (F := F) aA) :
    LoopInvTy_k0_t17 (F := F) Unit ℕ (Pipeline.UD sig nD τ) ℕ 𝒱₀ c none Set.univ aX haX aW haW aS haS aN haN aTV haTV aTI haTI aQ haQ aE haE aR haR aA haA aB haB aD haD aL haL aI haI aC haC cc0_scratch7 k16 where
  inv k _ := iprop(own c aQ XQ ∗ slotP c k16.val XR ∗ own c aA (fillTo aA k0_t17_loop.trips (p17 c k16 XQ XR) f k))
  step k _ := by
    rw [← fillTo_succ haA f (cover17 c k16 XQ XR) k.isLt, p17_eq]
    exact (trip17 c k16 XQ XR k).2 _

end T17

/-! ## Loop `5`: an odd tile's product, and the fold of the tile before it -/

section T5
variable (c : Dev nD) (d0 d1 : BitVec 32) (k4 : Fin k0_t4_loop.trips) (w9 : BitVec 32) (XS : Ct (F := F) aS) (XN : Ct (F := F) aN) (XA : Ct (F := F) aA) (XD : Ct (F := F) aD)
  (XQ : Ct (F := F) aQ) (XR : Buf (Elt F) ((rslot (2 * k4.val + 1)).view.loc (c : Thread nD τ)))

abbrev R5 (k : Fin k0_t5_loop.trips) : Rect S384x2048 := Rect.unit (s := S384x2048) (k0_off19 k) S384x512.size (k0_off19_inb k)

theorem trips5 : k0_t5_loop.trips = 4 := by decide

set_option backward.proofsInPublic true in
/-- One block of 512 columns of this tile, and twelve groups of the tile before. -/
def trip5 (k : Fin k0_t5_loop.trips) (x : LIC F) :
    { w : ((R5 k).shape.Idx → Elt F .f32) × LIC F // ∀ f : Ct (F := F) aB,
        own c aS XS ∗ own c aN XN ∗ own c aA XA ∗ own c aD XD ∗ own c aQ XQ ∗ slotP c (2 * k4.val + 1) XR ∗ own c aB f
          ∗ own c aL x.1 ∗ own c aI x.2.1 ∗ own c aC x.2.2
      ⊢ wp frame (wpE (defs₀ (F := F)) 𝒱₀ (c : Thread nD τ) none) Set.univ (k0_t5_body (F := F) aX haX aW haW aS haS aN haN aTV haTV aTI haTI aQ haQ aE haE aR haR aA haA aB haB aD haD aL haL aI haI aC haC cc0_scratch7 d0 d1 k4 w9 k ())
        (fun _ => iprop(own c aS XS ∗ own c aN XN ∗ own c aA XA ∗ own c aD XD ∗ own c aQ XQ ∗ slotP c (2 * k4.val + 1) XR
          ∗ own c aB (aB.view.writes (Elt F) f [⟨R5 k, w.1⟩]) ∗ own c aL w.2.1 ∗ own c aI w.2.2.1 ∗ own c aC w.2.2.2)) } := by
  refine ⟨⟨?_, ?_, ?_, ?_⟩, fun f => ?run⟩
  case run =>
    have hS := slot_cols ((2 * k4.val + 1)) k.val (trips5 ▸ k.isLt) (k0_off18_eq k4 k) (k0_off18_inb k4 k)
    sl_unfold [k0_t5_body]
    iintro ⟨H1, H2, H3, H4, H5, H6, H7, H8, H9, H10⟩
    sl_exec
    sl_step
    sl_close

/-- The lists and the overflow before trip `k`. -/
def st5 (x : LIC F) : ℕ → LIC F
  | 0 => x
  | k + 1 => if h : k < k0_t5_loop.trips then (trip5 c d0 d1 k4 w9 XS XN XA XD XQ XR ⟨k, h⟩ (st5 x k)).1.2 else st5 x k
/-- Trip `k`'s block. -/
def p5 (x : LIC F) (k : ℕ) : View.Piece (Elt F) S384x2048 .f32 :=
  if h : k < k0_t5_loop.trips then ⟨R5 ⟨k, h⟩, (trip5 c d0 d1 k4 w9 XS XN XA XD XQ XR ⟨k, h⟩ (st5 c d0 d1 k4 w9 XS XN XA XD XQ XR x k)).1.1⟩ else noPiece _ _
theorem p5_eq (x : LIC F) (k : Fin k0_t5_loop.trips) : p5 c d0 d1 k4 w9 XS XN XA XD XQ XR x k.val
    = ⟨R5 k, (trip5 c d0 d1 k4 w9 XS XN XA XD XQ XR k (st5 c d0 d1 k4 w9 XS XN XA XD XQ XR x k.val)).1.1⟩ := dif_pos k.isLt
theorem cover5 (x : LIC F) : ∀ y, ∃ q ∈ pieces (p5 c d0 d1 k4 w9 XS XN XA XD XQ XR x) k0_t5_loop.trips, y ∈ q.1.set := by
  refine cover_of_off _ (fun k => k0_off19 k) S384x512.size (fun k => ⟨_, _, p5_eq c d0 d1 k4 w9 XS XN XA XD XQ XR x k⟩) fun y => ?_
  obtain ⟨k, hk⟩ := cols_cover y
  refine ⟨⟨k.val, by rw [trips5]; exact k.isLt⟩, fun a => ?_⟩
  rw [k0_off19_eq]; exact hk a

set_option warn.classDefReducibility false in
/-- The loop's invariant. -/
@[sl_loop] def loopInv5 (f : Ct (F := F) aB) (x : Ct (F := F) aL) (y : Ct (F := F) aI) (z : Ct (F := F) aC) :
    LoopInvTy_k0_t5 (F := F) Unit ℕ (Pipeline.UD sig nD τ) ℕ 𝒱₀ c none Set.univ aX haX aW haW aS haS aN haN aTV haTV aTI haTI aQ haQ aE haE aR haR aA haA aB haB aD haD aL haL aI haI aC haC cc0_scratch7 d0 d1 k4 w9 where
  inv k _ := iprop(own c aS XS ∗ own c aN XN ∗ own c aA XA ∗ own c aD XD ∗ own c aQ XQ ∗ slotP c (2 * k4.val + 1) XR
    ∗ own c aB (fillTo aB k0_t5_loop.trips (p5 c d0 d1 k4 w9 XS XN XA XD XQ XR (x, y, z)) f k)
    ∗ own c aL (st5 c d0 d1 k4 w9 XS XN XA XD XQ XR (x, y, z) k).1 ∗ own c aI (st5 c d0 d1 k4 w9 XS XN XA XD XQ XR (x, y, z) k).2.1
    ∗ own c aC (st5 c d0 d1 k4 w9 XS XN XA XD XQ XR (x, y, z) k).2.2)
  step k _ := by
    have e : st5 c d0 d1 k4 w9 XS XN XA XD XQ XR (x, y, z) (k.val + 1)
        = (trip5 c d0 d1 k4 w9 XS XN XA XD XQ XR k (st5 c d0 d1 k4 w9 XS XN XA XD XQ XR (x, y, z) k.val)).1.2 := by
      rw [st5, dif_pos k.isLt]
    rw [e, ← fillTo_succ haB f (cover5 c d0 d1 k4 w9 XS XN XA XD XQ XR (x, y, z)) k.isLt, p5_eq]
    exact (trip5 c d0 d1 k4 w9 XS XN XA XD XQ XR k (st5 c d0 d1 k4 w9 XS XN XA XD XQ XR (x, y, z) k.val)).2 _

end T5

/-! ## Loop `8`: an even tile's product, and the fold of the tile before it -/

section T8
variable (c : Dev nD) (g : FVec F S384x128 .f32) (k4 : Fin k0_t4_loop.trips) (w9 : BitVec 32) (XS : Ct (F := F) aS) (XN : Ct (F := F) aN) (XA : Ct (F := F) aB) (XD : Ct (F := F) aD)
  (XQ : Ct (F := F) aQ) (XR : Buf (Elt F) ((rslot (2 * k4.val + 2)).view.loc (c : Thread nD τ)))

abbrev R8 (k : Fin k0_t8_loop.trips) : Rect S384x2048 := Rect.unit (s := S384x2048) (k0_off34 k) S384x512.size (k0_off34_inb k)

theorem trips8 : k0_t8_loop.trips = 4 := by decide

set_option backward.proofsInPublic true in
/-- One block of 512 columns of this tile, and twelve groups of the tile before. -/
def trip8 (k : Fin k0_t8_loop.trips) (x : LIC F) :
    { w : ((R8 k).shape.Idx → Elt F .f32) × LIC F // ∀ f : Ct (F := F) aA,
        own c aS XS ∗ own c aN XN ∗ own c aB XA ∗ own c aD XD ∗ own c aQ XQ ∗ slotP c (2 * k4.val + 2) XR ∗ own c aA f
          ∗ own c aL x.1 ∗ own c aI x.2.1 ∗ own c aC x.2.2
      ⊢ wp frame (wpE (defs₀ (F := F)) 𝒱₀ (c : Thread nD τ) none) Set.univ (k0_t8_body (F := F) aX haX aW haW aS haS aN haN aTV haTV aTI haTI aQ haQ aE haE aR haR aA haA aB haB aD haD aL haL aI haI aC haC cc0_scratch7 g k4 w9 k ())
        (fun _ => iprop(own c aS XS ∗ own c aN XN ∗ own c aB XA ∗ own c aD XD ∗ own c aQ XQ ∗ slotP c (2 * k4.val + 2) XR
          ∗ own c aA (aA.view.writes (Elt F) f [⟨R8 k, w.1⟩]) ∗ own c aL w.2.1 ∗ own c aI w.2.2.1 ∗ own c aC w.2.2.2)) } := by
  refine ⟨⟨?_, ?_, ?_, ?_⟩, fun f => ?run⟩
  case run =>
    have hS := slot_cols ((2 * k4.val + 2)) k.val (trips8 ▸ k.isLt) (k0_off33_eq k4 k) (k0_off33_inb k4 k)
    sl_unfold [k0_t8_body]
    iintro ⟨H1, H2, H3, H4, H5, H6, H7, H8, H9, H10⟩
    sl_exec
    sl_step
    sl_close

/-- The lists and the overflow before trip `k`. -/
def st8 (x : LIC F) : ℕ → LIC F
  | 0 => x
  | k + 1 => if h : k < k0_t8_loop.trips then (trip8 c g k4 w9 XS XN XA XD XQ XR ⟨k, h⟩ (st8 x k)).1.2 else st8 x k
/-- Trip `k`'s block. -/
def p8 (x : LIC F) (k : ℕ) : View.Piece (Elt F) S384x2048 .f32 :=
  if h : k < k0_t8_loop.trips then ⟨R8 ⟨k, h⟩, (trip8 c g k4 w9 XS XN XA XD XQ XR ⟨k, h⟩ (st8 c g k4 w9 XS XN XA XD XQ XR x k)).1.1⟩ else noPiece _ _
theorem p8_eq (x : LIC F) (k : Fin k0_t8_loop.trips) : p8 c g k4 w9 XS XN XA XD XQ XR x k.val
    = ⟨R8 k, (trip8 c g k4 w9 XS XN XA XD XQ XR k (st8 c g k4 w9 XS XN XA XD XQ XR x k.val)).1.1⟩ := dif_pos k.isLt
theorem cover8 (x : LIC F) : ∀ y, ∃ q ∈ pieces (p8 c g k4 w9 XS XN XA XD XQ XR x) k0_t8_loop.trips, y ∈ q.1.set := by
  refine cover_of_off _ (fun k => k0_off34 k) S384x512.size (fun k => ⟨_, _, p8_eq c g k4 w9 XS XN XA XD XQ XR x k⟩) fun y => ?_
  obtain ⟨k, hk⟩ := cols_cover y
  refine ⟨⟨k.val, by rw [trips8]; exact k.isLt⟩, fun a => ?_⟩
  rw [k0_off34_eq]; exact hk a

set_option warn.classDefReducibility false in
/-- The loop's invariant. -/
def loopInv8 (f : Ct (F := F) aA) (x : Ct (F := F) aL) (y : Ct (F := F) aI) (z : Ct (F := F) aC) :
    LoopInvTy_k0_t8 (F := F) Unit ℕ (Pipeline.UD sig nD τ) ℕ 𝒱₀ c none Set.univ aX haX aW haW aS haS aN haN aTV haTV aTI haTI aQ haQ aE haE aR haR aA haA aB haB aD haD aL haL aI haI aC haC cc0_scratch7 g k4 w9 where
  inv k _ := iprop(own c aS XS ∗ own c aN XN ∗ own c aB XA ∗ own c aD XD ∗ own c aQ XQ ∗ slotP c (2 * k4.val + 2) XR
    ∗ own c aA (fillTo aA k0_t8_loop.trips (p8 c g k4 w9 XS XN XA XD XQ XR (x, y, z)) f k)
    ∗ own c aL (st8 c g k4 w9 XS XN XA XD XQ XR (x, y, z) k).1 ∗ own c aI (st8 c g k4 w9 XS XN XA XD XQ XR (x, y, z) k).2.1
    ∗ own c aC (st8 c g k4 w9 XS XN XA XD XQ XR (x, y, z) k).2.2)
  step k _ := by
    have e : st8 c g k4 w9 XS XN XA XD XQ XR (x, y, z) (k.val + 1)
        = (trip8 c g k4 w9 XS XN XA XD XQ XR k (st8 c g k4 w9 XS XN XA XD XQ XR (x, y, z) k.val)).1.2 := by
      rw [st8, dif_pos k.isLt]
    rw [e, ← fillTo_succ haA f (cover8 c g k4 w9 XS XN XA XD XQ XR (x, y, z)) k.isLt, p8_eq]
    exact (trip8 c g k4 w9 XS XN XA XD XQ XR k (st8 c g k4 w9 XS XN XA XD XQ XR (x, y, z) k.val)).2 _

end T8

end Cert.KernelIdeal.Hand

end
-- ==== Proof.KernelIdeal.Slow.lean ====
/-
  The loops that run when the first pass is not enough: the exact eight-deep insertion of every slab, and its selection;
  and the selection of the first pass.
-/
module

public import proofs.«01_k».proof.Proof.KernelIdeal.Fill

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lists' values and indices. -/
abbrev LI (F : FTy → Type) : Type := Ct (F := F) aL × Ct (F := F) aI
/-- A vector of eight rows. -/
abbrev V8 (F : FTy → Type) : Type := FVec F S8x128 .f32
/-- Eight values and eight indices per lane. -/
abbrev V16 (F : FTy → Type) : Type := V8 F × V8 F × V8 F × V8 F × V8 F × V8 F × V8 F × V8 F × V8 F × V8 F × V8 F × V8 F × V8 F × V8 F × V8 F × V8 F

/-! ## Loop `19`: a slab inserted in a group's lists -/

section T19
variable (c : Dev nD) (k16 : Fin k0_t16_loop.trips) (w16 : BitVec 32) (k18 : Fin k0_t18_loop.trips) (w81 : BitVec 32) (u1 u2 u3 u4 u5 u6 u7 u8 u9 u10 u11 : FVec F S8x128 .f32) (u12 : Vec F S8x128 .f32) (XS : Ct (F := F) aS) (XN : Ct (F := F) aN) (XA : Ct (F := F) aA)

set_option backward.proofsInPublic true in
/-- One slab folded in: what the trip yields from `a`. -/
def trip19 (k : Fin k0_t19_loop.trips) (a : V16 F) :
    { r : V16 F // own c aS XS ∗ own c aN XN ∗ own c aA XA
      ⊢ wp frame (wpE (defs₀ (F := F)) 𝒱₀ (c : Thread nD τ) none) Set.univ (k0_t19_body (F := F) aX haX aW haW aS haS aN haN aTV haTV aTI haTI aQ haQ aE haE aR haR aA haA aB haB aD haD aL haL aI haI aC haC cc0_scratch7 k16 w16 k18 w81 u1 u2 u3 u4 u5 u6 u7 u8 u9 u10 u11 u12 k a)
        (fun y => iprop(⌜y = r⌝ ∗ own c aS XS ∗ own c aN XN ∗ own c aA XA)) } := by
  have hk : k.val < 16 := Nat.lt_of_lt_of_le k.isLt k0_t19_abs.2.1
  refine ⟨?_, ?run⟩
  case run =>
    unfold k0_t19_body
    iintro ⟨H1, H2, H3⟩
    sl_exec
    sl_step
    sl_close

/-- The running vectors before slab trip `k`. -/
def st19 (i : V16 F) : ℕ → V16 F
  | 0 => i
  | k + 1 => if h : k < k0_t19_loop.trips then (trip19 c k16 w16 k18 w81 u1 u2 u3 u4 u5 u6 u7 u8 u9 u10 u11 u12 XS XN XA ⟨k, h⟩ (st19 i k)).1 else st19 i k

set_option warn.classDefReducibility false in
/-- The loop's invariant: the rows read, and the running vectors. -/
@[sl_loop] def loopInv19 (i : V16 F) :
    LoopInvTy_k0_t19 (F := F) Unit ℕ (Pipeline.UD sig nD τ) ℕ 𝒱₀ c none Set.univ aX haX aW haW aS haS aN haN aTV haTV aTI haTI aQ haQ aE haE aR haR aA haA aB haB aD haD aL haL aI haI aC haC cc0_scratch7 k16 w16 k18 w81 u1 u2 u3 u4 u5 u6 u7 u8 u9 u10 u11 u12 i where
  inv k a := iprop(own c aS XS ∗ own c aN XN ∗ own c aA XA ∗ ⌜a = st19 c k16 w16 k18 w81 u1 u2 u3 u4 u5 u6 u7 u8 u9 u10 u11 u12 XS XN XA i k⌝)
  step k a := by
    iintro ⟨H1, H2, H3, %ea⟩
    subst ea
    have e : st19 c k16 w16 k18 w81 u1 u2 u3 u4 u5 u6 u7 u8 u9 u10 u11 u12 XS XN XA i (k.val + 1) = (trip19 c k16 w16 k18 w81 u1 u2 u3 u4 u5 u6 u7 u8 u9 u10 u11 u12 XS XN XA k (st19 c k16 w16 k18 w81 u1 u2 u3 u4 u5 u6 u7 u8 u9 u10 u11 u12 XS XN XA i k.val)).1 := by
      rw [st19, dif_pos k.isLt]
    rw [e]
    iapply (wp_wand_r frame (wpE (defs₀ (F := F)) 𝒱₀ (c : Thread nD τ) none) Set.univ)
    isplitl [H1 H2 H3]
    · iapply (trip19 c k16 w16 k18 w81 u1 u2 u3 u4 u5 u6 u7 u8 u9 u10 u11 u12 XS XN XA k (st19 c k16 w16 k18 w81 u1 u2 u3 u4 u5 u6 u7 u8 u9 u10 u11 u12 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T19

/-! ## Loop `18`: a tile inserted in the lists, group of rows by group -/

section T18
variable (c : Dev nD) (k16 : Fin k0_t16_loop.trips) (w16 : BitVec 32)
  (XS : Ct (F := F) aS) (XN : Ct (F := F) aN) (XA : Ct (F := F) aA) (XD : Ct (F := F) aD)

set_option backward.proofsInPublic true in
/-- One group of eight rows. -/
def trip18 (k : Fin k0_t18_loop.trips) (x : LI F) :
    { r : LI F // own c aS XS ∗ own c aN XN ∗ own c aA XA ∗ own c aD XD ∗ own c aL x.1 ∗ own c aI x.2
      ⊢ wp frame (wpE (defs₀ (F := F)) 𝒱₀ (c : Thread nD τ) none) Set.univ (k0_t18_body (F := F) aX haX aW haW aS haS aN haN aTV haTV aTI haTI aQ haQ aE haE aR haR aA haA aB haB aD haD aL haL aI haI aC haC cc0_scratch7 k16 w16 k ())
        (fun _ => iprop(own c aS XS ∗ own c aN XN ∗ own c aA XA ∗ own c aD XD ∗ own c aL r.1 ∗ own c aI r.2)) } := by
  refine ⟨⟨?_, ?_⟩, ?run⟩
  case run =>
    sl_unfold [k0_t18_body]
    iintro ⟨H1, H2, H3, H4, H5, H6⟩
    sl_exec
    sl_step
    sl_close

/-- The lists before group `k`. -/
def st18 (x : LI F) : ℕ → LI F
  | 0 => x
  | k + 1 => if h : k < k0_t18_loop.trips then (trip18 c k16 w16 XS XN XA XD ⟨k, h⟩ (st18 x k)).1 else st18 x k

set_option warn.classDefReducibility false in
/-- The loop's invariant. -/
def loopInv18 (x : Ct (F := F) aL) (y : Ct (F := F) aI) :
    LoopInvTy_k0_t18 (F := F) Unit ℕ (Pipeline.UD sig nD τ) ℕ 𝒱₀ c none Set.univ aX haX aW haW aS haS aN haN aTV haTV aTI haTI aQ haQ aE haE aR haR aA haA aB haB aD haD aL haL aI haI aC haC cc0_scratch7 k16 w16 where
  inv k _ := iprop(own c aS XS ∗ own c aN XN ∗ own c aA XA ∗ own c aD XD ∗ own c aL (st18 c k16 w16 XS XN XA XD (x, y) k).1
    ∗ own c aI (st18 c k16 w16 XS XN XA XD (x, y) k).2)
  step k _ := by
    have e : st18 c k16 w16 XS XN XA XD (x, y) (k.val + 1) = (trip18 c k16 w16 XS XN XA XD k (st18 c k16 w16 XS XN XA XD (x, y) k.val)).1 := by
      rw [st18, dif_pos k.isLt]
    rw [e]
    exact (trip18 c k16 w16 XS XN XA XD k (st18 c k16 w16 XS XN XA XD (x, y) k.val)).2

end T18

/-! ## Loop `20`: the selection of the second pass -/

section T20
variable (c : Dev nD) (XL : Ct (F := F) aL) (XI : Ct (F := F) aI)

abbrev R20 (k : Fin k0_t20_loop.trips) : Rect S384x128 := Rect.unit (s := S384x128) (k0_off84 k) S8x128.size (k0_off84_inb k)

set_option backward.proofsInPublic true in
/-- Eight rows: the values and the indices picked, in lanes `0` to `7`. -/
def trip20 (k : Fin k0_t20_loop.trips) :
    { w : ((R20 k).shape.Idx → Elt F .f32) × ((R20 k).shape.Idx → Elt F .i32) //
        ∀ (f : Ct (F := F) aTV) (g : Ct (F := F) aTI), own c aL XL ∗ own c aI XI ∗ own c aTV f ∗ own c aTI g
      ⊢ wp frame (wpE (defs₀ (F := F)) 𝒱₀ (c : Thread nD τ) none) Set.univ (k0_t20_body (F := F) aX haX aW haW aS haS aN haN aTV haTV aTI haTI aQ haQ aE haE aR haR aA haA aB haB aD haD aL haL aI haI aC haC cc0_scratch7 k ())
        (fun _ => iprop(own c aL XL ∗ own c aI XI ∗ own c aTV (aTV.view.writes (Elt F) f [⟨R20 k, w.1⟩]) ∗ own c aTI (aTI.view.writes (Elt F) g [⟨R20 k, w.2⟩]))) } := by
  refine ⟨⟨?_, ?_⟩, fun f g => ?run⟩
  case run =>
    sl_unfold [k0_t20_body]
    iintro ⟨H1, H2, H3, H4⟩
    sl_exec
    sl_step
    sl_close

theorem trips20 : k0_t20_loop.trips = 48 := by decide

def p20v (k : ℕ) : View.Piece (Elt F) S384x128 .f32 :=
  if h : k < k0_t20_loop.trips then ⟨R20 ⟨k, h⟩, (trip20 c XL XI ⟨k, h⟩).1.1⟩ else noPiece _ _
theorem p20v_eq (k : Fin k0_t20_loop.trips) : p20v c XL XI k.val = ⟨R20 k, (trip20 c XL XI k).1.1⟩ := dif_pos k.isLt
theorem cover20v : ∀ y, ∃ q ∈ pieces (p20v c XL XI) k0_t20_loop.trips, y ∈ q.1.set := by
  refine cover_of_off _ (fun k => k0_off84 k) S8x128.size (fun k => ⟨_, _, p20v_eq c XL XI k⟩) fun y => ?_
  obtain ⟨k, hk⟩ := rows_cover (n := 8) (T := 48) (by decide) (by decide) y
  refine ⟨⟨k.val, by rw [trips20]; exact k.isLt⟩, fun a => ?_⟩
  rw [k0_off84_eq]; exact hk a

def p20i (k : ℕ) : View.Piece (Elt F) S384x128 .i32 :=
  if h : k < k0_t20_loop.trips then ⟨R20 ⟨k, h⟩, (trip20 c XL XI ⟨k, h⟩).1.2⟩ else noPiece _ _
theorem p20i_eq (k : Fin k0_t20_loop.trips) : p20i c XL XI k.val = ⟨R20 k, (trip20 c XL XI k).1.2⟩ := dif_pos k.isLt
theorem cover20i : ∀ y, ∃ q ∈ pieces (p20i c XL XI) k0_t20_loop.trips, y ∈ q.1.set := by
  refine cover_of_off _ (fun k => k0_off84 k) S8x128.size (fun k => ⟨_, _, p20i_eq c XL XI k⟩) fun y => ?_
  obtain ⟨k, hk⟩ := rows_cover (n := 8) (T := 48) (by decide) (by decide) y
  refine ⟨⟨k.val, by rw [trips20]; exact k.isLt⟩, fun a => ?_⟩
  rw [k0_off84_eq]; exact hk a

set_option warn.classDefReducibility false in
/-- The loop's invariant. -/
def loopInv20 (f : Ct (F := F) aTV) (g : Ct (F := F) aTI) :
    LoopInvTy_k0_t20 (F := F) Unit ℕ (Pipeline.UD sig nD τ) ℕ 𝒱₀ c none Set.univ aX haX aW haW aS haS aN haN aTV haTV aTI haTI aQ haQ aE haE aR haR aA haA aB haB aD haD aL haL aI haI aC haC cc0_scratch7 where
  inv k _ := iprop(own c aL XL ∗ own c aI XI ∗ own c aTV (fillTo aTV k0_t20_loop.trips (p20v c XL XI) f k) ∗ own c aTI (fillTo aTI k0_t20_loop.trips (p20i c XL XI) g k))
  step k _ := by
    rw [← fillTo_succ haTV f (cover20v c XL XI) k.isLt, p20v_eq, ← fillTo_succ haTI g (cover20i c XL XI) k.isLt, p20i_eq]
    exact (trip20 c XL XI k).2 _ _

end T20

/-! ## Loop `14`: the selection of the first pass -/

section T14
variable (c : Dev nD) (g : FVec F S384x128 .f32) (XL : Ct (F := F) aL) (XI : Ct (F := F) aI) (XC : Ct (F := F) aC)

abbrev R14 (k : Fin k0_t14_loop.trips) : Rect S384x128 := Rect.unit (s := S384x128) (k0_off59 k) S8x128.size (k0_off59_inb k)

set_option backward.proofsInPublic true in
/-- Eight rows: the values and the indices picked, in lanes `0` to `7`; and the carried mark of rows the overflow spoils. -/
def trip14 (k : Fin k0_t14_loop.trips) (a : V8 F) :
    { w : ((R14 k).shape.Idx → Elt F .f32) × ((R14 k).shape.Idx → Elt F .i32) × V8 F //
        ∀ (f : Ct (F := F) aTV) (h : Ct (F := F) aTI), own c aL XL ∗ own c aI XI ∗ own c aC XC ∗ own c aTV f ∗ own c aTI h
      ⊢ wp frame (wpE (defs₀ (F := F)) 𝒱₀ (c : Thread nD τ) none) Set.univ (k0_t14_body (F := F) aX haX aW haW aS haS aN haN aTV haTV aTI haTI aQ haQ aE haE aR haR aA haA aB haB aD haD aL haL aI haI aC haC cc0_scratch7 g k a)
        (fun y => iprop(⌜y = w.2.2⌝ ∗ own c aL XL ∗ own c aI XI ∗ own c aC XC ∗ own c aTV (aTV.view.writes (Elt F) f [⟨R14 k, w.1⟩]) ∗ own c aTI (aTI.view.writes (Elt F) h [⟨R14 k, w.2.1⟩]))) } := by
  refine ⟨⟨?_, ?_, ?_⟩, fun f h => ?run⟩
  case run =>
    sl_unfold [k0_t14_body]
    iintro ⟨H1, H2, H3, H4, H5⟩
    sl_exec
    sl_step
    sl_close

theorem trips14 : k0_t14_loop.trips = 48 := by decide
/-- The carried mark before group `k`. -/
def st14 (a : V8 F) : ℕ → V8 F
  | 0 => a
  | k + 1 => if h : k < k0_t14_loop.trips then (trip14 c g XL XI XC ⟨k, h⟩ (st14 a k)).1.2.2 else st14 a k

def p14v (a : V8 F) (k : ℕ) : View.Piece (Elt F) S384x128 .f32 :=
  if h : k < k0_t14_loop.trips then ⟨R14 ⟨k, h⟩, (trip14 c g XL XI XC ⟨k, h⟩ (st14 c g XL XI XC a k)).1.1⟩ else noPiece _ _
theorem p14v_eq (a : V8 F) (k : Fin k0_t14_loop.trips) : p14v c g XL XI XC a k.val = ⟨R14 k, (trip14 c g XL XI XC k (st14 c g XL XI XC a k.val)).1.1⟩ := dif_pos k.isLt
theorem cover14v (a : V8 F) : ∀ y, ∃ q ∈ pieces (p14v c g XL XI XC a) k0_t14_loop.trips, y ∈ q.1.set := by
  refine cover_of_off _ (fun k => k0_off59 k) S8x128.size (fun k => ⟨_, _, p14v_eq c g XL XI XC a k⟩) fun y => ?_
  obtain ⟨k, hk⟩ := rows_cover (n := 8) (T := 48) (by decide) (by decide) y
  refine ⟨⟨k.val, by rw [trips14]; exact k.isLt⟩, fun a => ?_⟩
  rw [k0_off59_eq]; exact hk a

def p14i (a : V8 F) (k : ℕ) : View.Piece (Elt F) S384x128 .i32 :=
  if h : k < k0_t14_loop.trips then ⟨R14 ⟨k, h⟩, (trip14 c g XL XI XC ⟨k, h⟩ (st14 c g XL XI XC a k)).1.2.1⟩ else noPiece _ _
theorem p14i_eq (a : V8 F) (k : Fin k0_t14_loop.trips) : p14i c g XL XI XC a k.val = ⟨R14 k, (trip14 c g XL XI XC k (st14 c g XL XI XC a k.val)).1.2.1⟩ := dif_pos k.isLt
theorem cover14i (a : V8 F) : ∀ y, ∃ q ∈ pieces (p14i c g XL XI XC a) k0_t14_loop.trips, y ∈ q.1.set := by
  refine cover_of_off _ (fun k => k0_off59 k) S8x128.size (fun k => ⟨_, _, p14i_eq c g XL XI XC a k⟩) fun y => ?_
  obtain ⟨k, hk⟩ := rows_cover (n := 8) (T := 48) (by decide) (by decide) y
  refine ⟨⟨k.val, by rw [trips14]; exact k.isLt⟩, fun a => ?_⟩
  rw [k0_off59_eq]; exact hk a

set_option warn.classDefReducibility false in
/-- The loop's invariant. -/
def loopInv14 (a : V8 F) (f : Ct (F := F) aTV) (h : Ct (F := F) aTI) :
    LoopInvTy_k0_t14 (F := F) Unit ℕ (Pipeline.UD sig nD τ) ℕ 𝒱₀ c none Set.univ aX haX aW haW aS haS aN haN aTV haTV aTI haTI aQ haQ aE haE aR haR aA haA aB haB aD haD aL haL aI haI aC haC cc0_scratch7 g a where
  inv k b := iprop(own c aL XL ∗ own c aI XI ∗ own c aC XC ∗ own c aTV (fillTo aTV k0_t14_loop.trips (p14v c g XL XI XC a) f k)
    ∗ own c aTI (fillTo aTI k0_t14_loop.trips (p14i c g XL XI XC a) h k) ∗ ⌜b = st14 c g XL XI XC a k⌝)
  step k b := by
    iintro ⟨H1, H2, H3, H4, H5, %ea⟩
    subst ea
    have e : st14 c g XL XI XC a (k.val + 1) = (trip14 c g XL XI XC k (st14 c g XL XI XC a k.val)).1.2.2 := by
      rw [st14, dif_pos k.isLt]
    rw [e, ← fillTo_succ haTV f (cover14v c g XL XI XC a) k.isLt, p14v_eq, ← fillTo_succ haTI h (cover14i c g XL XI XC a) k.isLt, p14i_eq]
    iapply (wp_wand_r frame (wpE (defs₀ (F := F)) 𝒱₀ (c : Thread nD τ) none) Set.univ)
    isplitl [H1 H2 H3 H4 H5]
    · iapply (trip14 c g XL XI XC k (st14 c g XL XI XC a k.val)).2
      isplitl [H1]; · iexact H1
      isplitl [H2]; · iexact H2
      isplitl [H3]; · iexact H3
      isplitl [H4]; · iexact H4
      iexact H5
    · iintro %y ⟨%h, H1, H2, H3, H4, H5⟩
      isplitl [H1]; · iexact H1
      isplitl [H2]; · iexact H2
      isplitl [H3]; · iexact H3
      isplitl [H4]; · iexact H4
      isplitl [H5]; · iexact H5
      ipureintro; exact h

end T14

end Cert.KernelIdeal.Hand

end
-- ==== Proof.KernelIdeal.Ring.lean ====
/-
  The two passes over the tiles. The first streams the weights through a ring of three slots, two transfers ahead; a
  trip multiplies two tiles and folds the two before them in. The second moves one tile at a time.
-/
module

public import proofs.«01_k».proof.Proof.KernelIdeal.Slow

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Ring
variable (c : Dev nD) (XW : Buf (Elt F) (aW.view.loc (c : Thread nD τ)))

/-- Slot `n` as tile `t`'s transfer leaves it, whatever it held. -/
abbrev slotC (n : ℕ) (t : Fin 49) : Buf (Elt F) ((rslot n).view.loc (c : Thread nD τ)) := landed c XW n t (rslot n).view.junk
/-- Slot `n` at some contents. -/
def slotM (R : Memref sig .tc .vmem S3840x2048 .fp8e4m3) : sProp 𝕄 :=
  iprop(∃ f : Buf (Elt F) (R.view.loc (c : Thread nD τ)), R.view.loc (c : Thread nD τ) ↦[R.view.set]{fullShare} f)
def slotE (n : ℕ) : sProp 𝕄 := iprop(∃ f, slotP c n f)
/-- A slot in flight with tile `t`, issued over some contents. -/
def flM (R : Memref sig .tc .vmem S3840x2048 .fp8e4m3) (s : DmaSems sig S_) (t : Fin 49) : sProp 𝕄 :=
  iprop(∃ f : Buf (Elt F) (R.view.loc (c : Thread nD τ)), Transfers.Flight countersEmb (c : Thread nD τ) (SemLoc.dma s.sem) () 245760
    iprop((R.view.loc (c : Thread nD τ) ↦[R.view.set]{fullShare} R.view.writes (Elt F) f [⟨Rect.whole S3840x2048, payload c XW t⟩]) ∗ homeP c XW t))
def flE (n : ℕ) (t : Fin 49) : sProp 𝕄 := iprop(∃ f, flightP c XW n t f)

theorem rslot_mod {m n : ℕ} (h : m % 3 = n % 3) : rslot m = rslot n := rslot_congr (by simp [slotOff, h]) _ _
theorem csm_mod {m n : ℕ} (h : m % 3 = n % 3) : csm m = csm n := csm_congr (by simp [semOff, h]) _
theorem slotE_mod {m n : ℕ} (h : m % 3 = n % 3) : slotE (F := F) c m = slotE c n := by
  show slotM c (rslot m) = slotM c (rslot n); rw [rslot_mod h]
theorem cellP_mod {m n : ℕ} (h : m % 3 = n % 3) : (cellP c m : sProp 𝕄) = cellP c n := by unfold cellP; rw [csm_mod h]
theorem flE_mod {m n : ℕ} (h : m % 3 = n % 3) (t : Fin 49) : flE c XW m t = flE c XW n t := by
  show flM c XW (rslot m) (csm m) t = flM c XW (rslot n) (csm n) t; rw [rslot_mod h, csm_mod h]

/-- The ring at rest: its slots at anything, its cells at zero, every tile at home. -/
def ringFree : sProp 𝕄 :=
  iprop(slotE (F := F) c 0 ∗ slotE (F := F) c 1 ∗ slotE (F := F) c 2 ∗ cellP c 0 ∗ cellP c 1 ∗ cellP c 2 ∗ bigSep Finset.univ (homeP c XW))

/-- Tiles other than `a` and `b`. -/
abbrev restSet (a b : Fin 49) : Finset (Fin 49) := (Finset.univ.erase a).erase b

theorem homes_two {a b : Fin 49} (h : b ≠ a) :
    bigSep Finset.univ (homeP c XW) = iprop(homeP c XW a ∗ homeP c XW b ∗ bigSep (restSet a b) (homeP c XW)) := by
  rw [bigSep_erase (Finset.mem_univ a), bigSep_erase (Finset.mem_erase.2 ⟨h, Finset.mem_univ b⟩)]; rfl

/-- The first pass before trip `k`: tiles `2k+1` and `2k+2` on their way, slot `2k` free; at rest past the last trip. -/
def ringAt (k : ℕ) : sProp 𝕄 :=
  if k < 24 then iprop(slotE (F := F) c (2 * k) ∗ cellP c (2 * k) ∗ flE c XW (2 * k + 1) (tl (2 * k + 1)) ∗ flE c XW (2 * k + 2) (tl (2 * k + 2))
    ∗ bigSep (restSet (tl (2 * k + 1)) (tl (2 * k + 2))) (homeP c XW))
  else ringFree c XW

end Ring

/-! ## Loop `4`: the first pass, two tiles a trip -/

section T4
variable (c : Dev nD) (v : FVec F S384x128 .f32) (XW : Buf (Elt F) (aW.view.loc (c : Thread nD τ))) (XS : Ct (F := F) aS) (XN : Ct (F := F) aN) (XQ : Ct (F := F) aQ) (XD : Ct (F := F) aD)

/-- The number of trip `k`'s first tile, and of its second, as words. -/
abbrev w56 (k : Fin k0_t4_loop.trips) : BitVec 32 := Scalar.addi (Scalar.muli 2#32 (Scf.iv 0#32 1#32 k)) 1#32
abbrev w72 (k : Fin k0_t4_loop.trips) : BitVec 32 := Scalar.addi (Scalar.muli 2#32 (Scf.iv 0#32 1#32 k)) 2#32
/-- The second accumulator after trip `k`: tile `2k+1`'s product. -/
def accB (k : Fin k0_t4_loop.trips) (x : Ct (F := F) aA × LIC F) : Ct (F := F) aB :=
  aB.view.writes (Elt F) aB.view.junk (pieces (p5 c 0#32 1#32 k (w56 k) XS XN x.1 XD XQ (slotC c XW (2 * k.val + 1) (tl (2 * k.val + 1))) x.2) k0_t5_loop.trips)
/-- The lists and overflow with tile `2k` folded in. -/
def mid4 (k : Fin k0_t4_loop.trips) (x : Ct (F := F) aA × LIC F) : LIC F :=
  st5 c 0#32 1#32 k (w56 k) XS XN x.1 XD XQ (slotC c XW (2 * k.val + 1) (tl (2 * k.val + 1))) x.2 k0_t5_loop.trips
/-- The first accumulator, the lists and the overflow after trip `k`: tile `2k+2`'s product, tile `2k+1` folded in too. -/
def next4 (k : Fin k0_t4_loop.trips) (x : Ct (F := F) aA × LIC F) : Ct (F := F) aA × LIC F :=
  (aA.view.writes (Elt F) aA.view.junk (pieces (p8 c v k (w72 k) XS XN (accB c XW XS XN XQ XD k x) XD XQ
      (slotC c XW (2 * k.val + 2) (tl (2 * k.val + 2))) (mid4 c XW XS XN XQ XD k x)) k0_t8_loop.trips),
   st8 c v k (w72 k) XS XN (accB c XW XS XN XQ XD k x) XD XQ (slotC c XW (2 * k.val + 2) (tl (2 * k.val + 2))) (mid4 c XW XS XN XQ XD k x) k0_t8_loop.trips)

theorem accB_eq (k : Fin k0_t4_loop.trips) (x : Ct (F := F) aA × LIC F) (g : Ct (F := F) aB) :
    fillTo aB k0_t5_loop.trips (p5 c 0#32 1#32 k (w56 k) XS XN x.1 XD XQ (slotC c XW (2 * k.val + 1) (tl (2 * k.val + 1))) x.2) g k0_t5_loop.trips
      = accB c XW XS XN XQ XD k x := fillTo_all aB _ _ g (by decide)
theorem mid4_eq (k : Fin k0_t4_loop.trips) (x : Ct (F := F) aA × LIC F) :
    st5 c 0#32 1#32 k (w56 k) XS XN x.1 XD XQ (slotC c XW (2 * k.val + 1) (tl (2 * k.val + 1))) x.2 k0_t5_loop.trips = mid4 c XW XS XN XQ XD k x := rfl
theorem next4_eqA (k : Fin k0_t4_loop.trips) (x : Ct (F := F) aA × LIC F) :
    fillTo aA k0_t8_loop.trips (p8 c v k (w72 k) XS XN (accB c XW XS XN XQ XD k x) XD XQ
      (slotC c XW (2 * k.val + 2) (tl (2 * k.val + 2))) (mid4 c XW XS XN XQ XD k x)) x.1 k0_t8_loop.trips = (next4 c v XW XS XN XQ XD k x).1 := fillTo_all aA _ _ x.1 (by decide)
theorem next4_eqL (k : Fin k0_t4_loop.trips) (x : Ct (F := F) aA × LIC F) :
    st8 c v k (w72 k) XS XN (accB c XW XS XN XQ XD k x) XD XQ (slotC c XW (2 * k.val + 2) (tl (2 * k.val + 2))) (mid4 c XW XS XN XQ XD k x) k0_t8_loop.trips
      = (next4 c v XW XS XN XQ XD k x).2 := rfl
theorem mid4_st8 (k : Fin k0_t4_loop.trips) (x : Ct (F := F) aA × LIC F) :
    (st5 c 0#32 1#32 k (w56 k) XS XN x.1 XD XQ (slotC c XW (2 * k.val + 1) (tl (2 * k.val + 1))) x.2 k0_t5_loop.trips).1 = (st8 c v k (w72 k) XS XN (accB c XW XS XN XQ XD k x) XD XQ (slotC c XW (2 * k.val + 2) (tl (2 * k.val + 2))) ((mid4 c XW XS XN XQ XD k x).1, (mid4 c XW XS XN XQ XD k x).2.1, (mid4 c XW XS XN XQ XD k x).2.2) 0).1 ∧
    (st5 c 0#32 1#32 k (w56 k) XS XN x.1 XD XQ (slotC c XW (2 * k.val + 1) (tl (2 * k.val + 1))) x.2 k0_t5_loop.trips).2.1 = (st8 c v k (w72 k) XS XN (accB c XW XS XN XQ XD k x) XD XQ (slotC c XW (2 * k.val + 2) (tl (2 * k.val + 2))) ((mid4 c XW XS XN XQ XD k x).1, (mid4 c XW XS XN XQ XD k x).2.1, (mid4 c XW XS XN XQ XD k x).2.2) 0).2.1 ∧
    (st5 c 0#32 1#32 k (w56 k) XS XN x.1 XD XQ (slotC c XW (2 * k.val + 1) (tl (2 * k.val + 1))) x.2 k0_t5_loop.trips).2.2 = (st8 c v k (w72 k) XS XN (accB c XW XS XN XQ XD k x) XD XQ (slotC c XW (2 * k.val + 2) (tl (2 * k.val + 2))) ((mid4 c XW XS XN XQ XD k x).1, (mid4 c XW XS XN XQ XD k x).2.1, (mid4 c XW XS XN XQ XD k x).2.2) 0).2.2 := by
  rw [mid4_eq, st8]; exact ⟨rfl, rfl, rfl⟩
attribute [irreducible] accB mid4 next4

theorem ht5 : 0 < k0_t5_loop.trips := by decide
theorem ht8 : 0 < k0_t8_loop.trips := by decide

/-- The same contents under another name. -/
theorem own_congr {sp : Space} {s : Shape} {e : EltTy} {m : Memref sig .tc sp s e} {f g : Buf (Elt F) (m.view.loc (c : Thread nD τ))} (h : f = g) :
    (own c m f : sProp 𝕄) ⊢ own c m g := by rw [h]

/-- The flight into a slot just delivered, as issued over that delivery. -/
theorem flightP_after (n : ℕ) (t t' : Fin 49) :
    flightP c XW n t' ((rslot n).view.writes (Elt F) (rslot n).view.junk [⟨Rect.whole S3840x2048, payload c XW t⟩])
      = Transfers.Flight countersEmb (c : Thread nD τ) (SemLoc.dma (csm n).sem) () 245760
          iprop(((rslot n).view.loc (c : Thread nD τ) ↦[(rslot n).view.set]{fullShare}
                  (rslot n).view.writes (Elt F) (rslot n).view.junk [⟨Rect.whole S3840x2048, payload c XW t'⟩, ⟨Rect.whole S3840x2048, payload c XW t⟩])
                ∗ homeP c XW t') := by
  simp only [flightP, landed, slotP, View.writes]

/-- A trip that issues two further tiles. -/
theorem trip4 (k : Fin k0_t4_loop.trips) (hk : k.val < 23) (x : Ct (F := F) aA × LIC F) (f f1 f2) (g : Ct (F := F) aB) :
    iprop(own c aS XS ∗ own c aN XN ∗ own c aQ XQ ∗ own c aD XD ∗ slotP c (2 * k.val) f ∗ cellP c (2 * k.val)
          ∗ flightP c XW (2 * k.val + 1) (tl (2 * k.val + 1)) f1 ∗ flightP c XW (2 * k.val + 2) (tl (2 * k.val + 2)) f2
          ∗ homeP c XW (tl (2 * k.val + 3)) ∗ homeP c XW (tl (2 * k.val + 4)) ∗ own c aA x.1 ∗ own c aB g ∗ own c aL x.2.1 ∗ own c aI x.2.2.1 ∗ own c aC x.2.2.2
          ∗ (∃ W, owes (c : Thread nD τ) 0 W))
      ⊢ wp frame (wpE (defs₀ (F := F)) 𝒱₀ (c : Thread nD τ) none) Set.univ (k0_t4_body (F := F) aX haX aW haW aS haS aN haN aTV haTV aTI haTI aQ haQ aE haE aR haR aA haA aB haB aD haD aL haL aI haI aC haC cc0_scratch7 v k ())
        (fun _ => iprop(own c aS XS ∗ own c aN XN ∗ own c aQ XQ ∗ own c aD XD ∗ (∃ f, slotP c (2 * k.val + 2) f) ∗ cellP c (2 * k.val + 2)
          ∗ (∃ f, flightP c XW (2 * k.val) (tl (2 * k.val + 3)) f) ∗ (∃ f, flightP c XW (2 * k.val + 1) (tl (2 * k.val + 4)) f)
          ∗ homeP c XW (tl (2 * k.val + 1)) ∗ homeP c XW (tl (2 * k.val + 2))
          ∗ own c aA (next4 c v XW XS XN XQ XD k x).1 ∗ (∃ g, own c aB g) ∗ own c aL (next4 c v XW XS XN XQ XD k x).2.1
          ∗ own c aI (next4 c v XW XS XN XQ XD k x).2.2.1 ∗ own c aC (next4 c v XW XS XN XQ XD k x).2.2.2
          ∗ ∃ W, owes (c : Thread nD τ) 0 W)) := by
  have h2 := (cond2_iff k).2 hk
  have h3 := (cond3_iff k).2 hk
  sl_unfold [k0_t4_body]
  iintro ⟨H1, H2, H3, H4, H5, H6, HF1, HF2, H7, H8, H9, H10, H11, H12, H13, %W, H14⟩
  sl_exec
  ihave H10 := (own_congr c (accB_eq c XW XS XN XQ XD k x g)) $$ H10
  ihave GH11 := (own_congr c (mid4_st8 c v XW XS XN XQ XD k x).1) $$ H11
  ihave GH12 := (own_congr c (mid4_st8 c v XW XS XN XQ XD k x).2.1) $$ H12
  ihave GH13 := (own_congr c (mid4_st8 c v XW XS XN XQ XD k x).2.2) $$ H13
  let I8 := loopInv8 c v k (w72 k) XS XN (accB c XW XS XN XQ XD k x) XD XQ (slotC c XW (2 * k.val + 2) (tl (2 * k.val + 2))) x.1
    (mid4 c XW XS XN XQ XD k x).1 (mid4 c XW XS XN XQ XD k x).2.1 (mid4 c XW XS XN XQ XD k x).2.2
  sl_exec
  ihave H9 := (own_congr c (next4_eqA c v XW XS XN XQ XD k x)) $$ H9
  ihave H11 := (own_congr c (congrArg (fun z : LIC F => z.1) (next4_eqL c v XW XS XN XQ XD k x))) $$ GH11
  ihave H12 := (own_congr c (congrArg (fun z : LIC F => z.2.1) (next4_eqL c v XW XS XN XQ XD k x))) $$ GH12
  ihave H13 := (own_congr c (congrArg (fun z : LIC F => z.2.2) (next4_eqL c v XW XS XN XQ XD k x))) $$ GH13
  sl_step
  isplitl [H1]; · iexact H1
  isplitl [H2]; · iexact H2
  isplitl [H3]; · iexact H3
  isplitl [H4]; · iexact H4
  isplitl [HF2_dst]; · iexists _; iexact HF2_dst
  isplitl [HF2]; · iexact HF2
  isplitl [H6]; · iexists f; iexact H6
  isplitl [HF1]
  · iexists ((rslot (2 * k.val + 1)).view.writes (Elt F) (rslot (2 * k.val + 1)).view.junk [⟨Rect.whole S3840x2048, payload c XW (tl (2 * k.val + 1))⟩])
    irw [flightP_after]
    iexact HF1
  isplitl [HF1_src]; · iexact HF1_src
  isplitl [HF2_src]; · iexact HF2_src
  isplitl [H9]; · iexact H9
  isplitl [H10]; · iexists _; iexact H10
  isplitl [H11]; · iexact H11
  isplitl [H12]; · iexact H12
  isplitl [H13]; · iexact H13
  iexists _; iexact H14

/-- The last trip, which issues nothing. -/
theorem trip4_last (k : Fin k0_t4_loop.trips) (hk : ¬ k.val < 23) (x : Ct (F := F) aA × LIC F) (f f1 f2) (g : Ct (F := F) aB) :
    iprop(own c aS XS ∗ own c aN XN ∗ own c aQ XQ ∗ own c aD XD ∗ slotP c (2 * k.val) f ∗ cellP c (2 * k.val)
          ∗ flightP c XW (2 * k.val + 1) (tl (2 * k.val + 1)) f1 ∗ flightP c XW (2 * k.val + 2) (tl (2 * k.val + 2)) f2
          ∗ own c aA x.1 ∗ own c aB g ∗ own c aL x.2.1 ∗ own c aI x.2.2.1 ∗ own c aC x.2.2.2
          ∗ (∃ W, owes (c : Thread nD τ) 0 W))
      ⊢ wp frame (wpE (defs₀ (F := F)) 𝒱₀ (c : Thread nD τ) none) Set.univ (k0_t4_body (F := F) aX haX aW haW aS haS aN haN aTV haTV aTI haTI aQ haQ aE haE aR haR aA haA aB haB aD haD aL haL aI haI aC haC cc0_scratch7 v k ())
        (fun _ => iprop(own c aS XS ∗ own c aN XN ∗ own c aQ XQ ∗ own c aD XD ∗ (∃ f, slotP c (2 * k.val + 2) f) ∗ cellP c (2 * k.val + 2)
          ∗ (∃ f, slotP c (2 * k.val) f) ∗ cellP c (2 * k.val) ∗ (∃ f, slotP c (2 * k.val + 1) f) ∗ cellP c (2 * k.val + 1)
          ∗ homeP c XW (tl (2 * k.val + 1)) ∗ homeP c XW (tl (2 * k.val + 2))
          ∗ own c aA (next4 c v XW XS XN XQ XD k x).1 ∗ (∃ g, own c aB g) ∗ own c aL (next4 c v XW XS XN XQ XD k x).2.1
          ∗ own c aI (next4 c v XW XS XN XQ XD k x).2.2.1 ∗ own c aC (next4 c v XW XS XN XQ XD k x).2.2.2
          ∗ ∃ W, owes (c : Thread nD τ) 0 W)) := by
  have h2 : ¬ k0_cond2 k = 1#1 := fun h => hk ((cond2_iff k).1 h)
  have h3 : ¬ k0_cond3 k = 1#1 := fun h => hk ((cond3_iff k).1 h)
  sl_unfold [k0_t4_body]
  iintro ⟨H1, H2, H3, H4, H5, H6, HF1, HF2, H9, H10, H11, H12, H13, %W, H14⟩
  sl_exec
  ihave H10 := (own_congr c (accB_eq c XW XS XN XQ XD k x g)) $$ H10
  ihave GH11 := (own_congr c (mid4_st8 c v XW XS XN XQ XD k x).1) $$ H11
  ihave GH12 := (own_congr c (mid4_st8 c v XW XS XN XQ XD k x).2.1) $$ H12
  ihave GH13 := (own_congr c (mid4_st8 c v XW XS XN XQ XD k x).2.2) $$ H13
  let I8 := loopInv8 c v k (w72 k) XS XN (accB c XW XS XN XQ XD k x) XD XQ (slotC c XW (2 * k.val + 2) (tl (2 * k.val + 2))) x.1
    (mid4 c XW XS XN XQ XD k x).1 (mid4 c XW XS XN XQ XD k x).2.1 (mid4 c XW XS XN XQ XD k x).2.2
  sl_exec
  ihave H9 := (own_congr c (next4_eqA c v XW XS XN XQ XD k x)) $$ H9
  ihave H11 := (own_congr c (congrArg (fun z : LIC F => z.1) (next4_eqL c v XW XS XN XQ XD k x))) $$ GH11
  ihave H12 := (own_congr c (congrArg (fun z : LIC F => z.2.1) (next4_eqL c v XW XS XN XQ XD k x))) $$ GH12
  ihave H13 := (own_congr c (congrArg (fun z : LIC F => z.2.2) (next4_eqL c v XW XS XN XQ XD k x))) $$ GH13
  sl_step
  isplitl [H1]; · iexact H1
  isplitl [H2]; · iexact H2
  isplitl [H3]; · iexact H3
  isplitl [H4]; · iexact H4
  isplitl [HF2_dst]; · iexists _; iexact HF2_dst
  isplitl [HF2]; · iexact HF2
  isplitl [H5]; · iexists _; iexact H5
  isplitl [H6]; · iexact H6
  isplitl [HF1_dst]; · iexists _; iexact HF1_dst
  isplitl [HF1]; · iexact HF1
  isplitl [HF1_src]; · iexact HF1_src
  isplitl [HF2_src]; · iexact HF2_src
  isplitl [H9]; · iexact H9
  isplitl [H10]; · iexists _; iexact H10
  isplitl [H11]; · iexact H11
  isplitl [H12]; · iexact H12
  isplitl [H13]; · iexact H13
  iexists _; iexact H14

end T4

end Cert.KernelIdeal.Hand

end
-- ==== Proof.KernelIdeal.Passes.lean ====
/-
  The two passes as loops: the ring's state before each trip, and the accumulator, lists and overflow the trips leave.
-/
module

public import proofs.«01_k».proof.Proof.KernelIdeal.Ring

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section T4
variable (c : Dev nD) (v : FVec F S384x128 .f32) (XW : Buf (Elt F) (aW.view.loc (c : Thread nD τ))) (XS : Ct (F := F) aS) (XN : Ct (F := F) aN) (XQ : Ct (F := F) aQ) (XD : Ct (F := F) aD)

/-- The first accumulator, the lists and the overflow before trip `k`. -/
def st4 (x : Ct (F := F) aA × LIC F) : ℕ → Ct (F := F) aA × LIC F
  | 0 => x
  | k + 1 => if h : k < k0_t4_loop.trips then next4 c v XW XS XN XQ XD ⟨k, h⟩ (st4 x k) else st4 x k

theorem tl_ne {a b : ℕ} (h : a % 49 ≠ b % 49) : tl a ≠ tl b := fun e => h (congrArg Fin.val e)

/-- The tiles at home before a trip, two of them apart, and after it. -/
theorem rest_two {a b p q : Fin 49} (hab : b ≠ a) (hpa : p ≠ a) (hpb : p ≠ b) (hqa : q ≠ a) (hqb : q ≠ b) (hpq : q ≠ p) :
    (bigSep (restSet a b) (homeP c XW) : sProp 𝕄) = iprop(homeP c XW p ∗ homeP c XW q ∗ bigSep (((restSet a b).erase p).erase q) (homeP c XW)) := by
  rw [bigSep_erase (show p ∈ restSet a b by simp [hpa, hpb]), bigSep_erase (show q ∈ (restSet a b).erase p by simp [hqa, hqb, hpq])]; rfl
theorem rest_comm (a b p q : Fin 49) : ((restSet a b).erase p).erase q = ((restSet p q).erase a).erase b := by
  ext t; simp only [restSet, Finset.mem_erase, Finset.mem_univ, and_true]; tauto

theorem slotE_eq (n : ℕ) : (slotE (F := F) c n : sProp 𝕄) = iprop(∃ f, slotP c n f) := rfl
theorem flE_eq (n : ℕ) (t : Fin 49) : (flE c XW n t : sProp 𝕄) = iprop(∃ f, flightP c XW n t f) := rfl

/-- Slots, cells and homes after the last trip. -/
theorem ring_end (k : Fin k0_t4_loop.trips) (hk : k.val = 23) :
    iprop((∃ f, slotP c (2 * k.val + 2) f) ∗ cellP c (2 * k.val + 2) ∗ ((∃ f, slotP c (2 * k.val) f) ∗ cellP c (2 * k.val) ∗ (∃ f, slotP c (2 * k.val + 1) f) ∗ cellP c (2 * k.val + 1))
      ∗ homeP c XW (tl (2 * k.val + 1)) ∗ homeP c XW (tl (2 * k.val + 2)) ∗ bigSep (restSet (tl (2 * k.val + 1)) (tl (2 * k.val + 2))) (homeP c XW)) ⊢ (ringFree c XW : sProp 𝕄) := by
  rw [hk]
  unfold ringFree
  rw [homes_two c XW (tl_ne (a := 48) (b := 47) (by decide)), cellP_mod (F := F) c (show 0 % 3 = (2 * 23 + 2) % 3 by decide),
    cellP_mod (F := F) c (show 1 % 3 = (2 * 23) % 3 by decide), cellP_mod (F := F) c (show 2 % 3 = (2 * 23 + 1) % 3 by decide),
    slotE_mod (F := F) c (show 0 % 3 = (2 * 23 + 2) % 3 by decide),
    slotE_mod (F := F) c (show 1 % 3 = (2 * 23) % 3 by decide), slotE_mod (F := F) c (show 2 % 3 = (2 * 23 + 1) % 3 by decide)]
  simp only [slotE_eq]
  iintro ⟨H1, H2, ⟨H3, H4, H5, H6⟩, H7, H8, H9⟩
  isplitl [H1]; · iexact H1
  isplitl [H3]; · iexact H3
  isplitl [H5]; · iexact H5
  isplitl [H2]; · iexact H2
  isplitl [H4]; · iexact H4
  isplitl [H6]; · iexact H6
  isplitl [H7]; · iexact H7
  isplitl [H8]; · iexact H8
  iexact H9

/-- … after another trip. -/
theorem ring_step (k : Fin k0_t4_loop.trips) (hk : k.val < 23) :
    iprop((∃ f, slotP c (2 * k.val + 2) f) ∗ cellP c (2 * k.val + 2)
      ∗ ((∃ f, flightP c XW (2 * k.val) (tl (2 * k.val + 3)) f) ∗ (∃ f, flightP c XW (2 * k.val + 1) (tl (2 * k.val + 4)) f))
      ∗ homeP c XW (tl (2 * k.val + 1)) ∗ homeP c XW (tl (2 * k.val + 2))
      ∗ bigSep (((restSet (tl (2 * k.val + 1)) (tl (2 * k.val + 2))).erase (tl (2 * k.val + 3))).erase (tl (2 * k.val + 4))) (homeP c XW))
    ⊢ (ringAt c XW (k.val + 1) : sProp 𝕄) := by
  unfold ringAt
  rw [if_pos (show k.val + 1 < 24 by omega), rest_comm, show 2 * (k.val + 1) + 1 = 2 * k.val + 3 by omega, show 2 * (k.val + 1) + 2 = 2 * k.val + 4 by omega,
    show 2 * (k.val + 1) = 2 * k.val + 2 by omega,
    rest_two c XW (a := tl (2 * k.val + 3)) (b := tl (2 * k.val + 4)) (p := tl (2 * k.val + 1)) (q := tl (2 * k.val + 2))
      (tl_ne (by omega)) (tl_ne (by omega)) (tl_ne (by omega)) (tl_ne (by omega)) (tl_ne (by omega)) (tl_ne (by omega)),
    flE_mod c XW (show (2 * k.val + 3) % 3 = (2 * k.val) % 3 by omega), flE_mod c XW (show (2 * k.val + 4) % 3 = (2 * k.val + 1) % 3 by omega)]
  simp only [slotE_eq, flE_eq]
  iintro ⟨H1, H2, ⟨H3, H4⟩, H7, H8, H9⟩
  isplitl [H1]; · iexact H1
  isplitl [H2]; · iexact H2
  isplitl [H3]; · iexact H3
  isplitl [H4]; · iexact H4
  isplitl [H7]; · iexact H7
  isplitl [H8]; · iexact H8
  iexact H9

set_option warn.classDefReducibility false in
/-- The first pass's invariant. -/
def loopInv4 (x : Ct (F := F) aA × LIC F) :
    LoopInvTy_k0_t4 (F := F) Unit ℕ (Pipeline.UD sig nD τ) ℕ 𝒱₀ c none Set.univ aX haX aW haW aS haS aN haN aTV haTV aTI haTI aQ haQ aE haE aR haR aA haA aB haB aD haD aL haL aI haI aC haC cc0_scratch7 v where
  inv k _ := iprop(own c aS XS ∗ own c aN XN ∗ own c aQ XQ ∗ own c aD XD ∗ ringAt c XW k ∗ own c aA (st4 c v XW XS XN XQ XD x k).1 ∗ (∃ g, own c aB g)
    ∗ own c aL (st4 c v XW XS XN XQ XD x k).2.1 ∗ own c aI (st4 c v XW XS XN XQ XD x k).2.2.1 ∗ own c aC (st4 c v XW XS XN XQ XD x k).2.2.2
    ∗ ∃ W, owes (c : Thread nD τ) 0 W)
  step k _ := by
    have e : st4 c v XW XS XN XQ XD x (k.val + 1) = next4 c v XW XS XN XQ XD k (st4 c v XW XS XN XQ XD x k.val) := by
      rw [st4, dif_pos k.isLt]
    rw [e]
    have hlt : k.val < 24 := Nat.lt_of_lt_of_eq k.isLt trips4
    generalize st4 c v XW XS XN XQ XD x k.val = y
    have hr : (ringAt c XW k.val : sProp 𝕄) = iprop(slotE (F := F) c (2 * k.val) ∗ cellP c (2 * k.val) ∗ flE c XW (2 * k.val + 1) (tl (2 * k.val + 1)) ∗ flE c XW (2 * k.val + 2) (tl (2 * k.val + 2))
        ∗ bigSep (restSet (tl (2 * k.val + 1)) (tl (2 * k.val + 2))) (homeP c XW)) := by unfold ringAt; rw [if_pos hlt]
    rw [hr]
    by_cases hk : k.val < 23
    · rw [rest_two c XW (a := tl (2 * k.val + 1)) (b := tl (2 * k.val + 2)) (p := tl (2 * k.val + 3)) (q := tl (2 * k.val + 4))
        (tl_ne (by omega)) (tl_ne (by omega)) (tl_ne (by omega)) (tl_ne (by omega)) (tl_ne (by omega)) (tl_ne (by omega))]
      simp only [slotE_eq, flE_eq]
      iintro ⟨H1, H2, H3, H4, ⟨⟨%f, H5⟩, H6, ⟨%f1, H7⟩, ⟨%f2, H8⟩, H9, H10, H11⟩, H12, ⟨%g, H13⟩, H14, H15, H16, H17⟩
      iapply (wp_wand_r frame (wpE (defs₀ (F := F)) 𝒱₀ (c : Thread nD τ) none) Set.univ)
      isplitl [H1 H2 H3 H4 H5 H6 H7 H8 H9 H10 H12 H13 H14 H15 H16 H17]
      · iapply (trip4 c v XW XS XN XQ XD k hk y f f1 f2 g)
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexact H12
        isplitl [H13]; · iexact H13
        isplitl [H14]; · iexact H14
        isplitl [H15]; · iexact H15
        isplitl [H16]; · iexact H16
        iexact H17
      · iintro %_u ⟨H1, H2, H3, H4, H5, H6, H7, H8, H9, H10, H12, H13, H14, H15, H16, H17⟩
        isplitl [H1]; · iexact H1
        isplitl [H2]; · iexact H2
        isplitl [H3]; · iexact H3
        isplitl [H4]; · iexact H4
        isplitl [H5 H6 H7 H8 H9 H10 H11]
        · iapply (ring_step c XW k hk)
          isplitl [H5]; · iexact H5
          isplitl [H6]; · iexact H6
          isplitl [H7 H8]
          · isplitl [H7]; · iexact H7
            iexact H8
          isplitl [H9]; · iexact H9
          isplitl [H10]; · iexact H10
          iexact H11
        isplitl [H12]; · iexact H12
        isplitl [H13]; · iexact H13
        isplitl [H14]; · iexact H14
        isplitl [H15]; · iexact H15
        isplitl [H16]; · iexact H16
        iexact H17
    · have he : (ringAt c XW (k.val + 1) : sProp 𝕄) = ringFree c XW := by unfold ringAt; rw [if_neg (by omega)]
      rw [he]
      simp only [slotE_eq, flE_eq]
      iintro ⟨H1, H2, H3, H4, ⟨⟨%f, H5⟩, H6, ⟨%f1, H7⟩, ⟨%f2, H8⟩, H11⟩, H12, ⟨%g, H13⟩, H14, H15, H16, H17⟩
      iapply (wp_wand_r frame (wpE (defs₀ (F := F)) 𝒱₀ (c : Thread nD τ) none) Set.univ)
      isplitl [H1 H2 H3 H4 H5 H6 H7 H8 H12 H13 H14 H15 H16 H17]
      · iapply (trip4_last c v XW XS XN XQ XD k hk y f f1 f2 g)
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H12]; · iexact H12
        isplitl [H13]; · iexact H13
        isplitl [H14]; · iexact H14
        isplitl [H15]; · iexact H15
        isplitl [H16]; · iexact H16
        iexact H17
      · iintro %_u ⟨H1, H2, H3, H4, H5, H6, H7, H8, H9, H10, H18, H19, H12, H13, H14, H15, H16, H17⟩
        isplitl [H1]; · iexact H1
        isplitl [H2]; · iexact H2
        isplitl [H3]; · iexact H3
        isplitl [H4]; · iexact H4
        isplitl [H5 H6 H7 H8 H9 H10 H18 H19 H11]
        · iapply (ring_end c XW k (by omega))
          isplitl [H5]; · iexact H5
          isplitl [H6]; · iexact H6
          isplitl [H7 H8 H9 H10]
          · isplitl [H7]; · iexact H7
            isplitl [H8]; · iexact H8
            isplitl [H9]; · iexact H9
            iexact H10
          isplitl [H18]; · iexact H18
          isplitl [H19]; · iexact H19
          iexact H11
        isplitl [H12]; · iexact H12
        isplitl [H13]; · iexact H13
        isplitl [H14]; · iexact H14
        isplitl [H15]; · iexact H15
        isplitl [H16]; · iexact H16
        iexact H17

end T4

/-! ## Loop `16`: the second pass, a tile a trip -/

section T16
variable (c : Dev nD) (XW : Buf (Elt F) (aW.view.loc (c : Thread nD τ))) (XS : Ct (F := F) aS) (XN : Ct (F := F) aN) (XQ : Ct (F := F) aQ) (XD : Ct (F := F) aD)

abbrev w16 (k : Fin k0_t16_loop.trips) : BitVec 32 := Scf.iv 0#32 1#32 k
/-- The accumulator in trip `k`: tile `k`'s product. -/
def acc16 (k : Fin k0_t16_loop.trips) : Ct (F := F) aA :=
  aA.view.writes (Elt F) aA.view.junk (pieces (p17 c k XQ (slotC c XW k.val (tl k.val))) k0_t17_loop.trips)
/-- The lists after trip `k`: tile `k` inserted. -/
def next16 (k : Fin k0_t16_loop.trips) (x : LI F) : LI F :=
  st18 c k (w16 k) XS XN (acc16 c XW XQ k) XD (x.1, x.2) k0_t18_loop.trips
theorem acc16_eq (k : Fin k0_t16_loop.trips) (g : Ct (F := F) aA) :
    fillTo aA k0_t17_loop.trips (p17 c k XQ (slotC c XW k.val (tl k.val))) g k0_t17_loop.trips = acc16 c XW XQ k := fillTo_all aA _ _ g (by decide)
attribute [irreducible] acc16
theorem next16_eq (k : Fin k0_t16_loop.trips) (x : LI F) : st18 c k (w16 k) XS XN (acc16 c XW XQ k) XD (x.1, x.2) k0_t18_loop.trips = next16 c XW XS XN XQ XD k x := rfl
attribute [irreducible] next16

/-- One tile of the second pass. -/
theorem trip16 (k : Fin k0_t16_loop.trips) (x : LI F) (f) (g : Ct (F := F) aA) :
    iprop(own c aS XS ∗ own c aN XN ∗ own c aQ XQ ∗ own c aD XD ∗ slotP c k.val f ∗ cellP c k.val ∗ homeP c XW (tl k.val) ∗ own c aA g ∗ own c aL x.1 ∗ own c aI x.2
          ∗ (∃ W, owes (c : Thread nD τ) 0 W))
      ⊢ wp frame (wpE (defs₀ (F := F)) 𝒱₀ (c : Thread nD τ) none) Set.univ (k0_t16_body (F := F) aX haX aW haW aS haS aN haN aTV haTV aTI haTI aQ haQ aE haE aR haR aA haA aB haB aD haD aL haL aI haI aC haC cc0_scratch7 k ())
        (fun _ => iprop(own c aS XS ∗ own c aN XN ∗ own c aQ XQ ∗ own c aD XD ∗ (∃ f, slotP c k.val f) ∗ cellP c k.val ∗ homeP c XW (tl k.val) ∗ (∃ g, own c aA g)
          ∗ own c aL (next16 c XW XS XN XQ XD k x).1 ∗ own c aI (next16 c XW XS XN XQ XD k x).2 ∗ ∃ W, owes (c : Thread nD τ) 0 W)) := by
  sl_unfold [k0_t16_body]
  iintro ⟨H1, H2, H3, H4, H5, H6, H7, H8, H9, H10, %W, H11⟩
  sl_exec
  ihave G8 := (own_congr c (acc16_eq c XW XQ k g)) $$ H8
  let I18 := loopInv18 c k (w16 k) XS XN (acc16 c XW XQ k) XD x.1 x.2
  sl_exec
  ihave G9 := (own_congr c (congrArg (fun z : LI F => z.1) (next16_eq c XW XS XN XQ XD k x))) $$ H9
  ihave G10 := (own_congr c (congrArg (fun z : LI F => z.2) (next16_eq c XW XS XN XQ XD k x))) $$ H10
  sl_step
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [G8]; · iexists _; iexact G8
  isplitl [G9]; · iexact G9
  isplitl [G10]; · iexact G10
  iexists _; iexact H11

/-- The ring opened at slot `k` and tile `t`, and closed again. -/
theorem ring_open (n : ℕ) (t : Fin 49) : (ringFree c XW : sProp 𝕄) ⊢ iprop((slotE (F := F) c n ∗ cellP c n ∗ homeP c XW t) ∗ ((slotE (F := F) c n ∗ cellP c n ∗ homeP c XW t) -∗ ringFree c XW)) := by
  unfold ringFree
  rw [show (bigSep Finset.univ (homeP c XW) : sProp 𝕄) = iprop(homeP c XW t ∗ bigSep (Finset.univ.erase t) (homeP c XW)) from bigSep_erase (Finset.mem_univ t)]
  have h3 : n % 3 = 0 ∨ n % 3 = 1 ∨ n % 3 = 2 := by omega
  rcases h3 with h | h | h
  · rw [slotE_mod (F := F) c (m := n) (n := 0) h, cellP_mod (F := F) c (m := n) (n := 0) h]
    iintro ⟨H1, H2, H3, H4, H5, H6, H7, H8⟩
    isplitl [H1 H4 H7]
    · isplitl [H1]; · iexact H1
      isplitl [H4]; · iexact H4
      iexact H7
    iintro ⟨H1, H4, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [slotE_mod (F := F) c (m := n) (n := 1) h, cellP_mod (F := F) c (m := n) (n := 1) h]
    iintro ⟨H1, H2, H3, H4, H5, H6, H7, H8⟩
    isplitl [H2 H5 H7]
    · isplitl [H2]; · iexact H2
      isplitl [H5]; · iexact H5
      iexact H7
    iintro ⟨H2, H5, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [slotE_mod (F := F) c (m := n) (n := 2) h, cellP_mod (F := F) c (m := n) (n := 2) h]
    iintro ⟨H1, H2, H3, H4, H5, H6, H7, H8⟩
    isplitl [H3 H6 H7]
    · isplitl [H3]; · iexact H3
      isplitl [H6]; · iexact H6
      iexact H7
    iintro ⟨H3, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The lists before trip `k`. -/
def st16 (x : LI F) : ℕ → LI F
  | 0 => x
  | k + 1 => if h : k < k0_t16_loop.trips then next16 c XW XS XN XQ XD ⟨k, h⟩ (st16 x k) else st16 x k

set_option warn.classDefReducibility false in
/-- The second pass's invariant. -/
def loopInv16 (x : LI F) : LoopInvTy_k0_t16 (F := F) Unit ℕ (Pipeline.UD sig nD τ) ℕ 𝒱₀ c none Set.univ aX haX aW haW aS haS aN haN aTV haTV aTI haTI aQ haQ aE haE aR haR aA haA aB haB aD haD aL haL aI haI aC haC cc0_scratch7 where
  inv k _ := iprop(own c aS XS ∗ own c aN XN ∗ own c aQ XQ ∗ own c aD XD ∗ ringFree c XW ∗ (∃ g, own c aA g)
    ∗ own c aL (st16 c XW XS XN XQ XD x k).1 ∗ own c aI (st16 c XW XS XN XQ XD x k).2 ∗ ∃ W, owes (c : Thread nD τ) 0 W)
  step k _ := by
    have e : st16 c XW XS XN XQ XD x (k.val + 1) = next16 c XW XS XN XQ XD k (st16 c XW XS XN XQ XD x k.val) := by
      rw [st16, dif_pos k.isLt]
    rw [e]
    generalize st16 c XW XS XN XQ XD x k.val = y
    iintro ⟨H1, H2, H3, H4, H5, ⟨%g, H8⟩, H9, H10, H11⟩
    have ro := ring_open (F := F) c XW k.val (tl k.val)
    simp only [slotE_eq] at ro
    ihave HR := ro $$ H5
    icases HR with ⟨⟨H5, H6, H7⟩, HR⟩
    icases H5 with ⟨%f, H5⟩
    iapply (wp_wand_r frame (wpE (defs₀ (F := F)) 𝒱₀ (c : Thread nD τ) none) Set.univ)
    isplitl [H1 H2 H3 H4 H5 H6 H7 H8 H9 H10 H11]
    · iapply (trip16 c XW XS XN XQ XD k y f g)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iintro %_u ⟨H1, H2, H3, H4, H5, H6, H7, H8, H9, H10, H11⟩
      isplitl [H1]; · iexact H1
      isplitl [H2]; · iexact H2
      isplitl [H3]; · iexact H3
      isplitl [H4]; · iexact H4
      isplitl [H5 H6 H7 HR]
      · iapply HR
        isplitl [H5]; · iexact H5
        isplitl [H6]; · iexact H6
        iexact H7
      isplitl [H8]; · iexact H8
      isplitl [H9]; · iexact H9
      isplitl [H10]; · iexact H10
      iexact H11

end T16

end Cert.KernelIdeal.Hand

end
-- ==== Proof.KernelIdeal.Body.lean ====
/-
  The kernel's body as one run, from staged blocks to results.
-/
module

public import proofs.«01_k».proof.Proof.KernelIdeal.Passes

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] ringAt ringFree

section Body
variable (c : Dev nD) (XW : Buf (Elt F) (aW.view.loc (c : Thread nD τ))) (XX : Ct (F := F) aX) (XS : Ct (F := F) aS) (XN : Ct (F := F) aN)

/-- The codes, the token scales and their broadcast, as the quantiser leaves them. -/
def q0 : Ct (F := F) aQ := aQ.view.writes (Elt F) aQ.view.junk (pieces (p1q c XX) k0_t1_loop.trips)
def e0 : Ct (F := F) aE := aE.view.writes (Elt F) aE.view.junk (pieces (p1e c XX) k0_t1_loop.trips)
def d0 : Ct (F := F) aD := aD.view.writes (Elt F) aD.view.junk (pieces (p1d c XX) k0_t1_loop.trips)
theorem q0_eq (g : Ct (F := F) aQ) : fillTo aQ k0_t1_loop.trips (p1q c XX) g k0_t1_loop.trips = q0 c XX := fillTo_all aQ _ _ g (by decide)
theorem e0_eq (g : Ct (F := F) aE) : fillTo aE k0_t1_loop.trips (p1e c XX) g k0_t1_loop.trips = e0 c XX := fillTo_all aE _ _ g (by decide)
theorem d0_eq (g : Ct (F := F) aD) : fillTo aD k0_t1_loop.trips (p1d c XX) g k0_t1_loop.trips = d0 c XX := fillTo_all aD _ _ g (by decide)
/-- The lists and the overflow as reset: `−∞`, zero, `−∞`. -/
def l0 : Ct (F := F) aL := aL.view.writes (Elt F) aL.view.junk [⟨Rect.unit (s := S8x384x128) ![0, 0, 0] S8x384x128.size inb_S8x384x128_S8x384x128_0_0_0, k0_pay2⟩]
def i0 : Ct (F := F) aI := aI.view.writes (Elt F) aI.view.junk [⟨Rect.unit (s := S8x384x128) ![0, 0, 0] S8x384x128.size inb_S8x384x128_S8x384x128_0_0_0, k0_pay3⟩]
def c0 : Ct (F := F) aC := aC.view.writes (Elt F) aC.view.junk [⟨Rect.unit (s := S384x128) ![0, 0] S384x128.size inb_S384x128_S384x128_0_0, k0_pay315 k0_pay314⟩]
theorem l0_eq : aL.view.writes (Elt F) aL.view.junk [⟨Rect.unit (s := S8x384x128) ![0, 0, 0] S8x384x128.size inb_S8x384x128_S8x384x128_0_0_0, k0_pay2⟩] = l0 (F := F) := rfl
theorem i0_eq : aI.view.writes (Elt F) aI.view.junk [⟨Rect.unit (s := S8x384x128) ![0, 0, 0] S8x384x128.size inb_S8x384x128_S8x384x128_0_0_0, k0_pay3⟩] = i0 (F := F) := rfl
theorem c0_eq : aC.view.writes (Elt F) aC.view.junk [⟨Rect.unit (s := S384x128) ![0, 0] S384x128.size inb_S384x128_S384x128_0_0, k0_pay315 k0_pay314⟩] = c0 (F := F) := rfl
attribute [irreducible] l0 i0 c0
/-- Tile 0's product. -/
def acc0 : Ct (F := F) aA :=
  aA.view.writes (Elt F) aA.view.junk (pieces (p3 c k0_pay314 (q0 c XX) (slotC c XW 0 (tl 0))) k0_t3_loop.trips)
theorem acc0_eq (gQ : Ct (F := F) aQ) (g : Ct (F := F) aA) :
    fillTo aA k0_t3_loop.trips (p3 c k0_pay314 (fillTo aQ k0_t1_loop.trips (p1q c XX) gQ k0_t1_loop.trips) (slotC c XW 0 (tl 0))) g k0_t3_loop.trips = acc0 c XW XX := by
  rw [q0_eq]; exact fillTo_all aA _ _ g (by decide)
attribute [irreducible] q0 e0 d0 acc0

/-- The last tile but its fold, the lists and the overflow after the first pass's trips. -/
def x4 : Ct (F := F) aA × LIC F := st4 c k0_pay314 XW XS XN (q0 c XX) (d0 c XX) (acc0 c XW XX, l0, i0, c0) k0_t4_loop.trips
theorem x4_eq : st4 c k0_pay314 XW XS XN (q0 c XX) (d0 c XX) (acc0 c XW XX, l0, i0, c0) k0_t4_loop.trips = x4 c XW XX XS XN := rfl
attribute [irreducible] x4
/-- The lists and the overflow after the first pass. -/
def x11 : LIC F := st11 c k0_pay314 XS XN (x4 c XW XX XS XN).1 (d0 c XX) ((x4 c XW XX XS XN).2.1, (x4 c XW XX XS XN).2.2.1, (x4 c XW XX XS XN).2.2.2) k0_t11_loop.trips
theorem x11_eq : st11 c k0_pay314 XS XN (x4 c XW XX XS XN).1 (d0 c XX) ((x4 c XW XX XS XN).2.1, (x4 c XW XX XS XN).2.2.1, (x4 c XW XX XS XN).2.2.2) k0_t11_loop.trips
  = x11 c XW XX XS XN := rfl
attribute [irreducible] x11
/-- The first selection's values, indices, and the mark of lanes that overflowed. -/
def tv1 : Ct (F := F) aTV := aTV.view.writes (Elt F) aTV.view.junk
  (pieces (p14v c k0_pay314 (x11 c XW XX XS XN).1 (x11 c XW XX XS XN).2.1 (x11 c XW XX XS XN).2.2 k0_pay334) k0_t14_loop.trips)
def ti1 : Ct (F := F) aTI := aTI.view.writes (Elt F) aTI.view.junk
  (pieces (p14i c k0_pay314 (x11 c XW XX XS XN).1 (x11 c XW XX XS XN).2.1 (x11 c XW XX XS XN).2.2 k0_pay334) k0_t14_loop.trips)
def mk1 : V8 F := st14 c k0_pay314 (x11 c XW XX XS XN).1 (x11 c XW XX XS XN).2.1 (x11 c XW XX XS XN).2.2 k0_pay334 k0_t14_loop.trips
theorem tv1_eq (g : Ct (F := F) aTV) : fillTo aTV k0_t14_loop.trips
  (p14v c k0_pay314 (x11 c XW XX XS XN).1 (x11 c XW XX XS XN).2.1 (x11 c XW XX XS XN).2.2 k0_pay334) g k0_t14_loop.trips = tv1 c XW XX XS XN := fillTo_all aTV _ _ g (by decide)
theorem ti1_eq (g : Ct (F := F) aTI) : fillTo aTI k0_t14_loop.trips
  (p14i c k0_pay314 (x11 c XW XX XS XN).1 (x11 c XW XX XS XN).2.1 (x11 c XW XX XS XN).2.2 k0_pay334) g k0_t14_loop.trips = ti1 c XW XX XS XN := fillTo_all aTI _ _ g (by decide)
theorem mk1_eq : st14 c k0_pay314 (x11 c XW XX XS XN).1 (x11 c XW XX XS XN).2.1 (x11 c XW XX XS XN).2.2 k0_pay334 k0_t14_loop.trips = mk1 c XW XX XS XN := rfl
attribute [irreducible] tv1 ti1 mk1
/-- Whether the second pass runs. -/
def again : Prop :=
  Scalar.cmpi CmpIPredicate.ne (Scalar.extui (Scalar.cmpf CmpFPredicate.ogt (k0_pay1 (k0_pay355 (mk1 c XW XX XS XN))) (FloatOps.ofBits FTy.f32 0#32)) : BitVec 32) 0#32 = 1#1
/-- The lists after the second pass. -/
def x16 : LI F := st16 c XW XS XN (q0 c XX) (d0 c XX) (l0, i0) k0_t16_loop.trips
theorem x16_eq : st16 c XW XS XN (q0 c XX) (d0 c XX) (l0, i0) k0_t16_loop.trips = x16 c XW XX XS XN := rfl
attribute [irreducible] x16
/-- The second selection. -/
def tv2 : Ct (F := F) aTV := aTV.view.writes (Elt F) aTV.view.junk (pieces (p20v c (x16 c XW XX XS XN).1 (x16 c XW XX XS XN).2) k0_t20_loop.trips)
def ti2 : Ct (F := F) aTI := aTI.view.writes (Elt F) aTI.view.junk (pieces (p20i c (x16 c XW XX XS XN).1 (x16 c XW XX XS XN).2) k0_t20_loop.trips)
theorem tv2_eq (g : Ct (F := F) aTV) : fillTo aTV k0_t20_loop.trips (p20v c (x16 c XW XX XS XN).1 (x16 c XW XX XS XN).2) g k0_t20_loop.trips = tv2 c XW XX XS XN :=
  fillTo_all aTV _ _ g (by decide)
theorem ti2_eq (g : Ct (F := F) aTI) : fillTo aTI k0_t20_loop.trips (p20i c (x16 c XW XX XS XN).1 (x16 c XW XX XS XN).2) g k0_t20_loop.trips = ti2 c XW XX XS XN :=
  fillTo_all aTI _ _ g (by decide)
attribute [irreducible] tv2 ti2
open Classical in
/-- The values and indices the body leaves. -/
def tvF : Ct (F := F) aTV := if again c XW XX XS XN then tv2 c XW XX XS XN else tv1 c XW XX XS XN
open Classical in
def tiF : Ct (F := F) aTI := if again c XW XX XS XN then ti2 c XW XX XS XN else ti1 c XW XX XS XN

theorem ring_start (f f1 f2) :
    iprop(slotP c 0 f ∗ cellP c 0 ∗ flightP c XW 1 (tl 1) f1 ∗ flightP c XW 2 (tl 2) f2 ∗ homeP c XW (tl 0) ∗ bigSep ((restSet (tl 1) (tl 2)).erase (tl 0)) (homeP c XW))
      ⊢ (ringAt c XW 0 : sProp 𝕄) := by
  unfold ringAt
  rw [if_pos (by decide), show (bigSep (restSet (tl (2 * 0 + 1)) (tl (2 * 0 + 2))) (homeP c XW) : sProp 𝕄)
    = iprop(homeP c XW (tl 0) ∗ bigSep ((restSet (tl 1) (tl 2)).erase (tl 0)) (homeP c XW)) from bigSep_erase (by decide)]
  simp only [slotE_eq, flE_eq]
  iintro ⟨H1, H2, H3, H4, H5, H6⟩
  isplitl [H1]; · iexists _; iexact H1
  isplitl [H2]; · iexact H2
  isplitl [H3]; · iexists _; iexact H3
  isplitl [H4]; · iexists _; iexact H4
  isplitl [H5]; · iexact H5
  iexact H6

theorem ring_last : (ringAt c XW k0_t4_loop.trips : sProp 𝕄) ⊢ ringFree c XW := by
  unfold ringAt; rw [if_neg (by decide)]

/-- THE BODY: from the staged blocks, the weights at home and the ring at rest it leaves the results it computes. -/
theorem body_run (f0 f1 f2) (gTV : Ct (F := F) aTV) (gTI : Ct (F := F) aTI) (gQ : Ct (F := F) aQ) (gE : Ct (F := F) aE)
    (gA : Ct (F := F) aA) (gB : Ct (F := F) aB) (gD : Ct (F := F) aD) (gL : Ct (F := F) aL) (gI : Ct (F := F) aI) (gC : Ct (F := F) aC) :
    iprop(own c aX XX ∗ own c aS XS ∗ own c aN XN ∗ own c aTV gTV ∗ own c aTI gTI ∗ own c aQ gQ ∗ own c aE gE
          ∗ slotP c 0 f0 ∗ slotP c 1 f1 ∗ slotP c 2 f2 ∗ cellP c 0 ∗ cellP c 1 ∗ cellP c 2
          ∗ homeP c XW (tl 0) ∗ homeP c XW (tl 1) ∗ homeP c XW (tl 2) ∗ bigSep ((restSet (tl 1) (tl 2)).erase (tl 0)) (homeP c XW)
          ∗ own c aA gA ∗ own c aB gB ∗ own c aD gD ∗ own c aL gL ∗ own c aI gI ∗ own c aC gC
          ∗ (∃ W, owes (c : Thread nD τ) 0 W))
      ⊢ wp frame (wpE (defs₀ (F := F)) 𝒱₀ (c : Thread nD τ) none) Set.univ (cc0_lm_head_top8 (F := F) aX haX aW haW aS haS aN haN aTV haTV aTI haTI aQ haQ aE haE aR haR aA haA aB haB aD haD aL haL aI haI aC haC cc0_scratch7) (fun _ => iprop(own c aX XX ∗ own c aS XS ∗ own c aN XN ∗ own c aTV (tvF c XW XX XS XN) ∗ own c aTI (tiF c XW XX XS XN)
          ∗ own c aQ (q0 c XX) ∗ own c aE (e0 c XX) ∗ ringFree c XW ∗ (∃ g, own c aA g) ∗ (∃ g, own c aB g) ∗ (∃ g, own c aD g) ∗ (∃ g, own c aL g)
          ∗ (∃ g, own c aI g) ∗ (∃ g, own c aC g) ∗ ∃ W, owes (c : Thread nD τ) 0 W)) := by
  have h1 := cond1_true
  sl_unfold [cc0_lm_head_top8]
  iintro ⟨HX, HS, HN, HTV, HTI, HQ, HE, HF0, HF1, HF2, HC0, HC1, HC2, HW0, HW1, HW2, HWr, HA, HB, HD, HL, HI, HC, %W, HW⟩
  sl_exec
  ihave JQ := (own_congr c (q0_eq c XX gQ)) $$ HQ
  ihave JE := (own_congr c (e0_eq c XX gE)) $$ HE
  ihave JD := (own_congr c (d0_eq c XX gD)) $$ HD
  ihave JA := (own_congr c (acc0_eq c XW XX gQ gA)) $$ HA
  ihave JL := (own_congr c l0_eq) $$ HL
  ihave JI := (own_congr c i0_eq) $$ HI
  ihave JC := (own_congr c c0_eq) $$ HC
  ihave JR := (ring_start c XW (slotC c XW 0 (tl 0)) f1 f2) $$ [HF0 HC0 HC1 HC2 HW0 HWr]
  · isplitl [HF0]; · iexact HF0
    isplitl [HC0]; · iexact HC0
    isplitl [HC1]; · iexact HC1
    isplitl [HC2]; · iexact HC2
    isplitl [HW0]; · iexact HW0
    iexact HWr
  let I4 := loopInv4 c k0_pay314 XW XS XN (q0 c XX) (d0 c XX) (acc0 c XW XX, l0, i0, c0)
  sl_exec
  ihave KA := (own_congr c (congrArg (fun z : Ct (F := F) aA × LIC F => z.1) (x4_eq c XW XX XS XN))) $$ JA
  ihave KL := (own_congr c (congrArg (fun z : Ct (F := F) aA × LIC F => z.2.1) (x4_eq c XW XX XS XN))) $$ JL
  ihave KI := (own_congr c (congrArg (fun z : Ct (F := F) aA × LIC F => z.2.2.1) (x4_eq c XW XX XS XN))) $$ JI
  ihave KC := (own_congr c (congrArg (fun z : Ct (F := F) aA × LIC F => z.2.2.2) (x4_eq c XW XX XS XN))) $$ JC
  let I11 := loopInv11 c k0_pay314 XS XN (x4 c XW XX XS XN).1 (d0 c XX) (x4 c XW XX XS XN).2.1 (x4 c XW XX XS XN).2.2.1 (x4 c XW XX XS XN).2.2.2
  sl_exec
  ihave ML := (own_congr c (congrArg (fun z : LIC F => z.1) (x11_eq c XW XX XS XN))) $$ KL
  ihave MI := (own_congr c (congrArg (fun z : LIC F => z.2.1) (x11_eq c XW XX XS XN))) $$ KI
  ihave MC := (own_congr c (congrArg (fun z : LIC F => z.2.2) (x11_eq c XW XX XS XN))) $$ KC
  let I14 := loopInv14 c k0_pay314 (x11 c XW XX XS XN).1 (x11 c XW XX XS XN).2.1 (x11 c XW XX XS XN).2.2 k0_pay334 gTV gTI
  sl_exec
  ihave NR := (ring_last c XW) $$ JR
  by_cases ha : again c XW XX XS XN
  · have hc : body_run.sl.v54 c XW XX XS XN = 1#1 := by rw [again, ← mk1_eq] at ha; exact ha
    sl_exec
    ihave PL := (own_congr c l0_eq) $$ ML
    ihave PI := (own_congr c i0_eq) $$ MI
    let I16 := loopInv16 c XW XS XN (q0 c XX) (d0 c XX) (l0, i0)
    sl_exec
    ihave ML := (own_congr c (congrArg (fun z : LI F => z.1) (x16_eq c XW XX XS XN))) $$ PL
    ihave MI := (own_congr c (congrArg (fun z : LI F => z.2) (x16_eq c XW XX XS XN))) $$ PI
    ihave OTV := (own_congr c (tv1_eq c XW XX XS XN gTV)) $$ HTV
    ihave OTI := (own_congr c (ti1_eq c XW XX XS XN gTI)) $$ HTI
    let I20 := loopInv20 c (x16 c XW XX XS XN).1 (x16 c XW XX XS XN).2 (tv1 c XW XX XS XN) (ti1 c XW XX XS XN)
    sl_exec
    ihave NTV := (own_congr c ((tv2_eq c XW XX XS XN _).trans (if_pos ha).symm)) $$ OTV
    ihave NTI := (own_congr c ((ti2_eq c XW XX XS XN _).trans (if_pos ha).symm)) $$ OTI
    sl_step
    isplitl [HX]; · iexact HX
    isplitl [HS]; · iexact HS
    isplitl [HN]; · iexact HN
    isplitl [NTV]; · iexact NTV
    isplitl [NTI]; · iexact NTI
    isplitl [JQ]; · iexact JQ
    isplitl [JE]; · iexact JE
    isplitl [NR]; · iexact NR
    isplitl [KA]; · iexists _; iexact KA
    isplitl [HB]; · iexists _; iexact HB
    isplitl [JD]; · iexists _; iexact JD
    isplitl [ML]; · iexists _; iexact ML
    isplitl [MI]; · iexists _; iexact MI
    isplitl [MC]; · iexists _; iexact MC
    iexists _; iexact HW
  · have hc : ¬ body_run.sl.v54 c XW XX XS XN = 1#1 := by rw [again, ← mk1_eq] at ha; exact ha
    sl_exec
    ihave NTV := (own_congr c ((tv1_eq c XW XX XS XN _).trans (if_neg ha).symm)) $$ HTV
    ihave NTI := (own_congr c ((ti1_eq c XW XX XS XN _).trans (if_neg ha).symm)) $$ HTI
    sl_step
    isplitl [HX]; · iexact HX
    isplitl [HS]; · iexact HS
    isplitl [HN]; · iexact HN
    isplitl [NTV]; · iexact NTV
    isplitl [NTI]; · iexact NTI
    isplitl [JQ]; · iexact JQ
    isplitl [JE]; · iexact JE
    isplitl [NR]; · iexact NR
    isplitl [KA]; · iexists _; iexact KA
    isplitl [HB]; · iexists _; iexact HB
    isplitl [JD]; · iexists _; iexact JD
    isplitl [ML]; · iexists _; iexact ML
    isplitl [MI]; · iexists _; iexact MI
    isplitl [MC]; · iexists _; iexact MC
    iexists _; iexact HW

end Body

end Cert.KernelIdeal.Hand

end
-- ==== Proof.KernelIdeal.Launch.lean ====
/-
  The launch: the body's run as the region's proof data, the host lines around it, and the frame claim.
-/
module

public import proofs.«01_k».proof.Proof.KernelIdeal.Body
public import Idealize.ShloMosaic.Lib.Pipeline.FrameSuffix

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

attribute [local irreducible] ringAt ringFree

theorem entails_of_eq {P Q : sProp 𝕄} (e : P = Q) : P ⊢ Q := e ▸ .rfl

/-! ## Whole buffers -/

theorem own_aX (c : Dev nD) (g : Ct (F := F) aX) : (own c aX g : sProp 𝕄) = (((c : Thread nD τ).loc cc0_stg0_0) ↦{fullShare} g) :=
  congrArg (fun S => (((c : Thread nD τ).loc cc0_stg0_0) ↦[S]{fullShare} g : sProp 𝕄)) (View.set_whole cc0_stg0_0)
theorem own_aS (c : Dev nD) (g : Ct (F := F) aS) : (own c aS g : sProp 𝕄) = (((c : Thread nD τ).loc cc0_stg1_0) ↦{fullShare} g) :=
  congrArg (fun S => (((c : Thread nD τ).loc cc0_stg1_0) ↦[S]{fullShare} g : sProp 𝕄)) (View.set_whole cc0_stg1_0)
theorem own_aN (c : Dev nD) (g : Ct (F := F) aN) : (own c aN g : sProp 𝕄) = (((c : Thread nD τ).loc cc0_stg2_0) ↦{fullShare} g) :=
  congrArg (fun S => (((c : Thread nD τ).loc cc0_stg2_0) ↦[S]{fullShare} g : sProp 𝕄)) (View.set_whole cc0_stg2_0)
theorem own_aTV (c : Dev nD) (g : Ct (F := F) aTV) : (own c aTV g : sProp 𝕄) = (((c : Thread nD τ).loc cc0_stg3_0) ↦{fullShare} g) :=
  congrArg (fun S => (((c : Thread nD τ).loc cc0_stg3_0) ↦[S]{fullShare} g : sProp 𝕄)) (View.set_whole cc0_stg3_0)
theorem own_aTI (c : Dev nD) (g : Ct (F := F) aTI) : (own c aTI g : sProp 𝕄) = (((c : Thread nD τ).loc cc0_stg4_0) ↦{fullShare} g) :=
  congrArg (fun S => (((c : Thread nD τ).loc cc0_stg4_0) ↦[S]{fullShare} g : sProp 𝕄)) (View.set_whole cc0_stg4_0)
theorem own_aQ (c : Dev nD) (g : Ct (F := F) aQ) : (own c aQ g : sProp 𝕄) = (((c : Thread nD τ).loc cc0_stg5_0) ↦{fullShare} g) :=
  congrArg (fun S => (((c : Thread nD τ).loc cc0_stg5_0) ↦[S]{fullShare} g : sProp 𝕄)) (View.set_whole cc0_stg5_0)
theorem own_aE (c : Dev nD) (g : Ct (F := F) aE) : (own c aE g : sProp 𝕄) = (((c : Thread nD τ).loc cc0_stg6_0) ↦{fullShare} g) :=
  congrArg (fun S => (((c : Thread nD τ).loc cc0_stg6_0) ↦[S]{fullShare} g : sProp 𝕄)) (View.set_whole cc0_stg6_0)
theorem own_aA (c : Dev nD) (g : Ct (F := F) aA) : (own c aA g : sProp 𝕄) = (((c : Thread nD τ).loc cc0_scratch1) ↦{fullShare} g) :=
  congrArg (fun S => (((c : Thread nD τ).loc cc0_scratch1) ↦[S]{fullShare} g : sProp 𝕄)) (View.set_whole cc0_scratch1)
theorem own_aB (c : Dev nD) (g : Ct (F := F) aB) : (own c aB g : sProp 𝕄) = (((c : Thread nD τ).loc cc0_scratch2) ↦{fullShare} g) :=
  congrArg (fun S => (((c : Thread nD τ).loc cc0_scratch2) ↦[S]{fullShare} g : sProp 𝕄)) (View.set_whole cc0_scratch2)
theorem own_aD (c : Dev nD) (g : Ct (F := F) aD) : (own c aD g : sProp 𝕄) = (((c : Thread nD τ).loc cc0_scratch3) ↦{fullShare} g) :=
  congrArg (fun S => (((c : Thread nD τ).loc cc0_scratch3) ↦[S]{fullShare} g : sProp 𝕄)) (View.set_whole cc0_scratch3)
theorem own_aL (c : Dev nD) (g : Ct (F := F) aL) : (own c aL g : sProp 𝕄) = (((c : Thread nD τ).loc cc0_scratch4) ↦{fullShare} g) :=
  congrArg (fun S => (((c : Thread nD τ).loc cc0_scratch4) ↦[S]{fullShare} g : sProp 𝕄)) (View.set_whole cc0_scratch4)
theorem own_aI (c : Dev nD) (g : Ct (F := F) aI) : (own c aI g : sProp 𝕄) = (((c : Thread nD τ).loc cc0_scratch5) ↦{fullShare} g) :=
  congrArg (fun S => (((c : Thread nD τ).loc cc0_scratch5) ↦[S]{fullShare} g : sProp 𝕄)) (View.set_whole cc0_scratch5)
theorem own_aC (c : Dev nD) (g : Ct (F := F) aC) : (own c aC g : sProp 𝕄) = (((c : Thread nD τ).loc cc0_scratch6) ↦{fullShare} g) :=
  congrArg (fun S => (((c : Thread nD τ).loc cc0_scratch6) ↦[S]{fullShare} g : sProp 𝕄)) (View.set_whole cc0_scratch6)

/-! ## The weights as tiles, the ring as slots -/

abbrev tileSet (t : Fin 49) : Finset S3840x100352.Idx := (Rect.unit (s := S3840x100352) (tileOff t) S3840x2048.size (tileOff_inb t)).set
abbrev slotSet (s : Fin 3) : Finset S3x3840x2048.Idx := (Rect.unit (s := S3x3840x2048) (slotOff s.val) S1x3840x2048.size (slotOff_inb s.val)).set

theorem tile_set (t : Fin 49) : (tile t).view.set = tileSet t := View.set_slice_whole _ _
theorem rslot_set (s : Fin 3) : (rslot s.val).view.set = slotSet s := (View.set_reshape _ _).trans (View.set_slice_whole _ _)

theorem mem_tileSet (t : Fin 49) (y : S3840x100352.Idx) : y ∈ tileSet t ↔ (y 1).val / 2048 = t.val := by
  rw [Rect.mem_set_unit]
  have h0 : (y 0).val < 3840 := (y 0).isLt
  constructor
  · intro H; have a1 : 2048 * t.val ≤ (y 1).val ∧ (y 1).val < 2048 * t.val + 2048 := H 1; omega
  · intro H i; fin_cases i
    · show 0 ≤ (y 0).val ∧ (y 0).val < 0 + 3840; omega
    · show 2048 * t.val ≤ (y 1).val ∧ (y 1).val < 2048 * t.val + 2048; omega
theorem mem_slotSet (s : Fin 3) (y : S3x3840x2048.Idx) : y ∈ slotSet s ↔ (y 0).val = s.val := by
  rw [Rect.mem_set_unit]
  have hs := s.isLt
  have h1 : (y 1).val < 3840 := (y 1).isLt
  have h2 : (y 2).val < 2048 := (y 2).isLt
  constructor
  · intro H; have a0 : s.val % 3 ≤ (y 0).val ∧ (y 0).val < s.val % 3 + 1 := H 0; omega
  · intro H i; fin_cases i
    · show s.val % 3 ≤ (y 0).val ∧ (y 0).val < s.val % 3 + 1; omega
    · show 0 ≤ (y 1).val ∧ (y 1).val < 0 + 3840; omega
    · show 0 ≤ (y 2).val ∧ (y 2).val < 0 + 2048; omega
theorem tileSet_disjoint : ∀ b b' : Fin 49, b ≠ b' → Disjoint (tileSet b) (tileSet b') := by
  intro b b' hne; rw [Finset.disjoint_left]; intro y hy hy'; rw [mem_tileSet] at hy hy'; exact hne (Fin.ext (hy.symm.trans hy'))
theorem tileSet_cover : (Finset.univ : Finset (Fin 49)).biUnion tileSet = Finset.univ := by
  ext y; simp only [Finset.mem_biUnion, Finset.mem_univ, true_and, iff_true]
  have h : (y 1).val < 100352 := (y 1).isLt
  exact ⟨⟨(y 1).val / 2048, by omega⟩, by rw [mem_tileSet]⟩
theorem slotSet_disjoint : ∀ b b' : Fin 3, b ≠ b' → Disjoint (slotSet b) (slotSet b') := by
  intro b b' hne; rw [Finset.disjoint_left]; intro y hy hy'; rw [mem_slotSet] at hy hy'; exact hne (Fin.ext (hy.symm.trans hy'))
theorem slotSet_cover : (Finset.univ : Finset (Fin 3)).biUnion slotSet = Finset.univ := by
  ext y; simp only [Finset.mem_biUnion, Finset.mem_univ, true_and, iff_true]; exact ⟨(y 0).cast (by decide), by rw [mem_slotSet]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are their tiles at home. -/
theorem w_eq (c : Dev nD) (f : Buf (Elt F) ((c : Thread nD τ).loc main_arg1)) :
    (((c : Thread nD τ).loc main_arg1) ↦{fullShare} f : sProp 𝕄) = bigSep Finset.univ (homeP c f) := by
  rw [Ring.pointsTo_blocks (ℓ := (c : Thread nD τ).loc main_arg1) tileSet tileSet_disjoint tileSet_cover]
  exact bigSep_congr fun b _ => by rw [← tile_set]; rfl

theorem slotP_eq (c : Dev nD) (s : Fin 3) (f) : slotP c s.val f = (((c : Thread nD τ).loc cc0_scratch0) ↦[slotSet s]{fullShare} f : sProp 𝕄) :=
  congrArg (fun S => (_ ↦[S]{fullShare} f : sProp 𝕄)) (rslot_set s)

/-- The ring's buffer whole is its three slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ ∃ f, slotP c 2 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch0) slotSet slotSet_disjoint slotSet_cover f).trans (bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
theorem buf_join (c : Dev nD) :
    iprop((∃ f, slotP c 0 f) ∗ (∃ f, slotP c 1 f) ∗ ∃ f, slotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) slotSet slotSet_disjoint slotSet_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

/-! ## The region invariant -/

variable (m : (ℓ : Loc nD τ sig) → Buf (Elt F) ℓ) (ρ : Dev nD → PrngReg)

/-- The kernel's own semaphores: the three slots' cells. -/
def osem0 : Fin 3 → SemLoc sig := fun j => (![SemLoc.dma 7, SemLoc.dma 8, SemLoc.dma 9] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2) := by
  unfold Pipeline.ownSems0; rw [bigSep_fin3]; rfl
/-- The array the body's transfers read: the weights. -/
def H0 : Finset (Ref sig .tc) := {main_arg1}
theorem H0_sub : H0 ⊆ Pipeline.restRefs sig spec0 := by decide

/-- The region invariant conjunct by conjunct: scratch at anything, the register, the cells at zero, the weights at home. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ g, own c aA g) ∗ (∃ g, own c aB g) ∗ (∃ g, own c aD g) ∗ (∃ g, own c aL g) ∗ (∃ g, own c aI g) ∗ (∃ g, own c aC g))
          ∗ (∃ r, prngReg c r) ∗ iprop(cellP c 0 ∗ cellP c 1 ∗ cellP c 2) ∗ bigSep Finset.univ (homeP c (V m c main_arg1))) := by
  have e : (bigSep H0 (fun b => ((c : Thread nD τ).loc b) ↦{fullShare} V m c b) : sProp 𝕄) = bigSep Finset.univ (homeP c (V m c main_arg1)) := by
    rw [← w_eq, BI.bigSep_eq_bigSepL_of_eq [main_arg1] (by decide) (by decide)]; rfl
  rw [Pipeline.ΦD_eq, scopedRest0_eq, ownSems00_eq, e]
  simp only [own_aA, own_aB, own_aD, own_aL, own_aI, own_aC]
  rfl

/-! ## @main around the region, at this resource algebra -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl | rfl | rfl
  all_goals simp only [StableHlo.unary_bufs, StableHlo.reshape_bufs, Finset.mem_insert, Finset.mem_singleton, not_or]
  all_goals exact ⟨StableHlo.devRef_ne_of_ne (by decide), StableHlo.devRef_ne_of_ne (by decide)⟩

theorem W_arg (b : Ref sig .tc) (hb : b = main_arg0 ∨ b = main_arg1 ∨ b = main_arg2 ∨ b = main_arg3)
    (dats : (p : Fin 1) → (c : Dev nD) → Dat τ (Elt F) Unit ℕ (Pipeline.UD sig nD τ) ℕ (cfgs p) c) (c : Dev nD) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      rcases hb with rfl | rfl | rfl | rfl
      all_goals repeat' apply And.intro
      all_goals exact StableHlo.devRef_ne_of_ne (by decide))),
    Pipeline.withArrays_of_ne _ c (V0 m c) _ b (by rcases hb with rfl | rfl | rfl | rfl <;> exact (by decide))]

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(((h.1 c).2 main_arg0 (Pipeline.mem_restRefs_of main_arg0 (by decide) (by decide))).trans ((W_arg m _ (by tauto) dats c).trans (V_main_arg0 m c))),
      (((h.1 c).2 main_arg1 (Pipeline.mem_restRefs_of main_arg1 (by decide) (by decide))).trans ((W_arg m _ (by tauto) dats c).trans (V_main_arg1 m c))),
      (((h.1 c).2 main_arg2 (Pipeline.mem_restRefs_of main_arg2 (by decide) (by decide))).trans ((W_arg m _ (by tauto) dats c).trans (V_main_arg2 m c))),
      (((h.1 c).2 main_arg3 (Pipeline.mem_restRefs_of main_arg3 (by decide) (by decide))).trans ((W_arg m _ (by tauto) dats c).trans (V_main_arg3 m c)))⟩, h.2⟩) h

/-! ## The proof data -/

/-- The staged inputs: the activations, the column scales and the bias as the region finds them. -/
def xx (c : Dev nD) : Ct (F := F) aX := (iblk m c 0 t0_0 : (⟨S384x3840, .bf16⟩ : BufTy).Contents (Elt F))
def xs (c : Dev nD) : Ct (F := F) aS := (iblk m c 1 t0_0 : (⟨S1x100352, .f32⟩ : BufTy).Contents (Elt F))
def xn (c : Dev nD) : Ct (F := F) aN := (iblk m c 2 t0_0 : (⟨S1x100352, .f32⟩ : BufTy).Contents (Elt F))
/-- The results the body leaves, as blocks. -/
def outV (c : Dev nD) : Vec F S384x128 .f32 := (tvF c (V m c main_arg1) (xx m c) (xs m c) (xn m c) : (⟨S384x128, .f32⟩ : BufTy).Contents (Elt F))
def outI (c : Dev nD) : Vec F S384x128 .i32 := (tiF c (V m c main_arg1) (xx m c) (xs m c) (xn m c) : (⟨S384x128, .i32⟩ : BufTy).Contents (Elt F))
def outQ (c : Dev nD) : Vec F S384x3840 .fp8e4m3 := (q0 c (xx m c) : (⟨S384x3840, .fp8e4m3⟩ : BufTy).Contents (Elt F))
def outE (c : Dev nD) : Vec F S384x1 .f32 := (e0 c (xx m c) : (⟨S384x1, .f32⟩ : BufTy).Contents (Elt F))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV m c
    | ⟨4, _⟩ => outI m c
    | ⟨5, _⟩ => outQ m c
    | ⟨6, _⟩ => outE m c
    | ⟨_ + 7, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outV m c := by dsimp only [dats]
theorem after_4 (c : Dev nD) (t : Fin cfg0.N) : (dats m 0 c).after 4 t = outI m c := by dsimp only [dats]
theorem after_5 (c : Dev nD) (t : Fin cfg0.N) : (dats m 0 c).after 5 t = outQ m c := by dsimp only [dats]
theorem after_6 (c : Dev nD) (t : Fin cfg0.N) : (dats m 0 c).after 6 t = outE m c := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem own_0 (c : Dev nD) (t : Fin cfg0.N) : (owns (c : Thread nD τ) (st0_0 t) fullShare (iblk m c 0 t) : sProp 𝕄) = own c aX (xx m c) := by
  rw [fin_N0 t]; exact (owns_whole (c : Thread nD τ) cc0_stg0_0 fullShare _).trans (own_aX c _).symm
theorem own_1 (c : Dev nD) (t : Fin cfg0.N) : (owns (c : Thread nD τ) (st0_1 t) fullShare (iblk m c 1 t) : sProp 𝕄) = own c aS (xs m c) := by
  rw [fin_N0 t]; exact (owns_whole (c : Thread nD τ) cc0_stg1_0 fullShare _).trans (own_aS c _).symm
theorem own_2 (c : Dev nD) (t : Fin cfg0.N) : (owns (c : Thread nD τ) (st0_2 t) fullShare (iblk m c 2 t) : sProp 𝕄) = own c aN (xn m c) := by
  rw [fin_N0 t]; exact (owns_whole (c : Thread nD τ) cc0_stg2_0 fullShare _).trans (own_aN c _).symm
theorem own_3 (c : Dev nD) (t : Fin cfg0.N) (g : (⟨S384x128, .f32⟩ : BufTy).Contents (Elt F)) :
    (owns (c : Thread nD τ) (st0_3 t) fullShare g : sProp 𝕄) = own c aTV g := by
  rw [fin_N0 t]; exact (owns_whole (c : Thread nD τ) cc0_stg3_0 fullShare _).trans (own_aTV c _).symm
theorem own_4 (c : Dev nD) (t : Fin cfg0.N) (g : (⟨S384x128, .i32⟩ : BufTy).Contents (Elt F)) :
    (owns (c : Thread nD τ) (st0_4 t) fullShare g : sProp 𝕄) = own c aTI g := by
  rw [fin_N0 t]; exact (owns_whole (c : Thread nD τ) cc0_stg4_0 fullShare _).trans (own_aTI c _).symm
theorem own_5 (c : Dev nD) (t : Fin cfg0.N) (g : (⟨S384x3840, .fp8e4m3⟩ : BufTy).Contents (Elt F)) :
    (owns (c : Thread nD τ) (st0_5 t) fullShare g : sProp 𝕄) = own c aQ g := by
  rw [fin_N0 t]; exact (owns_whole (c : Thread nD τ) cc0_stg5_0 fullShare _).trans (own_aQ c _).symm
theorem own_6 (c : Dev nD) (t : Fin cfg0.N) (g : (⟨S384x1, .f32⟩ : BufTy).Contents (Elt F)) :
    (owns (c : Thread nD τ) (st0_6 t) fullShare g : sProp 𝕄) = own c aE g := by
  rw [fin_N0 t]; exact (owns_whole (c : Thread nD τ) cc0_stg6_0 fullShare _).trans (own_aE c _).symm

theorem body_at (t : Fin cfg0.N) : bodyAt0 (F := F) t = cc0_lm_head_top8 (F := F) aX haX aW haW aS haS aN haN aTV haTV aTI haTI aQ haQ aE haE aR haR aA haA aB haB aD haD aL haL aI haI aC haC cc0_scratch7 := by
  rw [fin_N0 t]; rfl

theorem ringFree_eq (c : Dev nD) (XW) : (ringFree c XW : sProp 𝕄) =
    iprop((∃ f, slotP c 0 f) ∗ (∃ f, slotP c 1 f) ∗ (∃ f, slotP c 2 f) ∗ cellP c 0 ∗ cellP c 1 ∗ cellP c 2 ∗ bigSep Finset.univ (homeP c XW)) := by
  unfold ringFree; rfl

theorem homes_three (c : Dev nD) (XW) : (bigSep Finset.univ (homeP c XW) : sProp 𝕄)
    = iprop(homeP c XW (tl 1) ∗ homeP c XW (tl 2) ∗ homeP c XW (tl 0) ∗ bigSep ((restSet (tl 1) (tl 2)).erase (tl 0)) (homeP c XW)) := by
  rw [homes_two c XW (a := tl 1) (b := tl 2) (by decide), bigSep_erase (show tl 0 ∈ restSet (tl 1) (tl 2) by decide)]; rfl

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl, PhiD0_eq,
    after_0, after_1, after_2, after_3, after_4, after_5, after_6, body_at, own_0, own_1, own_2, own_3, own_4, own_5, own_6]
  unfold Dat.owesAt Pipeline.owesWithin
  rw [show (dats m 0 c).owed t.castSucc = 0 from rfl, show (dats m 0 c).owed t.succ = 0 from rfl]
  iintro ⟨⟨⟨HR, HA, HB, HD, HL, HI, HC⟩, Hg, ⟨Hc0, Hc1, Hc2⟩, HH⟩, ⟨%W, -, HW⟩, ⟨%d0, H0⟩, ⟨%d1, H1⟩, ⟨%d2, H2⟩, ⟨%d3, H3⟩, ⟨%d4, H4⟩, ⟨%d5, H5⟩, ⟨%d6, H6⟩⟩
  ihave J0 := (entails_of_eq ((congrArg (owns (c : Thread nD τ) (st0_0 t) fullShare) (before_0 m c t d0)).trans (own_0 m c t))) $$ H0
  ihave J1 := (entails_of_eq ((congrArg (owns (c : Thread nD τ) (st0_1 t) fullShare) (before_1 m c t d1)).trans (own_1 m c t))) $$ H1
  ihave J2 := (entails_of_eq ((congrArg (owns (c : Thread nD τ) (st0_2 t) fullShare) (before_2 m c t d2)).trans (own_2 m c t))) $$ H2
  ihave J3 := (entails_of_eq (own_3 c t _)) $$ H3
  ihave J4 := (entails_of_eq (own_4 c t _)) $$ H4
  ihave J5 := (entails_of_eq (own_5 c t _)) $$ H5
  ihave J6 := (entails_of_eq (own_6 c t _)) $$ H6
  ihave HS := (buf_split (F := F) c) $$ HR
  icases HS with ⟨⟨%f0, HS0⟩, ⟨%f1, HS1⟩, ⟨%f2, HS2⟩⟩
  ihave HH2 := (entails_of_eq (homes_three c (V m c main_arg1))) $$ HH
  icases HH2 with ⟨HW1, HW2, HW0, HWr⟩
  icases HA with ⟨%gA, HA⟩
  icases HB with ⟨%gB, HB⟩
  icases HD with ⟨%gD, HD⟩
  icases HL with ⟨%gL, HL⟩
  icases HI with ⟨%gI, HI⟩
  icases HC with ⟨%gC, HC⟩
  iapply (wp_wand_r frame (wpE (defs₀ (F := F)) 𝒱₀ (c : Thread nD τ) none) Set.univ)
  isplitl [J0 J1 J2 J3 J4 J5 J6 HS0 HS1 HS2 Hc0 Hc1 Hc2 HW0 HW1 HW2 HWr HA HB HD HL HI HC HW]
  · iapply (body_run c (V m c main_arg1) (xx m c) (xs m c) (xn m c) f0 f1 f2 _ _ _ _ gA gB gD gL gI gC)
    isplitl [J0]; · iexact J0
    isplitl [J1]; · iexact J1
    isplitl [J2]; · iexact J2
    isplitl [J3]; · iexact J3
    isplitl [J4]; · iexact J4
    isplitl [J5]; · iexact J5
    isplitl [J6]; · iexact J6
    isplitl [HS0]; · iexact HS0
    isplitl [HS1]; · iexact HS1
    isplitl [HS2]; · iexact HS2
    isplitl [Hc0]; · iexact Hc0
    isplitl [Hc1]; · iexact Hc1
    isplitl [Hc2]; · iexact Hc2
    isplitl [HW0]; · iexact HW0
    isplitl [HW1]; · iexact HW1
    isplitl [HW2]; · iexact HW2
    isplitl [HWr]; · iexact HWr
    isplitl [HA]; · iexact HA
    isplitl [HB]; · iexact HB
    isplitl [HD]; · iexact HD
    isplitl [HL]; · iexact HL
    isplitl [HI]; · iexact HI
    isplitl [HC]; · iexact HC
    iexists _; iexact HW
  iintro %_u ⟨J0, J1, J2, J3, J4, J5, J6, HR, HA, HB, HD, HL, HI, HC, ⟨%W', HW'⟩⟩
  ihave HR2 := (entails_of_eq (ringFree_eq c (V m c main_arg1))) $$ HR
  icases HR2 with ⟨HS0, HS1, HS2, Hc0, Hc1, Hc2, HH⟩
  isplitl [HS0 HS1 HS2 HA HB HD HL HI HC Hg Hc0 Hc1 Hc2 HH]
  · isplitl [HS0 HS1 HS2 HA HB HD HL HI HC]
    · isplitl [HS0 HS1 HS2]
      · iapply (buf_join (F := F) c)
        isplitl [HS0]; · iexact HS0
        isplitl [HS1]; · iexact HS1
        iexact HS2
      isplitl [HA]; · iexact HA
      isplitl [HB]; · iexact HB
      isplitl [HD]; · iexact HD
      isplitl [HL]; · iexact HL
      isplitl [HI]; · iexact HI
      iexact HC
    isplitl [Hg]; · iexact Hg
    isplitl [Hc0 Hc1 Hc2]
    · isplitl [Hc0]; · iexact Hc0
      isplitl [Hc1]; · iexact Hc1
      iexact Hc2
    iexact HH
  isplitl [HW']
  · iexists W'; isplitr; · ipureintro; exact fun _ _ => Or.inl trivial
    iexact HW'
  isplitl [J0]; · iexact J0
  isplitl [J1]; · iexact J1
  isplitl [J2]; · iexact J2
  isplitl [J3]; · iexact J3
  isplitl [J4]; · iexact J4
  isplitl [J5]; · iexact J5
  iexact J6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmain m 𝒱₀) (hA := A_eq m) (hin := fun _ => .rfl) (hout := fun _ => .rfl) (Q' := _) (hQ' := fun _ h => h)

/-- THE FRAME: every run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  frame_of m ρ (dats m) (run_main m ρ)

end Cert.KernelIdeal.Hand

end
-- ==== Proof.Kernel.Base.lean ====
/-
  The kernel's resources by name: its staged blocks and scratch buffers, the 49 column tiles of the weights, the
  three slots of the weight ring and their DMA cells, and the equations that turn the offsets the kernel computes
  into those names. Then the two ways a loop leaves a buffer: filled block by block (`fillTo`), or rewritten step
  by step.
-/
module

public import proofs.«01_k».proof.Proof.KernelIdeal.Launch
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none

/-! ## The buffers -/

/-- The staged blocks: the activations, the column scales, the bias, and the four results. -/
def aX : Memref sig .tc .vmem S384x3840 .bf16 := Memref.whole cc0_stg0_0
def aS : Memref sig .tc .vmem S1x100352 .f32 := Memref.whole cc0_stg1_0
def aN : Memref sig .tc .vmem S1x100352 .f32 := Memref.whole cc0_stg2_0
def aTV : Memref sig .tc .vmem S384x128 .f32 := Memref.whole cc0_stg3_0
def aTI : Memref sig .tc .vmem S384x128 .i32 := Memref.whole cc0_stg4_0
def aQ : Memref sig .tc .vmem S384x3840 .fp8e4m3 := Memref.whole cc0_stg5_0
def aE : Memref sig .tc .vmem S384x1 .f32 := Memref.whole cc0_stg6_0
/-- The scratch buffers: two accumulators, the broadcast token scales, the lists' values and indices, the overflow. -/
def aA : Memref sig .tc .vmem S384x2048 .f32 := Memref.whole cc0_scratch1
def aB : Memref sig .tc .vmem S384x2048 .f32 := Memref.whole cc0_scratch2
def aD : Memref sig .tc .vmem S384x128 .f32 := Memref.whole cc0_scratch3
def aL : Memref sig .tc .vmem S8x384x128 .f32 := Memref.whole cc0_scratch4
def aI : Memref sig .tc .vmem S8x384x128 .f32 := Memref.whole cc0_scratch5
def aC : Memref sig .tc .vmem S384x128 .f32 := Memref.whole cc0_scratch6
/-- The weights, in place, and the ring of three tile slots. -/
abbrev aW : Memref sig .tc .hbm S3840x100352 .fp8e4m3 := Memref.whole main_arg1
abbrev aR : Memref sig .tc .vmem S3x3840x2048 .fp8e4m3 := Memref.whole cc0_scratch0

theorem haX : aX.IsWhole := Memref.isWhole_whole _
theorem haS : aS.IsWhole := Memref.isWhole_whole _
theorem haN : aN.IsWhole := Memref.isWhole_whole _
theorem haTV : aTV.IsWhole := Memref.isWhole_whole _
theorem haTI : aTI.IsWhole := Memref.isWhole_whole _
theorem haQ : aQ.IsWhole := Memref.isWhole_whole _
theorem haE : aE.IsWhole := Memref.isWhole_whole _
theorem haA : aA.IsWhole := Memref.isWhole_whole _
theorem haB : aB.IsWhole := Memref.isWhole_whole _
theorem haD : aD.IsWhole := Memref.isWhole_whole _
theorem haL : aL.IsWhole := Memref.isWhole_whole _
theorem haI : aI.IsWhole := Memref.isWhole_whole _
theorem haC : aC.IsWhole := Memref.isWhole_whole _
theorem haW : aW.IsWhole := Memref.isWhole_whole _
theorem haR : aR.IsWhole := Memref.isWhole_whole _

/-- The contents of a memref's buffer. -/
abbrev Ct {κ : Kind} {sp : Space} {s : Shape} {e : EltTy} (m : Memref sig κ sp s e) : Type := BufTy.Contents (Elt F) m.view.ty

/-- A core's memref held whole, at contents `f`. -/
abbrev own (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-! ## Tiles, slots and cells -/

/-- Tile number `n`. -/
def tl (n : ℕ) : Fin 49 := ⟨n % 49, Nat.mod_lt _ (by decide)⟩
theorem tl_val {n : ℕ} (h : n < 49) : (tl n).val = n := Nat.mod_eq_of_lt h

abbrev tileOff (t : Fin 49) : Fin 2 → Nat := ![0, 2048 * t.val]
theorem tileOff_inb (t : Fin 49) : ∀ a, tileOff t a + S3840x2048.size a ≤ S3840x100352.size a := by
  have := t.isLt; intro a; fin_cases a
  · show 0 + 3840 ≤ 3840; omega
  · show 2048 * t.val + 2048 ≤ 100352; omega
abbrev slotOff (n : ℕ) : Fin 3 → Nat := ![n % 3, 0, 0]
theorem slotOff_inb (n : ℕ) : ∀ a, slotOff n a + S1x3840x2048.size a ≤ S3x3840x2048.size a := by
  intro a; fin_cases a
  · show n % 3 + 1 ≤ 3; omega
  · show 0 + 3840 ≤ 3840; omega
  · show 0 + 2048 ≤ 2048; omega
abbrev semOff (n : ℕ) : Fin 1 → Nat := ![n % 3]
theorem semOff_inb (n : ℕ) : ∀ a, semOff n a + S1.size a ≤ S3.size a := by
  intro a; fin_cases a; show n % 3 + 1 ≤ 3; omega

/-- Tile `t` of the weights: columns `2048 t` to `2048 t + 2047`. -/
def tile (t : Fin 49) : Memref sig .tc .hbm S3840x2048 .fp8e4m3 :=
  aW.slice (Rect.unit (s := S3840x100352) (tileOff t) S3840x2048.size (tileOff_inb t)) (fun _ => rfl)
/-- Slot `n mod 3` of the ring. -/
def rslot (n : ℕ) : Memref sig .tc .vmem S3840x2048 .fp8e4m3 :=
  (aR.slice (Rect.unit (s := S3x3840x2048) (slotOff n) S1x3840x2048.size (slotOff_inb n)) (fun _ => rfl)).squeeze S3840x2048 squeezes_S1x3840x2048_S3840x2048
/-- Its DMA cell. -/
def csm (n : ℕ) : DmaSems sig S_ := (cc0_scratch7.slice (Rect.unit (s := S3) (semOff n) S1.size (semOff_inb n))).squeeze S_ squeezes_S1_S_

instance (n : ℕ) : ClosedOff (slotOff n) := ⟨slotOff n, rfl⟩
instance (t : Fin 49) : ClosedOff (tileOff t) := ⟨tileOff t, rfl⟩

theorem csm_congr {off : Fin 1 → Nat} {n : ℕ} (e : off = semOff n) (hh) :
    (cc0_scratch7.slice (Rect.unit (s := S3) off S1.size hh)).squeeze S_ squeezes_S1_S_ = csm n :=
  congrArg (fun A : DmaSems sig S1 => A.squeeze S_ squeezes_S1_S_) (SemArray.slice_unit_congr _ e _ _)
theorem rslot_congr {off : Fin 3 → Nat} {n : ℕ} (e : off = slotOff n) (hh hs) :
    (aR.slice (Rect.unit (s := S3x3840x2048) off S1x3840x2048.size hh) hs).squeeze S3840x2048 squeezes_S1x3840x2048_S3840x2048 = rslot n :=
  congrArg (fun M : Memref sig .tc .vmem S1x3840x2048 .fp8e4m3 => M.squeeze S3840x2048 squeezes_S1x3840x2048_S3840x2048) (Memref.slice_unit_congr _ e _ _ _ _)
theorem tile_congr {off : Fin 2 → Nat} {t : Fin 49} (e : off = tileOff t) (hh hs) :
    aW.slice (Rect.unit (s := S3840x100352) off S3840x2048.size hh) hs = tile t :=
  Memref.slice_unit_congr _ e _ _ hs (fun _ => rfl)

theorem csm_add (n : ℕ) : csm (n + 3) = csm n := csm_congr (by simp [semOff]) _
theorem rslot_add (n : ℕ) : rslot (n + 3) = rslot n := rslot_congr (by simp [slotOff]) _ _

/-- Word 1 and word 2 as the trips' closed forms name them. -/
theorem off12_1 (k : Fin k0_t4_loop.trips) : k0_off12 k 1#32 = semOff (2 * k.val + 1) := k0_off12_eq k 0
theorem off12_2 (k : Fin k0_t4_loop.trips) : k0_off12 k 2#32 = semOff (2 * k.val + 2) := k0_off12_eq k 1
theorem off13_1 (k : Fin k0_t4_loop.trips) : k0_off13 k 1#32 = slotOff (2 * k.val + 1) := k0_off13_eq k 0
theorem off13_2 (k : Fin k0_t4_loop.trips) : k0_off13 k 2#32 = slotOff (2 * k.val + 2) := k0_off13_eq k 1
theorem trips4 : k0_t4_loop.trips = 24 := by decide
theorem trips16 : k0_t16_loop.trips = 49 := by decide
theorem off14_1 (k : Fin k0_t4_loop.trips) : k0_off14 k 1#32 = tileOff (tl (2 * k.val + 1)) := by
  have h := Nat.lt_of_lt_of_eq k.isLt trips4
  rw [show k0_off14 k 1#32 = _ from k0_off14_eq k 0, tileOff, tl_val (by omega), show 4096 * k.val + 2048 * (0 : Fin 2).val + 2048 = 2048 * (2 * k.val + 1) by simp; omega]
theorem off14_2 (k : Fin k0_t4_loop.trips) : k0_off14 k 2#32 = tileOff (tl (2 * k.val + 2)) := by
  have h := Nat.lt_of_lt_of_eq k.isLt trips4
  rw [show k0_off14 k 2#32 = _ from k0_off14_eq k 1, tileOff, tl_val (by omega), show 4096 * k.val + 2048 * (1 : Fin 2).val + 2048 = 2048 * (2 * k.val + 2) by simp; omega]
theorem off15 (k : Fin k0_t4_loop.trips) : k0_off15 k = semOff (2 * k.val) := by
  rw [k0_off15_eq]; simp [semOff]
theorem off16 (k : Fin k0_t4_loop.trips) : k0_off16 k = slotOff (2 * k.val) := by
  rw [k0_off16_eq]; simp [slotOff]
theorem off17 (k : Fin k0_t4_loop.trips) (hk : k.val < 23) : k0_off17 k = tileOff (tl (2 * k.val + 3)) := by
  rw [k0_off17_eq, tileOff, tl_val (by omega), show 4096 * k.val + 6144 = 2048 * (2 * k.val + 3) by omega]
theorem off30 (k : Fin k0_t4_loop.trips) : k0_off30 k = semOff (2 * k.val + 1) := by
  rw [k0_off30_eq, semOff, show (2 * k.val + 4) % 3 = (2 * k.val + 1) % 3 by omega]
theorem off31 (k : Fin k0_t4_loop.trips) : k0_off31 k = slotOff (2 * k.val + 1) := by
  rw [k0_off31_eq, slotOff, show (2 * k.val + 4) % 3 = (2 * k.val + 1) % 3 by omega]
theorem off32 (k : Fin k0_t4_loop.trips) (hk : k.val < 23) : k0_off32 k = tileOff (tl (2 * k.val + 4)) := by
  rw [k0_off32_eq, tileOff, tl_val (by omega), show 4096 * k.val + 8192 = 2048 * (2 * k.val + 4) by omega]
theorem off62 (k : Fin k0_t16_loop.trips) : k0_off62 k = tileOff (tl k.val) := by
  have h := Nat.lt_of_lt_of_eq k.isLt trips16
  rw [k0_off62_eq, tileOff, tl_val (by omega)]

/-- Before the pair loop: tiles 0, 1 and 2 into slots 0, 1 and 2. -/
@[sl_canon] theorem sem0 (hh) : (cc0_scratch7.slice (Rect.unit (s := S3) (k0_off1 0#32) S1.size hh)).squeeze S_ squeezes_S1_S_ = csm 0 := csm_congr (by decide) _
@[sl_canon] theorem sem1 (hh) : (cc0_scratch7.slice (Rect.unit (s := S3) (k0_off1 1#32) S1.size hh)).squeeze S_ squeezes_S1_S_ = csm 1 := csm_congr (by decide) _
@[sl_canon] theorem sem2 (hh) : (cc0_scratch7.slice (Rect.unit (s := S3) k0_off7 S1.size hh)).squeeze S_ squeezes_S1_S_ = csm 2 := csm_congr (by decide) _
@[sl_canon] theorem slot0 (hh hs) : (aR.slice (Rect.unit (s := S3x3840x2048) (k0_off2 0#32) S1x3840x2048.size hh) hs).squeeze S3840x2048 squeezes_S1x3840x2048_S3840x2048 = rslot 0 := rslot_congr (by decide) _ _
@[sl_canon] theorem slot1 (hh hs) : (aR.slice (Rect.unit (s := S3x3840x2048) (k0_off2 1#32) S1x3840x2048.size hh) hs).squeeze S3840x2048 squeezes_S1x3840x2048_S3840x2048 = rslot 1 := rslot_congr (by decide) _ _
@[sl_canon] theorem slot2 (hh hs) : (aR.slice (Rect.unit (s := S3x3840x2048) k0_off8 S1x3840x2048.size hh) hs).squeeze S3840x2048 squeezes_S1x3840x2048_S3840x2048 = rslot 2 := rslot_congr (by decide) _ _
@[sl_canon] theorem tile0 (hh hs) : aW.slice (Rect.unit (s := S3840x100352) (k0_off3 0#32) S3840x2048.size hh) hs = tile 0 := tile_congr (by decide) _ _
@[sl_canon] theorem tile1 (hh hs) : aW.slice (Rect.unit (s := S3840x100352) (k0_off3 1#32) S3840x2048.size hh) hs = tile 1 := tile_congr (by decide) _ _
@[sl_canon] theorem tile2 (hh hs) : aW.slice (Rect.unit (s := S3840x100352) k0_off9 S3840x2048.size hh) hs = tile 2 := tile_congr (by decide) _ _

/-- Trip `k` of the pair loop: tiles `2k + 1` and `2k + 2` waited for, tiles `2k + 3` and `2k + 4` issued. -/
@[sl_canon] theorem semW1 (k : Fin k0_t4_loop.trips) (hh) : (cc0_scratch7.slice (Rect.unit (s := S3) (k0_off12 k 1#32) S1.size hh)).squeeze S_ squeezes_S1_S_ = csm (2 * k.val + 1) := csm_congr (off12_1 k) _
@[sl_canon] theorem semW2 (k : Fin k0_t4_loop.trips) (hh) : (cc0_scratch7.slice (Rect.unit (s := S3) (k0_off12 k 2#32) S1.size hh)).squeeze S_ squeezes_S1_S_ = csm (2 * k.val + 2) := csm_congr (off12_2 k) _
@[sl_canon] theorem slotW1 (k : Fin k0_t4_loop.trips) (hh hs) : (aR.slice (Rect.unit (s := S3x3840x2048) (k0_off13 k 1#32) S1x3840x2048.size hh) hs).squeeze S3840x2048 squeezes_S1x3840x2048_S3840x2048 = rslot (2 * k.val + 1) := rslot_congr (off13_1 k) _ _
@[sl_canon] theorem slotW2 (k : Fin k0_t4_loop.trips) (hh hs) : (aR.slice (Rect.unit (s := S3x3840x2048) (k0_off13 k 2#32) S1x3840x2048.size hh) hs).squeeze S3840x2048 squeezes_S1x3840x2048_S3840x2048 = rslot (2 * k.val + 2) := rslot_congr (off13_2 k) _ _
@[sl_canon] theorem tileW1 (k : Fin k0_t4_loop.trips) (hh hs) : aW.slice (Rect.unit (s := S3840x100352) (k0_off14 k 1#32) S3840x2048.size hh) hs = tile (tl (2 * k.val + 1)) := tile_congr (off14_1 k) _ _
@[sl_canon] theorem tileW2 (k : Fin k0_t4_loop.trips) (hh hs) : aW.slice (Rect.unit (s := S3840x100352) (k0_off14 k 2#32) S3840x2048.size hh) hs = tile (tl (2 * k.val + 2)) := tile_congr (off14_2 k) _ _
@[sl_canon] theorem semI1 (k : Fin k0_t4_loop.trips) (hh) : (cc0_scratch7.slice (Rect.unit (s := S3) (k0_off15 k) S1.size hh)).squeeze S_ squeezes_S1_S_ = csm (2 * k.val) := csm_congr (off15 k) _
@[sl_canon] theorem semI2 (k : Fin k0_t4_loop.trips) (hh) : (cc0_scratch7.slice (Rect.unit (s := S3) (k0_off30 k) S1.size hh)).squeeze S_ squeezes_S1_S_ = csm (2 * k.val + 1) := csm_congr (off30 k) _
@[sl_canon] theorem slotI1 (k : Fin k0_t4_loop.trips) (hh hs) : (aR.slice (Rect.unit (s := S3x3840x2048) (k0_off16 k) S1x3840x2048.size hh) hs).squeeze S3840x2048 squeezes_S1x3840x2048_S3840x2048 = rslot (2 * k.val) := rslot_congr (off16 k) _ _
@[sl_canon] theorem slotI2 (k : Fin k0_t4_loop.trips) (hh hs) : (aR.slice (Rect.unit (s := S3x3840x2048) (k0_off31 k) S1x3840x2048.size hh) hs).squeeze S3840x2048 squeezes_S1x3840x2048_S3840x2048 = rslot (2 * k.val + 1) := rslot_congr (off31 k) _ _
@[sl_canon] theorem tileI1 (k : Fin k0_t4_loop.trips) (hk : k.val < 23) (hh hs) : aW.slice (Rect.unit (s := S3840x100352) (k0_off17 k) S3840x2048.size hh) hs = tile (tl (2 * k.val + 3)) := tile_congr (off17 k hk) _ _
@[sl_canon] theorem tileI2 (k : Fin k0_t4_loop.trips) (hk : k.val < 23) (hh hs) : aW.slice (Rect.unit (s := S3840x100352) (k0_off32 k) S3840x2048.size hh) hs = tile (tl (2 * k.val + 4)) := tile_congr (off32 k hk) _ _

/-- Trip `k` of the second pass: tile `k` through slot `k mod 3`. -/
@[sl_canon] theorem semS (k : Fin k0_t16_loop.trips) (hh) : (cc0_scratch7.slice (Rect.unit (s := S3) (k0_off60 k) S1.size hh)).squeeze S_ squeezes_S1_S_ = csm k.val := csm_congr (k0_off60_eq k) _
@[sl_canon] theorem slotS (k : Fin k0_t16_loop.trips) (hh hs) : (aR.slice (Rect.unit (s := S3x3840x2048) (k0_off61 k) S1x3840x2048.size hh) hs).squeeze S3840x2048 squeezes_S1x3840x2048_S3840x2048 = rslot k.val := rslot_congr (k0_off61_eq k) _ _
@[sl_canon] theorem tileS (k : Fin k0_t16_loop.trips) (hh hs) : aW.slice (Rect.unit (s := S3840x100352) (k0_off62 k) S3840x2048.size hh) hs = tile (tl k.val) := tile_congr (off62 k) _ _

/-- The conditions under which a further tile is issued: all trips but the last. -/
theorem cond1_true : k0_cond1 = 1#1 := by decide
theorem cond2_iff : ∀ k : Fin k0_t4_loop.trips, k0_cond2 k = 1#1 ↔ k.val < 23 := by decide +kernel
theorem cond3_iff : ∀ k : Fin k0_t4_loop.trips, k0_cond3 k = 1#1 ↔ k.val < 23 := by decide +kernel

/-! ## The pieces -/

section Pieces
variable (c : Dev nD) (XW : Buf (Elt F) (aW.view.loc (c : Thread nD τ)))

abbrev cellP (n : ℕ) : sProp 𝕄 := semVal ((c : Thread nD τ), SemLoc.dma (csm n).sem) 0
abbrev slotP (n : ℕ) (f : Buf (Elt F) ((rslot n).view.loc (c : Thread nD τ))) : sProp 𝕄 :=
  (rslot n).view.loc (c : Thread nD τ) ↦[(rslot n).view.set]{fullShare} f
/-- Tile `t` at home: held on its elements at the weights' contents. -/
abbrev homeP (t : Fin 49) : sProp 𝕄 := (tile t).view.loc (c : Thread nD τ) ↦[(tile t).view.set]{fullShare} XW
/-- Tile `t` as a slot's payload. -/
abbrev payload (t : Fin 49) : S3840x2048.Idx → Elt F .fp8e4m3 := ReadAs.same.apply ((tile t).view.read (Elt F) XW)
/-- What tile `t`'s transfer leaves in slot `n` over contents `f`. -/
abbrev landed (n : ℕ) (t : Fin 49) (f : Buf (Elt F) ((rslot n).view.loc (c : Thread nD τ))) : Buf (Elt F) ((rslot n).view.loc (c : Thread nD τ)) :=
  (rslot n).view.writes (Elt F) f [⟨Rect.whole S3840x2048, payload c XW t⟩]
/-- Slot `n` in flight with tile `t`, issued over `f`. -/
abbrev flightP (n : ℕ) (t : Fin 49) (f : Buf (Elt F) ((rslot n).view.loc (c : Thread nD τ))) : sProp 𝕄 :=
  Transfers.Flight countersEmb (c : Thread nD τ) (SemLoc.dma (csm n).sem) () 245760 iprop(slotP c n (landed c XW n t f) ∗ homeP c XW t)

end Pieces

/-! ## A buffer filled block by block -/

section Fill
variable {κ : Kind} {sp : Space} {s : Shape} {e : EltTy}

/-- The pieces of the trips before trip `k`, the last first. -/
def pieces (p : ℕ → View.Piece (Elt F) s e) : ℕ → List (View.Piece (Elt F) s e)
  | 0 => []
  | k + 1 => p k :: pieces p k

/-- A buffer's contents before trip `k` of `T`, trip `j` storing the piece `p j`: over `f` while the trips go on, over
    nothing in particular once all have stored. -/
def fillTo (m : Memref sig κ sp s e) (T : ℕ) (p : ℕ → View.Piece (Elt F) s e) (f : m.view.ty.Contents (Elt F)) : ℕ → m.view.ty.Contents (Elt F)
  | 0 => f
  | k + 1 => m.view.writes (Elt F) (if k + 1 = T then m.view.junk else f) (pieces p (k + 1))

/-- All trips done, the buffer does not depend on what it held. -/
theorem fillTo_all (m : Memref sig κ sp s e) (T : ℕ) (p : ℕ → View.Piece (Elt F) s e) (f : m.view.ty.Contents (Elt F)) (hT : 0 < T) :
    fillTo m T p f T = m.view.writes (Elt F) m.view.junk (pieces p T) := by
  obtain ⟨k, rfl⟩ : ∃ k, T = k + 1 := ⟨T - 1, by omega⟩
  simp [fillTo]

theorem mem_pieces (p : ℕ → View.Piece (Elt F) s e) {T j : ℕ} (h : j < T) : p j ∈ pieces p T := by
  induction T with
  | zero => omega
  | succ k ih =>
    rcases Nat.lt_succ_iff_lt_or_eq.mp h with h | rfl
    · exact List.mem_cons_of_mem _ (ih h)
    · exact List.mem_cons_self

/-- Writes that cover a whole buffer leave the same whatever it held. -/
theorem writes_cover {m : Memref sig κ sp s e} (hw : m.IsWhole) (f g : m.view.ty.Contents (Elt F)) (L : List (View.Piece (Elt F) s e))
    (hc : ∀ y, ∃ q ∈ L, y ∈ q.1.set) : m.view.writes (Elt F) f L = m.view.writes (Elt F) g L := by
  obtain ⟨b, rfl, rfl, rfl, h⟩ := hw; cases h
  exact View.read_writes_of_cover (View.whole b) f (View.whole b) g L hc

/-- One trip's store takes the contents before trip `k` to those before trip `k + 1`. -/
theorem fillTo_succ {m : Memref sig κ sp s e} (hw : m.IsWhole) {T : ℕ} {p : ℕ → View.Piece (Elt F) s e} (f : m.view.ty.Contents (Elt F))
    (hc : ∀ y, ∃ q ∈ pieces p T, y ∈ q.1.set) {k : ℕ} (hk : k < T) :
    m.view.writes (Elt F) (fillTo m T p f k) [p k] = fillTo m T p f (k + 1) := by
  have e : fillTo m T p f k = m.view.writes (Elt F) f (pieces p k) := by
    cases k with
    | zero => rfl
    | succ j => simp [fillTo, show j + 1 ≠ T by omega]
  rw [e, ← View.writes_append]
  show m.view.writes (Elt F) f (pieces p (k + 1)) = _
  by_cases h : k + 1 = T
  · simp only [fillTo, if_pos h]; subst h; exact writes_cover hw _ _ _ hc
  · simp only [fillTo, if_neg h]

end Fill

/-- A block of 512 columns of slot `n` lies in the slot. -/
theorem slot_cols (n b : ℕ) (hb : b < 4) {off : Fin 3 → Nat} (e : off = ![n % 3, 0, 512 * b]) (inb) :
    (aR.access (Rect.unit (s := S3x3840x2048) off S1x3840x512.size inb)).set ⊆ (rslot n).view.set := by
  subst e
  refine Finset.Subset.trans (?_ : _ ⊆ (aR.view.slice (Rect.unit (s := S3x3840x2048) (slotOff n) S1x3840x2048.size (slotOff_inb n))).set)
    (Finset.subset_of_eq (View.set_reshape _ _).symm)
  refine Finset.Subset.trans (Finset.subset_of_eq (View.set_slice _ _)) (Finset.Subset.trans ?_ (Finset.subset_of_eq (View.set_slice _ _).symm))
  refine Finset.map_subset_map.2 fun y hy => ?_
  rw [Rect.mem_set_unit] at hy ⊢
  intro a
  have := hy a
  fin_cases a
  · simpa [slotOff] using this
  · simpa [slotOff] using this
  · have h2 := hy 2
    simp [slotOff] at h2 ⊢
    omega

end Cert.Kernel.Hand

end
-- ==== Proof.Kernel.Fold.lean ====
/-
  The fast fold of one tile's columns into the lists: per group of eight rows the best, second and third of the
  tile's sixteen slabs in every lane, the first two entered in the lists, the third kept as the overflow. The
  kernel has the loop three times: over the accumulator of an even tile, of an odd tile, and of the last one.
-/
module

public import proofs.«01_k».proof.Proof.Kernel.Base

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lists' values, the lists' indices and the overflow. -/
abbrev LIC (F : FTy → Type) : Type := Ct (F := F) aL × Ct (F := F) aI × Ct (F := F) aC
/-- Five vectors: the running best value, its slab, the second value, its slab, the third value. -/
abbrev V5 (F : FTy → Type) : Type := FVec F S8x128 .f32 × FVec F S8x128 .f32 × FVec F S8x128 .f32 × FVec F S8x128 .f32 × FVec F S8x128 .f32

/-! ## Loop `7`: the third best of a group's sixteen slabs -/

section T7
variable (c : Dev nD) (k4 : Fin k0_t4_loop.trips) (k5 : Fin k0_t5_loop.trips) (w1 : BitVec 32) (k6 : Fin k0_t6_loop.trips) (w2 : BitVec 32) (u1 : Vec F S8x128 .f32) (u2 u3 u4 : FVec F S8x128 .f32) (w3 w4 : BitVec 32) (XS : Ct (F := F) aS) (XN : Ct (F := F) aN) (XA : Ct (F := F) aA)

set_option backward.proofsInPublic true in
/-- One slab folded in: what the trip yields from `a`. -/
def trip7 (k : Fin k0_t7_loop.trips) (a : V5 F) :
    { r : V5 F // own c aS XS ∗ own c aN XN ∗ own c aA XA
      ⊢ wp frame (wpE (defs₀ (F := F)) 𝒱₀ (c : Thread nD τ) none) Set.univ (k0_t7_body (F := F) aX haX aW haW aS haS aN haN aTV haTV aTI haTI aQ haQ aE haE aR haR aA haA aB haB aD haD aL haL aI haI aC haC cc0_scratch7 k4 k5 w1 k6 w2 u1 u2 u3 u4 w3 w4 k a)
        (fun y => iprop(⌜y = r⌝ ∗ own c aS XS ∗ own c aN XN ∗ own c aA XA)) } := by
  have hk : k.val < 14 := Nat.lt_of_lt_of_le k.isLt k0_t7_abs.2.1
  refine ⟨?_, ?run⟩
  case run =>
    unfold k0_t7_body
    iintro ⟨H1, H2, H3⟩
    sl_exec
    sl_step
    sl_close

/-- The running vectors before slab trip `k`. -/
def st7 (i : V5 F) : ℕ → V5 F
  | 0 => i
  | k + 1 => if h : k < k0_t7_loop.trips then (trip7 c k4 k5 w1 k6 w2 u1 u2 u3 u4 w3 w4 XS XN XA ⟨k, h⟩ (st7 i k)).1 else st7 i k

set_option warn.classDefReducibility false in
/-- The loop's invariant: the rows read, and the running vectors. -/
@[sl_loop] def loopInv7 (i : V5 F) :
    LoopInvTy_k0_t7 (F := F) Unit ℕ (Pipeline.UD sig nD τ) ℕ 𝒱₀ c none Set.univ aX haX aW haW aS haS aN haN aTV haTV aTI haTI aQ haQ aE haE aR haR aA haA aB haB aD haD aL haL aI haI aC haC cc0_scratch7 k4 k5 w1 k6 w2 u1 u2 u3 u4 w3 w4 i where
  inv k a := iprop(own c aS XS ∗ own c aN XN ∗ own c aA XA ∗ ⌜a = st7 c k4 k5 w1 k6 w2 u1 u2 u3 u4 w3 w4 XS XN XA i k⌝)
  step k a := by
    iintro ⟨H1, H2, H3, %ea⟩
    subst ea
    have e : st7 c k4 k5 w1 k6 w2 u1 u2 u3 u4 w3 w4 XS XN XA i (k.val + 1) = (trip7 c k4 k5 w1 k6 w2 u1 u2 u3 u4 w3 w4 XS XN XA k (st7 c k4 k5 w1 k6 w2 u1 u2 u3 u4 w3 w4 XS XN XA i k.val)).1 := by
      rw [st7, dif_pos k.isLt]
    rw [e]
    iapply (wp_wand_r frame (wpE (defs₀ (F := F)) 𝒱₀ (c : Thread nD τ) none) Set.univ)
    isplitl [H1 H2 H3]
    · iapply (trip7 c k4 k5 w1 k6 w2 u1 u2 u3 u4 w3 w4 XS XN XA k (st7 c k4 k5 w1 k6 w2 u1 u2 u3 u4 w3 w4 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T7

/-! ## Loop `6`: the first accumulator's columns folded into the lists, group of rows by group -/

section T6
variable (c : Dev nD) (d0 d1 : BitVec 32) (k4 : Fin k0_t4_loop.trips) (k5 : Fin k0_t5_loop.trips) (w0 w1 : BitVec 32) (XS : Ct (F := F) aS) (XN : Ct (F := F) aN) (XA : Ct (F := F) aA) (XD : Ct (F := F) aD)

set_option backward.proofsInPublic true in
/-- One group of eight rows: its best and second best entered in the lists, its third best against the overflow. -/
def trip6 (k : Fin k0_t6_loop.trips) (x : LIC F) :
    { r : LIC F // own c aS XS ∗ own c aN XN ∗ own c aA XA ∗ own c aD XD ∗ own c aL x.1 ∗ own c aI x.2.1 ∗ own c aC x.2.2
      ⊢ wp frame (wpE (defs₀ (F := F)) 𝒱₀ (c : Thread nD τ) none) Set.univ (k0_t6_body (F := F) aX haX aW haW aS haS aN haN aTV haTV aTI haTI aQ haQ aE haE aR haR aA haA aB haB aD haD aL haL aI haI aC haC cc0_scratch7 d0 d1 k4 k5 w0 w1 k ())
        (fun _ => iprop(own c aS XS ∗ own c aN XN ∗ own c aA XA ∗ own c aD XD ∗ own c aL r.1 ∗ own c aI r.2.1 ∗ own c aC r.2.2)) } := by
  refine ⟨⟨?_, ?_, ?_⟩, ?run⟩
  case run =>
    sl_unfold [k0_t6_body]
    iintro ⟨H1, H2, H3, H4, H5, H6, H7⟩
    sl_exec
    sl_step
    sl_close

/-- The lists and the overflow before group `k`. -/
def st6 (x : LIC F) : ℕ → LIC F
  | 0 => x
  | k + 1 => if h : k < k0_t6_loop.trips then (trip6 c d0 d1 k4 k5 w0 w1 XS XN XA XD ⟨k, h⟩ (st6 x k)).1 else st6 x k

set_option warn.classDefReducibility false in
/-- The loop's invariant. -/
@[sl_loop] def loopInv6 (x : Ct (F := F) aL) (y : Ct (F := F) aI) (z : Ct (F := F) aC) :
    LoopInvTy_k0_t6 (F := F) Unit ℕ (Pipeline.UD sig nD τ) ℕ 𝒱₀ c none Set.univ aX haX aW haW aS haS aN haN aTV haTV aTI haTI aQ haQ aE haE aR haR aA haA aB haB aD haD aL haL aI haI aC haC cc0_scratch7 d0 d1 k4 k5 w0 w1 where
  inv k _ := iprop(own c aS XS ∗ own c aN XN ∗ own c aA XA ∗ own c aD XD ∗ own c aL (st6 c d0 d1 k4 k5 w0 w1 XS XN XA XD (x, y, z) k).1
    ∗ own c aI (st6 c d0 d1 k4 k5 w0 w1 XS XN XA XD (x, y, z) k).2.1 ∗ own c aC (st6 c d0 d1 k4 k5 w0 w1 XS XN XA XD (x, y, z) k).2.2)
  step k _ := by
    have e : st6 c d0 d1 k4 k5 w0 w1 XS XN XA XD (x, y, z) (k.val + 1) = (trip6 c d0 d1 k4 k5 w0 w1 XS XN XA XD k (st6 c d0 d1 k4 k5 w0 w1 XS XN XA XD (x, y, z) k.val)).1 := by
      rw [st6, dif_pos k.isLt]
    rw [e]
    exact (trip6 c d0 d1 k4 k5 w0 w1 XS XN XA XD k (st6 c d0 d1 k4 k5 w0 w1 XS XN XA XD (x, y, z) k.val)).2

end T6

/-! ## Loop `10`: the third best of a group's sixteen slabs -/

section T10
variable (c : Dev nD) (k4 : Fin k0_t4_loop.trips) (k8 : Fin k0_t8_loop.trips) (w1 : BitVec 32) (k9 : Fin k0_t9_loop.trips) (w2 : BitVec 32) (u1 : Vec F S8x128 .f32) (u2 u3 u4 : FVec F S8x128 .f32) (w3 w4 : BitVec 32) (XS : Ct (F := F) aS) (XN : Ct (F := F) aN) (XA : Ct (F := F) aB)

set_option backward.proofsInPublic true in
/-- One slab folded in: what the trip yields from `a`. -/
def trip10 (k : Fin k0_t10_loop.trips) (a : V5 F) :
    { r : V5 F // own c aS XS ∗ own c aN XN ∗ own c aB XA
      ⊢ wp frame (wpE (defs₀ (F := F)) 𝒱₀ (c : Thread nD τ) none) Set.univ (k0_t10_body (F := F) aX haX aW haW aS haS aN haN aTV haTV aTI haTI aQ haQ aE haE aR haR aA haA aB haB aD haD aL haL aI haI aC haC cc0_scratch7 k4 k8 w1 k9 w2 u1 u2 u3 u4 w3 w4 k a)
        (fun y => iprop(⌜y = r⌝ ∗ own c aS XS ∗ own c aN XN ∗ own c aB XA)) } := by
  have hk : k.val < 14 := Nat.lt_of_lt_of_le k.isLt k0_t10_abs.2.1
  refine ⟨?_, ?run⟩
  case run =>
    unfold k0_t10_body
    iintro ⟨H1, H2, H3⟩
    sl_exec
    sl_step
    sl_close

/-- The running vectors before slab trip `k`. -/
def st10 (i : V5 F) : ℕ → V5 F
  | 0 => i
  | k + 1 => if h : k < k0_t10_loop.trips then (trip10 c k4 k8 w1 k9 w2 u1 u2 u3 u4 w3 w4 XS XN XA ⟨k, h⟩ (st10 i k)).1 else st10 i k

set_option warn.classDefReducibility false in
/-- The loop's invariant: the rows read, and the running vectors. -/
@[sl_loop] def loopInv10 (i : V5 F) :
    LoopInvTy_k0_t10 (F := F) Unit ℕ (Pipeline.UD sig nD τ) ℕ 𝒱₀ c none Set.univ aX haX aW haW aS haS aN haN aTV haTV aTI haTI aQ haQ aE haE aR haR aA haA aB haB aD haD aL haL aI haI aC haC cc0_scratch7 k4 k8 w1 k9 w2 u1 u2 u3 u4 w3 w4 i where
  inv k a := iprop(own c aS XS ∗ own c aN XN ∗ own c aB XA ∗ ⌜a = st10 c k4 k8 w1 k9 w2 u1 u2 u3 u4 w3 w4 XS XN XA i k⌝)
  step k a := by
    iintro ⟨H1, H2, H3, %ea⟩
    subst ea
    have e : st10 c k4 k8 w1 k9 w2 u1 u2 u3 u4 w3 w4 XS XN XA i (k.val + 1) = (trip10 c k4 k8 w1 k9 w2 u1 u2 u3 u4 w3 w4 XS XN XA k (st10 c k4 k8 w1 k9 w2 u1 u2 u3 u4 w3 w4 XS XN XA i k.val)).1 := by
      rw [st10, dif_pos k.isLt]
    rw [e]
    iapply (wp_wand_r frame (wpE (defs₀ (F := F)) 𝒱₀ (c : Thread nD τ) none) Set.univ)
    isplitl [H1 H2 H3]
    · iapply (trip10 c k4 k8 w1 k9 w2 u1 u2 u3 u4 w3 w4 XS XN XA k (st10 c k4 k8 w1 k9 w2 u1 u2 u3 u4 w3 w4 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T10

/-! ## Loop `9`: the second accumulator's columns folded in -/

section T9
variable (c : Dev nD) (g : FVec F S384x128 .f32) (k4 : Fin k0_t4_loop.trips) (w5 : BitVec 32) (k8 : Fin k0_t8_loop.trips) (w0 w1 : BitVec 32) (XS : Ct (F := F) aS) (XN : Ct (F := F) aN) (XA : Ct (F := F) aB) (XD : Ct (F := F) aD)

set_option backward.proofsInPublic true in
/-- One group of eight rows: its best and second best entered in the lists, its third best against the overflow. -/
def trip9 (k : Fin k0_t9_loop.trips) (x : LIC F) :
    { r : LIC F // own c aS XS ∗ own c aN XN ∗ own c aB XA ∗ own c aD XD ∗ own c aL x.1 ∗ own c aI x.2.1 ∗ own c aC x.2.2
      ⊢ wp frame (wpE (defs₀ (F := F)) 𝒱₀ (c : Thread nD τ) none) Set.univ (k0_t9_body (F := F) aX haX aW haW aS haS aN haN aTV haTV aTI haTI aQ haQ aE haE aR haR aA haA aB haB aD haD aL haL aI haI aC haC cc0_scratch7 g k4 w5 k8 w0 w1 k ())
        (fun _ => iprop(own c aS XS ∗ own c aN XN ∗ own c aB XA ∗ own c aD XD ∗ own c aL r.1 ∗ own c aI r.2.1 ∗ own c aC r.2.2)) } := by
  refine ⟨⟨?_, ?_, ?_⟩, ?run⟩
  case run =>
    sl_unfold [k0_t9_body]
    iintro ⟨H1, H2, H3, H4, H5, H6, H7⟩
    sl_exec
    sl_step
    sl_close

/-- The lists and the overflow before group `k`. -/
def st9 (x : LIC F) : ℕ → LIC F
  | 0 => x
  | k + 1 => if h : k < k0_t9_loop.trips then (trip9 c g k4 w5 k8 w0 w1 XS XN XA XD ⟨k, h⟩ (st9 x k)).1 else st9 x k

set_option warn.classDefReducibility false in
/-- The loop's invariant. -/
@[sl_loop] def loopInv9 (x : Ct (F := F) aL) (y : Ct (F := F) aI) (z : Ct (F := F) aC) :
    LoopInvTy_k0_t9 (F := F) Unit ℕ (Pipeline.UD sig nD τ) ℕ 𝒱₀ c none Set.univ aX haX aW haW aS haS aN haN aTV haTV aTI haTI aQ haQ aE haE aR haR aA haA aB haB aD haD aL haL aI haI aC haC cc0_scratch7 g k4 w5 k8 w0 w1 where
  inv k _ := iprop(own c aS XS ∗ own c aN XN ∗ own c aB XA ∗ own c aD XD ∗ own c aL (st9 c g k4 w5 k8 w0 w1 XS XN XA XD (x, y, z) k).1
    ∗ own c aI (st9 c g k4 w5 k8 w0 w1 XS XN XA XD (x, y, z) k).2.1 ∗ own c aC (st9 c g k4 w5 k8 w0 w1 XS XN XA XD (x, y, z) k).2.2)
  step k _ := by
    have e : st9 c g k4 w5 k8 w0 w1 XS XN XA XD (x, y, z) (k.val + 1) = (trip9 c g k4 w5 k8 w0 w1 XS XN XA XD k (st9 c g k4 w5 k8 w0 w1 XS XN XA XD (x, y, z) k.val)).1 := by
      rw [st9, dif_pos k.isLt]
    rw [e]
    exact (trip9 c g k4 w5 k8 w0 w1 XS XN XA XD k (st9 c g k4 w5 k8 w0 w1 XS XN XA XD (x, y, z) k.val)).2

end T9

/-! ## Loop `13`: the third best of a group's sixteen slabs -/

section T13
variable (c : Dev nD) (k11 : Fin k0_t11_loop.trips) (w1 : BitVec 32) (k12 : Fin k0_t12_loop.trips) (w2 : BitVec 32) (u1 : Vec F S8x128 .f32) (u2 u3 u4 : FVec F S8x128 .f32) (w3 w4 : BitVec 32) (XS : Ct (F := F) aS) (XN : Ct (F := F) aN) (XA : Ct (F := F) aA)

set_option backward.proofsInPublic true in
/-- One slab folded in: what the trip yields from `a`. -/
def trip13 (k : Fin k0_t13_loop.trips) (a : V5 F) :
    { r : V5 F // own c aS XS ∗ own c aN XN ∗ own c aA XA
      ⊢ wp frame (wpE (defs₀ (F := F)) 𝒱₀ (c : Thread nD τ) none) Set.univ (k0_t13_body (F := F) aX haX aW haW aS haS aN haN aTV haTV aTI haTI aQ haQ aE haE aR haR aA haA aB haB aD haD aL haL aI haI aC haC cc0_scratch7 k11 w1 k12 w2 u1 u2 u3 u4 w3 w4 k a)
        (fun y => iprop(⌜y = r⌝ ∗ own c aS XS ∗ own c aN XN ∗ own c aA XA)) } := by
  have hk : k.val < 14 := Nat.lt_of_lt_of_le k.isLt k0_t13_abs.2.1
  refine ⟨?_, ?run⟩
  case run =>
    unfold k0_t13_body
    iintro ⟨H1, H2, H3⟩
    sl_exec
    sl_step
    sl_close

/-- The running vectors before slab trip `k`. -/
def st13 (i : V5 F) : ℕ → V5 F
  | 0 => i
  | k + 1 => if h : k < k0_t13_loop.trips then (trip13 c k11 w1 k12 w2 u1 u2 u3 u4 w3 w4 XS XN XA ⟨k, h⟩ (st13 i k)).1 else st13 i k

set_option warn.classDefReducibility false in
/-- The loop's invariant: the rows read, and the running vectors. -/
@[sl_loop] def loopInv13 (i : V5 F) :
    LoopInvTy_k0_t13 (F := F) Unit ℕ (Pipeline.UD sig nD τ) ℕ 𝒱₀ c none Set.univ aX haX aW haW aS haS aN haN aTV haTV aTI haTI aQ haQ aE haE aR haR aA haA aB haB aD haD aL haL aI haI aC haC cc0_scratch7 k11 w1 k12 w2 u1 u2 u3 u4 w3 w4 i where
  inv k a := iprop(own c aS XS ∗ own c aN XN ∗ own c aA XA ∗ ⌜a = st13 c k11 w1 k12 w2 u1 u2 u3 u4 w3 w4 XS XN XA i k⌝)
  step k a := by
    iintro ⟨H1, H2, H3, %ea⟩
    subst ea
    have e : st13 c k11 w1 k12 w2 u1 u2 u3 u4 w3 w4 XS XN XA i (k.val + 1) = (trip13 c k11 w1 k12 w2 u1 u2 u3 u4 w3 w4 XS XN XA k (st13 c k11 w1 k12 w2 u1 u2 u3 u4 w3 w4 XS XN XA i k.val)).1 := by
      rw [st13, dif_pos k.isLt]
    rw [e]
    iapply (wp_wand_r frame (wpE (defs₀ (F := F)) 𝒱₀ (c : Thread nD τ) none) Set.univ)
    isplitl [H1 H2 H3]
    · iapply (trip13 c k11 w1 k12 w2 u1 u2 u3 u4 w3 w4 XS XN XA k (st13 c k11 w1 k12 w2 u1 u2 u3 u4 w3 w4 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T13

/-! ## Loop `12`: the last tile's columns folded in -/

section T12
variable (c : Dev nD) (g : FVec F S384x128 .f32) (k11 : Fin k0_t11_loop.trips) (w0 : BitVec 32) (XS : Ct (F := F) aS) (XN : Ct (F := F) aN) (XA : Ct (F := F) aA) (XD : Ct (F := F) aD)

set_option backward.proofsInPublic true in
/-- One group of eight rows: its best and second best entered in the lists, its third best against the overflow. -/
def trip12 (k : Fin k0_t12_loop.trips) (x : LIC F) :
    { r : LIC F // own c aS XS ∗ own c aN XN ∗ own c aA XA ∗ own c aD XD ∗ own c aL x.1 ∗ own c aI x.2.1 ∗ own c aC x.2.2
      ⊢ wp frame (wpE (defs₀ (F := F)) 𝒱₀ (c : Thread nD τ) none) Set.univ (k0_t12_body (F := F) aX haX aW haW aS haS aN haN aTV haTV aTI haTI aQ haQ aE haE aR haR aA haA aB haB aD haD aL haL aI haI aC haC cc0_scratch7 g k11 w0 k ())
        (fun _ => iprop(own c aS XS ∗ own c aN XN ∗ own c aA XA ∗ own c aD XD ∗ own c aL r.1 ∗ own c aI r.2.1 ∗ own c aC r.2.2)) } := by
  refine ⟨⟨?_, ?_, ?_⟩, ?run⟩
  case run =>
    sl_unfold [k0_t12_body]
    iintro ⟨H1, H2, H3, H4, H5, H6, H7⟩
    sl_exec
    sl_step
    sl_close

/-- The lists and the overflow before group `k`. -/
def st12 (x : LIC F) : ℕ → LIC F
  | 0 => x
  | k + 1 => if h : k < k0_t12_loop.trips then (trip12 c g k11 w0 XS XN XA XD ⟨k, h⟩ (st12 x k)).1 else st12 x k

set_option warn.classDefReducibility false in
/-- The loop's invariant. -/
@[sl_loop] def loopInv12 (x : Ct (F := F) aL) (y : Ct (F := F) aI) (z : Ct (F := F) aC) :
    LoopInvTy_k0_t12 (F := F) Unit ℕ (Pipeline.UD sig nD τ) ℕ 𝒱₀ c none Set.univ aX haX aW haW aS haS aN haN aTV haTV aTI haTI aQ haQ aE haE aR haR aA haA aB haB aD haD aL haL aI haI aC haC cc0_scratch7 g k11 w0 where
  inv k _ := iprop(own c aS XS ∗ own c aN XN ∗ own c aA XA ∗ own c aD XD ∗ own c aL (st12 c g k11 w0 XS XN XA XD (x, y, z) k).1
    ∗ own c aI (st12 c g k11 w0 XS XN XA XD (x, y, z) k).2.1 ∗ own c aC (st12 c g k11 w0 XS XN XA XD (x, y, z) k).2.2)
  step k _ := by
    have e : st12 c g k11 w0 XS XN XA XD (x, y, z) (k.val + 1) = (trip12 c g k11 w0 XS XN XA XD k (st12 c g k11 w0 XS XN XA XD (x, y, z) k.val)).1 := by
      rw [st12, dif_pos k.isLt]
    rw [e]
    exact (trip12 c g k11 w0 XS XN XA XD k (st12 c g k11 w0 XS XN XA XD (x, y, z) k.val)).2

end T12

/-! ## Loop `11`: the last tile's four runs of groups -/

section T11
variable (c : Dev nD) (g : FVec F S384x128 .f32) (XS : Ct (F := F) aS) (XN : Ct (F := F) aN) (XA : Ct (F := F) aA) (XD : Ct (F := F) aD)

set_option backward.proofsInPublic true in
/-- One run of twelve groups. -/
def trip11 (k : Fin k0_t11_loop.trips) (x : LIC F) :
    { r : LIC F // own c aS XS ∗ own c aN XN ∗ own c aA XA ∗ own c aD XD ∗ own c aL x.1 ∗ own c aI x.2.1 ∗ own c aC x.2.2
      ⊢ wp frame (wpE (defs₀ (F := F)) 𝒱₀ (c : Thread nD τ) none) Set.univ (k0_t11_body (F := F) aX haX aW haW aS haS aN haN aTV haTV aTI haTI aQ haQ aE haE aR haR aA haA aB haB aD haD aL haL aI haI aC haC cc0_scratch7 g k ())
        (fun _ => iprop(own c aS XS ∗ own c aN XN ∗ own c aA XA ∗ own c aD XD ∗ own c aL r.1 ∗ own c aI r.2.1 ∗ own c aC r.2.2)) } := by
  refine ⟨⟨?_, ?_, ?_⟩, ?run⟩
  case run =>
    sl_unfold [k0_t11_body]
    iintro ⟨H1, H2, H3, H4, H5, H6, H7⟩
    sl_exec
    sl_step
    sl_close

/-- The lists and the overflow before run `k`. -/
def st11 (x : LIC F) : ℕ → LIC F
  | 0 => x
  | k + 1 => if h : k < k0_t11_loop.trips then (trip11 c g XS XN XA XD ⟨k, h⟩ (st11 x k)).1 else st11 x k

set_option warn.classDefReducibility false in
/-- The loop's invariant. -/
def loopInv11 (x : Ct (F := F) aL) (y : Ct (F := F) aI) (z : Ct (F := F) aC) :
    LoopInvTy_k0_t11 (F := F) Unit ℕ (Pipeline.UD sig nD τ) ℕ 𝒱₀ c none Set.univ aX haX aW haW aS haS aN haN aTV haTV aTI haTI aQ haQ aE haE aR haR aA haA aB haB aD haD aL haL aI haI aC haC cc0_scratch7 g where
  inv k _ := iprop(own c aS XS ∗ own c aN XN ∗ own c aA XA ∗ own c aD XD ∗ own c aL (st11 c g XS XN XA XD (x, y, z) k).1
    ∗ own c aI (st11 c g XS XN XA XD (x, y, z) k).2.1 ∗ own c aC (st11 c g XS XN XA XD (x, y, z) k).2.2)
  step k _ := by
    have e : st11 c g XS XN XA XD (x, y, z) (k.val + 1) = (trip11 c g XS XN XA XD k (st11 c g XS XN XA XD (x, y, z) k.val)).1 := by
      rw [st11, dif_pos k.isLt]
    rw [e]
    exact (trip11 c g XS XN XA XD k (st11 c g XS XN XA XD (x, y, z) k.val)).2

end T11

end Cert.Kernel.Hand

end
-- ==== Proof.Kernel.Fill.lean ====
/-
  The loops that fill a buffer block by block: the quantiser (twelve blocks of 32 rows) and a tile's product with the
  codes (four blocks of 512 columns), the latter interleaved with the fast fold of the tile before it.
-/
module

public import proofs.«01_k».proof.Proof.Kernel.Fold

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The piece past the last trip. -/
def noPiece (s : Shape) (e : EltTy) : View.Piece (Elt F) s e := ⟨Rect.whole _, fun _ => (inferInstance : ∀ e, Nonempty (Elt F e)) e |>.some⟩

/-- Blocks that reach every index cover the shape. -/
theorem cover_of_off {s : Shape} {e : EltTy} {T : ℕ} (p : ℕ → View.Piece (Elt F) s e) (off : Fin T → Fin s.rank → Nat) (size : Fin s.rank → Nat)
    (h : ∀ k : Fin T, ∃ inb w, p k.val = ⟨Rect.unit (off k) size inb, w⟩)
    (hc : ∀ y : s.Idx, ∃ k : Fin T, ∀ a, off k a ≤ (y a).val ∧ (y a).val < off k a + size a) :
    ∀ y, ∃ q ∈ pieces p T, y ∈ q.1.set := by
  intro y
  obtain ⟨k, hk⟩ := hc y
  obtain ⟨inb, w, e⟩ := h k
  refine ⟨p k.val, mem_pieces p k.isLt, ?_⟩
  rw [e]; exact (Rect.mem_set_unit (inb := inb)).2 hk

/-- Four blocks of 512 columns reach every index; -/
theorem cols_cover (y : S384x2048.Idx) : ∃ k : Fin 4, ∀ a, (![0, 512 * k.val] : Fin 2 → Nat) a ≤ (y a).val ∧ (y a).val < (![0, 512 * k.val] : Fin 2 → Nat) a + S384x512.size a := by
  have h0 := (y 0).isLt; have h1 := (y 1).isLt
  change (y 0).val < 384 at h0; change (y 1).val < 2048 at h1
  refine ⟨⟨(y 1).val / 512, by omega⟩, fun a => ?_⟩
  fin_cases a
  · show 0 ≤ (y 0).val ∧ (y 0).val < 0 + 384; omega
  · show 512 * ((y 1).val / 512) ≤ (y 1).val ∧ (y 1).val < 512 * ((y 1).val / 512) + 512; omega
/-- and `T` blocks of `n` whole rows do. -/
theorem rows_cover {n m T : ℕ} (hn : 0 < n) (hT : 384 = n * T) (y : Shape.Idx ⟨2, ![384, m]⟩) :
    ∃ k : Fin T, ∀ a, (![n * k.val, 0] : Fin 2 → Nat) a ≤ (y a).val ∧ (y a).val < (![n * k.val, 0] : Fin 2 → Nat) a + (![n, m] : Fin 2 → Nat) a := by
  have h0 : (y 0).val < 384 := (y 0).isLt
  have h1 : (y 1).val < m := (y 1).isLt
  refine ⟨⟨(y 0).val / n, Nat.div_lt_of_lt_mul (by omega)⟩, fun a => ?_⟩
  have := Nat.div_add_mod (y 0).val n
  have := Nat.mod_lt (y 0).val hn
  fin_cases a
  · show n * ((y 0).val / n) ≤ (y 0).val ∧ (y 0).val < n * ((y 0).val / n) + n; omega
  · show 0 ≤ (y 1).val ∧ (y 1).val < 0 + m; omega

/-! ## Loop `1`: the quantiser -/

section T1
variable (c : Dev nD) (XX : Ct (F := F) aX)

abbrev R1q (k : Fin k0_t1_loop.trips) : Rect S384x3840 := Rect.unit (s := S384x3840) (k0_off4 k) S32x3840.size (k0_off4_inb k)
abbrev R1e (k : Fin k0_t1_loop.trips) : Rect S384x1 := Rect.unit (s := S384x1) (k0_off5 k) S32x1.size (k0_off5_inb k)
abbrev R1d (k : Fin k0_t1_loop.trips) : Rect S384x128 := Rect.unit (s := S384x128) (k0_off6 k) S32x128.size (k0_off6_inb k)

set_option backward.proofsInPublic true in
/-- One block of 32 rows: its codes, its scales, its scales over the lanes. -/
def trip1 (k : Fin k0_t1_loop.trips) :
    { w : ((R1q k).shape.Idx → Elt F .fp8e4m3) × ((R1e k).shape.Idx → Elt F .f32) × ((R1d k).shape.Idx → Elt F .f32) //
        ∀ (f : Ct (F := F) aQ) (g : Ct (F := F) aE) (h : Ct (F := F) aD), own c aX XX ∗ own c aQ f ∗ own c aE g ∗ own c aD h
      ⊢ wp frame (wpE (defs₀ (F := F)) 𝒱₀ (c : Thread nD τ) none) Set.univ (k0_t1_body (F := F) aX haX aW haW aS haS aN haN aTV haTV aTI haTI aQ haQ aE haE aR haR aA haA aB haB aD haD aL haL aI haI aC haC cc0_scratch7 k ())
        (fun _ => iprop(own c aX XX ∗ own c aQ (aQ.view.writes (Elt F) f [⟨R1q k, w.1⟩]) ∗ own c aE (aE.view.writes (Elt F) g [⟨R1e k, w.2.1⟩])
          ∗ own c aD (aD.view.writes (Elt F) h [⟨R1d k, w.2.2⟩]))) } := by
  refine ⟨⟨?_, ?_, ?_⟩, fun f g h => ?run⟩
  case run =>
    sl_unfold [k0_t1_body]
    iintro ⟨H1, H2, H3, H4⟩
    sl_exec
    sl_step
    sl_close

theorem trips1 : k0_t1_loop.trips = 12 := by decide

def p1q (k : ℕ) : View.Piece (Elt F) S384x3840 .fp8e4m3 :=
  if h : k < k0_t1_loop.trips then ⟨R1q ⟨k, h⟩, (trip1 c XX ⟨k, h⟩).1.1⟩ else noPiece _ _
theorem p1q_eq (k : Fin k0_t1_loop.trips) : p1q c XX k.val = ⟨R1q k, (trip1 c XX k).1.1⟩ := dif_pos k.isLt
theorem cover1q : ∀ y, ∃ q ∈ pieces (p1q c XX) k0_t1_loop.trips, y ∈ q.1.set := by
  refine cover_of_off _ (fun k => k0_off4 k) S32x3840.size (fun k => ⟨_, _, p1q_eq c XX k⟩) fun y => ?_
  obtain ⟨k, hk⟩ := rows_cover (n := 32) (T := 12) (by decide) (by decide) y
  refine ⟨⟨k.val, by rw [trips1]; exact k.isLt⟩, fun a => ?_⟩
  rw [k0_off4_eq]; exact hk a

def p1e (k : ℕ) : View.Piece (Elt F) S384x1 .f32 :=
  if h : k < k0_t1_loop.trips then ⟨R1e ⟨k, h⟩, (trip1 c XX ⟨k, h⟩).1.2.1⟩ else noPiece _ _
theorem p1e_eq (k : Fin k0_t1_loop.trips) : p1e c XX k.val = ⟨R1e k, (trip1 c XX k).1.2.1⟩ := dif_pos k.isLt
theorem cover1e : ∀ y, ∃ q ∈ pieces (p1e c XX) k0_t1_loop.trips, y ∈ q.1.set := by
  refine cover_of_off _ (fun k => k0_off5 k) S32x1.size (fun k => ⟨_, _, p1e_eq c XX k⟩) fun y => ?_
  obtain ⟨k, hk⟩ := rows_cover (n := 32) (T := 12) (by decide) (by decide) y
  refine ⟨⟨k.val, by rw [trips1]; exact k.isLt⟩, fun a => ?_⟩
  rw [k0_off5_eq]; exact hk a

def p1d (k : ℕ) : View.Piece (Elt F) S384x128 .f32 :=
  if h : k < k0_t1_loop.trips then ⟨R1d ⟨k, h⟩, (trip1 c XX ⟨k, h⟩).1.2.2⟩ else noPiece _ _
theorem p1d_eq (k : Fin k0_t1_loop.trips) : p1d c XX k.val = ⟨R1d k, (trip1 c XX k).1.2.2⟩ := dif_pos k.isLt
theorem cover1d : ∀ y, ∃ q ∈ pieces (p1d c XX) k0_t1_loop.trips, y ∈ q.1.set := by
  refine cover_of_off _ (fun k => k0_off6 k) S32x128.size (fun k => ⟨_, _, p1d_eq c XX k⟩) fun y => ?_
  obtain ⟨k, hk⟩ := rows_cover (n := 32) (T := 12) (by decide) (by decide) y
  refine ⟨⟨k.val, by rw [trips1]; exact k.isLt⟩, fun a => ?_⟩
  rw [k0_off6_eq]; exact hk a

set_option warn.classDefReducibility false in
/-- The loop's invariant. -/
@[sl_loop] def loopInv1 (f : Ct (F := F) aQ) (g : Ct (F := F) aE) (h : Ct (F := F) aD) :
    LoopInvTy_k0_t1 (F := F) Unit ℕ (Pipeline.UD sig nD τ) ℕ 𝒱₀ c none Set.univ aX haX aW haW aS haS aN haN aTV haTV aTI haTI aQ haQ aE haE aR haR aA haA aB haB aD haD aL haL aI haI aC haC cc0_scratch7 where
  inv k _ := iprop(own c aX XX ∗ own c aQ (fillTo aQ k0_t1_loop.trips (p1q c XX) f k) ∗ own c aE (fillTo aE k0_t1_loop.trips (p1e c XX) g k)
    ∗ own c aD (fillTo aD k0_t1_loop.trips (p1d c XX) h k))
  step k _ := by
    rw [← fillTo_succ haQ f (cover1q c XX) k.isLt, p1q_eq, ← fillTo_succ haE g (cover1e c XX) k.isLt, p1e_eq,
      ← fillTo_succ haD h (cover1d c XX) k.isLt, p1d_eq]
    exact (trip1 c XX k).2 _ _ _

end T1

/-! ## Loop `3`: the first tile's product -/

section T3
variable (c : Dev nD) (g : FVec F S384x128 .f32) (XQ : Ct (F := F) aQ) (XR : Buf (Elt F) ((rslot 0).view.loc (c : Thread nD τ)))

abbrev R3 (k : Fin k0_t3_loop.trips) : Rect S384x2048 := Rect.unit (s := S384x2048) (k0_off11 k) S384x512.size (k0_off11_inb k)

theorem trips3 : k0_t3_loop.trips = 4 := by decide

set_option backward.proofsInPublic true in
/-- One block of 512 columns. -/
def trip3 (k : Fin k0_t3_loop.trips) :
    { w : (R3 k).shape.Idx → Elt F .f32 // ∀ f : Ct (F := F) aA, own c aQ XQ ∗ slotP c 0 XR ∗ own c aA f
      ⊢ wp frame (wpE (defs₀ (F := F)) 𝒱₀ (c : Thread nD τ) none) Set.univ (k0_t3_body (F := F) aX haX aW haW aS haS aN haN aTV haTV aTI haTI aQ haQ aE haE aR haR aA haA aB haB aD haD aL haL aI haI aC haC cc0_scratch7 g k ())
        (fun _ => iprop(own c aQ XQ ∗ slotP c 0 XR ∗ own c aA (aA.view.writes (Elt F) f [⟨R3 k, w⟩]))) } := by
  refine ⟨?_, fun f => ?run⟩
  case run =>
    have hS := slot_cols (0) k.val (trips3 ▸ k.isLt) (k0_off10_eq  k) (k0_off10_inb  k)
    sl_unfold [k0_t3_body]
    iintro ⟨H1, H2, H3⟩
    sl_exec
    sl_step
    sl_close

/-- Trip `k`'s block. -/
def p3 (k : ℕ) : View.Piece (Elt F) S384x2048 .f32 :=
  if h : k < k0_t3_loop.trips then ⟨R3 ⟨k, h⟩, (trip3 c g XQ XR ⟨k, h⟩).1⟩ else noPiece _ _
theorem p3_eq (k : Fin k0_t3_loop.trips) : p3 c g XQ XR k.val = ⟨R3 k, (trip3 c g XQ XR k).1⟩ := dif_pos k.isLt
theorem cover3 : ∀ y, ∃ q ∈ pieces (p3 c g XQ XR) k0_t3_loop.trips, y ∈ q.1.set := by
  refine cover_of_off _ (fun k => k0_off11 k) S384x512.size (fun k => ⟨_, _, p3_eq c g XQ XR k⟩) fun y => ?_
  obtain ⟨k, hk⟩ := cols_cover y
  refine ⟨⟨k.val, by rw [trips3]; exact k.isLt⟩, fun a => ?_⟩
  rw [k0_off11_eq]; exact hk a

set_option warn.classDefReducibility false in
/-- The loop's invariant. -/
@[sl_loop] def loopInv3 (f : Ct (F := F) aA) :
    LoopInvTy_k0_t3 (F := F) Unit ℕ (Pipeline.UD sig nD τ) ℕ 𝒱₀ c none Set.univ aX haX aW haW aS haS aN haN aTV haTV aTI haTI aQ haQ aE haE aR haR aA haA aB haB aD haD aL haL aI haI aC haC cc0_scratch7 g where
  inv k _ := iprop(own c aQ XQ ∗ slotP c 0 XR ∗ own c aA (fillTo aA k0_t3_loop.trips (p3 c g XQ XR) f k))
  step k _ := by
    rw [← fillTo_succ haA f (cover3 c g XQ XR) k.isLt, p3_eq]
    exact (trip3 c g XQ XR k).2 _

end T3

/-! ## Loop `17`: a tile's product in the second pass -/

section T17
variable (c : Dev nD) (k16 : Fin k0_t16_loop.trips) (XQ : Ct (F := F) aQ) (XR : Buf (Elt F) ((rslot k16.val).view.loc (c : Thread nD τ)))

abbrev R17 (k : Fin k0_t17_loop.trips) : Rect S384x2048 := Rect.unit (s := S384x2048) (k0_off64 k) S384x512.size (k0_off64_inb k)

theorem trips17 : k0_t17_loop.trips = 4 := by decide

set_option backward.proofsInPublic true in
/-- One block of 512 columns. -/
def trip17 (k : Fin k0_t17_loop.trips) :
    { w : (R17 k).shape.Idx → Elt F .f32 // ∀ f : Ct (F := F) aA, own c aQ XQ ∗ slotP c k16.val XR ∗ own c aA f
      ⊢ wp frame (wpE (defs₀ (F := F)) 𝒱₀ (c : Thread nD τ) none) Set.univ (k0_t17_body (F := F) aX haX aW haW aS haS aN haN aTV haTV aTI haTI aQ haQ aE haE aR haR aA haA aB haB aD haD aL haL aI haI aC haC cc0_scratch7 k16 k ())
        (fun _ => iprop(own c aQ XQ ∗ slotP c k16.val XR ∗ own c aA (aA.view.writes (Elt F) f [⟨R17 k, w⟩]))) } := by
  refine ⟨?_, fun f => ?run⟩
  case run =>
    have hS := slot_cols (k16.val) k.val (trips17 ▸ k.isLt) (k0_off63_eq k16 k) (k0_off63_inb k16 k)
    sl_unfold [k0_t17_body]
    iintro ⟨H1, H2, H3⟩
    sl_exec
    sl_step
    sl_close

/-- Trip `k`'s block. -/
def p17 (k : ℕ) : View.Piece (Elt F) S384x2048 .f32 :=
  if h : k < k0_t17_loop.trips then ⟨R17 ⟨k, h⟩, (trip17 c k16 XQ XR ⟨k, h⟩).1⟩ else noPiece _ _
theorem p17_eq (k : Fin k0_t17_loop.trips) : p17 c k16 XQ XR k.val = ⟨R17 k, (trip17 c k16 XQ XR k).1⟩ := dif_pos k.isLt
theorem cover17 : ∀ y, ∃ q ∈ pieces (p17 c k16 XQ XR) k0_t17_loop.trips, y ∈ q.1.set := by
  refine cover_of_off _ (fun k => k0_off64 k) S384x512.size (fun k => ⟨_, _, p17_eq c k16 XQ XR k⟩) fun y => ?_
  obtain ⟨k, hk⟩ := cols_cover y
  refine ⟨⟨k.val, by rw [trips17]; exact k.isLt⟩, fun a => ?_⟩
  rw [k0_off64_eq]; exact hk a

set_option warn.classDefReducibility false in
/-- The loop's invariant. -/
@[sl_loop] def loopInv17 (f : Ct (F := F) aA) :
    LoopInvTy_k0_t17 (F := F) Unit ℕ (Pipeline.UD sig nD τ) ℕ 𝒱₀ c none Set.univ aX haX aW haW aS haS aN haN aTV haTV aTI haTI aQ haQ aE haE aR haR aA haA aB haB aD haD aL haL aI haI aC haC cc0_scratch7 k16 where
  inv k _ := iprop(own c aQ XQ ∗ slotP c k16.val XR ∗ own c aA (fillTo aA k0_t17_loop.trips (p17 c k16 XQ XR) f k))
  step k _ := by
    rw [← fillTo_succ haA f (cover17 c k16 XQ XR) k.isLt, p17_eq]
    exact (trip17 c k16 XQ XR k).2 _

end T17

/-! ## Loop `5`: an odd tile's product, and the fold of the tile before it -/

section T5
variable (c : Dev nD) (d0 d1 : BitVec 32) (k4 : Fin k0_t4_loop.trips) (w9 : BitVec 32) (XS : Ct (F := F) aS) (XN : Ct (F := F) aN) (XA : Ct (F := F) aA) (XD : Ct (F := F) aD)
  (XQ : Ct (F := F) aQ) (XR : Buf (Elt F) ((rslot (2 * k4.val + 1)).view.loc (c : Thread nD τ)))

abbrev R5 (k : Fin k0_t5_loop.trips) : Rect S384x2048 := Rect.unit (s := S384x2048) (k0_off19 k) S384x512.size (k0_off19_inb k)

theorem trips5 : k0_t5_loop.trips = 4 := by decide

set_option backward.proofsInPublic true in
/-- One block of 512 columns of this tile, and twelve groups of the tile before. -/
def trip5 (k : Fin k0_t5_loop.trips) (x : LIC F) :
    { w : ((R5 k).shape.Idx → Elt F .f32) × LIC F // ∀ f : Ct (F := F) aB,
        own c aS XS ∗ own c aN XN ∗ own c aA XA ∗ own c aD XD ∗ own c aQ XQ ∗ slotP c (2 * k4.val + 1) XR ∗ own c aB f
          ∗ own c aL x.1 ∗ own c aI x.2.1 ∗ own c aC x.2.2
      ⊢ wp frame (wpE (defs₀ (F := F)) 𝒱₀ (c : Thread nD τ) none) Set.univ (k0_t5_body (F := F) aX haX aW haW aS haS aN haN aTV haTV aTI haTI aQ haQ aE haE aR haR aA haA aB haB aD haD aL haL aI haI aC haC cc0_scratch7 d0 d1 k4 w9 k ())
        (fun _ => iprop(own c aS XS ∗ own c aN XN ∗ own c aA XA ∗ own c aD XD ∗ own c aQ XQ ∗ slotP c (2 * k4.val + 1) XR
          ∗ own c aB (aB.view.writes (Elt F) f [⟨R5 k, w.1⟩]) ∗ own c aL w.2.1 ∗ own c aI w.2.2.1 ∗ own c aC w.2.2.2)) } := by
  refine ⟨⟨?_, ?_, ?_, ?_⟩, fun f => ?run⟩
  case run =>
    have hS := slot_cols ((2 * k4.val + 1)) k.val (trips5 ▸ k.isLt) (k0_off18_eq k4 k) (k0_off18_inb k4 k)
    sl_unfold [k0_t5_body]
    iintro ⟨H1, H2, H3, H4, H5, H6, H7, H8, H9, H10⟩
    sl_exec
    sl_step
    sl_close

/-- The lists and the overflow before trip `k`. -/
def st5 (x : LIC F) : ℕ → LIC F
  | 0 => x
  | k + 1 => if h : k < k0_t5_loop.trips then (trip5 c d0 d1 k4 w9 XS XN XA XD XQ XR ⟨k, h⟩ (st5 x k)).1.2 else st5 x k
/-- Trip `k`'s block. -/
def p5 (x : LIC F) (k : ℕ) : View.Piece (Elt F) S384x2048 .f32 :=
  if h : k < k0_t5_loop.trips then ⟨R5 ⟨k, h⟩, (trip5 c d0 d1 k4 w9 XS XN XA XD XQ XR ⟨k, h⟩ (st5 c d0 d1 k4 w9 XS XN XA XD XQ XR x k)).1.1⟩ else noPiece _ _
theorem p5_eq (x : LIC F) (k : Fin k0_t5_loop.trips) : p5 c d0 d1 k4 w9 XS XN XA XD XQ XR x k.val
    = ⟨R5 k, (trip5 c d0 d1 k4 w9 XS XN XA XD XQ XR k (st5 c d0 d1 k4 w9 XS XN XA XD XQ XR x k.val)).1.1⟩ := dif_pos k.isLt
theorem cover5 (x : LIC F) : ∀ y, ∃ q ∈ pieces (p5 c d0 d1 k4 w9 XS XN XA XD XQ XR x) k0_t5_loop.trips, y ∈ q.1.set := by
  refine cover_of_off _ (fun k => k0_off19 k) S384x512.size (fun k => ⟨_, _, p5_eq c d0 d1 k4 w9 XS XN XA XD XQ XR x k⟩) fun y => ?_
  obtain ⟨k, hk⟩ := cols_cover y
  refine ⟨⟨k.val, by rw [trips5]; exact k.isLt⟩, fun a => ?_⟩
  rw [k0_off19_eq]; exact hk a

set_option warn.classDefReducibility false in
/-- The loop's invariant. -/
@[sl_loop] def loopInv5 (f : Ct (F := F) aB) (x : Ct (F := F) aL) (y : Ct (F := F) aI) (z : Ct (F := F) aC) :
    LoopInvTy_k0_t5 (F := F) Unit ℕ (Pipeline.UD sig nD τ) ℕ 𝒱₀ c none Set.univ aX haX aW haW aS haS aN haN aTV haTV aTI haTI aQ haQ aE haE aR haR aA haA aB haB aD haD aL haL aI haI aC haC cc0_scratch7 d0 d1 k4 w9 where
  inv k _ := iprop(own c aS XS ∗ own c aN XN ∗ own c aA XA ∗ own c aD XD ∗ own c aQ XQ ∗ slotP c (2 * k4.val + 1) XR
    ∗ own c aB (fillTo aB k0_t5_loop.trips (p5 c d0 d1 k4 w9 XS XN XA XD XQ XR (x, y, z)) f k)
    ∗ own c aL (st5 c d0 d1 k4 w9 XS XN XA XD XQ XR (x, y, z) k).1 ∗ own c aI (st5 c d0 d1 k4 w9 XS XN XA XD XQ XR (x, y, z) k).2.1
    ∗ own c aC (st5 c d0 d1 k4 w9 XS XN XA XD XQ XR (x, y, z) k).2.2)
  step k _ := by
    have e : st5 c d0 d1 k4 w9 XS XN XA XD XQ XR (x, y, z) (k.val + 1)
        = (trip5 c d0 d1 k4 w9 XS XN XA XD XQ XR k (st5 c d0 d1 k4 w9 XS XN XA XD XQ XR (x, y, z) k.val)).1.2 := by
      rw [st5, dif_pos k.isLt]
    rw [e, ← fillTo_succ haB f (cover5 c d0 d1 k4 w9 XS XN XA XD XQ XR (x, y, z)) k.isLt, p5_eq]
    exact (trip5 c d0 d1 k4 w9 XS XN XA XD XQ XR k (st5 c d0 d1 k4 w9 XS XN XA XD XQ XR (x, y, z) k.val)).2 _

end T5

/-! ## Loop `8`: an even tile's product, and the fold of the tile before it -/

section T8
variable (c : Dev nD) (g : FVec F S384x128 .f32) (k4 : Fin k0_t4_loop.trips) (w9 : BitVec 32) (XS : Ct (F := F) aS) (XN : Ct (F := F) aN) (XA : Ct (F := F) aB) (XD : Ct (F := F) aD)
  (XQ : Ct (F := F) aQ) (XR : Buf (Elt F) ((rslot (2 * k4.val + 2)).view.loc (c : Thread nD τ)))

abbrev R8 (k : Fin k0_t8_loop.trips) : Rect S384x2048 := Rect.unit (s := S384x2048) (k0_off34 k) S384x512.size (k0_off34_inb k)

theorem trips8 : k0_t8_loop.trips = 4 := by decide

set_option backward.proofsInPublic true in
/-- One block of 512 columns of this tile, and twelve groups of the tile before. -/
def trip8 (k : Fin k0_t8_loop.trips) (x : LIC F) :
    { w : ((R8 k).shape.Idx → Elt F .f32) × LIC F // ∀ f : Ct (F := F) aA,
        own c aS XS ∗ own c aN XN ∗ own c aB XA ∗ own c aD XD ∗ own c aQ XQ ∗ slotP c (2 * k4.val + 2) XR ∗ own c aA f
          ∗ own c aL x.1 ∗ own c aI x.2.1 ∗ own c aC x.2.2
      ⊢ wp frame (wpE (defs₀ (F := F)) 𝒱₀ (c : Thread nD τ) none) Set.univ (k0_t8_body (F := F) aX haX aW haW aS haS aN haN aTV haTV aTI haTI aQ haQ aE haE aR haR aA haA aB haB aD haD aL haL aI haI aC haC cc0_scratch7 g k4 w9 k ())
        (fun _ => iprop(own c aS XS ∗ own c aN XN ∗ own c aB XA ∗ own c aD XD ∗ own c aQ XQ ∗ slotP c (2 * k4.val + 2) XR
          ∗ own c aA (aA.view.writes (Elt F) f [⟨R8 k, w.1⟩]) ∗ own c aL w.2.1 ∗ own c aI w.2.2.1 ∗ own c aC w.2.2.2)) } := by
  refine ⟨⟨?_, ?_, ?_, ?_⟩, fun f => ?run⟩
  case run =>
    have hS := slot_cols ((2 * k4.val + 2)) k.val (trips8 ▸ k.isLt) (k0_off33_eq k4 k) (k0_off33_inb k4 k)
    sl_unfold [k0_t8_body]
    iintro ⟨H1, H2, H3, H4, H5, H6, H7, H8, H9, H10⟩
    sl_exec
    sl_step
    sl_close

/-- The lists and the overflow before trip `k`. -/
def st8 (x : LIC F) : ℕ → LIC F
  | 0 => x
  | k + 1 => if h : k < k0_t8_loop.trips then (trip8 c g k4 w9 XS XN XA XD XQ XR ⟨k, h⟩ (st8 x k)).1.2 else st8 x k
/-- Trip `k`'s block. -/
def p8 (x : LIC F) (k : ℕ) : View.Piece (Elt F) S384x2048 .f32 :=
  if h : k < k0_t8_loop.trips then ⟨R8 ⟨k, h⟩, (trip8 c g k4 w9 XS XN XA XD XQ XR ⟨k, h⟩ (st8 c g k4 w9 XS XN XA XD XQ XR x k)).1.1⟩ else noPiece _ _
theorem p8_eq (x : LIC F) (k : Fin k0_t8_loop.trips) : p8 c g k4 w9 XS XN XA XD XQ XR x k.val
    = ⟨R8 k, (trip8 c g k4 w9 XS XN XA XD XQ XR k (st8 c g k4 w9 XS XN XA XD XQ XR x k.val)).1.1⟩ := dif_pos k.isLt
theorem cover8 (x : LIC F) : ∀ y, ∃ q ∈ pieces (p8 c g k4 w9 XS XN XA XD XQ XR x) k0_t8_loop.trips, y ∈ q.1.set := by
  refine cover_of_off _ (fun k => k0_off34 k) S384x512.size (fun k => ⟨_, _, p8_eq c g k4 w9 XS XN XA XD XQ XR x k⟩) fun y => ?_
  obtain ⟨k, hk⟩ := cols_cover y
  refine ⟨⟨k.val, by rw [trips8]; exact k.isLt⟩, fun a => ?_⟩
  rw [k0_off34_eq]; exact hk a

set_option warn.classDefReducibility false in
/-- The loop's invariant. -/
def loopInv8 (f : Ct (F := F) aA) (x : Ct (F := F) aL) (y : Ct (F := F) aI) (z : Ct (F := F) aC) :
    LoopInvTy_k0_t8 (F := F) Unit ℕ (Pipeline.UD sig nD τ) ℕ 𝒱₀ c none Set.univ aX haX aW haW aS haS aN haN aTV haTV aTI haTI aQ haQ aE haE aR haR aA haA aB haB aD haD aL haL aI haI aC haC cc0_scratch7 g k4 w9 where
  inv k _ := iprop(own c aS XS ∗ own c aN XN ∗ own c aB XA ∗ own c aD XD ∗ own c aQ XQ ∗ slotP c (2 * k4.val + 2) XR
    ∗ own c aA (fillTo aA k0_t8_loop.trips (p8 c g k4 w9 XS XN XA XD XQ XR (x, y, z)) f k)
    ∗ own c aL (st8 c g k4 w9 XS XN XA XD XQ XR (x, y, z) k).1 ∗ own c aI (st8 c g k4 w9 XS XN XA XD XQ XR (x, y, z) k).2.1
    ∗ own c aC (st8 c g k4 w9 XS XN XA XD XQ XR (x, y, z) k).2.2)
  step k _ := by
    have e : st8 c g k4 w9 XS XN XA XD XQ XR (x, y, z) (k.val + 1)
        = (trip8 c g k4 w9 XS XN XA XD XQ XR k (st8 c g k4 w9 XS XN XA XD XQ XR (x, y, z) k.val)).1.2 := by
      rw [st8, dif_pos k.isLt]
    rw [e, ← fillTo_succ haA f (cover8 c g k4 w9 XS XN XA XD XQ XR (x, y, z)) k.isLt, p8_eq]
    exact (trip8 c g k4 w9 XS XN XA XD XQ XR k (st8 c g k4 w9 XS XN XA XD XQ XR (x, y, z) k.val)).2 _

end T8

end Cert.Kernel.Hand

end
-- ==== Proof.Kernel.Slow.lean ====
/-
  The loops that run when the first pass is not enough: the exact eight-deep insertion of every slab, and its selection;
  and the selection of the first pass.
-/
module

public import proofs.«01_k».proof.Proof.Kernel.Fill

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lists' values and indices. -/
abbrev LI (F : FTy → Type) : Type := Ct (F := F) aL × Ct (F := F) aI
/-- A vector of eight rows. -/
abbrev V8 (F : FTy → Type) : Type := FVec F S8x128 .f32
/-- Eight values and eight indices per lane. -/
abbrev V16 (F : FTy → Type) : Type := V8 F × V8 F × V8 F × V8 F × V8 F × V8 F × V8 F × V8 F × V8 F × V8 F × V8 F × V8 F × V8 F × V8 F × V8 F × V8 F

/-! ## Loop `19`: a slab inserted in a group's lists -/

section T19
variable (c : Dev nD) (k16 : Fin k0_t16_loop.trips) (w16 : BitVec 32) (k18 : Fin k0_t18_loop.trips) (w81 : BitVec 32) (u1 u2 u3 u4 u5 u6 u7 u8 u9 u10 u11 : FVec F S8x128 .f32) (u12 : Vec F S8x128 .f32) (XS : Ct (F := F) aS) (XN : Ct (F := F) aN) (XA : Ct (F := F) aA)

set_option backward.proofsInPublic true in
/-- One slab folded in: what the trip yields from `a`. -/
def trip19 (k : Fin k0_t19_loop.trips) (a : V16 F) :
    { r : V16 F // own c aS XS ∗ own c aN XN ∗ own c aA XA
      ⊢ wp frame (wpE (defs₀ (F := F)) 𝒱₀ (c : Thread nD τ) none) Set.univ (k0_t19_body (F := F) aX haX aW haW aS haS aN haN aTV haTV aTI haTI aQ haQ aE haE aR haR aA haA aB haB aD haD aL haL aI haI aC haC cc0_scratch7 k16 w16 k18 w81 u1 u2 u3 u4 u5 u6 u7 u8 u9 u10 u11 u12 k a)
        (fun y => iprop(⌜y = r⌝ ∗ own c aS XS ∗ own c aN XN ∗ own c aA XA)) } := by
  have hk : k.val < 16 := Nat.lt_of_lt_of_le k.isLt k0_t19_abs.2.1
  refine ⟨?_, ?run⟩
  case run =>
    unfold k0_t19_body
    iintro ⟨H1, H2, H3⟩
    sl_exec
    sl_step
    sl_close

/-- The running vectors before slab trip `k`. -/
def st19 (i : V16 F) : ℕ → V16 F
  | 0 => i
  | k + 1 => if h : k < k0_t19_loop.trips then (trip19 c k16 w16 k18 w81 u1 u2 u3 u4 u5 u6 u7 u8 u9 u10 u11 u12 XS XN XA ⟨k, h⟩ (st19 i k)).1 else st19 i k

set_option warn.classDefReducibility false in
/-- The loop's invariant: the rows read, and the running vectors. -/
@[sl_loop] def loopInv19 (i : V16 F) :
    LoopInvTy_k0_t19 (F := F) Unit ℕ (Pipeline.UD sig nD τ) ℕ 𝒱₀ c none Set.univ aX haX aW haW aS haS aN haN aTV haTV aTI haTI aQ haQ aE haE aR haR aA haA aB haB aD haD aL haL aI haI aC haC cc0_scratch7 k16 w16 k18 w81 u1 u2 u3 u4 u5 u6 u7 u8 u9 u10 u11 u12 i where
  inv k a := iprop(own c aS XS ∗ own c aN XN ∗ own c aA XA ∗ ⌜a = st19 c k16 w16 k18 w81 u1 u2 u3 u4 u5 u6 u7 u8 u9 u10 u11 u12 XS XN XA i k⌝)
  step k a := by
    iintro ⟨H1, H2, H3, %ea⟩
    subst ea
    have e : st19 c k16 w16 k18 w81 u1 u2 u3 u4 u5 u6 u7 u8 u9 u10 u11 u12 XS XN XA i (k.val + 1) = (trip19 c k16 w16 k18 w81 u1 u2 u3 u4 u5 u6 u7 u8 u9 u10 u11 u12 XS XN XA k (st19 c k16 w16 k18 w81 u1 u2 u3 u4 u5 u6 u7 u8 u9 u10 u11 u12 XS XN XA i k.val)).1 := by
      rw [st19, dif_pos k.isLt]
    rw [e]
    iapply (wp_wand_r frame (wpE (defs₀ (F := F)) 𝒱₀ (c : Thread nD τ) none) Set.univ)
    isplitl [H1 H2 H3]
    · iapply (trip19 c k16 w16 k18 w81 u1 u2 u3 u4 u5 u6 u7 u8 u9 u10 u11 u12 XS XN XA k (st19 c k16 w16 k18 w81 u1 u2 u3 u4 u5 u6 u7 u8 u9 u10 u11 u12 XS XN XA i k.val)).2
      isplitl [H1]; · iexact H1
      isplitl [H2]; · iexact H2
      iexact H3
    · iintro %y ⟨%h, H1, H2, H3⟩
      isplitl [H1]; · iexact H1
      isplitl [H2]; · iexact H2
      isplitl [H3]; · iexact H3
      ipureintro; exact h

end T19

/-! ## Loop `18`: a tile inserted in the lists, group of rows by group -/

section T18
variable (c : Dev nD) (k16 : Fin k0_t16_loop.trips) (w16 : BitVec 32)
  (XS : Ct (F := F) aS) (XN : Ct (F := F) aN) (XA : Ct (F := F) aA) (XD : Ct (F := F) aD)

set_option backward.proofsInPublic true in
/-- One group of eight rows. -/
def trip18 (k : Fin k0_t18_loop.trips) (x : LI F) :
    { r : LI F // own c aS XS ∗ own c aN XN ∗ own c aA XA ∗ own c aD XD ∗ own c aL x.1 ∗ own c aI x.2
      ⊢ wp frame (wpE (defs₀ (F := F)) 𝒱₀ (c : Thread nD τ) none) Set.univ (k0_t18_body (F := F) aX haX aW haW aS haS aN haN aTV haTV aTI haTI aQ haQ aE haE aR haR aA haA aB haB aD haD aL haL aI haI aC haC cc0_scratch7 k16 w16 k ())
        (fun _ => iprop(own c aS XS ∗ own c aN XN ∗ own c aA XA ∗ own c aD XD ∗ own c aL r.1 ∗ own c aI r.2)) } := by
  refine ⟨⟨?_, ?_⟩, ?run⟩
  case run =>
    sl_unfold [k0_t18_body]
    iintro ⟨H1, H2, H3, H4, H5, H6⟩
    sl_exec
    sl_step
    sl_close

/-- The lists before group `k`. -/
def st18 (x : LI F) : ℕ → LI F
  | 0 => x
  | k + 1 => if h : k < k0_t18_loop.trips then (trip18 c k16 w16 XS XN XA XD ⟨k, h⟩ (st18 x k)).1 else st18 x k

set_option warn.classDefReducibility false in
/-- The loop's invariant. -/
def loopInv18 (x : Ct (F := F) aL) (y : Ct (F := F) aI) :
    LoopInvTy_k0_t18 (F := F) Unit ℕ (Pipeline.UD sig nD τ) ℕ 𝒱₀ c none Set.univ aX haX aW haW aS haS aN haN aTV haTV aTI haTI aQ haQ aE haE aR haR aA haA aB haB aD haD aL haL aI haI aC haC cc0_scratch7 k16 w16 where
  inv k _ := iprop(own c aS XS ∗ own c aN XN ∗ own c aA XA ∗ own c aD XD ∗ own c aL (st18 c k16 w16 XS XN XA XD (x, y) k).1
    ∗ own c aI (st18 c k16 w16 XS XN XA XD (x, y) k).2)
  step k _ := by
    have e : st18 c k16 w16 XS XN XA XD (x, y) (k.val + 1) = (trip18 c k16 w16 XS XN XA XD k (st18 c k16 w16 XS XN XA XD (x, y) k.val)).1 := by
      rw [st18, dif_pos k.isLt]
    rw [e]
    exact (trip18 c k16 w16 XS XN XA XD k (st18 c k16 w16 XS XN XA XD (x, y) k.val)).2

end T18

/-! ## Loop `20`: the selection of the second pass -/

section T20
variable (c : Dev nD) (XL : Ct (F := F) aL) (XI : Ct (F := F) aI)

abbrev R20 (k : Fin k0_t20_loop.trips) : Rect S384x128 := Rect.unit (s := S384x128) (k0_off84 k) S8x128.size (k0_off84_inb k)

set_option backward.proofsInPublic true in
/-- Eight rows: the values and the indices picked, in lanes `0` to `7`. -/
def trip20 (k : Fin k0_t20_loop.trips) :
    { w : ((R20 k).shape.Idx → Elt F .f32) × ((R20 k).shape.Idx → Elt F .i32) //
        ∀ (f : Ct (F := F) aTV) (g : Ct (F := F) aTI), own c aL XL ∗ own c aI XI ∗ own c aTV f ∗ own c aTI g
      ⊢ wp frame (wpE (defs₀ (F := F)) 𝒱₀ (c : Thread nD τ) none) Set.univ (k0_t20_body (F := F) aX haX aW haW aS haS aN haN aTV haTV aTI haTI aQ haQ aE haE aR haR aA haA aB haB aD haD aL haL aI haI aC haC cc0_scratch7 k ())
        (fun _ => iprop(own c aL XL ∗ own c aI XI ∗ own c aTV (aTV.view.writes (Elt F) f [⟨R20 k, w.1⟩]) ∗ own c aTI (aTI.view.writes (Elt F) g [⟨R20 k, w.2⟩]))) } := by
  refine ⟨⟨?_, ?_⟩, fun f g => ?run⟩
  case run =>
    sl_unfold [k0_t20_body]
    iintro ⟨H1, H2, H3, H4⟩
    sl_exec
    sl_step
    sl_close

theorem trips20 : k0_t20_loop.trips = 48 := by decide

def p20v (k : ℕ) : View.Piece (Elt F) S384x128 .f32 :=
  if h : k < k0_t20_loop.trips then ⟨R20 ⟨k, h⟩, (trip20 c XL XI ⟨k, h⟩).1.1⟩ else noPiece _ _
theorem p20v_eq (k : Fin k0_t20_loop.trips) : p20v c XL XI k.val = ⟨R20 k, (trip20 c XL XI k).1.1⟩ := dif_pos k.isLt
theorem cover20v : ∀ y, ∃ q ∈ pieces (p20v c XL XI) k0_t20_loop.trips, y ∈ q.1.set := by
  refine cover_of_off _ (fun k => k0_off84 k) S8x128.size (fun k => ⟨_, _, p20v_eq c XL XI k⟩) fun y => ?_
  obtain ⟨k, hk⟩ := rows_cover (n := 8) (T := 48) (by decide) (by decide) y
  refine ⟨⟨k.val, by rw [trips20]; exact k.isLt⟩, fun a => ?_⟩
  rw [k0_off84_eq]; exact hk a

def p20i (k : ℕ) : View.Piece (Elt F) S384x128 .i32 :=
  if h : k < k0_t20_loop.trips then ⟨R20 ⟨k, h⟩, (trip20 c XL XI ⟨k, h⟩).1.2⟩ else noPiece _ _
theorem p20i_eq (k : Fin k0_t20_loop.trips) : p20i c XL XI k.val = ⟨R20 k, (trip20 c XL XI k).1.2⟩ := dif_pos k.isLt
theorem cover20i : ∀ y, ∃ q ∈ pieces (p20i c XL XI) k0_t20_loop.trips, y ∈ q.1.set := by
  refine cover_of_off _ (fun k => k0_off84 k) S8x128.size (fun k => ⟨_, _, p20i_eq c XL XI k⟩) fun y => ?_
  obtain ⟨k, hk⟩ := rows_cover (n := 8) (T := 48) (by decide) (by decide) y
  refine ⟨⟨k.val, by rw [trips20]; exact k.isLt⟩, fun a => ?_⟩
  rw [k0_off84_eq]; exact hk a

set_option warn.classDefReducibility false in
/-- The loop's invariant. -/
def loopInv20 (f : Ct (F := F) aTV) (g : Ct (F := F) aTI) :
    LoopInvTy_k0_t20 (F := F) Unit ℕ (Pipeline.UD sig nD τ) ℕ 𝒱₀ c none Set.univ aX haX aW haW aS haS aN haN aTV haTV aTI haTI aQ haQ aE haE aR haR aA haA aB haB aD haD aL haL aI haI aC haC cc0_scratch7 where
  inv k _ := iprop(own c aL XL ∗ own c aI XI ∗ own c aTV (fillTo aTV k0_t20_loop.trips (p20v c XL XI) f k) ∗ own c aTI (fillTo aTI k0_t20_loop.trips (p20i c XL XI) g k))
  step k _ := by
    rw [← fillTo_succ haTV f (cover20v c XL XI) k.isLt, p20v_eq, ← fillTo_succ haTI g (cover20i c XL XI) k.isLt, p20i_eq]
    exact (trip20 c XL XI k).2 _ _

end T20

/-! ## Loop `14`: the selection of the first pass -/

section T14
variable (c : Dev nD) (g : FVec F S384x128 .f32) (XL : Ct (F := F) aL) (XI : Ct (F := F) aI) (XC : Ct (F := F) aC)

abbrev R14 (k : Fin k0_t14_loop.trips) : Rect S384x128 := Rect.unit (s := S384x128) (k0_off59 k) S8x128.size (k0_off59_inb k)

set_option backward.proofsInPublic true in
/-- Eight rows: the values and the indices picked, in lanes `0` to `7`; and the carried mark of rows the overflow spoils. -/
def trip14 (k : Fin k0_t14_loop.trips) (a : V8 F) :
    { w : ((R14 k).shape.Idx → Elt F .f32) × ((R14 k).shape.Idx → Elt F .i32) × V8 F //
        ∀ (f : Ct (F := F) aTV) (h : Ct (F := F) aTI), own c aL XL ∗ own c aI XI ∗ own c aC XC ∗ own c aTV f ∗ own c aTI h
      ⊢ wp frame (wpE (defs₀ (F := F)) 𝒱₀ (c : Thread nD τ) none) Set.univ (k0_t14_body (F := F) aX haX aW haW aS haS aN haN aTV haTV aTI haTI aQ haQ aE haE aR haR aA haA aB haB aD haD aL haL aI haI aC haC cc0_scratch7 g k a)
        (fun y => iprop(⌜y = w.2.2⌝ ∗ own c aL XL ∗ own c aI XI ∗ own c aC XC ∗ own c aTV (aTV.view.writes (Elt F) f [⟨R14 k, w.1⟩]) ∗ own c aTI (aTI.view.writes (Elt F) h [⟨R14 k, w.2.1⟩]))) } := by
  refine ⟨⟨?_, ?_, ?_⟩, fun f h => ?run⟩
  case run =>
    sl_unfold [k0_t14_body]
    iintro ⟨H1, H2, H3, H4, H5⟩
    sl_exec
    sl_step
    sl_close

theorem trips14 : k0_t14_loop.trips = 48 := by decide
/-- The carried mark before group `k`. -/
def st14 (a : V8 F) : ℕ → V8 F
  | 0 => a
  | k + 1 => if h : k < k0_t14_loop.trips then (trip14 c g XL XI XC ⟨k, h⟩ (st14 a k)).1.2.2 else st14 a k

def p14v (a : V8 F) (k : ℕ) : View.Piece (Elt F) S384x128 .f32 :=
  if h : k < k0_t14_loop.trips then ⟨R14 ⟨k, h⟩, (trip14 c g XL XI XC ⟨k, h⟩ (st14 c g XL XI XC a k)).1.1⟩ else noPiece _ _
theorem p14v_eq (a : V8 F) (k : Fin k0_t14_loop.trips) : p14v c g XL XI XC a k.val = ⟨R14 k, (trip14 c g XL XI XC k (st14 c g XL XI XC a k.val)).1.1⟩ := dif_pos k.isLt
theorem cover14v (a : V8 F) : ∀ y, ∃ q ∈ pieces (p14v c g XL XI XC a) k0_t14_loop.trips, y ∈ q.1.set := by
  refine cover_of_off _ (fun k => k0_off59 k) S8x128.size (fun k => ⟨_, _, p14v_eq c g XL XI XC a k⟩) fun y => ?_
  obtain ⟨k, hk⟩ := rows_cover (n := 8) (T := 48) (by decide) (by decide) y
  refine ⟨⟨k.val, by rw [trips14]; exact k.isLt⟩, fun a => ?_⟩
  rw [k0_off59_eq]; exact hk a

def p14i (a : V8 F) (k : ℕ) : View.Piece (Elt F) S384x128 .i32 :=
  if h : k < k0_t14_loop.trips then ⟨R14 ⟨k, h⟩, (trip14 c g XL XI XC ⟨k, h⟩ (st14 c g XL XI XC a k)).1.2.1⟩ else noPiece _ _
theorem p14i_eq (a : V8 F) (k : Fin k0_t14_loop.trips) : p14i c g XL XI XC a k.val = ⟨R14 k, (trip14 c g XL XI XC k (st14 c g XL XI XC a k.val)).1.2.1⟩ := dif_pos k.isLt
theorem cover14i (a : V8 F) : ∀ y, ∃ q ∈ pieces (p14i c g XL XI XC a) k0_t14_loop.trips, y ∈ q.1.set := by
  refine cover_of_off _ (fun k => k0_off59 k) S8x128.size (fun k => ⟨_, _, p14i_eq c g XL XI XC a k⟩) fun y => ?_
  obtain ⟨k, hk⟩ := rows_cover (n := 8) (T := 48) (by decide) (by decide) y
  refine ⟨⟨k.val, by rw [trips14]; exact k.isLt⟩, fun a => ?_⟩
  rw [k0_off59_eq]; exact hk a

set_option warn.classDefReducibility false in
/-- The loop's invariant. -/
def loopInv14 (a : V8 F) (f : Ct (F := F) aTV) (h : Ct (F := F) aTI) :
    LoopInvTy_k0_t14 (F := F) Unit ℕ (Pipeline.UD sig nD τ) ℕ 𝒱₀ c none Set.univ aX haX aW haW aS haS aN haN aTV haTV aTI haTI aQ haQ aE haE aR haR aA haA aB haB aD haD aL haL aI haI aC haC cc0_scratch7 g a where
  inv k b := iprop(own c aL XL ∗ own c aI XI ∗ own c aC XC ∗ own c aTV (fillTo aTV k0_t14_loop.trips (p14v c g XL XI XC a) f k)
    ∗ own c aTI (fillTo aTI k0_t14_loop.trips (p14i c g XL XI XC a) h k) ∗ ⌜b = st14 c g XL XI XC a k⌝)
  step k b := by
    iintro ⟨H1, H2, H3, H4, H5, %ea⟩
    subst ea
    have e : st14 c g XL XI XC a (k.val + 1) = (trip14 c g XL XI XC k (st14 c g XL XI XC a k.val)).1.2.2 := by
      rw [st14, dif_pos k.isLt]
    rw [e, ← fillTo_succ haTV f (cover14v c g XL XI XC a) k.isLt, p14v_eq, ← fillTo_succ haTI h (cover14i c g XL XI XC a) k.isLt, p14i_eq]
    iapply (wp_wand_r frame (wpE (defs₀ (F := F)) 𝒱₀ (c : Thread nD τ) none) Set.univ)
    isplitl [H1 H2 H3 H4 H5]
    · iapply (trip14 c g XL XI XC k (st14 c g XL XI XC a k.val)).2
      isplitl [H1]; · iexact H1
      isplitl [H2]; · iexact H2
      isplitl [H3]; · iexact H3
      isplitl [H4]; · iexact H4
      iexact H5
    · iintro %y ⟨%h, H1, H2, H3, H4, H5⟩
      isplitl [H1]; · iexact H1
      isplitl [H2]; · iexact H2
      isplitl [H3]; · iexact H3
      isplitl [H4]; · iexact H4
      isplitl [H5]; · iexact H5
      ipureintro; exact h

end T14

end Cert.Kernel.Hand

end
-- ==== Proof.Kernel.Ring.lean ====
/-
  The two passes over the tiles. The first streams the weights through a ring of three slots, two transfers ahead; a
  trip multiplies two tiles and folds the two before them in. The second moves one tile at a time.
-/
module

public import proofs.«01_k».proof.Proof.Kernel.Slow

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Ring
variable (c : Dev nD) (XW : Buf (Elt F) (aW.view.loc (c : Thread nD τ)))

/-- Slot `n` as tile `t`'s transfer leaves it, whatever it held. -/
abbrev slotC (n : ℕ) (t : Fin 49) : Buf (Elt F) ((rslot n).view.loc (c : Thread nD τ)) := landed c XW n t (rslot n).view.junk
/-- Slot `n` at some contents. -/
def slotM (R : Memref sig .tc .vmem S3840x2048 .fp8e4m3) : sProp 𝕄 :=
  iprop(∃ f : Buf (Elt F) (R.view.loc (c : Thread nD τ)), R.view.loc (c : Thread nD τ) ↦[R.view.set]{fullShare} f)
def slotE (n : ℕ) : sProp 𝕄 := iprop(∃ f, slotP c n f)
/-- A slot in flight with tile `t`, issued over some contents. -/
def flM (R : Memref sig .tc .vmem S3840x2048 .fp8e4m3) (s : DmaSems sig S_) (t : Fin 49) : sProp 𝕄 :=
  iprop(∃ f : Buf (Elt F) (R.view.loc (c : Thread nD τ)), Transfers.Flight countersEmb (c : Thread nD τ) (SemLoc.dma s.sem) () 245760
    iprop((R.view.loc (c : Thread nD τ) ↦[R.view.set]{fullShare} R.view.writes (Elt F) f [⟨Rect.whole S3840x2048, payload c XW t⟩]) ∗ homeP c XW t))
def flE (n : ℕ) (t : Fin 49) : sProp 𝕄 := iprop(∃ f, flightP c XW n t f)

theorem rslot_mod {m n : ℕ} (h : m % 3 = n % 3) : rslot m = rslot n := rslot_congr (by simp [slotOff, h]) _ _
theorem csm_mod {m n : ℕ} (h : m % 3 = n % 3) : csm m = csm n := csm_congr (by simp [semOff, h]) _
theorem slotE_mod {m n : ℕ} (h : m % 3 = n % 3) : slotE (F := F) c m = slotE c n := by
  show slotM c (rslot m) = slotM c (rslot n); rw [rslot_mod h]
theorem cellP_mod {m n : ℕ} (h : m % 3 = n % 3) : (cellP c m : sProp 𝕄) = cellP c n := by unfold cellP; rw [csm_mod h]
theorem flE_mod {m n : ℕ} (h : m % 3 = n % 3) (t : Fin 49) : flE c XW m t = flE c XW n t := by
  show flM c XW (rslot m) (csm m) t = flM c XW (rslot n) (csm n) t; rw [rslot_mod h, csm_mod h]

/-- The ring at rest: its slots at anything, its cells at zero, every tile at home. -/
def ringFree : sProp 𝕄 :=
  iprop(slotE (F := F) c 0 ∗ slotE (F := F) c 1 ∗ slotE (F := F) c 2 ∗ cellP c 0 ∗ cellP c 1 ∗ cellP c 2 ∗ bigSep Finset.univ (homeP c XW))

/-- Tiles other than `a` and `b`. -/
abbrev restSet (a b : Fin 49) : Finset (Fin 49) := (Finset.univ.erase a).erase b

theorem homes_two {a b : Fin 49} (h : b ≠ a) :
    bigSep Finset.univ (homeP c XW) = iprop(homeP c XW a ∗ homeP c XW b ∗ bigSep (restSet a b) (homeP c XW)) := by
  rw [bigSep_erase (Finset.mem_univ a), bigSep_erase (Finset.mem_erase.2 ⟨h, Finset.mem_univ b⟩)]; rfl

/-- The first pass before trip `k`: tiles `2k+1` and `2k+2` on their way, slot `2k` free; at rest past the last trip. -/
def ringAt (k : ℕ) : sProp 𝕄 :=
  if k < 24 then iprop(slotE (F := F) c (2 * k) ∗ cellP c (2 * k) ∗ flE c XW (2 * k + 1) (tl (2 * k + 1)) ∗ flE c XW (2 * k + 2) (tl (2 * k + 2))
    ∗ bigSep (restSet (tl (2 * k + 1)) (tl (2 * k + 2))) (homeP c XW))
  else ringFree c XW

end Ring

/-! ## Loop `4`: the first pass, two tiles a trip -/

section T4
variable (c : Dev nD) (v : FVec F S384x128 .f32) (XW : Buf (Elt F) (aW.view.loc (c : Thread nD τ))) (XS : Ct (F := F) aS) (XN : Ct (F := F) aN) (XQ : Ct (F := F) aQ) (XD : Ct (F := F) aD)

/-- The number of trip `k`'s first tile, and of its second, as words. -/
abbrev w56 (k : Fin k0_t4_loop.trips) : BitVec 32 := Scalar.addi (Scalar.muli 2#32 (Scf.iv 0#32 1#32 k)) 1#32
abbrev w72 (k : Fin k0_t4_loop.trips) : BitVec 32 := Scalar.addi (Scalar.muli 2#32 (Scf.iv 0#32 1#32 k)) 2#32
/-- The second accumulator after trip `k`: tile `2k+1`'s product. -/
def accB (k : Fin k0_t4_loop.trips) (x : Ct (F := F) aA × LIC F) : Ct (F := F) aB :=
  aB.view.writes (Elt F) aB.view.junk (pieces (p5 c 0#32 1#32 k (w56 k) XS XN x.1 XD XQ (slotC c XW (2 * k.val + 1) (tl (2 * k.val + 1))) x.2) k0_t5_loop.trips)
/-- The lists and overflow with tile `2k` folded in. -/
def mid4 (k : Fin k0_t4_loop.trips) (x : Ct (F := F) aA × LIC F) : LIC F :=
  st5 c 0#32 1#32 k (w56 k) XS XN x.1 XD XQ (slotC c XW (2 * k.val + 1) (tl (2 * k.val + 1))) x.2 k0_t5_loop.trips
/-- The first accumulator, the lists and the overflow after trip `k`: tile `2k+2`'s product, tile `2k+1` folded in too. -/
def next4 (k : Fin k0_t4_loop.trips) (x : Ct (F := F) aA × LIC F) : Ct (F := F) aA × LIC F :=
  (aA.view.writes (Elt F) aA.view.junk (pieces (p8 c v k (w72 k) XS XN (accB c XW XS XN XQ XD k x) XD XQ
      (slotC c XW (2 * k.val + 2) (tl (2 * k.val + 2))) (mid4 c XW XS XN XQ XD k x)) k0_t8_loop.trips),
   st8 c v k (w72 k) XS XN (accB c XW XS XN XQ XD k x) XD XQ (slotC c XW (2 * k.val + 2) (tl (2 * k.val + 2))) (mid4 c XW XS XN XQ XD k x) k0_t8_loop.trips)

theorem accB_eq (k : Fin k0_t4_loop.trips) (x : Ct (F := F) aA × LIC F) (g : Ct (F := F) aB) :
    fillTo aB k0_t5_loop.trips (p5 c 0#32 1#32 k (w56 k) XS XN x.1 XD XQ (slotC c XW (2 * k.val + 1) (tl (2 * k.val + 1))) x.2) g k0_t5_loop.trips
      = accB c XW XS XN XQ XD k x := fillTo_all aB _ _ g (by decide)
theorem mid4_eq (k : Fin k0_t4_loop.trips) (x : Ct (F := F) aA × LIC F) :
    st5 c 0#32 1#32 k (w56 k) XS XN x.1 XD XQ (slotC c XW (2 * k.val + 1) (tl (2 * k.val + 1))) x.2 k0_t5_loop.trips = mid4 c XW XS XN XQ XD k x := rfl
theorem next4_eqA (k : Fin k0_t4_loop.trips) (x : Ct (F := F) aA × LIC F) :
    fillTo aA k0_t8_loop.trips (p8 c v k (w72 k) XS XN (accB c XW XS XN XQ XD k x) XD XQ
      (slotC c XW (2 * k.val + 2) (tl (2 * k.val + 2))) (mid4 c XW XS XN XQ XD k x)) x.1 k0_t8_loop.trips = (next4 c v XW XS XN XQ XD k x).1 := fillTo_all aA _ _ x.1 (by decide)
theorem next4_eqL (k : Fin k0_t4_loop.trips) (x : Ct (F := F) aA × LIC F) :
    st8 c v k (w72 k) XS XN (accB c XW XS XN XQ XD k x) XD XQ (slotC c XW (2 * k.val + 2) (tl (2 * k.val + 2))) (mid4 c XW XS XN XQ XD k x) k0_t8_loop.trips
      = (next4 c v XW XS XN XQ XD k x).2 := rfl
theorem mid4_st8 (k : Fin k0_t4_loop.trips) (x : Ct (F := F) aA × LIC F) :
    (st5 c 0#32 1#32 k (w56 k) XS XN x.1 XD XQ (slotC c XW (2 * k.val + 1) (tl (2 * k.val + 1))) x.2 k0_t5_loop.trips).1 = (st8 c v k (w72 k) XS XN (accB c XW XS XN XQ XD k x) XD XQ (slotC c XW (2 * k.val + 2) (tl (2 * k.val + 2))) ((mid4 c XW XS XN XQ XD k x).1, (mid4 c XW XS XN XQ XD k x).2.1, (mid4 c XW XS XN XQ XD k x).2.2) 0).1 ∧
    (st5 c 0#32 1#32 k (w56 k) XS XN x.1 XD XQ (slotC c XW (2 * k.val + 1) (tl (2 * k.val + 1))) x.2 k0_t5_loop.trips).2.1 = (st8 c v k (w72 k) XS XN (accB c XW XS XN XQ XD k x) XD XQ (slotC c XW (2 * k.val + 2) (tl (2 * k.val + 2))) ((mid4 c XW XS XN XQ XD k x).1, (mid4 c XW XS XN XQ XD k x).2.1, (mid4 c XW XS XN XQ XD k x).2.2) 0).2.1 ∧
    (st5 c 0#32 1#32 k (w56 k) XS XN x.1 XD XQ (slotC c XW (2 * k.val + 1) (tl (2 * k.val + 1))) x.2 k0_t5_loop.trips).2.2 = (st8 c v k (w72 k) XS XN (accB c XW XS XN XQ XD k x) XD XQ (slotC c XW (2 * k.val + 2) (tl (2 * k.val + 2))) ((mid4 c XW XS XN XQ XD k x).1, (mid4 c XW XS XN XQ XD k x).2.1, (mid4 c XW XS XN XQ XD k x).2.2) 0).2.2 := by
  rw [mid4_eq, st8]; exact ⟨rfl, rfl, rfl⟩
attribute [irreducible] accB mid4 next4

theorem ht5 : 0 < k0_t5_loop.trips := by decide
theorem ht8 : 0 < k0_t8_loop.trips := by decide

/-- The same contents under another name. -/
theorem own_congr {sp : Space} {s : Shape} {e : EltTy} {m : Memref sig .tc sp s e} {f g : Buf (Elt F) (m.view.loc (c : Thread nD τ))} (h : f = g) :
    (own c m f : sProp 𝕄) ⊢ own c m g := by rw [h]

/-- The flight into a slot just delivered, as issued over that delivery. -/
theorem flightP_after (n : ℕ) (t t' : Fin 49) :
    flightP c XW n t' ((rslot n).view.writes (Elt F) (rslot n).view.junk [⟨Rect.whole S3840x2048, payload c XW t⟩])
      = Transfers.Flight countersEmb (c : Thread nD τ) (SemLoc.dma (csm n).sem) () 245760
          iprop(((rslot n).view.loc (c : Thread nD τ) ↦[(rslot n).view.set]{fullShare}
                  (rslot n).view.writes (Elt F) (rslot n).view.junk [⟨Rect.whole S3840x2048, payload c XW t'⟩, ⟨Rect.whole S3840x2048, payload c XW t⟩])
                ∗ homeP c XW t') := by
  simp only [flightP, landed, slotP, View.writes]

/-- A trip that issues two further tiles. -/
theorem trip4 (k : Fin k0_t4_loop.trips) (hk : k.val < 23) (x : Ct (F := F) aA × LIC F) (f f1 f2) (g : Ct (F := F) aB) :
    iprop(own c aS XS ∗ own c aN XN ∗ own c aQ XQ ∗ own c aD XD ∗ slotP c (2 * k.val) f ∗ cellP c (2 * k.val)
          ∗ flightP c XW (2 * k.val + 1) (tl (2 * k.val + 1)) f1 ∗ flightP c XW (2 * k.val + 2) (tl (2 * k.val + 2)) f2
          ∗ homeP c XW (tl (2 * k.val + 3)) ∗ homeP c XW (tl (2 * k.val + 4)) ∗ own c aA x.1 ∗ own c aB g ∗ own c aL x.2.1 ∗ own c aI x.2.2.1 ∗ own c aC x.2.2.2
          ∗ (∃ W, owes (c : Thread nD τ) 0 W))
      ⊢ wp frame (wpE (defs₀ (F := F)) 𝒱₀ (c : Thread nD τ) none) Set.univ (k0_t4_body (F := F) aX haX aW haW aS haS aN haN aTV haTV aTI haTI aQ haQ aE haE aR haR aA haA aB haB aD haD aL haL aI haI aC haC cc0_scratch7 v k ())
        (fun _ => iprop(own c aS XS ∗ own c aN XN ∗ own c aQ XQ ∗ own c aD XD ∗ (∃ f, slotP c (2 * k.val + 2) f) ∗ cellP c (2 * k.val + 2)
          ∗ (∃ f, flightP c XW (2 * k.val) (tl (2 * k.val + 3)) f) ∗ (∃ f, flightP c XW (2 * k.val + 1) (tl (2 * k.val + 4)) f)
          ∗ homeP c XW (tl (2 * k.val + 1)) ∗ homeP c XW (tl (2 * k.val + 2))
          ∗ own c aA (next4 c v XW XS XN XQ XD k x).1 ∗ (∃ g, own c aB g) ∗ own c aL (next4 c v XW XS XN XQ XD k x).2.1
          ∗ own c aI (next4 c v XW XS XN XQ XD k x).2.2.1 ∗ own c aC (next4 c v XW XS XN XQ XD k x).2.2.2
          ∗ ∃ W, owes (c : Thread nD τ) 0 W)) := by
  have h2 := (cond2_iff k).2 hk
  have h3 := (cond3_iff k).2 hk
  sl_unfold [k0_t4_body]
  iintro ⟨H1, H2, H3, H4, H5, H6, HF1, HF2, H7, H8, H9, H10, H11, H12, H13, %W, H14⟩
  sl_exec
  ihave H10 := (own_congr c (accB_eq c XW XS XN XQ XD k x g)) $$ H10
  ihave GH11 := (own_congr c (mid4_st8 c v XW XS XN XQ XD k x).1) $$ H11
  ihave GH12 := (own_congr c (mid4_st8 c v XW XS XN XQ XD k x).2.1) $$ H12
  ihave GH13 := (own_congr c (mid4_st8 c v XW XS XN XQ XD k x).2.2) $$ H13
  let I8 := loopInv8 c v k (w72 k) XS XN (accB c XW XS XN XQ XD k x) XD XQ (slotC c XW (2 * k.val + 2) (tl (2 * k.val + 2))) x.1
    (mid4 c XW XS XN XQ XD k x).1 (mid4 c XW XS XN XQ XD k x).2.1 (mid4 c XW XS XN XQ XD k x).2.2
  sl_exec
  ihave H9 := (own_congr c (next4_eqA c v XW XS XN XQ XD k x)) $$ H9
  ihave H11 := (own_congr c (congrArg (fun z : LIC F => z.1) (next4_eqL c v XW XS XN XQ XD k x))) $$ GH11
  ihave H12 := (own_congr c (congrArg (fun z : LIC F => z.2.1) (next4_eqL c v XW XS XN XQ XD k x))) $$ GH12
  ihave H13 := (own_congr c (congrArg (fun z : LIC F => z.2.2) (next4_eqL c v XW XS XN XQ XD k x))) $$ GH13
  sl_step
  isplitl [H1]; · iexact H1
  isplitl [H2]; · iexact H2
  isplitl [H3]; · iexact H3
  isplitl [H4]; · iexact H4
  isplitl [HF2_dst]; · iexists _; iexact HF2_dst
  isplitl [HF2]; · iexact HF2
  isplitl [H6]; · iexists f; iexact H6
  isplitl [HF1]
  · iexists ((rslot (2 * k.val + 1)).view.writes (Elt F) (rslot (2 * k.val + 1)).view.junk [⟨Rect.whole S3840x2048, payload c XW (tl (2 * k.val + 1))⟩])
    irw [flightP_after]
    iexact HF1
  isplitl [HF1_src]; · iexact HF1_src
  isplitl [HF2_src]; · iexact HF2_src
  isplitl [H9]; · iexact H9
  isplitl [H10]; · iexists _; iexact H10
  isplitl [H11]; · iexact H11
  isplitl [H12]; · iexact H12
  isplitl [H13]; · iexact H13
  iexists _; iexact H14

/-- The last trip, which issues nothing. -/
theorem trip4_last (k : Fin k0_t4_loop.trips) (hk : ¬ k.val < 23) (x : Ct (F := F) aA × LIC F) (f f1 f2) (g : Ct (F := F) aB) :
    iprop(own c aS XS ∗ own c aN XN ∗ own c aQ XQ ∗ own c aD XD ∗ slotP c (2 * k.val) f ∗ cellP c (2 * k.val)
          ∗ flightP c XW (2 * k.val + 1) (tl (2 * k.val + 1)) f1 ∗ flightP c XW (2 * k.val + 2) (tl (2 * k.val + 2)) f2
          ∗ own c aA x.1 ∗ own c aB g ∗ own c aL x.2.1 ∗ own c aI x.2.2.1 ∗ own c aC x.2.2.2
          ∗ (∃ W, owes (c : Thread nD τ) 0 W))
      ⊢ wp frame (wpE (defs₀ (F := F)) 𝒱₀ (c : Thread nD τ) none) Set.univ (k0_t4_body (F := F) aX haX aW haW aS haS aN haN aTV haTV aTI haTI aQ haQ aE haE aR haR aA haA aB haB aD haD aL haL aI haI aC haC cc0_scratch7 v k ())
        (fun _ => iprop(own c aS XS ∗ own c aN XN ∗ own c aQ XQ ∗ own c aD XD ∗ (∃ f, slotP c (2 * k.val + 2) f) ∗ cellP c (2 * k.val + 2)
          ∗ (∃ f, slotP c (2 * k.val) f) ∗ cellP c (2 * k.val) ∗ (∃ f, slotP c (2 * k.val + 1) f) ∗ cellP c (2 * k.val + 1)
          ∗ homeP c XW (tl (2 * k.val + 1)) ∗ homeP c XW (tl (2 * k.val + 2))
          ∗ own c aA (next4 c v XW XS XN XQ XD k x).1 ∗ (∃ g, own c aB g) ∗ own c aL (next4 c v XW XS XN XQ XD k x).2.1
          ∗ own c aI (next4 c v XW XS XN XQ XD k x).2.2.1 ∗ own c aC (next4 c v XW XS XN XQ XD k x).2.2.2
          ∗ ∃ W, owes (c : Thread nD τ) 0 W)) := by
  have h2 : ¬ k0_cond2 k = 1#1 := fun h => hk ((cond2_iff k).1 h)
  have h3 : ¬ k0_cond3 k = 1#1 := fun h => hk ((cond3_iff k).1 h)
  sl_unfold [k0_t4_body]
  iintro ⟨H1, H2, H3, H4, H5, H6, HF1, HF2, H9, H10, H11, H12, H13, %W, H14⟩
  sl_exec
  ihave H10 := (own_congr c (accB_eq c XW XS XN XQ XD k x g)) $$ H10
  ihave GH11 := (own_congr c (mid4_st8 c v XW XS XN XQ XD k x).1) $$ H11
  ihave GH12 := (own_congr c (mid4_st8 c v XW XS XN XQ XD k x).2.1) $$ H12
  ihave GH13 := (own_congr c (mid4_st8 c v XW XS XN XQ XD k x).2.2) $$ H13
  let I8 := loopInv8 c v k (w72 k) XS XN (accB c XW XS XN XQ XD k x) XD XQ (slotC c XW (2 * k.val + 2) (tl (2 * k.val + 2))) x.1
    (mid4 c XW XS XN XQ XD k x).1 (mid4 c XW XS XN XQ XD k x).2.1 (mid4 c XW XS XN XQ XD k x).2.2
  sl_exec
  ihave H9 := (own_congr c (next4_eqA c v XW XS XN XQ XD k x)) $$ H9
  ihave H11 := (own_congr c (congrArg (fun z : LIC F => z.1) (next4_eqL c v XW XS XN XQ XD k x))) $$ GH11
  ihave H12 := (own_congr c (congrArg (fun z : LIC F => z.2.1) (next4_eqL c v XW XS XN XQ XD k x))) $$ GH12
  ihave H13 := (own_congr c (congrArg (fun z : LIC F => z.2.2) (next4_eqL c v XW XS XN XQ XD k x))) $$ GH13
  sl_step
  isplitl [H1]; · iexact H1
  isplitl [H2]; · iexact H2
  isplitl [H3]; · iexact H3
  isplitl [H4]; · iexact H4
  isplitl [HF2_dst]; · iexists _; iexact HF2_dst
  isplitl [HF2]; · iexact HF2
  isplitl [H5]; · iexists _; iexact H5
  isplitl [H6]; · iexact H6
  isplitl [HF1_dst]; · iexists _; iexact HF1_dst
  isplitl [HF1]; · iexact HF1
  isplitl [HF1_src]; · iexact HF1_src
  isplitl [HF2_src]; · iexact HF2_src
  isplitl [H9]; · iexact H9
  isplitl [H10]; · iexists _; iexact H10
  isplitl [H11]; · iexact H11
  isplitl [H12]; · iexact H12
  isplitl [H13]; · iexact H13
  iexists _; iexact H14

end T4

end Cert.Kernel.Hand

end
-- ==== Proof.Kernel.Passes.lean ====
/-
  The two passes as loops: the ring's state before each trip, and the accumulator, lists and overflow the trips leave.
-/
module

public import proofs.«01_k».proof.Proof.Kernel.Ring

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section T4
variable (c : Dev nD) (v : FVec F S384x128 .f32) (XW : Buf (Elt F) (aW.view.loc (c : Thread nD τ))) (XS : Ct (F := F) aS) (XN : Ct (F := F) aN) (XQ : Ct (F := F) aQ) (XD : Ct (F := F) aD)

/-- The first accumulator, the lists and the overflow before trip `k`. -/
def st4 (x : Ct (F := F) aA × LIC F) : ℕ → Ct (F := F) aA × LIC F
  | 0 => x
  | k + 1 => if h : k < k0_t4_loop.trips then next4 c v XW XS XN XQ XD ⟨k, h⟩ (st4 x k) else st4 x k

theorem tl_ne {a b : ℕ} (h : a % 49 ≠ b % 49) : tl a ≠ tl b := fun e => h (congrArg Fin.val e)

/-- The tiles at home before a trip, two of them apart, and after it. -/
theorem rest_two {a b p q : Fin 49} (hab : b ≠ a) (hpa : p ≠ a) (hpb : p ≠ b) (hqa : q ≠ a) (hqb : q ≠ b) (hpq : q ≠ p) :
    (bigSep (restSet a b) (homeP c XW) : sProp 𝕄) = iprop(homeP c XW p ∗ homeP c XW q ∗ bigSep (((restSet a b).erase p).erase q) (homeP c XW)) := by
  rw [bigSep_erase (show p ∈ restSet a b by simp [hpa, hpb]), bigSep_erase (show q ∈ (restSet a b).erase p by simp [hqa, hqb, hpq])]; rfl
theorem rest_comm (a b p q : Fin 49) : ((restSet a b).erase p).erase q = ((restSet p q).erase a).erase b := by
  ext t; simp only [restSet, Finset.mem_erase, Finset.mem_univ, and_true]; tauto

theorem slotE_eq (n : ℕ) : (slotE (F := F) c n : sProp 𝕄) = iprop(∃ f, slotP c n f) := rfl
theorem flE_eq (n : ℕ) (t : Fin 49) : (flE c XW n t : sProp 𝕄) = iprop(∃ f, flightP c XW n t f) := rfl

/-- Slots, cells and homes after the last trip. -/
theorem ring_end (k : Fin k0_t4_loop.trips) (hk : k.val = 23) :
    iprop((∃ f, slotP c (2 * k.val + 2) f) ∗ cellP c (2 * k.val + 2) ∗ ((∃ f, slotP c (2 * k.val) f) ∗ cellP c (2 * k.val) ∗ (∃ f, slotP c (2 * k.val + 1) f) ∗ cellP c (2 * k.val + 1))
      ∗ homeP c XW (tl (2 * k.val + 1)) ∗ homeP c XW (tl (2 * k.val + 2)) ∗ bigSep (restSet (tl (2 * k.val + 1)) (tl (2 * k.val + 2))) (homeP c XW)) ⊢ (ringFree c XW : sProp 𝕄) := by
  rw [hk]
  unfold ringFree
  rw [homes_two c XW (tl_ne (a := 48) (b := 47) (by decide)), cellP_mod (F := F) c (show 0 % 3 = (2 * 23 + 2) % 3 by decide),
    cellP_mod (F := F) c (show 1 % 3 = (2 * 23) % 3 by decide), cellP_mod (F := F) c (show 2 % 3 = (2 * 23 + 1) % 3 by decide),
    slotE_mod (F := F) c (show 0 % 3 = (2 * 23 + 2) % 3 by decide),
    slotE_mod (F := F) c (show 1 % 3 = (2 * 23) % 3 by decide), slotE_mod (F := F) c (show 2 % 3 = (2 * 23 + 1) % 3 by decide)]
  simp only [slotE_eq]
  iintro ⟨H1, H2, ⟨H3, H4, H5, H6⟩, H7, H8, H9⟩
  isplitl [H1]; · iexact H1
  isplitl [H3]; · iexact H3
  isplitl [H5]; · iexact H5
  isplitl [H2]; · iexact H2
  isplitl [H4]; · iexact H4
  isplitl [H6]; · iexact H6
  isplitl [H7]; · iexact H7
  isplitl [H8]; · iexact H8
  iexact H9

/-- … after another trip. -/
theorem ring_step (k : Fin k0_t4_loop.trips) (hk : k.val < 23) :
    iprop((∃ f, slotP c (2 * k.val + 2) f) ∗ cellP c (2 * k.val + 2)
      ∗ ((∃ f, flightP c XW (2 * k.val) (tl (2 * k.val + 3)) f) ∗ (∃ f, flightP c XW (2 * k.val + 1) (tl (2 * k.val + 4)) f))
      ∗ homeP c XW (tl (2 * k.val + 1)) ∗ homeP c XW (tl (2 * k.val + 2))
      ∗ bigSep (((restSet (tl (2 * k.val + 1)) (tl (2 * k.val + 2))).erase (tl (2 * k.val + 3))).erase (tl (2 * k.val + 4))) (homeP c XW))
    ⊢ (ringAt c XW (k.val + 1) : sProp 𝕄) := by
  unfold ringAt
  rw [if_pos (show k.val + 1 < 24 by omega), rest_comm, show 2 * (k.val + 1) + 1 = 2 * k.val + 3 by omega, show 2 * (k.val + 1) + 2 = 2 * k.val + 4 by omega,
    show 2 * (k.val + 1) = 2 * k.val + 2 by omega,
    rest_two c XW (a := tl (2 * k.val + 3)) (b := tl (2 * k.val + 4)) (p := tl (2 * k.val + 1)) (q := tl (2 * k.val + 2))
      (tl_ne (by omega)) (tl_ne (by omega)) (tl_ne (by omega)) (tl_ne (by omega)) (tl_ne (by omega)) (tl_ne (by omega)),
    flE_mod c XW (show (2 * k.val + 3) % 3 = (2 * k.val) % 3 by omega), flE_mod c XW (show (2 * k.val + 4) % 3 = (2 * k.val + 1) % 3 by omega)]
  simp only [slotE_eq, flE_eq]
  iintro ⟨H1, H2, ⟨H3, H4⟩, H7, H8, H9⟩
  isplitl [H1]; · iexact H1
  isplitl [H2]; · iexact H2
  isplitl [H3]; · iexact H3
  isplitl [H4]; · iexact H4
  isplitl [H7]; · iexact H7
  isplitl [H8]; · iexact H8
  iexact H9

set_option warn.classDefReducibility false in
/-- The first pass's invariant. -/
def loopInv4 (x : Ct (F := F) aA × LIC F) :
    LoopInvTy_k0_t4 (F := F) Unit ℕ (Pipeline.UD sig nD τ) ℕ 𝒱₀ c none Set.univ aX haX aW haW aS haS aN haN aTV haTV aTI haTI aQ haQ aE haE aR haR aA haA aB haB aD haD aL haL aI haI aC haC cc0_scratch7 v where
  inv k _ := iprop(own c aS XS ∗ own c aN XN ∗ own c aQ XQ ∗ own c aD XD ∗ ringAt c XW k ∗ own c aA (st4 c v XW XS XN XQ XD x k).1 ∗ (∃ g, own c aB g)
    ∗ own c aL (st4 c v XW XS XN XQ XD x k).2.1 ∗ own c aI (st4 c v XW XS XN XQ XD x k).2.2.1 ∗ own c aC (st4 c v XW XS XN XQ XD x k).2.2.2
    ∗ ∃ W, owes (c : Thread nD τ) 0 W)
  step k _ := by
    have e : st4 c v XW XS XN XQ XD x (k.val + 1) = next4 c v XW XS XN XQ XD k (st4 c v XW XS XN XQ XD x k.val) := by
      rw [st4, dif_pos k.isLt]
    rw [e]
    have hlt : k.val < 24 := Nat.lt_of_lt_of_eq k.isLt trips4
    generalize st4 c v XW XS XN XQ XD x k.val = y
    have hr : (ringAt c XW k.val : sProp 𝕄) = iprop(slotE (F := F) c (2 * k.val) ∗ cellP c (2 * k.val) ∗ flE c XW (2 * k.val + 1) (tl (2 * k.val + 1)) ∗ flE c XW (2 * k.val + 2) (tl (2 * k.val + 2))
        ∗ bigSep (restSet (tl (2 * k.val + 1)) (tl (2 * k.val + 2))) (homeP c XW)) := by unfold ringAt; rw [if_pos hlt]
    rw [hr]
    by_cases hk : k.val < 23
    · rw [rest_two c XW (a := tl (2 * k.val + 1)) (b := tl (2 * k.val + 2)) (p := tl (2 * k.val + 3)) (q := tl (2 * k.val + 4))
        (tl_ne (by omega)) (tl_ne (by omega)) (tl_ne (by omega)) (tl_ne (by omega)) (tl_ne (by omega)) (tl_ne (by omega))]
      simp only [slotE_eq, flE_eq]
      iintro ⟨H1, H2, H3, H4, ⟨⟨%f, H5⟩, H6, ⟨%f1, H7⟩, ⟨%f2, H8⟩, H9, H10, H11⟩, H12, ⟨%g, H13⟩, H14, H15, H16, H17⟩
      iapply (wp_wand_r frame (wpE (defs₀ (F := F)) 𝒱₀ (c : Thread nD τ) none) Set.univ)
      isplitl [H1 H2 H3 H4 H5 H6 H7 H8 H9 H10 H12 H13 H14 H15 H16 H17]
      · iapply (trip4 c v XW XS XN XQ XD k hk y f f1 f2 g)
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H12]; · iexact H12
        isplitl [H13]; · iexact H13
        isplitl [H14]; · iexact H14
        isplitl [H15]; · iexact H15
        isplitl [H16]; · iexact H16
        iexact H17
      · iintro %_u ⟨H1, H2, H3, H4, H5, H6, H7, H8, H9, H10, H12, H13, H14, H15, H16, H17⟩
        isplitl [H1]; · iexact H1
        isplitl [H2]; · iexact H2
        isplitl [H3]; · iexact H3
        isplitl [H4]; · iexact H4
        isplitl [H5 H6 H7 H8 H9 H10 H11]
        · iapply (ring_step c XW k hk)
          isplitl [H5]; · iexact H5
          isplitl [H6]; · iexact H6
          isplitl [H7 H8]
          · isplitl [H7]; · iexact H7
            iexact H8
          isplitl [H9]; · iexact H9
          isplitl [H10]; · iexact H10
          iexact H11
        isplitl [H12]; · iexact H12
        isplitl [H13]; · iexact H13
        isplitl [H14]; · iexact H14
        isplitl [H15]; · iexact H15
        isplitl [H16]; · iexact H16
        iexact H17
    · have he : (ringAt c XW (k.val + 1) : sProp 𝕄) = ringFree c XW := by unfold ringAt; rw [if_neg (by omega)]
      rw [he]
      simp only [slotE_eq, flE_eq]
      iintro ⟨H1, H2, H3, H4, ⟨⟨%f, H5⟩, H6, ⟨%f1, H7⟩, ⟨%f2, H8⟩, H11⟩, H12, ⟨%g, H13⟩, H14, H15, H16, H17⟩
      iapply (wp_wand_r frame (wpE (defs₀ (F := F)) 𝒱₀ (c : Thread nD τ) none) Set.univ)
      isplitl [H1 H2 H3 H4 H5 H6 H7 H8 H12 H13 H14 H15 H16 H17]
      · iapply (trip4_last c v XW XS XN XQ XD k hk y f f1 f2 g)
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H12]; · iexact H12
        isplitl [H13]; · iexact H13
        isplitl [H14]; · iexact H14
        isplitl [H15]; · iexact H15
        isplitl [H16]; · iexact H16
        iexact H17
      · iintro %_u ⟨H1, H2, H3, H4, H5, H6, H7, H8, H9, H10, H18, H19, H12, H13, H14, H15, H16, H17⟩
        isplitl [H1]; · iexact H1
        isplitl [H2]; · iexact H2
        isplitl [H3]; · iexact H3
        isplitl [H4]; · iexact H4
        isplitl [H5 H6 H7 H8 H9 H10 H18 H19 H11]
        · iapply (ring_end c XW k (by omega))
          isplitl [H5]; · iexact H5
          isplitl [H6]; · iexact H6
          isplitl [H7 H8 H9 H10]
          · isplitl [H7]; · iexact H7
            isplitl [H8]; · iexact H8
            isplitl [H9]; · iexact H9
            iexact H10
          isplitl [H18]; · iexact H18
          isplitl [H19]; · iexact H19
          iexact H11
        isplitl [H12]; · iexact H12
        isplitl [H13]; · iexact H13
        isplitl [H14]; · iexact H14
        isplitl [H15]; · iexact H15
        isplitl [H16]; · iexact H16
        iexact H17

end T4

/-! ## Loop `16`: the second pass, a tile a trip -/

section T16
variable (c : Dev nD) (XW : Buf (Elt F) (aW.view.loc (c : Thread nD τ))) (XS : Ct (F := F) aS) (XN : Ct (F := F) aN) (XQ : Ct (F := F) aQ) (XD : Ct (F := F) aD)

abbrev w16 (k : Fin k0_t16_loop.trips) : BitVec 32 := Scf.iv 0#32 1#32 k
/-- The accumulator in trip `k`: tile `k`'s product. -/
def acc16 (k : Fin k0_t16_loop.trips) : Ct (F := F) aA :=
  aA.view.writes (Elt F) aA.view.junk (pieces (p17 c k XQ (slotC c XW k.val (tl k.val))) k0_t17_loop.trips)
/-- The lists after trip `k`: tile `k` inserted. -/
def next16 (k : Fin k0_t16_loop.trips) (x : LI F) : LI F :=
  st18 c k (w16 k) XS XN (acc16 c XW XQ k) XD (x.1, x.2) k0_t18_loop.trips
theorem acc16_eq (k : Fin k0_t16_loop.trips) (g : Ct (F := F) aA) :
    fillTo aA k0_t17_loop.trips (p17 c k XQ (slotC c XW k.val (tl k.val))) g k0_t17_loop.trips = acc16 c XW XQ k := fillTo_all aA _ _ g (by decide)
attribute [irreducible] acc16
theorem next16_eq (k : Fin k0_t16_loop.trips) (x : LI F) : st18 c k (w16 k) XS XN (acc16 c XW XQ k) XD (x.1, x.2) k0_t18_loop.trips = next16 c XW XS XN XQ XD k x := rfl
attribute [irreducible] next16

/-- One tile of the second pass. -/
theorem trip16 (k : Fin k0_t16_loop.trips) (x : LI F) (f) (g : Ct (F := F) aA) :
    iprop(own c aS XS ∗ own c aN XN ∗ own c aQ XQ ∗ own c aD XD ∗ slotP c k.val f ∗ cellP c k.val ∗ homeP c XW (tl k.val) ∗ own c aA g ∗ own c aL x.1 ∗ own c aI x.2
          ∗ (∃ W, owes (c : Thread nD τ) 0 W))
      ⊢ wp frame (wpE (defs₀ (F := F)) 𝒱₀ (c : Thread nD τ) none) Set.univ (k0_t16_body (F := F) aX haX aW haW aS haS aN haN aTV haTV aTI haTI aQ haQ aE haE aR haR aA haA aB haB aD haD aL haL aI haI aC haC cc0_scratch7 k ())
        (fun _ => iprop(own c aS XS ∗ own c aN XN ∗ own c aQ XQ ∗ own c aD XD ∗ (∃ f, slotP c k.val f) ∗ cellP c k.val ∗ homeP c XW (tl k.val) ∗ (∃ g, own c aA g)
          ∗ own c aL (next16 c XW XS XN XQ XD k x).1 ∗ own c aI (next16 c XW XS XN XQ XD k x).2 ∗ ∃ W, owes (c : Thread nD τ) 0 W)) := by
  sl_unfold [k0_t16_body]
  iintro ⟨H1, H2, H3, H4, H5, H6, H7, H8, H9, H10, %W, H11⟩
  sl_exec
  ihave G8 := (own_congr c (acc16_eq c XW XQ k g)) $$ H8
  let I18 := loopInv18 c k (w16 k) XS XN (acc16 c XW XQ k) XD x.1 x.2
  sl_exec
  ihave G9 := (own_congr c (congrArg (fun z : LI F => z.1) (next16_eq c XW XS XN XQ XD k x))) $$ H9
  ihave G10 := (own_congr c (congrArg (fun z : LI F => z.2) (next16_eq c XW XS XN XQ XD k x))) $$ H10
  sl_step
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [G8]; · iexists _; iexact G8
  isplitl [G9]; · iexact G9
  isplitl [G10]; · iexact G10
  iexists _; iexact H11

/-- The ring opened at slot `k` and tile `t`, and closed again. -/
theorem ring_open (n : ℕ) (t : Fin 49) : (ringFree c XW : sProp 𝕄) ⊢ iprop((slotE (F := F) c n ∗ cellP c n ∗ homeP c XW t) ∗ ((slotE (F := F) c n ∗ cellP c n ∗ homeP c XW t) -∗ ringFree c XW)) := by
  unfold ringFree
  rw [show (bigSep Finset.univ (homeP c XW) : sProp 𝕄) = iprop(homeP c XW t ∗ bigSep (Finset.univ.erase t) (homeP c XW)) from bigSep_erase (Finset.mem_univ t)]
  have h3 : n % 3 = 0 ∨ n % 3 = 1 ∨ n % 3 = 2 := by omega
  rcases h3 with h | h | h
  · rw [slotE_mod (F := F) c (m := n) (n := 0) h, cellP_mod (F := F) c (m := n) (n := 0) h]
    iintro ⟨H1, H2, H3, H4, H5, H6, H7, H8⟩
    isplitl [H1 H4 H7]
    · isplitl [H1]; · iexact H1
      isplitl [H4]; · iexact H4
      iexact H7
    iintro ⟨H1, H4, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [slotE_mod (F := F) c (m := n) (n := 1) h, cellP_mod (F := F) c (m := n) (n := 1) h]
    iintro ⟨H1, H2, H3, H4, H5, H6, H7, H8⟩
    isplitl [H2 H5 H7]
    · isplitl [H2]; · iexact H2
      isplitl [H5]; · iexact H5
      iexact H7
    iintro ⟨H2, H5, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [slotE_mod (F := F) c (m := n) (n := 2) h, cellP_mod (F := F) c (m := n) (n := 2) h]
    iintro ⟨H1, H2, H3, H4, H5, H6, H7, H8⟩
    isplitl [H3 H6 H7]
    · isplitl [H3]; · iexact H3
      isplitl [H6]; · iexact H6
      iexact H7
    iintro ⟨H3, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The lists before trip `k`. -/
def st16 (x : LI F) : ℕ → LI F
  | 0 => x
  | k + 1 => if h : k < k0_t16_loop.trips then next16 c XW XS XN XQ XD ⟨k, h⟩ (st16 x k) else st16 x k

set_option warn.classDefReducibility false in
/-- The second pass's invariant. -/
def loopInv16 (x : LI F) : LoopInvTy_k0_t16 (F := F) Unit ℕ (Pipeline.UD sig nD τ) ℕ 𝒱₀ c none Set.univ aX haX aW haW aS haS aN haN aTV haTV aTI haTI aQ haQ aE haE aR haR aA haA aB haB aD haD aL haL aI haI aC haC cc0_scratch7 where
  inv k _ := iprop(own c aS XS ∗ own c aN XN ∗ own c aQ XQ ∗ own c aD XD ∗ ringFree c XW ∗ (∃ g, own c aA g)
    ∗ own c aL (st16 c XW XS XN XQ XD x k).1 ∗ own c aI (st16 c XW XS XN XQ XD x k).2 ∗ ∃ W, owes (c : Thread nD τ) 0 W)
  step k _ := by
    have e : st16 c XW XS XN XQ XD x (k.val + 1) = next16 c XW XS XN XQ XD k (st16 c XW XS XN XQ XD x k.val) := by
      rw [st16, dif_pos k.isLt]
    rw [e]
    generalize st16 c XW XS XN XQ XD x k.val = y
    iintro ⟨H1, H2, H3, H4, H5, ⟨%g, H8⟩, H9, H10, H11⟩
    have ro := ring_open (F := F) c XW k.val (tl k.val)
    simp only [slotE_eq] at ro
    ihave HR := ro $$ H5
    icases HR with ⟨⟨H5, H6, H7⟩, HR⟩
    icases H5 with ⟨%f, H5⟩
    iapply (wp_wand_r frame (wpE (defs₀ (F := F)) 𝒱₀ (c : Thread nD τ) none) Set.univ)
    isplitl [H1 H2 H3 H4 H5 H6 H7 H8 H9 H10 H11]
    · iapply (trip16 c XW XS XN XQ XD k y f g)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iintro %_u ⟨H1, H2, H3, H4, H5, H6, H7, H8, H9, H10, H11⟩
      isplitl [H1]; · iexact H1
      isplitl [H2]; · iexact H2
      isplitl [H3]; · iexact H3
      isplitl [H4]; · iexact H4
      isplitl [H5 H6 H7 HR]
      · iapply HR
        isplitl [H5]; · iexact H5
        isplitl [H6]; · iexact H6
        iexact H7
      isplitl [H8]; · iexact H8
      isplitl [H9]; · iexact H9
      isplitl [H10]; · iexact H10
      iexact H11

end T16

end Cert.Kernel.Hand

end
-- ==== Proof.Kernel.Body.lean ====
/-
  The kernel's body as one run, from staged blocks to results.
-/
module

public import proofs.«01_k».proof.Proof.Kernel.Passes

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] ringAt ringFree

section Body
variable (c : Dev nD) (XW : Buf (Elt F) (aW.view.loc (c : Thread nD τ))) (XX : Ct (F := F) aX) (XS : Ct (F := F) aS) (XN : Ct (F := F) aN)

/-- The codes, the token scales and their broadcast, as the quantiser leaves them. -/
def q0 : Ct (F := F) aQ := aQ.view.writes (Elt F) aQ.view.junk (pieces (p1q c XX) k0_t1_loop.trips)
def e0 : Ct (F := F) aE := aE.view.writes (Elt F) aE.view.junk (pieces (p1e c XX) k0_t1_loop.trips)
def d0 : Ct (F := F) aD := aD.view.writes (Elt F) aD.view.junk (pieces (p1d c XX) k0_t1_loop.trips)
theorem q0_eq (g : Ct (F := F) aQ) : fillTo aQ k0_t1_loop.trips (p1q c XX) g k0_t1_loop.trips = q0 c XX := fillTo_all aQ _ _ g (by decide)
theorem e0_eq (g : Ct (F := F) aE) : fillTo aE k0_t1_loop.trips (p1e c XX) g k0_t1_loop.trips = e0 c XX := fillTo_all aE _ _ g (by decide)
theorem d0_eq (g : Ct (F := F) aD) : fillTo aD k0_t1_loop.trips (p1d c XX) g k0_t1_loop.trips = d0 c XX := fillTo_all aD _ _ g (by decide)
/-- The lists and the overflow as reset: `−∞`, zero, `−∞`. -/
def l0 : Ct (F := F) aL := aL.view.writes (Elt F) aL.view.junk [⟨Rect.unit (s := S8x384x128) ![0, 0, 0] S8x384x128.size inb_S8x384x128_S8x384x128_0_0_0, k0_pay2⟩]
def i0 : Ct (F := F) aI := aI.view.writes (Elt F) aI.view.junk [⟨Rect.unit (s := S8x384x128) ![0, 0, 0] S8x384x128.size inb_S8x384x128_S8x384x128_0_0_0, k0_pay3⟩]
def c0 : Ct (F := F) aC := aC.view.writes (Elt F) aC.view.junk [⟨Rect.unit (s := S384x128) ![0, 0] S384x128.size inb_S384x128_S384x128_0_0, k0_pay315 k0_pay314⟩]
theorem l0_eq : aL.view.writes (Elt F) aL.view.junk [⟨Rect.unit (s := S8x384x128) ![0, 0, 0] S8x384x128.size inb_S8x384x128_S8x384x128_0_0_0, k0_pay2⟩] = l0 (F := F) := rfl
theorem i0_eq : aI.view.writes (Elt F) aI.view.junk [⟨Rect.unit (s := S8x384x128) ![0, 0, 0] S8x384x128.size inb_S8x384x128_S8x384x128_0_0_0, k0_pay3⟩] = i0 (F := F) := rfl
theorem c0_eq : aC.view.writes (Elt F) aC.view.junk [⟨Rect.unit (s := S384x128) ![0, 0] S384x128.size inb_S384x128_S384x128_0_0, k0_pay315 k0_pay314⟩] = c0 (F := F) := rfl
attribute [irreducible] l0 i0 c0
/-- Tile 0's product. -/
def acc0 : Ct (F := F) aA :=
  aA.view.writes (Elt F) aA.view.junk (pieces (p3 c k0_pay314 (q0 c XX) (slotC c XW 0 (tl 0))) k0_t3_loop.trips)
theorem acc0_eq (gQ : Ct (F := F) aQ) (g : Ct (F := F) aA) :
    fillTo aA k0_t3_loop.trips (p3 c k0_pay314 (fillTo aQ k0_t1_loop.trips (p1q c XX) gQ k0_t1_loop.trips) (slotC c XW 0 (tl 0))) g k0_t3_loop.trips = acc0 c XW XX := by
  rw [q0_eq]; exact fillTo_all aA _ _ g (by decide)
attribute [irreducible] q0 e0 d0 acc0

/-- The last tile but its fold, the lists and the overflow after the first pass's trips. -/
def x4 : Ct (F := F) aA × LIC F := st4 c k0_pay314 XW XS XN (q0 c XX) (d0 c XX) (acc0 c XW XX, l0, i0, c0) k0_t4_loop.trips
theorem x4_eq : st4 c k0_pay314 XW XS XN (q0 c XX) (d0 c XX) (acc0 c XW XX, l0, i0, c0) k0_t4_loop.trips = x4 c XW XX XS XN := rfl
attribute [irreducible] x4
/-- The lists and the overflow after the first pass. -/
def x11 : LIC F := st11 c k0_pay314 XS XN (x4 c XW XX XS XN).1 (d0 c XX) ((x4 c XW XX XS XN).2.1, (x4 c XW XX XS XN).2.2.1, (x4 c XW XX XS XN).2.2.2) k0_t11_loop.trips
theorem x11_eq : st11 c k0_pay314 XS XN (x4 c XW XX XS XN).1 (d0 c XX) ((x4 c XW XX XS XN).2.1, (x4 c XW XX XS XN).2.2.1, (x4 c XW XX XS XN).2.2.2) k0_t11_loop.trips
  = x11 c XW XX XS XN := rfl
attribute [irreducible] x11
/-- The first selection's values, indices, and the mark of lanes that overflowed. -/
def tv1 : Ct (F := F) aTV := aTV.view.writes (Elt F) aTV.view.junk
  (pieces (p14v c k0_pay314 (x11 c XW XX XS XN).1 (x11 c XW XX XS XN).2.1 (x11 c XW XX XS XN).2.2 k0_pay334) k0_t14_loop.trips)
def ti1 : Ct (F := F) aTI := aTI.view.writes (Elt F) aTI.view.junk
  (pieces (p14i c k0_pay314 (x11 c XW XX XS XN).1 (x11 c XW XX XS XN).2.1 (x11 c XW XX XS XN).2.2 k0_pay334) k0_t14_loop.trips)
def mk1 : V8 F := st14 c k0_pay314 (x11 c XW XX XS XN).1 (x11 c XW XX XS XN).2.1 (x11 c XW XX XS XN).2.2 k0_pay334 k0_t14_loop.trips
theorem tv1_eq (g : Ct (F := F) aTV) : fillTo aTV k0_t14_loop.trips
  (p14v c k0_pay314 (x11 c XW XX XS XN).1 (x11 c XW XX XS XN).2.1 (x11 c XW XX XS XN).2.2 k0_pay334) g k0_t14_loop.trips = tv1 c XW XX XS XN := fillTo_all aTV _ _ g (by decide)
theorem ti1_eq (g : Ct (F := F) aTI) : fillTo aTI k0_t14_loop.trips
  (p14i c k0_pay314 (x11 c XW XX XS XN).1 (x11 c XW XX XS XN).2.1 (x11 c XW XX XS XN).2.2 k0_pay334) g k0_t14_loop.trips = ti1 c XW XX XS XN := fillTo_all aTI _ _ g (by decide)
theorem mk1_eq : st14 c k0_pay314 (x11 c XW XX XS XN).1 (x11 c XW XX XS XN).2.1 (x11 c XW XX XS XN).2.2 k0_pay334 k0_t14_loop.trips = mk1 c XW XX XS XN := rfl
attribute [irreducible] tv1 ti1 mk1
/-- Whether the second pass runs. -/
def again : Prop :=
  Scalar.cmpi CmpIPredicate.ne (Scalar.extui (Scalar.cmpf CmpFPredicate.ogt (k0_pay1 (k0_pay355 (mk1 c XW XX XS XN))) (FloatOps.ofBits FTy.f32 0#32)) : BitVec 32) 0#32 = 1#1
/-- The lists after the second pass. -/
def x16 : LI F := st16 c XW XS XN (q0 c XX) (d0 c XX) (l0, i0) k0_t16_loop.trips
theorem x16_eq : st16 c XW XS XN (q0 c XX) (d0 c XX) (l0, i0) k0_t16_loop.trips = x16 c XW XX XS XN := rfl
attribute [irreducible] x16
/-- The second selection. -/
def tv2 : Ct (F := F) aTV := aTV.view.writes (Elt F) aTV.view.junk (pieces (p20v c (x16 c XW XX XS XN).1 (x16 c XW XX XS XN).2) k0_t20_loop.trips)
def ti2 : Ct (F := F) aTI := aTI.view.writes (Elt F) aTI.view.junk (pieces (p20i c (x16 c XW XX XS XN).1 (x16 c XW XX XS XN).2) k0_t20_loop.trips)
theorem tv2_eq (g : Ct (F := F) aTV) : fillTo aTV k0_t20_loop.trips (p20v c (x16 c XW XX XS XN).1 (x16 c XW XX XS XN).2) g k0_t20_loop.trips = tv2 c XW XX XS XN :=
  fillTo_all aTV _ _ g (by decide)
theorem ti2_eq (g : Ct (F := F) aTI) : fillTo aTI k0_t20_loop.trips (p20i c (x16 c XW XX XS XN).1 (x16 c XW XX XS XN).2) g k0_t20_loop.trips = ti2 c XW XX XS XN :=
  fillTo_all aTI _ _ g (by decide)
attribute [irreducible] tv2 ti2
open Classical in
/-- The values and indices the body leaves. -/
def tvF : Ct (F := F) aTV := if again c XW XX XS XN then tv2 c XW XX XS XN else tv1 c XW XX XS XN
open Classical in
def tiF : Ct (F := F) aTI := if again c XW XX XS XN then ti2 c XW XX XS XN else ti1 c XW XX XS XN

theorem ring_start (f f1 f2) :
    iprop(slotP c 0 f ∗ cellP c 0 ∗ flightP c XW 1 (tl 1) f1 ∗ flightP c XW 2 (tl 2) f2 ∗ homeP c XW (tl 0) ∗ bigSep ((restSet (tl 1) (tl 2)).erase (tl 0)) (homeP c XW))
      ⊢ (ringAt c XW 0 : sProp 𝕄) := by
  unfold ringAt
  rw [if_pos (by decide), show (bigSep (restSet (tl (2 * 0 + 1)) (tl (2 * 0 + 2))) (homeP c XW) : sProp 𝕄)
    = iprop(homeP c XW (tl 0) ∗ bigSep ((restSet (tl 1) (tl 2)).erase (tl 0)) (homeP c XW)) from bigSep_erase (by decide)]
  simp only [slotE_eq, flE_eq]
  iintro ⟨H1, H2, H3, H4, H5, H6⟩
  isplitl [H1]; · iexists _; iexact H1
  isplitl [H2]; · iexact H2
  isplitl [H3]; · iexists _; iexact H3
  isplitl [H4]; · iexists _; iexact H4
  isplitl [H5]; · iexact H5
  iexact H6

theorem ring_last : (ringAt c XW k0_t4_loop.trips : sProp 𝕄) ⊢ ringFree c XW := by
  unfold ringAt; rw [if_neg (by decide)]

/-- THE BODY: from the staged blocks, the weights at home and the ring at rest it leaves the results it computes. -/
theorem body_run (f0 f1 f2) (gTV : Ct (F := F) aTV) (gTI : Ct (F := F) aTI) (gQ : Ct (F := F) aQ) (gE : Ct (F := F) aE)
    (gA : Ct (F := F) aA) (gB : Ct (F := F) aB) (gD : Ct (F := F) aD) (gL : Ct (F := F) aL) (gI : Ct (F := F) aI) (gC : Ct (F := F) aC) :
    iprop(own c aX XX ∗ own c aS XS ∗ own c aN XN ∗ own c aTV gTV ∗ own c aTI gTI ∗ own c aQ gQ ∗ own c aE gE
          ∗ slotP c 0 f0 ∗ slotP c 1 f1 ∗ slotP c 2 f2 ∗ cellP c 0 ∗ cellP c 1 ∗ cellP c 2
          ∗ homeP c XW (tl 0) ∗ homeP c XW (tl 1) ∗ homeP c XW (tl 2) ∗ bigSep ((restSet (tl 1) (tl 2)).erase (tl 0)) (homeP c XW)
          ∗ own c aA gA ∗ own c aB gB ∗ own c aD gD ∗ own c aL gL ∗ own c aI gI ∗ own c aC gC
          ∗ (∃ W, owes (c : Thread nD τ) 0 W))
      ⊢ wp frame (wpE (defs₀ (F := F)) 𝒱₀ (c : Thread nD τ) none) Set.univ (cc0_lm_head_top8 (F := F) aX haX aW haW aS haS aN haN aTV haTV aTI haTI aQ haQ aE haE aR haR aA haA aB haB aD haD aL haL aI haI aC haC cc0_scratch7) (fun _ => iprop(own c aX XX ∗ own c aS XS ∗ own c aN XN ∗ own c aTV (tvF c XW XX XS XN) ∗ own c aTI (tiF c XW XX XS XN)
          ∗ own c aQ (q0 c XX) ∗ own c aE (e0 c XX) ∗ ringFree c XW ∗ (∃ g, own c aA g) ∗ (∃ g, own c aB g) ∗ (∃ g, own c aD g) ∗ (∃ g, own c aL g)
          ∗ (∃ g, own c aI g) ∗ (∃ g, own c aC g) ∗ ∃ W, owes (c : Thread nD τ) 0 W)) := by
  have h1 := cond1_true
  sl_unfold [cc0_lm_head_top8]
  iintro ⟨HX, HS, HN, HTV, HTI, HQ, HE, HF0, HF1, HF2, HC0, HC1, HC2, HW0, HW1, HW2, HWr, HA, HB, HD, HL, HI, HC, %W, HW⟩
  sl_exec
  ihave JQ := (own_congr c (q0_eq c XX gQ)) $$ HQ
  ihave JE := (own_congr c (e0_eq c XX gE)) $$ HE
  ihave JD := (own_congr c (d0_eq c XX gD)) $$ HD
  ihave JA := (own_congr c (acc0_eq c XW XX gQ gA)) $$ HA
  ihave JL := (own_congr c l0_eq) $$ HL
  ihave JI := (own_congr c i0_eq) $$ HI
  ihave JC := (own_congr c c0_eq) $$ HC
  ihave JR := (ring_start c XW (slotC c XW 0 (tl 0)) f1 f2) $$ [HF0 HC0 HC1 HC2 HW0 HWr]
  · isplitl [HF0]; · iexact HF0
    isplitl [HC0]; · iexact HC0
    isplitl [HC1]; · iexact HC1
    isplitl [HC2]; · iexact HC2
    isplitl [HW0]; · iexact HW0
    iexact HWr
  let I4 := loopInv4 c k0_pay314 XW XS XN (q0 c XX) (d0 c XX) (acc0 c XW XX, l0, i0, c0)
  sl_exec
  ihave KA := (own_congr c (congrArg (fun z : Ct (F := F) aA × LIC F => z.1) (x4_eq c XW XX XS XN))) $$ JA
  ihave KL := (own_congr c (congrArg (fun z : Ct (F := F) aA × LIC F => z.2.1) (x4_eq c XW XX XS XN))) $$ JL
  ihave KI := (own_congr c (congrArg (fun z : Ct (F := F) aA × LIC F => z.2.2.1) (x4_eq c XW XX XS XN))) $$ JI
  ihave KC := (own_congr c (congrArg (fun z : Ct (F := F) aA × LIC F => z.2.2.2) (x4_eq c XW XX XS XN))) $$ JC
  let I11 := loopInv11 c k0_pay314 XS XN (x4 c XW XX XS XN).1 (d0 c XX) (x4 c XW XX XS XN).2.1 (x4 c XW XX XS XN).2.2.1 (x4 c XW XX XS XN).2.2.2
  sl_exec
  ihave ML := (own_congr c (congrArg (fun z : LIC F => z.1) (x11_eq c XW XX XS XN))) $$ KL
  ihave MI := (own_congr c (congrArg (fun z : LIC F => z.2.1) (x11_eq c XW XX XS XN))) $$ KI
  ihave MC := (own_congr c (congrArg (fun z : LIC F => z.2.2) (x11_eq c XW XX XS XN))) $$ KC
  let I14 := loopInv14 c k0_pay314 (x11 c XW XX XS XN).1 (x11 c XW XX XS XN).2.1 (x11 c XW XX XS XN).2.2 k0_pay334 gTV gTI
  sl_exec
  ihave NR := (ring_last c XW) $$ JR
  by_cases ha : again c XW XX XS XN
  · have hc : body_run.sl.v54 c XW XX XS XN = 1#1 := by rw [again, ← mk1_eq] at ha; exact ha
    sl_exec
    ihave PL := (own_congr c l0_eq) $$ ML
    ihave PI := (own_congr c i0_eq) $$ MI
    let I16 := loopInv16 c XW XS XN (q0 c XX) (d0 c XX) (l0, i0)
    sl_exec
    ihave ML := (own_congr c (congrArg (fun z : LI F => z.1) (x16_eq c XW XX XS XN))) $$ PL
    ihave MI := (own_congr c (congrArg (fun z : LI F => z.2) (x16_eq c XW XX XS XN))) $$ PI
    ihave OTV := (own_congr c (tv1_eq c XW XX XS XN gTV)) $$ HTV
    ihave OTI := (own_congr c (ti1_eq c XW XX XS XN gTI)) $$ HTI
    let I20 := loopInv20 c (x16 c XW XX XS XN).1 (x16 c XW XX XS XN).2 (tv1 c XW XX XS XN) (ti1 c XW XX XS XN)
    sl_exec
    ihave NTV := (own_congr c ((tv2_eq c XW XX XS XN _).trans (if_pos ha).symm)) $$ OTV
    ihave NTI := (own_congr c ((ti2_eq c XW XX XS XN _).trans (if_pos ha).symm)) $$ OTI
    sl_step
    isplitl [HX]; · iexact HX
    isplitl [HS]; · iexact HS
    isplitl [HN]; · iexact HN
    isplitl [NTV]; · iexact NTV
    isplitl [NTI]; · iexact NTI
    isplitl [JQ]; · iexact JQ
    isplitl [JE]; · iexact JE
    isplitl [NR]; · iexact NR
    isplitl [KA]; · iexists _; iexact KA
    isplitl [HB]; · iexists _; iexact HB
    isplitl [JD]; · iexists _; iexact JD
    isplitl [ML]; · iexists _; iexact ML
    isplitl [MI]; · iexists _; iexact MI
    isplitl [MC]; · iexists _; iexact MC
    iexists _; iexact HW
  · have hc : ¬ body_run.sl.v54 c XW XX XS XN = 1#1 := by rw [again, ← mk1_eq] at ha; exact ha
    sl_exec
    ihave NTV := (own_congr c ((tv1_eq c XW XX XS XN _).trans (if_neg ha).symm)) $$ HTV
    ihave NTI := (own_congr c ((ti1_eq c XW XX XS XN _).trans (if_neg ha).symm)) $$ HTI
    sl_step
    isplitl [HX]; · iexact HX
    isplitl [HS]; · iexact HS
    isplitl [HN]; · iexact HN
    isplitl [NTV]; · iexact NTV
    isplitl [NTI]; · iexact NTI
    isplitl [JQ]; · iexact JQ
    isplitl [JE]; · iexact JE
    isplitl [NR]; · iexact NR
    isplitl [KA]; · iexists _; iexact KA
    isplitl [HB]; · iexists _; iexact HB
    isplitl [JD]; · iexists _; iexact JD
    isplitl [ML]; · iexists _; iexact ML
    isplitl [MI]; · iexists _; iexact MI
    isplitl [MC]; · iexists _; iexact MC
    iexists _; iexact HW

end Body

end Cert.Kernel.Hand

end
-- ==== Proof.Kernel.Launch.lean ====
/-
  The launch: the body's run as the region's proof data, the host lines around it, and the frame claim.
-/
module

public import proofs.«01_k».proof.Proof.Kernel.Body
public import Idealize.ShloMosaic.Lib.Pipeline.FrameSuffix

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

attribute [local irreducible] ringAt ringFree

theorem entails_of_eq {P Q : sProp 𝕄} (e : P = Q) : P ⊢ Q := e ▸ .rfl

/-! ## Whole buffers -/

theorem own_aX (c : Dev nD) (g : Ct (F := F) aX) : (own c aX g : sProp 𝕄) = (((c : Thread nD τ).loc cc0_stg0_0) ↦{fullShare} g) :=
  congrArg (fun S => (((c : Thread nD τ).loc cc0_stg0_0) ↦[S]{fullShare} g : sProp 𝕄)) (View.set_whole cc0_stg0_0)
theorem own_aS (c : Dev nD) (g : Ct (F := F) aS) : (own c aS g : sProp 𝕄) = (((c : Thread nD τ).loc cc0_stg1_0) ↦{fullShare} g) :=
  congrArg (fun S => (((c : Thread nD τ).loc cc0_stg1_0) ↦[S]{fullShare} g : sProp 𝕄)) (View.set_whole cc0_stg1_0)
theorem own_aN (c : Dev nD) (g : Ct (F := F) aN) : (own c aN g : sProp 𝕄) = (((c : Thread nD τ).loc cc0_stg2_0) ↦{fullShare} g) :=
  congrArg (fun S => (((c : Thread nD τ).loc cc0_stg2_0) ↦[S]{fullShare} g : sProp 𝕄)) (View.set_whole cc0_stg2_0)
theorem own_aTV (c : Dev nD) (g : Ct (F := F) aTV) : (own c aTV g : sProp 𝕄) = (((c : Thread nD τ).loc cc0_stg3_0) ↦{fullShare} g) :=
  congrArg (fun S => (((c : Thread nD τ).loc cc0_stg3_0) ↦[S]{fullShare} g : sProp 𝕄)) (View.set_whole cc0_stg3_0)
theorem own_aTI (c : Dev nD) (g : Ct (F := F) aTI) : (own c aTI g : sProp 𝕄) = (((c : Thread nD τ).loc cc0_stg4_0) ↦{fullShare} g) :=
  congrArg (fun S => (((c : Thread nD τ).loc cc0_stg4_0) ↦[S]{fullShare} g : sProp 𝕄)) (View.set_whole cc0_stg4_0)
theorem own_aQ (c : Dev nD) (g : Ct (F := F) aQ) : (own c aQ g : sProp 𝕄) = (((c : Thread nD τ).loc cc0_stg5_0) ↦{fullShare} g) :=
  congrArg (fun S => (((c : Thread nD τ).loc cc0_stg5_0) ↦[S]{fullShare} g : sProp 𝕄)) (View.set_whole cc0_stg5_0)
theorem own_aE (c : Dev nD) (g : Ct (F := F) aE) : (own c aE g : sProp 𝕄) = (((c : Thread nD τ).loc cc0_stg6_0) ↦{fullShare} g) :=
  congrArg (fun S => (((c : Thread nD τ).loc cc0_stg6_0) ↦[S]{fullShare} g : sProp 𝕄)) (View.set_whole cc0_stg6_0)
theorem own_aA (c : Dev nD) (g : Ct (F := F) aA) : (own c aA g : sProp 𝕄) = (((c : Thread nD τ).loc cc0_scratch1) ↦{fullShare} g) :=
  congrArg (fun S => (((c : Thread nD τ).loc cc0_scratch1) ↦[S]{fullShare} g : sProp 𝕄)) (View.set_whole cc0_scratch1)
theorem own_aB (c : Dev nD) (g : Ct (F := F) aB) : (own c aB g : sProp 𝕄) = (((c : Thread nD τ).loc cc0_scratch2) ↦{fullShare} g) :=
  congrArg (fun S => (((c : Thread nD τ).loc cc0_scratch2) ↦[S]{fullShare} g : sProp 𝕄)) (View.set_whole cc0_scratch2)
theorem own_aD (c : Dev nD) (g : Ct (F := F) aD) : (own c aD g : sProp 𝕄) = (((c : Thread nD τ).loc cc0_scratch3) ↦{fullShare} g) :=
  congrArg (fun S => (((c : Thread nD τ).loc cc0_scratch3) ↦[S]{fullShare} g : sProp 𝕄)) (View.set_whole cc0_scratch3)
theorem own_aL (c : Dev nD) (g : Ct (F := F) aL) : (own c aL g : sProp 𝕄) = (((c : Thread nD τ).loc cc0_scratch4) ↦{fullShare} g) :=
  congrArg (fun S => (((c : Thread nD τ).loc cc0_scratch4) ↦[S]{fullShare} g : sProp 𝕄)) (View.set_whole cc0_scratch4)
theorem own_aI (c : Dev nD) (g : Ct (F := F) aI) : (own c aI g : sProp 𝕄) = (((c : Thread nD τ).loc cc0_scratch5) ↦{fullShare} g) :=
  congrArg (fun S => (((c : Thread nD τ).loc cc0_scratch5) ↦[S]{fullShare} g : sProp 𝕄)) (View.set_whole cc0_scratch5)
theorem own_aC (c : Dev nD) (g : Ct (F := F) aC) : (own c aC g : sProp 𝕄) = (((c : Thread nD τ).loc cc0_scratch6) ↦{fullShare} g) :=
  congrArg (fun S => (((c : Thread nD τ).loc cc0_scratch6) ↦[S]{fullShare} g : sProp 𝕄)) (View.set_whole cc0_scratch6)

/-! ## The weights as tiles, the ring as slots -/

abbrev tileSet (t : Fin 49) : Finset S3840x100352.Idx := (Rect.unit (s := S3840x100352) (tileOff t) S3840x2048.size (tileOff_inb t)).set
abbrev slotSet (s : Fin 3) : Finset S3x3840x2048.Idx := (Rect.unit (s := S3x3840x2048) (slotOff s.val) S1x3840x2048.size (slotOff_inb s.val)).set

theorem tile_set (t : Fin 49) : (tile t).view.set = tileSet t := View.set_slice_whole _ _
theorem rslot_set (s : Fin 3) : (rslot s.val).view.set = slotSet s := (View.set_reshape _ _).trans (View.set_slice_whole _ _)

theorem mem_tileSet (t : Fin 49) (y : S3840x100352.Idx) : y ∈ tileSet t ↔ (y 1).val / 2048 = t.val := by
  rw [Rect.mem_set_unit]
  have h0 : (y 0).val < 3840 := (y 0).isLt
  constructor
  · intro H; have a1 : 2048 * t.val ≤ (y 1).val ∧ (y 1).val < 2048 * t.val + 2048 := H 1; omega
  · intro H i; fin_cases i
    · show 0 ≤ (y 0).val ∧ (y 0).val < 0 + 3840; omega
    · show 2048 * t.val ≤ (y 1).val ∧ (y 1).val < 2048 * t.val + 2048; omega
theorem mem_slotSet (s : Fin 3) (y : S3x3840x2048.Idx) : y ∈ slotSet s ↔ (y 0).val = s.val := by
  rw [Rect.mem_set_unit]
  have hs := s.isLt
  have h1 : (y 1).val < 3840 := (y 1).isLt
  have h2 : (y 2).val < 2048 := (y 2).isLt
  constructor
  · intro H; have a0 : s.val % 3 ≤ (y 0).val ∧ (y 0).val < s.val % 3 + 1 := H 0; omega
  · intro H i; fin_cases i
    · show s.val % 3 ≤ (y 0).val ∧ (y 0).val < s.val % 3 + 1; omega
    · show 0 ≤ (y 1).val ∧ (y 1).val < 0 + 3840; omega
    · show 0 ≤ (y 2).val ∧ (y 2).val < 0 + 2048; omega
theorem tileSet_disjoint : ∀ b b' : Fin 49, b ≠ b' → Disjoint (tileSet b) (tileSet b') := by
  intro b b' hne; rw [Finset.disjoint_left]; intro y hy hy'; rw [mem_tileSet] at hy hy'; exact hne (Fin.ext (hy.symm.trans hy'))
theorem tileSet_cover : (Finset.univ : Finset (Fin 49)).biUnion tileSet = Finset.univ := by
  ext y; simp only [Finset.mem_biUnion, Finset.mem_univ, true_and, iff_true]
  have h : (y 1).val < 100352 := (y 1).isLt
  exact ⟨⟨(y 1).val / 2048, by omega⟩, by rw [mem_tileSet]⟩
theorem slotSet_disjoint : ∀ b b' : Fin 3, b ≠ b' → Disjoint (slotSet b) (slotSet b') := by
  intro b b' hne; rw [Finset.disjoint_left]; intro y hy hy'; rw [mem_slotSet] at hy hy'; exact hne (Fin.ext (hy.symm.trans hy'))
theorem slotSet_cover : (Finset.univ : Finset (Fin 3)).biUnion slotSet = Finset.univ := by
  ext y; simp only [Finset.mem_biUnion, Finset.mem_univ, true_and, iff_true]; exact ⟨(y 0).cast (by decide), by rw [mem_slotSet]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- The weights whole are their tiles at home. -/
theorem w_eq (c : Dev nD) (f : Buf (Elt F) ((c : Thread nD τ).loc main_arg1)) :
    (((c : Thread nD τ).loc main_arg1) ↦{fullShare} f : sProp 𝕄) = bigSep Finset.univ (homeP c f) := by
  rw [Ring.pointsTo_blocks (ℓ := (c : Thread nD τ).loc main_arg1) tileSet tileSet_disjoint tileSet_cover]
  exact bigSep_congr fun b _ => by rw [← tile_set]; rfl

theorem slotP_eq (c : Dev nD) (s : Fin 3) (f) : slotP c s.val f = (((c : Thread nD τ).loc cc0_scratch0) ↦[slotSet s]{fullShare} f : sProp 𝕄) :=
  congrArg (fun S => (_ ↦[S]{fullShare} f : sProp 𝕄)) (rslot_set s)

/-- The ring's buffer whole is its three slots, and back. -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ ∃ f, slotP c 2 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch0) slotSet slotSet_disjoint slotSet_cover f).trans (bigSep_fin3 _))) $$ H
  icases H2 with ⟨H0, H1, H2⟩
  isplitl [H0]
  · iexists f; iapply (entails_of_eq (slotP_eq c 0 f).symm); iexact H0
  isplitl [H1]
  · iexists f; iapply (entails_of_eq (slotP_eq c 1 f).symm); iexact H1
  · iexists f; iapply (entails_of_eq (slotP_eq c 2 f).symm); iexact H2
theorem buf_join (c : Dev nD) :
    iprop((∃ f, slotP c 0 f) ∗ (∃ f, slotP c 1 f) ∗ ∃ f, slotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) slotSet slotSet_disjoint slotSet_cover f0)
  irw [bigSep_fin3]
  isplitl [H0]
  · iexists f0; iapply (entails_of_eq (slotP_eq c 0 f0)); iexact H0
  isplitl [H1]
  · iexists f1; iapply (entails_of_eq (slotP_eq c 1 f1)); iexact H1
  · iexists f2; iapply (entails_of_eq (slotP_eq c 2 f2)); iexact H2

/-! ## The region invariant -/

variable (m : (ℓ : Loc nD τ sig) → Buf (Elt F) ℓ) (ρ : Dev nD → PrngReg)

/-- The kernel's own semaphores: the three slots' cells. -/
def osem0 : Fin 3 → SemLoc sig := fun j => (![SemLoc.dma 7, SemLoc.dma 8, SemLoc.dma 9] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2) := by
  unfold Pipeline.ownSems0; rw [bigSep_fin3]; rfl
/-- The array the body's transfers read: the weights. -/
def H0 : Finset (Ref sig .tc) := {main_arg1}
theorem H0_sub : H0 ⊆ Pipeline.restRefs sig spec0 := by decide

/-- The region invariant conjunct by conjunct: scratch at anything, the register, the cells at zero, the weights at home. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ g, own c aA g) ∗ (∃ g, own c aB g) ∗ (∃ g, own c aD g) ∗ (∃ g, own c aL g) ∗ (∃ g, own c aI g) ∗ (∃ g, own c aC g))
          ∗ (∃ r, prngReg c r) ∗ iprop(cellP c 0 ∗ cellP c 1 ∗ cellP c 2) ∗ bigSep Finset.univ (homeP c (V m c main_arg1))) := by
  have e : (bigSep H0 (fun b => ((c : Thread nD τ).loc b) ↦{fullShare} V m c b) : sProp 𝕄) = bigSep Finset.univ (homeP c (V m c main_arg1)) := by
    rw [← w_eq, BI.bigSep_eq_bigSepL_of_eq [main_arg1] (by decide) (by decide)]; rfl
  rw [Pipeline.ΦD_eq, scopedRest0_eq, ownSems00_eq, e]
  simp only [own_aA, own_aB, own_aD, own_aL, own_aI, own_aC]
  rfl

/-! ## @main around the region, at this resource algebra -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl | rfl | rfl
  all_goals simp only [StableHlo.unary_bufs, StableHlo.reshape_bufs, Finset.mem_insert, Finset.mem_singleton, not_or]
  all_goals exact ⟨StableHlo.devRef_ne_of_ne (by decide), StableHlo.devRef_ne_of_ne (by decide)⟩

theorem W_arg (b : Ref sig .tc) (hb : b = main_arg0 ∨ b = main_arg1 ∨ b = main_arg2 ∨ b = main_arg3)
    (dats : (p : Fin 1) → (c : Dev nD) → Dat τ (Elt F) Unit ℕ (Pipeline.UD sig nD τ) ℕ (cfgs p) c) (c : Dev nD) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      rcases hb with rfl | rfl | rfl | rfl
      all_goals repeat' apply And.intro
      all_goals exact StableHlo.devRef_ne_of_ne (by decide))),
    Pipeline.withArrays_of_ne _ c (V0 m c) _ b (by rcases hb with rfl | rfl | rfl | rfl <;> exact (by decide))]

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePost cfgs dats 0 (Pipeline.afterTail₀ cfgs dats 0 (V0 m) [hostOps1]) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(((h.1 c).2 main_arg0 (Pipeline.mem_restRefs_of main_arg0 (by decide) (by decide))).trans ((W_arg m _ (by tauto) dats c).trans (V_main_arg0 m c))),
      (((h.1 c).2 main_arg1 (Pipeline.mem_restRefs_of main_arg1 (by decide) (by decide))).trans ((W_arg m _ (by tauto) dats c).trans (V_main_arg1 m c))),
      (((h.1 c).2 main_arg2 (Pipeline.mem_restRefs_of main_arg2 (by decide) (by decide))).trans ((W_arg m _ (by tauto) dats c).trans (V_main_arg2 m c))),
      (((h.1 c).2 main_arg3 (Pipeline.mem_restRefs_of main_arg3 (by decide) (by decide))).trans ((W_arg m _ (by tauto) dats c).trans (V_main_arg3 m c)))⟩, h.2⟩) h

/-! ## The proof data -/

/-- The staged inputs: the activations, the column scales and the bias as the region finds them. -/
def xx (c : Dev nD) : Ct (F := F) aX := (iblk m c 0 t0_0 : (⟨S384x3840, .bf16⟩ : BufTy).Contents (Elt F))
def xs (c : Dev nD) : Ct (F := F) aS := (iblk m c 1 t0_0 : (⟨S1x100352, .f32⟩ : BufTy).Contents (Elt F))
def xn (c : Dev nD) : Ct (F := F) aN := (iblk m c 2 t0_0 : (⟨S1x100352, .f32⟩ : BufTy).Contents (Elt F))
/-- The results the body leaves, as blocks. -/
def outV (c : Dev nD) : Vec F S384x128 .f32 := (tvF c (V m c main_arg1) (xx m c) (xs m c) (xn m c) : (⟨S384x128, .f32⟩ : BufTy).Contents (Elt F))
def outI (c : Dev nD) : Vec F S384x128 .i32 := (tiF c (V m c main_arg1) (xx m c) (xs m c) (xn m c) : (⟨S384x128, .i32⟩ : BufTy).Contents (Elt F))
def outQ (c : Dev nD) : Vec F S384x3840 .fp8e4m3 := (q0 c (xx m c) : (⟨S384x3840, .fp8e4m3⟩ : BufTy).Contents (Elt F))
def outE (c : Dev nD) : Vec F S384x1 .f32 := (e0 c (xx m c) : (⟨S384x1, .f32⟩ : BufTy).Contents (Elt F))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV m c
    | ⟨4, _⟩ => outI m c
    | ⟨5, _⟩ => outQ m c
    | ⟨6, _⟩ => outE m c
    | ⟨_ + 7, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outV m c := by dsimp only [dats]
theorem after_4 (c : Dev nD) (t : Fin cfg0.N) : (dats m 0 c).after 4 t = outI m c := by dsimp only [dats]
theorem after_5 (c : Dev nD) (t : Fin cfg0.N) : (dats m 0 c).after 5 t = outQ m c := by dsimp only [dats]
theorem after_6 (c : Dev nD) (t : Fin cfg0.N) : (dats m 0 c).after 6 t = outE m c := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem own_0 (c : Dev nD) (t : Fin cfg0.N) : (owns (c : Thread nD τ) (st0_0 t) fullShare (iblk m c 0 t) : sProp 𝕄) = own c aX (xx m c) := by
  rw [fin_N0 t]; exact (owns_whole (c : Thread nD τ) cc0_stg0_0 fullShare _).trans (own_aX c _).symm
theorem own_1 (c : Dev nD) (t : Fin cfg0.N) : (owns (c : Thread nD τ) (st0_1 t) fullShare (iblk m c 1 t) : sProp 𝕄) = own c aS (xs m c) := by
  rw [fin_N0 t]; exact (owns_whole (c : Thread nD τ) cc0_stg1_0 fullShare _).trans (own_aS c _).symm
theorem own_2 (c : Dev nD) (t : Fin cfg0.N) : (owns (c : Thread nD τ) (st0_2 t) fullShare (iblk m c 2 t) : sProp 𝕄) = own c aN (xn m c) := by
  rw [fin_N0 t]; exact (owns_whole (c : Thread nD τ) cc0_stg2_0 fullShare _).trans (own_aN c _).symm
theorem own_3 (c : Dev nD) (t : Fin cfg0.N) (g : (⟨S384x128, .f32⟩ : BufTy).Contents (Elt F)) :
    (owns (c : Thread nD τ) (st0_3 t) fullShare g : sProp 𝕄) = own c aTV g := by
  rw [fin_N0 t]; exact (owns_whole (c : Thread nD τ) cc0_stg3_0 fullShare _).trans (own_aTV c _).symm
theorem own_4 (c : Dev nD) (t : Fin cfg0.N) (g : (⟨S384x128, .i32⟩ : BufTy).Contents (Elt F)) :
    (owns (c : Thread nD τ) (st0_4 t) fullShare g : sProp 𝕄) = own c aTI g := by
  rw [fin_N0 t]; exact (owns_whole (c : Thread nD τ) cc0_stg4_0 fullShare _).trans (own_aTI c _).symm
theorem own_5 (c : Dev nD) (t : Fin cfg0.N) (g : (⟨S384x3840, .fp8e4m3⟩ : BufTy).Contents (Elt F)) :
    (owns (c : Thread nD τ) (st0_5 t) fullShare g : sProp 𝕄) = own c aQ g := by
  rw [fin_N0 t]; exact (owns_whole (c : Thread nD τ) cc0_stg5_0 fullShare _).trans (own_aQ c _).symm
theorem own_6 (c : Dev nD) (t : Fin cfg0.N) (g : (⟨S384x1, .f32⟩ : BufTy).Contents (Elt F)) :
    (owns (c : Thread nD τ) (st0_6 t) fullShare g : sProp 𝕄) = own c aE g := by
  rw [fin_N0 t]; exact (owns_whole (c : Thread nD τ) cc0_stg6_0 fullShare _).trans (own_aE c _).symm

theorem body_at (t : Fin cfg0.N) : bodyAt0 (F := F) t = cc0_lm_head_top8 (F := F) aX haX aW haW aS haS aN haN aTV haTV aTI haTI aQ haQ aE haE aR haR aA haA aB haB aD haD aL haL aI haI aC haC cc0_scratch7 := by
  rw [fin_N0 t]; rfl

theorem ringFree_eq (c : Dev nD) (XW) : (ringFree c XW : sProp 𝕄) =
    iprop((∃ f, slotP c 0 f) ∗ (∃ f, slotP c 1 f) ∗ (∃ f, slotP c 2 f) ∗ cellP c 0 ∗ cellP c 1 ∗ cellP c 2 ∗ bigSep Finset.univ (homeP c XW)) := by
  unfold ringFree; rfl

theorem homes_three (c : Dev nD) (XW) : (bigSep Finset.univ (homeP c XW) : sProp 𝕄)
    = iprop(homeP c XW (tl 1) ∗ homeP c XW (tl 2) ∗ homeP c XW (tl 0) ∗ bigSep ((restSet (tl 1) (tl 2)).erase (tl 0)) (homeP c XW)) := by
  rw [homes_two c XW (a := tl 1) (b := tl 2) (by decide), bigSep_erase (show tl 0 ∈ restSet (tl 1) (tl 2) by decide)]; rfl

theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  rw [show (dats m 0 c).Φ t.succ = Pipeline.ΦD osem0 spec0 H0 (V m) c from rfl, show (dats m 0 c).Φ t.castSucc = Pipeline.ΦD osem0 spec0 H0 (V m) c from rfl, PhiD0_eq,
    after_0, after_1, after_2, after_3, after_4, after_5, after_6, body_at, own_0, own_1, own_2, own_3, own_4, own_5, own_6]
  unfold Dat.owesAt Pipeline.owesWithin
  rw [show (dats m 0 c).owed t.castSucc = 0 from rfl, show (dats m 0 c).owed t.succ = 0 from rfl]
  iintro ⟨⟨⟨HR, HA, HB, HD, HL, HI, HC⟩, Hg, ⟨Hc0, Hc1, Hc2⟩, HH⟩, ⟨%W, -, HW⟩, ⟨%d0, H0⟩, ⟨%d1, H1⟩, ⟨%d2, H2⟩, ⟨%d3, H3⟩, ⟨%d4, H4⟩, ⟨%d5, H5⟩, ⟨%d6, H6⟩⟩
  ihave J0 := (entails_of_eq ((congrArg (owns (c : Thread nD τ) (st0_0 t) fullShare) (before_0 m c t d0)).trans (own_0 m c t))) $$ H0
  ihave J1 := (entails_of_eq ((congrArg (owns (c : Thread nD τ) (st0_1 t) fullShare) (before_1 m c t d1)).trans (own_1 m c t))) $$ H1
  ihave J2 := (entails_of_eq ((congrArg (owns (c : Thread nD τ) (st0_2 t) fullShare) (before_2 m c t d2)).trans (own_2 m c t))) $$ H2
  ihave J3 := (entails_of_eq (own_3 c t _)) $$ H3
  ihave J4 := (entails_of_eq (own_4 c t _)) $$ H4
  ihave J5 := (entails_of_eq (own_5 c t _)) $$ H5
  ihave J6 := (entails_of_eq (own_6 c t _)) $$ H6
  ihave HS := (buf_split (F := F) c) $$ HR
  icases HS with ⟨⟨%f0, HS0⟩, ⟨%f1, HS1⟩, ⟨%f2, HS2⟩⟩
  ihave HH2 := (entails_of_eq (homes_three c (V m c main_arg1))) $$ HH
  icases HH2 with ⟨HW1, HW2, HW0, HWr⟩
  icases HA with ⟨%gA, HA⟩
  icases HB with ⟨%gB, HB⟩
  icases HD with ⟨%gD, HD⟩
  icases HL with ⟨%gL, HL⟩
  icases HI with ⟨%gI, HI⟩
  icases HC with ⟨%gC, HC⟩
  iapply (wp_wand_r frame (wpE (defs₀ (F := F)) 𝒱₀ (c : Thread nD τ) none) Set.univ)
  isplitl [J0 J1 J2 J3 J4 J5 J6 HS0 HS1 HS2 Hc0 Hc1 Hc2 HW0 HW1 HW2 HWr HA HB HD HL HI HC HW]
  · iapply (body_run c (V m c main_arg1) (xx m c) (xs m c) (xn m c) f0 f1 f2 _ _ _ _ gA gB gD gL gI gC)
    isplitl [J0]; · iexact J0
    isplitl [J1]; · iexact J1
    isplitl [J2]; · iexact J2
    isplitl [J3]; · iexact J3
    isplitl [J4]; · iexact J4
    isplitl [J5]; · iexact J5
    isplitl [J6]; · iexact J6
    isplitl [HS0]; · iexact HS0
    isplitl [HS1]; · iexact HS1
    isplitl [HS2]; · iexact HS2
    isplitl [Hc0]; · iexact Hc0
    isplitl [Hc1]; · iexact Hc1
    isplitl [Hc2]; · iexact Hc2
    isplitl [HW0]; · iexact HW0
    isplitl [HW1]; · iexact HW1
    isplitl [HW2]; · iexact HW2
    isplitl [HWr]; · iexact HWr
    isplitl [HA]; · iexact HA
    isplitl [HB]; · iexact HB
    isplitl [HD]; · iexact HD
    isplitl [HL]; · iexact HL
    isplitl [HI]; · iexact HI
    isplitl [HC]; · iexact HC
    iexists _; iexact HW
  iintro %_u ⟨J0, J1, J2, J3, J4, J5, J6, HR, HA, HB, HD, HL, HI, HC, ⟨%W', HW'⟩⟩
  ihave HR2 := (entails_of_eq (ringFree_eq c (V m c main_arg1))) $$ HR
  icases HR2 with ⟨HS0, HS1, HS2, Hc0, Hc1, Hc2, HH⟩
  isplitl [HS0 HS1 HS2 HA HB HD HL HI HC Hg Hc0 Hc1 Hc2 HH]
  · isplitl [HS0 HS1 HS2 HA HB HD HL HI HC]
    · isplitl [HS0 HS1 HS2]
      · iapply (buf_join (F := F) c)
        isplitl [HS0]; · iexact HS0
        isplitl [HS1]; · iexact HS1
        iexact HS2
      isplitl [HA]; · iexact HA
      isplitl [HB]; · iexact HB
      isplitl [HD]; · iexact HD
      isplitl [HL]; · iexact HL
      isplitl [HI]; · iexact HI
      iexact HC
    isplitl [Hg]; · iexact Hg
    isplitl [Hc0 Hc1 Hc2]
    · isplitl [Hc0]; · iexact Hc0
      isplitl [Hc1]; · iexact Hc1
      iexact Hc2
    iexact HH
  isplitl [HW']
  · iexists W'; isplitr; · ipureintro; exact fun _ _ => Or.inl trivial
    iexact HW'
  isplitl [J0]; · iexact J0
  isplitl [J1]; · iexact J1
  isplitl [J2]; · iexact J2
  isplitl [J3]; · iexact J3
  isplitl [J4]; · iexact J4
  isplitl [J5]; · iexact J5
  iexact J6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subBut) (hfresh := sfx_fresh) (hkeep := sfx_keeps)
    (hmain := hmain m 𝒱₀) (hA := A_eq m) (hin := fun _ => .rfl) (hout := fun _ => .rfl) (Q' := _) (hQ' := fun _ h => h)

/-- THE FRAME: every run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  frame_of m ρ (dats m) (run_main m ρ)

end Cert.Kernel.Hand

end
-- ==== Proof.Math.Quant.lean ====
/-
  The mathematics of the quantiser's exponent: the number of powers of two a real reaches is the rounded-down binary
  logarithm, and a 32-bit float pattern with a zero significand is the power of two of its exponent field.
-/
module

public import Idealize.ShloMosaic.PureOps.Ideal

@[expose] public section

noncomputable section

namespace Cert.QuantMath

open Idealize.ShloMosaic

/-- The pattern with exponent field `n`, sign and significand zero. -/
def field (n : ℕ) : EReal := Ideal.ofBits .f32 (BitVec.ofNat 32 n <<< 23)

theorem extract_sign (n : ℕ) (h : n < 256) : (BitVec.ofNat 32 n <<< 23).extractLsb' 31 1 = 0#1 := by
  interval_cases n <;> rfl
theorem extract_exp (n : ℕ) (h : n < 256) : ((BitVec.ofNat 32 n <<< 23).extractLsb' 23 8).toNat = n := by
  interval_cases n <;> rfl
theorem extract_frac (n : ℕ) (h : n < 256) : ((BitVec.ofNat 32 n <<< 23).extractLsb' 0 23).toNat = 0 := by
  interval_cases n <;> rfl

/-- A normal pattern is a power of two. -/
theorem field_eq (n : ℕ) (h0 : 0 < n) (h1 : n < 255) : field n = (((2 : ℝ) ^ ((n : ℤ) - 127) : ℝ) : EReal) := by
  unfold field Ideal.ofBits Ideal.ieee
  dsimp only
  rw [extract_sign n (by omega), extract_exp n (by omega), extract_frac n (by omega)]
  rw [if_neg (by norm_num; omega), if_neg (by omega)]
  congr 1
  have e : (2 : ℝ) ^ ((n : ℤ) - 127) = 2 ^ (23 : ℤ) * 2 ^ ((n : ℤ) - (2 ^ (8 - 1) - 1) - ((23 : ℕ) : ℤ)) := by
    rw [← zpow_add₀ (by norm_num)]; congr 1; norm_num
  rw [e]
  norm_num
/-- The last pattern is infinite. -/
theorem field_top : field 255 = ⊤ := by
  unfold field Ideal.ofBits Ideal.ieee
  dsimp only
  rw [extract_sign 255 (by omega), extract_exp 255 (by omega), extract_frac 255 (by omega)]
  norm_num

/-- The exponent as a logarithm gives it: zero below the smallest normal number. -/
def expo (y : EReal) : EReal :=
  if y < field 1 then 0 else Ideal.liftRound Int.floor (Ideal.div (Ideal.log y) (Ideal.log ((2 : ℝ) : EReal))) + ((1 : ℝ) : EReal)

/-- The exponent an exponent field of `j` stands for. -/
def unbias (j : ℕ) : ℤ := if j = 0 then 0 else (j : ℤ) - 126

/-- Counting the powers of two a real reaches is taking its logarithm. -/
theorem field_count (y : ℝ) (h0 : 0 ≤ y) (h1 : y < 2 ^ (120 : ℤ)) :
    ∃ j : ℕ, j ≤ 246 ∧ (∀ k : ℕ, 0 < k → k < 256 → (field k ≤ (y : EReal) ↔ k ≤ j)) ∧ expo (y : EReal) = (((unbias j : ℤ) : ℝ) : EReal) := by
  by_cases hy : y < 2 ^ (-126 : ℤ)
  · refine ⟨0, by omega, fun k hk hk' => ?_, ?_⟩
    · refine iff_of_false (fun h => ?_) (by omega)
      rcases Nat.lt_or_ge k 255 with hk2 | hk2
      · rw [field_eq k hk hk2, EReal.coe_le_coe_iff] at h
        have : (2 : ℝ) ^ (-126 : ℤ) ≤ 2 ^ ((k : ℤ) - 127) := zpow_le_zpow_right₀ (by norm_num) (by omega)
        linarith
      · obtain rfl : k = 255 := by omega
        rw [field_top] at h
        exact EReal.coe_ne_top y (top_le_iff.1 h)
    · unfold expo unbias
      rw [if_pos (by rw [field_eq 1 (by omega) (by omega), EReal.coe_lt_coe_iff]; exact hy)]
      simp
  · have hpos : 0 < y := lt_of_lt_of_le (by positivity) (not_lt.1 hy)
    have hl : (0 : ℝ) < Real.log 2 := Real.log_pos (by norm_num)
    set n : ℤ := ⌊Real.log y / Real.log 2⌋ with hn
    have key : ∀ z : ℤ, (2 : ℝ) ^ z ≤ y ↔ z ≤ n := by
      intro z
      rw [hn, Int.le_floor, le_div_iff₀ hl, ← Real.log_zpow, Real.log_le_log_iff (by positivity) hpos]
    have hn1 : -126 ≤ n := (key _).1 (not_lt.1 hy)
    have hn2 : n < 120 := by
      by_contra h
      have := (key 120).2 (by omega)
      linarith
    refine ⟨(n + 127).toNat, by omega, fun k hk hk' => ?_, ?_⟩
    · rcases Nat.lt_or_ge k 255 with hk2 | hk2
      · rw [field_eq k hk hk2, EReal.coe_le_coe_iff, key]; omega
      · obtain rfl : k = 255 := by omega
        rw [field_top]
        exact iff_of_false (fun h => EReal.coe_ne_top y (top_le_iff.1 h)) (by omega)
    · unfold expo unbias
      rw [if_neg (by rw [field_eq 1 (by omega) (by omega), EReal.coe_lt_coe_iff]; exact hy), if_neg (by omega),
        Ideal.log_coe, Ideal.log_coe, if_neg (by linarith), if_neg (by norm_num), Ideal.div, if_neg (by exact_mod_cast hl.ne'),
        ← EReal.coe_inv, ← EReal.coe_mul, ← div_eq_mul_inv, Ideal.liftRound_coe, ← hn, ← EReal.coe_add]
      congr 1
      have : ((((n + 127).toNat : ℕ) : ℤ)) = n + 127 := by omega
      rw [this]; push_cast; ring

/-- The count as the words go: one more for each power reached. -/
theorem count_words (y : EReal) (j : ℕ) (hj : j ≤ 246) (h : ∀ k : ℕ, 0 < k → k < 256 → (field k ≤ y ↔ k ≤ j)) (m : ℕ) (hm : m < 255) :
    (if field (m + 1) ≤ y then BitVec.ofNat 32 (min m j) + 1#32 else BitVec.ofNat 32 (min m j)) = BitVec.ofNat 32 (min (m + 1) j) := by
  have e := h (m + 1) (by omega) (by omega)
  by_cases hc : m + 1 ≤ j
  · rw [if_pos (e.2 hc), show min m j = m by omega, show min (m + 1) j = m + 1 by omega]
    simp [BitVec.ofNat_add]
  · rw [if_neg (fun h' => hc (e.1 h')), show min m j = min (m + 1) j by omega]

/-- The word of the exponent of field `j`: `j - 126`, and zero for the first and the last field. -/
def word (f : BitVec 32) : BitVec 32 := if f = 0#32 ∨ f = 255#32 then 0#32 else f - 126#32

theorem exp2_int (z : ℤ) : Ideal.exp2 ((((z : ℤ) : ℝ)) : EReal) = (((2 : ℝ) ^ z : ℝ) : EReal) := by
  rw [Ideal.exp2_coe]; congr 1; exact Real.rpow_intCast 2 z

theorem word_up (j : ℕ) (hj : j ≤ 246) : ∃ n : ℕ, 0 < n ∧ n < 255 ∧ word (BitVec.ofNat 32 j) + 127#32 = BitVec.ofNat 32 n ∧ (n : ℤ) - 127 = unbias j := by
  rcases Nat.eq_zero_or_pos j with rfl | h
  · exact ⟨127, by omega, by omega, by decide, by simp [unbias]⟩
  · refine ⟨j + 1, by omega, by omega, ?_, by unfold unbias; rw [if_neg (by omega)]; push_cast; ring⟩
    unfold word
    rw [if_neg (by rintro (e | e) <;> (have := congrArg BitVec.toNat e; simp at this; omega))]
    apply BitVec.eq_of_toNat_eq
    simp only [BitVec.toNat_add, BitVec.toNat_sub, BitVec.toNat_ofNat]
    omega
theorem word_down (j : ℕ) (hj : j ≤ 246) : ∃ n : ℕ, 0 < n ∧ n < 255 ∧ 127#32 - word (BitVec.ofNat 32 j) = BitVec.ofNat 32 n ∧ (n : ℤ) - 127 = - unbias j := by
  rcases Nat.eq_zero_or_pos j with rfl | h
  · exact ⟨127, by omega, by omega, by decide, by simp [unbias]⟩
  · refine ⟨253 - j, by omega, by omega, ?_, by unfold unbias; rw [if_neg (by omega)]; omega⟩
    unfold word
    rw [if_neg (by rintro (e | e) <;> (have := congrArg BitVec.toNat e; simp at this; omega))]
    apply BitVec.eq_of_toNat_eq
    simp only [BitVec.toNat_sub, BitVec.toNat_ofNat]
    omega

/-- The scale's bits are two to the exponent. -/
theorem scale_up (j : ℕ) (hj : j ≤ 246) :
    Ideal.ofBits .f32 ((word (BitVec.ofNat 32 j) + 127#32) <<< 23) = Ideal.exp2 ((((unbias j : ℤ) : ℝ)) : EReal) := by
  obtain ⟨n, h0, h1, e, hn⟩ := word_up j hj
  rw [e, exp2_int, ← hn]; exact field_eq n h0 h1
/-- And the inverse scale's, two to its negation. -/
theorem scale_down (j : ℕ) (hj : j ≤ 246) :
    Ideal.ofBits .f32 ((127#32 - word (BitVec.ofNat 32 j)) <<< 23) = Ideal.exp2 (0 - (((unbias j : ℤ) : ℝ) : EReal)) := by
  obtain ⟨n, h0, h1, e, hn⟩ := word_down j hj
  rw [e, zero_sub, ← EReal.coe_neg, ← Int.cast_neg, exp2_int, ← hn]; exact field_eq n h0 h1

end Cert.QuantMath

end
-- ==== Proof.Value.Quantiser.lean ====
/-
  The quantiser as a function of the activations, named by no program: each row's largest magnitude, its scale as a power
  of two, and the codes; and that the row's scaled maximum is a real the exponent can count when the activations are in
  range.
-/
module

public import proofs.«01_k».proof.Proof.Math.Quant
public import Idealize.ShloMosaic.Lib.ValueLayout
public import Idealize.ShloMosaic.Lib.ValueLayoutCasts
public import Idealize.ShloMosaic.PureOps.Ideal.Laws

@[expose] public section

noncomputable section

namespace Cert.Value

open Idealize.ShloMosaic Idealize.ShloMosaic.ValueIdx Cert.QuantMath

/-- A magnitude. -/
def mag (x : EReal) : EReal := max x (-x)
/-- The largest magnitude of a row. -/
def amax (x : Fin 3840 → EReal) : EReal := (Finset.univ : Finset (Fin 3840)).fold max (Ideal.ofBits .f32 0xFF800000#32) fun k => mag (x k)
/-- The row's maximum over the largest code. -/
def scaled (x : Fin 3840 → EReal) : EReal := amax x * Ideal.ofBits .f32 0x3B124925#32
/-- The row's scale. -/
def rowScale (x : Fin 3840 → EReal) : EReal := Ideal.exp2 (expo (scaled x))
/-- A code of the row. -/
def rowCode (x : Fin 3840 → EReal) (j : Fin 3840) : EReal :=
  min (Ideal.ofBits .f32 0x43E00000#32) (max (Ideal.ofBits .f32 0xC3E00000#32) (x j * Ideal.exp2 (0 - expo (scaled x))))

/-- The reduction over a row's columns. -/
theorem lift_eq {n : ℕ} (h : (⟨2, ![n, 3840]⟩ : Shape).Reduces [1] ⟨1, ![n]⟩) (r : Fin n) (k : Fin 3840) :
    h.lift (ix1 r) k = ix2 r k := by
  funext c
  apply Fin.ext
  match c with
  | ⟨0, _⟩ => rfl
  | ⟨1, _⟩ => rfl
/-- The kernel's maximum over columns is the row's maximum. -/
theorem amax_apply {n : ℕ} (v : FVec Ideal ⟨2, ![n, 3840]⟩ .f32) (h : (⟨2, ![n, 3840]⟩ : Shape).Reduces [1] ⟨1, ![n]⟩)
    (hφ : FKind.Formats .f32) (hacc : (0xFF800000#32 : BitVec 32) = FKind.maximumf.neutral .f32 hφ) (r : Fin n) :
    multiReduction .maximumf [1] ⟨1, ![n]⟩ (absf v) 0xFF800000#32 h hφ hacc (ix1 r) = amax fun k => v (ix2 r k) := by
  rw [Ideal.multiReduction_maximumf_single]
  unfold amax
  refine Finset.fold_congr fun k _ => ?_
  show mag (v (h.lift (ix1 r) k)) = _
  exact congrArg (fun i => mag (v i)) (lift_eq h r k)

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_max : Ideal.ofBits .bf16 0x7F7F#16 = ((255 * 2 ^ (120 : ℤ) : ℝ) : EReal) := by
  simp [Ideal.ofBits, Ideal.ieee, -EReal.coe_mul]
theorem ofBits_inv : Ideal.ofBits .f32 0x3B124925#32 = ((9586981 * 2 ^ (-32 : ℤ) : ℝ) : EReal) := by
  simp [Ideal.ofBits, Ideal.ieee, -EReal.coe_mul]

/-- In range, the scaled maximum is a real below `2^120`. -/
theorem scaled_real (x : Fin 3840 → EReal) (h : ∀ k, mag (x k) ≤ Ideal.ofBits .bf16 0x7F7F#16) :
    ∃ y : ℝ, 0 ≤ y ∧ y < 2 ^ (120 : ℤ) ∧ scaled x = (y : EReal) := by
  have h1 : amax x ≤ ((255 * 2 ^ (120 : ℤ) : ℝ) : EReal) := by
    unfold amax
    rw [Finset.fold_max_le, ofBits_bot, ← ofBits_max]
    exact ⟨bot_le, fun k _ => h k⟩
  have h0 : 0 ≤ amax x := by
    unfold amax
    rw [Finset.le_fold_max]
    refine Or.inr ⟨0, Finset.mem_univ _, ?_⟩
    unfold mag
    rcases le_total 0 (x 0) with hx | hx
    · exact le_max_of_le_left hx
    · exact le_max_of_le_right (by rw [EReal.le_neg]; simpa using hx)
  obtain ⟨a, ha⟩ : ∃ a : ℝ, amax x = (a : EReal) := by
    refine ⟨(amax x).toReal, (EReal.coe_toReal ?_ ?_).symm⟩
    · exact ne_top_of_le_ne_top (EReal.coe_ne_top _) h1
    · exact ne_bot_of_le_ne_bot (by simp) h0
  rw [ha] at h0 h1
  rw [EReal.coe_le_coe_iff] at h1
  have h0' : 0 ≤ a := by exact_mod_cast h0
  refine ⟨a * (9586981 * 2 ^ (-32 : ℤ)), by positivity, ?_, ?_⟩
  · calc a * (9586981 * 2 ^ (-32 : ℤ)) ≤ (255 * 2 ^ (120 : ℤ)) * (9586981 * 2 ^ (-32 : ℤ)) := by gcongr
      _ < 2 ^ (120 : ℤ) := by norm_num
  · unfold scaled
    rw [ha, ofBits_inv, ← EReal.coe_mul]

/-- The codes of every row of an array. -/
def codesOf (X : (⟨2, ![384, 3840]⟩ : Shape).Idx → EReal) : (⟨2, ![384, 3840]⟩ : Shape).Idx → EReal :=
  fun y => rowCode (fun i => X (ix2 (y 0) i)) (y 1)
/-- The scale of every row of an array. -/
def scalesOf (X : (⟨2, ![384, 3840]⟩ : Shape).Idx → EReal) : (⟨2, ![384, 1]⟩ : Shape).Idx → EReal :=
  fun y => rowScale fun i => X (ix2 (y 0) i)

end Cert.Value

end
-- ==== Proof.Value.KernelCodes.lean ====
/-
  What the kernel's quantiser loop leaves: the codes and the scale of each row, as the row functions of the
  activations.
-/
module

public import proofs.«01_k».proof.Proof.KernelIdeal.Body
public import proofs.«01_k».proof.Proof.Value.Quantiser
public import Idealize.ShloMosaic.Lib.WritesUnit
public import Idealize.ShloMosaic.Lib.Pipeline.Value

@[expose] public section

set_option maxRecDepth 16384

noncomputable section

namespace Cert.Value

open Idealize.ShloMosaic Idealize.ShloMosaic.ValueIdx Cert.QuantMath
open Cert.KernelIdeal Cert.KernelIdeal.Gen Cert.KernelIdeal.Hand

/-- A buffer filled by pieces at distinct rows holds, in the rows of one, that piece. -/
theorem read_pieces {sig : RefSig} {κ : Kind} {sp : Space} {s : Shape} {e : EltTy} (v : View sig κ sp s e) (f : v.ty.Contents (Elt Ideal))
    (p : ℕ → View.Piece (Elt Ideal) s e) (a : Fin s.rank) (T j : ℕ) (hj : j < T) (y : s.Idx)
    (hp : ∀ k < T, k ≠ j → ∃ off size inb w, p k = ⟨Rect.unit off size inb, w⟩ ∧ ((y a).val < off a ∨ off a + size a ≤ (y a).val))
    (off size : Fin s.rank → ℕ) (inb w) (he : p j = ⟨Rect.unit off size inb, w⟩) (x : (Rect.unit off size inb).shape.Idx)
    (hx : ∀ a, (y a).val = off a + (x a).val) :
    v.read (Elt Ideal) (v.writes (Elt Ideal) f (pieces p T)) y = w x := by
  induction T with
  | zero => omega
  | succ T ih =>
    show v.read (Elt Ideal) (v.writes (Elt Ideal) f (p T :: pieces p T)) y = w x
    by_cases hT : T = j
    · subst hT
      rw [he]
      exact View.read_writes_cons_unit_of_mem v f inb w _ y x rfl hx
    · obtain ⟨off', size', inb', w', e', hm⟩ := hp T (by omega) hT
      rw [e', View.read_writes_cons_unit_of_not_mem v f inb' w' _ y rfl a hm]
      exact ih (by omega) fun k hk => hp k (by omega)

section Block
variable (v58 : Vec Ideal S32x3840 .bf16) (r : Fin 32) (j : ℕ) (hj : j ≤ 246)
  (hcount : ∀ k : ℕ, 0 < k → k < 256 → (field k ≤ scaled (fun i => v58 (ix2 r i)) ↔ k ≤ j))

theorem pay33_apply (i) : k0_pay33 v58 i = v58 i := by
  unfold k0_pay33
  show shapeCast S32x3840 v58 _ i = _
  rw [shapeCast_self]

/-- The row's maximum as the block computes it. -/
theorem block_scaled : shapeCast S32x1 (multiReduction .maximumf [1] S32 (absf (k0_pay33 v58)) 0xFF800000#32 reduces_S32x3840_S32 (.inl rfl) rfl)
    shapeCasts_S32_S32x1 (ix2 r 0) * Ideal.ofBits .f32 0x3B124925#32 = scaled fun i => v58 (ix2 r i) := by
  rw [shapeCast_a_a1_apply]
  have e : (amax fun i => k0_pay33 v58 (ix2 r i)) = amax fun i => v58 (ix2 r i) := congrArg amax (funext fun _ => pay33_apply v58 _)
  have e' := amax_apply (k0_pay33 v58) reduces_S32x3840_S32 (.inl rfl) rfl r
  unfold scaled
  rw [← e, ← e']

include hj hcount in
/-- One trip of the count, at a row. -/
theorem count_step (k : Fin k0_t2_loop.trips) (acc : IVec S32x1 32) (hacc : acc (ix2 r 0) = BitVec.ofNat 32 (min k.val j)) :
    k0_pay35 v58 k acc (ix2 r 0) = BitVec.ofNat 32 (min (k.val + 1) j) := by
  have hk : k.val < 255 := k.isLt
  rw [← count_words _ j hj hcount k.val hk]
  unfold k0_pay35
  show Scalar.select (Ideal.cmp .oge (shapeCast S32x1 (multiReduction .maximumf [1] S32 (absf (k0_pay33 v58)) 0xFF800000#32 reduces_S32x3840_S32 (.inl rfl) rfl)
    shapeCasts_S32_S32x1 (ix2 r 0) * Ideal.ofBits .f32 0x3B124925#32)
    (Ideal.ofBits .f32 (Scalar.shli (Scf.iv 1#32 1#32 k) 23#32))) (acc (ix2 r 0) + 1#32) (acc (ix2 r 0)) = _
  rw [block_scaled, hacc]
  have e : Scalar.shli (Scf.iv 1#32 1#32 k) 23#32 = BitVec.ofNat 32 (k.val + 1) <<< 23 := by
    have : Scf.iv 1#32 1#32 k = BitVec.ofNat 32 (k.val + 1) := by
      unfold Scf.iv
      apply BitVec.eq_of_toNat_eq
      simp
      omega
    rw [this]; rfl
  rw [e]
  show Scalar.select (BitVec.ofBool (decide (field (k.val + 1) ≤ scaled fun i => v58 (ix2 r i)))) _ _ = _
  by_cases hc : field (k.val + 1) ≤ scaled fun i => v58 (ix2 r i)
  · rw [if_pos hc, decide_eq_true hc]; rfl
  · rw [if_neg hc, decide_eq_false hc]; rfl

include hj hcount in
/-- The count the loop ends with, at a row. -/
theorem count_all : Scf.fold (k0_pay35 v58) k0_pay34 (ix2 r 0) = BitVec.ofNat 32 j := by
  rw [Scf.fold_eq]
  have key : ∀ (m : ℕ) (hm : m ≤ k0_t2_loop.trips),
      ((List.finRange k0_t2_loop.trips).take m).foldl (fun acc k => k0_pay35 v58 k acc) k0_pay34 (ix2 r 0) = BitVec.ofNat 32 (min m j) := by
    intro m hm
    induction m with
    | zero => simp; rfl
    | succ m ih =>
      rw [List.take_add_one, List.foldl_append, List.getElem?_eq_getElem (by simpa using hm)]
      simp only [Option.toList_some, List.foldl_cons, List.foldl_nil, List.getElem_finRange]
      exact count_step v58 r j hj hcount ⟨m, hm⟩ _ (ih (by omega))
  have := key k0_t2_loop.trips le_rfl
  rw [List.take_of_length_le (by simp)] at this
  rw [this, show k0_t2_loop.trips = 255 by decide, show min 255 j = j by omega]

theorem pay36_apply (f : IVec S32x1 32) (i) : k0_pay36 f i = word (f i) := by
  unfold k0_pay36 word
  show Scalar.select (IntOp.ori (IntOp.cmpi .eq (f i) 0#32) (IntOp.cmpi .eq (f i) 255#32)) 0#32 (f i - 126#32) = _
  by_cases h0 : f i = 0#32
  · rw [h0]; decide
  · by_cases h1 : f i = 255#32
    · rw [h1]; decide
    · have e : ∀ b : BitVec 32, f i ≠ b → IntOp.cmpi .eq (f i) b = 0#1 := by

        intro b hb
        show BitVec.ofBool (f i == b) = 0#1
        rw [beq_eq_false_iff_ne.mpr hb]; rfl
      rw [e _ h0, e _ h1, if_neg (by tauto)]; rfl

include hj hcount in
/-- The scale of a row. -/
theorem block_scale (he : expo (scaled fun i => v58 (ix2 r i)) = (((unbias j : ℤ) : ℝ) : EReal)) :
    k0_pay37 (F := Ideal) (Scf.fold (k0_pay35 v58) k0_pay34) (ix2 r 0) = rowScale fun i => v58 (ix2 r i) := by
  unfold k0_pay37 rowScale
  show Ideal.ofBits .f32 ((k0_pay36 _ (ix2 r 0) + 127#32) <<< 23) = _
  rw [pay36_apply, count_all v58 r j hj hcount, he]
  exact scale_up j hj

include hj hcount in
/-- The codes of a row. -/
theorem block_code (he : expo (scaled fun i => v58 (ix2 r i)) = (((unbias j : ℤ) : ℝ) : EReal)) (i : Fin 3840) :
    k0_pay38 v58 (Scf.fold (k0_pay35 v58) k0_pay34) (ix2 r i) = rowCode (fun i => v58 (ix2 r i)) i := by
  unfold k0_pay38 rowCode
  show min (Ideal.ofBits .f32 0x43E00000#32) (max (Ideal.ofBits .f32 0xC3E00000#32) (k0_pay33 v58 (ix2 r i) * broadcastTo S32x3840 _ _ (ix2 r i))) = _
  rw [pay33_apply, broadcastTo_apply _ _ (ix2 r i) (ix2 r (0 : Fin 1)) (by intro a; match a with | ⟨0, _⟩ => rfl | ⟨1, _⟩ => rfl)]
  show min _ (max _ (v58 (ix2 r i) * Ideal.ofBits .f32 ((127#32 - k0_pay36 _ (ix2 r 0)) <<< 23))) = _
  rw [pay36_apply, count_all v58 r j hj hcount, he]
  rw [scale_down j hj]

end Block

section Rows
variable (c : Dev nD) (XX : Ct (F := Ideal) aX) (h : ∀ y : S384x3840.Idx, mag (aX.view.read (Elt Ideal) XX y) ≤ Ideal.ofBits .bf16 0x7F7F#16)

/-- Row `r` of the activations. -/
def row (XX : Ct (F := Ideal) aX) (r : Fin 384) : Fin 3840 → EReal := fun i => aX.view.read (Elt Ideal) XX (ix2 r i)

theorem row_block (k : Fin k0_t1_loop.trips) (r : Fin 32) (r' : Fin 384) (hr : r'.val = 32 * k.val + r.val) :
    (fun i : Fin 3840 => View.readAt (Elt Ideal) aX.view (R1q k).toLoadRect XX (ix2 r i)) = row XX r' := by
  funext i
  unfold row
  show aX.view.read (Elt Ideal) XX ((R1q k).toLoadRect.idx (ix2 r i)) = _
  congr 1
  funext a
  apply Fin.ext
  match a with
  | ⟨0, _⟩ => show k0_off4 k 0 + 1 * r.val = r'.val; rw [k0_off4_eq]; show 32 * k.val + 1 * r.val = _; omega
  | ⟨1, _⟩ => show k0_off4 k 1 + 1 * i.val = i.val; rw [k0_off4_eq]; show 0 + 1 * i.val = _; omega

include h in
theorem trip_row (k : Fin k0_t1_loop.trips) (r : Fin 32) (r' : Fin 384) (hr : r'.val = 32 * k.val + r.val) :
    (trip1 c XX k).1.2.1 (ix2 r 0) = rowScale (row XX r') ∧ ∀ i : Fin 3840, (trip1 c XX k).1.1 (ix2 r i) = rowCode (row XX r') i := by
  obtain ⟨y, hy0, hy1, hy⟩ := scaled_real (row XX r') fun i => h _
  obtain ⟨j, hj, hcount, he⟩ := field_count y hy0 hy1
  rw [← hy] at hcount he
  have e := row_block XX k r r' hr
  rw [← e] at hcount he ⊢
  refine ⟨?_, fun i => ?_⟩
  · unfold trip1
    dsimp only
    unfold trip1.sl.r_1 trip1.sl.r
    exact block_scale _ r j hj hcount he
  · unfold trip1
    dsimp only
    unfold trip1.sl.r_2 trip1.sl.r
    exact block_code _ r j hj hcount he i

include h in
/-- The scales the loop leaves. -/
theorem scales (r : Fin 384) : aE.view.read (Elt Ideal) (e0 c XX) (ix2 r 0) = rowScale (row XX r) := by
  have hk : r.val / 32 < k0_t1_loop.trips := by rw [trips1]; omega
  rw [← (trip_row c XX h ⟨r.val / 32, hk⟩ ⟨r.val % 32, by omega⟩ r (by show r.val = 32 * (r.val / 32) + r.val % 32; omega)).1]
  unfold e0
  refine read_pieces aE.view aE.view.junk (p1e c XX) 0 k0_t1_loop.trips (r.val / 32) hk (ix2 r 0) ?_ _ _ _ _ (p1e_eq c XX ⟨r.val / 32, hk⟩) (ix2 (⟨r.val % 32, by omega⟩ : Fin 32) (0 : Fin 1)) ?_
  · intro k hk' hne
    refine ⟨_, _, _, _, p1e_eq c XX ⟨k, hk'⟩, ?_⟩
    rw [k0_off5_eq]
    show r.val < 32 * k ∨ 32 * k + 32 ≤ r.val
    omega
  · intro a
    refine Eq.trans ?_ (congrArg (· + _) (congrFun (k0_off5_eq ⟨r.val / 32, hk⟩) a).symm)
    match a with
    | ⟨0, _⟩ => show r.val = 32 * (r.val / 32) + r.val % 32; omega
    | ⟨1, _⟩ => rfl

include h in
/-- The codes the loop leaves. -/
theorem codes (r : Fin 384) (i : Fin 3840) : aQ.view.read (Elt Ideal) (q0 c XX) (ix2 r i) = rowCode (row XX r) i := by
  have hk : r.val / 32 < k0_t1_loop.trips := by rw [trips1]; omega
  rw [← (trip_row c XX h ⟨r.val / 32, hk⟩ ⟨r.val % 32, by omega⟩ r (by show r.val = 32 * (r.val / 32) + r.val % 32; omega)).2]
  unfold q0
  refine read_pieces aQ.view aQ.view.junk (p1q c XX) 0 k0_t1_loop.trips (r.val / 32) hk (ix2 r i) ?_ _ _ _ _ (p1q_eq c XX ⟨r.val / 32, hk⟩) (ix2 (⟨r.val % 32, by omega⟩ : Fin 32) i) ?_
  · intro k hk' hne
    refine ⟨_, _, _, _, p1q_eq c XX ⟨k, hk'⟩, ?_⟩
    rw [k0_off4_eq]
    show r.val < 32 * k ∨ 32 * k + 32 ≤ r.val
    omega
  · intro a
    refine Eq.trans ?_ (congrArg (· + _) (congrFun (k0_off4_eq ⟨r.val / 32, hk⟩) a).symm)
    match a with
    | ⟨0, _⟩ => show r.val = 32 * (r.val / 32) + r.val % 32; omega
    | ⟨1, _⟩ => show i.val = 0 + i.val; omega

end Rows

end Cert.Value

end
-- ==== Proof.Value.Read.lean ====
/-
  Buffers read by natural-number coordinates: an array as a function of row and column (`at2`) or of list place, row
  and column (`at3`), zero outside, with what a load and a store through a rectangle mean for it.
-/
module

public import Idealize.ShloMosaic.Lib.WritesUnit
public import Idealize.ShloMosaic.Lib.ValueLayout
public import Idealize.ShloMosaic.Lib.Pipeline.Value
public import Idealize.ShloMosaic.PureOps.Ideal

@[expose] public section

noncomputable section

namespace Cert.Value

open Idealize.ShloMosaic Idealize.ShloMosaic.ValueIdx

variable {sig : RefSig} {κ : Kind} {sp : Space}

/-- A two-axis array at row `r`, column `j`. -/
def at2 {m n : ℕ} (X : (⟨2, ![m, n]⟩ : Shape).Idx → EReal) (r j : ℕ) : EReal :=
  if h : r < m ∧ j < n then X (ix2 ⟨r, h.1⟩ ⟨j, h.2⟩) else 0
/-- A three-axis array at place `p`, row `r`, column `j`. -/
def at3 {k m n : ℕ} (X : (⟨3, ![k, m, n]⟩ : Shape).Idx → EReal) (p r j : ℕ) : EReal :=
  if h : p < k ∧ r < m ∧ j < n then X (ix3 ⟨p, h.1⟩ ⟨r, h.2.1⟩ ⟨j, h.2.2⟩) else 0

theorem at2_idx {m n : ℕ} (X : (⟨2, ![m, n]⟩ : Shape).Idx → EReal) (i : (⟨2, ![m, n]⟩ : Shape).Idx) : at2 X (i 0).val (i 1).val = X i := by
  unfold at2
  rw [dif_pos ⟨(i 0).isLt, (i 1).isLt⟩]
  exact congrArg X (funext fun a => Fin.ext (by fin_cases a <;> rfl))
theorem at3_idx {k m n : ℕ} (X : (⟨3, ![k, m, n]⟩ : Shape).Idx → EReal) (i : (⟨3, ![k, m, n]⟩ : Shape).Idx) :
    at3 X (i 0).val (i 1).val (i 2).val = X i := by
  unfold at3
  rw [dif_pos ⟨(i 0).isLt, (i 1).isLt, (i 2).isLt⟩]
  exact congrArg X (funext fun a => Fin.ext (by fin_cases a <;> rfl))
theorem at2_of {m n : ℕ} (X : (⟨2, ![m, n]⟩ : Shape).Idx → EReal) (i : (⟨2, ![m, n]⟩ : Shape).Idx) {r j : ℕ} (hr : r = (i 0).val) (hj : j = (i 1).val) :
    at2 X r j = X i := by rw [hr, hj, at2_idx]
theorem at3_of {k m n : ℕ} (X : (⟨3, ![k, m, n]⟩ : Shape).Idx → EReal) (i : (⟨3, ![k, m, n]⟩ : Shape).Idx) {p r j : ℕ}
    (hp : p = (i 0).val) (hr : r = (i 1).val) (hj : j = (i 2).val) : at3 X p r j = X i := by rw [hp, hr, hj, at3_idx]

section Two
variable {m n : ℕ}  (v : View sig κ sp ⟨2, ![m, n]⟩ .f32) (f : v.ty.Contents (Elt Ideal))

/-- A load through a rectangle. -/
theorem load2 {off size : Fin 2 → ℕ} (inb) (i : (⟨2, size⟩ : Shape).Idx) {a b : ℕ} (h : off = ![a, b]) :
    v.readAt (Elt Ideal) (Rect.unit (s := ⟨2, ![m, n]⟩) off size inb).toLoadRect f i = at2 (v.read (Elt Ideal) f) (a + (i 0).val) (b + (i 1).val) := by
  subst h
  refine (at2_of (v.read (Elt Ideal) f) ((Rect.unit (s := ⟨2, ![m, n]⟩) ![a, b] size inb).toLoadRect.idx i) ?_ ?_).symm
  · show a + (i 0).val = a + 1 * (i 0).val; omega
  · show b + (i 1).val = b + 1 * (i 1).val; omega

/-- A store's rectangle at an element under it, -/
theorem store2_hit {off size : Fin 2 → ℕ} (inb) (w : (⟨2, size⟩ : Shape).Idx → EReal) (L) (i : (⟨2, size⟩ : Shape).Idx) {a b r j : ℕ} (h : off = ![a, b])
    (hr : r = a + (i 0).val) (hj : j = b + (i 1).val) :
    at2 (v.read (Elt Ideal) (v.writes (Elt Ideal) f ((⟨Rect.unit (s := ⟨2, ![m, n]⟩) off size inb, w⟩ : View.Piece (Elt Ideal) ⟨2, ![m, n]⟩ .f32) :: L))) r j = w i := by
  subst h
  have h0 : r < m := by have := inb 0; have h2 : (i 0).val < size 0 := (i 0).isLt; change a + size 0 ≤ m at this; omega
  have h1 : j < n := by have := inb 1; have h2 : (i 1).val < size 1 := (i 1).isLt; change b + size 1 ≤ n at this; omega
  unfold at2
  rw [dif_pos ⟨h0, h1⟩]
  exact View.read_writes_cons_unit_of_mem v f inb w L _ i rfl fun ax => by
    fin_cases ax
    · exact hr
    · exact hj
/-- and at one that is not. -/
theorem store2_miss {off size : Fin 2 → ℕ} (inb) (w : (⟨2, size⟩ : Shape).Idx → EReal) (L) {a b r j : ℕ} (h : off = ![a, b])
    (hr : r < a ∨ a + size 0 ≤ r ∨ j < b ∨ b + size 1 ≤ j) :
    at2 (v.read (Elt Ideal) (v.writes (Elt Ideal) f ((⟨Rect.unit (s := ⟨2, ![m, n]⟩) off size inb, w⟩ : View.Piece (Elt Ideal) ⟨2, ![m, n]⟩ .f32) :: L))) r j
      = at2 (v.read (Elt Ideal) (v.writes (Elt Ideal) f L)) r j := by
  subst h
  unfold at2
  split_ifs with hb
  · by_cases h0 : r < a ∨ a + size 0 ≤ r
    · exact View.read_writes_cons_unit_of_not_mem v f inb w L _ rfl 0 h0
    · exact View.read_writes_cons_unit_of_not_mem v f inb w L _ rfl 1 (by
        show j < b ∨ b + size 1 ≤ j
        omega)
  · rfl
end Two

section Three
variable {k m n : ℕ} (v : View sig κ sp ⟨3, ![k, m, n]⟩ .f32) (f : v.ty.Contents (Elt Ideal))

theorem load3 {off size : Fin 3 → ℕ} (inb) (i : (⟨3, size⟩ : Shape).Idx) {a b c : ℕ} (h : off = ![a, b, c]) :
    v.readAt (Elt Ideal) (Rect.unit (s := ⟨3, ![k, m, n]⟩) off size inb).toLoadRect f i
      = at3 (v.read (Elt Ideal) f) (a + (i 0).val) (b + (i 1).val) (c + (i 2).val) := by
  subst h
  refine (at3_of (v.read (Elt Ideal) f) ((Rect.unit (s := ⟨3, ![k, m, n]⟩) ![a, b, c] size inb).toLoadRect.idx i) ?_ ?_ ?_).symm
  · show a + (i 0).val = a + 1 * (i 0).val; omega
  · show b + (i 1).val = b + 1 * (i 1).val; omega
  · show c + (i 2).val = c + 1 * (i 2).val; omega

theorem store3_hit {off size : Fin 3 → ℕ} (inb) (w : (⟨3, size⟩ : Shape).Idx → EReal) (L) (i : (⟨3, size⟩ : Shape).Idx) {a b c p r j : ℕ} (h : off = ![a, b, c])
    (hp : p = a + (i 0).val) (hr : r = b + (i 1).val) (hj : j = c + (i 2).val) :
    at3 (v.read (Elt Ideal) (v.writes (Elt Ideal) f ((⟨Rect.unit (s := ⟨3, ![k, m, n]⟩) off size inb, w⟩ : View.Piece (Elt Ideal) ⟨3, ![k, m, n]⟩ .f32) :: L))) p r j = w i := by
  subst h
  have h0 : p < k := by have := inb 0; have h2 : (i 0).val < size 0 := (i 0).isLt; change a + size 0 ≤ k at this; omega
  have h1 : r < m := by have := inb 1; have h2 : (i 1).val < size 1 := (i 1).isLt; change b + size 1 ≤ m at this; omega
  have h2 : j < n := by have := inb 2; have h2 : (i 2).val < size 2 := (i 2).isLt; change c + size 2 ≤ n at this; omega
  unfold at3
  rw [dif_pos ⟨h0, h1, h2⟩]
  exact View.read_writes_cons_unit_of_mem v f inb w L _ i rfl fun ax => by
    fin_cases ax
    · exact hp
    · exact hr
    · exact hj
theorem store3_miss {off size : Fin 3 → ℕ} (inb) (w : (⟨3, size⟩ : Shape).Idx → EReal) (L) {a b c p r j : ℕ} (h : off = ![a, b, c])
    (hr : p < a ∨ a + size 0 ≤ p ∨ r < b ∨ b + size 1 ≤ r) :
    at3 (v.read (Elt Ideal) (v.writes (Elt Ideal) f ((⟨Rect.unit (s := ⟨3, ![k, m, n]⟩) off size inb, w⟩ : View.Piece (Elt Ideal) ⟨3, ![k, m, n]⟩ .f32) :: L))) p r j
      = at3 (v.read (Elt Ideal) (v.writes (Elt Ideal) f L)) p r j := by
  subst h
  unfold at3
  split_ifs with hb
  · by_cases h0 : p < a ∨ a + size 0 ≤ p
    · exact View.read_writes_cons_unit_of_not_mem v f inb w L _ rfl 0 h0
    · exact View.read_writes_cons_unit_of_not_mem v f inb w L _ rfl 1 (by
        show r < b ∨ b + size 1 ≤ r
        omega)
  · rfl
end Three

/-- A row vector broadcast over rows, a shape cast dropping or adding a leading unit axis, and one to the same shape. -/
theorem bcast_apply {a b : ℕ} (v : (⟨2, ![1, b]⟩ : Shape).Idx → EReal) (h : (⟨2, ![1, b]⟩ : Shape).Broadcasts ⟨2, ![a, b]⟩) (i : (⟨2, ![a, b]⟩ : Shape).Idx) :
    broadcastTo ⟨2, ![a, b]⟩ v h i = v (ix2 (0 : Fin 1) (i 1)) := by
  rw [show i = ix2 (i 0) (i 1) from funext fun a => by fin_cases a <;> rfl]
  exact broadcastTo_1b_ab_apply v h _ _

end Cert.Value

end
-- ==== Proof.Value.Product.lean ====
/-
  The accumulators: after a tile's four blocks of 512 columns, each entry is the sum of the products of a row of codes
  and a column of the weights.
-/
module

public import proofs.«01_k».proof.Proof.KernelIdeal.Body
public import proofs.«01_k».proof.Proof.Value.KernelCodes
public import proofs.«01_k».proof.Proof.Value.Read
public import Idealize.ShloMosaic.Lib.MatmulPlain
public import Idealize.ShloMosaic.Lib.IdealHost

@[expose] public section

set_option maxRecDepth 16384

noncomputable section

namespace Cert.Value

open Idealize.ShloMosaic Idealize.ShloMosaic.TcCoe Idealize.ShloMosaic.ValueIdx
open Cert.KernelIdeal Cert.KernelIdeal.Gen Cert.KernelIdeal.Hand

/-- Row `r` of `Q` times column `j` of `W`. -/
def prod (Q W : ℕ → ℕ → EReal) (r j : ℕ) : EReal := ∑ k : Fin 3840, Q r k.val * W k.val j

/-- A block's product at an entry. -/
theorem block_prod (q : Vec Ideal S384x3840 .fp8e4m3) (w : Vec Ideal S1x3840x512 .fp8e4m3) (r : Fin 384) (j : Fin 512) :
    k0_pay4 q w (ValueIdx.ix2 r j) = ∑ k : Fin 3840, (q (ValueIdx.ix2 r k) : EReal) * w (ValueIdx.ix3 (0 : Fin 1) k j) := by
  unfold k0_pay4
  show shapeCast S384x512 _ _ (ValueIdx.ix2 r j) = _
  rw [shapeCast_self]
  refine (Ideal.matmul_plain_apply (M := 384) (K := 3840) (N := 512) none _ _ _ r j).trans ?_
  rw [show constant (F := Ideal) S384x512 .f32 0x00000000#32 (ValueIdx.ix2 r j) = 0 from Ideal.ofBits_zero_f32, zero_add]
  refine Finset.sum_congr rfl fun k _ => ?_
  rw [shapeCast_self, shapeCast_1ab_ab_apply]

section Slot
variable (c : Dev nD) (XW : Buf (Elt Ideal) (aW.view.loc (c : Thread nD τ)))

/-- A slot's contents, read as a slot and read through the ring. -/
theorem slot_view (n : ℕ) (f : Ct (F := Ideal) aR) (k : Fin 3840) (j : Fin 2048) :
    ((rslot n).view.read (Elt Ideal) f (ValueIdx.ix2 k j) : EReal)
      = View.readAt (Elt Ideal) aR.view (Rect.unit (s := S3x3840x2048) (slotOff n) S1x3840x2048.size (slotOff_inb n)).toLoadRect f (ValueIdx.ix3 (0 : Fin 1) k j) := by
  unfold rslot
  rw [Memref.read_squeeze_slice aR _ _ _ (show S1x3840x2048.ShapeCasts S3840x2048 by decide), shapeCast_1ab_ab_apply]

/-- A block of a slot's columns. -/
theorem slot_block (n b : ℕ) (hb : b < 4) (f : Ct (F := Ideal) aR) (inb) (k : Fin 3840) (j : Fin 512) :
    (View.readAt (Elt Ideal) aR.view (Rect.unit (s := S3x3840x2048) ![n % 3, 0, 512 * b] S1x3840x512.size inb).toLoadRect f (ValueIdx.ix3 (0 : Fin 1) k j) : EReal)
      = (rslot n).view.read (Elt Ideal) f (ValueIdx.ix2 k (⟨512 * b + j.val, by omega⟩ : Fin 2048)) := by
  rw [slot_view]
  refine congrArg (aR.view.read (Elt Ideal) f) (funext fun a => Fin.ext ?_)
  match a with
  | ⟨0, _⟩ => rfl
  | ⟨1, _⟩ => rfl
  | ⟨2, _⟩ => show 512 * b + 1 * j.val = 0 + 1 * (512 * b + j.val); omega

/-- What a block reads from a slot that holds tile `t`. -/
theorem slot_read (n b : ℕ) (hb : b < 4) (t : Fin 49) {off : Fin 3 → ℕ} (e : off = ![n % 3, 0, 512 * b]) (inb) (k : Fin 3840) (j : Fin 512) :
    (View.readAt (Elt Ideal) aR.view (Rect.unit (s := S3x3840x2048) off S1x3840x512.size inb).toLoadRect (slotC c XW n t) (ValueIdx.ix3 (0 : Fin 1) k j) : EReal)
      = at2 (aW.view.read (Elt Ideal) XW) k.val (2048 * t.val + (512 * b + j.val)) := by
  subst e
  refine (slot_block n b hb (slotC c XW n t) inb k j).trans ?_
  refine (congrFun (View.read_writes_whole (Val := Elt Ideal) (rslot n).view (rslot n).view.junk (payload c XW t))
    (ValueIdx.ix2 k (⟨512 * b + j.val, by omega⟩ : Fin 2048))).trans ?_
  refine (at2_of (aW.view.read (Elt Ideal) XW) ((Rect.unit (s := S3840x100352) (tileOff t) S3840x2048.size (tileOff_inb t)).toLoadRect.idx
    (ValueIdx.ix2 k (⟨512 * b + j.val, by omega⟩ : Fin 2048))) ?_ ?_).symm
  · show k.val = 0 + 1 * k.val; omega
  · show _ = 2048 * t.val + 1 * (512 * b + j.val); omega

theorem code_read (XQ : Ct (F := Ideal) aQ) (inb) (r : Fin 384) (k : Fin 3840) :
    (View.readAt (Elt Ideal) aQ.view (Rect.unit (s := S384x3840) ![0, 0] S384x3840.size inb).toLoadRect XQ (ValueIdx.ix2 r k) : EReal)
      = at2 (aQ.view.read (Elt Ideal) XQ) r.val k.val := by
  refine (at2_of (aQ.view.read (Elt Ideal) XQ) ((Rect.unit (s := S384x3840) ![0, 0] S384x3840.size inb).toLoadRect.idx (ValueIdx.ix2 r k)) ?_ ?_).symm
  · show r.val = 0 + 1 * r.val; omega
  · show k.val = 0 + 1 * k.val; omega

/-- One block of one tile. -/
theorem block_tile (XQ : Ct (F := Ideal) aQ) (n b : ℕ) (hb : b < 4) (t : Fin 49) {off : Fin 3 → ℕ} (e : off = ![n % 3, 0, 512 * b]) (inb inb') (r : Fin 384) (j : Fin 512) :
    k0_pay4 (View.readAt (Elt Ideal) aQ.view (Rect.unit (s := S384x3840) ![0, 0] S384x3840.size inb').toLoadRect XQ)
        (View.readAt (Elt Ideal) aR.view (Rect.unit (s := S3x3840x2048) off S1x3840x512.size inb).toLoadRect (slotC c XW n t)) (ValueIdx.ix2 r j)
      = prod (at2 (aQ.view.read (Elt Ideal) XQ)) (at2 (aW.view.read (Elt Ideal) XW)) r.val (2048 * t.val + (512 * b + j.val)) := by
  rw [block_prod]
  refine Finset.sum_congr rfl fun k _ => ?_
  rw [slot_read c XW n b hb t e inb k j, code_read]

end Slot

/-- A buffer filled by four blocks of 512 columns. -/
theorem filled {sig : RefSig} {κ : Kind} {sp : Space} (v : View sig κ sp S384x2048 .f32) (f : v.ty.Contents (Elt Ideal))
    (p : ℕ → View.Piece (Elt Ideal) S384x2048 .f32) (T : ℕ) (hT : T = 4) (G : ℕ → ℕ → EReal)
    (hp : ∀ k, k < 4 → ∃ off inb w, off = ![0, 512 * k] ∧ p k = ⟨Rect.unit off S384x512.size inb, w⟩
      ∧ ∀ (r : Fin 384) (j : Fin 512), w (ValueIdx.ix2 r j) = G r.val (512 * k + j.val))
    (r j : ℕ) (hr : r < 384) (hj : j < 2048) : at2 (v.read (Elt Ideal) (v.writes (Elt Ideal) f (pieces p T))) r j = G r j := by
  subst hT
  obtain ⟨off, inb, w, e, h1, h2⟩ := hp (j / 512) (by omega)
  have hw := h2 ⟨r, hr⟩ ⟨j % 512, by omega⟩
  rw [show 512 * (j / 512) + (⟨j % 512, by omega⟩ : Fin 512).val = j by show 512 * (j / 512) + j % 512 = j; omega] at hw
  rw [← hw, at2_of _ (ValueIdx.ix2 (⟨r, hr⟩ : Fin 384) (⟨j, hj⟩ : Fin 2048)) rfl rfl]
  refine read_pieces v f p 1 4 (j / 512) (by omega) _ ?_ off _ inb w h1 (ValueIdx.ix2 (⟨r, hr⟩ : Fin 384) (⟨j % 512, by omega⟩ : Fin 512)) ?_
  · intro k hk hne
    obtain ⟨off', inb', w', e', h1', -⟩ := hp k hk
    refine ⟨off', _, inb', w', h1', ?_⟩
    subst e'
    show j < 512 * k ∨ 512 * k + 512 ≤ j
    omega
  · intro a
    subst e
    match a with
    | ⟨0, _⟩ => show r = 0 + r; omega
    | ⟨1, _⟩ => show j = 512 * (j / 512) + j % 512; omega

section Acc
variable (c : Dev nD) (v : FVec Ideal S384x128 .f32) (XW : Buf (Elt Ideal) (aW.view.loc (c : Thread nD τ))) (XS : Ct (F := Ideal) aS) (XN : Ct (F := Ideal) aN)
  (XQ : Ct (F := Ideal) aQ) (XD : Ct (F := Ideal) aD) (XX : Ct (F := Ideal) aX)

/-- The first accumulator at tile 0; -/
theorem first_at (r j : ℕ) (hr : r < 384) (hj : j < 2048) :
    at2 (aA.view.read (Elt Ideal) (aA.view.writes (Elt Ideal) aA.view.junk (pieces (p3 c v XQ (slotC c XW 0 (tl 0))) k0_t3_loop.trips))) r j
    = prod (at2 (aQ.view.read (Elt Ideal) XQ)) (at2 (aW.view.read (Elt Ideal) XW)) r (2048 * 0 + j) := by
  refine filled _ _ _ _ (by decide) (fun r j => prod (at2 (aQ.view.read (Elt Ideal) XQ)) (at2 (aW.view.read (Elt Ideal) XW)) r (2048 * 0 + j)) ?_ r j hr hj
  intro k hk
  have hk' : k < k0_t3_loop.trips := hk
  refine ⟨_, _, _, k0_off11_eq ⟨k, hk'⟩, p3_eq c _ _ _ ⟨k, hk'⟩, fun r j => ?_⟩
  have h := block_tile c XW XQ 0 k hk (tl 0) (show k0_off10 ⟨k, hk'⟩ = ![0 % 3, 0, 512 * k] from k0_off10_eq ⟨k, hk'⟩) (k0_off10_inb ⟨k, hk'⟩) inb_S384x3840_S384x3840_0_0 r j
  rw [tl_val (by omega)] at h
  exact h
theorem acc0_at (r j : ℕ) (hr : r < 384) (hj : j < 2048) : at2 (aA.view.read (Elt Ideal) (acc0 c XW XX)) r j
    = prod (at2 (aQ.view.read (Elt Ideal) (q0 c XX))) (at2 (aW.view.read (Elt Ideal) XW)) r (2048 * 0 + j) := by
  unfold acc0
  exact first_at c k0_pay314 XW (q0 c XX) r j hr hj

/-- the second accumulator; -/
theorem accB_at (k4 : Fin k0_t4_loop.trips) (x : Ct (F := Ideal) aA × LIC Ideal) (r j : ℕ) (hr : r < 384) (hj : j < 2048) :
    at2 (aB.view.read (Elt Ideal) (accB c XW XS XN XQ XD k4 x)) r j
      = prod (at2 (aQ.view.read (Elt Ideal) XQ)) (at2 (aW.view.read (Elt Ideal) XW)) r (2048 * (2 * k4.val + 1) + j) := by
  have h4 : k4.val < 24 := k4.isLt
  unfold accB
  refine filled _ _ _ _ (by decide) (fun r j => prod (at2 (aQ.view.read (Elt Ideal) XQ)) (at2 (aW.view.read (Elt Ideal) XW)) r (2048 * (2 * k4.val + 1) + j)) ?_ r j hr hj
  intro k hk
  have hk' : k < k0_t5_loop.trips := hk
  refine ⟨_, _, _, k0_off19_eq ⟨k, hk'⟩, p5_eq c _ _ _ _ _ _ _ _ _ _ _ ⟨k, hk'⟩, fun r j => ?_⟩
  have h := block_tile c XW XQ (2 * k4.val + 1) k hk (tl (2 * k4.val + 1)) (k0_off18_eq k4 ⟨k, hk'⟩) (k0_off18_inb k4 ⟨k, hk'⟩) inb_S384x3840_S384x3840_0_0 r j
  rw [tl_val (by omega)] at h
  exact h

theorem second_at (k4 : Fin k0_t4_loop.trips) (w9 : BitVec 32) (XB : Ct (F := Ideal) aB) (y : LIC Ideal) (r j : ℕ) (hr : r < 384) (hj : j < 2048) :
    at2 (aA.view.read (Elt Ideal) (aA.view.writes (Elt Ideal) aA.view.junk (pieces (p8 c v k4 w9 XS XN XB XD XQ (slotC c XW (2 * k4.val + 2) (tl (2 * k4.val + 2))) y) k0_t8_loop.trips))) r j
      = prod (at2 (aQ.view.read (Elt Ideal) XQ)) (at2 (aW.view.read (Elt Ideal) XW)) r (2048 * (2 * k4.val + 2) + j) := by
  have h4 : k4.val < 24 := k4.isLt
  refine filled _ _ _ _ (by decide) (fun r j => prod (at2 (aQ.view.read (Elt Ideal) XQ)) (at2 (aW.view.read (Elt Ideal) XW)) r (2048 * (2 * k4.val + 2) + j)) ?_ r j hr hj
  intro k hk
  have hk' : k < k0_t8_loop.trips := hk
  refine ⟨_, _, _, k0_off34_eq ⟨k, hk'⟩, p8_eq c _ _ _ _ _ _ _ _ _ _ ⟨k, hk'⟩, fun r j => ?_⟩
  have h := block_tile c XW XQ (2 * k4.val + 2) k hk (tl (2 * k4.val + 2)) (k0_off33_eq k4 ⟨k, hk'⟩) (k0_off33_inb k4 ⟨k, hk'⟩) inb_S384x3840_S384x3840_0_0 r j
  rw [tl_val (by omega)] at h
  exact h

/-- the first accumulator after a trip; -/
theorem next4_at (k4 : Fin k0_t4_loop.trips) (x : Ct (F := Ideal) aA × LIC Ideal) (r j : ℕ) (hr : r < 384) (hj : j < 2048) :
    at2 (aA.view.read (Elt Ideal) (next4 c v XW XS XN XQ XD k4 x).1) r j
      = prod (at2 (aQ.view.read (Elt Ideal) XQ)) (at2 (aW.view.read (Elt Ideal) XW)) r (2048 * (2 * k4.val + 2) + j) := by
  rw [← next4_eqA c v XW XS XN XQ XD k4 x, fillTo_all aA _ _ x.1 (by decide)]
  exact second_at c v XW XS XN XQ XD k4 (w72 k4) (accB c XW XS XN XQ XD k4 x) (mid4 c XW XS XN XQ XD k4 x) r j hr hj

/-- and the accumulator of the second pass. -/
theorem acc16_at (k16 : Fin k0_t16_loop.trips) (r j : ℕ) (hr : r < 384) (hj : j < 2048) :
    at2 (aA.view.read (Elt Ideal) (acc16 c XW XQ k16)) r j
      = prod (at2 (aQ.view.read (Elt Ideal) XQ)) (at2 (aW.view.read (Elt Ideal) XW)) r (2048 * k16.val + j) := by
  have h4 : k16.val < 49 := k16.isLt
  unfold acc16
  refine filled _ _ _ _ (by decide) (fun r j => prod (at2 (aQ.view.read (Elt Ideal) XQ)) (at2 (aW.view.read (Elt Ideal) XW)) r (2048 * k16.val + j)) ?_ r j hr hj
  intro k hk
  have hk' : k < k0_t17_loop.trips := hk
  refine ⟨_, _, _, k0_off64_eq ⟨k, hk'⟩, p17_eq c _ _ _ ⟨k, hk'⟩, fun r j => ?_⟩
  have h := block_tile c XW XQ k16.val k hk (tl k16.val) (k0_off63_eq k16 ⟨k, hk'⟩) (k0_off63_inb k16 ⟨k, hk'⟩) inb_S384x3840_S384x3840_0_0 r j
  rw [tl_val (by omega)] at h
  exact h

end Acc

end Cert.Value

end
-- ==== Proof.Math.Top.lean ====
/-
  The mathematics of the eight largest: lists as thresholds. A list holds the largest of a family when, for each
  threshold, the number of its entries reaching the threshold is the number of members that do. Inserting a value,
  dropping what falls off the end, and pulling the largest head off many lists are then statements about counts.
-/
module

public import Idealize.ShloMosaic.PureOps.Ideal
public import Mathlib.Algebra.BigOperators.Fin
public import Mathlib.Algebra.Order.BigOperators.Group.Finset
public import Mathlib.Order.Interval.Finset.Fin

@[expose] public section

noncomputable section

namespace Cert.TopMath

open Classical

/-- One more when `x` reaches `c`. -/
def hit (c x : EReal) : ℕ := if c ≤ x then 1 else 0

/-- What an insertion of `x` carries past the first `p` entries: the smaller of the carried value and each entry. -/
def carry (vals : ℕ → EReal) (x : EReal) : ℕ → EReal
  | 0 => x
  | p + 1 => min (carry vals x p) (vals p)
/-- The list after the insertion: the larger of the carried value and the entry. -/
def ins (vals : ℕ → EReal) (x : EReal) (p : ℕ) : EReal := max (carry vals x p) (vals p)

/-- The first `D` entries are in descending order. -/
def Desc (D : ℕ) (vals : ℕ → EReal) : Prop := ∀ p, p + 1 < D → vals (p + 1) ≤ vals p

theorem Desc.le {D : ℕ} {vals : ℕ → EReal} (h : Desc D vals) {p q : ℕ} (hpq : p ≤ q) (hq : q < D) : vals q ≤ vals p := by
  induction q with
  | zero => obtain rfl : p = 0 := by omega
            exact le_rfl
  | succ q ih =>
    rcases Nat.lt_or_ge q p with h1 | h1
    · obtain rfl : p = q + 1 := by omega
      exact le_rfl
    · exact (h q hq).trans (ih h1 (by omega))

theorem carry_succ {D : ℕ} {vals : ℕ → EReal} (h : Desc D vals) (x : EReal) (p : ℕ) (hp : p < D) :
    carry vals x (p + 1) = min x (vals p) := by
  induction p with
  | zero => rfl
  | succ p ih =>
    rw [carry, ih (by omega), min_assoc, min_eq_right (h p hp)]

theorem ins_zero (vals : ℕ → EReal) (x : EReal) : ins vals x 0 = max x (vals 0) := rfl
theorem ins_succ {D : ℕ} {vals : ℕ → EReal} (h : Desc D vals) (x : EReal) (p : ℕ) (hp : p + 1 < D) :
    ins vals x (p + 1) = max (min x (vals p)) (vals (p + 1)) := by
  rw [ins, carry_succ h x p (by omega)]

theorem Desc.ins {D : ℕ} {vals : ℕ → EReal} (h : Desc D vals) (x : EReal) : Desc D (ins vals x) := by
  intro p hp
  rw [ins_succ h x p hp]
  cases p with
  | zero => rw [ins_zero]; exact max_le (min_le_left _ _ |>.trans (le_max_left _ _)) ((h 0 hp).trans (le_max_right _ _))
  | succ p =>
    rw [ins_succ h x p (by omega)]
    exact max_le ((min_le_right _ _).trans (le_max_right _ _)) ((h _ hp).trans (le_max_right _ _))

/-- Inserted below its first entry, a value no larger than the first entry leaves the first entry. -/
theorem ins_le {vals : ℕ → EReal} {x : EReal} (hx : x ≤ vals 0) : ins vals x 0 = vals 0 ∧ carry vals x 1 = x :=
  ⟨max_eq_right hx, min_eq_left hx⟩

/-- The list's first `D` entries count the members of the family that reach each threshold above `low`; `cnt c` of
    them, and no more than the list holds. -/
structure Exact (D : ℕ) (vals : ℕ → EReal) (low : EReal) (cnt : EReal → ℕ) : Prop where
  desc : Desc D vals
  le : ∀ c, low < c → cnt c ≤ D
  iff : ∀ c, low < c → ∀ p, p < D → (c ≤ vals p ↔ p < cnt c)

theorem ins_iff {D : ℕ} {vals : ℕ → EReal} (h : Desc D vals) {x c : EReal} {n : ℕ} (hn : ∀ p, p < D → (c ≤ vals p ↔ p < n)) (p : ℕ) (hp : p < D) :
    c ≤ ins vals x p ↔ p < n + hit c x := by
  unfold hit
  cases p with
  | zero =>
    rw [ins_zero, le_max_iff, hn 0 hp]
    split_ifs with hc
    · simp [hc]
    · simp [hc]
  | succ p =>
    rw [ins_succ h x p hp, le_max_iff, le_min_iff, hn (p + 1) hp, hn p (by omega)]
    split_ifs with hc
    · simp only [hc, true_and]; omega
    · simp only [hc, false_and, false_or]; omega

theorem Exact.empty (D : ℕ) : Exact D (fun _ => ⊥) ⊥ (fun _ => 0) where
  desc := fun _ _ => le_rfl
  le := fun _ _ => Nat.zero_le _
  iff := fun c hc p _ => by simp [hc.ne']

/-- Inserting `x`, with `low'` at least what fell off the end and at least `low`. -/
theorem Exact.insert {D : ℕ} {vals : ℕ → EReal} {low : EReal} {cnt : EReal → ℕ} (h : Exact D vals low cnt) (x : EReal)
    {low' : EReal} (h1 : low ≤ low') (h2 : carry vals x D ≤ low') (hD : 0 < D) :
    Exact D (ins vals x) low' (fun c => cnt c + hit c x) where
  desc := h.desc.ins x
  iff := fun c hc p hp => ins_iff h.desc (h.iff c (h1.trans_lt hc)) p hp
  le := fun c hc => by
    have hle := h.le c (h1.trans_lt hc)
    unfold hit
    split_ifs with hx
    · obtain ⟨d, rfl⟩ : ∃ d, D = d + 1 := ⟨D - 1, by omega⟩
      rw [carry_succ h.desc x d (by omega)] at h2
      have : ¬ c ≤ vals d := fun hv => absurd ((le_min hx hv).trans h2) (not_le.2 hc)
      rw [h.iff c (h1.trans_lt hc) d (by omega)] at this
      show cnt c + 1 ≤ d + 1
      omega
    · simpa using hle

theorem Exact.mono {D : ℕ} {vals : ℕ → EReal} {low low' : EReal} {cnt : EReal → ℕ} (h : Exact D vals low cnt) (h1 : low ≤ low') :
    Exact D vals low' cnt := ⟨h.desc, fun c hc => h.le c (h1.trans_lt hc), fun c hc => h.iff c (h1.trans_lt hc)⟩

theorem Exact.congr {D : ℕ} {vals vals' : ℕ → EReal} {low : EReal} {cnt cnt' : EReal → ℕ} (h : Exact D vals low cnt)
    (hv : ∀ p, p < D → vals' p = vals p) (hc : ∀ c, low < c → cnt' c = cnt c) : Exact D vals' low cnt' where
  desc := fun p hp => by rw [hv _ hp, hv _ (by omega)]; exact h.desc p hp
  le := fun c h1 => by rw [hc c h1]; exact h.le c h1
  iff := fun c h1 p hp => by rw [hc c h1, hv p hp]; exact h.iff c h1 p hp

/-- A list of the `D` largest, whatever fell off. -/
structure Largest (D : ℕ) (vals : ℕ → EReal) (cnt : EReal → ℕ) : Prop where
  desc : Desc D vals
  iff : ∀ c, ⊥ < c → ∀ p, p < D → (c ≤ vals p ↔ p < cnt c)
theorem Largest.empty (D : ℕ) : Largest D (fun _ => ⊥) (fun _ => 0) where
  desc := fun _ _ => le_rfl
  iff := fun c hc p _ => by simp [hc.ne']
theorem Largest.insert {D : ℕ} {vals : ℕ → EReal} {cnt : EReal → ℕ} (h : Largest D vals cnt) (x : EReal) :
    Largest D (ins vals x) (fun c => cnt c + hit c x) where
  desc := h.desc.ins x
  iff := fun c hc p hp => ins_iff h.desc (h.iff c hc) p hp
theorem Largest.congr {D : ℕ} {vals vals' : ℕ → EReal} {cnt cnt' : EReal → ℕ} (h : Largest D vals cnt)
    (hv : ∀ p, p < D → vals' p = vals p) (hc : ∀ c, cnt' c = cnt c) : Largest D vals' cnt' where
  desc := fun p hp => by rw [hv _ hp, hv _ (by omega)]; exact h.desc p hp
  iff := fun c h1 p hp => by rw [hc c, hv p hp]; exact h.iff c h1 p hp

/-! ## Pulling the largest off many lists -/

/-- The entries of a list of depth `D` that reach `c`. -/
def count (D : ℕ) (vals : ℕ → EReal) (c : EReal) : ℕ := ((Finset.range D).filter (fun p => c ≤ vals p)).card

/-- The list with its head gone: the entries one place up, `⊥` in the last. -/
def shift (D : ℕ) (vals : ℕ → EReal) (p : ℕ) : EReal := if p + 1 < D then vals (p + 1) else ⊥

theorem count_eq {D : ℕ} {vals : ℕ → EReal} {c : EReal} {n : ℕ} (h : ∀ p, p < D → (c ≤ vals p ↔ p < n)) : count D vals c = min D n := by
  unfold count
  rw [show (Finset.range D).filter (fun p => c ≤ vals p) = Finset.range (min D n) by
    ext p; simp only [Finset.mem_filter, Finset.mem_range, lt_min_iff]
    exact ⟨fun ⟨a, b⟩ => ⟨a, (h p a).1 b⟩, fun ⟨a, b⟩ => ⟨a, (h p a).2 b⟩⟩, Finset.card_range]

theorem count_shift {D : ℕ} {vals : ℕ → EReal} (hD : 0 < D) {c : EReal} (hc : ⊥ < c) (h : Desc D vals) :
    count D vals c = count D (shift D vals) c + hit c (vals 0) := by
  obtain ⟨d, rfl⟩ : ∃ d, D = d + 1 := ⟨D - 1, by omega⟩
  unfold count hit
  simp only [Finset.card_filter]
  rw [Finset.sum_range_succ', Finset.sum_range_succ (fun p => if c ≤ shift (d + 1) vals p then 1 else 0)]
  have e2 : ¬ c ≤ shift (d + 1) vals d := by
    unfold shift; rw [if_neg (by omega)]; exact not_le.2 hc
  rw [if_neg e2, Nat.add_zero]
  congr 1
  refine Finset.sum_congr rfl fun p hp => ?_
  have := Finset.mem_range.1 hp
  have e : shift (d + 1) vals p = vals (p + 1) := if_pos (by omega)
  rw [e]

theorem Desc.shift {D : ℕ} {vals : ℕ → EReal} (h : Desc D vals) : Desc D (shift D vals) := by
  intro p hp
  unfold TopMath.shift
  rw [if_pos hp]
  split_ifs with h1
  · exact h _ h1
  · exact bot_le

section Pull
variable {ι : Type} [Fintype ι] (D : ℕ)

/-- The entries of all the lists that reach `c`. -/
def total (v : ι → ℕ → EReal) (c : EReal) : ℕ := ∑ l, count D (v l) c

/-- Lists after the heads at `l0` are shifted off, where `l0`'s head is the largest: one fewer reaches each threshold
    the head reaches. -/
theorem total_pull (hD : 0 < D) {v v' : ι → ℕ → EReal} (hd : ∀ l, Desc D (v l)) (best : EReal) (hb : ∀ l, v l 0 ≤ best)
    (l0 : ι) (h0 : v l0 0 = best) (hv : ∀ l, v' l = if l = l0 then shift D (v l) else v l) {c : EReal} (hc : ⊥ < c) :
    total D v c = total D v' c + hit c best := by
  unfold total
  rw [← Finset.add_sum_erase _ _ (Finset.mem_univ l0), ← Finset.add_sum_erase Finset.univ (fun l => count D (v' l) c) (Finset.mem_univ l0)]
  rw [show ∑ l ∈ Finset.univ.erase l0, count D (v l) c = ∑ l ∈ Finset.univ.erase l0, count D (v' l) c from
    Finset.sum_congr rfl fun l hl => by rw [hv, if_neg (Finset.ne_of_mem_erase hl)]]
  rw [hv l0, if_pos rfl, count_shift hD hc (hd l0), h0]
  omega

theorem best_iff (hD : 0 < D) {v : ι → ℕ → EReal} (hd : ∀ l, Desc D (v l)) (best : EReal) (hb : ∀ l, v l 0 ≤ best)
    (hex : ∃ l, v l 0 = best) (c : EReal) : c ≤ best ↔ 0 < total D v c := by
  constructor
  · intro hc
    obtain ⟨l, hl⟩ := hex
    refine lt_of_lt_of_le ?_ (Finset.single_le_sum (f := fun l => count D (v l) c) (fun _ _ => Nat.zero_le _) (Finset.mem_univ l))
    refine Finset.card_pos.2 ⟨0, ?_⟩
    simp [hD, hl, hc]
  · intro h
    obtain ⟨l, -, hl⟩ := Finset.exists_ne_zero_of_sum_ne_zero (by unfold total at h; omega : (∑ l, count D (v l) c) ≠ 0)
    obtain ⟨p, hp⟩ := Finset.card_pos.1 (Nat.pos_of_ne_zero hl)
    simp only [Finset.mem_filter, Finset.mem_range] at hp
    exact hp.2.trans (((hd l).le (Nat.zero_le p) hp.1).trans (hb l))

/-- The successive pulls: the `k`-th value pulled reaches `c` exactly when more than `k` entries do. -/
theorem pulls (hD : 0 < D) (v : ℕ → ι → ℕ → EReal) (best : ℕ → EReal) (K : ℕ) (hd : ∀ l, Desc D (v 0 l))
    (hb : ∀ k, k < K → ∀ l, v k l 0 ≤ best k) (hex : ∀ k, k < K → ∃ l, v k l 0 = best k)
    (hv : ∀ k, k < K → ⊥ < best k → ∃ l0, v k l0 0 = best k ∧ ∀ l, v (k + 1) l = if l = l0 then shift D (v k l) else v k l)
    (hbot : ∀ k, k < K → best k = ⊥ → ∀ l, v (k + 1) l = v k l ∨ v (k + 1) l = shift D (v k l)) :
    ∀ k, k < K → ∀ c, ⊥ < c → (c ≤ best k ↔ k < total D (v 0) c) := by
  have key : ∀ k, k ≤ K → (∀ l, Desc D (v k l)) ∧ ∀ c, ⊥ < c → total D (v k) c = total D (v 0) c - k := by
    intro k
    induction k with
    | zero => exact fun _ => ⟨hd, fun c _ => by simp⟩
    | succ k ih =>
      intro hk
      obtain ⟨h1, h2⟩ := ih (by omega)
      rcases eq_or_ne (best k) ⊥ with h0 | h0
      · refine ⟨fun l => ?_, fun c hc => ?_⟩
        · rcases hbot k hk h0 l with e | e <;> rw [e]
          · exact h1 l
          · exact (h1 l).shift
        · have e0 : total D (v k) c = 0 := by
            have := (best_iff D hD h1 (best k) (hb k hk) (hex k hk) c).not.1 (by rw [h0]; exact not_le.2 hc)
            omega
          have e1 : total D (v (k + 1)) c = 0 := by
            have hh : ∀ l, count D (v (k + 1) l) c ≤ count D (v k l) c := fun l => by
              rcases hbot k hk h0 l with e | e <;> rw [e]
              rw [count_shift hD hc (h1 l)]; omega
            have := Finset.sum_le_sum (fun l (_ : l ∈ Finset.univ) => hh l)
            unfold total at e0 ⊢; omega
          have := h2 c hc
          omega
      · obtain ⟨l0, hl0, hv0⟩ := hv k hk (bot_lt_iff_ne_bot.2 h0)
        refine ⟨fun l => ?_, fun c hc => ?_⟩
        · rw [hv0]; split_ifs
          · exact (h1 l).shift
          · exact h1 l
        · have e := total_pull D hD h1 (best k) (hb k hk) l0 hl0 hv0 hc
          have e2 := best_iff D hD h1 (best k) (hb k hk) (hex k hk) c
          have := h2 c hc
          unfold hit at e
          split_ifs at e with hcb
          · omega
          · rw [e2] at hcb; omega
  intro k hk c hc
  obtain ⟨h1, h2⟩ := key k hk.le
  rw [best_iff D hD h1 (best k) (hb k hk) (hex k hk) c, h2 c hc]
  omega

end Pull

/-! ## The lists of a row against the row -/

section Row
variable {ι : Type} [Fintype ι]

/-- Lists of the eight largest: the eight pulled are the eight largest of all. -/
theorem slow_row (v : ι → ℕ → EReal) (cnt : ι → EReal → ℕ) (h : ∀ l, Largest 8 (v l) (cnt l)) (k : ℕ) (hk : k < 8) (c : EReal) (hc : ⊥ < c) :
    k < total 8 v c ↔ k < ∑ l, cnt l c := by
  have e : ∀ l, count 8 (v l) c = min 8 (cnt l c) := fun l => count_eq ((h l).iff c hc)
  unfold total
  rw [Finset.sum_congr rfl fun l _ => e l]
  by_cases hh : ∃ l, 8 < cnt l c
  · obtain ⟨l, hl⟩ := hh
    have a := Finset.single_le_sum (f := fun l => min 8 (cnt l c)) (fun _ _ => Nat.zero_le _) (Finset.mem_univ l)
    have b := Finset.single_le_sum (f := fun l => cnt l c) (fun _ _ => Nat.zero_le _) (Finset.mem_univ l)
    constructor <;> intro _ <;> omega
  · simp only [not_exists, not_lt] at hh
    rw [Finset.sum_congr rfl fun l _ => min_eq_right (hh l)]

/-- Lists exact above `low l`, when every `low l` is below the eighth value pulled. -/
theorem fast_row (v : ι → ℕ → EReal) (low : ι → EReal) (cnt : ι → EReal → ℕ) (h : ∀ l, Exact 4 (v l) (low l) (cnt l))
    (hmono : ∀ l c c', c ≤ c' → cnt l c' ≤ cnt l c) (best : ℕ → EReal)
    (hbest : ∀ k, k < 8 → ∀ c, ⊥ < c → (c ≤ best k ↔ k < total 4 v c)) (hlow : ∀ l, low l < best 7) (k : ℕ) (hk : k < 8) (c : EReal) (hc : ⊥ < c) :
    c ≤ best k ↔ k < ∑ l, cnt l c := by
  have e : ∀ c, (∀ l, low l < c) → total 4 v c = ∑ l, cnt l c := fun c hl =>
    Finset.sum_congr rfl fun l _ => by rw [count_eq ((h l).iff c (hl l)), min_eq_right ((h l).le c (hl l))]
  by_cases hl : ∀ l, low l < c
  · rw [hbest k hk c hc, e c hl]
  · simp only [not_forall, not_lt] at hl
    obtain ⟨l, hl⟩ := hl
    have hb : ⊥ < best 7 := bot_le.trans_lt (hlow l)
    have h7 := (hbest 7 (by omega) (best 7) hb).1 le_rfl
    have hk7 : best 7 ≤ best k := (hbest k hk (best 7) hb).2 (by omega)
    have hcb : c ≤ best 7 := hl.trans (hlow l).le
    refine ⟨fun _ => ?_, fun _ => hcb.trans hk7⟩
    rw [e _ hlow] at h7
    have := Finset.sum_le_sum (fun l (_ : l ∈ Finset.univ) => hmono l c (best 7) hcb)
    omega

/-- Two values that reach the same thresholds above `⊥` are equal. -/
theorem eq_of_thresholds {a b : EReal} (h : ∀ c, ⊥ < c → (c ≤ a ↔ c ≤ b)) : a = b := by
  apply le_antisymm
  · rcases eq_or_ne a ⊥ with e | e
    · rw [e]; exact bot_le
    · exact (h a (bot_lt_iff_ne_bot.2 e)).1 le_rfl
  · rcases eq_or_ne b ⊥ with e | e
    · rw [e]; exact bot_le
    · exact (h b (bot_lt_iff_ne_bot.2 e)).2 le_rfl

/-- In a list sorted downwards by `σ`, the `k`-th value reaches `c` exactly when more than `k` members do. -/
theorem sorted_iff {n : ℕ} (L : Fin n → EReal) (σ : Fin n → Fin n) (hσ : Function.Bijective σ)
    (hs : ∀ a b : Fin n, a ≤ b → L (σ b) ≤ L (σ a)) (k : Fin n) (c : EReal) :
    c ≤ L (σ k) ↔ k.val < (Finset.univ.filter (fun x => c ≤ L x)).card := by
  have e : (Finset.univ.filter (fun x => c ≤ L x)).card = (Finset.univ.filter (fun a => c ≤ L (σ a))).card := by
    symm
    refine Finset.card_bij (fun a _ => σ a) (fun a ha => ?_) (fun a _ b _ h => hσ.1 h) (fun x hx => ?_)
    · simpa using ha
    · obtain ⟨a, rfl⟩ := hσ.2 x
      exact ⟨a, by simpa using hx, rfl⟩
  rw [e]
  constructor
  · intro h
    have : (Finset.univ.filter (fun a : Fin n => a ≤ k)) ⊆ Finset.univ.filter (fun a => c ≤ L (σ a)) := by
      intro a ha; simp only [Finset.mem_filter, Finset.mem_univ, true_and] at ha ⊢; exact h.trans (hs a k ha)
    have := Finset.card_le_card this
    rw [show (Finset.univ.filter (fun a : Fin n => a ≤ k)) = Finset.Iic k by ext; simp, Fin.card_Iic] at this
    omega
  · intro h
    by_contra hc
    have : Finset.univ.filter (fun a => c ≤ L (σ a)) ⊆ (Finset.univ.filter (fun a : Fin n => a < k)) := by
      intro a ha; simp only [Finset.mem_filter, Finset.mem_univ, true_and] at ha ⊢
      by_contra hk; exact hc (ha.trans (hs k a (not_lt.1 hk)))
    have := Finset.card_le_card this
    rw [show (Finset.univ.filter (fun a : Fin n => a < k)) = Finset.Iio k by ext; simp, Fin.card_Iio] at this
    omega

end Row

end Cert.TopMath

end
-- ==== Proof.Value.Group.lean ====
/-
  A group of sixteen values entered in a list of four: the best and the second best inserted, the third best kept as a
  bound, with the scalar steps as the kernel computes them. Also slab numbers: small natural numbers as extended reals.
-/
module

public import proofs.«01_k».proof.Proof.Math.Top
public import Idealize.ShloMosaic.Lib.IdealHost

@[expose] public section

noncomputable section

namespace Cert.Value

open Cert.TopMath Idealize.ShloMosaic

/-- A natural number below `b`. -/
def NatB (b : ℕ) (i : EReal) : Prop := ∃ n : ℕ, n < b ∧ i = ((n : ℝ) : EReal)

theorem NatB.of_eq {b : ℕ} {x y : EReal} (h : x = y) (hy : NatB b y) : NatB b x := h ▸ hy

theorem NatB.select {b : ℕ} {x y : EReal} (hx : NatB b x) (hy : NatB b y) (c : BitVec 1) : NatB b (Scalar.select c x y) := by
  unfold Scalar.select; split
  · exact hx
  · exact hy
theorem NatB.add {b b' b'' : ℕ} {x y : EReal} (hx : NatB b x) (hy : NatB b' y) (h : b + b' ≤ b'' + 1) : NatB b'' (x + y) := by
  obtain ⟨n, hn, rfl⟩ := hx
  obtain ⟨m, hm, rfl⟩ := hy
  exact ⟨n + m, by omega, by push_cast; rfl⟩

/-- The list of two values. -/
def two (x y : EReal) (p : ℕ) : EReal := if p = 0 then x else y
/-- The list of four values. -/
def four (a b c d : EReal) (p : ℕ) : EReal := if p = 0 then a else if p = 1 then b else if p = 2 then c else d

/-- Two values: the larger and the smaller. -/
theorem two_start (x0 x1 : EReal) : Exact 2 (two (max x0 x1) (min x0 x1)) ⊥ (fun c => hit c x0 + hit c x1) := by
  have h0 := (Exact.empty 2).insert x0 (low' := ⊥) le_rfl (by simp [carry]) (by omega)
  have h1 := h0.insert x1 (low' := ⊥) le_rfl (by simp [carry, ins]) (by omega)
  refine h1.congr (fun p hp => ?_) (fun c _ => by simp)
  interval_cases p
  · simp [two, ins, carry, max_comm]
  · simp [two, ins, carry, min_comm]

/-- One more value. -/
theorem two_step {m1 m2 m3 : EReal} {cnt : EReal → ℕ} (h : Exact 2 (two m1 m2) m3 cnt) (x : EReal) :
    Exact 2 (two (max m1 x) (max m2 (min m1 x))) (max m3 (min m2 (min m1 x))) (fun c => cnt c + hit c x) := by
  have h1 := h.insert x (low' := max m3 (min m2 (min m1 x))) (le_max_left _ _)
    (by show min (min x m1) m2 ≤ _; rw [min_comm x m1, min_comm _ m2]; exact le_max_right _ _) (by omega)
  refine h1.congr (fun p hp => ?_) (fun c _ => rfl)
  interval_cases p
  · show max m1 x = max x m1; exact max_comm _ _
  · show max m2 (min m1 x) = max (min x m1) m2; rw [min_comm x m1, max_comm]

/-- The list of four with the best and the second best of a group inserted. -/
theorem group_step {v0 v1 v2 v3 low m1 m2 m3 : EReal} {cnt cg : EReal → ℕ} (h : Exact 4 (four v0 v1 v2 v3) low cnt) (hg : Exact 2 (two m1 m2) m3 cg) :
    Exact 4 (four (max m1 v0) (max m2 (max (min m1 v0) v1)) (max (min m2 (max (min m1 v0) v1)) (max (min (min m1 v0) v1) v2))
      (max (min (min m2 (max (min m1 v0) v1)) (max (min (min m1 v0) v1) v2)) (max (min (min (min m1 v0) v1) v2) v3)))
      (max (max low m3) (max (min (min (min (min m1 v0) v1) v2) v3)
        (min (min (min m2 (max (min m1 v0) v1)) (max (min (min m1 v0) v1) v2)) (max (min (min (min m1 v0) v1) v2) v3))))
      (fun c => cnt c + cg c) := by
  have h21 : m2 ≤ m1 := hg.desc 0 (by omega)
  have hc : ∀ c, m3 < c → cg c = hit c m1 + hit c m2 := by
    intro c hc
    have i0 := hg.iff c hc 0 (by omega)
    have i1 := hg.iff c hc 1 (by omega)
    have hl := hg.le c hc
    change (c ≤ m1 ↔ _) at i0
    change (c ≤ m2 ↔ _) at i1
    unfold hit
    split_ifs <;> simp_all <;> omega
  generalize hlow : max (max low m3) (max (min (min (min (min m1 v0) v1) v2) v3)
        (min (min (min m2 (max (min m1 v0) v1)) (max (min (min m1 v0) v1) v2)) (max (min (min (min m1 v0) v1) v2) v3))) = low'
  have e1 : low ≤ low' := by rw [← hlow]; exact (le_max_left _ _).trans (le_max_left _ _)
  have e2 : m3 ≤ low' := by rw [← hlow]; exact (le_max_right _ _).trans (le_max_left _ _)
  have e3 : (min (min (min (min m1 v0) v1) v2) v3) ≤ low' := by rw [← hlow]; exact (le_max_left _ _).trans (le_max_right _ _)
  have e4 : (min (min (min m2 (max (min m1 v0) v1)) (max (min (min m1 v0) v1) v2)) (max (min (min (min m1 v0) v1) v2) v3)) ≤ low' := by
    rw [← hlow]; exact (le_max_right _ _).trans (le_max_right _ _)
  have hm : min m2 (max m1 v0) = m2 := min_eq_left (h21.trans (le_max_left _ _))
  have h1 := h.insert m1 (low' := low') e1 e3 (by omega)
  have h2 := h1.insert m2 (low' := low') le_rfl (by
    show min (min (min (min m2 (max m1 v0)) (max (min m1 v0) v1)) (max (min (min m1 v0) v1) v2)) (max (min (min (min m1 v0) v1) v2) v3) ≤ low'
    rw [hm]; exact e4) (by omega)
  refine h2.congr (fun p hp => ?_) (fun c hcc => ?_)
  · interval_cases p
    · show max m1 v0 = max m2 (max m1 v0); rw [max_eq_right (h21.trans (le_max_left _ _))]
    · show _ = max (min m2 (max m1 v0)) (max (min m1 v0) v1); rw [hm]; rfl
    · show _ = max (min (min m2 (max m1 v0)) (max (min m1 v0) v1)) (max (min (min m1 v0) v1) v2); rw [hm]; rfl
    · show _ = max (min (min (min m2 (max m1 v0)) (max (min m1 v0) v1)) (max (min (min m1 v0) v1) v2)) (max (min (min (min m1 v0) v1) v2) v3); rw [hm]; rfl
  · show cnt c + cg c = cnt c + hit c m1 + hit c m2
    rw [hc c (e2.trans_lt hcc)]; omega

end Cert.Value

end
-- ==== Proof.Value.Lists.lean ====
/-
  What the fold keeps per row and lane: the logit of a slab, the three running values of a group, and the list of four
  with its bound.
-/
module

public import proofs.«01_k».proof.Proof.KernelIdeal.Body
public import proofs.«01_k».proof.Proof.Value.Group
public import proofs.«01_k».proof.Proof.Value.Read

@[expose] public section

set_option maxRecDepth 16384

noncomputable section

namespace Cert.Value

open Idealize.ShloMosaic Idealize.ShloMosaic.TcCoe Idealize.ShloMosaic.ValueIdx Cert.TopMath
open Cert.KernelIdeal Cert.KernelIdeal.Gen Cert.KernelIdeal.Hand

/-- The logit of row `r`, lane `l`, slab `j`: the product scaled by the row's and the column's scale, plus the bias. -/
def lgt (A D S N : ℕ → ℕ → EReal) (base r l j : ℕ) : EReal :=
  A r (128 * j + l) * D r l * S 0 (base + (128 * j + l)) + N 0 (base + (128 * j + l))

/-- The same list under other names. -/
theorem _root_.Cert.TopMath.Exact.congr' {a b c d low a' b' c' d' low' : EReal} {cnt : EReal → ℕ} (h : Exact 4 (four a b c d) low cnt)
    (ha : a' = a) (hb : b' = b) (hc : c' = c) (hd : d' = d) (hl : low' = low) : Exact 4 (four a' b' c' d') low' cnt := by
  subst ha hb hc hd hl; exact h

/-- A group's running vectors at a row and lane: the best two values exact above the third, and their slabs small. -/
structure Two (a : V5 Ideal) (i : S8x128.Idx) (cnt : EReal → ℕ) : Prop where
  exact : Exact 2 (two (a.1 i) (a.2.2.1 i)) (a.2.2.2.2 i) cnt
  nat1 : NatB 16 (a.2.1 i)
  nat2 : NatB 16 (a.2.2.2.1 i)
theorem Two.congr {a : V5 Ideal} {i : S8x128.Idx} {cnt cnt' : EReal → ℕ} (h : Two a i cnt) (hc : ∀ t, cnt' t = cnt t) : Two a i cnt' := by
  rw [show cnt' = cnt from funext hc]; exact h

/-- The lists at row `r`, lane `l`: four values exact above the bound for the family counted by `cnt`, and small slab
    numbers. -/
structure Good (x : LIC Ideal) (r l : ℕ) (cnt : EReal → ℕ) : Prop where
  exact : Exact 4 (four (at3 (aL.view.read (Elt Ideal) x.1) 0 r l) (at3 (aL.view.read (Elt Ideal) x.1) 1 r l) (at3 (aL.view.read (Elt Ideal) x.1) 2 r l) (at3 (aL.view.read (Elt Ideal) x.1) 3 r l))
    (at2 (aC.view.read (Elt Ideal) x.2.2) r l) cnt
  nat : ∀ p, p < 4 → NatB 1024 (at3 (aI.view.read (Elt Ideal) x.2.1) p r l)
theorem Good.congr {x : LIC Ideal} {r l : ℕ} {cnt cnt' : EReal → ℕ} (h : Good x r l cnt) (hc : ∀ t, cnt' t = cnt t) : Good x r l cnt' := by
  rw [show cnt' = cnt from funext hc]; exact h

theorem Good.of_eq {x y : LIC Ideal} {r l : ℕ} {cnt : EReal → ℕ} (h : Good x r l cnt)
    (h1 : ∀ p, at3 (aL.view.read (Elt Ideal) y.1) p r l = at3 (aL.view.read (Elt Ideal) x.1) p r l)
    (h2 : ∀ p, at3 (aI.view.read (Elt Ideal) y.2.1) p r l = at3 (aI.view.read (Elt Ideal) x.2.1) p r l)
    (h3 : at2 (aC.view.read (Elt Ideal) y.2.2) r l = at2 (aC.view.read (Elt Ideal) x.2.2) r l) : Good y r l cnt where
  exact := by rw [h1, h1, h1, h1, h3]; exact h.exact
  nat := fun p hp => by rw [h2]; exact h.nat p hp

theorem slab_nat (k : ℕ) (hk : k < 14) : NatB 16 (Scalar.sitofp (F := Ideal) .f32 (Scf.iv 2#32 1#32 k)) := by
  refine ⟨k + 2, by omega, ?_⟩
  have e : (Scf.iv 2#32 1#32 k).toInt = ((k + 2 : ℕ) : ℤ) := by
    interval_cases k <;> decide
  show (((Scf.iv 2#32 1#32 k).toInt : ℝ) : EReal) = _
  rw [e]; norm_cast
theorem nat_zero : NatB 16 (Ideal.ofBits .f32 0x00000000#32) := ⟨0, by omega, by rw [Ideal.ofBits_zero_f32]; norm_num⟩
theorem nat_one : NatB 16 (Ideal.ofBits .f32 0x3F800000#32) := ⟨1, by omega, by rw [Ideal.ofBits_one_f32]; norm_num⟩

end Cert.Value

end
-- ==== Proof.Value.Slow19.lean ====
/-
  The second pass at a row and lane: each slab's logit is inserted in a list of the eight largest, over all tiles.
-/
module

public import proofs.«01_k».proof.Proof.KernelIdeal.Body
public import proofs.«01_k».proof.Proof.Value.Product
public import proofs.«01_k».proof.Proof.Value.Lists

@[expose] public section

set_option maxRecDepth 16384

noncomputable section

namespace Cert.Value.Slow

open Idealize.ShloMosaic Idealize.ShloMosaic.TcCoe Cert.TopMath Cert.Value
open Cert.KernelIdeal Cert.KernelIdeal.Gen Cert.KernelIdeal.Hand

/-- The eight values at a row and lane; -/
def vat (a : V16 Ideal) (i : S8x128.Idx) : ℕ → EReal
  | 0 => a.1 i
  | 1 => a.2.1 i
  | 2 => a.2.2.1 i
  | 3 => a.2.2.2.1 i
  | 4 => a.2.2.2.2.1 i
  | 5 => a.2.2.2.2.2.1 i
  | 6 => a.2.2.2.2.2.2.1 i
  | 7 => a.2.2.2.2.2.2.2.1 i
  | _ => 0
/-- and their slab numbers. -/
def iat (a : V16 Ideal) (i : S8x128.Idx) : ℕ → EReal
  | 0 => a.2.2.2.2.2.2.2.2.1 i
  | 1 => a.2.2.2.2.2.2.2.2.2.1 i
  | 2 => a.2.2.2.2.2.2.2.2.2.2.1 i
  | 3 => a.2.2.2.2.2.2.2.2.2.2.2.1 i
  | 4 => a.2.2.2.2.2.2.2.2.2.2.2.2.1 i
  | 5 => a.2.2.2.2.2.2.2.2.2.2.2.2.2.1 i
  | 6 => a.2.2.2.2.2.2.2.2.2.2.2.2.2.2.1 i
  | 7 => a.2.2.2.2.2.2.2.2.2.2.2.2.2.2.2 i
  | _ => 0

/-- The slab number carried past the first `p` places. -/
def carryI (vals idx : ℕ → EReal) (x n : EReal) : ℕ → EReal
  | 0 => n
  | p + 1 => Scalar.select (Scalar.cmpf (F := Ideal) (φ := .f32) .ogt (carry vals x p) (vals p)) (idx p) (carryI vals idx x n p)
/-- The slab numbers after the insertion. -/
def insI (vals idx : ℕ → EReal) (x n : EReal) (p : ℕ) : EReal :=
  Scalar.select (Scalar.cmpf (F := Ideal) (φ := .f32) .ogt (carry vals x p) (vals p)) (carryI vals idx x n p) (idx p)

theorem carryI_nat {vals idx : ℕ → EReal} {x n : EReal} {B : ℕ} (hn : NatB B n) (hi : ∀ p, p < 8 → NatB B (idx p)) (p : ℕ) (hp : p ≤ 8) :
    NatB B (carryI vals idx x n p) := by
  induction p with
  | zero => exact hn
  | succ p ih => exact NatB.select (hi p (by omega)) (ih (by omega)) _
theorem insI_nat {vals idx : ℕ → EReal} {x n : EReal} {B : ℕ} (hn : NatB B n) (hi : ∀ p, p < 8 → NatB B (idx p)) (p : ℕ) (hp : p < 8) :
    NatB B (insI vals idx x n p) := NatB.select (carryI_nat hn hi p hp.le) (hi p hp) _

/-- The running vectors at a row and lane: the eight largest, and small slab numbers. -/
structure At (a : V16 Ideal) (i : S8x128.Idx) (cnt : EReal → ℕ) : Prop where
  largest : Largest 8 (vat a i) cnt
  nat : ∀ p, p < 8 → NatB 1024 (iat a i p)

theorem iv_word (n : ℕ) (h : n < 100) : Scf.iv 0#32 1#32 n = BitVec.ofNat 32 n := by
  unfold Scf.iv
  apply BitVec.eq_of_toNat_eq
  simp
theorem tile_word (a b : ℕ) (ha : a < 49) (hb : b < 16) : (Scf.iv 0#32 1#32 a * 16#32 + Scf.iv 0#32 1#32 b).toInt = ((16 * a + b : ℕ) : ℤ) := by
  rw [iv_word a (by omega), iv_word b (by omega)]
  have e : BitVec.ofNat 32 a * 16#32 + BitVec.ofNat 32 b = BitVec.ofNat 32 (16 * a + b) := by
    apply BitVec.eq_of_toNat_eq
    simp only [BitVec.toNat_add, BitVec.toNat_mul, BitVec.toNat_ofNat]
    omega
  rw [e, BitVec.toInt_eq_toNat_of_lt (by rw [BitVec.toNat_ofNat]; omega), BitVec.toNat_ofNat]
  congr 1
  omega

theorem lane_apply (u v : S8x128.Idx → EReal) (s b : S1x128.Idx → EReal) (i : S8x128.Idx) :
    k0_pay226 (F := Ideal) u v s b i = v i * u i * s (ValueIdx.ix2 (0 : Fin 1) (i 1)) + b (ValueIdx.ix2 (0 : Fin 1) (i 1)) := by
  unfold k0_pay226
  show v i * u i * broadcastTo S8x128 (shapeCast S1x128 s shapeCasts_S1x128_S1x128) broadcasts_S1x128_S8x128 i
    + broadcastTo S8x128 (shapeCast S1x128 b shapeCasts_S1x128_S1x128) broadcasts_S1x128_S8x128 i = _
  rw [shapeCast_self, shapeCast_self, bcast_apply, bcast_apply]

variable (c : Dev nD) (k16 : Fin k0_t16_loop.trips) (XS : Ct (F := Ideal) aS) (XN : Ct (F := Ideal) aN) (XA : Ct (F := Ideal) aA) (XD : Ct (F := Ideal) aD)

/-- The logit of row `r` in lane `l` and slab `j` of the tile. -/
abbrev lg (r l j : ℕ) : EReal :=
  lgt (at2 (aA.view.read (Elt Ideal) XA)) (at2 (aD.view.read (Elt Ideal) XD)) (at2 (aS.view.read (Elt Ideal) XS)) (at2 (aN.view.read (Elt Ideal) XN)) (2048 * k16.val) r l j

section Slab
variable (k18 : Fin k0_t18_loop.trips) (w81 : BitVec 32) (u1 u2 u3 u4 u5 u6 u7 u8 u9 u10 u11 : FVec Ideal S8x128 .f32) (u12 : Vec Ideal S8x128 .f32)

/-- The slab's logit as loaded. -/
def xin (k : Fin k0_t19_loop.trips) : FVec Ideal S8x128 .f32 :=
  k0_pay226 (F := Ideal) u12 (aA.view.readAt (Elt Ideal) (Rect.unit (s := S384x2048) (k0_off74 k18 k) S8x128.size (k0_off74_inb k18 k)).toLoadRect XA)
      (aS.view.readAt (Elt Ideal) (Rect.unit (s := S1x100352) (k0_off75 k16 k) S1x128.size (k0_off75_inb k16 k)).toLoadRect XS)
      (aN.view.readAt (Elt Ideal) (Rect.unit (s := S1x100352) (k0_off75 k16 k) S1x128.size (k0_off75_inb k16 k)).toLoadRect XN)

theorem xin_eq (k : Fin k0_t19_loop.trips) (i : S8x128.Idx) (hu : u12 i = at2 (aD.view.read (Elt Ideal) XD) (8 * k18.val + (i 0).val) (i 1).val) :
    xin k16 XS XN XA k18 u12 k i = lg k16 XS XN XA XD (8 * k18.val + (i 0).val) (i 1).val k.val := by
  unfold xin
  rw [lane_apply, load2 aA.view XA _ i (k0_off74_eq k18 k), hu]
  refine (congrArg₂ (fun x y : EReal => _ * x + y) (load2 (size := S1x128.size) aS.view XS _ _ (k0_off75_eq k16 k)) (load2 (size := S1x128.size) aN.view XN _ _ (k0_off75_eq k16 k))).trans ?_
  dsimp only
  unfold lg lgt
  congr 1
  · congr 1
    exact congrArg (at2 (aS.view.read (Elt Ideal) XS) 0) (Nat.add_assoc (2048 * k16.val) (128 * k.val) (i 1).val)
  · exact congrArg (at2 (aN.view.read (Elt Ideal) XN) 0) (Nat.add_assoc (2048 * k16.val) (128 * k.val) (i 1).val)

/-- A slab inserted. -/
theorem slab_in (k : Fin k0_t19_loop.trips) (a : V16 Ideal) (i : S8x128.Idx) (cnt : EReal → ℕ) (h : At a i cnt) :
    At (trip19 c k16 (w16 k16) k18 w81 u1 u2 u3 u4 u5 u6 u7 u8 u9 u10 u11 u12 XS XN XA k a).1 i (fun t => cnt t + hit t (xin k16 XS XN XA k18 u12 k i)) := by
  have hn : NatB 1024 (k0_pay227 (F := Ideal) (w16 k16) 0#32 1#32 k i) := by
    have h1 : k16.val < 49 := k16.isLt
    have h2 : k.val < 16 := k.isLt
    refine ⟨16 * k16.val + k.val, by omega, ?_⟩
    show (((Scf.iv 0#32 1#32 k16.val * 16#32 + Scf.iv 0#32 1#32 k.val).toInt : ℝ) : EReal) = _
    rw [tile_word _ _ h1 h2]
    norm_cast
  refine ⟨(h.largest.insert (xin k16 XS XN XA k18 u12 k i)).congr (fun p hp => ?_) fun t => rfl, fun p hp => ?_⟩
  · interval_cases p <;> rfl
  · refine NatB.of_eq ?_ (insI_nat (vals := vat a i) (x := xin k16 XS XN XA k18 u12 k i) hn h.nat p hp)
    interval_cases p <;> rfl

/-- The slabs of a tile inserted. -/
theorem slabs_in (a : V16 Ideal) (i : S8x128.Idx) (hu : u12 i = at2 (aD.view.read (Elt Ideal) XD) (8 * k18.val + (i 0).val) (i 1).val)
    (cnt : EReal → ℕ) (h : At a i cnt) (n : ℕ) (hn : n ≤ 16) :
    At (st19 c k16 (w16 k16) k18 w81 u1 u2 u3 u4 u5 u6 u7 u8 u9 u10 u11 u12 XS XN XA a n) i
      (fun t => cnt t + ∑ j ∈ Finset.range n, hit t (lg k16 XS XN XA XD (8 * k18.val + (i 0).val) (i 1).val j)) := by
  induction n with
  | zero => exact ⟨h.largest.congr (fun _ _ => rfl) fun t => by simp, h.nat⟩
  | succ n ih =>
    have hT : n < k0_t19_loop.trips := lt_of_lt_of_eq (show n < 16 by omega) (show 16 = k0_t19_loop.trips by decide)
    rw [st19, dif_pos hT]
    have := slab_in c k16 XS XN XA k18 w81 u1 u2 u3 u4 u5 u6 u7 u8 u9 u10 u11 u12 ⟨n, hT⟩ _ i _ (ih (by omega))
    rw [xin_eq k16 XS XN XA XD k18 u12 ⟨n, hT⟩ i hu] at this
    refine ⟨this.largest.congr (fun _ _ => rfl) fun t => ?_, this.nat⟩
    rw [Finset.sum_range_succ]
    exact (Nat.add_assoc _ _ _).symm

end Slab

end Cert.Value.Slow

end
-- ==== Proof.Value.Slow18.lean ====
/-
  The second pass over the rows and the tiles: every row's and lane's list holds the eight largest logits met.
-/
module

public import proofs.«01_k».proof.Proof.Value.Slow19

@[expose] public section

set_option maxRecDepth 16384

noncomputable section

namespace Cert.Value.Slow

open Idealize.ShloMosaic Idealize.ShloMosaic.TcCoe Idealize.ShloMosaic.ValueIdx Cert.TopMath Cert.Value
open Cert.KernelIdeal Cert.KernelIdeal.Gen Cert.KernelIdeal.Hand

theorem eq_ix2 (i : S8x128.Idx) : i = ix2 (i 0) (i 1) := funext fun a => by fin_cases a <;> rfl

/-- The lists in memory at a row and lane: the eight largest, and small slab numbers. -/
structure Good (x : LI Ideal) (r l : ℕ) (cnt : EReal → ℕ) : Prop where
  largest : Largest 8 (fun p => at3 (aL.view.read (Elt Ideal) x.1) p r l) cnt
  nat : ∀ p, p < 8 → NatB 1024 (at3 (aI.view.read (Elt Ideal) x.2) p r l)

theorem Good.congr {x : LI Ideal} {r l : ℕ} {cnt cnt' : EReal → ℕ} (h : Good x r l cnt) (hc : ∀ t, cnt' t = cnt t) : Good x r l cnt' :=
  ⟨h.largest.congr (fun _ _ => rfl) hc, h.nat⟩

section Stack
variable (m : Memref sig .tc .vmem S8x384x128 .f32) (X : Ct (F := Ideal) m) (k : ℕ)

/-- A place's rows of a group, as loaded; -/
theorem place {off : Fin 3 → ℕ} (p : ℕ) (inb) (h : off = ![p, 8 * k, 0]) (hs : S1x8x128.ShapeCasts S8x128) (i : S8x128.Idx) :
    shapeCast S8x128 (m.view.readAt (Elt Ideal) (Rect.unit (s := S8x384x128) off S1x8x128.size inb).toLoadRect X) hs i
      = at3 (m.view.read (Elt Ideal) X) p (8 * k + (i 0).val) (i 1).val := by
  refine (congrArg _ (eq_ix2 i)).trans ((shapeCast_1ab_ab_apply (a := 8) (b := 128) _ hs (i 0) (i 1)).trans ?_)
  refine (load3 m.view X inb (ix3 (0 : Fin 1) (i 0) (i 1)) h).trans ?_
  show at3 _ (p + 0) _ (0 + (i 1).val) = _
  rw [Nat.add_zero, Nat.zero_add]
/-- as stored. -/
theorem stored (v : FVec Ideal S8x128 .f32) (hs : S8x128.ShapeCasts S1x8x128) (i : S8x128.Idx) :
    shapeCast S1x8x128 v hs (ix3 (0 : Fin 1) (i 0) (i 1)) = v i :=
  (shapeCast_ab_1ab_apply (a := 8) (b := 128) v hs 0 (i 0) (i 1)).trans (congrArg v (eq_ix2 i).symm)

variable {o0 o1 o2 o3 o4 o5 o6 o7 : Fin 3 → ℕ} (b0 : ∀ a, o0 a + S1x8x128.size a ≤ S8x384x128.size a) (b1 : ∀ a, o1 a + S1x8x128.size a ≤ S8x384x128.size a) (b2 : ∀ a, o2 a + S1x8x128.size a ≤ S8x384x128.size a) (b3 : ∀ a, o3 a + S1x8x128.size a ≤ S8x384x128.size a) (b4 : ∀ a, o4 a + S1x8x128.size a ≤ S8x384x128.size a) (b5 : ∀ a, o5 a + S1x8x128.size a ≤ S8x384x128.size a) (b6 : ∀ a, o6 a + S1x8x128.size a ≤ S8x384x128.size a) (b7 : ∀ a, o7 a + S1x8x128.size a ≤ S8x384x128.size a) (h0 : o0 = ![0, 8 * k, 0]) (h1 : o1 = ![1, 8 * k, 0]) (h2 : o2 = ![2, 8 * k, 0]) (h3 : o3 = ![3, 8 * k, 0]) (h4 : o4 = ![4, 8 * k, 0]) (h5 : o5 = ![5, 8 * k, 0]) (h6 : o6 = ![6, 8 * k, 0]) (h7 : o7 = ![7, 8 * k, 0]) (w0 w1 w2 w3 w4 w5 w6 w7 : FVec Ideal S8x128 .f32) (hs : S8x128.ShapeCasts S1x8x128)

/-- Eight places stored. -/
abbrev eight : Ct (F := Ideal) m := m.view.writes (Elt Ideal) X
  [⟨Rect.unit (s := S8x384x128) o7 S1x8x128.size b7, shapeCast S1x8x128 w7 hs⟩,
    ⟨Rect.unit (s := S8x384x128) o6 S1x8x128.size b6, shapeCast S1x8x128 w6 hs⟩,
    ⟨Rect.unit (s := S8x384x128) o5 S1x8x128.size b5, shapeCast S1x8x128 w5 hs⟩,
    ⟨Rect.unit (s := S8x384x128) o4 S1x8x128.size b4, shapeCast S1x8x128 w4 hs⟩,
    ⟨Rect.unit (s := S8x384x128) o3 S1x8x128.size b3, shapeCast S1x8x128 w3 hs⟩,
    ⟨Rect.unit (s := S8x384x128) o2 S1x8x128.size b2, shapeCast S1x8x128 w2 hs⟩,
    ⟨Rect.unit (s := S8x384x128) o1 S1x8x128.size b1, shapeCast S1x8x128 w1 hs⟩,
    ⟨Rect.unit (s := S8x384x128) o0 S1x8x128.size b0, shapeCast S1x8x128 w0 hs⟩]

include h0 h1 h2 h3 h4 h5 h6 h7 in
theorem hit0 (i : S8x128.Idx) : at3 (m.view.read (Elt Ideal) (eight m X b0 b1 b2 b3 b4 b5 b6 b7 w0 w1 w2 w3 w4 w5 w6 w7 hs)) 0 (8 * k + (i 0).val) (i 1).val = w0 i :=
  (store3_miss m.view X _ _ _ h7 (Or.inl (show 0 < 7 by decide))).trans ((store3_miss m.view X _ _ _ h6 (Or.inl (show 0 < 6 by decide))).trans ((store3_miss m.view X _ _ _ h5 (Or.inl (show 0 < 5 by decide))).trans ((store3_miss m.view X _ _ _ h4 (Or.inl (show 0 < 4 by decide))).trans ((store3_miss m.view X _ _ _ h3 (Or.inl (show 0 < 3 by decide))).trans ((store3_miss m.view X _ _ _ h2 (Or.inl (show 0 < 2 by decide))).trans ((store3_miss m.view X _ _ _ h1 (Or.inl (show 0 < 1 by decide))).trans ((store3_hit m.view X _ _ _ (ix3 (0 : Fin 1) (i 0) (i 1)) h0 rfl rfl (Nat.zero_add _).symm).trans (stored w0 hs i))))))))
include h0 h1 h2 h3 h4 h5 h6 h7 in
theorem hit1 (i : S8x128.Idx) : at3 (m.view.read (Elt Ideal) (eight m X b0 b1 b2 b3 b4 b5 b6 b7 w0 w1 w2 w3 w4 w5 w6 w7 hs)) 1 (8 * k + (i 0).val) (i 1).val = w1 i :=
  (store3_miss m.view X _ _ _ h7 (Or.inl (show 1 < 7 by decide))).trans ((store3_miss m.view X _ _ _ h6 (Or.inl (show 1 < 6 by decide))).trans ((store3_miss m.view X _ _ _ h5 (Or.inl (show 1 < 5 by decide))).trans ((store3_miss m.view X _ _ _ h4 (Or.inl (show 1 < 4 by decide))).trans ((store3_miss m.view X _ _ _ h3 (Or.inl (show 1 < 3 by decide))).trans ((store3_miss m.view X _ _ _ h2 (Or.inl (show 1 < 2 by decide))).trans ((store3_hit m.view X _ _ _ (ix3 (0 : Fin 1) (i 0) (i 1)) h1 rfl rfl (Nat.zero_add _).symm).trans (stored w1 hs i)))))))
include h0 h1 h2 h3 h4 h5 h6 h7 in
theorem hit2 (i : S8x128.Idx) : at3 (m.view.read (Elt Ideal) (eight m X b0 b1 b2 b3 b4 b5 b6 b7 w0 w1 w2 w3 w4 w5 w6 w7 hs)) 2 (8 * k + (i 0).val) (i 1).val = w2 i :=
  (store3_miss m.view X _ _ _ h7 (Or.inl (show 2 < 7 by decide))).trans ((store3_miss m.view X _ _ _ h6 (Or.inl (show 2 < 6 by decide))).trans ((store3_miss m.view X _ _ _ h5 (Or.inl (show 2 < 5 by decide))).trans ((store3_miss m.view X _ _ _ h4 (Or.inl (show 2 < 4 by decide))).trans ((store3_miss m.view X _ _ _ h3 (Or.inl (show 2 < 3 by decide))).trans ((store3_hit m.view X _ _ _ (ix3 (0 : Fin 1) (i 0) (i 1)) h2 rfl rfl (Nat.zero_add _).symm).trans (stored w2 hs i))))))
include h0 h1 h2 h3 h4 h5 h6 h7 in
theorem hit3 (i : S8x128.Idx) : at3 (m.view.read (Elt Ideal) (eight m X b0 b1 b2 b3 b4 b5 b6 b7 w0 w1 w2 w3 w4 w5 w6 w7 hs)) 3 (8 * k + (i 0).val) (i 1).val = w3 i :=
  (store3_miss m.view X _ _ _ h7 (Or.inl (show 3 < 7 by decide))).trans ((store3_miss m.view X _ _ _ h6 (Or.inl (show 3 < 6 by decide))).trans ((store3_miss m.view X _ _ _ h5 (Or.inl (show 3 < 5 by decide))).trans ((store3_miss m.view X _ _ _ h4 (Or.inl (show 3 < 4 by decide))).trans ((store3_hit m.view X _ _ _ (ix3 (0 : Fin 1) (i 0) (i 1)) h3 rfl rfl (Nat.zero_add _).symm).trans (stored w3 hs i)))))
include h0 h1 h2 h3 h4 h5 h6 h7 in
theorem hit4 (i : S8x128.Idx) : at3 (m.view.read (Elt Ideal) (eight m X b0 b1 b2 b3 b4 b5 b6 b7 w0 w1 w2 w3 w4 w5 w6 w7 hs)) 4 (8 * k + (i 0).val) (i 1).val = w4 i :=
  (store3_miss m.view X _ _ _ h7 (Or.inl (show 4 < 7 by decide))).trans ((store3_miss m.view X _ _ _ h6 (Or.inl (show 4 < 6 by decide))).trans ((store3_miss m.view X _ _ _ h5 (Or.inl (show 4 < 5 by decide))).trans ((store3_hit m.view X _ _ _ (ix3 (0 : Fin 1) (i 0) (i 1)) h4 rfl rfl (Nat.zero_add _).symm).trans (stored w4 hs i))))
include h0 h1 h2 h3 h4 h5 h6 h7 in
theorem hit5 (i : S8x128.Idx) : at3 (m.view.read (Elt Ideal) (eight m X b0 b1 b2 b3 b4 b5 b6 b7 w0 w1 w2 w3 w4 w5 w6 w7 hs)) 5 (8 * k + (i 0).val) (i 1).val = w5 i :=
  (store3_miss m.view X _ _ _ h7 (Or.inl (show 5 < 7 by decide))).trans ((store3_miss m.view X _ _ _ h6 (Or.inl (show 5 < 6 by decide))).trans ((store3_hit m.view X _ _ _ (ix3 (0 : Fin 1) (i 0) (i 1)) h5 rfl rfl (Nat.zero_add _).symm).trans (stored w5 hs i)))
include h0 h1 h2 h3 h4 h5 h6 h7 in
theorem hit6 (i : S8x128.Idx) : at3 (m.view.read (Elt Ideal) (eight m X b0 b1 b2 b3 b4 b5 b6 b7 w0 w1 w2 w3 w4 w5 w6 w7 hs)) 6 (8 * k + (i 0).val) (i 1).val = w6 i :=
  (store3_miss m.view X _ _ _ h7 (Or.inl (show 6 < 7 by decide))).trans ((store3_hit m.view X _ _ _ (ix3 (0 : Fin 1) (i 0) (i 1)) h6 rfl rfl (Nat.zero_add _).symm).trans (stored w6 hs i))
include h0 h1 h2 h3 h4 h5 h6 h7 in
theorem hit7 (i : S8x128.Idx) : at3 (m.view.read (Elt Ideal) (eight m X b0 b1 b2 b3 b4 b5 b6 b7 w0 w1 w2 w3 w4 w5 w6 w7 hs)) 7 (8 * k + (i 0).val) (i 1).val = w7 i :=
  (store3_hit m.view X _ _ _ (ix3 (0 : Fin 1) (i 0) (i 1)) h7 rfl rfl (Nat.zero_add _).symm).trans (stored w7 hs i)

include h0 h1 h2 h3 h4 h5 h6 h7 in
theorem other (p r l : ℕ) (hr : r < 8 * k ∨ 8 * k + 8 ≤ r) :
    at3 (m.view.read (Elt Ideal) (eight m X b0 b1 b2 b3 b4 b5 b6 b7 w0 w1 w2 w3 w4 w5 w6 w7 hs)) p r l = at3 (m.view.read (Elt Ideal) X) p r l := by
  have h3' : ∀ a : ℕ, p < a ∨ a + S1x8x128.size 0 ≤ p ∨ r < 8 * k ∨ 8 * k + S1x8x128.size 1 ≤ r := fun _ => Or.inr (Or.inr hr)
  exact (store3_miss m.view X _ _ _ h7 (h3' 7)).trans ((store3_miss m.view X _ _ _ h6 (h3' 6)).trans ((store3_miss m.view X _ _ _ h5 (h3' 5)).trans ((store3_miss m.view X _ _ _ h4 (h3' 4)).trans ((store3_miss m.view X _ _ _ h3 (h3' 3)).trans ((store3_miss m.view X _ _ _ h2 (h3' 2)).trans ((store3_miss m.view X _ _ _ h1 (h3' 1)).trans ((store3_miss m.view X _ _ _ h0 (h3' 0)).trans (rfl))))))))

end Stack

variable (c : Dev nD) (k16 : Fin k0_t16_loop.trips) (XS : Ct (F := Ideal) aS) (XN : Ct (F := Ideal) aN) (XA : Ct (F := Ideal) aA) (XD : Ct (F := Ideal) aD)

section Group
variable (k : Fin k0_t18_loop.trips) (x : LI Ideal)

/-- The running vectors as loaded, -/
def ini : V16 Ideal :=
  (trip18.sl.v84 k x, trip18.sl.v87 k x, trip18.sl.v90 k x, trip18.sl.v93 k x, trip18.sl.v96 k x,
            trip18.sl.v99 k x, trip18.sl.v102 k x, trip18.sl.v105 k x, trip18.sl.v108 k x, trip18.sl.v111 k x,
            trip18.sl.v114 k x,
            k0_pay268 (aI.view.readAt (Elt Ideal) (Rect.unit (s := S8x384x128) (k0_off68 k) S1x8x128.size (k0_off68_inb k)).toLoadRect x.2),
            k0_pay269 (aI.view.readAt (Elt Ideal) (Rect.unit (s := S8x384x128) (k0_off69 k) S1x8x128.size (k0_off69_inb k)).toLoadRect x.2),
            k0_pay270 (aI.view.readAt (Elt Ideal) (Rect.unit (s := S8x384x128) (k0_off70 k) S1x8x128.size (k0_off70_inb k)).toLoadRect x.2),
            k0_pay271 (aI.view.readAt (Elt Ideal) (Rect.unit (s := S8x384x128) (k0_off71 k) S1x8x128.size (k0_off71_inb k)).toLoadRect x.2),
            k0_pay272 (aI.view.readAt (Elt Ideal) (Rect.unit (s := S8x384x128) (k0_off72 k) S1x8x128.size (k0_off72_inb k)).toLoadRect x.2))
/-- and after the tile's slabs. -/
def fin : V16 Ideal :=
  st19 c k16 (w16 k16) k (trip18.sl.v80 k) (trip18.sl.v84 k x) (trip18.sl.v87 k x) (trip18.sl.v90 k x) (trip18.sl.v93 k x)
          (trip18.sl.v96 k x) (trip18.sl.v99 k x) (trip18.sl.v102 k x) (trip18.sl.v105 k x) (trip18.sl.v108 k x)
          (trip18.sl.v111 k x) (trip18.sl.v114 k x)
          (aD.view.readAt (Elt Ideal) (Rect.unit (s := S384x128) (k0_off73 k) S8x128.size (k0_off73_inb k)).toLoadRect XD) XS XN XA (ini k x)
          (Scf.trips k0_t19_loop.lb k0_t19_loop.ub k0_t19_loop.st)

theorem lists_eq : (trip18 c k16 (w16 k16) XS XN XA XD k x).1
    = (aL.view.writes (Elt Ideal) x.1 [⟨Rect.unit (s := S8x384x128) (k0_off72 k) S1x8x128.size (k0_off72_inb k), shapeCast S1x8x128 (fin c k16 XS XN XA XD k x).2.2.2.2.2.2.2.1 shapeCasts_S8x128_S1x8x128⟩,
        ⟨Rect.unit (s := S8x384x128) (k0_off71 k) S1x8x128.size (k0_off71_inb k), shapeCast S1x8x128 (fin c k16 XS XN XA XD k x).2.2.2.2.2.2.1 shapeCasts_S8x128_S1x8x128⟩,
        ⟨Rect.unit (s := S8x384x128) (k0_off70 k) S1x8x128.size (k0_off70_inb k), shapeCast S1x8x128 (fin c k16 XS XN XA XD k x).2.2.2.2.2.1 shapeCasts_S8x128_S1x8x128⟩,
        ⟨Rect.unit (s := S8x384x128) (k0_off69 k) S1x8x128.size (k0_off69_inb k), shapeCast S1x8x128 (fin c k16 XS XN XA XD k x).2.2.2.2.1 shapeCasts_S8x128_S1x8x128⟩,
        ⟨Rect.unit (s := S8x384x128) (k0_off68 k) S1x8x128.size (k0_off68_inb k), shapeCast S1x8x128 (fin c k16 XS XN XA XD k x).2.2.2.1 shapeCasts_S8x128_S1x8x128⟩,
        ⟨Rect.unit (s := S8x384x128) (k0_off67 k) S1x8x128.size (k0_off67_inb k), shapeCast S1x8x128 (fin c k16 XS XN XA XD k x).2.2.1 shapeCasts_S8x128_S1x8x128⟩,
        ⟨Rect.unit (s := S8x384x128) (k0_off66 k) S1x8x128.size (k0_off66_inb k), shapeCast S1x8x128 (fin c k16 XS XN XA XD k x).2.1 shapeCasts_S8x128_S1x8x128⟩,
        ⟨Rect.unit (s := S8x384x128) (k0_off65 k) S1x8x128.size (k0_off65_inb k), shapeCast S1x8x128 (fin c k16 XS XN XA XD k x).1 shapeCasts_S8x128_S1x8x128⟩],
       aI.view.writes (Elt Ideal) x.2 [⟨Rect.unit (s := S8x384x128) (k0_off72 k) S1x8x128.size (k0_off72_inb k), shapeCast S1x8x128 (fin c k16 XS XN XA XD k x).2.2.2.2.2.2.2.2.2.2.2.2.2.2.2 shapeCasts_S8x128_S1x8x128⟩,
        ⟨Rect.unit (s := S8x384x128) (k0_off71 k) S1x8x128.size (k0_off71_inb k), shapeCast S1x8x128 (fin c k16 XS XN XA XD k x).2.2.2.2.2.2.2.2.2.2.2.2.2.2.1 shapeCasts_S8x128_S1x8x128⟩,
        ⟨Rect.unit (s := S8x384x128) (k0_off70 k) S1x8x128.size (k0_off70_inb k), shapeCast S1x8x128 (fin c k16 XS XN XA XD k x).2.2.2.2.2.2.2.2.2.2.2.2.2.1 shapeCasts_S8x128_S1x8x128⟩,
        ⟨Rect.unit (s := S8x384x128) (k0_off69 k) S1x8x128.size (k0_off69_inb k), shapeCast S1x8x128 (fin c k16 XS XN XA XD k x).2.2.2.2.2.2.2.2.2.2.2.2.1 shapeCasts_S8x128_S1x8x128⟩,
        ⟨Rect.unit (s := S8x384x128) (k0_off68 k) S1x8x128.size (k0_off68_inb k), shapeCast S1x8x128 (fin c k16 XS XN XA XD k x).2.2.2.2.2.2.2.2.2.2.2.1 shapeCasts_S8x128_S1x8x128⟩,
        ⟨Rect.unit (s := S8x384x128) (k0_off67 k) S1x8x128.size (k0_off67_inb k), shapeCast S1x8x128 (fin c k16 XS XN XA XD k x).2.2.2.2.2.2.2.2.2.2.1 shapeCasts_S8x128_S1x8x128⟩,
        ⟨Rect.unit (s := S8x384x128) (k0_off66 k) S1x8x128.size (k0_off66_inb k), shapeCast S1x8x128 (fin c k16 XS XN XA XD k x).2.2.2.2.2.2.2.2.2.1 shapeCasts_S8x128_S1x8x128⟩,
        ⟨Rect.unit (s := S8x384x128) (k0_off65 k) S1x8x128.size (k0_off65_inb k), shapeCast S1x8x128 (fin c k16 XS XN XA XD k x).2.2.2.2.2.2.2.2.1 shapeCasts_S8x128_S1x8x128⟩]) := by
  unfold trip18
  dsimp only
  rfl

theorem ini_at (i : S8x128.Idx) (cnt : EReal → ℕ) (h : Good x (8 * k.val + (i 0).val) (i 1).val cnt) : At (ini k x) i cnt := by
  refine ⟨h.largest.congr (fun p hp => ?_) fun t => rfl, fun p hp => NatB.of_eq ?_ (h.nat p hp)⟩
  · interval_cases p
    · exact place aL x.1 k.val 0 (k0_off65_inb k) (k0_off65_eq k) shapeCasts_S1x8x128_S8x128 i
    · exact place aL x.1 k.val 1 (k0_off66_inb k) (k0_off66_eq k) shapeCasts_S1x8x128_S8x128 i
    · exact place aL x.1 k.val 2 (k0_off67_inb k) (k0_off67_eq k) shapeCasts_S1x8x128_S8x128 i
    · exact place aL x.1 k.val 3 (k0_off68_inb k) (k0_off68_eq k) shapeCasts_S1x8x128_S8x128 i
    · exact place aL x.1 k.val 4 (k0_off69_inb k) (k0_off69_eq k) shapeCasts_S1x8x128_S8x128 i
    · exact place aL x.1 k.val 5 (k0_off70_inb k) (k0_off70_eq k) shapeCasts_S1x8x128_S8x128 i
    · exact place aL x.1 k.val 6 (k0_off71_inb k) (k0_off71_eq k) shapeCasts_S1x8x128_S8x128 i
    · exact place aL x.1 k.val 7 (k0_off72_inb k) (k0_off72_eq k) shapeCasts_S1x8x128_S8x128 i
  · interval_cases p
    · exact place aI x.2 k.val 0 (k0_off65_inb k) (k0_off65_eq k) shapeCasts_S1x8x128_S8x128 i
    · exact place aI x.2 k.val 1 (k0_off66_inb k) (k0_off66_eq k) shapeCasts_S1x8x128_S8x128 i
    · exact place aI x.2 k.val 2 (k0_off67_inb k) (k0_off67_eq k) shapeCasts_S1x8x128_S8x128 i
    · exact place aI x.2 k.val 3 (k0_off68_inb k) (k0_off68_eq k) shapeCasts_S1x8x128_S8x128 i
    · exact place aI x.2 k.val 4 (k0_off69_inb k) (k0_off69_eq k) shapeCasts_S1x8x128_S8x128 i
    · exact place aI x.2 k.val 5 (k0_off70_inb k) (k0_off70_eq k) shapeCasts_S1x8x128_S8x128 i
    · exact place aI x.2 k.val 6 (k0_off71_inb k) (k0_off71_eq k) shapeCasts_S1x8x128_S8x128 i
    · exact place aI x.2 k.val 7 (k0_off72_inb k) (k0_off72_eq k) shapeCasts_S1x8x128_S8x128 i

/-- A group of rows: its rows' lists, -/
theorem group_in (i : S8x128.Idx) (cnt : EReal → ℕ) (h : Good x (8 * k.val + (i 0).val) (i 1).val cnt) :
    Good (trip18 c k16 (w16 k16) XS XN XA XD k x).1 (8 * k.val + (i 0).val) (i 1).val
      (fun t => cnt t + ∑ j ∈ Finset.range 16, hit t (lg k16 XS XN XA XD (8 * k.val + (i 0).val) (i 1).val j)) := by
  have hu : aD.view.readAt (Elt Ideal) (Rect.unit (s := S384x128) (k0_off73 k) S8x128.size (k0_off73_inb k)).toLoadRect XD i
      = at2 (aD.view.read (Elt Ideal) XD) (8 * k.val + (i 0).val) (i 1).val := by
    have e := load2 aD.view XD (k0_off73_inb k) i (k0_off73_eq k)
    rw [Nat.zero_add] at e
    exact e
  have hf : At (fin c k16 XS XN XA XD k x) i (fun t => cnt t + ∑ j ∈ Finset.range 16, hit t (lg k16 XS XN XA XD (8 * k.val + (i 0).val) (i 1).val j)) := by
    unfold fin
    rw [show Scf.trips k0_t19_loop.lb k0_t19_loop.ub k0_t19_loop.st = 16 by decide]
    exact slabs_in c k16 XS XN XA XD k _ _ _ _ _ _ _ _ _ _ _ _ _ (ini k x) i hu cnt (ini_at k x i cnt h) 16 le_rfl
  rw [lists_eq]
  generalize fin c k16 XS XN XA XD k x = y at hf ⊢
  refine ⟨hf.largest.congr (fun p hp => ?_) fun t => rfl, fun p hp => NatB.of_eq ?_ (hf.nat p hp)⟩
  all_goals dsimp only
  · interval_cases p
    · exact hit0 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit1 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit2 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit3 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit4 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit5 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit6 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit7 aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
  · interval_cases p
    · exact hit0 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit1 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit2 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit3 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit4 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit5 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit6 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i
    · exact hit7 aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ i

/-- and the other rows' lists. -/
theorem group_out (r l : ℕ) (hr : r < 8 * k.val ∨ 8 * k.val + 8 ≤ r) (cnt : EReal → ℕ) (h : Good x r l cnt) :
    Good (trip18 c k16 (w16 k16) XS XN XA XD k x).1 r l cnt := by
  rw [lists_eq]
  generalize fin c k16 XS XN XA XD k x = y
  refine ⟨h.largest.congr (fun p hp => ?_) fun t => rfl, fun p hp => NatB.of_eq ?_ (h.nat p hp)⟩
  all_goals dsimp only
  · exact other aL x.1 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ p r l hr
  · exact other aI x.2 k.val _ _ _ _ _ _ _ _ (k0_off65_eq k) (k0_off66_eq k) (k0_off67_eq k) (k0_off68_eq k) (k0_off69_eq k) (k0_off70_eq k) (k0_off71_eq k) (k0_off72_eq k) _ _ _ _ _ _ _ _ _ p r l hr

end Group

/-- The rows of the first `n` groups, the others not. -/
theorem groups (x : LI Ideal) (r l : ℕ) (hl : l < 128) (cnt : EReal → ℕ) (h : Good x r l cnt) (n : ℕ) (hn : n ≤ 48) :
    Good (st18 c k16 (w16 k16) XS XN XA XD x n) r l
      (fun t => cnt t + if r < 8 * n then ∑ j ∈ Finset.range 16, hit t (lg k16 XS XN XA XD r l j) else 0) := by
  induction n with
  | zero =>
    refine Good.congr (x := x) h fun t => ?_
    rw [if_neg (by omega), Nat.add_zero]
  | succ n ih =>
    have hT : n < k0_t18_loop.trips := lt_of_lt_of_eq (show n < 48 by omega) (show 48 = k0_t18_loop.trips by decide)
    rw [st18, dif_pos hT]
    by_cases hr : r < 8 * n ∨ 8 * n + 8 ≤ r
    · refine (group_out c k16 XS XN XA XD ⟨n, hT⟩ _ r l hr _ (ih (by omega))).congr fun t => ?_
      congr 1
      by_cases h1 : r < 8 * n
      · rw [if_pos h1, if_pos (by omega)]
      · rw [if_neg h1, if_neg (by omega)]
    · have hr' : r = 8 * n + (r - 8 * n) := by omega
      have ih' := ih (by omega)
      have := group_in c k16 XS XN XA XD ⟨n, hT⟩ (st18 c k16 (w16 k16) XS XN XA XD x n) (ix2 ⟨r - 8 * n, by omega⟩ ⟨l, hl⟩)
        (fun t => cnt t + if r < 8 * n then ∑ j ∈ Finset.range 16, hit t (lg k16 XS XN XA XD r l j) else 0)
      change Good _ (8 * n + (r - 8 * n)) l _ → Good _ (8 * n + (r - 8 * n)) l
        (fun t => _ + ∑ j ∈ Finset.range 16, hit t (lg k16 XS XN XA XD (8 * n + (r - 8 * n)) l j)) at this
      rw [← hr'] at this
      refine (this ih').congr fun t => ?_
      rw [if_pos (by omega), if_neg (by omega), Nat.add_zero]

/-- The tile in every row's lists. -/
theorem tile_in (x : LI Ideal) (r l : ℕ) (hr : r < 384) (hl : l < 128) (cnt : EReal → ℕ) (h : Good x r l cnt) :
    Good (st18 c k16 (w16 k16) XS XN XA XD x k0_t18_loop.trips) r l (fun t => cnt t + ∑ j ∈ Finset.range 16, hit t (lg k16 XS XN XA XD r l j)) := by
  rw [show k0_t18_loop.trips = 48 by decide]
  refine (groups c k16 XS XN XA XD x r l hl cnt h 48 le_rfl).congr fun t => ?_
  rw [if_pos (show r < 8 * 48 by omega)]

end Cert.Value.Slow

end
-- ==== Proof.Value.Fold6.lean ====
/-
  One tile of columns folded into the lists: the group of eight rows' sixteen slabs per lane reduced to their best, second
  best and third best, and these entered in the lists and the bound. First accumulator.
-/
module

public import proofs.«01_k».proof.Proof.KernelIdeal.Body
public import proofs.«01_k».proof.Proof.Value.Group
public import proofs.«01_k».proof.Proof.Value.Lists

@[expose] public section

set_option maxRecDepth 16384

noncomputable section

namespace Cert.Value.F6

open Idealize.ShloMosaic Idealize.ShloMosaic.TcCoe Idealize.ShloMosaic.ValueIdx Cert.TopMath Cert.Value
open Cert.KernelIdeal Cert.KernelIdeal.Gen Cert.KernelIdeal.Hand

theorem lane_apply (u1 v270 : S8x128.Idx → EReal) (v277 v286 : S1x128.Idx → EReal) (i : S8x128.Idx) :
    k0_pay49 (F := Ideal) u1 v270 v277 v286 i = v270 i * u1 i * v277 (ix2 (0 : Fin 1) (i 1)) + v286 (ix2 (0 : Fin 1) (i 1)) := by
  unfold k0_pay49
  show v270 i * u1 i * broadcastTo S8x128 (shapeCast S1x128 v277 shapeCasts_S1x128_S1x128) broadcasts_S1x128_S8x128 i
    + broadcastTo S8x128 (shapeCast S1x128 v286 shapeCasts_S1x128_S1x128) broadcasts_S1x128_S8x128 i = _
  rw [shapeCast_self, shapeCast_self, bcast_apply, bcast_apply]

theorem lane0_apply (u1 v270 : S8x128.Idx → EReal) (v277 v286 : S1x128.Idx → EReal) (i : S8x128.Idx) :
    k0_pay39 (F := Ideal) u1 v270 v277 v286 i = v270 i * u1 i * v277 (ix2 (0 : Fin 1) (i 1)) + v286 (ix2 (0 : Fin 1) (i 1)) := by
  unfold k0_pay39
  show v270 i * u1 i * broadcastTo S8x128 (shapeCast S1x128 v277 shapeCasts_S1x128_S1x128) broadcasts_S1x128_S8x128 i
    + broadcastTo S8x128 (shapeCast S1x128 v286 shapeCasts_S1x128_S1x128) broadcasts_S1x128_S8x128 i = _
  rw [shapeCast_self, shapeCast_self, bcast_apply, bcast_apply]

theorem lane1_apply (u1 v136 : S8x128.Idx → EReal) (v142 v150 : S1x128.Idx → EReal) (i : S8x128.Idx) :
    k0_pay42 (F := Ideal) (k0_pay41 (F := Ideal) u1 v136 v142) v150 i = v136 i * u1 i * v142 (ix2 (0 : Fin 1) (i 1)) + v150 (ix2 (0 : Fin 1) (i 1)) := by
  unfold k0_pay42 k0_pay41
  show v136 i * u1 i * broadcastTo S8x128 (shapeCast S1x128 v142 shapeCasts_S1x128_S1x128) broadcasts_S1x128_S8x128 i
    + broadcastTo S8x128 (shapeCast S1x128 v150 shapeCasts_S1x128_S1x128) broadcasts_S1x128_S8x128 i = _
  rw [shapeCast_self, shapeCast_self, bcast_apply, bcast_apply]

variable (c : Dev nD) (d0 d1 : BitVec 32) (k4 : Fin k0_t4_loop.trips) (k5 : Fin k0_t5_loop.trips) (w0 w1 : BitVec 32)
  (XS : Ct (F := Ideal) aS) (XN : Ct (F := Ideal) aN) (XA : Ct (F := Ideal) aA) (XD : Ct (F := Ideal) aD)

/-- The logit of row `r` in lane `l` and slab `j` of the tile. -/
abbrev lg (r l j : ℕ) : EReal :=
  lgt (at2 (aA.view.read (Elt Ideal) XA)) (at2 (aD.view.read (Elt Ideal) XD)) (at2 (aS.view.read (Elt Ideal) XS)) (at2 (aN.view.read (Elt Ideal) XN)) (4096 * k4.val) r l j

section Slab
variable (k6 : Fin k0_t6_loop.trips) (w2 : BitVec 32) (u2 u3 u4 : FVec Ideal S8x128 .f32) (w3 w4 : BitVec 32)

/-- A further slab folded in. -/
theorem slab_two (k : Fin k0_t7_loop.trips) (a : V5 Ideal) (i : S8x128.Idx) (cnt : EReal → ℕ) (h : Two a i cnt) :
    Two (trip7 c k4 k5 w1 k6 w2 (trip6.sl.r k5 XD k6) u2 u3 u4 w3 w4 XS XN XA k a).1 i
      (fun t => cnt t + hit t (lg k4 XS XN XA XD (96 * k5.val + 8 * k6.val + (i 0).val) (i 1).val (k.val + 2))) := by
  have hx : k0_pay49 (F := Ideal) (trip6.sl.r k5 XD k6) (aA.view.readAt (Elt Ideal) (Rect.unit (s := S384x2048) (k0_off24 k5 k6 k) S8x128.size (k0_off24_inb k5 k6 k)).toLoadRect XA)
      (aS.view.readAt (Elt Ideal) (Rect.unit (s := S1x100352) (k0_off25 k4 k) S1x128.size (k0_off25_inb k4 k)).toLoadRect XS)
      (aN.view.readAt (Elt Ideal) (Rect.unit (s := S1x100352) (k0_off25 k4 k) S1x128.size (k0_off25_inb k4 k)).toLoadRect XN) i
      = lg k4 XS XN XA XD (96 * k5.val + 8 * k6.val + (i 0).val) (i 1).val (k.val + 2) := by
    rw [lane_apply]
    unfold trip6.sl.r
    rw [load2 aA.view XA _ i (k0_off24_eq k5 k6 k), load2 aD.view XD _ i (k0_off20_eq k5 k6),
      load2 (size := S1x128.size) aS.view XS _ _ (k0_off25_eq k4 k), load2 (size := S1x128.size) aN.view XN _ _ (k0_off25_eq k4 k)]
    unfold lg lgt
    congr 1
    · congr 1
      · congr 2 <;> omega
      · congr 1; show 4096 * k4.val + 128 * k.val + 256 + (i 1).val = _; omega
    · congr 1; show 4096 * k4.val + 128 * k.val + 256 + (i 1).val = _; omega
  have hn : NatB 16 (k0_pay50 (F := Ideal) k i) := slab_nat k.val (Nat.lt_of_lt_of_le k.isLt k0_t7_abs.2.1)
  rw [← hx]
  exact ⟨two_step h.exact _, NatB.select hn h.nat1 _, NatB.select h.nat1 (NatB.select hn h.nat2 _) _⟩

/-- The slabs from the third folded in. -/
theorem slabs_two (a : V5 Ideal) (i : S8x128.Idx) (cnt : EReal → ℕ) (h : Two a i cnt) (n : ℕ) (hn : n ≤ 14) :
    Two (st7 c k4 k5 w1 k6 w2 (trip6.sl.r k5 XD k6) u2 u3 u4 w3 w4 XS XN XA a n) i
      (fun t => cnt t + ∑ j ∈ Finset.range n, hit t (lg k4 XS XN XA XD (96 * k5.val + 8 * k6.val + (i 0).val) (i 1).val (j + 2))) := by
  induction n with
  | zero => simpa [st7] using h
  | succ n ih =>
    have hT : n < k0_t7_loop.trips := lt_of_lt_of_eq (show n < 14 by omega) (show 14 = k0_t7_loop.trips by decide)
    rw [st7, dif_pos hT]
    refine (slab_two c k4 k5 w1 XS XN XA XD k6 w2 u2 u3 u4 w3 w4 ⟨n, hT⟩ _ i _ (ih (by omega))).congr fun t => ?_
    rw [Finset.sum_range_succ]
    exact (Nat.add_assoc _ _ _).symm

end Slab

section Group
variable (k : Fin k0_t6_loop.trips)

/-- The group's best, second best and third best, lane by lane. -/
theorem group_two (i : S8x128.Idx) :
    Two (trip6.sl.r_3 c k4 k5 w0 w1 XS XN XA XD k, trip6.sl.r_4 c k4 k5 w0 w1 XS XN XA XD k, trip6.sl.r_5 c k4 k5 w0 w1 XS XN XA XD k,
      trip6.sl.r_6 c k4 k5 w0 w1 XS XN XA XD k, trip6.sl.r_7 c k4 k5 w0 w1 XS XN XA XD k) i
      (fun t => ∑ j ∈ Finset.range 16, hit t (lg k4 XS XN XA XD (96 * k5.val + 8 * k.val + (i 0).val) (i 1).val j)) := by
  have h0 : trip6.sl.r_1 k4 k5 XS XN XA XD k i = lg k4 XS XN XA XD (96 * k5.val + 8 * k.val + (i 0).val) (i 1).val 0 := by
    have e : k0_off22 k4 0#32 = ![0, 4096 * k4.val + 128 * 0] := k0_off22_eq k4 0
    unfold trip6.sl.r_1
    rw [lane0_apply, load2 aA.view XA _ i (k0_off21_eq k5 k), load2 aD.view XD _ i (k0_off20_eq k5 k),
      load2 (size := S1x128.size) aS.view XS _ _ e, load2 (size := S1x128.size) aN.view XN _ _ e]
    unfold lg lgt
    congr 1
    · congr 1
      · congr 2 <;> omega
      · exact congrArg (at2 (aS.view.read (Elt Ideal) XS) 0) (Nat.add_assoc (4096 * k4.val) (128 * 0) (i 1).val)
    · exact congrArg (at2 (aN.view.read (Elt Ideal) XN) 0) (Nat.add_assoc (4096 * k4.val) (128 * 0) (i 1).val)
  have h1 : k0_pay42 (F := Ideal) (trip6.sl.r_2 k4 k5 XS XA XD k) (aN.view.readAt (Elt Ideal) (Rect.unit (s := S1x100352) (k0_off22 k4 128#32) S1x128.size (k0_off22_inb k4 1)).toLoadRect XN) i
      = lg k4 XS XN XA XD (96 * k5.val + 8 * k.val + (i 0).val) (i 1).val 1 := by
    have e : k0_off22 k4 128#32 = ![0, 4096 * k4.val + 128 * 1] := k0_off22_eq k4 1
    unfold trip6.sl.r_2
    rw [lane1_apply, load2 aA.view XA _ i (k0_off23_eq k5 k), load2 aD.view XD _ i (k0_off20_eq k5 k),
      load2 (size := S1x128.size) aS.view XS _ _ e, load2 (size := S1x128.size) aN.view XN _ _ e]
    unfold lg lgt
    congr 1
    · congr 1
      · congr 2 <;> omega
      · exact congrArg (at2 (aS.view.read (Elt Ideal) XS) 0) (Nat.add_assoc (4096 * k4.val) (128 * 1) (i 1).val)
    · exact congrArg (at2 (aN.view.read (Elt Ideal) XN) 0) (Nat.add_assoc (4096 * k4.val) (128 * 1) (i 1).val)
  have hs := two_start (trip6.sl.r_1 k4 k5 XS XN XA XD k i) (k0_pay42 (F := Ideal) (trip6.sl.r_2 k4 k5 XS XA XD k) (aN.view.readAt (Elt Ideal) (Rect.unit (s := S1x100352) (k0_off22 k4 128#32) S1x128.size (k0_off22_inb k4 1)).toLoadRect XN) i)
  have h := slabs_two c k4 k5 w1 XS XN XA XD k (trip6.sl.v107 w0 k) (trip6.sl.r_1 k4 k5 XS XN XA XD k) k0_pay40
      (trip6.sl.r_2 k4 k5 XS XA XD k) (trip6.sl.v146 w1) (128#32)
      (k0_pay44 (trip6.sl.r_1 k4 k5 XS XN XA XD k) (trip6.sl.r_2 k4 k5 XS XA XD k)
          (aN.view.readAt (Elt Ideal) (Rect.unit (s := S1x100352) (k0_off22 k4 128#32) S1x128.size (k0_off22_inb k4 1)).toLoadRect XN),
        k0_pay46 (trip6.sl.r_1 k4 k5 XS XN XA XD k) k0_pay40 (trip6.sl.r_2 k4 k5 XS XA XD k)
          (aN.view.readAt (Elt Ideal) (Rect.unit (s := S1x100352) (k0_off22 k4 128#32) S1x128.size (k0_off22_inb k4 1)).toLoadRect XN),
        k0_pay45 (trip6.sl.r_1 k4 k5 XS XN XA XD k) (trip6.sl.r_2 k4 k5 XS XA XD k)
          (aN.view.readAt (Elt Ideal) (Rect.unit (s := S1x100352) (k0_off22 k4 128#32) S1x128.size (k0_off22_inb k4 1)).toLoadRect XN),
        k0_pay47 (trip6.sl.r_1 k4 k5 XS XN XA XD k) k0_pay40 (trip6.sl.r_2 k4 k5 XS XA XD k)
          (aN.view.readAt (Elt Ideal) (Rect.unit (s := S1x100352) (k0_off22 k4 128#32) S1x128.size (k0_off22_inb k4 1)).toLoadRect XN),
        k0_pay48) i _ ⟨hs, NatB.select nat_one nat_zero _, NatB.select nat_zero nat_one _⟩ 14 le_rfl
  refine Two.congr h fun t => ?_
  rw [h0, h1, Finset.sum_range_succ' _ 15, Finset.sum_range_succ' _ 14]
  simp only [Nat.add_assoc, Nat.reduceAdd, Nat.zero_add]
  omega

/-- A list place's rows of the group, as loaded. -/
theorem place {off : Fin 3 → ℕ} (p : ℕ) (inb) (h : off = ![p, 96 * k5.val + 8 * k.val, 0]) (hs : S1x8x128.ShapeCasts S8x128) (i : S8x128.Idx)
    (m : Memref sig .tc .vmem S8x384x128 .f32) (X : Ct (F := Ideal) m) :
    shapeCast S8x128 (m.view.readAt (Elt Ideal) (Rect.unit (s := S8x384x128) off S1x8x128.size inb).toLoadRect X) hs i
      = at3 (m.view.read (Elt Ideal) X) p (96 * k5.val + 8 * k.val + (i 0).val) (i 1).val := by
  refine (congrArg _ (eq_ix2 i)).trans ((shapeCast_1ab_ab_apply (a := 8) (b := 128) _ hs (i 0) (i 1)).trans ?_)
  refine (load3 m.view X inb (ix3 (0 : Fin 1) (i 0) (i 1)) h).trans ?_
  show at3 _ (p + 0) _ (0 + (i 1).val) = _
  rw [Nat.add_zero, Nat.zero_add]

/-- A list place's rows of the group, as stored. -/
theorem stored (v : FVec Ideal S8x128 .f32) (hs : S8x128.ShapeCasts S1x8x128) (i : S8x128.Idx) :
    shapeCast S1x8x128 v hs (ix3 (0 : Fin 1) (i 0) (i 1)) = v i :=
  (shapeCast_ab_1ab_apply (a := 8) (b := 128) v hs 0 (i 0) (i 1)).trans (congrArg v (eq_ix2 i).symm)

theorem lists_eq (x : LIC Ideal) : (trip6 c d0 d1 k4 k5 w0 w1 XS XN XA XD k x).1
    = (aL.view.writes (Elt Ideal) x.1
        [⟨Rect.unit (s := S8x384x128) (k0_off29 k5 k) S1x8x128.size (k0_off29_inb k5 k), k0_pay157 (F := Ideal) (trip6.sl.r_20 c k4 k5 w0 w1 XS XN XA XD k x)⟩,
          ⟨Rect.unit (s := S8x384x128) (k0_off28 k5 k) S1x8x128.size (k0_off28_inb k5 k), k0_pay155 (F := Ideal) (trip6.sl.r_18 c k4 k5 w0 w1 XS XN XA XD k x)⟩,
          ⟨Rect.unit (s := S8x384x128) (k0_off27 k5 k) S1x8x128.size (k0_off27_inb k5 k), k0_pay153 (F := Ideal) (trip6.sl.r_16 c k4 k5 w0 w1 XS XN XA XD k x)⟩,
          ⟨Rect.unit (s := S8x384x128) (k0_off26 k5 k) S1x8x128.size (k0_off26_inb k5 k),
            k0_pay93 (F := Ideal) (trip6.sl.r_3 c k4 k5 w0 w1 XS XN XA XD k) (trip6.sl.r_8 k5 k x)⟩],
      aI.view.writes (Elt Ideal) x.2.1
        [⟨Rect.unit (s := S8x384x128) (k0_off29 k5 k) S1x8x128.size (k0_off29_inb k5 k), k0_pay158 (F := Ideal) (trip6.sl.r_22 c d0 d1 k4 k5 w0 w1 XS XN XA XD k x)⟩,
          ⟨Rect.unit (s := S8x384x128) (k0_off28 k5 k) S1x8x128.size (k0_off28_inb k5 k), k0_pay156 (F := Ideal) (trip6.sl.r_19 c d0 d1 k4 k5 w0 w1 XS XN XA XD k x)⟩,
          ⟨Rect.unit (s := S8x384x128) (k0_off27 k5 k) S1x8x128.size (k0_off27_inb k5 k), k0_pay154 (F := Ideal) (trip6.sl.r_17 c d0 d1 k4 k5 w0 w1 XS XN XA XD k x)⟩,
          ⟨Rect.unit (s := S8x384x128) (k0_off26 k5 k) S1x8x128.size (k0_off26_inb k5 k),
            k0_pay94 (F := Ideal) (k0_pay152 d0 d1 k4) (trip6.sl.r_3 c k4 k5 w0 w1 XS XN XA XD k)
              (trip6.sl.r_4 c k4 k5 w0 w1 XS XN XA XD k) (trip6.sl.r_8 k5 k x) (trip6.sl.r_12 k5 k x)⟩],
      aC.view.writes (Elt Ideal) x.2.2
        [⟨Rect.unit (s := S384x128) (k0_off20 k5 k) S8x128.size (k0_off20_inb k5 k),
            k0_pay159 (F := Ideal) (trip6.sl.r_7 c k4 k5 w0 w1 XS XN XA XD k) (trip6.sl.r_15 c k4 k5 w0 w1 XS XN XA XD k x)
              (trip6.sl.r_21 c k4 k5 w0 w1 XS XN XA XD k x)
              (aC.view.readAt (Elt Ideal) (Rect.unit (s := S384x128) (k0_off20 k5 k) S8x128.size (k0_off20_inb k5 k)).toLoadRect x.2.2)⟩]) := rfl

/-- A group of rows folded in: its rows' lists, -/
theorem group_in (hb : NatB 1000 (k0_pay152 (F := Ideal) d0 d1 k4)) (x : LIC Ideal) (i : S8x128.Idx) (cnt : EReal → ℕ)
    (h : Good x (96 * k5.val + 8 * k.val + (i 0).val) (i 1).val cnt) :
    Good (trip6 c d0 d1 k4 k5 w0 w1 XS XN XA XD k x).1 (96 * k5.val + 8 * k.val + (i 0).val) (i 1).val
      (fun t => cnt t + ∑ j ∈ Finset.range 16, hit t (lg k4 XS XN XA XD (96 * k5.val + 8 * k.val + (i 0).val) (i 1).val j)) := by
  have hg := group_two c k4 k5 w0 w1 XS XN XA XD k i
  have hz : (i 1).val = 0 + (i 1).val := (Nat.zero_add _).symm
  have l0 : trip6.sl.r_8 k5 k x i = at3 (aL.view.read (Elt Ideal) x.1) 0 (96 * k5.val + 8 * k.val + (i 0).val) (i 1).val := place k5 k 0 _ (k0_off26_eq k5 k) _ i aL x.1
  have l1 : trip6.sl.r_9 k5 k x i = at3 (aL.view.read (Elt Ideal) x.1) 1 (96 * k5.val + 8 * k.val + (i 0).val) (i 1).val := place k5 k 1 _ (k0_off27_eq k5 k) _ i aL x.1
  have l2 : trip6.sl.r_10 k5 k x i = at3 (aL.view.read (Elt Ideal) x.1) 2 (96 * k5.val + 8 * k.val + (i 0).val) (i 1).val := place k5 k 2 _ (k0_off28_eq k5 k) _ i aL x.1
  have l3 : trip6.sl.r_11 k5 k x i = at3 (aL.view.read (Elt Ideal) x.1) 3 (96 * k5.val + 8 * k.val + (i 0).val) (i 1).val := place k5 k 3 _ (k0_off29_eq k5 k) _ i aL x.1
  have i0 : NatB 1024 (trip6.sl.r_12 k5 k x i) := by
    rw [show trip6.sl.r_12 k5 k x i = _ from place k5 k 0 _ (k0_off26_eq k5 k) _ i aI x.2.1]; exact h.nat 0 (by omega)
  have i1 : NatB 1024 (trip6.sl.r_13 k5 k x i) := by
    rw [show trip6.sl.r_13 k5 k x i = _ from place k5 k 1 _ (k0_off27_eq k5 k) _ i aI x.2.1]; exact h.nat 1 (by omega)
  have i2 : NatB 1024 (trip6.sl.r_14 k5 k x i) := by
    rw [show trip6.sl.r_14 k5 k x i = _ from place k5 k 2 _ (k0_off28_eq k5 k) _ i aI x.2.1]; exact h.nat 2 (by omega)
  have i3 : NatB 1024 (shapeCast S8x128 (aI.view.readAt (Elt Ideal) (Rect.unit (s := S8x384x128) (k0_off29 k5 k) S1x8x128.size (k0_off29_inb k5 k)).toLoadRect x.2.1) shapeCasts_S1x8x128_S8x128 i) := by
    rw [place k5 k 3 _ (k0_off29_eq k5 k) _ i aI x.2.1]; exact h.nat 3 (by omega)
  have n1 : NatB 1024 (trip6.sl.r_4 c k4 k5 w0 w1 XS XN XA XD k i + k0_pay152 (F := Ideal) d0 d1 k4) := hg.nat1.add hb (by omega)
  have n2 : NatB 1024 (trip6.sl.r_6 c k4 k5 w0 w1 XS XN XA XD k i + k0_pay152 (F := Ideal) d0 d1 k4) := hg.nat2.add hb (by omega)
  rw [lists_eq]
  refine ⟨?_, ?_⟩
  · have hs := group_step h.exact hg.exact
    refine hs.congr' ?_ ?_ ?_ ?_ ?_
    all_goals dsimp only
    · refine (store3_miss aL.view x.1 _ _ _ (k0_off29_eq k5 k) (Or.inl (show 0 + 0 < 3 by decide))).trans ((store3_miss aL.view x.1 _ _ _ (k0_off28_eq k5 k) (Or.inl (show 0 + 0 < 2 by decide))).trans
        ((store3_miss aL.view x.1 _ _ _ (k0_off27_eq k5 k) (Or.inl (show 0 + 0 < 1 by decide))).trans
        ((store3_hit aL.view x.1 _ _ _ (ix3 (0 : Fin 1) (i 0) (i 1)) (k0_off26_eq k5 k) rfl rfl hz).trans ?_)))
      unfold k0_pay93
      refine (stored _ _ i).trans ?_
      rw [← l0]; rfl
    · refine (store3_miss aL.view x.1 _ _ _ (k0_off29_eq k5 k) (Or.inl (show 1 + 0 < 3 by decide))).trans ((store3_miss aL.view x.1 _ _ _ (k0_off28_eq k5 k) (Or.inl (show 1 + 0 < 2 by decide))).trans
        ((store3_hit aL.view x.1 _ _ _ (ix3 (0 : Fin 1) (i 0) (i 1)) (k0_off27_eq k5 k) rfl rfl hz).trans ?_))
      unfold k0_pay153
      refine (stored _ _ i).trans ?_
      rw [← l0, ← l1]; rfl
    · refine (store3_miss aL.view x.1 _ _ _ (k0_off29_eq k5 k) (Or.inl (show 2 + 0 < 3 by decide))).trans
        ((store3_hit aL.view x.1 _ _ _ (ix3 (0 : Fin 1) (i 0) (i 1)) (k0_off28_eq k5 k) rfl rfl hz).trans ?_)
      unfold k0_pay155
      refine (stored _ _ i).trans ?_
      rw [← l0, ← l1, ← l2]; rfl
    · refine (store3_hit aL.view x.1 _ _ _ (ix3 (0 : Fin 1) (i 0) (i 1)) (k0_off29_eq k5 k) rfl rfl hz).trans ?_
      unfold k0_pay157
      refine (stored _ _ i).trans ?_
      rw [← l0, ← l1, ← l2, ← l3]; rfl
    · refine (store2_hit aC.view x.2.2 _ _ _ i (k0_off20_eq k5 k) rfl hz).trans ?_
      rw [← l0, ← l1, ← l2, ← l3]
      have e := load2 aC.view x.2.2 (k0_off20_inb k5 k) i (k0_off20_eq k5 k)
      rw [Nat.zero_add] at e
      rw [← e]
      unfold k0_pay159
      exact congrFun (shapeCast_self _ _) i
  · intro p hp
    have p68 : NatB 1024 (k0_pay68 (F := Ideal) _ _ _ _ _ i) := NatB.select i0 n1 (k0_pay66 (F := Ideal) (trip6.sl.r_3 c k4 k5 w0 w1 XS XN XA XD k) (trip6.sl.r_8 k5 k x) i)
    have p72 : NatB 1024 (k0_pay72 (F := Ideal) _ _ _ _ _ _ _ i) := NatB.select p68 i1 (k0_pay69 (F := Ideal) _ _ (trip6.sl.r_9 k5 k x) i)
    have p73 : NatB 1024 (k0_pay73 (F := Ideal) _ _ _ _ _ _ _ i) := NatB.select i1 p68 (k0_pay69 (F := Ideal) _ _ (trip6.sl.r_9 k5 k x) i)
    have p77 : NatB 1024 (k0_pay77 (F := Ideal) _ _ _ _ _ _ _ _ _ i) := NatB.select p73 i2 (k0_pay74 (F := Ideal) _ _ _ (trip6.sl.r_10 k5 k x) i)
    have p85 : NatB 1024 (k0_pay85 (F := Ideal) _ _ _ _ _ _ _ _ _ i) := NatB.select p72 n2 (k0_pay81 (F := Ideal) _ (trip6.sl.r_5 c k4 k5 w0 w1 XS XN XA XD k) _ _ i)
    dsimp only
    interval_cases p
    · refine NatB.of_eq ((store3_miss aI.view x.2.1 _ _ _ (k0_off29_eq k5 k) (Or.inl (show 0 + 0 < 3 by decide))).trans ((store3_miss aI.view x.2.1 _ _ _ (k0_off28_eq k5 k) (Or.inl (show 0 + 0 < 2 by decide))).trans
        ((store3_miss aI.view x.2.1 _ _ _ (k0_off27_eq k5 k) (Or.inl (show 0 + 0 < 1 by decide))).trans
        ((store3_hit aI.view x.2.1 _ _ _ (ix3 (0 : Fin 1) (i 0) (i 1)) (k0_off26_eq k5 k) rfl rfl hz))))) ?_
      unfold k0_pay94
      refine NatB.of_eq (stored _ _ i) ?_
      exact NatB.select n1 i0 _
    · refine NatB.of_eq ((store3_miss aI.view x.2.1 _ _ _ (k0_off29_eq k5 k) (Or.inl (show 1 + 0 < 3 by decide))).trans ((store3_miss aI.view x.2.1 _ _ _ (k0_off28_eq k5 k) (Or.inl (show 1 + 0 < 2 by decide))).trans
        ((store3_hit aI.view x.2.1 _ _ _ (ix3 (0 : Fin 1) (i 0) (i 1)) (k0_off27_eq k5 k) rfl rfl hz)))) ?_
      unfold k0_pay154
      refine NatB.of_eq (stored _ _ i) ?_
      exact NatB.select n2 p72 _
    · refine NatB.of_eq ((store3_miss aI.view x.2.1 _ _ _ (k0_off29_eq k5 k) (Or.inl (show 2 + 0 < 3 by decide))).trans
        ((store3_hit aI.view x.2.1 _ _ _ (ix3 (0 : Fin 1) (i 0) (i 1)) (k0_off28_eq k5 k) rfl rfl hz))) ?_
      unfold k0_pay156
      refine NatB.of_eq (stored _ _ i) ?_
      exact NatB.select p85 p77 _
    · refine NatB.of_eq ((store3_hit aI.view x.2.1 _ _ _ (ix3 (0 : Fin 1) (i 0) (i 1)) (k0_off29_eq k5 k) rfl rfl hz)) ?_
      unfold k0_pay158
      refine NatB.of_eq (stored _ _ i) ?_
      exact NatB.select (NatB.select p77 p85 _) (NatB.select (NatB.select i2 p73 _) i3 _) _

/-- and the other rows' lists. -/
theorem group_out (x : LIC Ideal) (r l : ℕ) (hr : r < 96 * k5.val + 8 * k.val ∨ 96 * k5.val + 8 * k.val + 8 ≤ r) (cnt : EReal → ℕ) (h : Good x r l cnt) :
    Good (trip6 c d0 d1 k4 k5 w0 w1 XS XN XA XD k x).1 r l cnt := by
  have h3 : ∀ p a : ℕ, p < a ∨ a + S1x8x128.size 0 ≤ p ∨ r < 96 * k5.val + 8 * k.val ∨ 96 * k5.val + 8 * k.val + S1x8x128.size 1 ≤ r := fun _ _ => Or.inr (Or.inr hr)
  rw [lists_eq]
  refine Good.of_eq h (fun p => ?_) (fun p => ?_) ?_
  all_goals dsimp only
  · exact (store3_miss aL.view x.1 _ _ _ (k0_off29_eq k5 k) (h3 p 3)).trans ((store3_miss aL.view x.1 _ _ _ (k0_off28_eq k5 k) (h3 p 2)).trans
      ((store3_miss aL.view x.1 _ _ _ (k0_off27_eq k5 k) (h3 p 1)).trans (store3_miss aL.view x.1 _ _ _ (k0_off26_eq k5 k) (h3 p 0))))
  · exact (store3_miss aI.view x.2.1 _ _ _ (k0_off29_eq k5 k) (h3 p 3)).trans ((store3_miss aI.view x.2.1 _ _ _ (k0_off28_eq k5 k) (h3 p 2)).trans
      ((store3_miss aI.view x.2.1 _ _ _ (k0_off27_eq k5 k) (h3 p 1)).trans (store3_miss aI.view x.2.1 _ _ _ (k0_off26_eq k5 k) (h3 p 0))))
  · exact store2_miss aC.view x.2.2 _ _ _ (k0_off20_eq k5 k) (hr.imp id Or.inl)

end Group

/-- The rows of the first `n` groups folded in, the others not. -/
theorem groups (hb : NatB 1000 (k0_pay152 (F := Ideal) d0 d1 k4)) (x : LIC Ideal) (r l : ℕ) (hl : l < 128) (cnt : EReal → ℕ) (h : Good x r l cnt) (n : ℕ) (hn : n ≤ 12) :
    Good (st6 c d0 d1 k4 k5 w0 w1 XS XN XA XD x n) r l
      (fun t => cnt t + if 96 * k5.val ≤ r ∧ r < 96 * k5.val + 8 * n then ∑ j ∈ Finset.range 16, hit t (lg k4 XS XN XA XD r l j) else 0) := by
  induction n with
  | zero =>
    refine Good.congr (x := x) h fun t => ?_
    rw [if_neg (by omega), Nat.add_zero]
  | succ n ih =>
    have hT : n < k0_t6_loop.trips := lt_of_lt_of_eq (show n < 12 by omega) (show 12 = k0_t6_loop.trips by decide)
    rw [st6, dif_pos hT]
    by_cases hr : r < 96 * k5.val + 8 * n ∨ 96 * k5.val + 8 * n + 8 ≤ r
    · refine (group_out c d0 d1 k4 k5 w0 w1 XS XN XA XD ⟨n, hT⟩ _ r l hr _ (ih (by omega))).congr fun t => ?_
      congr 1
      by_cases h1 : 96 * k5.val ≤ r ∧ r < 96 * k5.val + 8 * n
      · rw [if_pos h1, if_pos (by omega)]
      · rw [if_neg h1, if_neg (by omega)]
    · have hr' : r = 96 * k5.val + 8 * n + (r - (96 * k5.val + 8 * n)) := by omega
      have ih' := ih (by omega)
      have := group_in c d0 d1 k4 k5 w0 w1 XS XN XA XD ⟨n, hT⟩ hb (st6 c d0 d1 k4 k5 w0 w1 XS XN XA XD x n) (ix2 ⟨r - (96 * k5.val + 8 * n), by omega⟩ ⟨l, hl⟩)
        (fun t => cnt t + if 96 * k5.val ≤ r ∧ r < 96 * k5.val + 8 * n then ∑ j ∈ Finset.range 16, hit t (lg k4 XS XN XA XD r l j) else 0)
      change Good _ (96 * k5.val + 8 * n + (r - (96 * k5.val + 8 * n))) l _ → Good _ (96 * k5.val + 8 * n + (r - (96 * k5.val + 8 * n))) l
        (fun t => _ + ∑ j ∈ Finset.range 16, hit t (lg k4 XS XN XA XD (96 * k5.val + 8 * n + (r - (96 * k5.val + 8 * n))) l j)) at this
      rw [← hr'] at this
      refine (this ih').congr fun t => ?_
      rw [if_pos (by omega), if_neg (by omega), Nat.add_zero]

section Runs
variable (w9 : BitVec 32) (XQ : Ct (F := Ideal) aQ) (XR : Buf (Elt Ideal) ((rslot (2 * k4.val + 1)).view.loc (c : Thread nD τ)))

theorem run_lists (k : Fin k0_t5_loop.trips) (x : LIC Ideal) : (trip5 c d0 d1 k4 w9 XS XN XA XD XQ XR k x).1.2
    = st6 c d0 d1 k4 k (trip5.sl.arg17 k) (trip5.sl.v101 w9) XS XN XA XD x (Scf.trips k0_t6_loop.lb k0_t6_loop.ub k0_t6_loop.st) := by
  unfold trip5
  dsimp only

/-- The rows of the first `n` runs of groups folded in, the others not. -/
theorem runs (hb : NatB 1000 (k0_pay152 (F := Ideal) d0 d1 k4)) (x : LIC Ideal) (r l : ℕ) (hl : l < 128) (cnt : EReal → ℕ) (h : Good x r l cnt) (n : ℕ) (hn : n ≤ 4) :
    Good (st5 c d0 d1 k4 w9 XS XN XA XD XQ XR x n) r l (fun t => cnt t + if r < 96 * n then ∑ j ∈ Finset.range 16, hit t (lg k4 XS XN XA XD r l j) else 0) := by
  induction n with
  | zero =>
    refine Good.congr (x := x) h fun t => ?_
    rw [if_neg (by omega), Nat.add_zero]
  | succ n ih =>
    have hT : n < k0_t5_loop.trips := lt_of_lt_of_eq (show n < 4 by omega) (show 4 = k0_t5_loop.trips by decide)
    rw [st5, dif_pos hT, run_lists, show Scf.trips k0_t6_loop.lb k0_t6_loop.ub k0_t6_loop.st = 12 by decide]
    have := groups c d0 d1 k4 ⟨n, hT⟩ (trip5.sl.arg17 ⟨n, hT⟩) (trip5.sl.v101 w9) XS XN XA XD hb _ r l hl _ (ih (by omega)) 12 le_rfl
    refine this.congr fun t => ?_
    by_cases h1 : r < 96 * n
    · rw [if_pos (by omega), if_pos h1, if_neg (show ¬ (96 * n ≤ r ∧ r < 96 * n + 8 * 12) by omega), Nat.add_zero]
    · by_cases h2 : r < 96 * n + 96
      · rw [if_pos (by omega), if_neg h1, if_pos (show 96 * n ≤ r ∧ r < 96 * n + 8 * 12 by omega), Nat.add_zero]
      · rw [if_neg (by omega), if_neg h1, if_neg (show ¬ (96 * n ≤ r ∧ r < 96 * n + 8 * 12) by omega), Nat.add_zero]

/-- The tile folded into every row's lists. -/
theorem tile_in (hb : NatB 1000 (k0_pay152 (F := Ideal) d0 d1 k4)) (x : LIC Ideal) (r l : ℕ) (hr : r < 384) (hl : l < 128) (cnt : EReal → ℕ) (h : Good x r l cnt) :
    Good (st5 c d0 d1 k4 w9 XS XN XA XD XQ XR x k0_t5_loop.trips) r l (fun t => cnt t + ∑ j ∈ Finset.range 16, hit t (lg k4 XS XN XA XD r l j)) := by
  rw [show k0_t5_loop.trips = 4 by decide]
  refine (runs c d0 d1 k4 XS XN XA XD w9 XQ XR hb x r l hl cnt h 4 le_rfl).congr fun t => ?_
  rw [if_pos (show r < 96 * 4 by omega)]

end Runs

end Cert.Value.F6

end
-- ==== Proof.Value.Fold9.lean ====
/-
  One tile of columns folded into the lists: the group of eight rows' sixteen slabs per lane reduced to their best, second
  best and third best, and these entered in the lists and the bound. Second accumulator.
-/
module

public import proofs.«01_k».proof.Proof.KernelIdeal.Body
public import proofs.«01_k».proof.Proof.Value.Group
public import proofs.«01_k».proof.Proof.Value.Lists

@[expose] public section

set_option maxRecDepth 16384

noncomputable section

namespace Cert.Value.F9

open Idealize.ShloMosaic Idealize.ShloMosaic.TcCoe Idealize.ShloMosaic.ValueIdx Cert.TopMath Cert.Value
open Cert.KernelIdeal Cert.KernelIdeal.Gen Cert.KernelIdeal.Hand

theorem lane_apply (u1 v270 : S8x128.Idx → EReal) (v277 v286 : S1x128.Idx → EReal) (i : S8x128.Idx) :
    k0_pay105 (F := Ideal) u1 v270 v277 v286 i = v270 i * u1 i * v277 (ix2 (0 : Fin 1) (i 1)) + v286 (ix2 (0 : Fin 1) (i 1)) := by
  unfold k0_pay105
  show v270 i * u1 i * broadcastTo S8x128 (shapeCast S1x128 v277 shapeCasts_S1x128_S1x128) broadcasts_S1x128_S8x128 i
    + broadcastTo S8x128 (shapeCast S1x128 v286 shapeCasts_S1x128_S1x128) broadcasts_S1x128_S8x128 i = _
  rw [shapeCast_self, shapeCast_self, bcast_apply, bcast_apply]

theorem lane0_apply (u1 v270 : S8x128.Idx → EReal) (v277 v286 : S1x128.Idx → EReal) (i : S8x128.Idx) :
    k0_pay95 (F := Ideal) u1 v270 v277 v286 i = v270 i * u1 i * v277 (ix2 (0 : Fin 1) (i 1)) + v286 (ix2 (0 : Fin 1) (i 1)) := by
  unfold k0_pay95
  show v270 i * u1 i * broadcastTo S8x128 (shapeCast S1x128 v277 shapeCasts_S1x128_S1x128) broadcasts_S1x128_S8x128 i
    + broadcastTo S8x128 (shapeCast S1x128 v286 shapeCasts_S1x128_S1x128) broadcasts_S1x128_S8x128 i = _
  rw [shapeCast_self, shapeCast_self, bcast_apply, bcast_apply]

theorem lane1_apply (u1 v136 : S8x128.Idx → EReal) (v142 v150 : S1x128.Idx → EReal) (i : S8x128.Idx) :
    k0_pay98 (F := Ideal) (k0_pay97 (F := Ideal) u1 v136 v142) v150 i = v136 i * u1 i * v142 (ix2 (0 : Fin 1) (i 1)) + v150 (ix2 (0 : Fin 1) (i 1)) := by
  unfold k0_pay98 k0_pay97
  show v136 i * u1 i * broadcastTo S8x128 (shapeCast S1x128 v142 shapeCasts_S1x128_S1x128) broadcasts_S1x128_S8x128 i
    + broadcastTo S8x128 (shapeCast S1x128 v150 shapeCasts_S1x128_S1x128) broadcasts_S1x128_S8x128 i = _
  rw [shapeCast_self, shapeCast_self, bcast_apply, bcast_apply]

variable (c : Dev nD) (g : FVec Ideal S384x128 .f32) (k4 : Fin k0_t4_loop.trips) (w5 : BitVec 32) (k8 : Fin k0_t8_loop.trips) (w0 w1 : BitVec 32)
  (XS : Ct (F := Ideal) aS) (XN : Ct (F := Ideal) aN) (XA : Ct (F := Ideal) aB) (XD : Ct (F := Ideal) aD)

/-- The logit of row `r` in lane `l` and slab `j` of the tile. -/
abbrev lg (r l j : ℕ) : EReal :=
  lgt (at2 (aB.view.read (Elt Ideal) XA)) (at2 (aD.view.read (Elt Ideal) XD)) (at2 (aS.view.read (Elt Ideal) XS)) (at2 (aN.view.read (Elt Ideal) XN)) (4096 * k4.val + 2048) r l j

section Slab
variable (k9 : Fin k0_t9_loop.trips) (w2 : BitVec 32) (u2 u3 u4 : FVec Ideal S8x128 .f32) (w3 w4 : BitVec 32)

/-- A further slab folded in. -/
theorem slab_two (k : Fin k0_t10_loop.trips) (a : V5 Ideal) (i : S8x128.Idx) (cnt : EReal → ℕ) (h : Two a i cnt) :
    Two (trip10 c k4 k8 w1 k9 w2 (trip9.sl.r k8 XD k9) u2 u3 u4 w3 w4 XS XN XA k a).1 i
      (fun t => cnt t + hit t (lg k4 XS XN XA XD (96 * k8.val + 8 * k9.val + (i 0).val) (i 1).val (k.val + 2))) := by
  have hx : k0_pay105 (F := Ideal) (trip9.sl.r k8 XD k9) (aB.view.readAt (Elt Ideal) (Rect.unit (s := S384x2048) (k0_off39 k8 k9 k) S8x128.size (k0_off39_inb k8 k9 k)).toLoadRect XA)
      (aS.view.readAt (Elt Ideal) (Rect.unit (s := S1x100352) (k0_off40 k4 k) S1x128.size (k0_off40_inb k4 k)).toLoadRect XS)
      (aN.view.readAt (Elt Ideal) (Rect.unit (s := S1x100352) (k0_off40 k4 k) S1x128.size (k0_off40_inb k4 k)).toLoadRect XN) i
      = lg k4 XS XN XA XD (96 * k8.val + 8 * k9.val + (i 0).val) (i 1).val (k.val + 2) := by
    rw [lane_apply]
    unfold trip9.sl.r
    rw [load2 aB.view XA _ i (k0_off39_eq k8 k9 k), load2 aD.view XD _ i (k0_off35_eq k8 k9),
      load2 (size := S1x128.size) aS.view XS _ _ (k0_off40_eq k4 k), load2 (size := S1x128.size) aN.view XN _ _ (k0_off40_eq k4 k)]
    unfold lg lgt
    congr 1
    · congr 1
      · congr 2 <;> omega
      · congr 1; show 4096 * k4.val + 128 * k.val + 2304 + (i 1).val = _; omega
    · congr 1; show 4096 * k4.val + 128 * k.val + 2304 + (i 1).val = _; omega
  have hn : NatB 16 (k0_pay106 (F := Ideal) k i) := slab_nat k.val (Nat.lt_of_lt_of_le k.isLt k0_t10_abs.2.1)
  rw [← hx]
  exact ⟨two_step h.exact _, NatB.select hn h.nat1 _, NatB.select h.nat1 (NatB.select hn h.nat2 _) _⟩

/-- The slabs from the third folded in. -/
theorem slabs_two (a : V5 Ideal) (i : S8x128.Idx) (cnt : EReal → ℕ) (h : Two a i cnt) (n : ℕ) (hn : n ≤ 14) :
    Two (st10 c k4 k8 w1 k9 w2 (trip9.sl.r k8 XD k9) u2 u3 u4 w3 w4 XS XN XA a n) i
      (fun t => cnt t + ∑ j ∈ Finset.range n, hit t (lg k4 XS XN XA XD (96 * k8.val + 8 * k9.val + (i 0).val) (i 1).val (j + 2))) := by
  induction n with
  | zero => simpa [st10] using h
  | succ n ih =>
    have hT : n < k0_t10_loop.trips := lt_of_lt_of_eq (show n < 14 by omega) (show 14 = k0_t10_loop.trips by decide)
    rw [st10, dif_pos hT]
    refine (slab_two c k4 k8 w1 XS XN XA XD k9 w2 u2 u3 u4 w3 w4 ⟨n, hT⟩ _ i _ (ih (by omega))).congr fun t => ?_
    rw [Finset.sum_range_succ]
    exact (Nat.add_assoc _ _ _).symm

end Slab

section Group
variable (k : Fin k0_t9_loop.trips)

/-- The group's best, second best and third best, lane by lane. -/
theorem group_two (i : S8x128.Idx) :
    Two (trip9.sl.r_3 c k4 k8 w0 w1 XS XN XA XD k, trip9.sl.r_4 c k4 k8 w0 w1 XS XN XA XD k, trip9.sl.r_5 c k4 k8 w0 w1 XS XN XA XD k,
      trip9.sl.r_6 c k4 k8 w0 w1 XS XN XA XD k, trip9.sl.r_7 c k4 k8 w0 w1 XS XN XA XD k) i
      (fun t => ∑ j ∈ Finset.range 16, hit t (lg k4 XS XN XA XD (96 * k8.val + 8 * k.val + (i 0).val) (i 1).val j)) := by
  have h0 : trip9.sl.r_1 k4 k8 XS XN XA XD k i = lg k4 XS XN XA XD (96 * k8.val + 8 * k.val + (i 0).val) (i 1).val 0 := by
    have e : k0_off37 k4 0#32 = ![0, 4096 * k4.val + 2048 + 128 * 0] := (k0_off37_eq k4 0).trans (congrArg (fun n => ![0, n]) (show 4096 * k4.val + 128 * 0 + 2048 = _ by omega))
    unfold trip9.sl.r_1
    rw [lane0_apply, load2 aB.view XA _ i (k0_off36_eq k8 k), load2 aD.view XD _ i (k0_off35_eq k8 k),
      load2 (size := S1x128.size) aS.view XS _ _ e, load2 (size := S1x128.size) aN.view XN _ _ e]
    unfold lg lgt
    congr 1
    · congr 1
      · congr 2 <;> omega
      · exact congrArg (at2 (aS.view.read (Elt Ideal) XS) 0) (Nat.add_assoc (4096 * k4.val + 2048) (128 * 0) (i 1).val)
    · exact congrArg (at2 (aN.view.read (Elt Ideal) XN) 0) (Nat.add_assoc (4096 * k4.val + 2048) (128 * 0) (i 1).val)
  have h1 : k0_pay98 (F := Ideal) (trip9.sl.r_2 k4 k8 XS XA XD k) (aN.view.readAt (Elt Ideal) (Rect.unit (s := S1x100352) (k0_off37 k4 128#32) S1x128.size (k0_off37_inb k4 1)).toLoadRect XN) i
      = lg k4 XS XN XA XD (96 * k8.val + 8 * k.val + (i 0).val) (i 1).val 1 := by
    have e : k0_off37 k4 128#32 = ![0, 4096 * k4.val + 2048 + 128 * 1] := (k0_off37_eq k4 1).trans (congrArg (fun n => ![0, n]) (show 4096 * k4.val + 128 * 1 + 2048 = _ by omega))
    unfold trip9.sl.r_2
    rw [lane1_apply, load2 aB.view XA _ i (k0_off38_eq k8 k), load2 aD.view XD _ i (k0_off35_eq k8 k),
      load2 (size := S1x128.size) aS.view XS _ _ e, load2 (size := S1x128.size) aN.view XN _ _ e]
    unfold lg lgt
    congr 1
    · congr 1
      · congr 2 <;> omega
      · exact congrArg (at2 (aS.view.read (Elt Ideal) XS) 0) (Nat.add_assoc (4096 * k4.val + 2048) (128 * 1) (i 1).val)
    · exact congrArg (at2 (aN.view.read (Elt Ideal) XN) 0) (Nat.add_assoc (4096 * k4.val + 2048) (128 * 1) (i 1).val)
  have hs := two_start (trip9.sl.r_1 k4 k8 XS XN XA XD k i) (k0_pay98 (F := Ideal) (trip9.sl.r_2 k4 k8 XS XA XD k) (aN.view.readAt (Elt Ideal) (Rect.unit (s := S1x100352) (k0_off37 k4 128#32) S1x128.size (k0_off37_inb k4 1)).toLoadRect XN) i)
  have h := slabs_two c k4 k8 w1 XS XN XA XD k (trip9.sl.v107 w0 k) (trip9.sl.r_1 k4 k8 XS XN XA XD k) k0_pay96
      (trip9.sl.r_2 k4 k8 XS XA XD k) (trip9.sl.v146 w1) (128#32)
      (k0_pay100 (trip9.sl.r_1 k4 k8 XS XN XA XD k) (trip9.sl.r_2 k4 k8 XS XA XD k)
          (aN.view.readAt (Elt Ideal) (Rect.unit (s := S1x100352) (k0_off37 k4 128#32) S1x128.size (k0_off37_inb k4 1)).toLoadRect XN),
        k0_pay102 (trip9.sl.r_1 k4 k8 XS XN XA XD k) k0_pay96 (trip9.sl.r_2 k4 k8 XS XA XD k)
          (aN.view.readAt (Elt Ideal) (Rect.unit (s := S1x100352) (k0_off37 k4 128#32) S1x128.size (k0_off37_inb k4 1)).toLoadRect XN),
        k0_pay101 (trip9.sl.r_1 k4 k8 XS XN XA XD k) (trip9.sl.r_2 k4 k8 XS XA XD k)
          (aN.view.readAt (Elt Ideal) (Rect.unit (s := S1x100352) (k0_off37 k4 128#32) S1x128.size (k0_off37_inb k4 1)).toLoadRect XN),
        k0_pay103 (trip9.sl.r_1 k4 k8 XS XN XA XD k) k0_pay96 (trip9.sl.r_2 k4 k8 XS XA XD k)
          (aN.view.readAt (Elt Ideal) (Rect.unit (s := S1x100352) (k0_off37 k4 128#32) S1x128.size (k0_off37_inb k4 1)).toLoadRect XN),
        k0_pay104) i _ ⟨hs, NatB.select nat_one nat_zero _, NatB.select nat_zero nat_one _⟩ 14 le_rfl
  refine Two.congr h fun t => ?_
  rw [h0, h1, Finset.sum_range_succ' _ 15, Finset.sum_range_succ' _ 14]
  simp only [Nat.add_assoc, Nat.reduceAdd, Nat.zero_add]
  omega

/-- A list place's rows of the group, as loaded. -/
theorem place {off : Fin 3 → ℕ} (p : ℕ) (inb) (h : off = ![p, 96 * k8.val + 8 * k.val, 0]) (hs : S1x8x128.ShapeCasts S8x128) (i : S8x128.Idx)
    (m : Memref sig .tc .vmem S8x384x128 .f32) (X : Ct (F := Ideal) m) :
    shapeCast S8x128 (m.view.readAt (Elt Ideal) (Rect.unit (s := S8x384x128) off S1x8x128.size inb).toLoadRect X) hs i
      = at3 (m.view.read (Elt Ideal) X) p (96 * k8.val + 8 * k.val + (i 0).val) (i 1).val := by
  refine (congrArg _ (eq_ix2 i)).trans ((shapeCast_1ab_ab_apply (a := 8) (b := 128) _ hs (i 0) (i 1)).trans ?_)
  refine (load3 m.view X inb (ix3 (0 : Fin 1) (i 0) (i 1)) h).trans ?_
  show at3 _ (p + 0) _ (0 + (i 1).val) = _
  rw [Nat.add_zero, Nat.zero_add]

/-- A list place's rows of the group, as stored. -/
theorem stored (v : FVec Ideal S8x128 .f32) (hs : S8x128.ShapeCasts S1x8x128) (i : S8x128.Idx) :
    shapeCast S1x8x128 v hs (ix3 (0 : Fin 1) (i 0) (i 1)) = v i :=
  (shapeCast_ab_1ab_apply (a := 8) (b := 128) v hs 0 (i 0) (i 1)).trans (congrArg v (eq_ix2 i).symm)

theorem lists_eq (x : LIC Ideal) : (trip9 c g k4 w5 k8 w0 w1 XS XN XA XD k x).1
    = (aL.view.writes (Elt Ideal) x.1
        [⟨Rect.unit (s := S8x384x128) (k0_off44 k8 k) S1x8x128.size (k0_off44_inb k8 k), k0_pay323 (F := Ideal) (trip9.sl.r_20 c k4 k8 w0 w1 XS XN XA XD k x)⟩,
          ⟨Rect.unit (s := S8x384x128) (k0_off43 k8 k) S1x8x128.size (k0_off43_inb k8 k), k0_pay321 (F := Ideal) (trip9.sl.r_18 c k4 k8 w0 w1 XS XN XA XD k x)⟩,
          ⟨Rect.unit (s := S8x384x128) (k0_off42 k8 k) S1x8x128.size (k0_off42_inb k8 k), k0_pay319 (F := Ideal) (trip9.sl.r_16 c k4 k8 w0 w1 XS XN XA XD k x)⟩,
          ⟨Rect.unit (s := S8x384x128) (k0_off41 k8 k) S1x8x128.size (k0_off41_inb k8 k),
            k0_pay149 (F := Ideal) (trip9.sl.r_3 c k4 k8 w0 w1 XS XN XA XD k) (trip9.sl.r_8 k8 k x)⟩],
      aI.view.writes (Elt Ideal) x.2.1
        [⟨Rect.unit (s := S8x384x128) (k0_off44 k8 k) S1x8x128.size (k0_off44_inb k8 k), k0_pay324 (F := Ideal) (trip9.sl.r_22 c k4 w5 k8 w0 w1 XS XN XA XD k x)⟩,
          ⟨Rect.unit (s := S8x384x128) (k0_off43 k8 k) S1x8x128.size (k0_off43_inb k8 k), k0_pay322 (F := Ideal) (trip9.sl.r_19 c k4 w5 k8 w0 w1 XS XN XA XD k x)⟩,
          ⟨Rect.unit (s := S8x384x128) (k0_off42 k8 k) S1x8x128.size (k0_off42_inb k8 k), k0_pay320 (F := Ideal) (trip9.sl.r_17 c k4 w5 k8 w0 w1 XS XN XA XD k x)⟩,
          ⟨Rect.unit (s := S8x384x128) (k0_off41 k8 k) S1x8x128.size (k0_off41_inb k8 k),
            k0_pay150 (F := Ideal) (k0_pay318 w5) (trip9.sl.r_3 c k4 k8 w0 w1 XS XN XA XD k)
              (trip9.sl.r_4 c k4 k8 w0 w1 XS XN XA XD k) (trip9.sl.r_8 k8 k x) (trip9.sl.r_12 k8 k x)⟩],
      aC.view.writes (Elt Ideal) x.2.2
        [⟨Rect.unit (s := S384x128) (k0_off35 k8 k) S8x128.size (k0_off35_inb k8 k),
            k0_pay325 (F := Ideal) (trip9.sl.r_7 c k4 k8 w0 w1 XS XN XA XD k) (trip9.sl.r_15 c k4 k8 w0 w1 XS XN XA XD k x)
              (trip9.sl.r_21 c k4 k8 w0 w1 XS XN XA XD k x)
              (aC.view.readAt (Elt Ideal) (Rect.unit (s := S384x128) (k0_off35 k8 k) S8x128.size (k0_off35_inb k8 k)).toLoadRect x.2.2)⟩]) := rfl

/-- A group of rows folded in: its rows' lists, -/
theorem group_in (hb : NatB 1000 (k0_pay318 (F := Ideal) w5)) (x : LIC Ideal) (i : S8x128.Idx) (cnt : EReal → ℕ)
    (h : Good x (96 * k8.val + 8 * k.val + (i 0).val) (i 1).val cnt) :
    Good (trip9 c g k4 w5 k8 w0 w1 XS XN XA XD k x).1 (96 * k8.val + 8 * k.val + (i 0).val) (i 1).val
      (fun t => cnt t + ∑ j ∈ Finset.range 16, hit t (lg k4 XS XN XA XD (96 * k8.val + 8 * k.val + (i 0).val) (i 1).val j)) := by
  have hg := group_two c k4 k8 w0 w1 XS XN XA XD k i
  have hz : (i 1).val = 0 + (i 1).val := (Nat.zero_add _).symm
  have l0 : trip9.sl.r_8 k8 k x i = at3 (aL.view.read (Elt Ideal) x.1) 0 (96 * k8.val + 8 * k.val + (i 0).val) (i 1).val := place k8 k 0 _ (k0_off41_eq k8 k) _ i aL x.1
  have l1 : trip9.sl.r_9 k8 k x i = at3 (aL.view.read (Elt Ideal) x.1) 1 (96 * k8.val + 8 * k.val + (i 0).val) (i 1).val := place k8 k 1 _ (k0_off42_eq k8 k) _ i aL x.1
  have l2 : trip9.sl.r_10 k8 k x i = at3 (aL.view.read (Elt Ideal) x.1) 2 (96 * k8.val + 8 * k.val + (i 0).val) (i 1).val := place k8 k 2 _ (k0_off43_eq k8 k) _ i aL x.1
  have l3 : trip9.sl.r_11 k8 k x i = at3 (aL.view.read (Elt Ideal) x.1) 3 (96 * k8.val + 8 * k.val + (i 0).val) (i 1).val := place k8 k 3 _ (k0_off44_eq k8 k) _ i aL x.1
  have i0 : NatB 1024 (trip9.sl.r_12 k8 k x i) := by
    rw [show trip9.sl.r_12 k8 k x i = _ from place k8 k 0 _ (k0_off41_eq k8 k) _ i aI x.2.1]; exact h.nat 0 (by omega)
  have i1 : NatB 1024 (trip9.sl.r_13 k8 k x i) := by
    rw [show trip9.sl.r_13 k8 k x i = _ from place k8 k 1 _ (k0_off42_eq k8 k) _ i aI x.2.1]; exact h.nat 1 (by omega)
  have i2 : NatB 1024 (trip9.sl.r_14 k8 k x i) := by
    rw [show trip9.sl.r_14 k8 k x i = _ from place k8 k 2 _ (k0_off43_eq k8 k) _ i aI x.2.1]; exact h.nat 2 (by omega)
  have i3 : NatB 1024 (shapeCast S8x128 (aI.view.readAt (Elt Ideal) (Rect.unit (s := S8x384x128) (k0_off44 k8 k) S1x8x128.size (k0_off44_inb k8 k)).toLoadRect x.2.1) shapeCasts_S1x8x128_S8x128 i) := by
    rw [place k8 k 3 _ (k0_off44_eq k8 k) _ i aI x.2.1]; exact h.nat 3 (by omega)
  have n1 : NatB 1024 (trip9.sl.r_4 c k4 k8 w0 w1 XS XN XA XD k i + k0_pay318 (F := Ideal) w5) := hg.nat1.add hb (by omega)
  have n2 : NatB 1024 (trip9.sl.r_6 c k4 k8 w0 w1 XS XN XA XD k i + k0_pay318 (F := Ideal) w5) := hg.nat2.add hb (by omega)
  rw [lists_eq]
  refine ⟨?_, ?_⟩
  · have hs := group_step h.exact hg.exact
    refine hs.congr' ?_ ?_ ?_ ?_ ?_
    all_goals dsimp only
    · refine (store3_miss aL.view x.1 _ _ _ (k0_off44_eq k8 k) (Or.inl (show 0 + 0 < 3 by decide))).trans ((store3_miss aL.view x.1 _ _ _ (k0_off43_eq k8 k) (Or.inl (show 0 + 0 < 2 by decide))).trans
        ((store3_miss aL.view x.1 _ _ _ (k0_off42_eq k8 k) (Or.inl (show 0 + 0 < 1 by decide))).trans
        ((store3_hit aL.view x.1 _ _ _ (ix3 (0 : Fin 1) (i 0) (i 1)) (k0_off41_eq k8 k) rfl rfl hz).trans ?_)))
      unfold k0_pay149
      refine (stored _ _ i).trans ?_
      rw [← l0]; rfl
    · refine (store3_miss aL.view x.1 _ _ _ (k0_off44_eq k8 k) (Or.inl (show 1 + 0 < 3 by decide))).trans ((store3_miss aL.view x.1 _ _ _ (k0_off43_eq k8 k) (Or.inl (show 1 + 0 < 2 by decide))).trans
        ((store3_hit aL.view x.1 _ _ _ (ix3 (0 : Fin 1) (i 0) (i 1)) (k0_off42_eq k8 k) rfl rfl hz).trans ?_))
      unfold k0_pay319
      refine (stored _ _ i).trans ?_
      rw [← l0, ← l1]; rfl
    · refine (store3_miss aL.view x.1 _ _ _ (k0_off44_eq k8 k) (Or.inl (show 2 + 0 < 3 by decide))).trans
        ((store3_hit aL.view x.1 _ _ _ (ix3 (0 : Fin 1) (i 0) (i 1)) (k0_off43_eq k8 k) rfl rfl hz).trans ?_)
      unfold k0_pay321
      refine (stored _ _ i).trans ?_
      rw [← l0, ← l1, ← l2]; rfl
    · refine (store3_hit aL.view x.1 _ _ _ (ix3 (0 : Fin 1) (i 0) (i 1)) (k0_off44_eq k8 k) rfl rfl hz).trans ?_
      unfold k0_pay323
      refine (stored _ _ i).trans ?_
      rw [← l0, ← l1, ← l2, ← l3]; rfl
    · refine (store2_hit aC.view x.2.2 _ _ _ i (k0_off35_eq k8 k) rfl hz).trans ?_
      rw [← l0, ← l1, ← l2, ← l3]
      have e := load2 aC.view x.2.2 (k0_off35_inb k8 k) i (k0_off35_eq k8 k)
      rw [Nat.zero_add] at e
      rw [← e]
      unfold k0_pay325
      exact congrFun (shapeCast_self _ _) i
  · intro p hp
    have p68 : NatB 1024 (k0_pay124 (F := Ideal) _ _ _ _ _ i) := NatB.select i0 n1 (k0_pay122 (F := Ideal) (trip9.sl.r_3 c k4 k8 w0 w1 XS XN XA XD k) (trip9.sl.r_8 k8 k x) i)
    have p72 : NatB 1024 (k0_pay128 (F := Ideal) _ _ _ _ _ _ _ i) := NatB.select p68 i1 (k0_pay125 (F := Ideal) _ _ (trip9.sl.r_9 k8 k x) i)
    have p73 : NatB 1024 (k0_pay129 (F := Ideal) _ _ _ _ _ _ _ i) := NatB.select i1 p68 (k0_pay125 (F := Ideal) _ _ (trip9.sl.r_9 k8 k x) i)
    have p77 : NatB 1024 (k0_pay133 (F := Ideal) _ _ _ _ _ _ _ _ _ i) := NatB.select p73 i2 (k0_pay130 (F := Ideal) _ _ _ (trip9.sl.r_10 k8 k x) i)
    have p85 : NatB 1024 (k0_pay141 (F := Ideal) _ _ _ _ _ _ _ _ _ i) := NatB.select p72 n2 (k0_pay137 (F := Ideal) _ (trip9.sl.r_5 c k4 k8 w0 w1 XS XN XA XD k) _ _ i)
    dsimp only
    interval_cases p
    · refine NatB.of_eq ((store3_miss aI.view x.2.1 _ _ _ (k0_off44_eq k8 k) (Or.inl (show 0 + 0 < 3 by decide))).trans ((store3_miss aI.view x.2.1 _ _ _ (k0_off43_eq k8 k) (Or.inl (show 0 + 0 < 2 by decide))).trans
        ((store3_miss aI.view x.2.1 _ _ _ (k0_off42_eq k8 k) (Or.inl (show 0 + 0 < 1 by decide))).trans
        ((store3_hit aI.view x.2.1 _ _ _ (ix3 (0 : Fin 1) (i 0) (i 1)) (k0_off41_eq k8 k) rfl rfl hz))))) ?_
      unfold k0_pay150
      refine NatB.of_eq (stored _ _ i) ?_
      exact NatB.select n1 i0 _
    · refine NatB.of_eq ((store3_miss aI.view x.2.1 _ _ _ (k0_off44_eq k8 k) (Or.inl (show 1 + 0 < 3 by decide))).trans ((store3_miss aI.view x.2.1 _ _ _ (k0_off43_eq k8 k) (Or.inl (show 1 + 0 < 2 by decide))).trans
        ((store3_hit aI.view x.2.1 _ _ _ (ix3 (0 : Fin 1) (i 0) (i 1)) (k0_off42_eq k8 k) rfl rfl hz)))) ?_
      unfold k0_pay320
      refine NatB.of_eq (stored _ _ i) ?_
      exact NatB.select n2 p72 _
    · refine NatB.of_eq ((store3_miss aI.view x.2.1 _ _ _ (k0_off44_eq k8 k) (Or.inl (show 2 + 0 < 3 by decide))).trans
        ((store3_hit aI.view x.2.1 _ _ _ (ix3 (0 : Fin 1) (i 0) (i 1)) (k0_off43_eq k8 k) rfl rfl hz))) ?_
      unfold k0_pay322
      refine NatB.of_eq (stored _ _ i) ?_
      exact NatB.select p85 p77 _
    · refine NatB.of_eq ((store3_hit aI.view x.2.1 _ _ _ (ix3 (0 : Fin 1) (i 0) (i 1)) (k0_off44_eq k8 k) rfl rfl hz)) ?_
      unfold k0_pay324
      refine NatB.of_eq (stored _ _ i) ?_
      exact NatB.select (NatB.select p77 p85 _) (NatB.select (NatB.select i2 p73 _) i3 _) _

/-- and the other rows' lists. -/
theorem group_out (x : LIC Ideal) (r l : ℕ) (hr : r < 96 * k8.val + 8 * k.val ∨ 96 * k8.val + 8 * k.val + 8 ≤ r) (cnt : EReal → ℕ) (h : Good x r l cnt) :
    Good (trip9 c g k4 w5 k8 w0 w1 XS XN XA XD k x).1 r l cnt := by
  have h3 : ∀ p a : ℕ, p < a ∨ a + S1x8x128.size 0 ≤ p ∨ r < 96 * k8.val + 8 * k.val ∨ 96 * k8.val + 8 * k.val + S1x8x128.size 1 ≤ r := fun _ _ => Or.inr (Or.inr hr)
  rw [lists_eq]
  refine Good.of_eq h (fun p => ?_) (fun p => ?_) ?_
  all_goals dsimp only
  · exact (store3_miss aL.view x.1 _ _ _ (k0_off44_eq k8 k) (h3 p 3)).trans ((store3_miss aL.view x.1 _ _ _ (k0_off43_eq k8 k) (h3 p 2)).trans
      ((store3_miss aL.view x.1 _ _ _ (k0_off42_eq k8 k) (h3 p 1)).trans (store3_miss aL.view x.1 _ _ _ (k0_off41_eq k8 k) (h3 p 0))))
  · exact (store3_miss aI.view x.2.1 _ _ _ (k0_off44_eq k8 k) (h3 p 3)).trans ((store3_miss aI.view x.2.1 _ _ _ (k0_off43_eq k8 k) (h3 p 2)).trans
      ((store3_miss aI.view x.2.1 _ _ _ (k0_off42_eq k8 k) (h3 p 1)).trans (store3_miss aI.view x.2.1 _ _ _ (k0_off41_eq k8 k) (h3 p 0))))
  · exact store2_miss aC.view x.2.2 _ _ _ (k0_off35_eq k8 k) (hr.imp id Or.inl)

end Group

/-- The rows of the first `n` groups folded in, the others not. -/
theorem groups (hb : NatB 1000 (k0_pay318 (F := Ideal) w5)) (x : LIC Ideal) (r l : ℕ) (hl : l < 128) (cnt : EReal → ℕ) (h : Good x r l cnt) (n : ℕ) (hn : n ≤ 12) :
    Good (st9 c g k4 w5 k8 w0 w1 XS XN XA XD x n) r l
      (fun t => cnt t + if 96 * k8.val ≤ r ∧ r < 96 * k8.val + 8 * n then ∑ j ∈ Finset.range 16, hit t (lg k4 XS XN XA XD r l j) else 0) := by
  induction n with
  | zero =>
    refine Good.congr (x := x) h fun t => ?_
    rw [if_neg (by omega), Nat.add_zero]
  | succ n ih =>
    have hT : n < k0_t9_loop.trips := lt_of_lt_of_eq (show n < 12 by omega) (show 12 = k0_t9_loop.trips by decide)
    rw [st9, dif_pos hT]
    by_cases hr : r < 96 * k8.val + 8 * n ∨ 96 * k8.val + 8 * n + 8 ≤ r
    · refine (group_out c g k4 w5 k8 w0 w1 XS XN XA XD ⟨n, hT⟩ _ r l hr _ (ih (by omega))).congr fun t => ?_
      congr 1
      by_cases h1 : 96 * k8.val ≤ r ∧ r < 96 * k8.val + 8 * n
      · rw [if_pos h1, if_pos (by omega)]
      · rw [if_neg h1, if_neg (by omega)]
    · have hr' : r = 96 * k8.val + 8 * n + (r - (96 * k8.val + 8 * n)) := by omega
      have ih' := ih (by omega)
      have := group_in c g k4 w5 k8 w0 w1 XS XN XA XD ⟨n, hT⟩ hb (st9 c g k4 w5 k8 w0 w1 XS XN XA XD x n) (ix2 ⟨r - (96 * k8.val + 8 * n), by omega⟩ ⟨l, hl⟩)
        (fun t => cnt t + if 96 * k8.val ≤ r ∧ r < 96 * k8.val + 8 * n then ∑ j ∈ Finset.range 16, hit t (lg k4 XS XN XA XD r l j) else 0)
      change Good _ (96 * k8.val + 8 * n + (r - (96 * k8.val + 8 * n))) l _ → Good _ (96 * k8.val + 8 * n + (r - (96 * k8.val + 8 * n))) l
        (fun t => _ + ∑ j ∈ Finset.range 16, hit t (lg k4 XS XN XA XD (96 * k8.val + 8 * n + (r - (96 * k8.val + 8 * n))) l j)) at this
      rw [← hr'] at this
      refine (this ih').congr fun t => ?_
      rw [if_pos (by omega), if_neg (by omega), Nat.add_zero]

section Runs
variable (w9 : BitVec 32) (XQ : Ct (F := Ideal) aQ) (XR : Buf (Elt Ideal) ((rslot (2 * k4.val + 2)).view.loc (c : Thread nD τ)))

theorem run_lists (k : Fin k0_t8_loop.trips) (x : LIC Ideal) : (trip8 c g k4 w9 XS XN XA XD XQ XR k x).1.2
    = st9 c g k4 w9 k (trip8.sl.arg17 k) (trip8.sl.v101 w9) XS XN XA XD x (Scf.trips k0_t9_loop.lb k0_t9_loop.ub k0_t9_loop.st) := by
  unfold trip8
  dsimp only

/-- The rows of the first `n` runs of groups folded in, the others not. -/
theorem runs (hb : NatB 1000 (k0_pay318 (F := Ideal) w9)) (x : LIC Ideal) (r l : ℕ) (hl : l < 128) (cnt : EReal → ℕ) (h : Good x r l cnt) (n : ℕ) (hn : n ≤ 4) :
    Good (st8 c g k4 w9 XS XN XA XD XQ XR x n) r l (fun t => cnt t + if r < 96 * n then ∑ j ∈ Finset.range 16, hit t (lg k4 XS XN XA XD r l j) else 0) := by
  induction n with
  | zero =>
    refine Good.congr (x := x) h fun t => ?_
    rw [if_neg (by omega), Nat.add_zero]
  | succ n ih =>
    have hT : n < k0_t8_loop.trips := lt_of_lt_of_eq (show n < 4 by omega) (show 4 = k0_t8_loop.trips by decide)
    rw [st8, dif_pos hT, run_lists, show Scf.trips k0_t9_loop.lb k0_t9_loop.ub k0_t9_loop.st = 12 by decide]
    have := groups c g k4 w9 ⟨n, hT⟩ (trip8.sl.arg17 ⟨n, hT⟩) (trip8.sl.v101 w9) XS XN XA XD hb _ r l hl _ (ih (by omega)) 12 le_rfl
    refine this.congr fun t => ?_
    by_cases h1 : r < 96 * n
    · rw [if_pos (by omega), if_pos h1, if_neg (show ¬ (96 * n ≤ r ∧ r < 96 * n + 8 * 12) by omega), Nat.add_zero]
    · by_cases h2 : r < 96 * n + 96
      · rw [if_pos (by omega), if_neg h1, if_pos (show 96 * n ≤ r ∧ r < 96 * n + 8 * 12 by omega), Nat.add_zero]
      · rw [if_neg (by omega), if_neg h1, if_neg (show ¬ (96 * n ≤ r ∧ r < 96 * n + 8 * 12) by omega), Nat.add_zero]

/-- The tile folded into every row's lists. -/
theorem tile_in (hb : NatB 1000 (k0_pay318 (F := Ideal) w9)) (x : LIC Ideal) (r l : ℕ) (hr : r < 384) (hl : l < 128) (cnt : EReal → ℕ) (h : Good x r l cnt) :
    Good (st8 c g k4 w9 XS XN XA XD XQ XR x k0_t8_loop.trips) r l (fun t => cnt t + ∑ j ∈ Finset.range 16, hit t (lg k4 XS XN XA XD r l j)) := by
  rw [show k0_t8_loop.trips = 4 by decide]
  refine (runs c g k4 XS XN XA XD w9 XQ XR hb x r l hl cnt h 4 le_rfl).congr fun t => ?_
  rw [if_pos (show r < 96 * 4 by omega)]

end Runs

end Cert.Value.F9

end
-- ==== Proof.Value.Fold12.lean ====
/-
  One tile of columns folded into the lists: the group of eight rows' sixteen slabs per lane reduced to their best, second
  best and third best, and these entered in the lists and the bound. The last tile.
-/
module

public import proofs.«01_k».proof.Proof.KernelIdeal.Body
public import proofs.«01_k».proof.Proof.Value.Group
public import proofs.«01_k».proof.Proof.Value.Lists

@[expose] public section

set_option maxRecDepth 16384

noncomputable section

namespace Cert.Value.F12

open Idealize.ShloMosaic Idealize.ShloMosaic.TcCoe Idealize.ShloMosaic.ValueIdx Cert.TopMath Cert.Value
open Cert.KernelIdeal Cert.KernelIdeal.Gen Cert.KernelIdeal.Hand

theorem lane_apply (u1 v270 : S8x128.Idx → EReal) (v277 v286 : S1x128.Idx → EReal) (i : S8x128.Idx) :
    k0_pay170 (F := Ideal) u1 v270 v277 v286 i = v270 i * u1 i * v277 (ix2 (0 : Fin 1) (i 1)) + v286 (ix2 (0 : Fin 1) (i 1)) := by
  unfold k0_pay170
  show v270 i * u1 i * broadcastTo S8x128 (shapeCast S1x128 v277 shapeCasts_S1x128_S1x128) broadcasts_S1x128_S8x128 i
    + broadcastTo S8x128 (shapeCast S1x128 v286 shapeCasts_S1x128_S1x128) broadcasts_S1x128_S8x128 i = _
  rw [shapeCast_self, shapeCast_self, bcast_apply, bcast_apply]

theorem lane0_apply (u1 v270 : S8x128.Idx → EReal) (v277 v286 : S1x128.Idx → EReal) (i : S8x128.Idx) :
    k0_pay160 (F := Ideal) u1 v270 v277 v286 i = v270 i * u1 i * v277 (ix2 (0 : Fin 1) (i 1)) + v286 (ix2 (0 : Fin 1) (i 1)) := by
  unfold k0_pay160
  show v270 i * u1 i * broadcastTo S8x128 (shapeCast S1x128 v277 shapeCasts_S1x128_S1x128) broadcasts_S1x128_S8x128 i
    + broadcastTo S8x128 (shapeCast S1x128 v286 shapeCasts_S1x128_S1x128) broadcasts_S1x128_S8x128 i = _
  rw [shapeCast_self, shapeCast_self, bcast_apply, bcast_apply]

theorem lane1_apply (u1 v136 : S8x128.Idx → EReal) (v142 v150 : S1x128.Idx → EReal) (i : S8x128.Idx) :
    k0_pay163 (F := Ideal) (k0_pay162 (F := Ideal) u1 v136 v142) v150 i = v136 i * u1 i * v142 (ix2 (0 : Fin 1) (i 1)) + v150 (ix2 (0 : Fin 1) (i 1)) := by
  unfold k0_pay163 k0_pay162
  show v136 i * u1 i * broadcastTo S8x128 (shapeCast S1x128 v142 shapeCasts_S1x128_S1x128) broadcasts_S1x128_S8x128 i
    + broadcastTo S8x128 (shapeCast S1x128 v150 shapeCasts_S1x128_S1x128) broadcasts_S1x128_S8x128 i = _
  rw [shapeCast_self, shapeCast_self, bcast_apply, bcast_apply]

variable (c : Dev nD) (g : FVec Ideal S384x128 .f32) (k11 : Fin k0_t11_loop.trips) (w0 : BitVec 32)
  (XS : Ct (F := Ideal) aS) (XN : Ct (F := Ideal) aN) (XA : Ct (F := Ideal) aA) (XD : Ct (F := Ideal) aD)

/-- The logit of row `r` in lane `l` and slab `j` of the tile. -/
abbrev lg (r l j : ℕ) : EReal :=
  lgt (at2 (aA.view.read (Elt Ideal) XA)) (at2 (aD.view.read (Elt Ideal) XD)) (at2 (aS.view.read (Elt Ideal) XS)) (at2 (aN.view.read (Elt Ideal) XN)) 98304 r l j

section Slab
variable (w1 : BitVec 32) (k12 : Fin k0_t12_loop.trips) (w2 : BitVec 32) (u2 u3 u4 : FVec Ideal S8x128 .f32) (w3 w4 : BitVec 32)

/-- A further slab folded in. -/
theorem slab_two (k : Fin k0_t13_loop.trips) (a : V5 Ideal) (i : S8x128.Idx) (cnt : EReal → ℕ) (h : Two a i cnt) :
    Two (trip13 c k11 w1 k12 w2 (trip12.sl.r k11 XD k12) u2 u3 u4 w3 w4 XS XN XA k a).1 i
      (fun t => cnt t + hit t (lg XS XN XA XD (96 * k11.val + 8 * k12.val + (i 0).val) (i 1).val (k.val + 2))) := by
  have hx : k0_pay170 (F := Ideal) (trip12.sl.r k11 XD k12) (aA.view.readAt (Elt Ideal) (Rect.unit (s := S384x2048) (k0_off49 k11 k12 k) S8x128.size (k0_off49_inb k11 k12 k)).toLoadRect XA)
      (aS.view.readAt (Elt Ideal) (Rect.unit (s := S1x100352) (k0_off50 k) S1x128.size (k0_off50_inb k)).toLoadRect XS)
      (aN.view.readAt (Elt Ideal) (Rect.unit (s := S1x100352) (k0_off50 k) S1x128.size (k0_off50_inb k)).toLoadRect XN) i
      = lg XS XN XA XD (96 * k11.val + 8 * k12.val + (i 0).val) (i 1).val (k.val + 2) := by
    rw [lane_apply]
    unfold trip12.sl.r
    rw [load2 aA.view XA _ i (k0_off49_eq k11 k12 k), load2 aD.view XD _ i (k0_off45_eq k11 k12),
      load2 (size := S1x128.size) aS.view XS _ _ (k0_off50_eq k), load2 (size := S1x128.size) aN.view XN _ _ (k0_off50_eq k)]
    unfold lg lgt
    congr 1
    · congr 1
      · congr 2 <;> omega
      · congr 1; show 128 * k.val + 98560 + (i 1).val = _; omega
    · congr 1; show 128 * k.val + 98560 + (i 1).val = _; omega
  have hn : NatB 16 (k0_pay171 (F := Ideal) k i) := slab_nat k.val (Nat.lt_of_lt_of_le k.isLt k0_t13_abs.2.1)
  rw [← hx]
  exact ⟨two_step h.exact _, NatB.select hn h.nat1 _, NatB.select h.nat1 (NatB.select hn h.nat2 _) _⟩

/-- The slabs from the third folded in. -/
theorem slabs_two (a : V5 Ideal) (i : S8x128.Idx) (cnt : EReal → ℕ) (h : Two a i cnt) (n : ℕ) (hn : n ≤ 14) :
    Two (st13 c k11 w1 k12 w2 (trip12.sl.r k11 XD k12) u2 u3 u4 w3 w4 XS XN XA a n) i
      (fun t => cnt t + ∑ j ∈ Finset.range n, hit t (lg XS XN XA XD (96 * k11.val + 8 * k12.val + (i 0).val) (i 1).val (j + 2))) := by
  induction n with
  | zero => simpa [st13] using h
  | succ n ih =>
    have hT : n < k0_t13_loop.trips := lt_of_lt_of_eq (show n < 14 by omega) (show 14 = k0_t13_loop.trips by decide)
    rw [st13, dif_pos hT]
    refine (slab_two c k11 XS XN XA XD w1 k12 w2 u2 u3 u4 w3 w4 ⟨n, hT⟩ _ i _ (ih (by omega))).congr fun t => ?_
    rw [Finset.sum_range_succ]
    exact (Nat.add_assoc _ _ _).symm

end Slab

section Group
variable (k : Fin k0_t12_loop.trips)

/-- The group's best, second best and third best, lane by lane. -/
theorem group_two (i : S8x128.Idx) :
    Two (trip12.sl.r_3 c k11 w0 XS XN XA XD k, trip12.sl.r_4 c k11 w0 XS XN XA XD k, trip12.sl.r_5 c k11 w0 XS XN XA XD k,
      trip12.sl.r_6 c k11 w0 XS XN XA XD k, trip12.sl.r_7 c k11 w0 XS XN XA XD k) i
      (fun t => ∑ j ∈ Finset.range 16, hit t (lg XS XN XA XD (96 * k11.val + 8 * k.val + (i 0).val) (i 1).val j)) := by
  have h0 : trip12.sl.r_1 k11 XS XN XA XD k i = lg XS XN XA XD (96 * k11.val + 8 * k.val + (i 0).val) (i 1).val 0 := by
    have e0 : (![0, 98304] : Fin 2 → ℕ) = ![0, 98304 + 128 * 0] := rfl
    unfold trip12.sl.r_1
    rw [lane0_apply, load2 aA.view XA _ i (k0_off46_eq k11 k), load2 aD.view XD _ i (k0_off45_eq k11 k)]
    refine (congrArg₂ (fun x y : EReal => _ * x + y) (load2 (size := S1x128.size) aS.view XS _ _ e0) (load2 (size := S1x128.size) aN.view XN _ _ e0)).trans ?_
    dsimp only
    unfold lg lgt
    congr 1
    · congr 1
      · congr 2 <;> omega
      · exact congrArg (at2 (aS.view.read (Elt Ideal) XS) 0) (Nat.add_assoc 98304 (128 * 0) (i 1).val)
    · exact congrArg (at2 (aN.view.read (Elt Ideal) XN) 0) (Nat.add_assoc 98304 (128 * 0) (i 1).val)
  have h1 : k0_pay163 (F := Ideal) (trip12.sl.r_2 k11 XS XA XD k) (aN.view.readAt (Elt Ideal) (Rect.unit (s := S1x100352) ![0, 98432] S1x128.size k0_part9_skel._proof_6).toLoadRect XN) i
      = lg XS XN XA XD (96 * k11.val + 8 * k.val + (i 0).val) (i 1).val 1 := by
    have e1 : (![0, 98432] : Fin 2 → ℕ) = ![0, 98304 + 128 * 1] := rfl
    unfold trip12.sl.r_2
    rw [lane1_apply, load2 aA.view XA _ i (k0_off48_eq k11 k), load2 aD.view XD _ i (k0_off45_eq k11 k)]
    refine (congrArg₂ (fun x y : EReal => _ * x + y) (load2 (size := S1x128.size) aS.view XS _ _ e1) (load2 (size := S1x128.size) aN.view XN _ _ e1)).trans ?_
    dsimp only
    unfold lg lgt
    congr 1
    · congr 1
      · congr 2 <;> omega
      · exact congrArg (at2 (aS.view.read (Elt Ideal) XS) 0) (Nat.add_assoc 98304 (128 * 1) (i 1).val)
    · exact congrArg (at2 (aN.view.read (Elt Ideal) XN) 0) (Nat.add_assoc 98304 (128 * 1) (i 1).val)
  have hs := two_start (trip12.sl.r_1 k11 XS XN XA XD k i) (k0_pay163 (F := Ideal) (trip12.sl.r_2 k11 XS XA XD k) (aN.view.readAt (Elt Ideal) (Rect.unit (s := S1x100352) ![0, 98432] S1x128.size k0_part9_skel._proof_6).toLoadRect XN) i)
  have h := slabs_two c k11 XS XN XA XD (48#32) k (trip12.sl.v60 w0 k) (trip12.sl.r_1 k11 XS XN XA XD k) k0_pay161
      (trip12.sl.r_2 k11 XS XA XD k) (98304#32) (128#32)
      (k0_pay165 (trip12.sl.r_1 k11 XS XN XA XD k) (trip12.sl.r_2 k11 XS XA XD k)
          (aN.view.readAt (Elt Ideal) (Rect.unit (s := S1x100352) ![0, 98432] S1x128.size k0_part9_skel._proof_6).toLoadRect XN),
        k0_pay167 (trip12.sl.r_1 k11 XS XN XA XD k) k0_pay161 (trip12.sl.r_2 k11 XS XA XD k)
          (aN.view.readAt (Elt Ideal) (Rect.unit (s := S1x100352) ![0, 98432] S1x128.size k0_part9_skel._proof_6).toLoadRect XN),
        k0_pay166 (trip12.sl.r_1 k11 XS XN XA XD k) (trip12.sl.r_2 k11 XS XA XD k)
          (aN.view.readAt (Elt Ideal) (Rect.unit (s := S1x100352) ![0, 98432] S1x128.size k0_part9_skel._proof_6).toLoadRect XN),
        k0_pay168 (trip12.sl.r_1 k11 XS XN XA XD k) k0_pay161 (trip12.sl.r_2 k11 XS XA XD k)
          (aN.view.readAt (Elt Ideal) (Rect.unit (s := S1x100352) ![0, 98432] S1x128.size k0_part9_skel._proof_6).toLoadRect XN),
        k0_pay169) i _ ⟨hs, NatB.select nat_one nat_zero _, NatB.select nat_zero nat_one _⟩ 14 le_rfl
  refine Two.congr h fun t => ?_
  rw [h0, h1, Finset.sum_range_succ' _ 15, Finset.sum_range_succ' _ 14]
  simp only [Nat.add_assoc, Nat.reduceAdd, Nat.zero_add]
  omega

/-- A list place's rows of the group, as loaded. -/
theorem place {off : Fin 3 → ℕ} (p : ℕ) (inb) (h : off = ![p, 96 * k11.val + 8 * k.val, 0]) (hs : S1x8x128.ShapeCasts S8x128) (i : S8x128.Idx)
    (m : Memref sig .tc .vmem S8x384x128 .f32) (X : Ct (F := Ideal) m) :
    shapeCast S8x128 (m.view.readAt (Elt Ideal) (Rect.unit (s := S8x384x128) off S1x8x128.size inb).toLoadRect X) hs i
      = at3 (m.view.read (Elt Ideal) X) p (96 * k11.val + 8 * k.val + (i 0).val) (i 1).val := by
  refine (congrArg _ (eq_ix2 i)).trans ((shapeCast_1ab_ab_apply (a := 8) (b := 128) _ hs (i 0) (i 1)).trans ?_)
  refine (load3 m.view X inb (ix3 (0 : Fin 1) (i 0) (i 1)) h).trans ?_
  show at3 _ (p + 0) _ (0 + (i 1).val) = _
  rw [Nat.add_zero, Nat.zero_add]

/-- A list place's rows of the group, as stored. -/
theorem stored (v : FVec Ideal S8x128 .f32) (hs : S8x128.ShapeCasts S1x8x128) (i : S8x128.Idx) :
    shapeCast S1x8x128 v hs (ix3 (0 : Fin 1) (i 0) (i 1)) = v i :=
  (shapeCast_ab_1ab_apply (a := 8) (b := 128) v hs 0 (i 0) (i 1)).trans (congrArg v (eq_ix2 i).symm)

theorem lists_eq (x : LIC Ideal) : (trip12 c g k11 w0 XS XN XA XD k x).1
    = (aL.view.writes (Elt Ideal) x.1
        [⟨Rect.unit (s := S8x384x128) (k0_off54 k11 k) S1x8x128.size (k0_off54_inb k11 k), k0_pay331 (F := Ideal) (trip12.sl.r_20 c k11 w0 XS XN XA XD k x)⟩,
          ⟨Rect.unit (s := S8x384x128) (k0_off53 k11 k) S1x8x128.size (k0_off53_inb k11 k), k0_pay329 (F := Ideal) (trip12.sl.r_18 c k11 w0 XS XN XA XD k x)⟩,
          ⟨Rect.unit (s := S8x384x128) (k0_off52 k11 k) S1x8x128.size (k0_off52_inb k11 k), k0_pay327 (F := Ideal) (trip12.sl.r_16 c k11 w0 XS XN XA XD k x)⟩,
          ⟨Rect.unit (s := S8x384x128) (k0_off51 k11 k) S1x8x128.size (k0_off51_inb k11 k),
            k0_pay214 (F := Ideal) (trip12.sl.r_3 c k11 w0 XS XN XA XD k) (trip12.sl.r_8 k11 k x)⟩],
      aI.view.writes (Elt Ideal) x.2.1
        [⟨Rect.unit (s := S8x384x128) (k0_off54 k11 k) S1x8x128.size (k0_off54_inb k11 k), k0_pay332 (F := Ideal) (trip12.sl.r_22 c k11 w0 XS XN XA XD k x)⟩,
          ⟨Rect.unit (s := S8x384x128) (k0_off53 k11 k) S1x8x128.size (k0_off53_inb k11 k), k0_pay330 (F := Ideal) (trip12.sl.r_19 c k11 w0 XS XN XA XD k x)⟩,
          ⟨Rect.unit (s := S8x384x128) (k0_off52 k11 k) S1x8x128.size (k0_off52_inb k11 k), k0_pay328 (F := Ideal) (trip12.sl.r_17 c k11 w0 XS XN XA XD k x)⟩,
          ⟨Rect.unit (s := S8x384x128) (k0_off51 k11 k) S1x8x128.size (k0_off51_inb k11 k),
            k0_pay215 (F := Ideal) (k0_pay326) (trip12.sl.r_3 c k11 w0 XS XN XA XD k)
              (trip12.sl.r_4 c k11 w0 XS XN XA XD k) (trip12.sl.r_8 k11 k x) (trip12.sl.r_12 k11 k x)⟩],
      aC.view.writes (Elt Ideal) x.2.2
        [⟨Rect.unit (s := S384x128) (k0_off45 k11 k) S8x128.size (k0_off45_inb k11 k),
            k0_pay333 (F := Ideal) (trip12.sl.r_7 c k11 w0 XS XN XA XD k) (trip12.sl.r_15 c k11 w0 XS XN XA XD k x)
              (trip12.sl.r_21 c k11 w0 XS XN XA XD k x)
              (aC.view.readAt (Elt Ideal) (Rect.unit (s := S384x128) (k0_off45 k11 k) S8x128.size (k0_off45_inb k11 k)).toLoadRect x.2.2)⟩]) := rfl

/-- A group of rows folded in: its rows' lists, -/
theorem group_in (hb : NatB 1000 (k0_pay326 (F := Ideal))) (x : LIC Ideal) (i : S8x128.Idx) (cnt : EReal → ℕ)
    (h : Good x (96 * k11.val + 8 * k.val + (i 0).val) (i 1).val cnt) :
    Good (trip12 c g k11 w0 XS XN XA XD k x).1 (96 * k11.val + 8 * k.val + (i 0).val) (i 1).val
      (fun t => cnt t + ∑ j ∈ Finset.range 16, hit t (lg XS XN XA XD (96 * k11.val + 8 * k.val + (i 0).val) (i 1).val j)) := by
  have hg := group_two c k11 w0 XS XN XA XD k i
  have hz : (i 1).val = 0 + (i 1).val := (Nat.zero_add _).symm
  have l0 : trip12.sl.r_8 k11 k x i = at3 (aL.view.read (Elt Ideal) x.1) 0 (96 * k11.val + 8 * k.val + (i 0).val) (i 1).val := place k11 k 0 _ (k0_off51_eq k11 k) _ i aL x.1
  have l1 : trip12.sl.r_9 k11 k x i = at3 (aL.view.read (Elt Ideal) x.1) 1 (96 * k11.val + 8 * k.val + (i 0).val) (i 1).val := place k11 k 1 _ (k0_off52_eq k11 k) _ i aL x.1
  have l2 : trip12.sl.r_10 k11 k x i = at3 (aL.view.read (Elt Ideal) x.1) 2 (96 * k11.val + 8 * k.val + (i 0).val) (i 1).val := place k11 k 2 _ (k0_off53_eq k11 k) _ i aL x.1
  have l3 : trip12.sl.r_11 k11 k x i = at3 (aL.view.read (Elt Ideal) x.1) 3 (96 * k11.val + 8 * k.val + (i 0).val) (i 1).val := place k11 k 3 _ (k0_off54_eq k11 k) _ i aL x.1
  have i0 : NatB 1024 (trip12.sl.r_12 k11 k x i) := by
    rw [show trip12.sl.r_12 k11 k x i = _ from place k11 k 0 _ (k0_off51_eq k11 k) _ i aI x.2.1]; exact h.nat 0 (by omega)
  have i1 : NatB 1024 (trip12.sl.r_13 k11 k x i) := by
    rw [show trip12.sl.r_13 k11 k x i = _ from place k11 k 1 _ (k0_off52_eq k11 k) _ i aI x.2.1]; exact h.nat 1 (by omega)
  have i2 : NatB 1024 (trip12.sl.r_14 k11 k x i) := by
    rw [show trip12.sl.r_14 k11 k x i = _ from place k11 k 2 _ (k0_off53_eq k11 k) _ i aI x.2.1]; exact h.nat 2 (by omega)
  have i3 : NatB 1024 (shapeCast S8x128 (aI.view.readAt (Elt Ideal) (Rect.unit (s := S8x384x128) (k0_off54 k11 k) S1x8x128.size (k0_off54_inb k11 k)).toLoadRect x.2.1) shapeCasts_S1x8x128_S8x128 i) := by
    rw [place k11 k 3 _ (k0_off54_eq k11 k) _ i aI x.2.1]; exact h.nat 3 (by omega)
  have n1 : NatB 1024 (trip12.sl.r_4 c k11 w0 XS XN XA XD k i + k0_pay326 (F := Ideal)) := hg.nat1.add hb (by omega)
  have n2 : NatB 1024 (trip12.sl.r_6 c k11 w0 XS XN XA XD k i + k0_pay326 (F := Ideal)) := hg.nat2.add hb (by omega)
  rw [lists_eq]
  refine ⟨?_, ?_⟩
  · have hs := group_step h.exact hg.exact
    refine hs.congr' ?_ ?_ ?_ ?_ ?_
    all_goals dsimp only
    · refine (store3_miss aL.view x.1 _ _ _ (k0_off54_eq k11 k) (Or.inl (show 0 + 0 < 3 by decide))).trans ((store3_miss aL.view x.1 _ _ _ (k0_off53_eq k11 k) (Or.inl (show 0 + 0 < 2 by decide))).trans
        ((store3_miss aL.view x.1 _ _ _ (k0_off52_eq k11 k) (Or.inl (show 0 + 0 < 1 by decide))).trans
        ((store3_hit aL.view x.1 _ _ _ (ix3 (0 : Fin 1) (i 0) (i 1)) (k0_off51_eq k11 k) rfl rfl hz).trans ?_)))
      unfold k0_pay214
      refine (stored _ _ i).trans ?_
      rw [← l0]; rfl
    · refine (store3_miss aL.view x.1 _ _ _ (k0_off54_eq k11 k) (Or.inl (show 1 + 0 < 3 by decide))).trans ((store3_miss aL.view x.1 _ _ _ (k0_off53_eq k11 k) (Or.inl (show 1 + 0 < 2 by decide))).trans
        ((store3_hit aL.view x.1 _ _ _ (ix3 (0 : Fin 1) (i 0) (i 1)) (k0_off52_eq k11 k) rfl rfl hz).trans ?_))
      unfold k0_pay327
      refine (stored _ _ i).trans ?_
      rw [← l0, ← l1]; rfl
    · refine (store3_miss aL.view x.1 _ _ _ (k0_off54_eq k11 k) (Or.inl (show 2 + 0 < 3 by decide))).trans
        ((store3_hit aL.view x.1 _ _ _ (ix3 (0 : Fin 1) (i 0) (i 1)) (k0_off53_eq k11 k) rfl rfl hz).trans ?_)
      unfold k0_pay329
      refine (stored _ _ i).trans ?_
      rw [← l0, ← l1, ← l2]; rfl
    · refine (store3_hit aL.view x.1 _ _ _ (ix3 (0 : Fin 1) (i 0) (i 1)) (k0_off54_eq k11 k) rfl rfl hz).trans ?_
      unfold k0_pay331
      refine (stored _ _ i).trans ?_
      rw [← l0, ← l1, ← l2, ← l3]; rfl
    · refine (store2_hit aC.view x.2.2 _ _ _ i (k0_off45_eq k11 k) rfl hz).trans ?_
      rw [← l0, ← l1, ← l2, ← l3]
      have e := load2 aC.view x.2.2 (k0_off45_inb k11 k) i (k0_off45_eq k11 k)
      rw [Nat.zero_add] at e
      rw [← e]
      unfold k0_pay333
      exact congrFun (shapeCast_self _ _) i
  · intro p hp
    have p68 : NatB 1024 (k0_pay189 (F := Ideal) _ _ _ _ _ i) := NatB.select i0 n1 (k0_pay187 (F := Ideal) (trip12.sl.r_3 c k11 w0 XS XN XA XD k) (trip12.sl.r_8 k11 k x) i)
    have p72 : NatB 1024 (k0_pay193 (F := Ideal) _ _ _ _ _ _ _ i) := NatB.select p68 i1 (k0_pay190 (F := Ideal) _ _ (trip12.sl.r_9 k11 k x) i)
    have p73 : NatB 1024 (k0_pay194 (F := Ideal) _ _ _ _ _ _ _ i) := NatB.select i1 p68 (k0_pay190 (F := Ideal) _ _ (trip12.sl.r_9 k11 k x) i)
    have p77 : NatB 1024 (k0_pay198 (F := Ideal) _ _ _ _ _ _ _ _ _ i) := NatB.select p73 i2 (k0_pay195 (F := Ideal) _ _ _ (trip12.sl.r_10 k11 k x) i)
    have p85 : NatB 1024 (k0_pay206 (F := Ideal) _ _ _ _ _ _ _ _ _ i) := NatB.select p72 n2 (k0_pay202 (F := Ideal) _ (trip12.sl.r_5 c k11 w0 XS XN XA XD k) _ _ i)
    dsimp only
    interval_cases p
    · refine NatB.of_eq ((store3_miss aI.view x.2.1 _ _ _ (k0_off54_eq k11 k) (Or.inl (show 0 + 0 < 3 by decide))).trans ((store3_miss aI.view x.2.1 _ _ _ (k0_off53_eq k11 k) (Or.inl (show 0 + 0 < 2 by decide))).trans
        ((store3_miss aI.view x.2.1 _ _ _ (k0_off52_eq k11 k) (Or.inl (show 0 + 0 < 1 by decide))).trans
        ((store3_hit aI.view x.2.1 _ _ _ (ix3 (0 : Fin 1) (i 0) (i 1)) (k0_off51_eq k11 k) rfl rfl hz))))) ?_
      unfold k0_pay215
      refine NatB.of_eq (stored _ _ i) ?_
      exact NatB.select n1 i0 _
    · refine NatB.of_eq ((store3_miss aI.view x.2.1 _ _ _ (k0_off54_eq k11 k) (Or.inl (show 1 + 0 < 3 by decide))).trans ((store3_miss aI.view x.2.1 _ _ _ (k0_off53_eq k11 k) (Or.inl (show 1 + 0 < 2 by decide))).trans
        ((store3_hit aI.view x.2.1 _ _ _ (ix3 (0 : Fin 1) (i 0) (i 1)) (k0_off52_eq k11 k) rfl rfl hz)))) ?_
      unfold k0_pay328
      refine NatB.of_eq (stored _ _ i) ?_
      exact NatB.select n2 p72 _
    · refine NatB.of_eq ((store3_miss aI.view x.2.1 _ _ _ (k0_off54_eq k11 k) (Or.inl (show 2 + 0 < 3 by decide))).trans
        ((store3_hit aI.view x.2.1 _ _ _ (ix3 (0 : Fin 1) (i 0) (i 1)) (k0_off53_eq k11 k) rfl rfl hz))) ?_
      unfold k0_pay330
      refine NatB.of_eq (stored _ _ i) ?_
      exact NatB.select p85 p77 _
    · refine NatB.of_eq ((store3_hit aI.view x.2.1 _ _ _ (ix3 (0 : Fin 1) (i 0) (i 1)) (k0_off54_eq k11 k) rfl rfl hz)) ?_
      unfold k0_pay332
      refine NatB.of_eq (stored _ _ i) ?_
      exact NatB.select (NatB.select p77 p85 _) (NatB.select (NatB.select i2 p73 _) i3 _) _

/-- and the other rows' lists. -/
theorem group_out (x : LIC Ideal) (r l : ℕ) (hr : r < 96 * k11.val + 8 * k.val ∨ 96 * k11.val + 8 * k.val + 8 ≤ r) (cnt : EReal → ℕ) (h : Good x r l cnt) :
    Good (trip12 c g k11 w0 XS XN XA XD k x).1 r l cnt := by
  have h3 : ∀ p a : ℕ, p < a ∨ a + S1x8x128.size 0 ≤ p ∨ r < 96 * k11.val + 8 * k.val ∨ 96 * k11.val + 8 * k.val + S1x8x128.size 1 ≤ r := fun _ _ => Or.inr (Or.inr hr)
  rw [lists_eq]
  refine Good.of_eq h (fun p => ?_) (fun p => ?_) ?_
  all_goals dsimp only
  · exact (store3_miss aL.view x.1 _ _ _ (k0_off54_eq k11 k) (h3 p 3)).trans ((store3_miss aL.view x.1 _ _ _ (k0_off53_eq k11 k) (h3 p 2)).trans
      ((store3_miss aL.view x.1 _ _ _ (k0_off52_eq k11 k) (h3 p 1)).trans (store3_miss aL.view x.1 _ _ _ (k0_off51_eq k11 k) (h3 p 0))))
  · exact (store3_miss aI.view x.2.1 _ _ _ (k0_off54_eq k11 k) (h3 p 3)).trans ((store3_miss aI.view x.2.1 _ _ _ (k0_off53_eq k11 k) (h3 p 2)).trans
      ((store3_miss aI.view x.2.1 _ _ _ (k0_off52_eq k11 k) (h3 p 1)).trans (store3_miss aI.view x.2.1 _ _ _ (k0_off51_eq k11 k) (h3 p 0))))
  · exact store2_miss aC.view x.2.2 _ _ _ (k0_off45_eq k11 k) (hr.imp id Or.inl)

end Group

/-- The rows of the first `n` groups folded in, the others not. -/
theorem groups (hb : NatB 1000 (k0_pay326 (F := Ideal))) (x : LIC Ideal) (r l : ℕ) (hl : l < 128) (cnt : EReal → ℕ) (h : Good x r l cnt) (n : ℕ) (hn : n ≤ 12) :
    Good (st12 c g k11 w0 XS XN XA XD x n) r l
      (fun t => cnt t + if 96 * k11.val ≤ r ∧ r < 96 * k11.val + 8 * n then ∑ j ∈ Finset.range 16, hit t (lg XS XN XA XD r l j) else 0) := by
  induction n with
  | zero =>
    refine Good.congr (x := x) h fun t => ?_
    rw [if_neg (by omega), Nat.add_zero]
  | succ n ih =>
    have hT : n < k0_t12_loop.trips := lt_of_lt_of_eq (show n < 12 by omega) (show 12 = k0_t12_loop.trips by decide)
    rw [st12, dif_pos hT]
    by_cases hr : r < 96 * k11.val + 8 * n ∨ 96 * k11.val + 8 * n + 8 ≤ r
    · refine (group_out c g k11 w0 XS XN XA XD ⟨n, hT⟩ _ r l hr _ (ih (by omega))).congr fun t => ?_
      congr 1
      by_cases h1 : 96 * k11.val ≤ r ∧ r < 96 * k11.val + 8 * n
      · rw [if_pos h1, if_pos (by omega)]
      · rw [if_neg h1, if_neg (by omega)]
    · have hr' : r = 96 * k11.val + 8 * n + (r - (96 * k11.val + 8 * n)) := by omega
      have ih' := ih (by omega)
      have := group_in c g k11 w0 XS XN XA XD ⟨n, hT⟩ hb (st12 c g k11 w0 XS XN XA XD x n) (ix2 ⟨r - (96 * k11.val + 8 * n), by omega⟩ ⟨l, hl⟩)
        (fun t => cnt t + if 96 * k11.val ≤ r ∧ r < 96 * k11.val + 8 * n then ∑ j ∈ Finset.range 16, hit t (lg XS XN XA XD r l j) else 0)
      change Good _ (96 * k11.val + 8 * n + (r - (96 * k11.val + 8 * n))) l _ → Good _ (96 * k11.val + 8 * n + (r - (96 * k11.val + 8 * n))) l
        (fun t => _ + ∑ j ∈ Finset.range 16, hit t (lg XS XN XA XD (96 * k11.val + 8 * n + (r - (96 * k11.val + 8 * n))) l j)) at this
      rw [← hr'] at this
      refine (this ih').congr fun t => ?_
      rw [if_pos (by omega), if_neg (by omega), Nat.add_zero]

section Runs

theorem run_lists (k : Fin k0_t11_loop.trips) (x : LIC Ideal) : (trip11 c g XS XN XA XD k x).1
    = st12 c g k (trip11.sl.arg16 k) XS XN XA XD x (Scf.trips k0_t12_loop.lb k0_t12_loop.ub k0_t12_loop.st) := by
  unfold trip11
  dsimp only

/-- The rows of the first `n` runs of groups folded in, the others not. -/
theorem runs (hb : NatB 1000 (k0_pay326 (F := Ideal))) (x : LIC Ideal) (r l : ℕ) (hl : l < 128) (cnt : EReal → ℕ) (h : Good x r l cnt) (n : ℕ) (hn : n ≤ 4) :
    Good (st11 c g XS XN XA XD x n) r l (fun t => cnt t + if r < 96 * n then ∑ j ∈ Finset.range 16, hit t (lg XS XN XA XD r l j) else 0) := by
  induction n with
  | zero =>
    refine Good.congr (x := x) h fun t => ?_
    rw [if_neg (by omega), Nat.add_zero]
  | succ n ih =>
    have hT : n < k0_t11_loop.trips := lt_of_lt_of_eq (show n < 4 by omega) (show 4 = k0_t11_loop.trips by decide)
    rw [st11, dif_pos hT, run_lists, show Scf.trips k0_t12_loop.lb k0_t12_loop.ub k0_t12_loop.st = 12 by decide]
    have := groups c g ⟨n, hT⟩ (trip11.sl.arg16 ⟨n, hT⟩) XS XN XA XD hb _ r l hl _ (ih (by omega)) 12 le_rfl
    refine this.congr fun t => ?_
    by_cases h1 : r < 96 * n
    · rw [if_pos (by omega), if_pos h1, if_neg (show ¬ (96 * n ≤ r ∧ r < 96 * n + 8 * 12) by omega), Nat.add_zero]
    · by_cases h2 : r < 96 * n + 96
      · rw [if_pos (by omega), if_neg h1, if_pos (show 96 * n ≤ r ∧ r < 96 * n + 8 * 12 by omega), Nat.add_zero]
      · rw [if_neg (by omega), if_neg h1, if_neg (show ¬ (96 * n ≤ r ∧ r < 96 * n + 8 * 12) by omega), Nat.add_zero]

/-- The tile folded into every row's lists. -/
theorem tile_in (hb : NatB 1000 (k0_pay326 (F := Ideal))) (x : LIC Ideal) (r l : ℕ) (hr : r < 384) (hl : l < 128) (cnt : EReal → ℕ) (h : Good x r l cnt) :
    Good (st11 c g XS XN XA XD x k0_t11_loop.trips) r l (fun t => cnt t + ∑ j ∈ Finset.range 16, hit t (lg XS XN XA XD r l j)) := by
  rw [show k0_t11_loop.trips = 4 by decide]
  refine (runs c g XS XN XA XD hb x r l hl cnt h 4 le_rfl).congr fun t => ?_
  rw [if_pos (show r < 96 * 4 by omega)]

end Runs

end Cert.Value.F12

end
-- ==== Proof.Value.Rows.lean ====
/-
  Both passes over all tiles: what the lists of a row and lane hold of the row's logits.
-/
module

public import proofs.«01_k».proof.Proof.Value.Slow18
public import proofs.«01_k».proof.Proof.Value.Fold6
public import proofs.«01_k».proof.Proof.Value.Fold9
public import proofs.«01_k».proof.Proof.Value.Fold12

@[expose] public section

set_option maxRecDepth 16384

noncomputable section

namespace Cert.Value

open Idealize.ShloMosaic Idealize.ShloMosaic.TcCoe Idealize.ShloMosaic.ValueIdx Cert.TopMath Cert.Value
open Cert.KernelIdeal Cert.KernelIdeal.Gen Cert.KernelIdeal.Hand

/-- The logit of row `r` at column `n`: the product, times the row's scale (read in lane `l`), times the column's scale, plus the bias. -/
def full (Q W D S N : ℕ → ℕ → EReal) (r l n : ℕ) : EReal := prod Q W r n * D r l * S 0 n + N 0 n
/-- How many of a lane's logits in the first `T` tiles reach `c`. -/
def upto (Q W D S N : ℕ → ℕ → EReal) (r l T : ℕ) (c : EReal) : ℕ :=
  ∑ t ∈ Finset.range T, ∑ j ∈ Finset.range 16, hit c (full Q W D S N r l (2048 * t + (128 * j + l)))

theorem upto_succ (Q W D S N : ℕ → ℕ → EReal) (r l T : ℕ) (c : EReal) :
    upto Q W D S N r l (T + 1) c = upto Q W D S N r l T c + ∑ j ∈ Finset.range 16, hit c (full Q W D S N r l (2048 * T + (128 * j + l))) :=
  Finset.sum_range_succ _ _

theorem lgt_full {A Q W D S N : ℕ → ℕ → EReal} {base T r l : ℕ} (hb : base = 2048 * T) (hl : l < 128) (hA : ∀ j < 2048, A r j = prod Q W r (2048 * T + j)) (c : EReal) :
    ∑ j ∈ Finset.range 16, hit c (lgt A D S N base r l j) = ∑ j ∈ Finset.range 16, hit c (full Q W D S N r l (2048 * T + (128 * j + l))) := by
  subst hb
  refine Finset.sum_congr rfl fun j hj => ?_
  have := Finset.mem_range.1 hj
  unfold lgt full
  rw [hA _ (by omega)]

section
variable (c : Dev nD) (XW : Buf (Elt Ideal) (aW.view.loc (c : Thread nD τ))) (XS : Ct (F := Ideal) aS) (XN : Ct (F := Ideal) aN)
  (XQ : Ct (F := Ideal) aQ) (XD : Ct (F := Ideal) aD)

/-- The count over the buffers' contents. -/
abbrev reach (r l T : ℕ) (t : EReal) : ℕ :=
  upto (at2 (aQ.view.read (Elt Ideal) XQ)) (at2 (aW.view.read (Elt Ideal) XW)) (at2 (aD.view.read (Elt Ideal) XD)) (at2 (aS.view.read (Elt Ideal) XS))
    (at2 (aN.view.read (Elt Ideal) XN)) r l T t

/-- The second pass's lists after `n` tiles. -/
theorem slow_rows (x : LI Ideal) (r l : ℕ) (hr : r < 384) (hl : l < 128) (h : Slow.Good x r l fun _ => 0) (n : ℕ) (hn : n ≤ 49) :
    Slow.Good (st16 c XW XS XN XQ XD x n) r l (reach c XW XS XN XQ XD r l n) := by
  induction n with
  | zero => exact h.congr fun t => rfl
  | succ n ih =>
    have hT : n < k0_t16_loop.trips := lt_of_lt_of_eq (show n < 49 by omega) (show 49 = k0_t16_loop.trips by decide)
    rw [st16, dif_pos hT, ← next16_eq]
    refine (Slow.tile_in c ⟨n, hT⟩ XS XN (acc16 c XW XQ ⟨n, hT⟩) XD _ r l hr hl _ (ih (by omega))).congr fun t => ?_
    refine (upto_succ _ _ _ _ _ _ _ _ _).trans (congrArg (_ + ·) ?_)
    exact (lgt_full rfl hl (fun j hj => acc16_at c XW XQ ⟨n, hT⟩ r j hr hj) t).symm

theorem base6 (k : Fin k0_t4_loop.trips) : NatB 1000 (k0_pay152 (F := Ideal) 0#32 1#32 k) := by
  have e : ∀ k : Fin k0_t4_loop.trips, (Scalar.muli (Scalar.subi (Scalar.addi (Scalar.muli 2#32 (Scf.iv 0#32 1#32 k)) 1#32) 1#32) 16#32).toInt = ((32 * k.val : ℕ) : ℤ) := by decide
  have hk : k.val < 24 := k.isLt
  refine ⟨32 * k.val, by omega, ?_⟩
  show (((Scalar.muli (Scalar.subi (Scalar.addi (Scalar.muli 2#32 (Scf.iv 0#32 1#32 k)) 1#32) 1#32) 16#32).toInt : ℝ) : EReal) = _
  rw [e]; norm_cast
theorem base9 (k : Fin k0_t4_loop.trips) : NatB 1000 (k0_pay318 (F := Ideal) (w72 k)) := by
  have e : ∀ k : Fin k0_t4_loop.trips, (Scalar.muli (Scalar.subi (w72 k) 1#32) 16#32).toInt = ((32 * k.val + 16 : ℕ) : ℤ) := by decide
  have hk : k.val < 24 := k.isLt
  refine ⟨32 * k.val + 16, by omega, ?_⟩
  show (((Scalar.muli (Scalar.subi (w72 k) 1#32) 16#32).toInt : ℝ) : EReal) = _
  rw [e]; norm_cast
theorem base12 : NatB 1000 (k0_pay326 (F := Ideal)) := by
  refine ⟨768, by omega, ?_⟩
  show (((Scalar.muli 48#32 16#32).toInt : ℝ) : EReal) = _
  rw [show (Scalar.muli 48#32 16#32 : BitVec 32).toInt = ((768 : ℕ) : ℤ) by decide]; norm_cast

/-- The first pass after `n` trips: the lists hold the first `2n` tiles, the accumulator the next tile's product. -/
theorem fast_rows (v : FVec Ideal S384x128 .f32) (x : Ct (F := Ideal) aA × LIC Ideal) (r l : ℕ) (hr : r < 384) (hl : l < 128) (h : Good x.2 r l fun _ => 0)
    (hA : ∀ j < 2048, at2 (aA.view.read (Elt Ideal) x.1) r j = prod (at2 (aQ.view.read (Elt Ideal) XQ)) (at2 (aW.view.read (Elt Ideal) XW)) r (2048 * 0 + j)) (n : ℕ) (hn : n ≤ 24) :
    Good (st4 c v XW XS XN XQ XD x n).2 r l (reach c XW XS XN XQ XD r l (2 * n))
    ∧ ∀ j < 2048, at2 (aA.view.read (Elt Ideal) (st4 c v XW XS XN XQ XD x n).1) r j
        = prod (at2 (aQ.view.read (Elt Ideal) XQ)) (at2 (aW.view.read (Elt Ideal) XW)) r (2048 * (2 * n) + j) := by
  induction n with
  | zero => exact ⟨h.congr fun t => rfl, hA⟩
  | succ n ih =>
    have hT : n < k0_t4_loop.trips := lt_of_lt_of_eq (show n < 24 by omega) (show 24 = k0_t4_loop.trips by decide)
    obtain ⟨h1, h2⟩ := ih (by omega)
    rw [st4, dif_pos hT]
    generalize st4 c v XW XS XN XQ XD x n = y at h1 h2 ⊢
    refine ⟨?_, fun j hj => next4_at c v XW XS XN XQ XD ⟨n, hT⟩ y r j hr hj⟩
    have hm : Good (mid4 c XW XS XN XQ XD ⟨n, hT⟩ y) r l (reach c XW XS XN XQ XD r l (2 * n + 1)) := by
      rw [← mid4_eq]
      refine (F6.tile_in c 0#32 1#32 ⟨n, hT⟩ XS XN y.1 XD _ XQ _ (base6 ⟨n, hT⟩) y.2 r l hr hl _ h1).congr fun t => ?_
      refine (upto_succ _ _ _ _ _ _ _ _ _).trans (congrArg (_ + ·) ?_)
      exact (lgt_full (by show 4096 * n = _; omega) hl h2 t).symm
    rw [← next4_eqL]
    refine (F9.tile_in c v ⟨n, hT⟩ XS XN (accB c XW XS XN XQ XD ⟨n, hT⟩ y) XD _ XQ _ (base9 ⟨n, hT⟩) (mid4 c XW XS XN XQ XD ⟨n, hT⟩ y) r l hr hl _ hm).congr fun t => ?_
    rw [show 2 * (n + 1) = 2 * n + 1 + 1 by omega]
    refine (upto_succ _ _ _ _ _ _ _ _ _).trans (congrArg (_ + ·) ?_)
    exact (lgt_full (T := 2 * n + 1) (by show 4096 * n + 2048 = _; omega) hl (fun j hj => accB_at c XW XS XN XQ XD ⟨n, hT⟩ y r j hr hj) t).symm

end

section Start

theorem neg_inf : Ideal.ofBits .f32 0xFF800000#32 = (⊥ : EReal) := by
  simp [Ideal.ofBits, Ideal.ieee]

theorem l0_at (p r l : ℕ) (hp : p < 8) (hr : r < 384) (hl : l < 128) : at3 (aL.view.read (Elt Ideal) l0) p r l = ⊥ := by
  unfold l0
  refine (store3_hit aL.view _ _ _ _ (ix3 (⟨p, hp⟩ : Fin 8) (⟨r, hr⟩ : Fin 384) (⟨l, hl⟩ : Fin 128)) rfl (Nat.zero_add _).symm (Nat.zero_add _).symm (Nat.zero_add _).symm).trans ?_
  unfold k0_pay2
  refine (congrFun (shapeCast_self _ _) _).trans neg_inf
theorem i0_at (p r l : ℕ) (hp : p < 8) (hr : r < 384) (hl : l < 128) : at3 (aI.view.read (Elt Ideal) i0) p r l = 0 := by
  unfold i0
  refine (store3_hit aI.view _ _ _ _ (ix3 (⟨p, hp⟩ : Fin 8) (⟨r, hr⟩ : Fin 384) (⟨l, hl⟩ : Fin 128)) rfl (Nat.zero_add _).symm (Nat.zero_add _).symm (Nat.zero_add _).symm).trans ?_
  unfold k0_pay3
  exact (congrFun (shapeCast_self _ _) _).trans Ideal.ofBits_zero_f32
theorem c0_at (r l : ℕ) (hr : r < 384) (hl : l < 128) : at2 (aC.view.read (Elt Ideal) c0) r l = ⊥ := by
  unfold c0
  refine (store2_hit aC.view _ _ _ _ (ix2 (⟨r, hr⟩ : Fin 384) (⟨l, hl⟩ : Fin 128)) rfl (Nat.zero_add _).symm (Nat.zero_add _).symm).trans ?_
  unfold k0_pay315 k0_pay314
  exact (congrFun (shapeCast_self _ _) _).trans neg_inf

theorem zero_nat : NatB 1024 (0 : EReal) := ⟨0, by omega, by norm_num⟩

theorem slow_start (r l : ℕ) (hr : r < 384) (hl : l < 128) : Slow.Good (l0, i0) r l fun _ => 0 :=
  ⟨(Largest.empty 8).congr (fun p hp => l0_at p r l hp hr hl) fun _ => rfl, fun p hp => NatB.of_eq (i0_at p r l hp hr hl) zero_nat⟩
theorem fast_start (r l : ℕ) (hr : r < 384) (hl : l < 128) : Good (l0, i0, c0) r l fun _ => 0 where
  exact := by
    dsimp only
    rw [c0_at r l hr hl]
    refine (Exact.empty 4).congr (fun p hp => ?_) fun _ _ => rfl
    interval_cases p <;> exact l0_at _ r l (by omega) hr hl
  nat := fun p hp => NatB.of_eq (i0_at p r l (by omega) hr hl) zero_nat

variable (c : Dev nD) (XW : Buf (Elt Ideal) (aW.view.loc (c : Thread nD τ))) (XX : Ct (F := Ideal) aX) (XS : Ct (F := Ideal) aS) (XN : Ct (F := Ideal) aN)

/-- The second pass's lists. -/
theorem x16_good (r l : ℕ) (hr : r < 384) (hl : l < 128) : Slow.Good (x16 c XW XX XS XN) r l (reach c XW XS XN (q0 c XX) (d0 c XX) r l 49) := by
  unfold x16
  exact slow_rows c XW XS XN (q0 c XX) (d0 c XX) (l0, i0) r l hr hl (slow_start r l hr hl) 49 le_rfl

/-- The first pass's lists. -/
theorem x11_good (r l : ℕ) (hr : r < 384) (hl : l < 128) : Good (x11 c XW XX XS XN) r l (reach c XW XS XN (q0 c XX) (d0 c XX) r l 49) := by
  have h : Good (x4 c XW XX XS XN).2 r l (reach c XW XS XN (q0 c XX) (d0 c XX) r l (2 * 24)) ∧ ∀ j < 2048, at2 (aA.view.read (Elt Ideal) (x4 c XW XX XS XN).1) r j
      = prod (at2 (aQ.view.read (Elt Ideal) (q0 c XX))) (at2 (aW.view.read (Elt Ideal) XW)) r (2048 * (2 * 24) + j) := by
    unfold x4
    exact fast_rows c XW XS XN (q0 c XX) (d0 c XX) k0_pay314 (acc0 c XW XX, l0, i0, c0) r l hr hl (fast_start r l hr hl) (fun j hj => acc0_at c XW XX r j hr hj) 24 le_rfl
  unfold x11
  generalize x4 c XW XX XS XN = y at h ⊢
  refine (F12.tile_in c k0_pay314 XS XN y.1 (d0 c XX) base12 (y.2.1, y.2.2.1, y.2.2.2) r l hr hl _ h.1).congr fun t => ?_
  refine (upto_succ _ _ _ _ _ _ _ 48 _).trans (congrArg (_ + ·) ?_)
  exact (lgt_full (T := 48) rfl hl h.2 t).symm

end Start

end Cert.Value

end
-- ==== Proof.Value.Pull.lean ====
/-
  Pulling the largest heads off a row's lists: one pull takes the largest head and the least column among the lanes
  that have it, so exactly one lane's list moves up; the values pulled are the largest the lists hold, in order.
-/
module

public import proofs.«01_k».proof.Proof.Value.Rows
public import Idealize.ShloMosaic.Lib.ValueLayoutCasts

@[expose] public section

set_option maxRecDepth 16384

noncomputable section

namespace Cert.Value

open Idealize.ShloMosaic Idealize.ShloMosaic.TcCoe Idealize.ShloMosaic.ValueIdx Cert.TopMath Cert.Value
open Cert.KernelIdeal Cert.KernelIdeal.Gen Cert.KernelIdeal.Hand

theorem pos_inf : Ideal.ofBits .f32 0x7F800000#32 = (⊤ : EReal) := by
  simp [Ideal.ofBits, Ideal.ieee]
theorem big_eq : Ideal.ofBits .f32 0x4E800000#32 = (((2 ^ 30 : ℕ) : ℝ) : EReal) := by
  simp [Ideal.ofBits, Ideal.ieee, -EReal.coe_mul]; norm_num
theorem lanes_eq : Ideal.ofBits .f32 0x43000000#32 = ((128 : ℝ) : EReal) := by
  simp [Ideal.ofBits, Ideal.ieee, -EReal.coe_mul]; norm_num

theorem cmp_oeq_iff (a b : EReal) : Ideal.cmp .oeq a b = 1#1 ↔ a = b := by
  show BitVec.ofBool (decide (a = b)) = 1#1 ↔ _
  by_cases h : a = b <;> simp [h]
theorem cmp_oge_iff (a b : EReal) : Ideal.cmp .oge a b = 1#1 ↔ b ≤ a := by
  show BitVec.ofBool (decide (b ≤ a)) = 1#1 ↔ _
  by_cases h : b ≤ a <;> simp [h]
theorem cmp_ogt_iff (a b : EReal) : Ideal.cmp .ogt a b = 1#1 ↔ b < a := by
  show BitVec.ofBool (decide (b < a)) = 1#1 ↔ _
  by_cases h : b < a <;> simp [h]

theorem lift_row (h : S8x128.Reduces [1] S8) (r : Fin 8) (l : Fin 128) : h.lift (ix1 r) l = ix2 r l := by
  funext c
  apply Fin.ext
  match c with
  | ⟨0, _⟩ => rfl
  | ⟨1, _⟩ => rfl

theorem bcast_row {α : Type} (x : S8x1.Idx → α) (h : S8x1.Broadcasts S8x128) (r : Fin 8) (l : Fin 128) :
    broadcastTo S8x128 x h (ix2 r l) = x (ix2 r (0 : Fin 1)) :=
  broadcastTo_apply _ _ (ix2 r l) (ix2 r (0 : Fin 1)) (by intro a; match a with | ⟨0, _⟩ => rfl | ⟨1, _⟩ => rfl)

/-- A row's largest entry, -/
theorem max_eq (v : FVec Ideal S8x128 .f32) (r : Fin 8) :
    k0_pay10 v (ix2 r (0 : Fin 1)) = (Finset.univ : Finset (Fin 128)).fold max ⊥ fun l => v (ix2 r l) := by
  unfold k0_pay10
  refine (shapeCast_a_a1_apply (a := 8) _ shapeCasts_S8_S8x1 r 0).trans ?_
  refine (Ideal.multiReduction_maximumf_single v _ reduces_S8x128_S8 _ _ (ix1 r)).trans ?_
  show Finset.fold max (Ideal.ofBits .f32 0xFF800000#32) _ _ = _
  rw [neg_inf]
  exact Finset.fold_congr fun l _ => congrArg v (lift_row _ r l)
/-- and its least candidate. -/
theorem min_eq (v x : FVec Ideal S8x128 .f32) (r : Fin 8) :
    k0_pay12 v x (ix2 r (0 : Fin 1)) = (Finset.univ : Finset (Fin 128)).fold min ⊤ fun l => k0_pay11 v x (ix2 r l) := by
  unfold k0_pay12
  refine (shapeCast_a_a1_apply (a := 8) _ shapeCasts_S8_S8x1 r 0).trans ?_
  refine (multiReduction_minimumf_eq_fold _ _ reduces_S8x128_S8 _ _ (ix1 r)).trans ?_
  refine (reduces_S8x128_S8.fold_filter_drop_single _ _ (k0_pay11 v x) (ix1 r)).trans ?_
  show Finset.fold min (Ideal.ofBits .f32 0x7F800000#32) _ _ = _
  rw [pos_inf]
  exact Finset.fold_congr fun l _ => congrArg (k0_pay11 v x) (lift_row _ r l)

theorem max_facts (v : FVec Ideal S8x128 .f32) (r : Fin 8) : (∀ l : Fin 128, v (ix2 r l) ≤ k0_pay10 v (ix2 r (0 : Fin 1))) ∧ ∃ l : Fin 128, v (ix2 r l) = k0_pay10 v (ix2 r (0 : Fin 1)) := by
  rw [max_eq]
  have h1 : ∀ l : Fin 128, v (ix2 r l) ≤ (Finset.univ : Finset (Fin 128)).fold max ⊥ fun l => v (ix2 r l) :=
    fun l => ((Finset.fold_max_le (f := fun l : Fin 128 => v (ix2 r l)) _).1 le_rfl).2 l (Finset.mem_univ l)
  refine ⟨h1, ?_⟩
  rcases (Finset.le_fold_max _).1 (le_refl ((Finset.univ : Finset (Fin 128)).fold max ⊥ fun l => v (ix2 r l))) with h | ⟨l, -, h⟩
  · exact ⟨0, le_antisymm (h1 0) (h.trans bot_le)⟩
  · exact ⟨l, le_antisymm (h1 l) h⟩
theorem min_facts (v x : FVec Ideal S8x128 .f32) (r : Fin 8) : (∀ l : Fin 128, k0_pay12 v x (ix2 r (0 : Fin 1)) ≤ k0_pay11 v x (ix2 r l)) ∧ ∃ l : Fin 128, k0_pay11 v x (ix2 r l) = k0_pay12 v x (ix2 r (0 : Fin 1)) := by
  rw [min_eq]
  have h1 : ∀ l : Fin 128, ((Finset.univ : Finset (Fin 128)).fold min ⊤ fun l => k0_pay11 v x (ix2 r l)) ≤ k0_pay11 v x (ix2 r l) :=
    fun l => ((Finset.le_fold_min (f := fun l : Fin 128 => k0_pay11 v x (ix2 r l)) _).1 le_rfl).2 l (Finset.mem_univ l)
  refine ⟨h1, ?_⟩
  rcases (Finset.fold_min_le _).1 (le_refl ((Finset.univ : Finset (Fin 128)).fold min ⊤ fun l => k0_pay11 v x (ix2 r l))) with h | ⟨l, -, h⟩
  · exact ⟨0, le_antisymm (le_top.trans h) (h1 0)⟩
  · exact ⟨l, le_antisymm h (h1 l)⟩

theorem cand_eq (v x : FVec Ideal S8x128 .f32) (r : Fin 8) (l : Fin 128) (h : v (ix2 r l) = k0_pay10 v (ix2 r (0 : Fin 1))) : k0_pay11 v x (ix2 r l) = x (ix2 r l) := by
  unfold k0_pay11
  refine if_pos ((cmp_oeq_iff _ _).2 ?_)
  rw [bcast_row]; exact h
theorem cand_ne (v x : FVec Ideal S8x128 .f32) (r : Fin 8) (l : Fin 128) (h : v (ix2 r l) ≠ k0_pay10 v (ix2 r (0 : Fin 1))) : k0_pay11 v x (ix2 r l) = (((2 ^ 30 : ℕ) : ℝ) : EReal) := by
  rw [← big_eq]
  unfold k0_pay11
  refine if_neg (mt (cmp_oeq_iff _ _).1 ?_)
  rw [bcast_row]; exact h
theorem hit_iff (v x : FVec Ideal S8x128 .f32) (r : Fin 8) (l : Fin 128) : k0_pay15 v x (ix2 r l) = 1#1 ↔ k0_pay11 v x (ix2 r l) = k0_pay12 v x (ix2 r (0 : Fin 1)) := by
  unfold k0_pay15
  refine (cmp_oeq_iff _ _).trans ?_
  rw [bcast_row]

/-- An index that names slab and lane. -/
def Col (x : EReal) (l : Fin 128) : Prop := ∃ n : ℕ, n < 1024 ∧ x = (((n * 128 + l.val : ℕ) : ℝ) : EReal)

/-- Exactly one lane is picked, and it has the largest head. -/
theorem one_hit (v x : FVec Ideal S8x128 .f32) (r : Fin 8) (hb : ⊥ < k0_pay10 v (ix2 r (0 : Fin 1))) (hx : ∀ l : Fin 128, v (ix2 r l) ≠ ⊥ → Col (x (ix2 r l)) l) :
    ∃ l0 : Fin 128, v (ix2 r l0) = k0_pay10 v (ix2 r (0 : Fin 1)) ∧ ∀ l : Fin 128, k0_pay15 v x (ix2 r l) = 1#1 ↔ l = l0 := by
  obtain ⟨-, l1, h1⟩ := max_facts v r
  obtain ⟨hmin, l0, h0⟩ := min_facts v x r
  have hc : ∀ l : Fin 128, v (ix2 r l) = k0_pay10 v (ix2 r (0 : Fin 1)) → ∃ n : ℕ, n < 1024 ∧ k0_pay11 v x (ix2 r l) = (((n * 128 + l.val : ℕ) : ℝ) : EReal) := fun l hl => by
    rw [cand_eq v x r l hl]
    exact hx l (by rw [hl]; exact hb.ne')
  have hlt : k0_pay12 v x (ix2 r (0 : Fin 1)) < (((2 ^ 30 : ℕ) : ℝ) : EReal) := by
    obtain ⟨n, hn, e⟩ := hc l1 h1
    refine (hmin l1).trans_lt ?_
    rw [e, EReal.coe_lt_coe_iff, Nat.cast_lt]
    have := l1.isLt
    omega
  have hv : ∀ l : Fin 128, k0_pay11 v x (ix2 r l) = k0_pay12 v x (ix2 r (0 : Fin 1)) → v (ix2 r l) = k0_pay10 v (ix2 r (0 : Fin 1)) := fun l hl => by
    by_contra hn
    rw [cand_ne v x r l hn] at hl
    exact absurd hl hlt.ne'
  refine ⟨l0, hv l0 h0, fun l => ?_⟩
  rw [hit_iff]
  refine ⟨fun hl => ?_, fun hl => by rw [hl]; exact h0⟩
  obtain ⟨n, hn, e⟩ := hc l (hv l hl)
  obtain ⟨n0, hn0, e0⟩ := hc l0 (hv l0 h0)
  have : (((n * 128 + l.val : ℕ) : ℝ) : EReal) = (((n0 * 128 + l0.val : ℕ) : ℝ) : EReal) := by rw [← e, ← e0, hl, h0]
  rw [EReal.coe_eq_coe_iff, Nat.cast_inj] at this
  apply Fin.ext
  have := l.isLt
  have := l0.isLt
  omega

/-- Lists of depth `D` as they are pulled eight times, by place; `out` collects the largest head of trip `k` in lane `k`. -/
structure Pulls (D : ℕ) (G H : ℕ → ℕ → FVec Ideal S8x128 .f32) (out : ℕ → FVec Ideal S8x128 .f32) : Prop where
  pad : ∀ k p, D ≤ p → ∀ i, G k p i = ⊥
  vals : ∀ k, k < 8 → ∀ p i, G (k + 1) p i = if k0_pay15 (G k 0) (H k 0) i = 1#1 then G k (p + 1) i else G k p i
  cols : ∀ k, k < 8 → ∀ p, p + 1 < D → ∀ i, H (k + 1) p i = if k0_pay15 (G k 0) (H k 0) i = 1#1 then H k (p + 1) i else H k p i
  last : ∀ k, k < 8 → ∀ p, p + 1 = D → ∀ i, k0_pay15 (G k 0) (H k 0) i ≠ 1#1 → H (k + 1) p i = H k p i
  out : ∀ k, k < 8 → ∀ (r : Fin 8) (l : Fin 128), out (k + 1) (ix2 r l) = if l.val = k then k0_pay10 (G k 0) (ix2 r (0 : Fin 1)) else out k (ix2 r l)
  start : ∀ p, p < D → ∀ (r : Fin 8) (l : Fin 128), Col (H 0 p (ix2 r l)) l

theorem Pulls.out_eq {D : ℕ} {G H : ℕ → ℕ → FVec Ideal S8x128 .f32} {out : ℕ → FVec Ideal S8x128 .f32} (h : Pulls D G H out) (r : Fin 8) (n : ℕ) (hn : n ≤ 8)
    (l : Fin 128) (hl : l.val < n) : out n (ix2 r l) = k0_pay10 (G l.val 0) (ix2 r (0 : Fin 1)) := by
  induction n with
  | zero => omega
  | succ n ih =>
    rw [h.out n (by omega)]
    by_cases e : l.val = n
    · rw [if_pos e, e]
    · rw [if_neg e]; exact ih (by omega) (by omega)

/-- The values pulled, as thresholds. -/
theorem Pulls.iff {D : ℕ} (hD : 0 < D) {G H : ℕ → ℕ → FVec Ideal S8x128 .f32} {out : ℕ → FVec Ideal S8x128 .f32} (h : Pulls D G H out) (r : Fin 8)
    (hd : ∀ l : Fin 128, Desc D fun p => G 0 p (ix2 r l)) :
    ∀ k, k < 8 → ∀ t, ⊥ < t → (t ≤ k0_pay10 (G k 0) (ix2 r (0 : Fin 1)) ↔ k < total D (fun (l : Fin 128) p => G 0 p (ix2 r l)) t) := by
  have inv : ∀ k, k ≤ 8 → ∀ p, p < D → ∀ l : Fin 128, G k p (ix2 r l) ≠ ⊥ → Col (H k p (ix2 r l)) l := by
    intro k
    induction k with
    | zero => exact fun _ p hp l _ => h.start p hp r l
    | succ k ih =>
      intro hk p hp l hne
      rw [h.vals k (by omega)] at hne
      by_cases hh : k0_pay15 (G k 0) (H k 0) (ix2 r l) = 1#1
      · rw [if_pos hh] at hne
        have hp' : p + 1 < D := by
          by_contra hc
          exact hne (h.pad k (p + 1) (by omega) _)
        rw [h.cols k (by omega) p hp', if_pos hh]
        exact ih (by omega) (p + 1) hp' l hne
      · rw [if_neg hh] at hne
        have e : H (k + 1) p (ix2 r l) = H k p (ix2 r l) := by
          by_cases hp' : p + 1 < D
          · rw [h.cols k (by omega) p hp', if_neg hh]
          · exact h.last k (by omega) p (by omega) _ hh
        rw [e]
        exact ih (by omega) p hp l hne
  have hsh : ∀ k (l : Fin 128), (fun p => G k (p + 1) (ix2 r l)) = shift D fun p => G k p (ix2 r l) := fun k l => by
    funext p
    unfold shift
    by_cases hp : p + 1 < D
    · rw [if_pos hp]
    · rw [if_neg hp]; exact h.pad k _ (by omega) _
  refine pulls D hD (fun k (l : Fin 128) p => G k p (ix2 r l)) (fun k => k0_pay10 (G k 0) (ix2 r (0 : Fin 1))) 8 hd
    (fun k _ => (max_facts (G k 0) r).1) (fun k _ => (max_facts (G k 0) r).2) (fun k hk hb => ?_) (fun k hk _ l => ?_)
  · obtain ⟨l0, h0, h1⟩ := one_hit (G k 0) (H k 0) r hb (fun l => inv k hk.le 0 hD l)
    refine ⟨l0, h0, fun l => ?_⟩
    by_cases hl : l = l0
    · rw [if_pos hl, ← hsh]
      funext p
      exact (h.vals k hk p _).trans (if_pos ((h1 l).2 hl))
    · rw [if_neg hl]
      funext p
      exact (h.vals k hk p _).trans (if_neg (mt (h1 l).1 hl))
  · by_cases hh : k0_pay15 (G k 0) (H k 0) (ix2 r l) = 1#1
    · right
      rw [← hsh]
      funext p
      exact (h.vals k hk p _).trans (if_pos hh)
    · left
      funext p
      exact (h.vals k hk p _).trans (if_neg hh)

/-- A fold's states. -/
def run {α : Type} {n : ℕ} (g : Fin n → α → α) (s : α) : ℕ → α
  | 0 => s
  | k + 1 => if h : k < n then g ⟨k, h⟩ (run g s k) else run g s k
theorem fold_run {α : Type} {n : ℕ} (g : Fin n → α → α) (s : α) : Scf.fold g s = run g s n := by
  rw [Scf.fold_eq]
  have key : ∀ m (hm : m ≤ n), ((List.finRange n).take m).foldl (fun acc k => g k acc) s = run g s m := by
    intro m hm
    induction m with
    | zero => simp [run]
    | succ m ih =>
      rw [List.take_add_one, List.foldl_append, List.getElem?_eq_getElem (by simpa using hm)]
      simp only [Option.toList_some, List.foldl_cons, List.foldl_nil, List.getElem_finRange]
      rw [ih (by omega), run, dif_pos (show m < n by omega)]
      rfl
  have := key n le_rfl
  rwa [List.take_of_length_le (by simp)] at this

theorem lane_iff : ∀ (l : Fin 128) (k : Fin 8), IntOp.cmpi .eq (BitVec.ofNat 32 l.val) (Scf.iv 0#32 1#32 k) = 1#1 ↔ l.val = k.val := by decide +kernel
theorem lane_int : ∀ l : Fin 128, (BitVec.ofNat 32 l.val).toInt = (l.val : ℤ) := by decide +kernel

theorem lane_iota (r : Fin 8) (l : Fin 128) : iota .tc S8x128 32 [1] iota_S8x128_d1_w32 (ix2 r l) = BitVec.ofNat 32 l.val :=
  iota_single_apply _ _ _ _ _ _

/-- A slab number times the lanes, plus the lane. -/
theorem col_of_nat {x : EReal} (h : NatB 1024 x) (l : Fin 128) :
    Col (x * Ideal.ofBits .f32 0x43000000#32 + (((BitVec.ofNat 32 l.val).toInt : ℝ) : EReal)) l := by
  obtain ⟨n, hn, rfl⟩ := h
  refine ⟨n, hn, ?_⟩
  rw [lanes_eq, lane_int, ← EReal.coe_mul, ← EReal.coe_add]
  push_cast
  rfl

end Cert.Value

end
-- ==== Proof.Value.Select14.lean ====
/-
  The first selection: eight pulls off lists of four pick the eight largest of a row, unless a bound reaches the eighth.
-/
module

public import proofs.«01_k».proof.Proof.Value.Pull

@[expose] public section

set_option maxRecDepth 16384

noncomputable section

namespace Cert.Value.S14

open Idealize.ShloMosaic Idealize.ShloMosaic.TcCoe Idealize.ShloMosaic.ValueIdx Cert.TopMath Cert.Value
open Cert.KernelIdeal Cert.KernelIdeal.Gen Cert.KernelIdeal.Hand

/-- The state of the loop: the lists' values by place, their columns by place, and what has been picked. -/
abbrev St : Type := V8 Ideal × V8 Ideal × V8 Ideal × V8 Ideal × V8 Ideal × V8 Ideal × V8 Ideal × V8 Ideal × V8 Ideal × V8 Ideal × FVec Ideal S8x1 .f32

/-- One pull. -/
def step (a : Fin k0_t15_loop.trips) (s : St) : St :=
  (k0_pay345 s.1 s.2.1 s.2.2.2.2.1,
    k0_pay347 s.1 s.2.1 s.2.2.1 s.2.2.2.2.1,
    k0_pay349 s.1 s.2.2.1 s.2.2.2.1 s.2.2.2.2.1,
    k0_pay351 s.1 s.2.2.2.1 s.2.2.2.2.1,
    k0_pay346 s.1 s.2.2.2.2.1 s.2.2.2.2.2.1,
    k0_pay348 s.1 s.2.2.2.2.1 s.2.2.2.2.2.1 s.2.2.2.2.2.2.1,
    k0_pay350 s.1 s.2.2.2.2.1 s.2.2.2.2.2.2.1 s.2.2.2.2.2.2.2.1,
    k0_pay352 s.1 s.2.2.2.2.1 s.2.2.2.2.2.2.2.1,
    k0_pay342 trip14.sl.v57 a s.1 s.2.2.2.2.2.2.2.2.1,
    k0_pay343 trip14.sl.v57 a s.1 s.2.2.2.2.1 s.2.2.2.2.2.2.2.2.2.1,
    k0_pay339 s.1)

/-- The values at a place, `⊥` past the last; -/
def val (s : St) : ℕ → V8 Ideal
  | 0 => s.1
  | 1 => s.2.1
  | 2 => s.2.2.1
  | 3 => s.2.2.2.1
  | _ + 4 => fun _ => ⊥
/-- the columns at a place. -/
def col (s : St) : ℕ → V8 Ideal
  | 0 => s.2.2.2.2.1
  | 1 => s.2.2.2.2.2.1
  | 2 => s.2.2.2.2.2.2.1
  | 3 => s.2.2.2.2.2.2.2.1
  | _ + 4 => fun _ => 0

theorem val_step (a : Fin k0_t15_loop.trips) (s : St) (p : ℕ) (i : S8x128.Idx) :
    val (step a s) p i = if k0_pay15 (val s 0) (col s 0) i = 1#1 then val s (p + 1) i else val s p i := by
  match p with
  | 0 => rfl
  | 1 => rfl
  | 2 => rfl
  | 3 =>
    show (if k0_pay15 (val s 0) (col s 0) i = 1#1 then Ideal.ofBits .f32 0xFF800000#32 else val s 3 i) = _
    rw [neg_inf]
    rfl
  | n + 4 => exact (ite_self _).symm
theorem col_step (a : Fin k0_t15_loop.trips) (s : St) (p : ℕ) (hp : p + 1 < 4) (i : S8x128.Idx) :
    col (step a s) p i = if k0_pay15 (val s 0) (col s 0) i = 1#1 then col s (p + 1) i else col s p i := by
  match p, hp with
  | 0, _ => rfl
  | 1, _ => rfl
  | 2, _ => rfl
  | n + 3, hp => omega
theorem col_last (a : Fin k0_t15_loop.trips) (s : St) (i : S8x128.Idx) (h : k0_pay15 (val s 0) (col s 0) i ≠ 1#1) : col (step a s) 3 i = col s 3 i :=
  if_neg h
theorem out_step (a : Fin k0_t15_loop.trips) (s : St) (r : Fin 8) (l : Fin 128) :
    (step a s).2.2.2.2.2.2.2.2.1 (ix2 r l) = if l.val = a.val then k0_pay10 (val s 0) (ix2 r (0 : Fin 1)) else s.2.2.2.2.2.2.2.2.1 (ix2 r l) := by
  have e : (step a s).2.2.2.2.2.2.2.2.1 (ix2 r l) = if IntOp.cmpi .eq (iota .tc S8x128 32 [1] iota_S8x128_d1_w32 (ix2 r l)) (Scf.iv 0#32 1#32 a) = 1#1
      then broadcastTo S8x128 (shapeCast S8x1 (k0_pay10 (val s 0)) shapeCasts_S8x1_S8x1) broadcasts_S8x1_S8x128 (ix2 r l) else s.2.2.2.2.2.2.2.2.1 (ix2 r l) := by
    show k0_pay342 trip14.sl.v57 a s.1 s.2.2.2.2.2.2.2.2.1 (ix2 r l) = _
    unfold k0_pay342 trip14.sl.v57
    rfl
  rw [e, bcast_row, shapeCast_self, lane_iota]
  exact if_congr (lane_iff l a) rfl rfl

variable (c : Dev nD) (XL : Ct (F := Ideal) aL) (XI : Ct (F := Ideal) aI) (k : Fin k0_t14_loop.trips)

/-- The lists of a group as loaded. -/
def init : St :=
  (trip14.sl.r XL k, trip14.sl.r_1 XL k, trip14.sl.r_2 XL k, trip14.sl.r_3 XL k, trip14.sl.r_4 XI k, trip14.sl.r_5 XI k, trip14.sl.r_6 XI k, k0_pay335 k0_pay216 (trip14.sl.r_7 XI k) k0_pay225, k0_pay336, k0_pay337, k0_pay338)

/-- The states. -/
abbrev st (n : ℕ) : St := run step (init XL XI k) n

theorem init_val (p : ℕ) (hp : p < 4) (i : S8x128.Idx) : val (init XL XI k) p i = at3 (aL.view.read (Elt Ideal) XL) p (8 * k.val + (i 0).val) (i 1).val := by
  match p, hp with
  | 0, _ => exact Slow.place aL XL k.val 0 (k0_off55_inb k) (k0_off55_eq k) shapeCasts_S1x8x128_S8x128 i
  | 1, _ => exact Slow.place aL XL k.val 1 (k0_off56_inb k) (k0_off56_eq k) shapeCasts_S1x8x128_S8x128 i
  | 2, _ => exact Slow.place aL XL k.val 2 (k0_off57_inb k) (k0_off57_eq k) shapeCasts_S1x8x128_S8x128 i
  | 3, _ => exact Slow.place aL XL k.val 3 (k0_off58_inb k) (k0_off58_eq k) shapeCasts_S1x8x128_S8x128 i
  | n + 4, hp => omega
theorem init_col (p : ℕ) (hp : p < 4) (r : Fin 8) (l : Fin 128) : col (init XL XI k) p (ix2 r l)
    = at3 (aI.view.read (Elt Ideal) XI) p (8 * k.val + r.val) l.val * Ideal.ofBits .f32 0x43000000#32 + (((BitVec.ofNat 32 l.val).toInt : ℝ) : EReal) := by
  rw [← lane_iota r l]
  match p, hp with
  | 0, _ => exact congrArg (fun y : EReal => y * Ideal.ofBits .f32 0x43000000#32 + (((iota .tc S8x128 32 [1] iota_S8x128_d1_w32 (ix2 r l)).toInt : ℝ) : EReal)) (Slow.place aI XI k.val 0 (k0_off55_inb k) (k0_off55_eq k) shapeCasts_S1x8x128_S8x128 (ix2 r l))
  | 1, _ => exact congrArg (fun y : EReal => y * Ideal.ofBits .f32 0x43000000#32 + (((iota .tc S8x128 32 [1] iota_S8x128_d1_w32 (ix2 r l)).toInt : ℝ) : EReal)) (Slow.place aI XI k.val 1 (k0_off56_inb k) (k0_off56_eq k) shapeCasts_S1x8x128_S8x128 (ix2 r l))
  | 2, _ => exact congrArg (fun y : EReal => y * Ideal.ofBits .f32 0x43000000#32 + (((iota .tc S8x128 32 [1] iota_S8x128_d1_w32 (ix2 r l)).toInt : ℝ) : EReal)) (Slow.place aI XI k.val 2 (k0_off57_inb k) (k0_off57_eq k) shapeCasts_S1x8x128_S8x128 (ix2 r l))
  | 3, _ => exact congrArg (fun y : EReal => y * Ideal.ofBits .f32 0x43000000#32 + (((iota .tc S8x128 32 [1] iota_S8x128_d1_w32 (ix2 r l)).toInt : ℝ) : EReal)) (Slow.place aI XI k.val 3 (k0_off58_inb k) (k0_off58_eq k) shapeCasts_S1x8x128_S8x128 (ix2 r l))
  | n + 4, hp => omega

theorem st_succ (n : ℕ) (hn : n < 8) : st XL XI k (n + 1) = step ⟨n, hn⟩ (st XL XI k n) := dif_pos hn

theorem all_pulls (hnat : ∀ p, p < 4 → ∀ (r : Fin 8) (l : Fin 128), NatB 1024 (at3 (aI.view.read (Elt Ideal) XI) p (8 * k.val + r.val) l.val)) :
    Pulls 4 (fun n => val (st XL XI k n)) (fun n => col (st XL XI k n)) (fun n => (st XL XI k n).2.2.2.2.2.2.2.2.1) where
  pad := fun n p hp i => by
    obtain ⟨q, rfl⟩ : ∃ q, p = q + 4 := ⟨p - 4, by omega⟩
    rfl
  vals := fun n hn p i => by rw [st_succ XL XI k n hn]; exact val_step _ _ p i
  cols := fun n hn p hp i => by rw [st_succ XL XI k n hn]; exact col_step _ _ p hp i
  last := fun n hn p hp i hh => by
    obtain rfl : p = 3 := by omega
    rw [st_succ XL XI k n hn]; exact col_last _ _ i hh
  out := fun n hn r l => by rw [st_succ XL XI k n hn]; exact out_step ⟨n, hn⟩ _ r l
  start := fun p hp r l => by
    show Col (col (init XL XI k) p (ix2 r l)) l
    rw [init_col XL XI k p hp r l]
    exact col_of_nat (hnat p hp r l) l

variable (g : FVec Ideal S384x128 .f32) (XC : Ct (F := Ideal) aC) (a : V8 Ideal)

theorem chk_at (r : Fin 8) (l : Fin 128) : aC.view.readAt (Elt Ideal) (R14 k).toLoadRect XC (ix2 r l) = at2 (aC.view.read (Elt Ideal) XC) (8 * k.val + r.val) l.val := by
  refine (load2 aC.view XC (k0_off59_inb k) (ix2 r l) (k0_off59_eq k)).trans ?_
  show at2 _ _ (0 + l.val) = _
  rw [Nat.zero_add]

/-- The mark never falls, and it rises to one where a row's bound reaches the eighth value picked. -/
theorem mark_step (i : S8x128.Idx) : a i ≤ (trip14 c g XL XI XC k a).1.2.2 i := le_max_left _ _
theorem mark_low (r : Fin 8) (l : Fin 128) (h : (trip14 c g XL XI XC k a).1.2.2 (ix2 r l) ≤ 0) :
    at2 (aC.view.read (Elt Ideal) XC) (8 * k.val + r.val) l.val < k0_pay10 (val (st XL XI k 7) 0) (ix2 r (0 : Fin 1)) := by
  have h1 := (le_max_right _ _).trans h
  by_contra hn
  have hb : broadcastTo S8x128 (Scf.fold step (init XL XI k)).2.2.2.2.2.2.2.2.2.2 broadcasts_S8x1_S8x128 (ix2 r l) = k0_pay10 (val (st XL XI k 7) 0) (ix2 r (0 : Fin 1)) := by
    rw [bcast_row, fold_run]
    rfl
  have h2 : Ideal.cmp .oge (aC.view.readAt (Elt Ideal) (R14 k).toLoadRect XC (ix2 r l)) (broadcastTo S8x128 (Scf.fold step (init XL XI k)).2.2.2.2.2.2.2.2.2.2 broadcasts_S8x1_S8x128 (ix2 r l)) = 1#1 := by
    rw [cmp_oge_iff, hb, chk_at]
    exact not_lt.1 hn
  have h3 : ((((Ideal.cmp .oge (aC.view.readAt (Elt Ideal) (R14 k).toLoadRect XC (ix2 r l)) (broadcastTo S8x128 (Scf.fold step (init XL XI k)).2.2.2.2.2.2.2.2.2.2 broadcasts_S8x1_S8x128 (ix2 r l))).setWidth 32).toInt : ℝ) : EReal) ≤ 0 := h1
  rw [h2, show ((1#1 : BitVec 1).setWidth 32).toInt = 1 by decide] at h3
  have h4 : (((1 : ℤ) : ℝ) : EReal) ≤ ((0 : ℝ) : EReal) := h3
  rw [EReal.coe_le_coe_iff] at h4
  norm_num at h4

/-- The values the first selection picks for a row with no mark: its eight largest, in lanes `0` to `7`. -/
theorem picked (r : Fin 8) (cnt : Fin 128 → EReal → ℕ) (hg : ∀ (r : Fin 8) (l : Fin 128), ∃ f, Good (XL, XI, XC) (8 * k.val + r.val) l.val f)
    (h : ∀ l : Fin 128, Good (XL, XI, XC) (8 * k.val + r.val) l.val (cnt l)) (hmono : ∀ l t t', t ≤ t' → cnt l t' ≤ cnt l t)
    (hmark : ∀ l : Fin 128, (trip14 c g XL XI XC k a).1.2.2 (ix2 r l) ≤ 0) (l : Fin 128) (hl : l.val < 8) (t : EReal) (ht : ⊥ < t) :
    t ≤ (trip14 c g XL XI XC k a).1.1 (ix2 r l) ↔ l.val < ∑ l', cnt l' t := by
  have hP := all_pulls XL XI k fun p hp r l => (hg r l).choose_spec.nat p hp
  have hL : ∀ l' : Fin 128, Exact 4 (fun p => val (init XL XI k) p (ix2 r l')) (at2 (aC.view.read (Elt Ideal) XC) (8 * k.val + r.val) l'.val) (cnt l') := fun l' =>
    (h l').exact.congr (fun p hp => by
      refine (init_val XL XI k p hp (ix2 r l')).trans ?_
      interval_cases p <;> rfl) fun _ _ => rfl
  have e : (trip14 c g XL XI XC k a).1.1 (ix2 r l) = k0_pay10 (val (st XL XI k l.val) 0) (ix2 r (0 : Fin 1)) := by
    refine Eq.trans ?_ (hP.out_eq r 8 le_rfl l hl)
    show (Scf.fold step (init XL XI k)).2.2.2.2.2.2.2.2.1 (ix2 r l) = _
    rw [fold_run]
    rfl
  rw [e]
  exact fast_row _ _ cnt hL hmono (fun n => k0_pay10 (val (st XL XI k n) 0) (ix2 r (0 : Fin 1)))
    (hP.iff (by omega) r (fun l' => (hL l').desc)) (fun l' => mark_low c XL XI k g XC a r l' (hmark l')) l.val hl t ht

end Cert.Value.S14

end
-- ==== Proof.Value.Select20.lean ====
/-
  The second selection: eight pulls off lists of eight pick the eight largest of a row.
-/
module

public import proofs.«01_k».proof.Proof.Value.Pull

@[expose] public section

set_option maxRecDepth 16384

noncomputable section

namespace Cert.Value.S20

open Idealize.ShloMosaic Idealize.ShloMosaic.TcCoe Idealize.ShloMosaic.ValueIdx Cert.TopMath Cert.Value
open Cert.KernelIdeal Cert.KernelIdeal.Gen Cert.KernelIdeal.Hand

/-- The state of the loop: the lists' values by place, their columns by place, and what has been picked. -/
abbrev St : Type := V8 Ideal × V8 Ideal × V8 Ideal × V8 Ideal × V8 Ideal × V8 Ideal × V8 Ideal × V8 Ideal × V8 Ideal × V8 Ideal × V8 Ideal × V8 Ideal × V8 Ideal × V8 Ideal × V8 Ideal × V8 Ideal × V8 Ideal × V8 Ideal

/-- One pull. -/
def step (a : Fin k0_t21_loop.trips) (s : St) : St :=
  (k0_pay16 s.1 s.2.1 s.2.2.2.2.2.2.2.2.1,
    k0_pay18 s.1 s.2.1 s.2.2.1 s.2.2.2.2.2.2.2.2.1,
    k0_pay20 s.1 s.2.2.1 s.2.2.2.1 s.2.2.2.2.2.2.2.2.1,
    k0_pay22 s.1 s.2.2.2.1 s.2.2.2.2.1 s.2.2.2.2.2.2.2.2.1,
    k0_pay24 s.1 s.2.2.2.2.1 s.2.2.2.2.2.1 s.2.2.2.2.2.2.2.2.1,
    k0_pay26 s.1 s.2.2.2.2.2.1 s.2.2.2.2.2.2.1 s.2.2.2.2.2.2.2.2.1,
    k0_pay28 s.1 s.2.2.2.2.2.2.1 s.2.2.2.2.2.2.2.1 s.2.2.2.2.2.2.2.2.1,
    k0_pay30 s.1 s.2.2.2.2.2.2.2.1 s.2.2.2.2.2.2.2.2.1,
    k0_pay17 s.1 s.2.2.2.2.2.2.2.2.1 s.2.2.2.2.2.2.2.2.2.1,
    k0_pay19 s.1 s.2.2.2.2.2.2.2.2.1 s.2.2.2.2.2.2.2.2.2.1 s.2.2.2.2.2.2.2.2.2.2.1,
    k0_pay21 s.1 s.2.2.2.2.2.2.2.2.1 s.2.2.2.2.2.2.2.2.2.2.1 s.2.2.2.2.2.2.2.2.2.2.2.1,
    k0_pay23 s.1 s.2.2.2.2.2.2.2.2.1 s.2.2.2.2.2.2.2.2.2.2.2.1 s.2.2.2.2.2.2.2.2.2.2.2.2.1,
    k0_pay25 s.1 s.2.2.2.2.2.2.2.2.1 s.2.2.2.2.2.2.2.2.2.2.2.2.1 s.2.2.2.2.2.2.2.2.2.2.2.2.2.1,
    k0_pay27 s.1 s.2.2.2.2.2.2.2.2.1 s.2.2.2.2.2.2.2.2.2.2.2.2.2.1 s.2.2.2.2.2.2.2.2.2.2.2.2.2.2.1,
    k0_pay29 s.1 s.2.2.2.2.2.2.2.2.1 s.2.2.2.2.2.2.2.2.2.2.2.2.2.2.1 s.2.2.2.2.2.2.2.2.2.2.2.2.2.2.2.1,
    k0_pay31 s.1 s.2.2.2.2.2.2.2.2.1 s.2.2.2.2.2.2.2.2.2.2.2.2.2.2.2.1,
    k0_pay13 trip20.sl.v67 a s.1 s.2.2.2.2.2.2.2.2.2.2.2.2.2.2.2.2.1,
    k0_pay14 trip20.sl.v67 a s.1 s.2.2.2.2.2.2.2.2.1 s.2.2.2.2.2.2.2.2.2.2.2.2.2.2.2.2.2)

/-- The values at a place, `⊥` past the last; -/
def val (s : St) : ℕ → V8 Ideal
  | 0 => s.1
  | 1 => s.2.1
  | 2 => s.2.2.1
  | 3 => s.2.2.2.1
  | 4 => s.2.2.2.2.1
  | 5 => s.2.2.2.2.2.1
  | 6 => s.2.2.2.2.2.2.1
  | 7 => s.2.2.2.2.2.2.2.1
  | _ + 8 => fun _ => ⊥
/-- the columns at a place. -/
def col (s : St) : ℕ → V8 Ideal
  | 0 => s.2.2.2.2.2.2.2.2.1
  | 1 => s.2.2.2.2.2.2.2.2.2.1
  | 2 => s.2.2.2.2.2.2.2.2.2.2.1
  | 3 => s.2.2.2.2.2.2.2.2.2.2.2.1
  | 4 => s.2.2.2.2.2.2.2.2.2.2.2.2.1
  | 5 => s.2.2.2.2.2.2.2.2.2.2.2.2.2.1
  | 6 => s.2.2.2.2.2.2.2.2.2.2.2.2.2.2.1
  | 7 => s.2.2.2.2.2.2.2.2.2.2.2.2.2.2.2.1
  | _ + 8 => fun _ => 0

theorem val_step (a : Fin k0_t21_loop.trips) (s : St) (p : ℕ) (i : S8x128.Idx) :
    val (step a s) p i = if k0_pay15 (val s 0) (col s 0) i = 1#1 then val s (p + 1) i else val s p i := by
  match p with
  | 0 => rfl
  | 1 => rfl
  | 2 => rfl
  | 3 => rfl
  | 4 => rfl
  | 5 => rfl
  | 6 => rfl
  | 7 =>
    show (if k0_pay15 (val s 0) (col s 0) i = 1#1 then Ideal.ofBits .f32 0xFF800000#32 else val s 7 i) = _
    rw [neg_inf]
    rfl
  | n + 8 => exact (ite_self _).symm
theorem col_step (a : Fin k0_t21_loop.trips) (s : St) (p : ℕ) (hp : p + 1 < 8) (i : S8x128.Idx) :
    col (step a s) p i = if k0_pay15 (val s 0) (col s 0) i = 1#1 then col s (p + 1) i else col s p i := by
  match p, hp with
  | 0, _ => rfl
  | 1, _ => rfl
  | 2, _ => rfl
  | 3, _ => rfl
  | 4, _ => rfl
  | 5, _ => rfl
  | 6, _ => rfl
  | n + 7, hp => omega
theorem col_last (a : Fin k0_t21_loop.trips) (s : St) (i : S8x128.Idx) (h : k0_pay15 (val s 0) (col s 0) i ≠ 1#1) : col (step a s) 7 i = col s 7 i :=
  if_neg h
theorem out_step (a : Fin k0_t21_loop.trips) (s : St) (r : Fin 8) (l : Fin 128) :
    (step a s).2.2.2.2.2.2.2.2.2.2.2.2.2.2.2.2.1 (ix2 r l) = if l.val = a.val then k0_pay10 (val s 0) (ix2 r (0 : Fin 1)) else s.2.2.2.2.2.2.2.2.2.2.2.2.2.2.2.2.1 (ix2 r l) := by
  have e : (step a s).2.2.2.2.2.2.2.2.2.2.2.2.2.2.2.2.1 (ix2 r l) = if IntOp.cmpi .eq (iota .tc S8x128 32 [1] iota_S8x128_d1_w32 (ix2 r l)) (Scf.iv 0#32 1#32 a) = 1#1
      then broadcastTo S8x128 (shapeCast S8x1 (k0_pay10 (val s 0)) shapeCasts_S8x1_S8x1) broadcasts_S8x1_S8x128 (ix2 r l) else s.2.2.2.2.2.2.2.2.2.2.2.2.2.2.2.2.1 (ix2 r l) := by
    show k0_pay13 trip20.sl.v67 a s.1 s.2.2.2.2.2.2.2.2.2.2.2.2.2.2.2.2.1 (ix2 r l) = _
    unfold k0_pay13 trip20.sl.v67
    rfl
  rw [e, bcast_row, shapeCast_self, lane_iota]
  exact if_congr (lane_iff l a) rfl rfl

variable (c : Dev nD) (XL : Ct (F := Ideal) aL) (XI : Ct (F := Ideal) aI) (k : Fin k0_t20_loop.trips)

/-- The lists of a group as loaded. -/
def init : St :=
  (trip20.sl.r XL k, trip20.sl.r_1 XL k, trip20.sl.r_2 XL k, trip20.sl.r_3 XL k, trip20.sl.r_4 XL k, trip20.sl.r_5 XL k, trip20.sl.r_6 XL k, trip20.sl.r_7 XL k, trip20.sl.r_8 XI k, trip20.sl.r_10 XI k, trip20.sl.r_11 XI k, trip20.sl.r_12 XI k, trip20.sl.r_13 XI k, trip20.sl.r_14 XI k, trip20.sl.r_15 XI k, trip20.sl.r_16 XI k, k0_pay310, k0_pay9)

/-- The states. -/
abbrev st (n : ℕ) : St := run step (init XL XI k) n

theorem init_val (p : ℕ) (hp : p < 8) (i : S8x128.Idx) : val (init XL XI k) p i = at3 (aL.view.read (Elt Ideal) XL) p (8 * k.val + (i 0).val) (i 1).val := by
  match p, hp with
  | 0, _ => exact Slow.place aL XL k.val 0 (k0_off76_inb k) (k0_off76_eq k) shapeCasts_S1x8x128_S8x128 i
  | 1, _ => exact Slow.place aL XL k.val 1 (k0_off77_inb k) (k0_off77_eq k) shapeCasts_S1x8x128_S8x128 i
  | 2, _ => exact Slow.place aL XL k.val 2 (k0_off78_inb k) (k0_off78_eq k) shapeCasts_S1x8x128_S8x128 i
  | 3, _ => exact Slow.place aL XL k.val 3 (k0_off79_inb k) (k0_off79_eq k) shapeCasts_S1x8x128_S8x128 i
  | 4, _ => exact Slow.place aL XL k.val 4 (k0_off80_inb k) (k0_off80_eq k) shapeCasts_S1x8x128_S8x128 i
  | 5, _ => exact Slow.place aL XL k.val 5 (k0_off81_inb k) (k0_off81_eq k) shapeCasts_S1x8x128_S8x128 i
  | 6, _ => exact Slow.place aL XL k.val 6 (k0_off82_inb k) (k0_off82_eq k) shapeCasts_S1x8x128_S8x128 i
  | 7, _ => exact Slow.place aL XL k.val 7 (k0_off83_inb k) (k0_off83_eq k) shapeCasts_S1x8x128_S8x128 i
  | n + 8, hp => omega
theorem init_col (p : ℕ) (hp : p < 8) (r : Fin 8) (l : Fin 128) : col (init XL XI k) p (ix2 r l)
    = at3 (aI.view.read (Elt Ideal) XI) p (8 * k.val + r.val) l.val * Ideal.ofBits .f32 0x43000000#32 + (((BitVec.ofNat 32 l.val).toInt : ℝ) : EReal) := by
  rw [← lane_iota r l]
  match p, hp with
  | 0, _ => exact congrArg (fun y : EReal => y * Ideal.ofBits .f32 0x43000000#32 + (((iota .tc S8x128 32 [1] iota_S8x128_d1_w32 (ix2 r l)).toInt : ℝ) : EReal)) (Slow.place aI XI k.val 0 (k0_off76_inb k) (k0_off76_eq k) shapeCasts_S1x8x128_S8x128 (ix2 r l))
  | 1, _ => exact congrArg (fun y : EReal => y * Ideal.ofBits .f32 0x43000000#32 + (((iota .tc S8x128 32 [1] iota_S8x128_d1_w32 (ix2 r l)).toInt : ℝ) : EReal)) (Slow.place aI XI k.val 1 (k0_off77_inb k) (k0_off77_eq k) shapeCasts_S1x8x128_S8x128 (ix2 r l))
  | 2, _ => exact congrArg (fun y : EReal => y * Ideal.ofBits .f32 0x43000000#32 + (((iota .tc S8x128 32 [1] iota_S8x128_d1_w32 (ix2 r l)).toInt : ℝ) : EReal)) (Slow.place aI XI k.val 2 (k0_off78_inb k) (k0_off78_eq k) shapeCasts_S1x8x128_S8x128 (ix2 r l))
  | 3, _ => exact congrArg (fun y : EReal => y * Ideal.ofBits .f32 0x43000000#32 + (((iota .tc S8x128 32 [1] iota_S8x128_d1_w32 (ix2 r l)).toInt : ℝ) : EReal)) (Slow.place aI XI k.val 3 (k0_off79_inb k) (k0_off79_eq k) shapeCasts_S1x8x128_S8x128 (ix2 r l))
  | 4, _ => exact congrArg (fun y : EReal => y * Ideal.ofBits .f32 0x43000000#32 + (((iota .tc S8x128 32 [1] iota_S8x128_d1_w32 (ix2 r l)).toInt : ℝ) : EReal)) (Slow.place aI XI k.val 4 (k0_off80_inb k) (k0_off80_eq k) shapeCasts_S1x8x128_S8x128 (ix2 r l))
  | 5, _ => exact congrArg (fun y : EReal => y * Ideal.ofBits .f32 0x43000000#32 + (((iota .tc S8x128 32 [1] iota_S8x128_d1_w32 (ix2 r l)).toInt : ℝ) : EReal)) (Slow.place aI XI k.val 5 (k0_off81_inb k) (k0_off81_eq k) shapeCasts_S1x8x128_S8x128 (ix2 r l))
  | 6, _ => exact congrArg (fun y : EReal => y * Ideal.ofBits .f32 0x43000000#32 + (((iota .tc S8x128 32 [1] iota_S8x128_d1_w32 (ix2 r l)).toInt : ℝ) : EReal)) (Slow.place aI XI k.val 6 (k0_off82_inb k) (k0_off82_eq k) shapeCasts_S1x8x128_S8x128 (ix2 r l))
  | 7, _ => exact congrArg (fun y : EReal => y * Ideal.ofBits .f32 0x43000000#32 + (((iota .tc S8x128 32 [1] iota_S8x128_d1_w32 (ix2 r l)).toInt : ℝ) : EReal)) (Slow.place aI XI k.val 7 (k0_off83_inb k) (k0_off83_eq k) shapeCasts_S1x8x128_S8x128 (ix2 r l))
  | n + 8, hp => omega

theorem st_succ (n : ℕ) (hn : n < 8) : st XL XI k (n + 1) = step ⟨n, hn⟩ (st XL XI k n) := dif_pos hn

theorem all_pulls (hnat : ∀ p, p < 8 → ∀ (r : Fin 8) (l : Fin 128), NatB 1024 (at3 (aI.view.read (Elt Ideal) XI) p (8 * k.val + r.val) l.val)) :
    Pulls 8 (fun n => val (st XL XI k n)) (fun n => col (st XL XI k n)) (fun n => (st XL XI k n).2.2.2.2.2.2.2.2.2.2.2.2.2.2.2.2.1) where
  pad := fun n p hp i => by
    obtain ⟨q, rfl⟩ : ∃ q, p = q + 8 := ⟨p - 8, by omega⟩
    rfl
  vals := fun n hn p i => by rw [st_succ XL XI k n hn]; exact val_step _ _ p i
  cols := fun n hn p hp i => by rw [st_succ XL XI k n hn]; exact col_step _ _ p hp i
  last := fun n hn p hp i hh => by
    obtain rfl : p = 7 := by omega
    rw [st_succ XL XI k n hn]; exact col_last _ _ i hh
  out := fun n hn r l => by rw [st_succ XL XI k n hn]; exact out_step ⟨n, hn⟩ _ r l
  start := fun p hp r l => by
    show Col (col (init XL XI k) p (ix2 r l)) l
    rw [init_col XL XI k p hp r l]
    exact col_of_nat (hnat p hp r l) l

/-- The values the second selection picks for a row: its eight largest, in lanes `0` to `7`. -/
theorem picked (r : Fin 8) (cnt : Fin 128 → EReal → ℕ) (hg : ∀ (r : Fin 8) (l : Fin 128), ∃ f, Slow.Good (XL, XI) (8 * k.val + r.val) l.val f)
    (h : ∀ l : Fin 128, Slow.Good (XL, XI) (8 * k.val + r.val) l.val (cnt l)) (l : Fin 128) (hl : l.val < 8) (t : EReal) (ht : ⊥ < t) :
    t ≤ (trip20 c XL XI k).1.1 (ix2 r l) ↔ l.val < ∑ l', cnt l' t := by
  have hP := all_pulls XL XI k fun p hp r l => (hg r l).choose_spec.nat p hp
  have hL : ∀ l' : Fin 128, Largest 8 (fun p => val (init XL XI k) p (ix2 r l')) (cnt l') := fun l' =>
    (h l').largest.congr (fun p hp => init_val XL XI k p hp (ix2 r l')) fun _ => rfl
  have e : (trip20 c XL XI k).1.1 (ix2 r l) = k0_pay10 (val (st XL XI k l.val) 0) (ix2 r (0 : Fin 1)) := by
    refine Eq.trans ?_ (hP.out_eq r 8 le_rfl l hl)
    show (Scf.fold step (init XL XI k)).2.2.2.2.2.2.2.2.2.2.2.2.2.2.2.2.1 (ix2 r l) = _
    rw [fold_run]
    rfl
  rw [e, hP.iff (by omega) r (fun l' => (hL l').desc) l.val hl t ht]
  exact slow_row _ cnt hL l.val hl t ht

end Cert.Value.S20

end
-- ==== Proof.Value.Values.lean ====
/-
  The eight values a row is left with: the selection off the first pass's lists where no bound reached the eighth,
  off the second pass's lists otherwise.
-/
module

public import proofs.«01_k».proof.Proof.Value.Rows
public import proofs.«01_k».proof.Proof.Value.Select14
public import proofs.«01_k».proof.Proof.Value.Select20
public import proofs.«01_k».proof.Proof.Value.KernelCodes

@[expose] public section

set_option maxRecDepth 16384

noncomputable section

namespace Cert.Value

open Idealize.ShloMosaic Idealize.ShloMosaic.TcCoe Idealize.ShloMosaic.ValueIdx Cert.TopMath
open Cert.KernelIdeal Cert.KernelIdeal.Gen Cert.KernelIdeal.Hand

/-- Every entry of a mark is at most the mark's maximum. -/
theorem mark_le (v : V8 Ideal) (i : S8x128.Idx) : v i ≤ k0_pay1 (k0_pay355 v) := by
  obtain ⟨j, hj⟩ : ∃ j : S1.Idx, k0_pay1 (k0_pay355 v) = multiReduction .maximumf [1, 2] S1 (k0_pay355 v) 0xFF800000#32 reduces_S1x8x128_S1 (.inl rfl) rfl j := ⟨_, rfl⟩
  haveI : Subsingleton S1.Idx := ⟨fun a b => funext fun x => by
    match x with
    | ⟨0, _⟩ => exact Subsingleton.elim (α := Fin 1) _ _⟩
  rw [hj]
  refine le_of_le_of_eq ?_ (multiReduction_maximumf_eq_fold (k0_pay355 v) 0xFF800000#32 reduces_S1x8x128_S1 (.inl rfl) rfl j).symm
  refine (Finset.le_fold_max (f := k0_pay355 v) (v i)).2 (Or.inr ⟨ix3 (0 : Fin 1) (i 0) (i 1), ?_, ?_⟩)
  · rw [Finset.mem_filter]
    exact ⟨Finset.mem_univ _, Subsingleton.elim _ _⟩
  · exact (F12.stored v shapeCasts_S8x128_S1x8x128 i).ge

variable (c : Dev nD) (XW : Buf (Elt Ideal) (aW.view.loc (c : Thread nD τ))) (XX : Ct (F := Ideal) aX) (XS : Ct (F := Ideal) aS) (XN : Ct (F := Ideal) aN)

/-- Where the second pass does not run, no entry of the mark is positive. -/
theorem not_again (h : ¬ again c XW XX XS XN) (i : S8x128.Idx) : mk1 c XW XX XS XN i ≤ 0 := by
  refine (mark_le _ i).trans ?_
  by_contra hn
  apply h
  have e : Ideal.cmp .ogt (k0_pay1 (k0_pay355 (mk1 c XW XX XS XN))) (Ideal.ofBits .f32 0#32) = 1#1 := by
    rw [cmp_ogt_iff, Ideal.ofBits_zero_f32]
    exact not_le.1 hn
  unfold again
  show Scalar.cmpi .ne (Scalar.extui (Ideal.cmp .ogt (k0_pay1 (k0_pay355 (mk1 c XW XX XS XN))) (Ideal.ofBits .f32 0#32)) : BitVec 32) 0#32 = 1#1
  rw [e]
  decide

/-- The mark after a group of rows is at most the mark after all. -/
theorem mark_last (h : ¬ again c XW XX XS XN) (k : Fin k0_t14_loop.trips) (i : S8x128.Idx) :
    (trip14 c k0_pay314 (x11 c XW XX XS XN).1 (x11 c XW XX XS XN).2.1 (x11 c XW XX XS XN).2.2 k
      (st14 c k0_pay314 (x11 c XW XX XS XN).1 (x11 c XW XX XS XN).2.1 (x11 c XW XX XS XN).2.2 k0_pay334 k.val)).1.2.2 i ≤ 0 := by
  have hm : Monotone fun n => st14 c k0_pay314 (x11 c XW XX XS XN).1 (x11 c XW XX XS XN).2.1 (x11 c XW XX XS XN).2.2 k0_pay334 n i := by
    refine monotone_nat_of_le_succ fun n => ?_
    show _ ≤ st14 _ _ _ _ _ _ (n + 1) i
    rw [st14]
    split
    · exact S14.mark_step _ _ _ _ _ _ _ i
    · exact le_rfl
  have h1 := hm (show k.val + 1 ≤ k0_t14_loop.trips from k.isLt)
  have h2 := not_again c XW XX XS XN h i
  rw [← mk1_eq] at h2
  have h3 := h1.trans h2
  dsimp only at h3
  rw [st14, dif_pos k.isLt] at h3
  exact h3

theorem hit_anti (x : EReal) {t t' : EReal} (h : t ≤ t') : hit t' x ≤ hit t x := by
  unfold hit
  by_cases h1 : t' ≤ x
  · rw [if_pos h1, if_pos (h.trans h1)]
  · rw [if_neg h1]; exact Nat.zero_le _

theorem upto_anti (Q W D S N : ℕ → ℕ → EReal) (r l T : ℕ) {t t' : EReal} (h : t ≤ t') : upto Q W D S N r l T t' ≤ upto Q W D S N r l T t :=
  Finset.sum_le_sum fun _ _ => Finset.sum_le_sum fun _ _ => hit_anti _ h

/-- The values the first selection leaves. -/
theorem tv1_at (h : ¬ again c XW XX XS XN) (r : Fin 384) (j : Fin 128) (hj : j.val < 8) (t : EReal) (ht : ⊥ < t) :
    t ≤ aTV.view.read (Elt Ideal) (tv1 c XW XX XS XN) (ix2 r j) ↔ j.val < ∑ l : Fin 128, reach c XW XS XN (q0 c XX) (d0 c XX) r.val l.val 49 t := by
  have hk : r.val / 8 < k0_t14_loop.trips := by rw [trips14]; omega
  have hrow : 8 * (r.val / 8) + r.val % 8 = r.val := by omega
  rw [← S14.picked c (x11 c XW XX XS XN).1 (x11 c XW XX XS XN).2.1 ⟨r.val / 8, hk⟩ k0_pay314 (x11 c XW XX XS XN).2.2
    (st14 c k0_pay314 (x11 c XW XX XS XN).1 (x11 c XW XX XS XN).2.1 (x11 c XW XX XS XN).2.2 k0_pay334 (r.val / 8)) ⟨r.val % 8, by omega⟩
    (fun l => reach c XW XS XN (q0 c XX) (d0 c XX) r.val l.val 49)
    (fun r' l => ⟨_, x11_good c XW XX XS XN _ l.val (by show 8 * (r.val / 8) + r'.val < 384; omega) l.isLt⟩)
    (fun l => by
      show Good _ (8 * (r.val / 8) + r.val % 8) _ _
      rw [hrow]; exact x11_good c XW XX XS XN r.val l.val r.isLt l.isLt)
    (fun l t t' htt => upto_anti _ _ _ _ _ _ _ _ htt)
    (fun l => mark_last c XW XX XS XN h ⟨r.val / 8, hk⟩ _) j hj t ht]
  refine iff_of_eq (congrArg (t ≤ ·) ?_)
  unfold tv1
  refine read_pieces aTV.view aTV.view.junk _ 0 k0_t14_loop.trips (r.val / 8) hk (ix2 r j) ?_ _ _ _ _ (p14v_eq c k0_pay314 _ _ _ _ ⟨r.val / 8, hk⟩)
    (ix2 (⟨r.val % 8, by omega⟩ : Fin 8) j) ?_
  · intro k hk' hne
    refine ⟨_, _, _, _, p14v_eq c k0_pay314 _ _ _ _ ⟨k, hk'⟩, ?_⟩
    rw [k0_off59_eq]
    show r.val < 8 * k ∨ 8 * k + 8 ≤ r.val
    omega
  · intro a
    refine Eq.trans ?_ (congrArg (· + _) (congrFun (k0_off59_eq ⟨r.val / 8, hk⟩) a).symm)
    match a with
    | ⟨0, _⟩ => show r.val = 8 * (r.val / 8) + r.val % 8; omega
    | ⟨1, _⟩ => show j.val = 0 + j.val; omega

/-- The values the second selection leaves. -/
theorem tv2_at (r : Fin 384) (j : Fin 128) (hj : j.val < 8) (t : EReal) (ht : ⊥ < t) :
    t ≤ aTV.view.read (Elt Ideal) (tv2 c XW XX XS XN) (ix2 r j) ↔ j.val < ∑ l : Fin 128, reach c XW XS XN (q0 c XX) (d0 c XX) r.val l.val 49 t := by
  have hk : r.val / 8 < k0_t20_loop.trips := by rw [trips20]; omega
  have hrow : 8 * (r.val / 8) + r.val % 8 = r.val := by omega
  rw [← S20.picked c (x16 c XW XX XS XN).1 (x16 c XW XX XS XN).2 ⟨r.val / 8, hk⟩ ⟨r.val % 8, by omega⟩
    (fun l => reach c XW XS XN (q0 c XX) (d0 c XX) r.val l.val 49)
    (fun r' l => ⟨_, x16_good c XW XX XS XN _ l.val (by show 8 * (r.val / 8) + r'.val < 384; omega) l.isLt⟩)
    (fun l => by
      show Slow.Good _ (8 * (r.val / 8) + r.val % 8) _ _
      rw [hrow]; exact x16_good c XW XX XS XN r.val l.val r.isLt l.isLt)
    j hj t ht]
  refine iff_of_eq (congrArg (t ≤ ·) ?_)
  unfold tv2
  refine read_pieces aTV.view aTV.view.junk _ 0 k0_t20_loop.trips (r.val / 8) hk (ix2 r j) ?_ _ _ _ _ (p20v_eq c _ _ ⟨r.val / 8, hk⟩)
    (ix2 (⟨r.val % 8, by omega⟩ : Fin 8) j) ?_
  · intro k hk' hne
    refine ⟨_, _, _, _, p20v_eq c _ _ ⟨k, hk'⟩, ?_⟩
    rw [k0_off84_eq]
    show r.val < 8 * k ∨ 8 * k + 8 ≤ r.val
    omega
  · intro a
    refine Eq.trans ?_ (congrArg (· + _) (congrFun (k0_off84_eq ⟨r.val / 8, hk⟩) a).symm)
    match a with
    | ⟨0, _⟩ => show r.val = 8 * (r.val / 8) + r.val % 8; omega
    | ⟨1, _⟩ => show j.val = 0 + j.val; omega

/-- The values the body leaves: entry `j < 8` of a row reaches a threshold exactly when more than `j` of the row's
    logits do. -/
theorem tv_at (r : Fin 384) (j : Fin 128) (hj : j.val < 8) (t : EReal) (ht : ⊥ < t) :
    t ≤ aTV.view.read (Elt Ideal) (tvF c XW XX XS XN) (ix2 r j) ↔ j.val < ∑ l : Fin 128, reach c XW XS XN (q0 c XX) (d0 c XX) r.val l.val 49 t := by
  unfold tvF
  split
  · exact tv2_at c XW XX XS XN r j hj t ht
  · next h => exact tv1_at c XW XX XS XN h r j hj t ht

end Cert.Value

end
-- ==== Proof.Value.RowScale.lean ====
/-
  The rows' scales as the lists read them: every lane of a row holds the row's scale.
-/
module

public import proofs.«01_k».proof.Proof.Value.KernelCodes
public import proofs.«01_k».proof.Proof.Value.Read

@[expose] public section

set_option maxRecDepth 16384

noncomputable section

namespace Cert.Value

open Idealize.ShloMosaic Idealize.ShloMosaic.ValueIdx Cert.QuantMath
open Cert.KernelIdeal Cert.KernelIdeal.Gen Cert.KernelIdeal.Hand

variable (c : Dev nD) (XX : Ct (F := Ideal) aX) (h : ∀ y : S384x3840.Idx, mag (aX.view.read (Elt Ideal) XX y) ≤ Ideal.ofBits .bf16 0x7F7F#16)

theorem trip_lanes (k : Fin k0_t1_loop.trips) (r : Fin 32) (l : Fin 128) : (trip1 c XX k).1.2.2 (ix2 r l) = (trip1 c XX k).1.2.1 (ix2 r (0 : Fin 1)) := by
  unfold trip1
  dsimp only
  unfold k0_pay311
  rw [shapeCast_self, shapeCast_self]
  exact broadcastTo_apply _ _ (ix2 r l) (ix2 r (0 : Fin 1)) (by intro a; match a with | ⟨0, _⟩ => rfl | ⟨1, _⟩ => rfl)

include h in
theorem lanes (r : Fin 384) (l : Fin 128) : aD.view.read (Elt Ideal) (d0 c XX) (ix2 r l) = rowScale (row XX r) := by
  have hk : r.val / 32 < k0_t1_loop.trips := by rw [trips1]; omega
  rw [← (trip_row c XX h ⟨r.val / 32, hk⟩ ⟨r.val % 32, by omega⟩ r (by show r.val = 32 * (r.val / 32) + r.val % 32; omega)).1]
  rw [← trip_lanes c XX ⟨r.val / 32, hk⟩ ⟨r.val % 32, by omega⟩ l]
  unfold d0
  refine read_pieces aD.view aD.view.junk (p1d c XX) 0 k0_t1_loop.trips (r.val / 32) hk (ix2 r l) ?_ _ _ _ _ (p1d_eq c XX ⟨r.val / 32, hk⟩) (ix2 (⟨r.val % 32, by omega⟩ : Fin 32) l) ?_
  · intro k hk' hne
    refine ⟨_, _, _, _, p1d_eq c XX ⟨k, hk'⟩, ?_⟩
    rw [k0_off6_eq]
    show r.val < 32 * k ∨ 32 * k + 32 ≤ r.val
    omega
  · intro a
    refine Eq.trans ?_ (congrArg (· + _) (congrFun (k0_off6_eq ⟨r.val / 32, hk⟩) a).symm)
    match a with
    | ⟨0, _⟩ => show r.val = 32 * (r.val / 32) + r.val % 32; omega
    | ⟨1, _⟩ => show l.val = 0 + l.val; omega

end Cert.Value

end
-- ==== Proof.Value.TopK.lean ====
/-
  The reference's eight largest of a row, as thresholds: the `k`-th value reaches `c` exactly when more than `k`
  entries of the row do; and a row's entries counted by lane, tile and slab.
-/
module

public import proofs.«01_k».proof.Proof.Math.Top
public import Idealize.ShloMosaic.PureOps.ShapeOps
public import Idealize.ShloMosaic.PureOps.Ideal.Laws
public import Idealize.ShloMosaic.Lib.SortFacts
public import Idealize.ShloMosaic.Lib.ValueIdx

@[expose] public section

set_option maxRecDepth 16384

noncomputable section

namespace Cert.Value

open Idealize.ShloMosaic Idealize.ShloMosaic.ValueIdx Cert.TopMath

open Classical in
theorem topK_iff {R N K : ℕ} (x : (⟨2, ![R, N]⟩ : Shape).Idx → EReal) (h : (⟨2, ![R, N]⟩ : Shape).Slices (fun _ => 0) ⟨2, ![R, K]⟩) (r : Fin R) (k : Fin K)
    (hk : k.val < N) (c : EReal) :
    c ≤ (Host.topK (⟨2, ![R, K]⟩ : Shape) 1 (FloatOps.cmpfTotal (F := Ideal) (φ := .f32) .gt) x h).1 (ix2 r k)
      ↔ k.val < (Finset.univ.filter fun n : Fin N => c ≤ x (ix2 r n)).card := by
  let L : Fin N → EReal := fun n => x (ix2 r n)
  let σ : Fin N → Fin N := sortedFrom fun a b => FloatOps.cmpfTotal (F := Ideal) (φ := .f32) .gt (L a) (L b) == 1#1
  have hgt : ∀ a b : EReal, ((FloatOps.cmpfTotal (F := Ideal) (φ := .f32) .gt a b == 1#1) = true) ↔ b < a := fun a b => by
    show ((BitVec.ofBool (decide (b < a)) == 1#1) = true) ↔ _
    by_cases hh : b < a <;> simp [hh]
  have hgt' : ∀ a b : EReal, ((FloatOps.cmpfTotal (F := Ideal) (φ := .f32) .gt a b == 1#1) = false) ↔ a ≤ b := fun a b => by
    rw [← not_lt, ← hgt, Bool.not_eq_true]
  have e : (Host.topK (⟨2, ![R, K]⟩ : Shape) 1 (FloatOps.cmpfTotal (F := Ideal) (φ := .f32) .gt) x h).1 (ix2 r k) = L (σ ⟨k.val, hk⟩) := by
    have along : ∀ n : Fin N, (Shape.Idx.along (s := (⟨2, ![R, N]⟩ : Shape)) (fun a => ⟨0 + ((ix2 r k : (⟨2, ![R, K]⟩ : Shape).Idx) (a.cast h.1.symm)).val,
        Nat.lt_of_lt_of_le (Nat.add_lt_add_left (Fin.isLt _) _) (h.2 a)⟩) (1 : Fin 2) n) = ix2 r n := fun n => by
      funext a
      unfold Shape.Idx.along
      match a with
      | ⟨0, _⟩ => exact (dif_neg (show ¬ ((⟨0, by decide⟩ : Fin 2) = 1) by decide)).trans (Fin.ext (Nat.zero_add _))
      | ⟨1, _⟩ => exact Function.update_self _ _ _
    show x (Shape.Idx.along _ (1 : Fin 2) _) = _
    refine (congrArg x (along _)).trans (congrArg L ?_)
    refine congr (congrArg sortedFrom (funext fun a => funext fun b => ?_)) (Fin.ext (Nat.zero_add _))
    exact congrArg₂ (fun u v => FloatOps.cmpfTotal (F := Ideal) (φ := .f32) .gt u v == 1#1) (congrArg x (along a)) (congrArg x (along b))
  rw [e]
  refine sorted_iff L σ ⟨sortedFrom_injective _, sortedFrom_surjective _⟩ (fun a b hab => ?_) ⟨k.val, hk⟩ c
  rcases eq_or_lt_of_le hab with e | hlt
  · rw [e]
  · have := sortedFrom_noInversion (fun a b => FloatOps.cmpfTotal (F := Ideal) (φ := .f32) .gt (L a) (L b) == 1#1) (fun a b => FloatOps.cmpfTotal (F := Ideal) (φ := .f32) .gt (L a) (L b) == 1#1)
      (fun a b h1 => (hgt' _ _).2 ((hgt _ _).1 h1).le) (fun _ _ h1 => h1) (fun a b c h1 h2 => (hgt' _ _).2 (((hgt' _ _).1 h1).trans ((hgt' _ _).1 h2))) a b hlt
    exact (hgt' _ _).1 this

open Classical in
/-- A row's entries that reach `c`, by lane, tile and slab. -/
theorem count_lanes (L : ℕ → EReal) (c : EReal) : (Finset.univ.filter fun n : Fin 100352 => c ≤ L n.val).card
    = ∑ l : Fin 128, ∑ t ∈ Finset.range 49, ∑ j ∈ Finset.range 16, hit c (L (2048 * t + (128 * j + l.val))) := by
  have h1 : (Finset.univ.filter fun n : Fin 100352 => c ≤ L n.val).card = ∑ n ∈ Finset.range (49 * 2048), hit c (L n) := by
    rw [Finset.card_filter, ← Fin.sum_univ_eq_sum_range (fun n => hit c (L n))]
    rfl
  have h2 : ∀ (A B : ℕ) (f : ℕ → ℕ), ∑ n ∈ Finset.range (A * B), f n = ∑ a ∈ Finset.range A, ∑ b ∈ Finset.range B, f (B * a + b) := by
    intro A B f
    induction A with
    | zero => simp
    | succ A ih => rw [Nat.succ_mul, Finset.sum_range_add, ih, Finset.sum_range_succ, Nat.mul_comm A B]
  rw [h1, h2]
  have h3 : ∀ t, ∑ b ∈ Finset.range 2048, hit c (L (2048 * t + b)) = ∑ j ∈ Finset.range 16, ∑ l ∈ Finset.range 128, hit c (L (2048 * t + (128 * j + l))) :=
    fun t => h2 16 128 fun b => hit c (L (2048 * t + b))
  rw [Finset.sum_congr rfl fun t _ => h3 t]
  rw [Fin.sum_univ_eq_sum_range (fun l => ∑ t ∈ Finset.range 49, ∑ j ∈ Finset.range 16, hit c (L (2048 * t + (128 * j + l)))) 128]
  rw [Finset.sum_comm (s := Finset.range 128)]
  exact Finset.sum_congr rfl fun t _ => Finset.sum_comm

end Cert.Value

end
-- ==== Proof.Value.Head.lean ====
/-
  The head as functions of its four arguments: the logits of every row, and the eight largest of each row.
-/
module

public import proofs.«01_k».proof.Proof.Value.Quantiser
public import proofs.«01_k».proof.Proof.Value.TopK
public import proofs.«01_k».proof.Proof.Value.Read

@[expose] public section

noncomputable section

namespace Cert.Value

open Idealize.ShloMosaic Idealize.ShloMosaic.ValueIdx Cert.TopMath

/-- The logits: the codes' product with the weights, times the row's scale, times the column's scale, plus the bias. -/
def logitsOf (X : (⟨2, ![384, 3840]⟩ : Shape).Idx → EReal) (w : (⟨2, ![3840, 100352]⟩ : Shape).Idx → EReal) (s b : (⟨1, ![100352]⟩ : Shape).Idx → EReal) :
    (⟨2, ![384, 100352]⟩ : Shape).Idx → EReal :=
  fun y => (∑ k : Fin 3840, codesOf X (ix2 (y 0) k) * w (ix2 k (y 1))) * scalesOf X (ix2 (y 0) (0 : Fin 1)) * s (ix1 (y 1)) + b (ix1 (y 1))

theorem fits : (⟨2, ![384, 100352]⟩ : Shape).Slices (fun _ => 0) ⟨2, ![384, 8]⟩ := by decide

/-- The eight largest entries of every row, in descending order. -/
def topsOf (L : (⟨2, ![384, 100352]⟩ : Shape).Idx → EReal) : (⟨2, ![384, 8]⟩ : Shape).Idx → EReal :=
  (Host.topK (⟨2, ![384, 8]⟩ : Shape) 1 (FloatOps.cmpfTotal (F := Ideal) (φ := .f32) .gt) L fits).1

/-- Entry `j` of a row reaches a threshold exactly when more than `j` of the row's entries do, counted by lane, tile
    and slab. -/
theorem tops_iff (L : (⟨2, ![384, 100352]⟩ : Shape).Idx → EReal) (r : Fin 384) (j : Fin 8) (t : EReal) :
    t ≤ topsOf L (ix2 r j) ↔ j.val < ∑ l : Fin 128, ∑ p ∈ Finset.range 49, ∑ i ∈ Finset.range 16, hit t (at2 L r.val (2048 * p + (128 * i + l.val))) := by
  have e : ∀ n : Fin 100352, at2 L r.val n.val = L (ix2 r n) := fun n => at2_of L (ix2 r n) rfl rfl
  have h := count_lanes (at2 L r.val) t
  simp only [e] at h
  refine (topK_iff L fits r j (by omega) t).trans ?_
  rw [← h]

end Cert.Value

end
-- ==== Proof.Value.KernelResults.lean ====
/-
  The kernel's three results at the end of its run, as functions of the arguments.
-/
module

public import proofs.«01_k».proof.Proof.Value.Values
public import proofs.«01_k».proof.Proof.Value.RowScale
public import proofs.«01_k».proof.Proof.Value.Head
public import proofs.«01_k».proof.Proof.KernelIdeal.Launch
public import Idealize.ShloMosaic.Lib.Pipeline.ValueKit
public import Idealize.ShloMosaic.Lib.StableHlo.RunRead

@[expose] public section

set_option maxRecDepth 16384

noncomputable section

namespace Cert.Value

open Idealize.ShloMosaic Idealize.ShloMosaic.TcCoe Idealize.ShloMosaic.ValueIdx Cert.QuantMath Cert.TopMath Cert.Value Idealize.SL.Sem
open Cert.KernelIdeal Cert.KernelIdeal.Gen Cert.KernelIdeal.Hand
open Idealize.ShloMosaic.Pipeline (Dat)

variable (m : (ℓ : Loc nD τ sig) → Buf (Elt Ideal) ℓ) (ρ : Dev nD → PrngReg)

/-- The activations, one row per token. -/
def rows (x : FVec Ideal S384x1x3840 .bf16) : FVec Ideal S384x3840 .bf16 := shapeCast S384x3840 x shapeCasts_S384x1x3840_S384x3840

theorem V_v0 (c : Dev nD) : V m c main_v0 = rows (m ((c : Thread nD τ).loc main_arg0)) := by
  show StableHlo.after hostOps0 _ (Proc.devRef .tc main_v0) = _
  after_results
  rfl

theorem block_eq (c : Dev nD) : iblk m c 0 t0_0 = rows (m ((c : Thread nD τ).loc main_arg0)) := by
  rw [← V_v0]
  have idx : win0_0.index t0_0 = ![0, 0] := by decide +kernel
  blk_ext! [iblk, V, idx]

theorem V_v1 (c : Dev nD) : V m c main_v1 = shapeCast S1x100352 (m ((c : Thread nD τ).loc main_arg2)) shapeCasts_S100352_S1x100352 := by
  show StableHlo.after hostOps0 _ (Proc.devRef .tc main_v1) = _
  after_results
  rfl
theorem V_v2 (c : Dev nD) : V m c main_v2 = shapeCast S1x100352 (m ((c : Thread nD τ).loc main_arg3)) shapeCasts_S100352_S1x100352 := by
  show StableHlo.after hostOps0 _ (Proc.devRef .tc main_v2) = _
  after_results
  rfl

theorem block_s (c : Dev nD) : iblk m c 1 t0_0 = shapeCast S1x100352 (m ((c : Thread nD τ).loc main_arg2)) shapeCasts_S100352_S1x100352 := by
  rw [← V_v1]
  have idx : win0_1.index t0_0 = ![0, 0] := by decide +kernel
  blk_ext! [iblk, V, idx]
theorem block_b (c : Dev nD) : iblk m c 2 t0_0 = shapeCast S1x100352 (m ((c : Thread nD τ).loc main_arg3)) shapeCasts_S100352_S1x100352 := by
  rw [← V_v2]
  have idx : win0_2.index t0_0 = ![0, 0] := by decide +kernel
  blk_ext! [iblk, V, idx]

/-- A vector laid out as one row, read. -/
theorem one_row (x : FVec Ideal S100352 .f32) (n : Fin 100352) :
    shapeCast S1x100352 x shapeCasts_S100352_S1x100352 (ValueIdx.ix2 (0 : Fin 1) n) = x (ValueIdx.ix1 n) :=
  (shapeCast_addUnit_apply ![100352] x shapeCasts_S100352_S1x100352 (ValueIdx.ix2 (0 : Fin 1) n)).trans
    (congrArg x (funext fun a => by match a with | ⟨0, _⟩ => rfl))

/-- Every activation is finite. -/
def InRange (x : FVec Ideal S384x1x3840 .bf16) : Prop := ∀ i, mag (x i) ≤ Ideal.ofBits .bf16 0x7F7F#16

theorem row_eq (c : Dev nD) (r : Fin 384) : row (xx m c) r = fun i => rows (m ((c : Thread nD τ).loc main_arg0)) (ValueIdx.ix2 r i) := by
  rw [← block_eq]
  rfl

section
variable (c : Dev nD) (h : InRange (m ((c : Thread nD τ).loc main_arg0)))

include h in
theorem in_range_block (y : S384x3840.Idx) : mag (aX.view.read (Elt Ideal) (xx m c) y) ≤ Ideal.ofBits .bf16 0x7F7F#16 := by
  show mag (iblk m c 0 t0_0 y) ≤ _
  rw [block_eq]
  exact h _

include h in
theorem final_codes : (dats m 0 c).arrAt 5 cfg0.N = codesOf (rows (m ((c : Thread nD τ).loc main_arg0))) := by
  refine (dats m 0 c).arrAt_eq_of_after_last 5 t0_0 (by decide +kernel) _ fun j => ?_
  blk_simp
  rw [after_5]
  obtain ⟨r, i, rfl⟩ : ∃ r i, j = ValueIdx.ix2 r i := ⟨_, _, ValueIdx.eq_ix2 j⟩
  refine (codes c (xx m c) (in_range_block m c h) r i).trans ?_
  rw [row_eq]
  rfl

include h in
theorem final_scales : (dats m 0 c).arrAt 6 cfg0.N = scalesOf (rows (m ((c : Thread nD τ).loc main_arg0))) := by
  refine (dats m 0 c).arrAt_eq_of_after_last 6 t0_0 (by decide +kernel) _ fun j => ?_
  blk_simp
  rw [after_6]
  obtain ⟨r, i, rfl⟩ : ∃ r i, j = ValueIdx.ix2 r i := ⟨_, _, ValueIdx.eq_ix2 j⟩
  obtain rfl : i = 0 := Subsingleton.elim _ _
  refine (scales c (xx m c) (in_range_block m c h) r).trans ?_
  rw [row_eq]
  rfl

/-- The logits of the arguments. -/
def logits : FVec Ideal (⟨2, ![384, 100352]⟩ : Shape) .f32 :=
  logitsOf (rows (m ((c : Thread nD τ).loc main_arg0))) (m ((c : Thread nD τ).loc main_arg1)) (m ((c : Thread nD τ).loc main_arg2)) (m ((c : Thread nD τ).loc main_arg3))

include h in
/-- The logit a lane meets is the row's logit of that column. -/
theorem full_eq (r : Fin 384) (l : Fin 128) (n : Fin 100352) :
    full (at2 (aQ.view.read (Elt Ideal) (q0 c (xx m c)))) (at2 (aW.view.read (Elt Ideal) (V m c main_arg1))) (at2 (aD.view.read (Elt Ideal) (d0 c (xx m c))))
      (at2 (aS.view.read (Elt Ideal) (xs m c))) (at2 (aN.view.read (Elt Ideal) (xn m c))) r.val l.val n.val = logits m c (ValueIdx.ix2 r n) := by
  have hD : at2 (aD.view.read (Elt Ideal) (d0 c (xx m c))) r.val l.val = scalesOf (rows (m ((c : Thread nD τ).loc main_arg0))) (ValueIdx.ix2 r (0 : Fin 1)) :=
    (at2_of _ (ValueIdx.ix2 r l) rfl rfl).trans ((lanes c (xx m c) (in_range_block m c h) r l).trans (by rw [row_eq]; rfl))
  have hS : at2 (aS.view.read (Elt Ideal) (xs m c)) 0 n.val = (m ((c : Thread nD τ).loc main_arg2) : FVec Ideal S100352 .f32) (ValueIdx.ix1 n) :=
    (at2_of _ (ValueIdx.ix2 (0 : Fin 1) n) rfl rfl).trans (by
      show iblk m c 1 t0_0 (ValueIdx.ix2 (0 : Fin 1) n) = _
      rw [block_s]
      exact one_row _ n)
  have hN : at2 (aN.view.read (Elt Ideal) (xn m c)) 0 n.val = (m ((c : Thread nD τ).loc main_arg3) : FVec Ideal S100352 .f32) (ValueIdx.ix1 n) :=
    (at2_of _ (ValueIdx.ix2 (0 : Fin 1) n) rfl rfl).trans (by
      show iblk m c 2 t0_0 (ValueIdx.ix2 (0 : Fin 1) n) = _
      rw [block_b]
      exact one_row _ n)
  have hQ : ∀ k : Fin 3840, at2 (aQ.view.read (Elt Ideal) (q0 c (xx m c))) r.val k.val = codesOf (rows (m ((c : Thread nD τ).loc main_arg0))) (ValueIdx.ix2 r k) := fun k =>
    (at2_of _ (ValueIdx.ix2 r k) rfl rfl).trans ((codes c (xx m c) (in_range_block m c h) r k).trans (by rw [row_eq]; rfl))
  have hW : ∀ k : Fin 3840, at2 (aW.view.read (Elt Ideal) (V m c main_arg1)) k.val n.val = (m ((c : Thread nD τ).loc main_arg1) : FVec Ideal S3840x100352 .fp8e4m3) (ValueIdx.ix2 k n) := fun k =>
    (at2_of _ (ValueIdx.ix2 k n) rfl rfl).trans (by rw [V_main_arg1]; rfl)
  unfold full prod
  rw [hD, hS, hN, Finset.sum_congr rfl fun k _ => congrArg₂ (· * ·) (hQ k) (hW k)]
  rfl

include h in
/-- The body leaves the eight largest logits of a row in the row's first eight lanes. -/
theorem values_at (r : Fin 384) (j : Fin 8) : outV m c (ValueIdx.ix2 r (⟨j.val, by omega⟩ : Fin 128)) = topsOf (logits m c) (ValueIdx.ix2 r j) := by
  refine eq_of_thresholds fun t ht => ?_
  rw [tops_iff]
  refine (tv_at c (V m c main_arg1) (xx m c) (xs m c) (xn m c) r ⟨j.val, by omega⟩ j.isLt t ht).trans ?_
  refine iff_of_eq (congrArg (j.val < ·) (Finset.sum_congr rfl fun l _ => Finset.sum_congr rfl fun p hp => Finset.sum_congr rfl fun i hi => congrArg (hit t) ?_))
  have hp' := Finset.mem_range.1 hp
  have hi' := Finset.mem_range.1 hi
  have hn : 2048 * p + (128 * i + l.val) < 100352 := by omega
  exact (full_eq m c h r l ⟨_, hn⟩).trans (at2_of (logits m c) (ValueIdx.ix2 r ⟨_, hn⟩) rfl rfl).symm

theorem final_values : (dats m 0 c).arrAt 3 cfg0.N = outV m c := by
  refine (dats m 0 c).arrAt_eq_of_after_last 3 t0_0 (by decide +kernel) _ fun j => ?_
  blk_simp
  rw [after_3]

include h in
/-- The first eight lanes of the values are the eight largest logits of each row. -/
theorem slice_values : extractStridedSlice S384x8 ![0, 0] (outV m c) slices_S384x128_S384x8_0_0 = topsOf (logits m c) := by
  funext y
  obtain ⟨r, j, rfl⟩ : ∃ r j, y = ValueIdx.ix2 r j := ⟨_, _, ValueIdx.eq_ix2 y⟩
  rw [← values_at m c h r j]
  exact extractStridedSlice_apply ![0, 0] (outV m c) slices_S384x128_S384x8_0_0 (ValueIdx.ix2 r j) (ValueIdx.ix2 r (⟨j.val, by omega⟩ : Fin 128)) (by intro a; match a with | ⟨0, _⟩ => exact (Nat.zero_add _).symm | ⟨1, _⟩ => exact (Nat.zero_add _).symm)

include h in
/-- The eight largest logits as the result holds them. -/
theorem result_values : Pipeline.afterTail₀ cfgs (dats m) 0 (V0 m) [hostOps1] c main_v5
    = shapeCast S384x1x8 (topsOf (logits m c)) shapeCasts_S384x8_S384x1x8 := by
  rw [← slice_values m c h, ← final_values m c]
  unfold Pipeline.afterTail₀
  show StableHlo.after hostOps1 _ (Proc.devRef .tc main_v5) = _
  after_results
  exact congrArg (fun x => shapeCast S384x1x8 (extractStridedSlice S384x8 ![0, 0] x slices_S384x128_S384x8_0_0) shapeCasts_S384x8_S384x1x8)
    (Pipeline.withArrays_arr spec0 (by decide) c (V0 m c) (fun w => (dats m 0 c).arrAt w cfg0.N) 3)

include h in
/-- The codes as the result holds them. -/
theorem result_codes : Pipeline.afterTail₀ cfgs (dats m) 0 (V0 m) [hostOps1] c main_v6
    = shapeCast S384x1x3840 (codesOf (rows (m ((c : Thread nD τ).loc main_arg0)))) shapeCasts_S384x3840_S384x1x3840 := by
  rw [← final_codes m c h]
  unfold Pipeline.afterTail₀
  show StableHlo.after hostOps1 _ (Proc.devRef .tc main_v6) = _
  after_results
  exact congrArg (fun x => shapeCast S384x1x3840 x shapeCasts_S384x3840_S384x1x3840)
    (Pipeline.withArrays_arr spec0 (by decide) c (V0 m c) (fun w => (dats m 0 c).arrAt w cfg0.N) 5)

include h in
/-- The scales as the result holds them. -/
theorem result_scales : Pipeline.afterTail₀ cfgs (dats m) 0 (V0 m) [hostOps1] c main_v7
    = shapeCast S384x1x1 (scalesOf (rows (m ((c : Thread nD τ).loc main_arg0)))) shapeCasts_S384x1_S384x1x1 := by
  rw [← final_scales m c h]
  unfold Pipeline.afterTail₀
  show StableHlo.after hostOps1 _ (Proc.devRef .tc main_v7) = _
  after_results
  exact congrArg (fun x => shapeCast S384x1x1 x shapeCasts_S384x1_S384x1x1)
    (Pipeline.withArrays_arr spec0 (by decide) c (V0 m c) (fun w => (dats m 0 c).arrAt w cfg0.N) 6)

end

/-- Every run of the kernel ends with the eight largest logits, the codes and the scales. -/
theorem run_results (hm : ∀ c : Dev nD, InRange (m ((c : Thread nD τ).loc main_arg0))) : θ_run defs (onTc (τ := τ) (main (F := Ideal))) ⟨m, fun _ => 0, ρ⟩ (fun r => ∀ c : Dev nD,
      r.2.mem ((c.tc : Thread nD τ).loc main_v5) = shapeCast S384x1x8 (topsOf (logits m c)) shapeCasts_S384x8_S384x1x8
      ∧ r.2.mem ((c.tc : Thread nD τ).loc main_v6) = shapeCast S384x1x3840 (codesOf (rows (m ((c : Thread nD τ).loc main_arg0)))) shapeCasts_S384x3840_S384x1x3840
      ∧ r.2.mem ((c.tc : Thread nD τ).loc main_v7) = shapeCast S384x1x1 (scalesOf (rows (m ((c : Thread nD τ).loc main_arg0)))) shapeCasts_S384x1_S384x1x1) :=
  (θ_run defs _ _).mono (fun _ h c => ⟨((h.1 c).2 main_v5 (Pipeline.mem_restRefs_of main_v5 (by decide) (by decide))).trans (result_values m c (hm c)),
    ((h.1 c).2 main_v6 (Pipeline.mem_restRefs_of main_v6 (by decide) (by decide))).trans (result_codes m c (hm c)),
    ((h.1 c).2 main_v7 (Pipeline.mem_restRefs_of main_v7 (by decide) (by decide))).trans (result_scales m c (hm c))⟩) (run_main m ρ)

end Cert.Value

end
-- ==== Proof.Value.ReferenceCodes.lean ====
/-
  What the reference's body computes: the codes and the scale of each row, as the row functions of the activations.
-/
module

public import proofs.«01_k».proof.Proof.Gen.ReferenceIdeal.Frame
public import proofs.«01_k».proof.Proof.Value.Quantiser
public import Idealize.ShloMosaic.Lib.Pipeline.Value

@[expose] public section

set_option maxRecDepth 16384

noncomputable section

namespace Cert.Value.Ref

open Idealize.ShloMosaic Idealize.ShloMosaic.ValueIdx Cert.QuantMath Cert.Value
open Cert.ReferenceIdeal Cert.ReferenceIdeal.Gen

variable (v0 : Vec Ideal S384x3840 .bf16) (r : Fin 384)

theorem pay1_apply (i) : k0_pay1 v0 i = v0 i := by
  unfold k0_pay1
  show shapeCast S384x3840 v0 _ i = _
  rw [shapeCast_self]

/-- The row's maximum over the largest code. -/
theorem block_scaled : shapeCast S384x1 (multiReduction .maximumf [1] S384 (absf (k0_pay1 v0)) 0xFF800000#32 reduces_S384x3840_S384 (.inl rfl) rfl)
    shapeCasts_S384_S384x1 (ix2 r 0) * Ideal.ofBits .f32 0x3B124925#32 = scaled fun i => v0 (ix2 r i) := by
  rw [shapeCast_a_a1_apply]
  have e : (amax fun i => k0_pay1 v0 (ix2 r i)) = amax fun i => v0 (ix2 r i) := congrArg amax (funext fun _ => pay1_apply v0 _)
  have e' := amax_apply (k0_pay1 v0) reduces_S384x3840_S384 (.inl rfl) rfl r
  unfold scaled
  rw [← e, ← e']

/-- A vector of powers of two, read. -/
theorem exp2_at {s : Shape} (x : FVec Ideal s .f32) (i : s.Idx) : exp2 x i = Ideal.exp2 (x i) := rfl

/-- The exponent of a vector, read. -/
theorem expo_at {s : Shape} (y : FVec Ideal s .f32) (i : s.Idx) :
    select (cmpf .olt y (broadcast s (Scalar.ofBits .f32 0x00800000#32))) (broadcast s (Scalar.ofBits .f32 0x00000000#32))
      (addf (floor (divf (log y) (log (broadcast s (Scalar.ofBits .f32 0x40000000#32))))) (broadcast s (Scalar.ofBits .f32 0x3F800000#32))) i
      = expo (y i) := by
  unfold expo
  rw [← ofBits_two, ← ofBits_one]
  generalize hz : y i = z
  show Scalar.select (BitVec.ofBool (decide (y i < Ideal.ofBits .f32 0x00800000#32))) (Ideal.ofBits .f32 0x00000000#32)
    (Ideal.liftRound Int.floor (Ideal.div (Ideal.log (y i)) (Ideal.log (Ideal.ofBits .f32 0x40000000#32))) + Ideal.ofBits .f32 0x3F800000#32) = _
  rw [hz]
  by_cases hc : z < field 1
  · rw [if_pos hc, show decide (z < Ideal.ofBits .f32 0x00800000#32) = true from decide_eq_true hc]
    show Ideal.ofBits .f32 0x00000000#32 = 0
    simp [Ideal.ofBits, Ideal.ieee]
  · rw [if_neg hc, show decide (z < Ideal.ofBits .f32 0x00800000#32) = false from decide_eq_false hc]; rfl

/-- The codes of a vector of activations and a column of exponents, read. -/
theorem code_at (x : FVec Ideal S384x3840 .f32) (e : FVec Ideal S384x1 .f32) (r : Fin 384) (i : Fin 3840) :
    truncf .fp8e4m3 (minimumf (broadcast S384x3840 (Scalar.ofBits .f32 0x43E00000#32)) (maximumf (broadcast S384x3840 (Scalar.ofBits .f32 0xC3E00000#32))
      (mulf x (broadcastTo S384x3840 (exp2 (subf (broadcast S384x1 (Scalar.ofBits .f32 0x00000000#32)) e)) broadcasts_S384x1_S384x3840)))) bitsLt_fp8e4m3_f32 (ix2 r i)
      = min (Ideal.ofBits .f32 0x43E00000#32) (max (Ideal.ofBits .f32 0xC3E00000#32) (x (ix2 r i) * Ideal.exp2 (0 - e (ix2 r 0)))) := by
  have h := broadcastTo_apply (exp2 (subf (broadcast S384x1 (Scalar.ofBits (F := Ideal) .f32 0x00000000#32)) e)) broadcasts_S384x1_S384x3840
    (ix2 r i) (ix2 r (0 : Fin 1)) (by intro a; match a with | ⟨0, _⟩ => rfl | ⟨1, _⟩ => rfl)
  rw [exp2_at] at h
  have z : Ideal.ofBits .f32 0x00000000#32 = 0 := by simp [Ideal.ofBits, Ideal.ieee]
  rw [← z]
  refine Eq.trans ?_ (congrArg (fun t => min (Ideal.ofBits .f32 0x43E00000#32) (max (Ideal.ofBits .f32 0xC3E00000#32) (x (ix2 r i) * t))) h)
  rfl

/-- The exponent of a row. -/
theorem exponent : k0_pay2 v0 (ix2 r 0) = expo (scaled fun i => v0 (ix2 r i)) := by
  rw [← block_scaled v0 r]
  unfold k0_pay2
  exact expo_at _ (ix2 r 0)

/-- The scale of a row. -/
theorem scale : k0_pay4 v0 (ix2 r 0) = rowScale fun i => v0 (ix2 r i) := by
  unfold k0_pay4 rowScale
  rw [← exponent v0 r]
  exact exp2_at _ (ix2 r 0)

/-- The codes of a row. -/
theorem code (i : Fin 3840) : k0_pay3 v0 (ix2 r i) = rowCode (fun i => v0 (ix2 r i)) i := by
  unfold k0_pay3 rowCode
  rw [← exponent v0 r]
  refine (code_at (k0_pay1 v0) (k0_pay2 v0) r i).trans ?_
  rw [pay1_apply]

end Cert.Value.Ref

end
-- ==== Proof.Value.ReferenceResults.lean ====
/-
  The reference's three results at the end of its run, as functions of the arguments.
-/
module

public import proofs.«01_k».proof.Proof.Value.ReferenceCodes
public import proofs.«01_k».proof.Proof.Value.Head
public import Idealize.ShloMosaic.Lib.MatmulPlain
public import Idealize.ShloMosaic.Lib.IdealHost
public import Idealize.ShloMosaic.Lib.Pipeline.ValueKit
public import Idealize.ShloMosaic.Lib.StableHlo.RunRead

@[expose] public section

set_option maxRecDepth 16384

noncomputable section

namespace Cert.Value.Ref

open Idealize.ShloMosaic Idealize.ShloMosaic.TcCoe Idealize.ShloMosaic.ValueIdx Cert.QuantMath Cert.Value Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-- The activations, one row per token. -/
def rows (x : FVec Ideal S384x1x3840 .bf16) : FVec Ideal S384x3840 .bf16 := shapeCast S384x3840 x shapeCasts_S384x1x3840_S384x3840

theorem V_v0 (c : Dev nD) : V m c main_v0 = rows (m ((c : Thread nD τ).loc main_arg0)) := by
  show StableHlo.after hostOps0 _ (Proc.devRef .tc main_v0) = _
  after_results
  rfl

theorem block_eq (c : Dev nD) : iblk m c 0 t0_0 = rows (m ((c : Thread nD τ).loc main_arg0)) := by
  rw [← V_v0]
  have idx : win0_0.index t0_0 = ![0, 0] := by decide +kernel
  blk_ext! [iblk, V, idx]

theorem block_w (c : Dev nD) : iblk m c 1 t0_0 = m ((c : Thread nD τ).loc main_arg1) := by
  rw [← V_main_arg1 m c]
  have idx : win0_1.index t0_0 = ![0, 0] := by decide +kernel
  blk_ext! [iblk, V, idx]

theorem final_codes (c : Dev nD) : (dats m 0 c).arrAt 2 cfg0.N = codesOf (rows (m ((c : Thread nD τ).loc main_arg0))) := by
  refine (dats m 0 c).arrAt_eq_of_after_last 2 t0_0 (by decide +kernel) _ fun j => ?_
  blk_simp
  rw [after0_2, block_eq]
  unfold out0_2
  rw [View.canon_unit_zero, View.ld_unit_zero (S := S384x3840)]
  obtain ⟨r, i, rfl⟩ : ∃ r i, j = ValueIdx.ix2 r i := ⟨_, _, ValueIdx.eq_ix2 j⟩
  · exact code _ r i
  all_goals (funext a; match a with | ⟨0, _⟩ => rfl | ⟨1, _⟩ => rfl)

theorem final_scales (c : Dev nD) : (dats m 0 c).arrAt 3 cfg0.N = scalesOf (rows (m ((c : Thread nD τ).loc main_arg0))) := by
  refine (dats m 0 c).arrAt_eq_of_after_last 3 t0_0 (by decide +kernel) _ fun j => ?_
  blk_simp
  rw [after0_3, block_eq]
  unfold out0_3
  rw [View.canon_unit_zero, View.ld_unit_zero (S := S384x3840)]
  obtain ⟨r, i, rfl⟩ : ∃ r i, j = ValueIdx.ix2 r i := ⟨_, _, ValueIdx.eq_ix2 j⟩
  · obtain rfl : i = 0 := Subsingleton.elim _ _
    exact scale _ r
  all_goals (funext a; match a with | ⟨0, _⟩ => rfl | ⟨1, _⟩ => rfl)

/-- The codes' product with the weights. -/
def product (X : FVec Ideal S384x3840 .bf16) (w : FVec Ideal S3840x100352 .fp8e4m3) : FVec Ideal S384x100352 .f32 :=
  fun y => ∑ k : Fin 3840, codesOf X (ValueIdx.ix2 (y 0) k) * w (ValueIdx.ix2 k (y 1))

theorem product_at (X : FVec Ideal S384x3840 .bf16) (w : FVec Ideal S3840x100352 .fp8e4m3) (r : Fin 384) (n : Fin 100352) :
    k0_pay5 X w (ValueIdx.ix2 r n) = product X w (ValueIdx.ix2 r n) := by
  unfold k0_pay5
  refine (Ideal.matmul_plain_apply (M := 384) (K := 3840) (N := 100352) none _ _ _ r n).trans ?_
  rw [show constant (F := Ideal) S384x100352 .f32 0x00000000#32 (ValueIdx.ix2 r n) = 0 from Ideal.ofBits_zero_f32, zero_add]
  refine Finset.sum_congr rfl fun k _ => ?_
  exact congrArg (· * _) (code X r k)

theorem final_product (c : Dev nD) : (dats m 0 c).arrAt 4 cfg0.N
    = product (rows (m ((c : Thread nD τ).loc main_arg0))) (m ((c : Thread nD τ).loc main_arg1)) := by
  refine (dats m 0 c).arrAt_eq_of_after_last 4 t0_0 (by decide +kernel) _ fun j => ?_
  blk_simp
  rw [after0_4, block_eq, block_w]
  unfold out0_4
  rw [View.canon_unit_zero, View.ld_unit_zero (S := S384x3840), View.ld_unit_zero (S := S3840x100352)]
  obtain ⟨r, i, rfl⟩ : ∃ r i, j = ValueIdx.ix2 r i := ⟨_, _, ValueIdx.eq_ix2 j⟩
  · exact product_at _ _ r i
  all_goals (funext a; match a with | ⟨0, _⟩ => rfl | ⟨1, _⟩ => rfl)

/-- The host's part: the logits from a product, the scales and the two column vectors, and their eight largest. -/
def hostValues (x : FVec Ideal S384x100352 .f32) (y : FVec Ideal S384x1 .f32) (s b : FVec Ideal S100352 .f32) : FVec Ideal S384x1x8 .f32 :=
  shapeCast S384x1x8 (topsOf (addf (mulf (mulf x (broadcastInDim S384x100352 ![0, 1] bcast_S384x1_S384x100352_0_1 y))
      (broadcastInDim S384x100352 ![0, 1] bcast_S1x100352_S384x100352_0_1 (broadcastInDim S1x100352 ![1] bcast_S100352_S1x100352_1 s)))
    (broadcastInDim S384x100352 ![0, 1] bcast_S1x100352_S384x100352_0_1 (broadcastInDim S1x100352 ![1] bcast_S100352_S1x100352_1 b)))) shapeCasts_S384x8_S384x1x8

theorem host_values (W : Valuation τ sig (Elt Ideal)) : StableHlo.after hostOps1 W (Proc.devRef .tc main_v10)
    = hostValues (W (Proc.devRef .tc main_v1_2)) (W (Proc.devRef .tc main_v1_1)) (W (Proc.devRef .tc main_arg2)) (W (Proc.devRef .tc main_arg3)) := by
  after_results
  rfl

/-- Of the codes' product and the scales the host makes the logits' eight largest. -/
theorem logits_eq (X : FVec Ideal S384x3840 .bf16) (w : FVec Ideal S3840x100352 .fp8e4m3) (s b : FVec Ideal S100352 .f32) :
    hostValues (product X w) (scalesOf X) s b = shapeCast S384x1x8 (topsOf (logitsOf X w s b)) shapeCasts_S384x8_S384x1x8 := by
  unfold hostValues
  refine congrArg (fun L => shapeCast S384x1x8 (topsOf L) shapeCasts_S384x8_S384x1x8) ?_
  funext y
  obtain ⟨r, n, rfl⟩ : ∃ r n, y = ValueIdx.ix2 r n := ⟨_, _, ValueIdx.eq_ix2 y⟩
  have row : ∀ v : FVec Ideal S100352 .f32, broadcastInDim S384x100352 ![0, 1] bcast_S1x100352_S384x100352_0_1 (broadcastInDim S1x100352 ![1] bcast_S100352_S1x100352_1 v)
      (ValueIdx.ix2 r n) = v (ValueIdx.ix1 n) := fun v =>
    (broadcastInDim_apply _ _ _ _ (ValueIdx.ix2 (0 : Fin 1) n) (by intro a; match a with | ⟨0, _⟩ => rfl | ⟨1, _⟩ => rfl)).trans
      (broadcastInDim_apply _ _ _ _ (ValueIdx.ix1 n) (by intro a; match a with | ⟨0, _⟩ => rfl))
  have col := broadcastInDim_apply ![0, 1] bcast_S384x1_S384x100352_0_1 (scalesOf X : FVec Ideal S384x1 .f32) (ValueIdx.ix2 r n) (ValueIdx.ix2 r (0 : Fin 1))
    (by intro a; match a with | ⟨0, _⟩ => rfl | ⟨1, _⟩ => rfl)
  show product X w (ValueIdx.ix2 r n) * _ * _ + _ = _
  rw [row s, row b, col]
  rfl

/-- The eight largest logits as the result holds them. -/
theorem result_values (c : Dev nD) : Pipeline.afterTail₀ cfgs (dats m) 0 (V0 m) [hostOps1] c main_v10
    = shapeCast S384x1x8 (topsOf (logitsOf (rows (m ((c : Thread nD τ).loc main_arg0))) (m ((c : Thread nD τ).loc main_arg1)) (m ((c : Thread nD τ).loc main_arg2))
        (m ((c : Thread nD τ).loc main_arg3)))) shapeCasts_S384x8_S384x1x8 := by
  rw [← logits_eq, ← final_product, ← final_scales, ← V_main_arg2 m c, ← V_main_arg3 m c]
  unfold Pipeline.afterTail₀
  refine (host_values _).trans ?_
  exact congr (congr (congr (congrArg hostValues (Pipeline.withArrays_arr spec0 (by decide) c (V0 m c) (fun w => (dats m 0 c).arrAt w cfg0.N) 4))
    (Pipeline.withArrays_arr spec0 (by decide) c (V0 m c) (fun w => (dats m 0 c).arrAt w cfg0.N) 3))
    (Pipeline.withArrays_of_ne spec0 c (V0 m c) (fun w => (dats m 0 c).arrAt w cfg0.N) main_arg2 (by decide)))
    (Pipeline.withArrays_of_ne spec0 c (V0 m c) (fun w => (dats m 0 c).arrAt w cfg0.N) main_arg3 (by decide))

/-- The codes as the result holds them. -/
theorem result_codes (c : Dev nD) : Pipeline.afterTail₀ cfgs (dats m) 0 (V0 m) [hostOps1] c main_v11
    = shapeCast S384x1x3840 (codesOf (rows (m ((c : Thread nD τ).loc main_arg0)))) shapeCasts_S384x3840_S384x1x3840 := by
  rw [← final_codes]
  unfold Pipeline.afterTail₀
  show StableHlo.after hostOps1 _ (Proc.devRef .tc main_v11) = _
  after_results
  exact congrArg (fun x => shapeCast S384x1x3840 x shapeCasts_S384x3840_S384x1x3840)
    (Pipeline.withArrays_arr spec0 (by decide) c (V0 m c) (fun w => (dats m 0 c).arrAt w cfg0.N) 2)

/-- The scales as the result holds them. -/
theorem result_scales (c : Dev nD) : Pipeline.afterTail₀ cfgs (dats m) 0 (V0 m) [hostOps1] c main_v12
    = shapeCast S384x1x1 (scalesOf (rows (m ((c : Thread nD τ).loc main_arg0)))) shapeCasts_S384x1_S384x1x1 := by
  rw [← final_scales]
  unfold Pipeline.afterTail₀
  show StableHlo.after hostOps1 _ (Proc.devRef .tc main_v12) = _
  after_results
  exact congrArg (fun x => shapeCast S384x1x1 x shapeCasts_S384x1_S384x1x1)
    (Pipeline.withArrays_arr spec0 (by decide) c (V0 m c) (fun w => (dats m 0 c).arrAt w cfg0.N) 3)

/-- Every run of the reference ends with the eight largest logits, the codes and the scales. -/
theorem run : θ_run defs (onTc (τ := τ) (main (F := Ideal))) ⟨m, fun _ => 0, ρ⟩ (fun r => ∀ c : Dev nD,
      r.2.mem ((c.tc : Thread nD τ).loc main_v10) = shapeCast S384x1x8 (topsOf (logitsOf (rows (m ((c : Thread nD τ).loc main_arg0))) (m ((c : Thread nD τ).loc main_arg1)) (m ((c : Thread nD τ).loc main_arg2))
        (m ((c : Thread nD τ).loc main_arg3)))) shapeCasts_S384x8_S384x1x8
      ∧ r.2.mem ((c.tc : Thread nD τ).loc main_v11) = shapeCast S384x1x3840 (codesOf (rows (m ((c : Thread nD τ).loc main_arg0)))) shapeCasts_S384x3840_S384x1x3840
      ∧ r.2.mem ((c.tc : Thread nD τ).loc main_v12) = shapeCast S384x1x1 (scalesOf (rows (m ((c : Thread nD τ).loc main_arg0)))) shapeCasts_S384x1_S384x1x1) :=
  (θ_run defs _ _).mono (fun _ h c => ⟨((h c).2 main_v10 (Pipeline.mem_restRefs_of main_v10 (by decide) (by decide))).trans (result_values m c),
    ((h c).2 main_v11 (Pipeline.mem_restRefs_of main_v11 (by decide) (by decide))).trans (result_codes m c),
    ((h c).2 main_v12 (Pipeline.mem_restRefs_of main_v12 (by decide) (by decide))).trans (result_scales m c)⟩) (run_main m ρ)

end Cert.Value.Ref

end
-- ==== Proof.lean ====
/-
  The proof of `Cert.Claim`: the frames of the kernel at machine floats and at extended reals, the frame of the
  reference, that the idealization rewrites nothing, and that the kernel's eight largest logits,
  codes and scales are the reference's.
-/
module

public import proofs.«01_k».proof.Defs
public import proofs.«01_k».proof.Proof.KernelIdeal.Launch
public import proofs.«01_k».proof.Proof.Kernel.Launch
public import proofs.«01_k».proof.Proof.Gen.ReferenceIdeal
public import proofs.«01_k».proof.Proof.Gen.ReferenceIdeal.Frame
public import proofs.«01_k».proof.Proof.Gen.Pre_in_range
public import proofs.«01_k».proof.Proof.Value.KernelResults
public import proofs.«01_k».proof.Proof.Value.ReferenceResults
public import Idealize.ShloMosaic.Adequacy
public import Idealize.ShloMosaic.Init
public import Idealize.ShloMosaic.Lib.ReduceAll

@[expose] public section

noncomputable section

namespace Cert.Proof

open Idealize.ShloMosaic Idealize.SL.Sem

/-- The precondition says that every activation is finite. -/
theorem in_range (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) :
    Cert.Value.InRange (m ((c.tc : Thread Cert.KernelIdeal.nD Cert.KernelIdeal.τ).loc Cert.KernelIdeal.main_arg0)) := by
  intro i
  have e := congrFun (h c) (fun a => a.elim0)
  unfold Cert.Pre_in_range.fn at e
  haveI : Subsingleton Cert.Pre_in_range.S_.Idx := ⟨fun a b => funext fun x => x.elim0⟩
  have e' := Host.reduce_andi_all _ _ _ _ _ e i
  have e'' : BitVec.ofBool (decide (Cert.Value.mag (m ((c.tc : Thread Cert.KernelIdeal.nD Cert.KernelIdeal.τ).loc Cert.KernelIdeal.main_arg0) i)
    ≤ Ideal.ofBits .bf16 0x7F7F#16)) = 1#1 := e'
  by_contra hn
  rw [decide_eq_false hn] at e''
  exact absurd e'' (by decide)

/-- The kernel's eight largest logits, codes and scales are the reference's. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hr := Cert.Value.run_results m g (in_range m hpre)
  have hf := Cert.KernelIdeal.Hand.frame m g
  have hr' := Cert.Value.Ref.run m' g'
  have hf' := Cert.ReferenceIdeal.Gen.unchanged m' g'
  refine ⟨_, _, _, (θ_run _ _ _).mono (fun r h c => ⟨(h.1 c).1, (h.1 c).2.1, (h.1 c).2.2, h.2.1 c⟩) (θ_run_and hr hf),
    (θ_run _ _ _).mono (fun r h c => ⟨(h.1 c).1.trans ?_, (h.1 c).2.1.trans ?_, (h.1 c).2.2.trans ?_, h.2 c⟩) (θ_run_and hr' hf')⟩
  · rw [(hargs c).1, (hargs c).2.1, (hargs c).2.2.1, (hargs c).2.2.2]; rfl
  · rw [(hargs c).1]; rfl
  · rw [(hargs c).1]; rfl

/-- The certificate. -/
theorem claim : Cert.Claim :=
  ⟨Cert.Kernel.Gen.facts, Cert.KernelIdeal.Gen.facts, Cert.ReferenceIdeal.Gen.facts, Cert.Pre_in_range.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    trivial,
    algebraic⟩

end Cert.Proof

end
